-- ==== Defs.lean ====
def Pre_Ffn1Gu (m : (ℓ : Loc Cert.Ffn1Gu.nD Cert.Ffn1Gu.τ Cert.Ffn1Gu.sig) → Buf (Elt Bits) ℓ) : Prop :=
  True

def Pre_Ffn1GuIdeal (m : (ℓ : Loc Cert.Ffn1GuIdeal.nD Cert.Ffn1GuIdeal.τ Cert.Ffn1GuIdeal.sig) → Buf (Elt Ideal) ℓ) : Prop :=
  True

def Pre_Ffn1GuIdeal_finite_gu [hPre_finite_gu : Cert.Pre_finite_gu.Facts] (m : (ℓ : Loc Cert.Ffn1GuIdeal.nD Cert.Ffn1GuIdeal.τ Cert.Ffn1GuIdeal.sig) → Buf (Elt Ideal) ℓ) : Prop :=
  ∀ c : Dev Cert.Ffn1GuIdeal.nD,
    (Cert.Pre_finite_gu.fn (F := Ideal) (m ((c.tc : Thread Cert.Ffn1GuIdeal.nD Cert.Ffn1GuIdeal.τ).loc Cert.Ffn1GuIdeal.main_arg0)) (m ((c.tc : Thread Cert.Ffn1GuIdeal.nD Cert.Ffn1GuIdeal.τ).loc Cert.Ffn1GuIdeal.main_arg1)) (m ((c.tc : Thread Cert.Ffn1GuIdeal.nD Cert.Ffn1GuIdeal.τ).loc Cert.Ffn1GuIdeal.main_arg2)) (m ((c.tc : Thread Cert.Ffn1GuIdeal.nD Cert.Ffn1GuIdeal.τ).loc Cert.Ffn1GuIdeal.main_arg3)) (m ((c.tc : Thread Cert.Ffn1GuIdeal.nD Cert.Ffn1GuIdeal.τ).loc Cert.Ffn1GuIdeal.main_arg4))).1 = (fun _ => 1#1)
    ∧ (Cert.Pre_finite_gu.fn (F := Ideal) (m ((c.tc : Thread Cert.Ffn1GuIdeal.nD Cert.Ffn1GuIdeal.τ).loc Cert.Ffn1GuIdeal.main_arg0)) (m ((c.tc : Thread Cert.Ffn1GuIdeal.nD Cert.Ffn1GuIdeal.τ).loc Cert.Ffn1GuIdeal.main_arg1)) (m ((c.tc : Thread Cert.Ffn1GuIdeal.nD Cert.Ffn1GuIdeal.τ).loc Cert.Ffn1GuIdeal.main_arg2)) (m ((c.tc : Thread Cert.Ffn1GuIdeal.nD Cert.Ffn1GuIdeal.τ).loc Cert.Ffn1GuIdeal.main_arg3)) (m ((c.tc : Thread Cert.Ffn1GuIdeal.nD Cert.Ffn1GuIdeal.τ).loc Cert.Ffn1GuIdeal.main_arg4))).2.1 = (fun _ => 1#1)
    ∧ (Cert.Pre_finite_gu.fn (F := Ideal) (m ((c.tc : Thread Cert.Ffn1GuIdeal.nD Cert.Ffn1GuIdeal.τ).loc Cert.Ffn1GuIdeal.main_arg0)) (m ((c.tc : Thread Cert.Ffn1GuIdeal.nD Cert.Ffn1GuIdeal.τ).loc Cert.Ffn1GuIdeal.main_arg1)) (m ((c.tc : Thread Cert.Ffn1GuIdeal.nD Cert.Ffn1GuIdeal.τ).loc Cert.Ffn1GuIdeal.main_arg2)) (m ((c.tc : Thread Cert.Ffn1GuIdeal.nD Cert.Ffn1GuIdeal.τ).loc Cert.Ffn1GuIdeal.main_arg3)) (m ((c.tc : Thread Cert.Ffn1GuIdeal.nD Cert.Ffn1GuIdeal.τ).loc Cert.Ffn1GuIdeal.main_arg4))).2.2.1 = (fun _ => 1#1)
    ∧ (Cert.Pre_finite_gu.fn (F := Ideal) (m ((c.tc : Thread Cert.Ffn1GuIdeal.nD Cert.Ffn1GuIdeal.τ).loc Cert.Ffn1GuIdeal.main_arg0)) (m ((c.tc : Thread Cert.Ffn1GuIdeal.nD Cert.Ffn1GuIdeal.τ).loc Cert.Ffn1GuIdeal.main_arg1)) (m ((c.tc : Thread Cert.Ffn1GuIdeal.nD Cert.Ffn1GuIdeal.τ).loc Cert.Ffn1GuIdeal.main_arg2)) (m ((c.tc : Thread Cert.Ffn1GuIdeal.nD Cert.Ffn1GuIdeal.τ).loc Cert.Ffn1GuIdeal.main_arg3)) (m ((c.tc : Thread Cert.Ffn1GuIdeal.nD Cert.Ffn1GuIdeal.τ).loc Cert.Ffn1GuIdeal.main_arg4))).2.2.2.1 = (fun _ => 1#1)
    ∧ (Cert.Pre_finite_gu.fn (F := Ideal) (m ((c.tc : Thread Cert.Ffn1GuIdeal.nD Cert.Ffn1GuIdeal.τ).loc Cert.Ffn1GuIdeal.main_arg0)) (m ((c.tc : Thread Cert.Ffn1GuIdeal.nD Cert.Ffn1GuIdeal.τ).loc Cert.Ffn1GuIdeal.main_arg1)) (m ((c.tc : Thread Cert.Ffn1GuIdeal.nD Cert.Ffn1GuIdeal.τ).loc Cert.Ffn1GuIdeal.main_arg2)) (m ((c.tc : Thread Cert.Ffn1GuIdeal.nD Cert.Ffn1GuIdeal.τ).loc Cert.Ffn1GuIdeal.main_arg3)) (m ((c.tc : Thread Cert.Ffn1GuIdeal.nD Cert.Ffn1GuIdeal.τ).loc Cert.Ffn1GuIdeal.main_arg4))).2.2.2.2 = (fun _ => 1#1)

def Pre_Ffn1GuRefIdeal (m : (ℓ : Loc Cert.Ffn1GuRefIdeal.nD Cert.Ffn1GuRefIdeal.τ Cert.Ffn1GuRefIdeal.sig) → Buf (Elt Ideal) ℓ) : Prop :=
  True

def Pre_Ffn1GuRefIdeal_finite_gu [hPre_finite_gu : Cert.Pre_finite_gu.Facts] (m : (ℓ : Loc Cert.Ffn1GuRefIdeal.nD Cert.Ffn1GuRefIdeal.τ Cert.Ffn1GuRefIdeal.sig) → Buf (Elt Ideal) ℓ) : Prop :=
  ∀ c : Dev Cert.Ffn1GuRefIdeal.nD,
    (Cert.Pre_finite_gu.fn (F := Ideal) (m ((c.tc : Thread Cert.Ffn1GuRefIdeal.nD Cert.Ffn1GuRefIdeal.τ).loc Cert.Ffn1GuRefIdeal.main_arg0)) (m ((c.tc : Thread Cert.Ffn1GuRefIdeal.nD Cert.Ffn1GuRefIdeal.τ).loc Cert.Ffn1GuRefIdeal.main_arg1)) (m ((c.tc : Thread Cert.Ffn1GuRefIdeal.nD Cert.Ffn1GuRefIdeal.τ).loc Cert.Ffn1GuRefIdeal.main_arg2)) (m ((c.tc : Thread Cert.Ffn1GuRefIdeal.nD Cert.Ffn1GuRefIdeal.τ).loc Cert.Ffn1GuRefIdeal.main_arg3)) (m ((c.tc : Thread Cert.Ffn1GuRefIdeal.nD Cert.Ffn1GuRefIdeal.τ).loc Cert.Ffn1GuRefIdeal.main_arg4))).1 = (fun _ => 1#1)
    ∧ (Cert.Pre_finite_gu.fn (F := Ideal) (m ((c.tc : Thread Cert.Ffn1GuRefIdeal.nD Cert.Ffn1GuRefIdeal.τ).loc Cert.Ffn1GuRefIdeal.main_arg0)) (m ((c.tc : Thread Cert.Ffn1GuRefIdeal.nD Cert.Ffn1GuRefIdeal.τ).loc Cert.Ffn1GuRefIdeal.main_arg1)) (m ((c.tc : Thread Cert.Ffn1GuRefIdeal.nD Cert.Ffn1GuRefIdeal.τ).loc Cert.Ffn1GuRefIdeal.main_arg2)) (m ((c.tc : Thread Cert.Ffn1GuRefIdeal.nD Cert.Ffn1GuRefIdeal.τ).loc Cert.Ffn1GuRefIdeal.main_arg3)) (m ((c.tc : Thread Cert.Ffn1GuRefIdeal.nD Cert.Ffn1GuRefIdeal.τ).loc Cert.Ffn1GuRefIdeal.main_arg4))).2.1 = (fun _ => 1#1)
    ∧ (Cert.Pre_finite_gu.fn (F := Ideal) (m ((c.tc : Thread Cert.Ffn1GuRefIdeal.nD Cert.Ffn1GuRefIdeal.τ).loc Cert.Ffn1GuRefIdeal.main_arg0)) (m ((c.tc : Thread Cert.Ffn1GuRefIdeal.nD Cert.Ffn1GuRefIdeal.τ).loc Cert.Ffn1GuRefIdeal.main_arg1)) (m ((c.tc : Thread Cert.Ffn1GuRefIdeal.nD Cert.Ffn1GuRefIdeal.τ).loc Cert.Ffn1GuRefIdeal.main_arg2)) (m ((c.tc : Thread Cert.Ffn1GuRefIdeal.nD Cert.Ffn1GuRefIdeal.τ).loc Cert.Ffn1GuRefIdeal.main_arg3)) (m ((c.tc : Thread Cert.Ffn1GuRefIdeal.nD Cert.Ffn1GuRefIdeal.τ).loc Cert.Ffn1GuRefIdeal.main_arg4))).2.2.1 = (fun _ => 1#1)
    ∧ (Cert.Pre_finite_gu.fn (F := Ideal) (m ((c.tc : Thread Cert.Ffn1GuRefIdeal.nD Cert.Ffn1GuRefIdeal.τ).loc Cert.Ffn1GuRefIdeal.main_arg0)) (m ((c.tc : Thread Cert.Ffn1GuRefIdeal.nD Cert.Ffn1GuRefIdeal.τ).loc Cert.Ffn1GuRefIdeal.main_arg1)) (m ((c.tc : Thread Cert.Ffn1GuRefIdeal.nD Cert.Ffn1GuRefIdeal.τ).loc Cert.Ffn1GuRefIdeal.main_arg2)) (m ((c.tc : Thread Cert.Ffn1GuRefIdeal.nD Cert.Ffn1GuRefIdeal.τ).loc Cert.Ffn1GuRefIdeal.main_arg3)) (m ((c.tc : Thread Cert.Ffn1GuRefIdeal.nD Cert.Ffn1GuRefIdeal.τ).loc Cert.Ffn1GuRefIdeal.main_arg4))).2.2.2.1 = (fun _ => 1#1)
    ∧ (Cert.Pre_finite_gu.fn (F := Ideal) (m ((c.tc : Thread Cert.Ffn1GuRefIdeal.nD Cert.Ffn1GuRefIdeal.τ).loc Cert.Ffn1GuRefIdeal.main_arg0)) (m ((c.tc : Thread Cert.Ffn1GuRefIdeal.nD Cert.Ffn1GuRefIdeal.τ).loc Cert.Ffn1GuRefIdeal.main_arg1)) (m ((c.tc : Thread Cert.Ffn1GuRefIdeal.nD Cert.Ffn1GuRefIdeal.τ).loc Cert.Ffn1GuRefIdeal.main_arg2)) (m ((c.tc : Thread Cert.Ffn1GuRefIdeal.nD Cert.Ffn1GuRefIdeal.τ).loc Cert.Ffn1GuRefIdeal.main_arg3)) (m ((c.tc : Thread Cert.Ffn1GuRefIdeal.nD Cert.Ffn1GuRefIdeal.τ).loc Cert.Ffn1GuRefIdeal.main_arg4))).2.2.2.2 = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite_mix [hPre_finite_mix : Cert.Pre_finite_mix.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4))).1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4))).2.1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4))).2.2.1 = (fun _ => 1#1)
    ∧ (Cert.Pre_finite_mix.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4))).2.2.2 = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_finite_mix [hPre_finite_mix : Cert.Pre_finite_mix.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_finite_mix.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4))).1 = (fun _ => 1#1)
    ∧ (Cert.Pre_finite_mix.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4))).2.1 = (fun _ => 1#1)
    ∧ (Cert.Pre_finite_mix.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4))).2.2.1 = (fun _ => 1#1)
    ∧ (Cert.Pre_finite_mix.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4))).2.2.2 = (fun _ => 1#1)

def Pre_DxB (m : (ℓ : Loc Cert.DxB.nD Cert.DxB.τ Cert.DxB.sig) → Buf (Elt Bits) ℓ) : Prop :=
  True

def Pre_DxBIdeal (m : (ℓ : Loc Cert.DxBIdeal.nD Cert.DxBIdeal.τ Cert.DxBIdeal.sig) → Buf (Elt Ideal) ℓ) : Prop :=
  True

def Pre_DxBIdeal_finite_dxb [hPre_finite_dxb : Cert.Pre_finite_dxb.Facts] (m : (ℓ : Loc Cert.DxBIdeal.nD Cert.DxBIdeal.τ Cert.DxBIdeal.sig) → Buf (Elt Ideal) ℓ) : Prop :=
  ∀ c : Dev Cert.DxBIdeal.nD,
    (Cert.Pre_finite_dxb.fn (F := Ideal) (m ((c.tc : Thread Cert.DxBIdeal.nD Cert.DxBIdeal.τ).loc Cert.DxBIdeal.main_arg0)) (m ((c.tc : Thread Cert.DxBIdeal.nD Cert.DxBIdeal.τ).loc Cert.DxBIdeal.main_arg1)) (m ((c.tc : Thread Cert.DxBIdeal.nD Cert.DxBIdeal.τ).loc Cert.DxBIdeal.main_arg2)) (m ((c.tc : Thread Cert.DxBIdeal.nD Cert.DxBIdeal.τ).loc Cert.DxBIdeal.main_arg3)) (m ((c.tc : Thread Cert.DxBIdeal.nD Cert.DxBIdeal.τ).loc Cert.DxBIdeal.main_arg4)) (m ((c.tc : Thread Cert.DxBIdeal.nD Cert.DxBIdeal.τ).loc Cert.DxBIdeal.main_arg5))).1 = (fun _ => 1#1)
    ∧ (Cert.Pre_finite_dxb.fn (F := Ideal) (m ((c.tc : Thread Cert.DxBIdeal.nD Cert.DxBIdeal.τ).loc Cert.DxBIdeal.main_arg0)) (m ((c.tc : Thread Cert.DxBIdeal.nD Cert.DxBIdeal.τ).loc Cert.DxBIdeal.main_arg1)) (m ((c.tc : Thread Cert.DxBIdeal.nD Cert.DxBIdeal.τ).loc Cert.DxBIdeal.main_arg2)) (m ((c.tc : Thread Cert.DxBIdeal.nD Cert.DxBIdeal.τ).loc Cert.DxBIdeal.main_arg3)) (m ((c.tc : Thread Cert.DxBIdeal.nD Cert.DxBIdeal.τ).loc Cert.DxBIdeal.main_arg4)) (m ((c.tc : Thread Cert.DxBIdeal.nD Cert.DxBIdeal.τ).loc Cert.DxBIdeal.main_arg5))).2.1 = (fun _ => 1#1)
    ∧ (Cert.Pre_finite_dxb.fn (F := Ideal) (m ((c.tc : Thread Cert.DxBIdeal.nD Cert.DxBIdeal.τ).loc Cert.DxBIdeal.main_arg0)) (m ((c.tc : Thread Cert.DxBIdeal.nD Cert.DxBIdeal.τ).loc Cert.DxBIdeal.main_arg1)) (m ((c.tc : Thread Cert.DxBIdeal.nD Cert.DxBIdeal.τ).loc Cert.DxBIdeal.main_arg2)) (m ((c.tc : Thread Cert.DxBIdeal.nD Cert.DxBIdeal.τ).loc Cert.DxBIdeal.main_arg3)) (m ((c.tc : Thread Cert.DxBIdeal.nD Cert.DxBIdeal.τ).loc Cert.DxBIdeal.main_arg4)) (m ((c.tc : Thread Cert.DxBIdeal.nD Cert.DxBIdeal.τ).loc Cert.DxBIdeal.main_arg5))).2.2.1 = (fun _ => 1#1)
    ∧ (Cert.Pre_finite_dxb.fn (F := Ideal) (m ((c.tc : Thread Cert.DxBIdeal.nD Cert.DxBIdeal.τ).loc Cert.DxBIdeal.main_arg0)) (m ((c.tc : Thread Cert.DxBIdeal.nD Cert.DxBIdeal.τ).loc Cert.DxBIdeal.main_arg1)) (m ((c.tc : Thread Cert.DxBIdeal.nD Cert.DxBIdeal.τ).loc Cert.DxBIdeal.main_arg2)) (m ((c.tc : Thread Cert.DxBIdeal.nD Cert.DxBIdeal.τ).loc Cert.DxBIdeal.main_arg3)) (m ((c.tc : Thread Cert.DxBIdeal.nD Cert.DxBIdeal.τ).loc Cert.DxBIdeal.main_arg4)) (m ((c.tc : Thread Cert.DxBIdeal.nD Cert.DxBIdeal.τ).loc Cert.DxBIdeal.main_arg5))).2.2.2 = (fun _ => 1#1)

def Pre_DxBRefIdeal (m : (ℓ : Loc Cert.DxBRefIdeal.nD Cert.DxBRefIdeal.τ Cert.DxBRefIdeal.sig) → Buf (Elt Ideal) ℓ) : Prop :=
  True

def Pre_DxBRefIdeal_finite_dxb [hPre_finite_dxb : Cert.Pre_finite_dxb.Facts] (m : (ℓ : Loc Cert.DxBRefIdeal.nD Cert.DxBRefIdeal.τ Cert.DxBRefIdeal.sig) → Buf (Elt Ideal) ℓ) : Prop :=
  ∀ c : Dev Cert.DxBRefIdeal.nD,
    (Cert.Pre_finite_dxb.fn (F := Ideal) (m ((c.tc : Thread Cert.DxBRefIdeal.nD Cert.DxBRefIdeal.τ).loc Cert.DxBRefIdeal.main_arg0)) (m ((c.tc : Thread Cert.DxBRefIdeal.nD Cert.DxBRefIdeal.τ).loc Cert.DxBRefIdeal.main_arg1)) (m ((c.tc : Thread Cert.DxBRefIdeal.nD Cert.DxBRefIdeal.τ).loc Cert.DxBRefIdeal.main_arg2)) (m ((c.tc : Thread Cert.DxBRefIdeal.nD Cert.DxBRefIdeal.τ).loc Cert.DxBRefIdeal.main_arg3)) (m ((c.tc : Thread Cert.DxBRefIdeal.nD Cert.DxBRefIdeal.τ).loc Cert.DxBRefIdeal.main_arg4)) (m ((c.tc : Thread Cert.DxBRefIdeal.nD Cert.DxBRefIdeal.τ).loc Cert.DxBRefIdeal.main_arg5))).1 = (fun _ => 1#1)
    ∧ (Cert.Pre_finite_dxb.fn (F := Ideal) (m ((c.tc : Thread Cert.DxBRefIdeal.nD Cert.DxBRefIdeal.τ).loc Cert.DxBRefIdeal.main_arg0)) (m ((c.tc : Thread Cert.DxBRefIdeal.nD Cert.DxBRefIdeal.τ).loc Cert.DxBRefIdeal.main_arg1)) (m ((c.tc : Thread Cert.DxBRefIdeal.nD Cert.DxBRefIdeal.τ).loc Cert.DxBRefIdeal.main_arg2)) (m ((c.tc : Thread Cert.DxBRefIdeal.nD Cert.DxBRefIdeal.τ).loc Cert.DxBRefIdeal.main_arg3)) (m ((c.tc : Thread Cert.DxBRefIdeal.nD Cert.DxBRefIdeal.τ).loc Cert.DxBRefIdeal.main_arg4)) (m ((c.tc : Thread Cert.DxBRefIdeal.nD Cert.DxBRefIdeal.τ).loc Cert.DxBRefIdeal.main_arg5))).2.1 = (fun _ => 1#1)
    ∧ (Cert.Pre_finite_dxb.fn (F := Ideal) (m ((c.tc : Thread Cert.DxBRefIdeal.nD Cert.DxBRefIdeal.τ).loc Cert.DxBRefIdeal.main_arg0)) (m ((c.tc : Thread Cert.DxBRefIdeal.nD Cert.DxBRefIdeal.τ).loc Cert.DxBRefIdeal.main_arg1)) (m ((c.tc : Thread Cert.DxBRefIdeal.nD Cert.DxBRefIdeal.τ).loc Cert.DxBRefIdeal.main_arg2)) (m ((c.tc : Thread Cert.DxBRefIdeal.nD Cert.DxBRefIdeal.τ).loc Cert.DxBRefIdeal.main_arg3)) (m ((c.tc : Thread Cert.DxBRefIdeal.nD Cert.DxBRefIdeal.τ).loc Cert.DxBRefIdeal.main_arg4)) (m ((c.tc : Thread Cert.DxBRefIdeal.nD Cert.DxBRefIdeal.τ).loc Cert.DxBRefIdeal.main_arg5))).2.2.1 = (fun _ => 1#1)
    ∧ (Cert.Pre_finite_dxb.fn (F := Ideal) (m ((c.tc : Thread Cert.DxBRefIdeal.nD Cert.DxBRefIdeal.τ).loc Cert.DxBRefIdeal.main_arg0)) (m ((c.tc : Thread Cert.DxBRefIdeal.nD Cert.DxBRefIdeal.τ).loc Cert.DxBRefIdeal.main_arg1)) (m ((c.tc : Thread Cert.DxBRefIdeal.nD Cert.DxBRefIdeal.τ).loc Cert.DxBRefIdeal.main_arg2)) (m ((c.tc : Thread Cert.DxBRefIdeal.nD Cert.DxBRefIdeal.τ).loc Cert.DxBRefIdeal.main_arg3)) (m ((c.tc : Thread Cert.DxBRefIdeal.nD Cert.DxBRefIdeal.τ).loc Cert.DxBRefIdeal.main_arg4)) (m ((c.tc : Thread Cert.DxBRefIdeal.nD Cert.DxBRefIdeal.τ).loc Cert.DxBRefIdeal.main_arg5))).2.2.2 = (fun _ => 1#1)

def Pre_DxA (m : (ℓ : Loc Cert.DxA.nD Cert.DxA.τ Cert.DxA.sig) → Buf (Elt Bits) ℓ) : Prop :=
  True

def Pre_DxAIdeal (m : (ℓ : Loc Cert.DxAIdeal.nD Cert.DxAIdeal.τ Cert.DxAIdeal.sig) → Buf (Elt Ideal) ℓ) : Prop :=
  True

def Pre_DxAIdeal_finite_dxa [hPre_finite_dxa : Cert.Pre_finite_dxa.Facts] (m : (ℓ : Loc Cert.DxAIdeal.nD Cert.DxAIdeal.τ Cert.DxAIdeal.sig) → Buf (Elt Ideal) ℓ) : Prop :=
  ∀ c : Dev Cert.DxAIdeal.nD,
    (Cert.Pre_finite_dxa.fn (F := Ideal) (m ((c.tc : Thread Cert.DxAIdeal.nD Cert.DxAIdeal.τ).loc Cert.DxAIdeal.main_arg0)) (m ((c.tc : Thread Cert.DxAIdeal.nD Cert.DxAIdeal.τ).loc Cert.DxAIdeal.main_arg1)) (m ((c.tc : Thread Cert.DxAIdeal.nD Cert.DxAIdeal.τ).loc Cert.DxAIdeal.main_arg2)) (m ((c.tc : Thread Cert.DxAIdeal.nD Cert.DxAIdeal.τ).loc Cert.DxAIdeal.main_arg3)) (m ((c.tc : Thread Cert.DxAIdeal.nD Cert.DxAIdeal.τ).loc Cert.DxAIdeal.main_arg4))).1 = (fun _ => 1#1)
    ∧ (Cert.Pre_finite_dxa.fn (F := Ideal) (m ((c.tc : Thread Cert.DxAIdeal.nD Cert.DxAIdeal.τ).loc Cert.DxAIdeal.main_arg0)) (m ((c.tc : Thread Cert.DxAIdeal.nD Cert.DxAIdeal.τ).loc Cert.DxAIdeal.main_arg1)) (m ((c.tc : Thread Cert.DxAIdeal.nD Cert.DxAIdeal.τ).loc Cert.DxAIdeal.main_arg2)) (m ((c.tc : Thread Cert.DxAIdeal.nD Cert.DxAIdeal.τ).loc Cert.DxAIdeal.main_arg3)) (m ((c.tc : Thread Cert.DxAIdeal.nD Cert.DxAIdeal.τ).loc Cert.DxAIdeal.main_arg4))).2.1 = (fun _ => 1#1)
    ∧ (Cert.Pre_finite_dxa.fn (F := Ideal) (m ((c.tc : Thread Cert.DxAIdeal.nD Cert.DxAIdeal.τ).loc Cert.DxAIdeal.main_arg0)) (m ((c.tc : Thread Cert.DxAIdeal.nD Cert.DxAIdeal.τ).loc Cert.DxAIdeal.main_arg1)) (m ((c.tc : Thread Cert.DxAIdeal.nD Cert.DxAIdeal.τ).loc Cert.DxAIdeal.main_arg2)) (m ((c.tc : Thread Cert.DxAIdeal.nD Cert.DxAIdeal.τ).loc Cert.DxAIdeal.main_arg3)) (m ((c.tc : Thread Cert.DxAIdeal.nD Cert.DxAIdeal.τ).loc Cert.DxAIdeal.main_arg4))).2.2.1 = (fun _ => 1#1)
    ∧ (Cert.Pre_finite_dxa.fn (F := Ideal) (m ((c.tc : Thread Cert.DxAIdeal.nD Cert.DxAIdeal.τ).loc Cert.DxAIdeal.main_arg0)) (m ((c.tc : Thread Cert.DxAIdeal.nD Cert.DxAIdeal.τ).loc Cert.DxAIdeal.main_arg1)) (m ((c.tc : Thread Cert.DxAIdeal.nD Cert.DxAIdeal.τ).loc Cert.DxAIdeal.main_arg2)) (m ((c.tc : Thread Cert.DxAIdeal.nD Cert.DxAIdeal.τ).loc Cert.DxAIdeal.main_arg3)) (m ((c.tc : Thread Cert.DxAIdeal.nD Cert.DxAIdeal.τ).loc Cert.DxAIdeal.main_arg4))).2.2.2 = (fun _ => 1#1)

def Pre_DxARefIdeal (m : (ℓ : Loc Cert.DxARefIdeal.nD Cert.DxARefIdeal.τ Cert.DxARefIdeal.sig) → Buf (Elt Ideal) ℓ) : Prop :=
  True

def Pre_DxARefIdeal_finite_dxa [hPre_finite_dxa : Cert.Pre_finite_dxa.Facts] (m : (ℓ : Loc Cert.DxARefIdeal.nD Cert.DxARefIdeal.τ Cert.DxARefIdeal.sig) → Buf (Elt Ideal) ℓ) : Prop :=
  ∀ c : Dev Cert.DxARefIdeal.nD,
    (Cert.Pre_finite_dxa.fn (F := Ideal) (m ((c.tc : Thread Cert.DxARefIdeal.nD Cert.DxARefIdeal.τ).loc Cert.DxARefIdeal.main_arg0)) (m ((c.tc : Thread Cert.DxARefIdeal.nD Cert.DxARefIdeal.τ).loc Cert.DxARefIdeal.main_arg1)) (m ((c.tc : Thread Cert.DxARefIdeal.nD Cert.DxARefIdeal.τ).loc Cert.DxARefIdeal.main_arg2)) (m ((c.tc : Thread Cert.DxARefIdeal.nD Cert.DxARefIdeal.τ).loc Cert.DxARefIdeal.main_arg3)) (m ((c.tc : Thread Cert.DxARefIdeal.nD Cert.DxARefIdeal.τ).loc Cert.DxARefIdeal.main_arg4))).1 = (fun _ => 1#1)
    ∧ (Cert.Pre_finite_dxa.fn (F := Ideal) (m ((c.tc : Thread Cert.DxARefIdeal.nD Cert.DxARefIdeal.τ).loc Cert.DxARefIdeal.main_arg0)) (m ((c.tc : Thread Cert.DxARefIdeal.nD Cert.DxARefIdeal.τ).loc Cert.DxARefIdeal.main_arg1)) (m ((c.tc : Thread Cert.DxARefIdeal.nD Cert.DxARefIdeal.τ).loc Cert.DxARefIdeal.main_arg2)) (m ((c.tc : Thread Cert.DxARefIdeal.nD Cert.DxARefIdeal.τ).loc Cert.DxARefIdeal.main_arg3)) (m ((c.tc : Thread Cert.DxARefIdeal.nD Cert.DxARefIdeal.τ).loc Cert.DxARefIdeal.main_arg4))).2.1 = (fun _ => 1#1)
    ∧ (Cert.Pre_finite_dxa.fn (F := Ideal) (m ((c.tc : Thread Cert.DxARefIdeal.nD Cert.DxARefIdeal.τ).loc Cert.DxARefIdeal.main_arg0)) (m ((c.tc : Thread Cert.DxARefIdeal.nD Cert.DxARefIdeal.τ).loc Cert.DxARefIdeal.main_arg1)) (m ((c.tc : Thread Cert.DxARefIdeal.nD Cert.DxARefIdeal.τ).loc Cert.DxARefIdeal.main_arg2)) (m ((c.tc : Thread Cert.DxARefIdeal.nD Cert.DxARefIdeal.τ).loc Cert.DxARefIdeal.main_arg3)) (m ((c.tc : Thread Cert.DxARefIdeal.nD Cert.DxARefIdeal.τ).loc Cert.DxARefIdeal.main_arg4))).2.2.1 = (fun _ => 1#1)
    ∧ (Cert.Pre_finite_dxa.fn (F := Ideal) (m ((c.tc : Thread Cert.DxARefIdeal.nD Cert.DxARefIdeal.τ).loc Cert.DxARefIdeal.main_arg0)) (m ((c.tc : Thread Cert.DxARefIdeal.nD Cert.DxARefIdeal.τ).loc Cert.DxARefIdeal.main_arg1)) (m ((c.tc : Thread Cert.DxARefIdeal.nD Cert.DxARefIdeal.τ).loc Cert.DxARefIdeal.main_arg2)) (m ((c.tc : Thread Cert.DxARefIdeal.nD Cert.DxARefIdeal.τ).loc Cert.DxARefIdeal.main_arg3)) (m ((c.tc : Thread Cert.DxARefIdeal.nD Cert.DxARefIdeal.τ).loc Cert.DxARefIdeal.main_arg4))).2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.1 = (fun _ => 1#1)
    ∧ (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.1 = (fun _ => 1#1)
    ∧ (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.2 = (fun _ => 1#1)

def Pre_Ffn2Bwd (m : (ℓ : Loc Cert.Ffn2Bwd.nD Cert.Ffn2Bwd.τ Cert.Ffn2Bwd.sig) → Buf (Elt Bits) ℓ) : Prop :=
  True

def Pre_Ffn2BwdIdeal (m : (ℓ : Loc Cert.Ffn2BwdIdeal.nD Cert.Ffn2BwdIdeal.τ Cert.Ffn2BwdIdeal.sig) → Buf (Elt Ideal) ℓ) : Prop :=
  True

def Pre_Ffn2BwdIdeal_finite_ffn2 [hPre_finite_ffn2 : Cert.Pre_finite_ffn2.Facts] (m : (ℓ : Loc Cert.Ffn2BwdIdeal.nD Cert.Ffn2BwdIdeal.τ Cert.Ffn2BwdIdeal.sig) → Buf (Elt Ideal) ℓ) : Prop :=
  ∀ c : Dev Cert.Ffn2BwdIdeal.nD,
    (Cert.Pre_finite_ffn2.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4))).1 = (fun _ => 1#1)
    ∧ (Cert.Pre_finite_ffn2.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4))).2.1 = (fun _ => 1#1)
    ∧ (Cert.Pre_finite_ffn2.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4))).2.2.1 = (fun _ => 1#1)
    ∧ (Cert.Pre_finite_ffn2.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4))).2.2.2.1 = (fun _ => 1#1)
    ∧ (Cert.Pre_finite_ffn2.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4))).2.2.2.2 = (fun _ => 1#1)

def Pre_Ffn2BwdRefIdeal (m : (ℓ : Loc Cert.Ffn2BwdRefIdeal.nD Cert.Ffn2BwdRefIdeal.τ Cert.Ffn2BwdRefIdeal.sig) → Buf (Elt Ideal) ℓ) : Prop :=
  True

def Pre_Ffn2BwdRefIdeal_finite_ffn2 [hPre_finite_ffn2 : Cert.Pre_finite_ffn2.Facts] (m : (ℓ : Loc Cert.Ffn2BwdRefIdeal.nD Cert.Ffn2BwdRefIdeal.τ Cert.Ffn2BwdRefIdeal.sig) → Buf (Elt Ideal) ℓ) : Prop :=
  ∀ c : Dev Cert.Ffn2BwdRefIdeal.nD,
    (Cert.Pre_finite_ffn2.fn (F := Ideal) (m ((c.tc : Thread Cert.Ffn2BwdRefIdeal.nD Cert.Ffn2BwdRefIdeal.τ).loc Cert.Ffn2BwdRefIdeal.main_arg0)) (m ((c.tc : Thread Cert.Ffn2BwdRefIdeal.nD Cert.Ffn2BwdRefIdeal.τ).loc Cert.Ffn2BwdRefIdeal.main_arg1)) (m ((c.tc : Thread Cert.Ffn2BwdRefIdeal.nD Cert.Ffn2BwdRefIdeal.τ).loc Cert.Ffn2BwdRefIdeal.main_arg2)) (m ((c.tc : Thread Cert.Ffn2BwdRefIdeal.nD Cert.Ffn2BwdRefIdeal.τ).loc Cert.Ffn2BwdRefIdeal.main_arg3)) (m ((c.tc : Thread Cert.Ffn2BwdRefIdeal.nD Cert.Ffn2BwdRefIdeal.τ).loc Cert.Ffn2BwdRefIdeal.main_arg4))).1 = (fun _ => 1#1)
    ∧ (Cert.Pre_finite_ffn2.fn (F := Ideal) (m ((c.tc : Thread Cert.Ffn2BwdRefIdeal.nD Cert.Ffn2BwdRefIdeal.τ).loc Cert.Ffn2BwdRefIdeal.main_arg0)) (m ((c.tc : Thread Cert.Ffn2BwdRefIdeal.nD Cert.Ffn2BwdRefIdeal.τ).loc Cert.Ffn2BwdRefIdeal.main_arg1)) (m ((c.tc : Thread Cert.Ffn2BwdRefIdeal.nD Cert.Ffn2BwdRefIdeal.τ).loc Cert.Ffn2BwdRefIdeal.main_arg2)) (m ((c.tc : Thread Cert.Ffn2BwdRefIdeal.nD Cert.Ffn2BwdRefIdeal.τ).loc Cert.Ffn2BwdRefIdeal.main_arg3)) (m ((c.tc : Thread Cert.Ffn2BwdRefIdeal.nD Cert.Ffn2BwdRefIdeal.τ).loc Cert.Ffn2BwdRefIdeal.main_arg4))).2.1 = (fun _ => 1#1)
    ∧ (Cert.Pre_finite_ffn2.fn (F := Ideal) (m ((c.tc : Thread Cert.Ffn2BwdRefIdeal.nD Cert.Ffn2BwdRefIdeal.τ).loc Cert.Ffn2BwdRefIdeal.main_arg0)) (m ((c.tc : Thread Cert.Ffn2BwdRefIdeal.nD Cert.Ffn2BwdRefIdeal.τ).loc Cert.Ffn2BwdRefIdeal.main_arg1)) (m ((c.tc : Thread Cert.Ffn2BwdRefIdeal.nD Cert.Ffn2BwdRefIdeal.τ).loc Cert.Ffn2BwdRefIdeal.main_arg2)) (m ((c.tc : Thread Cert.Ffn2BwdRefIdeal.nD Cert.Ffn2BwdRefIdeal.τ).loc Cert.Ffn2BwdRefIdeal.main_arg3)) (m ((c.tc : Thread Cert.Ffn2BwdRefIdeal.nD Cert.Ffn2BwdRefIdeal.τ).loc Cert.Ffn2BwdRefIdeal.main_arg4))).2.2.1 = (fun _ => 1#1)
    ∧ (Cert.Pre_finite_ffn2.fn (F := Ideal) (m ((c.tc : Thread Cert.Ffn2BwdRefIdeal.nD Cert.Ffn2BwdRefIdeal.τ).loc Cert.Ffn2BwdRefIdeal.main_arg0)) (m ((c.tc : Thread Cert.Ffn2BwdRefIdeal.nD Cert.Ffn2BwdRefIdeal.τ).loc Cert.Ffn2BwdRefIdeal.main_arg1)) (m ((c.tc : Thread Cert.Ffn2BwdRefIdeal.nD Cert.Ffn2BwdRefIdeal.τ).loc Cert.Ffn2BwdRefIdeal.main_arg2)) (m ((c.tc : Thread Cert.Ffn2BwdRefIdeal.nD Cert.Ffn2BwdRefIdeal.τ).loc Cert.Ffn2BwdRefIdeal.main_arg3)) (m ((c.tc : Thread Cert.Ffn2BwdRefIdeal.nD Cert.Ffn2BwdRefIdeal.τ).loc Cert.Ffn2BwdRefIdeal.main_arg4))).2.2.2.1 = (fun _ => 1#1)
    ∧ (Cert.Pre_finite_ffn2.fn (F := Ideal) (m ((c.tc : Thread Cert.Ffn2BwdRefIdeal.nD Cert.Ffn2BwdRefIdeal.τ).loc Cert.Ffn2BwdRefIdeal.main_arg0)) (m ((c.tc : Thread Cert.Ffn2BwdRefIdeal.nD Cert.Ffn2BwdRefIdeal.τ).loc Cert.Ffn2BwdRefIdeal.main_arg1)) (m ((c.tc : Thread Cert.Ffn2BwdRefIdeal.nD Cert.Ffn2BwdRefIdeal.τ).loc Cert.Ffn2BwdRefIdeal.main_arg2)) (m ((c.tc : Thread Cert.Ffn2BwdRefIdeal.nD Cert.Ffn2BwdRefIdeal.τ).loc Cert.Ffn2BwdRefIdeal.main_arg3)) (m ((c.tc : Thread Cert.Ffn2BwdRefIdeal.nD Cert.Ffn2BwdRefIdeal.τ).loc Cert.Ffn2BwdRefIdeal.main_arg4))).2.2.2.2 = (fun _ => 1#1)

def Pre_Ffn2Head (m : (ℓ : Loc Cert.Ffn2Head.nD Cert.Ffn2Head.τ Cert.Ffn2Head.sig) → Buf (Elt Bits) ℓ) : Prop :=
  True

def Pre_Ffn2HeadIdeal (m : (ℓ : Loc Cert.Ffn2HeadIdeal.nD Cert.Ffn2HeadIdeal.τ Cert.Ffn2HeadIdeal.sig) → Buf (Elt Ideal) ℓ) : Prop :=
  True

def Pre_Ffn2HeadIdeal_finite_head [hPre_finite_head : Cert.Pre_finite_head.Facts] (m : (ℓ : Loc Cert.Ffn2HeadIdeal.nD Cert.Ffn2HeadIdeal.τ Cert.Ffn2HeadIdeal.sig) → Buf (Elt Ideal) ℓ) : Prop :=
  ∀ c : Dev Cert.Ffn2HeadIdeal.nD,
    (Cert.Pre_finite_head.fn (F := Ideal) (m ((c.tc : Thread Cert.Ffn2HeadIdeal.nD Cert.Ffn2HeadIdeal.τ).loc Cert.Ffn2HeadIdeal.main_arg0)) (m ((c.tc : Thread Cert.Ffn2HeadIdeal.nD Cert.Ffn2HeadIdeal.τ).loc Cert.Ffn2HeadIdeal.main_arg1)) (m ((c.tc : Thread Cert.Ffn2HeadIdeal.nD Cert.Ffn2HeadIdeal.τ).loc Cert.Ffn2HeadIdeal.main_arg2)) (m ((c.tc : Thread Cert.Ffn2HeadIdeal.nD Cert.Ffn2HeadIdeal.τ).loc Cert.Ffn2HeadIdeal.main_arg3)) (m ((c.tc : Thread Cert.Ffn2HeadIdeal.nD Cert.Ffn2HeadIdeal.τ).loc Cert.Ffn2HeadIdeal.main_arg4)) (m ((c.tc : Thread Cert.Ffn2HeadIdeal.nD Cert.Ffn2HeadIdeal.τ).loc Cert.Ffn2HeadIdeal.main_arg5))).1 = (fun _ => 1#1)
    ∧ (Cert.Pre_finite_head.fn (F := Ideal) (m ((c.tc : Thread Cert.Ffn2HeadIdeal.nD Cert.Ffn2HeadIdeal.τ).loc Cert.Ffn2HeadIdeal.main_arg0)) (m ((c.tc : Thread Cert.Ffn2HeadIdeal.nD Cert.Ffn2HeadIdeal.τ).loc Cert.Ffn2HeadIdeal.main_arg1)) (m ((c.tc : Thread Cert.Ffn2HeadIdeal.nD Cert.Ffn2HeadIdeal.τ).loc Cert.Ffn2HeadIdeal.main_arg2)) (m ((c.tc : Thread Cert.Ffn2HeadIdeal.nD Cert.Ffn2HeadIdeal.τ).loc Cert.Ffn2HeadIdeal.main_arg3)) (m ((c.tc : Thread Cert.Ffn2HeadIdeal.nD Cert.Ffn2HeadIdeal.τ).loc Cert.Ffn2HeadIdeal.main_arg4)) (m ((c.tc : Thread Cert.Ffn2HeadIdeal.nD Cert.Ffn2HeadIdeal.τ).loc Cert.Ffn2HeadIdeal.main_arg5))).2.1 = (fun _ => 1#1)
    ∧ (Cert.Pre_finite_head.fn (F := Ideal) (m ((c.tc : Thread Cert.Ffn2HeadIdeal.nD Cert.Ffn2HeadIdeal.τ).loc Cert.Ffn2HeadIdeal.main_arg0)) (m ((c.tc : Thread Cert.Ffn2HeadIdeal.nD Cert.Ffn2HeadIdeal.τ).loc Cert.Ffn2HeadIdeal.main_arg1)) (m ((c.tc : Thread Cert.Ffn2HeadIdeal.nD Cert.Ffn2HeadIdeal.τ).loc Cert.Ffn2HeadIdeal.main_arg2)) (m ((c.tc : Thread Cert.Ffn2HeadIdeal.nD Cert.Ffn2HeadIdeal.τ).loc Cert.Ffn2HeadIdeal.main_arg3)) (m ((c.tc : Thread Cert.Ffn2HeadIdeal.nD Cert.Ffn2HeadIdeal.τ).loc Cert.Ffn2HeadIdeal.main_arg4)) (m ((c.tc : Thread Cert.Ffn2HeadIdeal.nD Cert.Ffn2HeadIdeal.τ).loc Cert.Ffn2HeadIdeal.main_arg5))).2.2.1 = (fun _ => 1#1)
    ∧ (Cert.Pre_finite_head.fn (F := Ideal) (m ((c.tc : Thread Cert.Ffn2HeadIdeal.nD Cert.Ffn2HeadIdeal.τ).loc Cert.Ffn2HeadIdeal.main_arg0)) (m ((c.tc : Thread Cert.Ffn2HeadIdeal.nD Cert.Ffn2HeadIdeal.τ).loc Cert.Ffn2HeadIdeal.main_arg1)) (m ((c.tc : Thread Cert.Ffn2HeadIdeal.nD Cert.Ffn2HeadIdeal.τ).loc Cert.Ffn2HeadIdeal.main_arg2)) (m ((c.tc : Thread Cert.Ffn2HeadIdeal.nD Cert.Ffn2HeadIdeal.τ).loc Cert.Ffn2HeadIdeal.main_arg3)) (m ((c.tc : Thread Cert.Ffn2HeadIdeal.nD Cert.Ffn2HeadIdeal.τ).loc Cert.Ffn2HeadIdeal.main_arg4)) (m ((c.tc : Thread Cert.Ffn2HeadIdeal.nD Cert.Ffn2HeadIdeal.τ).loc Cert.Ffn2HeadIdeal.main_arg5))).2.2.2.1 = (fun _ => 1#1)
    ∧ (Cert.Pre_finite_head.fn (F := Ideal) (m ((c.tc : Thread Cert.Ffn2HeadIdeal.nD Cert.Ffn2HeadIdeal.τ).loc Cert.Ffn2HeadIdeal.main_arg0)) (m ((c.tc : Thread Cert.Ffn2HeadIdeal.nD Cert.Ffn2HeadIdeal.τ).loc Cert.Ffn2HeadIdeal.main_arg1)) (m ((c.tc : Thread Cert.Ffn2HeadIdeal.nD Cert.Ffn2HeadIdeal.τ).loc Cert.Ffn2HeadIdeal.main_arg2)) (m ((c.tc : Thread Cert.Ffn2HeadIdeal.nD Cert.Ffn2HeadIdeal.τ).loc Cert.Ffn2HeadIdeal.main_arg3)) (m ((c.tc : Thread Cert.Ffn2HeadIdeal.nD Cert.Ffn2HeadIdeal.τ).loc Cert.Ffn2HeadIdeal.main_arg4)) (m ((c.tc : Thread Cert.Ffn2HeadIdeal.nD Cert.Ffn2HeadIdeal.τ).loc Cert.Ffn2HeadIdeal.main_arg5))).2.2.2.2.1 = (fun _ => 1#1)
    ∧ (Cert.Pre_finite_head.fn (F := Ideal) (m ((c.tc : Thread Cert.Ffn2HeadIdeal.nD Cert.Ffn2HeadIdeal.τ).loc Cert.Ffn2HeadIdeal.main_arg0)) (m ((c.tc : Thread Cert.Ffn2HeadIdeal.nD Cert.Ffn2HeadIdeal.τ).loc Cert.Ffn2HeadIdeal.main_arg1)) (m ((c.tc : Thread Cert.Ffn2HeadIdeal.nD Cert.Ffn2HeadIdeal.τ).loc Cert.Ffn2HeadIdeal.main_arg2)) (m ((c.tc : Thread Cert.Ffn2HeadIdeal.nD Cert.Ffn2HeadIdeal.τ).loc Cert.Ffn2HeadIdeal.main_arg3)) (m ((c.tc : Thread Cert.Ffn2HeadIdeal.nD Cert.Ffn2HeadIdeal.τ).loc Cert.Ffn2HeadIdeal.main_arg4)) (m ((c.tc : Thread Cert.Ffn2HeadIdeal.nD Cert.Ffn2HeadIdeal.τ).loc Cert.Ffn2HeadIdeal.main_arg5))).2.2.2.2.2 = (fun _ => 1#1)

def Pre_Ffn2HeadRefIdeal (m : (ℓ : Loc Cert.Ffn2HeadRefIdeal.nD Cert.Ffn2HeadRefIdeal.τ Cert.Ffn2HeadRefIdeal.sig) → Buf (Elt Ideal) ℓ) : Prop :=
  True

def Pre_Ffn2HeadRefIdeal_finite_head [hPre_finite_head : Cert.Pre_finite_head.Facts] (m : (ℓ : Loc Cert.Ffn2HeadRefIdeal.nD Cert.Ffn2HeadRefIdeal.τ Cert.Ffn2HeadRefIdeal.sig) → Buf (Elt Ideal) ℓ) : Prop :=
  ∀ c : Dev Cert.Ffn2HeadRefIdeal.nD,
    (Cert.Pre_finite_head.fn (F := Ideal) (m ((c.tc : Thread Cert.Ffn2HeadRefIdeal.nD Cert.Ffn2HeadRefIdeal.τ).loc Cert.Ffn2HeadRefIdeal.main_arg0)) (m ((c.tc : Thread Cert.Ffn2HeadRefIdeal.nD Cert.Ffn2HeadRefIdeal.τ).loc Cert.Ffn2HeadRefIdeal.main_arg1)) (m ((c.tc : Thread Cert.Ffn2HeadRefIdeal.nD Cert.Ffn2HeadRefIdeal.τ).loc Cert.Ffn2HeadRefIdeal.main_arg2)) (m ((c.tc : Thread Cert.Ffn2HeadRefIdeal.nD Cert.Ffn2HeadRefIdeal.τ).loc Cert.Ffn2HeadRefIdeal.main_arg3)) (m ((c.tc : Thread Cert.Ffn2HeadRefIdeal.nD Cert.Ffn2HeadRefIdeal.τ).loc Cert.Ffn2HeadRefIdeal.main_arg4)) (m ((c.tc : Thread Cert.Ffn2HeadRefIdeal.nD Cert.Ffn2HeadRefIdeal.τ).loc Cert.Ffn2HeadRefIdeal.main_arg5))).1 = (fun _ => 1#1)
    ∧ (Cert.Pre_finite_head.fn (F := Ideal) (m ((c.tc : Thread Cert.Ffn2HeadRefIdeal.nD Cert.Ffn2HeadRefIdeal.τ).loc Cert.Ffn2HeadRefIdeal.main_arg0)) (m ((c.tc : Thread Cert.Ffn2HeadRefIdeal.nD Cert.Ffn2HeadRefIdeal.τ).loc Cert.Ffn2HeadRefIdeal.main_arg1)) (m ((c.tc : Thread Cert.Ffn2HeadRefIdeal.nD Cert.Ffn2HeadRefIdeal.τ).loc Cert.Ffn2HeadRefIdeal.main_arg2)) (m ((c.tc : Thread Cert.Ffn2HeadRefIdeal.nD Cert.Ffn2HeadRefIdeal.τ).loc Cert.Ffn2HeadRefIdeal.main_arg3)) (m ((c.tc : Thread Cert.Ffn2HeadRefIdeal.nD Cert.Ffn2HeadRefIdeal.τ).loc Cert.Ffn2HeadRefIdeal.main_arg4)) (m ((c.tc : Thread Cert.Ffn2HeadRefIdeal.nD Cert.Ffn2HeadRefIdeal.τ).loc Cert.Ffn2HeadRefIdeal.main_arg5))).2.1 = (fun _ => 1#1)
    ∧ (Cert.Pre_finite_head.fn (F := Ideal) (m ((c.tc : Thread Cert.Ffn2HeadRefIdeal.nD Cert.Ffn2HeadRefIdeal.τ).loc Cert.Ffn2HeadRefIdeal.main_arg0)) (m ((c.tc : Thread Cert.Ffn2HeadRefIdeal.nD Cert.Ffn2HeadRefIdeal.τ).loc Cert.Ffn2HeadRefIdeal.main_arg1)) (m ((c.tc : Thread Cert.Ffn2HeadRefIdeal.nD Cert.Ffn2HeadRefIdeal.τ).loc Cert.Ffn2HeadRefIdeal.main_arg2)) (m ((c.tc : Thread Cert.Ffn2HeadRefIdeal.nD Cert.Ffn2HeadRefIdeal.τ).loc Cert.Ffn2HeadRefIdeal.main_arg3)) (m ((c.tc : Thread Cert.Ffn2HeadRefIdeal.nD Cert.Ffn2HeadRefIdeal.τ).loc Cert.Ffn2HeadRefIdeal.main_arg4)) (m ((c.tc : Thread Cert.Ffn2HeadRefIdeal.nD Cert.Ffn2HeadRefIdeal.τ).loc Cert.Ffn2HeadRefIdeal.main_arg5))).2.2.1 = (fun _ => 1#1)
    ∧ (Cert.Pre_finite_head.fn (F := Ideal) (m ((c.tc : Thread Cert.Ffn2HeadRefIdeal.nD Cert.Ffn2HeadRefIdeal.τ).loc Cert.Ffn2HeadRefIdeal.main_arg0)) (m ((c.tc : Thread Cert.Ffn2HeadRefIdeal.nD Cert.Ffn2HeadRefIdeal.τ).loc Cert.Ffn2HeadRefIdeal.main_arg1)) (m ((c.tc : Thread Cert.Ffn2HeadRefIdeal.nD Cert.Ffn2HeadRefIdeal.τ).loc Cert.Ffn2HeadRefIdeal.main_arg2)) (m ((c.tc : Thread Cert.Ffn2HeadRefIdeal.nD Cert.Ffn2HeadRefIdeal.τ).loc Cert.Ffn2HeadRefIdeal.main_arg3)) (m ((c.tc : Thread Cert.Ffn2HeadRefIdeal.nD Cert.Ffn2HeadRefIdeal.τ).loc Cert.Ffn2HeadRefIdeal.main_arg4)) (m ((c.tc : Thread Cert.Ffn2HeadRefIdeal.nD Cert.Ffn2HeadRefIdeal.τ).loc Cert.Ffn2HeadRefIdeal.main_arg5))).2.2.2.1 = (fun _ => 1#1)
    ∧ (Cert.Pre_finite_head.fn (F := Ideal) (m ((c.tc : Thread Cert.Ffn2HeadRefIdeal.nD Cert.Ffn2HeadRefIdeal.τ).loc Cert.Ffn2HeadRefIdeal.main_arg0)) (m ((c.tc : Thread Cert.Ffn2HeadRefIdeal.nD Cert.Ffn2HeadRefIdeal.τ).loc Cert.Ffn2HeadRefIdeal.main_arg1)) (m ((c.tc : Thread Cert.Ffn2HeadRefIdeal.nD Cert.Ffn2HeadRefIdeal.τ).loc Cert.Ffn2HeadRefIdeal.main_arg2)) (m ((c.tc : Thread Cert.Ffn2HeadRefIdeal.nD Cert.Ffn2HeadRefIdeal.τ).loc Cert.Ffn2HeadRefIdeal.main_arg3)) (m ((c.tc : Thread Cert.Ffn2HeadRefIdeal.nD Cert.Ffn2HeadRefIdeal.τ).loc Cert.Ffn2HeadRefIdeal.main_arg4)) (m ((c.tc : Thread Cert.Ffn2HeadRefIdeal.nD Cert.Ffn2HeadRefIdeal.τ).loc Cert.Ffn2HeadRefIdeal.main_arg5))).2.2.2.2.1 = (fun _ => 1#1)
    ∧ (Cert.Pre_finite_head.fn (F := Ideal) (m ((c.tc : Thread Cert.Ffn2HeadRefIdeal.nD Cert.Ffn2HeadRefIdeal.τ).loc Cert.Ffn2HeadRefIdeal.main_arg0)) (m ((c.tc : Thread Cert.Ffn2HeadRefIdeal.nD Cert.Ffn2HeadRefIdeal.τ).loc Cert.Ffn2HeadRefIdeal.main_arg1)) (m ((c.tc : Thread Cert.Ffn2HeadRefIdeal.nD Cert.Ffn2HeadRefIdeal.τ).loc Cert.Ffn2HeadRefIdeal.main_arg2)) (m ((c.tc : Thread Cert.Ffn2HeadRefIdeal.nD Cert.Ffn2HeadRefIdeal.τ).loc Cert.Ffn2HeadRefIdeal.main_arg3)) (m ((c.tc : Thread Cert.Ffn2HeadRefIdeal.nD Cert.Ffn2HeadRefIdeal.τ).loc Cert.Ffn2HeadRefIdeal.main_arg4)) (m ((c.tc : Thread Cert.Ffn2HeadRefIdeal.nD Cert.Ffn2HeadRefIdeal.τ).loc Cert.Ffn2HeadRefIdeal.main_arg5))).2.2.2.2.2 = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_Ffn1Fwd (m : (ℓ : Loc Cert.Ffn1Fwd.nD Cert.Ffn1Fwd.τ Cert.Ffn1Fwd.sig) → Buf (Elt Bits) ℓ) : Prop :=
  True

def Pre_Ffn1FwdIdeal (m : (ℓ : Loc Cert.Ffn1FwdIdeal.nD Cert.Ffn1FwdIdeal.τ Cert.Ffn1FwdIdeal.sig) → Buf (Elt Ideal) ℓ) : Prop :=
  True

def Pre_Ffn1FwdRefIdeal (m : (ℓ : Loc Cert.Ffn1FwdRefIdeal.nD Cert.Ffn1FwdRefIdeal.τ Cert.Ffn1FwdRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_MixDy (m : (ℓ : Loc Cert.MixDy.nD Cert.MixDy.τ Cert.MixDy.sig) → Buf (Elt Bits) ℓ) : Prop :=
  True

def Pre_MixDyIdeal (m : (ℓ : Loc Cert.MixDyIdeal.nD Cert.MixDyIdeal.τ Cert.MixDyIdeal.sig) → Buf (Elt Ideal) ℓ) : Prop :=
  True

def Pre_MixDyRefIdeal (m : (ℓ : Loc Cert.MixDyRefIdeal.nD Cert.MixDyRefIdeal.τ Cert.MixDyRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def quiescent_Ffn1Gu [hFfn1Gu : Cert.Ffn1Gu.Facts] : Prop :=
  ∀ (m : (ℓ : Loc Cert.Ffn1Gu.nD Cert.Ffn1Gu.τ Cert.Ffn1Gu.sig) → Buf (Elt Bits) ℓ) (g : Dev Cert.Ffn1Gu.nD → PrngReg), Pre_Ffn1Gu m →
    θ_run (Cert.Ffn1Gu.defs (F := Bits)) (onTc (τ := Cert.Ffn1Gu.τ) (Cert.Ffn1Gu.main (F := Bits))) ⟨m, fun _ => 0, g⟩ (fun r => (∀ c : Dev Cert.Ffn1Gu.nD,
      r.2.mem ((c.tc : Thread Cert.Ffn1Gu.nD Cert.Ffn1Gu.τ).loc Cert.Ffn1Gu.main_arg0) = m ((c.tc : Thread Cert.Ffn1Gu.nD Cert.Ffn1Gu.τ).loc Cert.Ffn1Gu.main_arg0)
      ∧ r.2.mem ((c.tc : Thread Cert.Ffn1Gu.nD Cert.Ffn1Gu.τ).loc Cert.Ffn1Gu.main_arg1) = m ((c.tc : Thread Cert.Ffn1Gu.nD Cert.Ffn1Gu.τ).loc Cert.Ffn1Gu.main_arg1)
      ∧ r.2.mem ((c.tc : Thread Cert.Ffn1Gu.nD Cert.Ffn1Gu.τ).loc Cert.Ffn1Gu.main_arg2) = m ((c.tc : Thread Cert.Ffn1Gu.nD Cert.Ffn1Gu.τ).loc Cert.Ffn1Gu.main_arg2)
      ∧ r.2.mem ((c.tc : Thread Cert.Ffn1Gu.nD Cert.Ffn1Gu.τ).loc Cert.Ffn1Gu.main_arg3) = m ((c.tc : Thread Cert.Ffn1Gu.nD Cert.Ffn1Gu.τ).loc Cert.Ffn1Gu.main_arg3)
      ∧ r.2.mem ((c.tc : Thread Cert.Ffn1Gu.nD Cert.Ffn1Gu.τ).loc Cert.Ffn1Gu.main_arg4) = m ((c.tc : Thread Cert.Ffn1Gu.nD Cert.Ffn1Gu.τ).loc Cert.Ffn1Gu.main_arg4))
      ∧ r.2.sem = fun _ => 0)

def quiescent_Ffn1GuIdeal [hFfn1GuIdeal : Cert.Ffn1GuIdeal.Facts] : Prop :=
  ∀ (m : (ℓ : Loc Cert.Ffn1GuIdeal.nD Cert.Ffn1GuIdeal.τ Cert.Ffn1GuIdeal.sig) → Buf (Elt Ideal) ℓ) (g : Dev Cert.Ffn1GuIdeal.nD → PrngReg), Pre_Ffn1GuIdeal m →
    θ_run (Cert.Ffn1GuIdeal.defs (F := Ideal)) (onTc (τ := Cert.Ffn1GuIdeal.τ) (Cert.Ffn1GuIdeal.main (F := Ideal))) ⟨m, fun _ => 0, g⟩ (fun r => (∀ c : Dev Cert.Ffn1GuIdeal.nD,
      r.2.mem ((c.tc : Thread Cert.Ffn1GuIdeal.nD Cert.Ffn1GuIdeal.τ).loc Cert.Ffn1GuIdeal.main_arg0) = m ((c.tc : Thread Cert.Ffn1GuIdeal.nD Cert.Ffn1GuIdeal.τ).loc Cert.Ffn1GuIdeal.main_arg0)
      ∧ r.2.mem ((c.tc : Thread Cert.Ffn1GuIdeal.nD Cert.Ffn1GuIdeal.τ).loc Cert.Ffn1GuIdeal.main_arg1) = m ((c.tc : Thread Cert.Ffn1GuIdeal.nD Cert.Ffn1GuIdeal.τ).loc Cert.Ffn1GuIdeal.main_arg1)
      ∧ r.2.mem ((c.tc : Thread Cert.Ffn1GuIdeal.nD Cert.Ffn1GuIdeal.τ).loc Cert.Ffn1GuIdeal.main_arg2) = m ((c.tc : Thread Cert.Ffn1GuIdeal.nD Cert.Ffn1GuIdeal.τ).loc Cert.Ffn1GuIdeal.main_arg2)
      ∧ r.2.mem ((c.tc : Thread Cert.Ffn1GuIdeal.nD Cert.Ffn1GuIdeal.τ).loc Cert.Ffn1GuIdeal.main_arg3) = m ((c.tc : Thread Cert.Ffn1GuIdeal.nD Cert.Ffn1GuIdeal.τ).loc Cert.Ffn1GuIdeal.main_arg3)
      ∧ r.2.mem ((c.tc : Thread Cert.Ffn1GuIdeal.nD Cert.Ffn1GuIdeal.τ).loc Cert.Ffn1GuIdeal.main_arg4) = m ((c.tc : Thread Cert.Ffn1GuIdeal.nD Cert.Ffn1GuIdeal.τ).loc Cert.Ffn1GuIdeal.main_arg4))
      ∧ r.2.sem = fun _ => 0)

def quiescent_Ffn1GuIdeal_pre_finite_gu [hFfn1GuIdeal : Cert.Ffn1GuIdeal.Facts] [hPre_finite_gu : Cert.Pre_finite_gu.Facts] : Prop :=
  ∀ (m : (ℓ : Loc Cert.Ffn1GuIdeal.nD Cert.Ffn1GuIdeal.τ Cert.Ffn1GuIdeal.sig) → Buf (Elt Ideal) ℓ) (g : Dev Cert.Ffn1GuIdeal.nD → PrngReg), Pre_Ffn1GuIdeal_finite_gu m →
    θ_run (Cert.Ffn1GuIdeal.defs (F := Ideal)) (onTc (τ := Cert.Ffn1GuIdeal.τ) (Cert.Ffn1GuIdeal.main (F := Ideal))) ⟨m, fun _ => 0, g⟩ (fun r => (∀ c : Dev Cert.Ffn1GuIdeal.nD,
      r.2.mem ((c.tc : Thread Cert.Ffn1GuIdeal.nD Cert.Ffn1GuIdeal.τ).loc Cert.Ffn1GuIdeal.main_arg0) = m ((c.tc : Thread Cert.Ffn1GuIdeal.nD Cert.Ffn1GuIdeal.τ).loc Cert.Ffn1GuIdeal.main_arg0)
      ∧ r.2.mem ((c.tc : Thread Cert.Ffn1GuIdeal.nD Cert.Ffn1GuIdeal.τ).loc Cert.Ffn1GuIdeal.main_arg1) = m ((c.tc : Thread Cert.Ffn1GuIdeal.nD Cert.Ffn1GuIdeal.τ).loc Cert.Ffn1GuIdeal.main_arg1)
      ∧ r.2.mem ((c.tc : Thread Cert.Ffn1GuIdeal.nD Cert.Ffn1GuIdeal.τ).loc Cert.Ffn1GuIdeal.main_arg2) = m ((c.tc : Thread Cert.Ffn1GuIdeal.nD Cert.Ffn1GuIdeal.τ).loc Cert.Ffn1GuIdeal.main_arg2)
      ∧ r.2.mem ((c.tc : Thread Cert.Ffn1GuIdeal.nD Cert.Ffn1GuIdeal.τ).loc Cert.Ffn1GuIdeal.main_arg3) = m ((c.tc : Thread Cert.Ffn1GuIdeal.nD Cert.Ffn1GuIdeal.τ).loc Cert.Ffn1GuIdeal.main_arg3)
      ∧ r.2.mem ((c.tc : Thread Cert.Ffn1GuIdeal.nD Cert.Ffn1GuIdeal.τ).loc Cert.Ffn1GuIdeal.main_arg4) = m ((c.tc : Thread Cert.Ffn1GuIdeal.nD Cert.Ffn1GuIdeal.τ).loc Cert.Ffn1GuIdeal.main_arg4))
      ∧ r.2.sem = fun _ => 0)

def quiescent_Ffn1GuRefIdeal [hFfn1GuRefIdeal : Cert.Ffn1GuRefIdeal.Facts] : Prop :=
  ∀ (m : (ℓ : Loc Cert.Ffn1GuRefIdeal.nD Cert.Ffn1GuRefIdeal.τ Cert.Ffn1GuRefIdeal.sig) → Buf (Elt Ideal) ℓ) (g : Dev Cert.Ffn1GuRefIdeal.nD → PrngReg), Pre_Ffn1GuRefIdeal m →
    θ_run (Cert.Ffn1GuRefIdeal.defs (F := Ideal)) (onTc (τ := Cert.Ffn1GuRefIdeal.τ) (Cert.Ffn1GuRefIdeal.main (F := Ideal))) ⟨m, fun _ => 0, g⟩ (fun r => (∀ c : Dev Cert.Ffn1GuRefIdeal.nD,
      r.2.mem ((c.tc : Thread Cert.Ffn1GuRefIdeal.nD Cert.Ffn1GuRefIdeal.τ).loc Cert.Ffn1GuRefIdeal.main_arg0) = m ((c.tc : Thread Cert.Ffn1GuRefIdeal.nD Cert.Ffn1GuRefIdeal.τ).loc Cert.Ffn1GuRefIdeal.main_arg0)
      ∧ r.2.mem ((c.tc : Thread Cert.Ffn1GuRefIdeal.nD Cert.Ffn1GuRefIdeal.τ).loc Cert.Ffn1GuRefIdeal.main_arg1) = m ((c.tc : Thread Cert.Ffn1GuRefIdeal.nD Cert.Ffn1GuRefIdeal.τ).loc Cert.Ffn1GuRefIdeal.main_arg1)
      ∧ r.2.mem ((c.tc : Thread Cert.Ffn1GuRefIdeal.nD Cert.Ffn1GuRefIdeal.τ).loc Cert.Ffn1GuRefIdeal.main_arg2) = m ((c.tc : Thread Cert.Ffn1GuRefIdeal.nD Cert.Ffn1GuRefIdeal.τ).loc Cert.Ffn1GuRefIdeal.main_arg2)
      ∧ r.2.mem ((c.tc : Thread Cert.Ffn1GuRefIdeal.nD Cert.Ffn1GuRefIdeal.τ).loc Cert.Ffn1GuRefIdeal.main_arg3) = m ((c.tc : Thread Cert.Ffn1GuRefIdeal.nD Cert.Ffn1GuRefIdeal.τ).loc Cert.Ffn1GuRefIdeal.main_arg3)
      ∧ r.2.mem ((c.tc : Thread Cert.Ffn1GuRefIdeal.nD Cert.Ffn1GuRefIdeal.τ).loc Cert.Ffn1GuRefIdeal.main_arg4) = m ((c.tc : Thread Cert.Ffn1GuRefIdeal.nD Cert.Ffn1GuRefIdeal.τ).loc Cert.Ffn1GuRefIdeal.main_arg4))
      ∧ r.2.sem = fun _ => 0)

def quiescent_Ffn1GuRefIdeal_pre_finite_gu [hFfn1GuRefIdeal : Cert.Ffn1GuRefIdeal.Facts] [hPre_finite_gu : Cert.Pre_finite_gu.Facts] : Prop :=
  ∀ (m : (ℓ : Loc Cert.Ffn1GuRefIdeal.nD Cert.Ffn1GuRefIdeal.τ Cert.Ffn1GuRefIdeal.sig) → Buf (Elt Ideal) ℓ) (g : Dev Cert.Ffn1GuRefIdeal.nD → PrngReg), Pre_Ffn1GuRefIdeal_finite_gu m →
    θ_run (Cert.Ffn1GuRefIdeal.defs (F := Ideal)) (onTc (τ := Cert.Ffn1GuRefIdeal.τ) (Cert.Ffn1GuRefIdeal.main (F := Ideal))) ⟨m, fun _ => 0, g⟩ (fun r => (∀ c : Dev Cert.Ffn1GuRefIdeal.nD,
      r.2.mem ((c.tc : Thread Cert.Ffn1GuRefIdeal.nD Cert.Ffn1GuRefIdeal.τ).loc Cert.Ffn1GuRefIdeal.main_arg0) = m ((c.tc : Thread Cert.Ffn1GuRefIdeal.nD Cert.Ffn1GuRefIdeal.τ).loc Cert.Ffn1GuRefIdeal.main_arg0)
      ∧ r.2.mem ((c.tc : Thread Cert.Ffn1GuRefIdeal.nD Cert.Ffn1GuRefIdeal.τ).loc Cert.Ffn1GuRefIdeal.main_arg1) = m ((c.tc : Thread Cert.Ffn1GuRefIdeal.nD Cert.Ffn1GuRefIdeal.τ).loc Cert.Ffn1GuRefIdeal.main_arg1)
      ∧ r.2.mem ((c.tc : Thread Cert.Ffn1GuRefIdeal.nD Cert.Ffn1GuRefIdeal.τ).loc Cert.Ffn1GuRefIdeal.main_arg2) = m ((c.tc : Thread Cert.Ffn1GuRefIdeal.nD Cert.Ffn1GuRefIdeal.τ).loc Cert.Ffn1GuRefIdeal.main_arg2)
      ∧ r.2.mem ((c.tc : Thread Cert.Ffn1GuRefIdeal.nD Cert.Ffn1GuRefIdeal.τ).loc Cert.Ffn1GuRefIdeal.main_arg3) = m ((c.tc : Thread Cert.Ffn1GuRefIdeal.nD Cert.Ffn1GuRefIdeal.τ).loc Cert.Ffn1GuRefIdeal.main_arg3)
      ∧ r.2.mem ((c.tc : Thread Cert.Ffn1GuRefIdeal.nD Cert.Ffn1GuRefIdeal.τ).loc Cert.Ffn1GuRefIdeal.main_arg4) = m ((c.tc : Thread Cert.Ffn1GuRefIdeal.nD Cert.Ffn1GuRefIdeal.τ).loc Cert.Ffn1GuRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ r.2.sem = fun _ => 0)

def quiescent_MixBwdIdeal_pre_finite_mix [hMixBwdIdeal : Cert.MixBwdIdeal.Facts] [hPre_finite_mix : Cert.Pre_finite_mix.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite_mix m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4))
      ∧ r.2.sem = fun _ => 0)

def quiescent_MixBwdRefIdeal_pre_finite_mix [hMixBwdRefIdeal : Cert.MixBwdRefIdeal.Facts] [hPre_finite_mix : Cert.Pre_finite_mix.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_finite_mix m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4))
      ∧ r.2.sem = fun _ => 0)

def quiescent_DxB [hDxB : Cert.DxB.Facts] : Prop :=
  ∀ (m : (ℓ : Loc Cert.DxB.nD Cert.DxB.τ Cert.DxB.sig) → Buf (Elt Bits) ℓ) (g : Dev Cert.DxB.nD → PrngReg), Pre_DxB m →
    θ_run (Cert.DxB.defs (F := Bits)) (onTc (τ := Cert.DxB.τ) (Cert.DxB.main (F := Bits))) ⟨m, fun _ => 0, g⟩ (fun r => (∀ c : Dev Cert.DxB.nD,
      r.2.mem ((c.tc : Thread Cert.DxB.nD Cert.DxB.τ).loc Cert.DxB.main_arg0) = m ((c.tc : Thread Cert.DxB.nD Cert.DxB.τ).loc Cert.DxB.main_arg0)
      ∧ r.2.mem ((c.tc : Thread Cert.DxB.nD Cert.DxB.τ).loc Cert.DxB.main_arg1) = m ((c.tc : Thread Cert.DxB.nD Cert.DxB.τ).loc Cert.DxB.main_arg1)
      ∧ r.2.mem ((c.tc : Thread Cert.DxB.nD Cert.DxB.τ).loc Cert.DxB.main_arg2) = m ((c.tc : Thread Cert.DxB.nD Cert.DxB.τ).loc Cert.DxB.main_arg2)
      ∧ r.2.mem ((c.tc : Thread Cert.DxB.nD Cert.DxB.τ).loc Cert.DxB.main_arg3) = m ((c.tc : Thread Cert.DxB.nD Cert.DxB.τ).loc Cert.DxB.main_arg3)
      ∧ r.2.mem ((c.tc : Thread Cert.DxB.nD Cert.DxB.τ).loc Cert.DxB.main_arg4) = m ((c.tc : Thread Cert.DxB.nD Cert.DxB.τ).loc Cert.DxB.main_arg4)
      ∧ r.2.mem ((c.tc : Thread Cert.DxB.nD Cert.DxB.τ).loc Cert.DxB.main_arg5) = m ((c.tc : Thread Cert.DxB.nD Cert.DxB.τ).loc Cert.DxB.main_arg5))
      ∧ r.2.sem = fun _ => 0)

def quiescent_DxBIdeal [hDxBIdeal : Cert.DxBIdeal.Facts] : Prop :=
  ∀ (m : (ℓ : Loc Cert.DxBIdeal.nD Cert.DxBIdeal.τ Cert.DxBIdeal.sig) → Buf (Elt Ideal) ℓ) (g : Dev Cert.DxBIdeal.nD → PrngReg), Pre_DxBIdeal m →
    θ_run (Cert.DxBIdeal.defs (F := Ideal)) (onTc (τ := Cert.DxBIdeal.τ) (Cert.DxBIdeal.main (F := Ideal))) ⟨m, fun _ => 0, g⟩ (fun r => (∀ c : Dev Cert.DxBIdeal.nD,
      r.2.mem ((c.tc : Thread Cert.DxBIdeal.nD Cert.DxBIdeal.τ).loc Cert.DxBIdeal.main_arg0) = m ((c.tc : Thread Cert.DxBIdeal.nD Cert.DxBIdeal.τ).loc Cert.DxBIdeal.main_arg0)
      ∧ r.2.mem ((c.tc : Thread Cert.DxBIdeal.nD Cert.DxBIdeal.τ).loc Cert.DxBIdeal.main_arg1) = m ((c.tc : Thread Cert.DxBIdeal.nD Cert.DxBIdeal.τ).loc Cert.DxBIdeal.main_arg1)
      ∧ r.2.mem ((c.tc : Thread Cert.DxBIdeal.nD Cert.DxBIdeal.τ).loc Cert.DxBIdeal.main_arg2) = m ((c.tc : Thread Cert.DxBIdeal.nD Cert.DxBIdeal.τ).loc Cert.DxBIdeal.main_arg2)
      ∧ r.2.mem ((c.tc : Thread Cert.DxBIdeal.nD Cert.DxBIdeal.τ).loc Cert.DxBIdeal.main_arg3) = m ((c.tc : Thread Cert.DxBIdeal.nD Cert.DxBIdeal.τ).loc Cert.DxBIdeal.main_arg3)
      ∧ r.2.mem ((c.tc : Thread Cert.DxBIdeal.nD Cert.DxBIdeal.τ).loc Cert.DxBIdeal.main_arg4) = m ((c.tc : Thread Cert.DxBIdeal.nD Cert.DxBIdeal.τ).loc Cert.DxBIdeal.main_arg4)
      ∧ r.2.mem ((c.tc : Thread Cert.DxBIdeal.nD Cert.DxBIdeal.τ).loc Cert.DxBIdeal.main_arg5) = m ((c.tc : Thread Cert.DxBIdeal.nD Cert.DxBIdeal.τ).loc Cert.DxBIdeal.main_arg5))
      ∧ r.2.sem = fun _ => 0)

def quiescent_DxBIdeal_pre_finite_dxb [hDxBIdeal : Cert.DxBIdeal.Facts] [hPre_finite_dxb : Cert.Pre_finite_dxb.Facts] : Prop :=
  ∀ (m : (ℓ : Loc Cert.DxBIdeal.nD Cert.DxBIdeal.τ Cert.DxBIdeal.sig) → Buf (Elt Ideal) ℓ) (g : Dev Cert.DxBIdeal.nD → PrngReg), Pre_DxBIdeal_finite_dxb m →
    θ_run (Cert.DxBIdeal.defs (F := Ideal)) (onTc (τ := Cert.DxBIdeal.τ) (Cert.DxBIdeal.main (F := Ideal))) ⟨m, fun _ => 0, g⟩ (fun r => (∀ c : Dev Cert.DxBIdeal.nD,
      r.2.mem ((c.tc : Thread Cert.DxBIdeal.nD Cert.DxBIdeal.τ).loc Cert.DxBIdeal.main_arg0) = m ((c.tc : Thread Cert.DxBIdeal.nD Cert.DxBIdeal.τ).loc Cert.DxBIdeal.main_arg0)
      ∧ r.2.mem ((c.tc : Thread Cert.DxBIdeal.nD Cert.DxBIdeal.τ).loc Cert.DxBIdeal.main_arg1) = m ((c.tc : Thread Cert.DxBIdeal.nD Cert.DxBIdeal.τ).loc Cert.DxBIdeal.main_arg1)
      ∧ r.2.mem ((c.tc : Thread Cert.DxBIdeal.nD Cert.DxBIdeal.τ).loc Cert.DxBIdeal.main_arg2) = m ((c.tc : Thread Cert.DxBIdeal.nD Cert.DxBIdeal.τ).loc Cert.DxBIdeal.main_arg2)
      ∧ r.2.mem ((c.tc : Thread Cert.DxBIdeal.nD Cert.DxBIdeal.τ).loc Cert.DxBIdeal.main_arg3) = m ((c.tc : Thread Cert.DxBIdeal.nD Cert.DxBIdeal.τ).loc Cert.DxBIdeal.main_arg3)
      ∧ r.2.mem ((c.tc : Thread Cert.DxBIdeal.nD Cert.DxBIdeal.τ).loc Cert.DxBIdeal.main_arg4) = m ((c.tc : Thread Cert.DxBIdeal.nD Cert.DxBIdeal.τ).loc Cert.DxBIdeal.main_arg4)
      ∧ r.2.mem ((c.tc : Thread Cert.DxBIdeal.nD Cert.DxBIdeal.τ).loc Cert.DxBIdeal.main_arg5) = m ((c.tc : Thread Cert.DxBIdeal.nD Cert.DxBIdeal.τ).loc Cert.DxBIdeal.main_arg5))
      ∧ r.2.sem = fun _ => 0)

def quiescent_DxBRefIdeal [hDxBRefIdeal : Cert.DxBRefIdeal.Facts] : Prop :=
  ∀ (m : (ℓ : Loc Cert.DxBRefIdeal.nD Cert.DxBRefIdeal.τ Cert.DxBRefIdeal.sig) → Buf (Elt Ideal) ℓ) (g : Dev Cert.DxBRefIdeal.nD → PrngReg), Pre_DxBRefIdeal m →
    θ_run (Cert.DxBRefIdeal.defs (F := Ideal)) (onTc (τ := Cert.DxBRefIdeal.τ) (Cert.DxBRefIdeal.main (F := Ideal))) ⟨m, fun _ => 0, g⟩ (fun r => (∀ c : Dev Cert.DxBRefIdeal.nD,
      r.2.mem ((c.tc : Thread Cert.DxBRefIdeal.nD Cert.DxBRefIdeal.τ).loc Cert.DxBRefIdeal.main_arg0) = m ((c.tc : Thread Cert.DxBRefIdeal.nD Cert.DxBRefIdeal.τ).loc Cert.DxBRefIdeal.main_arg0)
      ∧ r.2.mem ((c.tc : Thread Cert.DxBRefIdeal.nD Cert.DxBRefIdeal.τ).loc Cert.DxBRefIdeal.main_arg1) = m ((c.tc : Thread Cert.DxBRefIdeal.nD Cert.DxBRefIdeal.τ).loc Cert.DxBRefIdeal.main_arg1)
      ∧ r.2.mem ((c.tc : Thread Cert.DxBRefIdeal.nD Cert.DxBRefIdeal.τ).loc Cert.DxBRefIdeal.main_arg2) = m ((c.tc : Thread Cert.DxBRefIdeal.nD Cert.DxBRefIdeal.τ).loc Cert.DxBRefIdeal.main_arg2)
      ∧ r.2.mem ((c.tc : Thread Cert.DxBRefIdeal.nD Cert.DxBRefIdeal.τ).loc Cert.DxBRefIdeal.main_arg3) = m ((c.tc : Thread Cert.DxBRefIdeal.nD Cert.DxBRefIdeal.τ).loc Cert.DxBRefIdeal.main_arg3)
      ∧ r.2.mem ((c.tc : Thread Cert.DxBRefIdeal.nD Cert.DxBRefIdeal.τ).loc Cert.DxBRefIdeal.main_arg4) = m ((c.tc : Thread Cert.DxBRefIdeal.nD Cert.DxBRefIdeal.τ).loc Cert.DxBRefIdeal.main_arg4)
      ∧ r.2.mem ((c.tc : Thread Cert.DxBRefIdeal.nD Cert.DxBRefIdeal.τ).loc Cert.DxBRefIdeal.main_arg5) = m ((c.tc : Thread Cert.DxBRefIdeal.nD Cert.DxBRefIdeal.τ).loc Cert.DxBRefIdeal.main_arg5))
      ∧ r.2.sem = fun _ => 0)

def quiescent_DxBRefIdeal_pre_finite_dxb [hDxBRefIdeal : Cert.DxBRefIdeal.Facts] [hPre_finite_dxb : Cert.Pre_finite_dxb.Facts] : Prop :=
  ∀ (m : (ℓ : Loc Cert.DxBRefIdeal.nD Cert.DxBRefIdeal.τ Cert.DxBRefIdeal.sig) → Buf (Elt Ideal) ℓ) (g : Dev Cert.DxBRefIdeal.nD → PrngReg), Pre_DxBRefIdeal_finite_dxb m →
    θ_run (Cert.DxBRefIdeal.defs (F := Ideal)) (onTc (τ := Cert.DxBRefIdeal.τ) (Cert.DxBRefIdeal.main (F := Ideal))) ⟨m, fun _ => 0, g⟩ (fun r => (∀ c : Dev Cert.DxBRefIdeal.nD,
      r.2.mem ((c.tc : Thread Cert.DxBRefIdeal.nD Cert.DxBRefIdeal.τ).loc Cert.DxBRefIdeal.main_arg0) = m ((c.tc : Thread Cert.DxBRefIdeal.nD Cert.DxBRefIdeal.τ).loc Cert.DxBRefIdeal.main_arg0)
      ∧ r.2.mem ((c.tc : Thread Cert.DxBRefIdeal.nD Cert.DxBRefIdeal.τ).loc Cert.DxBRefIdeal.main_arg1) = m ((c.tc : Thread Cert.DxBRefIdeal.nD Cert.DxBRefIdeal.τ).loc Cert.DxBRefIdeal.main_arg1)
      ∧ r.2.mem ((c.tc : Thread Cert.DxBRefIdeal.nD Cert.DxBRefIdeal.τ).loc Cert.DxBRefIdeal.main_arg2) = m ((c.tc : Thread Cert.DxBRefIdeal.nD Cert.DxBRefIdeal.τ).loc Cert.DxBRefIdeal.main_arg2)
      ∧ r.2.mem ((c.tc : Thread Cert.DxBRefIdeal.nD Cert.DxBRefIdeal.τ).loc Cert.DxBRefIdeal.main_arg3) = m ((c.tc : Thread Cert.DxBRefIdeal.nD Cert.DxBRefIdeal.τ).loc Cert.DxBRefIdeal.main_arg3)
      ∧ r.2.mem ((c.tc : Thread Cert.DxBRefIdeal.nD Cert.DxBRefIdeal.τ).loc Cert.DxBRefIdeal.main_arg4) = m ((c.tc : Thread Cert.DxBRefIdeal.nD Cert.DxBRefIdeal.τ).loc Cert.DxBRefIdeal.main_arg4)
      ∧ r.2.mem ((c.tc : Thread Cert.DxBRefIdeal.nD Cert.DxBRefIdeal.τ).loc Cert.DxBRefIdeal.main_arg5) = m ((c.tc : Thread Cert.DxBRefIdeal.nD Cert.DxBRefIdeal.τ).loc Cert.DxBRefIdeal.main_arg5))
      ∧ r.2.sem = fun _ => 0)

def quiescent_DxA [hDxA : Cert.DxA.Facts] : Prop :=
  ∀ (m : (ℓ : Loc Cert.DxA.nD Cert.DxA.τ Cert.DxA.sig) → Buf (Elt Bits) ℓ) (g : Dev Cert.DxA.nD → PrngReg), Pre_DxA m →
    θ_run (Cert.DxA.defs (F := Bits)) (onTc (τ := Cert.DxA.τ) (Cert.DxA.main (F := Bits))) ⟨m, fun _ => 0, g⟩ (fun r => (∀ c : Dev Cert.DxA.nD,
      r.2.mem ((c.tc : Thread Cert.DxA.nD Cert.DxA.τ).loc Cert.DxA.main_arg0) = m ((c.tc : Thread Cert.DxA.nD Cert.DxA.τ).loc Cert.DxA.main_arg0)
      ∧ r.2.mem ((c.tc : Thread Cert.DxA.nD Cert.DxA.τ).loc Cert.DxA.main_arg1) = m ((c.tc : Thread Cert.DxA.nD Cert.DxA.τ).loc Cert.DxA.main_arg1)
      ∧ r.2.mem ((c.tc : Thread Cert.DxA.nD Cert.DxA.τ).loc Cert.DxA.main_arg2) = m ((c.tc : Thread Cert.DxA.nD Cert.DxA.τ).loc Cert.DxA.main_arg2)
      ∧ r.2.mem ((c.tc : Thread Cert.DxA.nD Cert.DxA.τ).loc Cert.DxA.main_arg3) = m ((c.tc : Thread Cert.DxA.nD Cert.DxA.τ).loc Cert.DxA.main_arg3)
      ∧ r.2.mem ((c.tc : Thread Cert.DxA.nD Cert.DxA.τ).loc Cert.DxA.main_arg4) = m ((c.tc : Thread Cert.DxA.nD Cert.DxA.τ).loc Cert.DxA.main_arg4))
      ∧ r.2.sem = fun _ => 0)

def quiescent_DxAIdeal [hDxAIdeal : Cert.DxAIdeal.Facts] : Prop :=
  ∀ (m : (ℓ : Loc Cert.DxAIdeal.nD Cert.DxAIdeal.τ Cert.DxAIdeal.sig) → Buf (Elt Ideal) ℓ) (g : Dev Cert.DxAIdeal.nD → PrngReg), Pre_DxAIdeal m →
    θ_run (Cert.DxAIdeal.defs (F := Ideal)) (onTc (τ := Cert.DxAIdeal.τ) (Cert.DxAIdeal.main (F := Ideal))) ⟨m, fun _ => 0, g⟩ (fun r => (∀ c : Dev Cert.DxAIdeal.nD,
      r.2.mem ((c.tc : Thread Cert.DxAIdeal.nD Cert.DxAIdeal.τ).loc Cert.DxAIdeal.main_arg0) = m ((c.tc : Thread Cert.DxAIdeal.nD Cert.DxAIdeal.τ).loc Cert.DxAIdeal.main_arg0)
      ∧ r.2.mem ((c.tc : Thread Cert.DxAIdeal.nD Cert.DxAIdeal.τ).loc Cert.DxAIdeal.main_arg1) = m ((c.tc : Thread Cert.DxAIdeal.nD Cert.DxAIdeal.τ).loc Cert.DxAIdeal.main_arg1)
      ∧ r.2.mem ((c.tc : Thread Cert.DxAIdeal.nD Cert.DxAIdeal.τ).loc Cert.DxAIdeal.main_arg2) = m ((c.tc : Thread Cert.DxAIdeal.nD Cert.DxAIdeal.τ).loc Cert.DxAIdeal.main_arg2)
      ∧ r.2.mem ((c.tc : Thread Cert.DxAIdeal.nD Cert.DxAIdeal.τ).loc Cert.DxAIdeal.main_arg3) = m ((c.tc : Thread Cert.DxAIdeal.nD Cert.DxAIdeal.τ).loc Cert.DxAIdeal.main_arg3)
      ∧ r.2.mem ((c.tc : Thread Cert.DxAIdeal.nD Cert.DxAIdeal.τ).loc Cert.DxAIdeal.main_arg4) = m ((c.tc : Thread Cert.DxAIdeal.nD Cert.DxAIdeal.τ).loc Cert.DxAIdeal.main_arg4))
      ∧ r.2.sem = fun _ => 0)

def quiescent_DxAIdeal_pre_finite_dxa [hDxAIdeal : Cert.DxAIdeal.Facts] [hPre_finite_dxa : Cert.Pre_finite_dxa.Facts] : Prop :=
  ∀ (m : (ℓ : Loc Cert.DxAIdeal.nD Cert.DxAIdeal.τ Cert.DxAIdeal.sig) → Buf (Elt Ideal) ℓ) (g : Dev Cert.DxAIdeal.nD → PrngReg), Pre_DxAIdeal_finite_dxa m →
    θ_run (Cert.DxAIdeal.defs (F := Ideal)) (onTc (τ := Cert.DxAIdeal.τ) (Cert.DxAIdeal.main (F := Ideal))) ⟨m, fun _ => 0, g⟩ (fun r => (∀ c : Dev Cert.DxAIdeal.nD,
      r.2.mem ((c.tc : Thread Cert.DxAIdeal.nD Cert.DxAIdeal.τ).loc Cert.DxAIdeal.main_arg0) = m ((c.tc : Thread Cert.DxAIdeal.nD Cert.DxAIdeal.τ).loc Cert.DxAIdeal.main_arg0)
      ∧ r.2.mem ((c.tc : Thread Cert.DxAIdeal.nD Cert.DxAIdeal.τ).loc Cert.DxAIdeal.main_arg1) = m ((c.tc : Thread Cert.DxAIdeal.nD Cert.DxAIdeal.τ).loc Cert.DxAIdeal.main_arg1)
      ∧ r.2.mem ((c.tc : Thread Cert.DxAIdeal.nD Cert.DxAIdeal.τ).loc Cert.DxAIdeal.main_arg2) = m ((c.tc : Thread Cert.DxAIdeal.nD Cert.DxAIdeal.τ).loc Cert.DxAIdeal.main_arg2)
      ∧ r.2.mem ((c.tc : Thread Cert.DxAIdeal.nD Cert.DxAIdeal.τ).loc Cert.DxAIdeal.main_arg3) = m ((c.tc : Thread Cert.DxAIdeal.nD Cert.DxAIdeal.τ).loc Cert.DxAIdeal.main_arg3)
      ∧ r.2.mem ((c.tc : Thread Cert.DxAIdeal.nD Cert.DxAIdeal.τ).loc Cert.DxAIdeal.main_arg4) = m ((c.tc : Thread Cert.DxAIdeal.nD Cert.DxAIdeal.τ).loc Cert.DxAIdeal.main_arg4))
      ∧ r.2.sem = fun _ => 0)

def quiescent_DxARefIdeal [hDxARefIdeal : Cert.DxARefIdeal.Facts] : Prop :=
  ∀ (m : (ℓ : Loc Cert.DxARefIdeal.nD Cert.DxARefIdeal.τ Cert.DxARefIdeal.sig) → Buf (Elt Ideal) ℓ) (g : Dev Cert.DxARefIdeal.nD → PrngReg), Pre_DxARefIdeal m →
    θ_run (Cert.DxARefIdeal.defs (F := Ideal)) (onTc (τ := Cert.DxARefIdeal.τ) (Cert.DxARefIdeal.main (F := Ideal))) ⟨m, fun _ => 0, g⟩ (fun r => (∀ c : Dev Cert.DxARefIdeal.nD,
      r.2.mem ((c.tc : Thread Cert.DxARefIdeal.nD Cert.DxARefIdeal.τ).loc Cert.DxARefIdeal.main_arg0) = m ((c.tc : Thread Cert.DxARefIdeal.nD Cert.DxARefIdeal.τ).loc Cert.DxARefIdeal.main_arg0)
      ∧ r.2.mem ((c.tc : Thread Cert.DxARefIdeal.nD Cert.DxARefIdeal.τ).loc Cert.DxARefIdeal.main_arg1) = m ((c.tc : Thread Cert.DxARefIdeal.nD Cert.DxARefIdeal.τ).loc Cert.DxARefIdeal.main_arg1)
      ∧ r.2.mem ((c.tc : Thread Cert.DxARefIdeal.nD Cert.DxARefIdeal.τ).loc Cert.DxARefIdeal.main_arg2) = m ((c.tc : Thread Cert.DxARefIdeal.nD Cert.DxARefIdeal.τ).loc Cert.DxARefIdeal.main_arg2)
      ∧ r.2.mem ((c.tc : Thread Cert.DxARefIdeal.nD Cert.DxARefIdeal.τ).loc Cert.DxARefIdeal.main_arg3) = m ((c.tc : Thread Cert.DxARefIdeal.nD Cert.DxARefIdeal.τ).loc Cert.DxARefIdeal.main_arg3)
      ∧ r.2.mem ((c.tc : Thread Cert.DxARefIdeal.nD Cert.DxARefIdeal.τ).loc Cert.DxARefIdeal.main_arg4) = m ((c.tc : Thread Cert.DxARefIdeal.nD Cert.DxARefIdeal.τ).loc Cert.DxARefIdeal.main_arg4))
      ∧ r.2.sem = fun _ => 0)

def quiescent_DxARefIdeal_pre_finite_dxa [hDxARefIdeal : Cert.DxARefIdeal.Facts] [hPre_finite_dxa : Cert.Pre_finite_dxa.Facts] : Prop :=
  ∀ (m : (ℓ : Loc Cert.DxARefIdeal.nD Cert.DxARefIdeal.τ Cert.DxARefIdeal.sig) → Buf (Elt Ideal) ℓ) (g : Dev Cert.DxARefIdeal.nD → PrngReg), Pre_DxARefIdeal_finite_dxa m →
    θ_run (Cert.DxARefIdeal.defs (F := Ideal)) (onTc (τ := Cert.DxARefIdeal.τ) (Cert.DxARefIdeal.main (F := Ideal))) ⟨m, fun _ => 0, g⟩ (fun r => (∀ c : Dev Cert.DxARefIdeal.nD,
      r.2.mem ((c.tc : Thread Cert.DxARefIdeal.nD Cert.DxARefIdeal.τ).loc Cert.DxARefIdeal.main_arg0) = m ((c.tc : Thread Cert.DxARefIdeal.nD Cert.DxARefIdeal.τ).loc Cert.DxARefIdeal.main_arg0)
      ∧ r.2.mem ((c.tc : Thread Cert.DxARefIdeal.nD Cert.DxARefIdeal.τ).loc Cert.DxARefIdeal.main_arg1) = m ((c.tc : Thread Cert.DxARefIdeal.nD Cert.DxARefIdeal.τ).loc Cert.DxARefIdeal.main_arg1)
      ∧ r.2.mem ((c.tc : Thread Cert.DxARefIdeal.nD Cert.DxARefIdeal.τ).loc Cert.DxARefIdeal.main_arg2) = m ((c.tc : Thread Cert.DxARefIdeal.nD Cert.DxARefIdeal.τ).loc Cert.DxARefIdeal.main_arg2)
      ∧ r.2.mem ((c.tc : Thread Cert.DxARefIdeal.nD Cert.DxARefIdeal.τ).loc Cert.DxARefIdeal.main_arg3) = m ((c.tc : Thread Cert.DxARefIdeal.nD Cert.DxARefIdeal.τ).loc Cert.DxARefIdeal.main_arg3)
      ∧ r.2.mem ((c.tc : Thread Cert.DxARefIdeal.nD Cert.DxARefIdeal.τ).loc Cert.DxARefIdeal.main_arg4) = m ((c.tc : Thread Cert.DxARefIdeal.nD Cert.DxARefIdeal.τ).loc Cert.DxARefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Ffn2Bwd [hFfn2Bwd : Cert.Ffn2Bwd.Facts] : Prop :=
  ∀ (m : (ℓ : Loc Cert.Ffn2Bwd.nD Cert.Ffn2Bwd.τ Cert.Ffn2Bwd.sig) → Buf (Elt Bits) ℓ) (g : Dev Cert.Ffn2Bwd.nD → PrngReg), Pre_Ffn2Bwd m →
    θ_run (Cert.Ffn2Bwd.defs (F := Bits)) (onTc (τ := Cert.Ffn2Bwd.τ) (Cert.Ffn2Bwd.main (F := Bits))) ⟨m, fun _ => 0, g⟩ (fun r => (∀ c : Dev Cert.Ffn2Bwd.nD,
      r.2.mem ((c.tc : Thread Cert.Ffn2Bwd.nD Cert.Ffn2Bwd.τ).loc Cert.Ffn2Bwd.main_arg0) = m ((c.tc : Thread Cert.Ffn2Bwd.nD Cert.Ffn2Bwd.τ).loc Cert.Ffn2Bwd.main_arg0)
      ∧ r.2.mem ((c.tc : Thread Cert.Ffn2Bwd.nD Cert.Ffn2Bwd.τ).loc Cert.Ffn2Bwd.main_arg1) = m ((c.tc : Thread Cert.Ffn2Bwd.nD Cert.Ffn2Bwd.τ).loc Cert.Ffn2Bwd.main_arg1)
      ∧ r.2.mem ((c.tc : Thread Cert.Ffn2Bwd.nD Cert.Ffn2Bwd.τ).loc Cert.Ffn2Bwd.main_arg2) = m ((c.tc : Thread Cert.Ffn2Bwd.nD Cert.Ffn2Bwd.τ).loc Cert.Ffn2Bwd.main_arg2)
      ∧ r.2.mem ((c.tc : Thread Cert.Ffn2Bwd.nD Cert.Ffn2Bwd.τ).loc Cert.Ffn2Bwd.main_arg3) = m ((c.tc : Thread Cert.Ffn2Bwd.nD Cert.Ffn2Bwd.τ).loc Cert.Ffn2Bwd.main_arg3)
      ∧ r.2.mem ((c.tc : Thread Cert.Ffn2Bwd.nD Cert.Ffn2Bwd.τ).loc Cert.Ffn2Bwd.main_arg4) = m ((c.tc : Thread Cert.Ffn2Bwd.nD Cert.Ffn2Bwd.τ).loc Cert.Ffn2Bwd.main_arg4))
      ∧ r.2.sem = fun _ => 0)

def quiescent_Ffn2BwdIdeal [hFfn2BwdIdeal : Cert.Ffn2BwdIdeal.Facts] : Prop :=
  ∀ (m : (ℓ : Loc Cert.Ffn2BwdIdeal.nD Cert.Ffn2BwdIdeal.τ Cert.Ffn2BwdIdeal.sig) → Buf (Elt Ideal) ℓ) (g : Dev Cert.Ffn2BwdIdeal.nD → PrngReg), Pre_Ffn2BwdIdeal m →
    θ_run (Cert.Ffn2BwdIdeal.defs (F := Ideal)) (onTc (τ := Cert.Ffn2BwdIdeal.τ) (Cert.Ffn2BwdIdeal.main (F := Ideal))) ⟨m, fun _ => 0, g⟩ (fun r => (∀ c : Dev Cert.Ffn2BwdIdeal.nD,
      r.2.mem ((c.tc : Thread Cert.Ffn2BwdIdeal.nD Cert.Ffn2BwdIdeal.τ).loc Cert.Ffn2BwdIdeal.main_arg0) = m ((c.tc : Thread Cert.Ffn2BwdIdeal.nD Cert.Ffn2BwdIdeal.τ).loc Cert.Ffn2BwdIdeal.main_arg0)
      ∧ r.2.mem ((c.tc : Thread Cert.Ffn2BwdIdeal.nD Cert.Ffn2BwdIdeal.τ).loc Cert.Ffn2BwdIdeal.main_arg1) = m ((c.tc : Thread Cert.Ffn2BwdIdeal.nD Cert.Ffn2BwdIdeal.τ).loc Cert.Ffn2BwdIdeal.main_arg1)
      ∧ r.2.mem ((c.tc : Thread Cert.Ffn2BwdIdeal.nD Cert.Ffn2BwdIdeal.τ).loc Cert.Ffn2BwdIdeal.main_arg2) = m ((c.tc : Thread Cert.Ffn2BwdIdeal.nD Cert.Ffn2BwdIdeal.τ).loc Cert.Ffn2BwdIdeal.main_arg2)
      ∧ r.2.mem ((c.tc : Thread Cert.Ffn2BwdIdeal.nD Cert.Ffn2BwdIdeal.τ).loc Cert.Ffn2BwdIdeal.main_arg3) = m ((c.tc : Thread Cert.Ffn2BwdIdeal.nD Cert.Ffn2BwdIdeal.τ).loc Cert.Ffn2BwdIdeal.main_arg3)
      ∧ r.2.mem ((c.tc : Thread Cert.Ffn2BwdIdeal.nD Cert.Ffn2BwdIdeal.τ).loc Cert.Ffn2BwdIdeal.main_arg4) = m ((c.tc : Thread Cert.Ffn2BwdIdeal.nD Cert.Ffn2BwdIdeal.τ).loc Cert.Ffn2BwdIdeal.main_arg4))
      ∧ r.2.sem = fun _ => 0)

def quiescent_Ffn2BwdIdeal_pre_finite_ffn2 [hFfn2BwdIdeal : Cert.Ffn2BwdIdeal.Facts] [hPre_finite_ffn2 : Cert.Pre_finite_ffn2.Facts] : Prop :=
  ∀ (m : (ℓ : Loc Cert.Ffn2BwdIdeal.nD Cert.Ffn2BwdIdeal.τ Cert.Ffn2BwdIdeal.sig) → Buf (Elt Ideal) ℓ) (g : Dev Cert.Ffn2BwdIdeal.nD → PrngReg), Pre_Ffn2BwdIdeal_finite_ffn2 m →
    θ_run (Cert.Ffn2BwdIdeal.defs (F := Ideal)) (onTc (τ := Cert.Ffn2BwdIdeal.τ) (Cert.Ffn2BwdIdeal.main (F := Ideal))) ⟨m, fun _ => 0, g⟩ (fun r => (∀ c : Dev Cert.Ffn2BwdIdeal.nD,
      r.2.mem ((c.tc : Thread Cert.Ffn2BwdIdeal.nD Cert.Ffn2BwdIdeal.τ).loc Cert.Ffn2BwdIdeal.main_arg0) = m ((c.tc : Thread Cert.Ffn2BwdIdeal.nD Cert.Ffn2BwdIdeal.τ).loc Cert.Ffn2BwdIdeal.main_arg0)
      ∧ r.2.mem ((c.tc : Thread Cert.Ffn2BwdIdeal.nD Cert.Ffn2BwdIdeal.τ).loc Cert.Ffn2BwdIdeal.main_arg1) = m ((c.tc : Thread Cert.Ffn2BwdIdeal.nD Cert.Ffn2BwdIdeal.τ).loc Cert.Ffn2BwdIdeal.main_arg1)
      ∧ r.2.mem ((c.tc : Thread Cert.Ffn2BwdIdeal.nD Cert.Ffn2BwdIdeal.τ).loc Cert.Ffn2BwdIdeal.main_arg2) = m ((c.tc : Thread Cert.Ffn2BwdIdeal.nD Cert.Ffn2BwdIdeal.τ).loc Cert.Ffn2BwdIdeal.main_arg2)
      ∧ r.2.mem ((c.tc : Thread Cert.Ffn2BwdIdeal.nD Cert.Ffn2BwdIdeal.τ).loc Cert.Ffn2BwdIdeal.main_arg3) = m ((c.tc : Thread Cert.Ffn2BwdIdeal.nD Cert.Ffn2BwdIdeal.τ).loc Cert.Ffn2BwdIdeal.main_arg3)
      ∧ r.2.mem ((c.tc : Thread Cert.Ffn2BwdIdeal.nD Cert.Ffn2BwdIdeal.τ).loc Cert.Ffn2BwdIdeal.main_arg4) = m ((c.tc : Thread Cert.Ffn2BwdIdeal.nD Cert.Ffn2BwdIdeal.τ).loc Cert.Ffn2BwdIdeal.main_arg4))
      ∧ r.2.sem = fun _ => 0)

def quiescent_Ffn2BwdRefIdeal [hFfn2BwdRefIdeal : Cert.Ffn2BwdRefIdeal.Facts] : Prop :=
  ∀ (m : (ℓ : Loc Cert.Ffn2BwdRefIdeal.nD Cert.Ffn2BwdRefIdeal.τ Cert.Ffn2BwdRefIdeal.sig) → Buf (Elt Ideal) ℓ) (g : Dev Cert.Ffn2BwdRefIdeal.nD → PrngReg), Pre_Ffn2BwdRefIdeal m →
    θ_run (Cert.Ffn2BwdRefIdeal.defs (F := Ideal)) (onTc (τ := Cert.Ffn2BwdRefIdeal.τ) (Cert.Ffn2BwdRefIdeal.main (F := Ideal))) ⟨m, fun _ => 0, g⟩ (fun r => (∀ c : Dev Cert.Ffn2BwdRefIdeal.nD,
      r.2.mem ((c.tc : Thread Cert.Ffn2BwdRefIdeal.nD Cert.Ffn2BwdRefIdeal.τ).loc Cert.Ffn2BwdRefIdeal.main_arg0) = m ((c.tc : Thread Cert.Ffn2BwdRefIdeal.nD Cert.Ffn2BwdRefIdeal.τ).loc Cert.Ffn2BwdRefIdeal.main_arg0)
      ∧ r.2.mem ((c.tc : Thread Cert.Ffn2BwdRefIdeal.nD Cert.Ffn2BwdRefIdeal.τ).loc Cert.Ffn2BwdRefIdeal.main_arg1) = m ((c.tc : Thread Cert.Ffn2BwdRefIdeal.nD Cert.Ffn2BwdRefIdeal.τ).loc Cert.Ffn2BwdRefIdeal.main_arg1)
      ∧ r.2.mem ((c.tc : Thread Cert.Ffn2BwdRefIdeal.nD Cert.Ffn2BwdRefIdeal.τ).loc Cert.Ffn2BwdRefIdeal.main_arg2) = m ((c.tc : Thread Cert.Ffn2BwdRefIdeal.nD Cert.Ffn2BwdRefIdeal.τ).loc Cert.Ffn2BwdRefIdeal.main_arg2)
      ∧ r.2.mem ((c.tc : Thread Cert.Ffn2BwdRefIdeal.nD Cert.Ffn2BwdRefIdeal.τ).loc Cert.Ffn2BwdRefIdeal.main_arg3) = m ((c.tc : Thread Cert.Ffn2BwdRefIdeal.nD Cert.Ffn2BwdRefIdeal.τ).loc Cert.Ffn2BwdRefIdeal.main_arg3)
      ∧ r.2.mem ((c.tc : Thread Cert.Ffn2BwdRefIdeal.nD Cert.Ffn2BwdRefIdeal.τ).loc Cert.Ffn2BwdRefIdeal.main_arg4) = m ((c.tc : Thread Cert.Ffn2BwdRefIdeal.nD Cert.Ffn2BwdRefIdeal.τ).loc Cert.Ffn2BwdRefIdeal.main_arg4))
      ∧ r.2.sem = fun _ => 0)

def quiescent_Ffn2BwdRefIdeal_pre_finite_ffn2 [hFfn2BwdRefIdeal : Cert.Ffn2BwdRefIdeal.Facts] [hPre_finite_ffn2 : Cert.Pre_finite_ffn2.Facts] : Prop :=
  ∀ (m : (ℓ : Loc Cert.Ffn2BwdRefIdeal.nD Cert.Ffn2BwdRefIdeal.τ Cert.Ffn2BwdRefIdeal.sig) → Buf (Elt Ideal) ℓ) (g : Dev Cert.Ffn2BwdRefIdeal.nD → PrngReg), Pre_Ffn2BwdRefIdeal_finite_ffn2 m →
    θ_run (Cert.Ffn2BwdRefIdeal.defs (F := Ideal)) (onTc (τ := Cert.Ffn2BwdRefIdeal.τ) (Cert.Ffn2BwdRefIdeal.main (F := Ideal))) ⟨m, fun _ => 0, g⟩ (fun r => (∀ c : Dev Cert.Ffn2BwdRefIdeal.nD,
      r.2.mem ((c.tc : Thread Cert.Ffn2BwdRefIdeal.nD Cert.Ffn2BwdRefIdeal.τ).loc Cert.Ffn2BwdRefIdeal.main_arg0) = m ((c.tc : Thread Cert.Ffn2BwdRefIdeal.nD Cert.Ffn2BwdRefIdeal.τ).loc Cert.Ffn2BwdRefIdeal.main_arg0)
      ∧ r.2.mem ((c.tc : Thread Cert.Ffn2BwdRefIdeal.nD Cert.Ffn2BwdRefIdeal.τ).loc Cert.Ffn2BwdRefIdeal.main_arg1) = m ((c.tc : Thread Cert.Ffn2BwdRefIdeal.nD Cert.Ffn2BwdRefIdeal.τ).loc Cert.Ffn2BwdRefIdeal.main_arg1)
      ∧ r.2.mem ((c.tc : Thread Cert.Ffn2BwdRefIdeal.nD Cert.Ffn2BwdRefIdeal.τ).loc Cert.Ffn2BwdRefIdeal.main_arg2) = m ((c.tc : Thread Cert.Ffn2BwdRefIdeal.nD Cert.Ffn2BwdRefIdeal.τ).loc Cert.Ffn2BwdRefIdeal.main_arg2)
      ∧ r.2.mem ((c.tc : Thread Cert.Ffn2BwdRefIdeal.nD Cert.Ffn2BwdRefIdeal.τ).loc Cert.Ffn2BwdRefIdeal.main_arg3) = m ((c.tc : Thread Cert.Ffn2BwdRefIdeal.nD Cert.Ffn2BwdRefIdeal.τ).loc Cert.Ffn2BwdRefIdeal.main_arg3)
      ∧ r.2.mem ((c.tc : Thread Cert.Ffn2BwdRefIdeal.nD Cert.Ffn2BwdRefIdeal.τ).loc Cert.Ffn2BwdRefIdeal.main_arg4) = m ((c.tc : Thread Cert.Ffn2BwdRefIdeal.nD Cert.Ffn2BwdRefIdeal.τ).loc Cert.Ffn2BwdRefIdeal.main_arg4))
      ∧ r.2.sem = fun _ => 0)

def quiescent_Ffn2Head [hFfn2Head : Cert.Ffn2Head.Facts] : Prop :=
  ∀ (m : (ℓ : Loc Cert.Ffn2Head.nD Cert.Ffn2Head.τ Cert.Ffn2Head.sig) → Buf (Elt Bits) ℓ) (g : Dev Cert.Ffn2Head.nD → PrngReg), Pre_Ffn2Head m →
    θ_run (Cert.Ffn2Head.defs (F := Bits)) (onTc (τ := Cert.Ffn2Head.τ) (Cert.Ffn2Head.main (F := Bits))) ⟨m, fun _ => 0, g⟩ (fun r => (∀ c : Dev Cert.Ffn2Head.nD,
      r.2.mem ((c.tc : Thread Cert.Ffn2Head.nD Cert.Ffn2Head.τ).loc Cert.Ffn2Head.main_arg0) = m ((c.tc : Thread Cert.Ffn2Head.nD Cert.Ffn2Head.τ).loc Cert.Ffn2Head.main_arg0)
      ∧ r.2.mem ((c.tc : Thread Cert.Ffn2Head.nD Cert.Ffn2Head.τ).loc Cert.Ffn2Head.main_arg1) = m ((c.tc : Thread Cert.Ffn2Head.nD Cert.Ffn2Head.τ).loc Cert.Ffn2Head.main_arg1)
      ∧ r.2.mem ((c.tc : Thread Cert.Ffn2Head.nD Cert.Ffn2Head.τ).loc Cert.Ffn2Head.main_arg2) = m ((c.tc : Thread Cert.Ffn2Head.nD Cert.Ffn2Head.τ).loc Cert.Ffn2Head.main_arg2)
      ∧ r.2.mem ((c.tc : Thread Cert.Ffn2Head.nD Cert.Ffn2Head.τ).loc Cert.Ffn2Head.main_arg3) = m ((c.tc : Thread Cert.Ffn2Head.nD Cert.Ffn2Head.τ).loc Cert.Ffn2Head.main_arg3)
      ∧ r.2.mem ((c.tc : Thread Cert.Ffn2Head.nD Cert.Ffn2Head.τ).loc Cert.Ffn2Head.main_arg4) = m ((c.tc : Thread Cert.Ffn2Head.nD Cert.Ffn2Head.τ).loc Cert.Ffn2Head.main_arg4)
      ∧ r.2.mem ((c.tc : Thread Cert.Ffn2Head.nD Cert.Ffn2Head.τ).loc Cert.Ffn2Head.main_arg5) = m ((c.tc : Thread Cert.Ffn2Head.nD Cert.Ffn2Head.τ).loc Cert.Ffn2Head.main_arg5))
      ∧ r.2.sem = fun _ => 0)

def quiescent_Ffn2HeadIdeal [hFfn2HeadIdeal : Cert.Ffn2HeadIdeal.Facts] : Prop :=
  ∀ (m : (ℓ : Loc Cert.Ffn2HeadIdeal.nD Cert.Ffn2HeadIdeal.τ Cert.Ffn2HeadIdeal.sig) → Buf (Elt Ideal) ℓ) (g : Dev Cert.Ffn2HeadIdeal.nD → PrngReg), Pre_Ffn2HeadIdeal m →
    θ_run (Cert.Ffn2HeadIdeal.defs (F := Ideal)) (onTc (τ := Cert.Ffn2HeadIdeal.τ) (Cert.Ffn2HeadIdeal.main (F := Ideal))) ⟨m, fun _ => 0, g⟩ (fun r => (∀ c : Dev Cert.Ffn2HeadIdeal.nD,
      r.2.mem ((c.tc : Thread Cert.Ffn2HeadIdeal.nD Cert.Ffn2HeadIdeal.τ).loc Cert.Ffn2HeadIdeal.main_arg0) = m ((c.tc : Thread Cert.Ffn2HeadIdeal.nD Cert.Ffn2HeadIdeal.τ).loc Cert.Ffn2HeadIdeal.main_arg0)
      ∧ r.2.mem ((c.tc : Thread Cert.Ffn2HeadIdeal.nD Cert.Ffn2HeadIdeal.τ).loc Cert.Ffn2HeadIdeal.main_arg1) = m ((c.tc : Thread Cert.Ffn2HeadIdeal.nD Cert.Ffn2HeadIdeal.τ).loc Cert.Ffn2HeadIdeal.main_arg1)
      ∧ r.2.mem ((c.tc : Thread Cert.Ffn2HeadIdeal.nD Cert.Ffn2HeadIdeal.τ).loc Cert.Ffn2HeadIdeal.main_arg2) = m ((c.tc : Thread Cert.Ffn2HeadIdeal.nD Cert.Ffn2HeadIdeal.τ).loc Cert.Ffn2HeadIdeal.main_arg2)
      ∧ r.2.mem ((c.tc : Thread Cert.Ffn2HeadIdeal.nD Cert.Ffn2HeadIdeal.τ).loc Cert.Ffn2HeadIdeal.main_arg3) = m ((c.tc : Thread Cert.Ffn2HeadIdeal.nD Cert.Ffn2HeadIdeal.τ).loc Cert.Ffn2HeadIdeal.main_arg3)
      ∧ r.2.mem ((c.tc : Thread Cert.Ffn2HeadIdeal.nD Cert.Ffn2HeadIdeal.τ).loc Cert.Ffn2HeadIdeal.main_arg4) = m ((c.tc : Thread Cert.Ffn2HeadIdeal.nD Cert.Ffn2HeadIdeal.τ).loc Cert.Ffn2HeadIdeal.main_arg4)
      ∧ r.2.mem ((c.tc : Thread Cert.Ffn2HeadIdeal.nD Cert.Ffn2HeadIdeal.τ).loc Cert.Ffn2HeadIdeal.main_arg5) = m ((c.tc : Thread Cert.Ffn2HeadIdeal.nD Cert.Ffn2HeadIdeal.τ).loc Cert.Ffn2HeadIdeal.main_arg5))
      ∧ r.2.sem = fun _ => 0)

def quiescent_Ffn2HeadIdeal_pre_finite_head [hFfn2HeadIdeal : Cert.Ffn2HeadIdeal.Facts] [hPre_finite_head : Cert.Pre_finite_head.Facts] : Prop :=
  ∀ (m : (ℓ : Loc Cert.Ffn2HeadIdeal.nD Cert.Ffn2HeadIdeal.τ Cert.Ffn2HeadIdeal.sig) → Buf (Elt Ideal) ℓ) (g : Dev Cert.Ffn2HeadIdeal.nD → PrngReg), Pre_Ffn2HeadIdeal_finite_head m →
    θ_run (Cert.Ffn2HeadIdeal.defs (F := Ideal)) (onTc (τ := Cert.Ffn2HeadIdeal.τ) (Cert.Ffn2HeadIdeal.main (F := Ideal))) ⟨m, fun _ => 0, g⟩ (fun r => (∀ c : Dev Cert.Ffn2HeadIdeal.nD,
      r.2.mem ((c.tc : Thread Cert.Ffn2HeadIdeal.nD Cert.Ffn2HeadIdeal.τ).loc Cert.Ffn2HeadIdeal.main_arg0) = m ((c.tc : Thread Cert.Ffn2HeadIdeal.nD Cert.Ffn2HeadIdeal.τ).loc Cert.Ffn2HeadIdeal.main_arg0)
      ∧ r.2.mem ((c.tc : Thread Cert.Ffn2HeadIdeal.nD Cert.Ffn2HeadIdeal.τ).loc Cert.Ffn2HeadIdeal.main_arg1) = m ((c.tc : Thread Cert.Ffn2HeadIdeal.nD Cert.Ffn2HeadIdeal.τ).loc Cert.Ffn2HeadIdeal.main_arg1)
      ∧ r.2.mem ((c.tc : Thread Cert.Ffn2HeadIdeal.nD Cert.Ffn2HeadIdeal.τ).loc Cert.Ffn2HeadIdeal.main_arg2) = m ((c.tc : Thread Cert.Ffn2HeadIdeal.nD Cert.Ffn2HeadIdeal.τ).loc Cert.Ffn2HeadIdeal.main_arg2)
      ∧ r.2.mem ((c.tc : Thread Cert.Ffn2HeadIdeal.nD Cert.Ffn2HeadIdeal.τ).loc Cert.Ffn2HeadIdeal.main_arg3) = m ((c.tc : Thread Cert.Ffn2HeadIdeal.nD Cert.Ffn2HeadIdeal.τ).loc Cert.Ffn2HeadIdeal.main_arg3)
      ∧ r.2.mem ((c.tc : Thread Cert.Ffn2HeadIdeal.nD Cert.Ffn2HeadIdeal.τ).loc Cert.Ffn2HeadIdeal.main_arg4) = m ((c.tc : Thread Cert.Ffn2HeadIdeal.nD Cert.Ffn2HeadIdeal.τ).loc Cert.Ffn2HeadIdeal.main_arg4)
      ∧ r.2.mem ((c.tc : Thread Cert.Ffn2HeadIdeal.nD Cert.Ffn2HeadIdeal.τ).loc Cert.Ffn2HeadIdeal.main_arg5) = m ((c.tc : Thread Cert.Ffn2HeadIdeal.nD Cert.Ffn2HeadIdeal.τ).loc Cert.Ffn2HeadIdeal.main_arg5))
      ∧ r.2.sem = fun _ => 0)

def quiescent_Ffn2HeadRefIdeal [hFfn2HeadRefIdeal : Cert.Ffn2HeadRefIdeal.Facts] : Prop :=
  ∀ (m : (ℓ : Loc Cert.Ffn2HeadRefIdeal.nD Cert.Ffn2HeadRefIdeal.τ Cert.Ffn2HeadRefIdeal.sig) → Buf (Elt Ideal) ℓ) (g : Dev Cert.Ffn2HeadRefIdeal.nD → PrngReg), Pre_Ffn2HeadRefIdeal m →
    θ_run (Cert.Ffn2HeadRefIdeal.defs (F := Ideal)) (onTc (τ := Cert.Ffn2HeadRefIdeal.τ) (Cert.Ffn2HeadRefIdeal.main (F := Ideal))) ⟨m, fun _ => 0, g⟩ (fun r => (∀ c : Dev Cert.Ffn2HeadRefIdeal.nD,
      r.2.mem ((c.tc : Thread Cert.Ffn2HeadRefIdeal.nD Cert.Ffn2HeadRefIdeal.τ).loc Cert.Ffn2HeadRefIdeal.main_arg0) = m ((c.tc : Thread Cert.Ffn2HeadRefIdeal.nD Cert.Ffn2HeadRefIdeal.τ).loc Cert.Ffn2HeadRefIdeal.main_arg0)
      ∧ r.2.mem ((c.tc : Thread Cert.Ffn2HeadRefIdeal.nD Cert.Ffn2HeadRefIdeal.τ).loc Cert.Ffn2HeadRefIdeal.main_arg1) = m ((c.tc : Thread Cert.Ffn2HeadRefIdeal.nD Cert.Ffn2HeadRefIdeal.τ).loc Cert.Ffn2HeadRefIdeal.main_arg1)
      ∧ r.2.mem ((c.tc : Thread Cert.Ffn2HeadRefIdeal.nD Cert.Ffn2HeadRefIdeal.τ).loc Cert.Ffn2HeadRefIdeal.main_arg2) = m ((c.tc : Thread Cert.Ffn2HeadRefIdeal.nD Cert.Ffn2HeadRefIdeal.τ).loc Cert.Ffn2HeadRefIdeal.main_arg2)
      ∧ r.2.mem ((c.tc : Thread Cert.Ffn2HeadRefIdeal.nD Cert.Ffn2HeadRefIdeal.τ).loc Cert.Ffn2HeadRefIdeal.main_arg3) = m ((c.tc : Thread Cert.Ffn2HeadRefIdeal.nD Cert.Ffn2HeadRefIdeal.τ).loc Cert.Ffn2HeadRefIdeal.main_arg3)
      ∧ r.2.mem ((c.tc : Thread Cert.Ffn2HeadRefIdeal.nD Cert.Ffn2HeadRefIdeal.τ).loc Cert.Ffn2HeadRefIdeal.main_arg4) = m ((c.tc : Thread Cert.Ffn2HeadRefIdeal.nD Cert.Ffn2HeadRefIdeal.τ).loc Cert.Ffn2HeadRefIdeal.main_arg4)
      ∧ r.2.mem ((c.tc : Thread Cert.Ffn2HeadRefIdeal.nD Cert.Ffn2HeadRefIdeal.τ).loc Cert.Ffn2HeadRefIdeal.main_arg5) = m ((c.tc : Thread Cert.Ffn2HeadRefIdeal.nD Cert.Ffn2HeadRefIdeal.τ).loc Cert.Ffn2HeadRefIdeal.main_arg5))
      ∧ r.2.sem = fun _ => 0)

def quiescent_Ffn2HeadRefIdeal_pre_finite_head [hFfn2HeadRefIdeal : Cert.Ffn2HeadRefIdeal.Facts] [hPre_finite_head : Cert.Pre_finite_head.Facts] : Prop :=
  ∀ (m : (ℓ : Loc Cert.Ffn2HeadRefIdeal.nD Cert.Ffn2HeadRefIdeal.τ Cert.Ffn2HeadRefIdeal.sig) → Buf (Elt Ideal) ℓ) (g : Dev Cert.Ffn2HeadRefIdeal.nD → PrngReg), Pre_Ffn2HeadRefIdeal_finite_head m →
    θ_run (Cert.Ffn2HeadRefIdeal.defs (F := Ideal)) (onTc (τ := Cert.Ffn2HeadRefIdeal.τ) (Cert.Ffn2HeadRefIdeal.main (F := Ideal))) ⟨m, fun _ => 0, g⟩ (fun r => (∀ c : Dev Cert.Ffn2HeadRefIdeal.nD,
      r.2.mem ((c.tc : Thread Cert.Ffn2HeadRefIdeal.nD Cert.Ffn2HeadRefIdeal.τ).loc Cert.Ffn2HeadRefIdeal.main_arg0) = m ((c.tc : Thread Cert.Ffn2HeadRefIdeal.nD Cert.Ffn2HeadRefIdeal.τ).loc Cert.Ffn2HeadRefIdeal.main_arg0)
      ∧ r.2.mem ((c.tc : Thread Cert.Ffn2HeadRefIdeal.nD Cert.Ffn2HeadRefIdeal.τ).loc Cert.Ffn2HeadRefIdeal.main_arg1) = m ((c.tc : Thread Cert.Ffn2HeadRefIdeal.nD Cert.Ffn2HeadRefIdeal.τ).loc Cert.Ffn2HeadRefIdeal.main_arg1)
      ∧ r.2.mem ((c.tc : Thread Cert.Ffn2HeadRefIdeal.nD Cert.Ffn2HeadRefIdeal.τ).loc Cert.Ffn2HeadRefIdeal.main_arg2) = m ((c.tc : Thread Cert.Ffn2HeadRefIdeal.nD Cert.Ffn2HeadRefIdeal.τ).loc Cert.Ffn2HeadRefIdeal.main_arg2)
      ∧ r.2.mem ((c.tc : Thread Cert.Ffn2HeadRefIdeal.nD Cert.Ffn2HeadRefIdeal.τ).loc Cert.Ffn2HeadRefIdeal.main_arg3) = m ((c.tc : Thread Cert.Ffn2HeadRefIdeal.nD Cert.Ffn2HeadRefIdeal.τ).loc Cert.Ffn2HeadRefIdeal.main_arg3)
      ∧ r.2.mem ((c.tc : Thread Cert.Ffn2HeadRefIdeal.nD Cert.Ffn2HeadRefIdeal.τ).loc Cert.Ffn2HeadRefIdeal.main_arg4) = m ((c.tc : Thread Cert.Ffn2HeadRefIdeal.nD Cert.Ffn2HeadRefIdeal.τ).loc Cert.Ffn2HeadRefIdeal.main_arg4)
      ∧ r.2.mem ((c.tc : Thread Cert.Ffn2HeadRefIdeal.nD Cert.Ffn2HeadRefIdeal.τ).loc Cert.Ffn2HeadRefIdeal.main_arg5) = m ((c.tc : Thread Cert.Ffn2HeadRefIdeal.nD Cert.Ffn2HeadRefIdeal.τ).loc Cert.Ffn2HeadRefIdeal.main_arg5))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2))
      ∧ r.2.sem = fun _ => 0)

def quiescent_Ffn1Fwd [hFfn1Fwd : Cert.Ffn1Fwd.Facts] : Prop :=
  ∀ (m : (ℓ : Loc Cert.Ffn1Fwd.nD Cert.Ffn1Fwd.τ Cert.Ffn1Fwd.sig) → Buf (Elt Bits) ℓ) (g : Dev Cert.Ffn1Fwd.nD → PrngReg), Pre_Ffn1Fwd m →
    θ_run (Cert.Ffn1Fwd.defs (F := Bits)) (onTc (τ := Cert.Ffn1Fwd.τ) (Cert.Ffn1Fwd.main (F := Bits))) ⟨m, fun _ => 0, g⟩ (fun r => (∀ c : Dev Cert.Ffn1Fwd.nD,
      r.2.mem ((c.tc : Thread Cert.Ffn1Fwd.nD Cert.Ffn1Fwd.τ).loc Cert.Ffn1Fwd.main_arg0) = m ((c.tc : Thread Cert.Ffn1Fwd.nD Cert.Ffn1Fwd.τ).loc Cert.Ffn1Fwd.main_arg0)
      ∧ r.2.mem ((c.tc : Thread Cert.Ffn1Fwd.nD Cert.Ffn1Fwd.τ).loc Cert.Ffn1Fwd.main_arg1) = m ((c.tc : Thread Cert.Ffn1Fwd.nD Cert.Ffn1Fwd.τ).loc Cert.Ffn1Fwd.main_arg1)
      ∧ r.2.mem ((c.tc : Thread Cert.Ffn1Fwd.nD Cert.Ffn1Fwd.τ).loc Cert.Ffn1Fwd.main_arg2) = m ((c.tc : Thread Cert.Ffn1Fwd.nD Cert.Ffn1Fwd.τ).loc Cert.Ffn1Fwd.main_arg2)
      ∧ r.2.mem ((c.tc : Thread Cert.Ffn1Fwd.nD Cert.Ffn1Fwd.τ).loc Cert.Ffn1Fwd.main_arg3) = m ((c.tc : Thread Cert.Ffn1Fwd.nD Cert.Ffn1Fwd.τ).loc Cert.Ffn1Fwd.main_arg3))
      ∧ r.2.sem = fun _ => 0)

def quiescent_Ffn1FwdIdeal [hFfn1FwdIdeal : Cert.Ffn1FwdIdeal.Facts] : Prop :=
  ∀ (m : (ℓ : Loc Cert.Ffn1FwdIdeal.nD Cert.Ffn1FwdIdeal.τ Cert.Ffn1FwdIdeal.sig) → Buf (Elt Ideal) ℓ) (g : Dev Cert.Ffn1FwdIdeal.nD → PrngReg), Pre_Ffn1FwdIdeal m →
    θ_run (Cert.Ffn1FwdIdeal.defs (F := Ideal)) (onTc (τ := Cert.Ffn1FwdIdeal.τ) (Cert.Ffn1FwdIdeal.main (F := Ideal))) ⟨m, fun _ => 0, g⟩ (fun r => (∀ c : Dev Cert.Ffn1FwdIdeal.nD,
      r.2.mem ((c.tc : Thread Cert.Ffn1FwdIdeal.nD Cert.Ffn1FwdIdeal.τ).loc Cert.Ffn1FwdIdeal.main_arg0) = m ((c.tc : Thread Cert.Ffn1FwdIdeal.nD Cert.Ffn1FwdIdeal.τ).loc Cert.Ffn1FwdIdeal.main_arg0)
      ∧ r.2.mem ((c.tc : Thread Cert.Ffn1FwdIdeal.nD Cert.Ffn1FwdIdeal.τ).loc Cert.Ffn1FwdIdeal.main_arg1) = m ((c.tc : Thread Cert.Ffn1FwdIdeal.nD Cert.Ffn1FwdIdeal.τ).loc Cert.Ffn1FwdIdeal.main_arg1)
      ∧ r.2.mem ((c.tc : Thread Cert.Ffn1FwdIdeal.nD Cert.Ffn1FwdIdeal.τ).loc Cert.Ffn1FwdIdeal.main_arg2) = m ((c.tc : Thread Cert.Ffn1FwdIdeal.nD Cert.Ffn1FwdIdeal.τ).loc Cert.Ffn1FwdIdeal.main_arg2)
      ∧ r.2.mem ((c.tc : Thread Cert.Ffn1FwdIdeal.nD Cert.Ffn1FwdIdeal.τ).loc Cert.Ffn1FwdIdeal.main_arg3) = m ((c.tc : Thread Cert.Ffn1FwdIdeal.nD Cert.Ffn1FwdIdeal.τ).loc Cert.Ffn1FwdIdeal.main_arg3))
      ∧ r.2.sem = fun _ => 0)

def quiescent_Ffn1FwdRefIdeal [hFfn1FwdRefIdeal : Cert.Ffn1FwdRefIdeal.Facts] : Prop :=
  ∀ (m : (ℓ : Loc Cert.Ffn1FwdRefIdeal.nD Cert.Ffn1FwdRefIdeal.τ Cert.Ffn1FwdRefIdeal.sig) → Buf (Elt Ideal) ℓ) (g : Dev Cert.Ffn1FwdRefIdeal.nD → PrngReg), Pre_Ffn1FwdRefIdeal m →
    θ_run (Cert.Ffn1FwdRefIdeal.defs (F := Ideal)) (onTc (τ := Cert.Ffn1FwdRefIdeal.τ) (Cert.Ffn1FwdRefIdeal.main (F := Ideal))) ⟨m, fun _ => 0, g⟩ (fun r => (∀ c : Dev Cert.Ffn1FwdRefIdeal.nD,
      r.2.mem ((c.tc : Thread Cert.Ffn1FwdRefIdeal.nD Cert.Ffn1FwdRefIdeal.τ).loc Cert.Ffn1FwdRefIdeal.main_arg0) = m ((c.tc : Thread Cert.Ffn1FwdRefIdeal.nD Cert.Ffn1FwdRefIdeal.τ).loc Cert.Ffn1FwdRefIdeal.main_arg0)
      ∧ r.2.mem ((c.tc : Thread Cert.Ffn1FwdRefIdeal.nD Cert.Ffn1FwdRefIdeal.τ).loc Cert.Ffn1FwdRefIdeal.main_arg1) = m ((c.tc : Thread Cert.Ffn1FwdRefIdeal.nD Cert.Ffn1FwdRefIdeal.τ).loc Cert.Ffn1FwdRefIdeal.main_arg1)
      ∧ r.2.mem ((c.tc : Thread Cert.Ffn1FwdRefIdeal.nD Cert.Ffn1FwdRefIdeal.τ).loc Cert.Ffn1FwdRefIdeal.main_arg2) = m ((c.tc : Thread Cert.Ffn1FwdRefIdeal.nD Cert.Ffn1FwdRefIdeal.τ).loc Cert.Ffn1FwdRefIdeal.main_arg2)
      ∧ r.2.mem ((c.tc : Thread Cert.Ffn1FwdRefIdeal.nD Cert.Ffn1FwdRefIdeal.τ).loc Cert.Ffn1FwdRefIdeal.main_arg3) = m ((c.tc : Thread Cert.Ffn1FwdRefIdeal.nD Cert.Ffn1FwdRefIdeal.τ).loc Cert.Ffn1FwdRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_MixDy [hMixDy : Cert.MixDy.Facts] : Prop :=
  ∀ (m : (ℓ : Loc Cert.MixDy.nD Cert.MixDy.τ Cert.MixDy.sig) → Buf (Elt Bits) ℓ) (g : Dev Cert.MixDy.nD → PrngReg), Pre_MixDy m →
    θ_run (Cert.MixDy.defs (F := Bits)) (onTc (τ := Cert.MixDy.τ) (Cert.MixDy.main (F := Bits))) ⟨m, fun _ => 0, g⟩ (fun r => (∀ c : Dev Cert.MixDy.nD,
      r.2.mem ((c.tc : Thread Cert.MixDy.nD Cert.MixDy.τ).loc Cert.MixDy.main_arg0) = m ((c.tc : Thread Cert.MixDy.nD Cert.MixDy.τ).loc Cert.MixDy.main_arg0)
      ∧ r.2.mem ((c.tc : Thread Cert.MixDy.nD Cert.MixDy.τ).loc Cert.MixDy.main_arg1) = m ((c.tc : Thread Cert.MixDy.nD Cert.MixDy.τ).loc Cert.MixDy.main_arg1))
      ∧ r.2.sem = fun _ => 0)

def quiescent_MixDyIdeal [hMixDyIdeal : Cert.MixDyIdeal.Facts] : Prop :=
  ∀ (m : (ℓ : Loc Cert.MixDyIdeal.nD Cert.MixDyIdeal.τ Cert.MixDyIdeal.sig) → Buf (Elt Ideal) ℓ) (g : Dev Cert.MixDyIdeal.nD → PrngReg), Pre_MixDyIdeal m →
    θ_run (Cert.MixDyIdeal.defs (F := Ideal)) (onTc (τ := Cert.MixDyIdeal.τ) (Cert.MixDyIdeal.main (F := Ideal))) ⟨m, fun _ => 0, g⟩ (fun r => (∀ c : Dev Cert.MixDyIdeal.nD,
      r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
      ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1))
      ∧ r.2.sem = fun _ => 0)

def quiescent_MixDyRefIdeal [hMixDyRefIdeal : Cert.MixDyRefIdeal.Facts] : Prop :=
  ∀ (m : (ℓ : Loc Cert.MixDyRefIdeal.nD Cert.MixDyRefIdeal.τ Cert.MixDyRefIdeal.sig) → Buf (Elt Ideal) ℓ) (g : Dev Cert.MixDyRefIdeal.nD → PrngReg), Pre_MixDyRefIdeal m →
    θ_run (Cert.MixDyRefIdeal.defs (F := Ideal)) (onTc (τ := Cert.MixDyRefIdeal.τ) (Cert.MixDyRefIdeal.main (F := Ideal))) ⟨m, fun _ => 0, g⟩ (fun r => (∀ c : Dev Cert.MixDyRefIdeal.nD,
      r.2.mem ((c.tc : Thread Cert.MixDyRefIdeal.nD Cert.MixDyRefIdeal.τ).loc Cert.MixDyRefIdeal.main_arg0) = m ((c.tc : Thread Cert.MixDyRefIdeal.nD Cert.MixDyRefIdeal.τ).loc Cert.MixDyRefIdeal.main_arg0)
      ∧ r.2.mem ((c.tc : Thread Cert.MixDyRefIdeal.nD Cert.MixDyRefIdeal.τ).loc Cert.MixDyRefIdeal.main_arg1) = m ((c.tc : Thread Cert.MixDyRefIdeal.nD Cert.MixDyRefIdeal.τ).loc Cert.MixDyRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3)
      ∧ r.2.mem ((c.tc : Thread Cert.GlaBwd.nD Cert.GlaBwd.τ).loc Cert.GlaBwd.main_arg4) = m ((c.tc : Thread Cert.GlaBwd.nD Cert.GlaBwd.τ).loc Cert.GlaBwd.main_arg4)
      ∧ r.2.mem ((c.tc : Thread Cert.GlaBwd.nD Cert.GlaBwd.τ).loc Cert.GlaBwd.main_arg5) = m ((c.tc : Thread Cert.GlaBwd.nD Cert.GlaBwd.τ).loc Cert.GlaBwd.main_arg5)
      ∧ r.2.mem ((c.tc : Thread Cert.GlaBwd.nD Cert.GlaBwd.τ).loc Cert.GlaBwd.main_arg6) = m ((c.tc : Thread Cert.GlaBwd.nD Cert.GlaBwd.τ).loc Cert.GlaBwd.main_arg6))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
      ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5)
      ∧ r.2.mem ((c.tc : Thread Cert.GlaBwdIdeal.nD Cert.GlaBwdIdeal.τ).loc Cert.GlaBwdIdeal.main_arg6) = m ((c.tc : Thread Cert.GlaBwdIdeal.nD Cert.GlaBwdIdeal.τ).loc Cert.GlaBwdIdeal.main_arg6))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3))
      ∧ r.2.sem = fun _ => 0)

def preserves_Ffn1Gu_Ffn1GuIdeal : Prop :=
  True

def algebraic_Ffn1GuIdeal_Ffn1GuRefIdeal_pre_finite_gu [hFfn1GuIdeal : Cert.Ffn1GuIdeal.Facts] [hFfn1GuRefIdeal : Cert.Ffn1GuRefIdeal.Facts] [hPre_finite_gu : Cert.Pre_finite_gu.Facts] : Prop :=
  ∀ (m : (ℓ : Loc Cert.Ffn1GuIdeal.nD Cert.Ffn1GuIdeal.τ Cert.Ffn1GuIdeal.sig) → Buf (Elt Ideal) ℓ) (g : Dev Cert.Ffn1GuIdeal.nD → PrngReg)
    (m' : (ℓ : Loc Cert.Ffn1GuRefIdeal.nD Cert.Ffn1GuRefIdeal.τ Cert.Ffn1GuRefIdeal.sig) → Buf (Elt Ideal) ℓ) (g' : Dev Cert.Ffn1GuRefIdeal.nD → PrngReg), Pre_Ffn1GuIdeal_finite_gu m →
    (∀ c : Dev Cert.Ffn1GuIdeal.nD,
      m' ((c.tc : Thread Cert.Ffn1GuRefIdeal.nD Cert.Ffn1GuRefIdeal.τ).loc Cert.Ffn1GuRefIdeal.main_arg0) = m ((c.tc : Thread Cert.Ffn1GuIdeal.nD Cert.Ffn1GuIdeal.τ).loc Cert.Ffn1GuIdeal.main_arg0)
      ∧ m' ((c.tc : Thread Cert.Ffn1GuRefIdeal.nD Cert.Ffn1GuRefIdeal.τ).loc Cert.Ffn1GuRefIdeal.main_arg1) = m ((c.tc : Thread Cert.Ffn1GuIdeal.nD Cert.Ffn1GuIdeal.τ).loc Cert.Ffn1GuIdeal.main_arg1)
      ∧ m' ((c.tc : Thread Cert.Ffn1GuRefIdeal.nD Cert.Ffn1GuRefIdeal.τ).loc Cert.Ffn1GuRefIdeal.main_arg2) = m ((c.tc : Thread Cert.Ffn1GuIdeal.nD Cert.Ffn1GuIdeal.τ).loc Cert.Ffn1GuIdeal.main_arg2)
      ∧ m' ((c.tc : Thread Cert.Ffn1GuRefIdeal.nD Cert.Ffn1GuRefIdeal.τ).loc Cert.Ffn1GuRefIdeal.main_arg3) = m ((c.tc : Thread Cert.Ffn1GuIdeal.nD Cert.Ffn1GuIdeal.τ).loc Cert.Ffn1GuIdeal.main_arg3)
      ∧ m' ((c.tc : Thread Cert.Ffn1GuRefIdeal.nD Cert.Ffn1GuRefIdeal.τ).loc Cert.Ffn1GuRefIdeal.main_arg4) = m ((c.tc : Thread Cert.Ffn1GuIdeal.nD Cert.Ffn1GuIdeal.τ).loc Cert.Ffn1GuIdeal.main_arg4)) →
    ∃ (v0 : (c : Dev Cert.Ffn1GuIdeal.nD) → Buf (Elt Ideal) ((c.tc : Thread Cert.Ffn1GuIdeal.nD Cert.Ffn1GuIdeal.τ).loc Cert.Ffn1GuIdeal.main_v30_0)) (v1 : (c : Dev Cert.Ffn1GuIdeal.nD) → Buf (Elt Ideal) ((c.tc : Thread Cert.Ffn1GuIdeal.nD Cert.Ffn1GuIdeal.τ).loc Cert.Ffn1GuIdeal.main_v30_1)),
      θ_run (Cert.Ffn1GuIdeal.defs (F := Ideal)) (onTc (τ := Cert.Ffn1GuIdeal.τ) (Cert.Ffn1GuIdeal.main (F := Ideal))) ⟨m, fun _ => 0, g⟩ (fun r => ∀ c : Dev Cert.Ffn1GuIdeal.nD,
          r.2.mem ((c.tc : Thread Cert.Ffn1GuIdeal.nD Cert.Ffn1GuIdeal.τ).loc Cert.Ffn1GuIdeal.main_v30_0) = v0 c
          ∧ r.2.mem ((c.tc : Thread Cert.Ffn1GuIdeal.nD Cert.Ffn1GuIdeal.τ).loc Cert.Ffn1GuIdeal.main_v30_1) = v1 c
          ∧ r.2.mem ((c.tc : Thread Cert.Ffn1GuIdeal.nD Cert.Ffn1GuIdeal.τ).loc Cert.Ffn1GuIdeal.main_arg0) = m ((c.tc : Thread Cert.Ffn1GuIdeal.nD Cert.Ffn1GuIdeal.τ).loc Cert.Ffn1GuIdeal.main_arg0)
          ∧ r.2.mem ((c.tc : Thread Cert.Ffn1GuIdeal.nD Cert.Ffn1GuIdeal.τ).loc Cert.Ffn1GuIdeal.main_arg1) = m ((c.tc : Thread Cert.Ffn1GuIdeal.nD Cert.Ffn1GuIdeal.τ).loc Cert.Ffn1GuIdeal.main_arg1)
          ∧ r.2.mem ((c.tc : Thread Cert.Ffn1GuIdeal.nD Cert.Ffn1GuIdeal.τ).loc Cert.Ffn1GuIdeal.main_arg2) = m ((c.tc : Thread Cert.Ffn1GuIdeal.nD Cert.Ffn1GuIdeal.τ).loc Cert.Ffn1GuIdeal.main_arg2)
          ∧ r.2.mem ((c.tc : Thread Cert.Ffn1GuIdeal.nD Cert.Ffn1GuIdeal.τ).loc Cert.Ffn1GuIdeal.main_arg3) = m ((c.tc : Thread Cert.Ffn1GuIdeal.nD Cert.Ffn1GuIdeal.τ).loc Cert.Ffn1GuIdeal.main_arg3)
          ∧ r.2.mem ((c.tc : Thread Cert.Ffn1GuIdeal.nD Cert.Ffn1GuIdeal.τ).loc Cert.Ffn1GuIdeal.main_arg4) = m ((c.tc : Thread Cert.Ffn1GuIdeal.nD Cert.Ffn1GuIdeal.τ).loc Cert.Ffn1GuIdeal.main_arg4))
      ∧ θ_run (Cert.Ffn1GuRefIdeal.defs (F := Ideal)) (onTc (τ := Cert.Ffn1GuRefIdeal.τ) (Cert.Ffn1GuRefIdeal.main (F := Ideal))) ⟨m', fun _ => 0, g'⟩ (fun r => ∀ c : Dev Cert.Ffn1GuRefIdeal.nD,
          r.2.mem ((c.tc : Thread Cert.Ffn1GuRefIdeal.nD Cert.Ffn1GuRefIdeal.τ).loc Cert.Ffn1GuRefIdeal.main_v43) = v0 c
          ∧ r.2.mem ((c.tc : Thread Cert.Ffn1GuRefIdeal.nD Cert.Ffn1GuRefIdeal.τ).loc Cert.Ffn1GuRefIdeal.main_v45) = v1 c
          ∧ r.2.mem ((c.tc : Thread Cert.Ffn1GuRefIdeal.nD Cert.Ffn1GuRefIdeal.τ).loc Cert.Ffn1GuRefIdeal.main_arg0) = m' ((c.tc : Thread Cert.Ffn1GuRefIdeal.nD Cert.Ffn1GuRefIdeal.τ).loc Cert.Ffn1GuRefIdeal.main_arg0)
          ∧ r.2.mem ((c.tc : Thread Cert.Ffn1GuRefIdeal.nD Cert.Ffn1GuRefIdeal.τ).loc Cert.Ffn1GuRefIdeal.main_arg1) = m' ((c.tc : Thread Cert.Ffn1GuRefIdeal.nD Cert.Ffn1GuRefIdeal.τ).loc Cert.Ffn1GuRefIdeal.main_arg1)
          ∧ r.2.mem ((c.tc : Thread Cert.Ffn1GuRefIdeal.nD Cert.Ffn1GuRefIdeal.τ).loc Cert.Ffn1GuRefIdeal.main_arg2) = m' ((c.tc : Thread Cert.Ffn1GuRefIdeal.nD Cert.Ffn1GuRefIdeal.τ).loc Cert.Ffn1GuRefIdeal.main_arg2)
          ∧ r.2.mem ((c.tc : Thread Cert.Ffn1GuRefIdeal.nD Cert.Ffn1GuRefIdeal.τ).loc Cert.Ffn1GuRefIdeal.main_arg3) = m' ((c.tc : Thread Cert.Ffn1GuRefIdeal.nD Cert.Ffn1GuRefIdeal.τ).loc Cert.Ffn1GuRefIdeal.main_arg3)
          ∧ r.2.mem ((c.tc : Thread Cert.Ffn1GuRefIdeal.nD Cert.Ffn1GuRefIdeal.τ).loc Cert.Ffn1GuRefIdeal.main_arg4) = m' ((c.tc : Thread Cert.Ffn1GuRefIdeal.nD Cert.Ffn1GuRefIdeal.τ).loc Cert.Ffn1GuRefIdeal.main_arg4))

def preserves_MixBwd_MixBwdIdeal : Prop :=
  True

def algebraic_MixBwdIdeal_MixBwdRefIdeal_pre_finite_mix [hMixBwdIdeal : Cert.MixBwdIdeal.Facts] [hMixBwdRefIdeal : Cert.MixBwdRefIdeal.Facts] [hPre_finite_mix : Cert.Pre_finite_mix.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_finite_mix m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)) →
    ∃ (v0 : (c : Dev Cert.MixBwdIdeal.nD) → Buf (Elt Ideal) ((c.tc : Thread Cert.MixBwdIdeal.nD Cert.MixBwdIdeal.τ).loc Cert.MixBwdIdeal.main_v10_0)) (v1 : (c : Dev Cert.MixBwdIdeal.nD) → Buf (Elt Ideal) ((c.tc : Thread Cert.MixBwdIdeal.nD Cert.MixBwdIdeal.τ).loc Cert.MixBwdIdeal.main_v10_1)) (v2 : (c : Dev Cert.MixBwdIdeal.nD) → Buf (Elt Ideal) ((c.tc : Thread Cert.MixBwdIdeal.nD Cert.MixBwdIdeal.τ).loc Cert.MixBwdIdeal.main_v10_2)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v10_0) = v0 c
          ∧ r.2.mem ((c.tc : Thread Cert.MixBwdIdeal.nD Cert.MixBwdIdeal.τ).loc Cert.MixBwdIdeal.main_v10_1) = v1 c
          ∧ r.2.mem ((c.tc : Thread Cert.MixBwdIdeal.nD Cert.MixBwdIdeal.τ).loc Cert.MixBwdIdeal.main_v10_2) = v2 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v43) = v0 c
          ∧ r.2.mem ((c.tc : Thread Cert.MixBwdRefIdeal.nD Cert.MixBwdRefIdeal.τ).loc Cert.MixBwdRefIdeal.main_v41) = v1 c
          ∧ r.2.mem ((c.tc : Thread Cert.MixBwdRefIdeal.nD Cert.MixBwdRefIdeal.τ).loc Cert.MixBwdRefIdeal.main_v47) = v2 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4))

def preserves_DxB_DxBIdeal : Prop :=
  True

def algebraic_DxBIdeal_DxBRefIdeal_pre_finite_dxb [hDxBIdeal : Cert.DxBIdeal.Facts] [hDxBRefIdeal : Cert.DxBRefIdeal.Facts] [hPre_finite_dxb : Cert.Pre_finite_dxb.Facts] : Prop :=
  ∀ (m : (ℓ : Loc Cert.DxBIdeal.nD Cert.DxBIdeal.τ Cert.DxBIdeal.sig) → Buf (Elt Ideal) ℓ) (g : Dev Cert.DxBIdeal.nD → PrngReg)
    (m' : (ℓ : Loc Cert.DxBRefIdeal.nD Cert.DxBRefIdeal.τ Cert.DxBRefIdeal.sig) → Buf (Elt Ideal) ℓ) (g' : Dev Cert.DxBRefIdeal.nD → PrngReg), Pre_DxBIdeal_finite_dxb m →
    (∀ c : Dev Cert.DxBIdeal.nD,
      m' ((c.tc : Thread Cert.DxBRefIdeal.nD Cert.DxBRefIdeal.τ).loc Cert.DxBRefIdeal.main_arg0) = m ((c.tc : Thread Cert.DxBIdeal.nD Cert.DxBIdeal.τ).loc Cert.DxBIdeal.main_arg0)
      ∧ m' ((c.tc : Thread Cert.DxBRefIdeal.nD Cert.DxBRefIdeal.τ).loc Cert.DxBRefIdeal.main_arg1) = m ((c.tc : Thread Cert.DxBIdeal.nD Cert.DxBIdeal.τ).loc Cert.DxBIdeal.main_arg1)
      ∧ m' ((c.tc : Thread Cert.DxBRefIdeal.nD Cert.DxBRefIdeal.τ).loc Cert.DxBRefIdeal.main_arg2) = m ((c.tc : Thread Cert.DxBIdeal.nD Cert.DxBIdeal.τ).loc Cert.DxBIdeal.main_arg2)
      ∧ m' ((c.tc : Thread Cert.DxBRefIdeal.nD Cert.DxBRefIdeal.τ).loc Cert.DxBRefIdeal.main_arg3) = m ((c.tc : Thread Cert.DxBIdeal.nD Cert.DxBIdeal.τ).loc Cert.DxBIdeal.main_arg3)
      ∧ m' ((c.tc : Thread Cert.DxBRefIdeal.nD Cert.DxBRefIdeal.τ).loc Cert.DxBRefIdeal.main_arg4) = m ((c.tc : Thread Cert.DxBIdeal.nD Cert.DxBIdeal.τ).loc Cert.DxBIdeal.main_arg4)
      ∧ m' ((c.tc : Thread Cert.DxBRefIdeal.nD Cert.DxBRefIdeal.τ).loc Cert.DxBRefIdeal.main_arg5) = m ((c.tc : Thread Cert.DxBIdeal.nD Cert.DxBIdeal.τ).loc Cert.DxBIdeal.main_arg5)) →
    ∃ (v0 : (c : Dev Cert.DxBIdeal.nD) → Buf (Elt Ideal) ((c.tc : Thread Cert.DxBIdeal.nD Cert.DxBIdeal.τ).loc Cert.DxBIdeal.main_v12_0)) (v1 : (c : Dev Cert.DxBIdeal.nD) → Buf (Elt Ideal) ((c.tc : Thread Cert.DxBIdeal.nD Cert.DxBIdeal.τ).loc Cert.DxBIdeal.main_v12_1)),
      θ_run (Cert.DxBIdeal.defs (F := Ideal)) (onTc (τ := Cert.DxBIdeal.τ) (Cert.DxBIdeal.main (F := Ideal))) ⟨m, fun _ => 0, g⟩ (fun r => ∀ c : Dev Cert.DxBIdeal.nD,
          r.2.mem ((c.tc : Thread Cert.DxBIdeal.nD Cert.DxBIdeal.τ).loc Cert.DxBIdeal.main_v12_0) = v0 c
          ∧ r.2.mem ((c.tc : Thread Cert.DxBIdeal.nD Cert.DxBIdeal.τ).loc Cert.DxBIdeal.main_v12_1) = v1 c
          ∧ r.2.mem ((c.tc : Thread Cert.DxBIdeal.nD Cert.DxBIdeal.τ).loc Cert.DxBIdeal.main_arg0) = m ((c.tc : Thread Cert.DxBIdeal.nD Cert.DxBIdeal.τ).loc Cert.DxBIdeal.main_arg0)
          ∧ r.2.mem ((c.tc : Thread Cert.DxBIdeal.nD Cert.DxBIdeal.τ).loc Cert.DxBIdeal.main_arg1) = m ((c.tc : Thread Cert.DxBIdeal.nD Cert.DxBIdeal.τ).loc Cert.DxBIdeal.main_arg1)
          ∧ r.2.mem ((c.tc : Thread Cert.DxBIdeal.nD Cert.DxBIdeal.τ).loc Cert.DxBIdeal.main_arg2) = m ((c.tc : Thread Cert.DxBIdeal.nD Cert.DxBIdeal.τ).loc Cert.DxBIdeal.main_arg2)
          ∧ r.2.mem ((c.tc : Thread Cert.DxBIdeal.nD Cert.DxBIdeal.τ).loc Cert.DxBIdeal.main_arg3) = m ((c.tc : Thread Cert.DxBIdeal.nD Cert.DxBIdeal.τ).loc Cert.DxBIdeal.main_arg3)
          ∧ r.2.mem ((c.tc : Thread Cert.DxBIdeal.nD Cert.DxBIdeal.τ).loc Cert.DxBIdeal.main_arg4) = m ((c.tc : Thread Cert.DxBIdeal.nD Cert.DxBIdeal.τ).loc Cert.DxBIdeal.main_arg4)
          ∧ r.2.mem ((c.tc : Thread Cert.DxBIdeal.nD Cert.DxBIdeal.τ).loc Cert.DxBIdeal.main_arg5) = m ((c.tc : Thread Cert.DxBIdeal.nD Cert.DxBIdeal.τ).loc Cert.DxBIdeal.main_arg5))
      ∧ θ_run (Cert.DxBRefIdeal.defs (F := Ideal)) (onTc (τ := Cert.DxBRefIdeal.τ) (Cert.DxBRefIdeal.main (F := Ideal))) ⟨m', fun _ => 0, g'⟩ (fun r => ∀ c : Dev Cert.DxBRefIdeal.nD,
          r.2.mem ((c.tc : Thread Cert.DxBRefIdeal.nD Cert.DxBRefIdeal.τ).loc Cert.DxBRefIdeal.main_v48) = v0 c
          ∧ r.2.mem ((c.tc : Thread Cert.DxBRefIdeal.nD Cert.DxBRefIdeal.τ).loc Cert.DxBRefIdeal.main_v43) = v1 c
          ∧ r.2.mem ((c.tc : Thread Cert.DxBRefIdeal.nD Cert.DxBRefIdeal.τ).loc Cert.DxBRefIdeal.main_arg0) = m' ((c.tc : Thread Cert.DxBRefIdeal.nD Cert.DxBRefIdeal.τ).loc Cert.DxBRefIdeal.main_arg0)
          ∧ r.2.mem ((c.tc : Thread Cert.DxBRefIdeal.nD Cert.DxBRefIdeal.τ).loc Cert.DxBRefIdeal.main_arg1) = m' ((c.tc : Thread Cert.DxBRefIdeal.nD Cert.DxBRefIdeal.τ).loc Cert.DxBRefIdeal.main_arg1)
          ∧ r.2.mem ((c.tc : Thread Cert.DxBRefIdeal.nD Cert.DxBRefIdeal.τ).loc Cert.DxBRefIdeal.main_arg2) = m' ((c.tc : Thread Cert.DxBRefIdeal.nD Cert.DxBRefIdeal.τ).loc Cert.DxBRefIdeal.main_arg2)
          ∧ r.2.mem ((c.tc : Thread Cert.DxBRefIdeal.nD Cert.DxBRefIdeal.τ).loc Cert.DxBRefIdeal.main_arg3) = m' ((c.tc : Thread Cert.DxBRefIdeal.nD Cert.DxBRefIdeal.τ).loc Cert.DxBRefIdeal.main_arg3)
          ∧ r.2.mem ((c.tc : Thread Cert.DxBRefIdeal.nD Cert.DxBRefIdeal.τ).loc Cert.DxBRefIdeal.main_arg4) = m' ((c.tc : Thread Cert.DxBRefIdeal.nD Cert.DxBRefIdeal.τ).loc Cert.DxBRefIdeal.main_arg4)
          ∧ r.2.mem ((c.tc : Thread Cert.DxBRefIdeal.nD Cert.DxBRefIdeal.τ).loc Cert.DxBRefIdeal.main_arg5) = m' ((c.tc : Thread Cert.DxBRefIdeal.nD Cert.DxBRefIdeal.τ).loc Cert.DxBRefIdeal.main_arg5))

def preserves_DxA_DxAIdeal : Prop :=
  True

def algebraic_DxAIdeal_DxARefIdeal_pre_finite_dxa [hDxAIdeal : Cert.DxAIdeal.Facts] [hDxARefIdeal : Cert.DxARefIdeal.Facts] [hPre_finite_dxa : Cert.Pre_finite_dxa.Facts] : Prop :=
  ∀ (m : (ℓ : Loc Cert.DxAIdeal.nD Cert.DxAIdeal.τ Cert.DxAIdeal.sig) → Buf (Elt Ideal) ℓ) (g : Dev Cert.DxAIdeal.nD → PrngReg)
    (m' : (ℓ : Loc Cert.DxARefIdeal.nD Cert.DxARefIdeal.τ Cert.DxARefIdeal.sig) → Buf (Elt Ideal) ℓ) (g' : Dev Cert.DxARefIdeal.nD → PrngReg), Pre_DxAIdeal_finite_dxa m →
    (∀ c : Dev Cert.DxAIdeal.nD,
      m' ((c.tc : Thread Cert.DxARefIdeal.nD Cert.DxARefIdeal.τ).loc Cert.DxARefIdeal.main_arg0) = m ((c.tc : Thread Cert.DxAIdeal.nD Cert.DxAIdeal.τ).loc Cert.DxAIdeal.main_arg0)
      ∧ m' ((c.tc : Thread Cert.DxARefIdeal.nD Cert.DxARefIdeal.τ).loc Cert.DxARefIdeal.main_arg1) = m ((c.tc : Thread Cert.DxAIdeal.nD Cert.DxAIdeal.τ).loc Cert.DxAIdeal.main_arg1)
      ∧ m' ((c.tc : Thread Cert.DxARefIdeal.nD Cert.DxARefIdeal.τ).loc Cert.DxARefIdeal.main_arg2) = m ((c.tc : Thread Cert.DxAIdeal.nD Cert.DxAIdeal.τ).loc Cert.DxAIdeal.main_arg2)
      ∧ m' ((c.tc : Thread Cert.DxARefIdeal.nD Cert.DxARefIdeal.τ).loc Cert.DxARefIdeal.main_arg3) = m ((c.tc : Thread Cert.DxAIdeal.nD Cert.DxAIdeal.τ).loc Cert.DxAIdeal.main_arg3)
      ∧ m' ((c.tc : Thread Cert.DxARefIdeal.nD Cert.DxARefIdeal.τ).loc Cert.DxARefIdeal.main_arg4) = m ((c.tc : Thread Cert.DxAIdeal.nD Cert.DxAIdeal.τ).loc Cert.DxAIdeal.main_arg4)) →
    ∃ (v0 : (c : Dev Cert.DxAIdeal.nD) → Buf (Elt Ideal) ((c.tc : Thread Cert.DxAIdeal.nD Cert.DxAIdeal.τ).loc Cert.DxAIdeal.main_v13)) (v1 : (c : Dev Cert.DxAIdeal.nD) → Buf (Elt Ideal) ((c.tc : Thread Cert.DxAIdeal.nD Cert.DxAIdeal.τ).loc Cert.DxAIdeal.main_v12_1)),
      θ_run (Cert.DxAIdeal.defs (F := Ideal)) (onTc (τ := Cert.DxAIdeal.τ) (Cert.DxAIdeal.main (F := Ideal))) ⟨m, fun _ => 0, g⟩ (fun r => ∀ c : Dev Cert.DxAIdeal.nD,
          r.2.mem ((c.tc : Thread Cert.DxAIdeal.nD Cert.DxAIdeal.τ).loc Cert.DxAIdeal.main_v13) = v0 c
          ∧ r.2.mem ((c.tc : Thread Cert.DxAIdeal.nD Cert.DxAIdeal.τ).loc Cert.DxAIdeal.main_v12_1) = v1 c
          ∧ r.2.mem ((c.tc : Thread Cert.DxAIdeal.nD Cert.DxAIdeal.τ).loc Cert.DxAIdeal.main_arg0) = m ((c.tc : Thread Cert.DxAIdeal.nD Cert.DxAIdeal.τ).loc Cert.DxAIdeal.main_arg0)
          ∧ r.2.mem ((c.tc : Thread Cert.DxAIdeal.nD Cert.DxAIdeal.τ).loc Cert.DxAIdeal.main_arg1) = m ((c.tc : Thread Cert.DxAIdeal.nD Cert.DxAIdeal.τ).loc Cert.DxAIdeal.main_arg1)
          ∧ r.2.mem ((c.tc : Thread Cert.DxAIdeal.nD Cert.DxAIdeal.τ).loc Cert.DxAIdeal.main_arg2) = m ((c.tc : Thread Cert.DxAIdeal.nD Cert.DxAIdeal.τ).loc Cert.DxAIdeal.main_arg2)
          ∧ r.2.mem ((c.tc : Thread Cert.DxAIdeal.nD Cert.DxAIdeal.τ).loc Cert.DxAIdeal.main_arg3) = m ((c.tc : Thread Cert.DxAIdeal.nD Cert.DxAIdeal.τ).loc Cert.DxAIdeal.main_arg3)
          ∧ r.2.mem ((c.tc : Thread Cert.DxAIdeal.nD Cert.DxAIdeal.τ).loc Cert.DxAIdeal.main_arg4) = m ((c.tc : Thread Cert.DxAIdeal.nD Cert.DxAIdeal.τ).loc Cert.DxAIdeal.main_arg4))
      ∧ θ_run (Cert.DxARefIdeal.defs (F := Ideal)) (onTc (τ := Cert.DxARefIdeal.τ) (Cert.DxARefIdeal.main (F := Ideal))) ⟨m', fun _ => 0, g'⟩ (fun r => ∀ c : Dev Cert.DxARefIdeal.nD,
          r.2.mem ((c.tc : Thread Cert.DxARefIdeal.nD Cert.DxARefIdeal.τ).loc Cert.DxARefIdeal.main_v46) = v0 c
          ∧ r.2.mem ((c.tc : Thread Cert.DxARefIdeal.nD Cert.DxARefIdeal.τ).loc Cert.DxARefIdeal.main_v43) = v1 c
          ∧ r.2.mem ((c.tc : Thread Cert.DxARefIdeal.nD Cert.DxARefIdeal.τ).loc Cert.DxARefIdeal.main_arg0) = m' ((c.tc : Thread Cert.DxARefIdeal.nD Cert.DxARefIdeal.τ).loc Cert.DxARefIdeal.main_arg0)
          ∧ r.2.mem ((c.tc : Thread Cert.DxARefIdeal.nD Cert.DxARefIdeal.τ).loc Cert.DxARefIdeal.main_arg1) = m' ((c.tc : Thread Cert.DxARefIdeal.nD Cert.DxARefIdeal.τ).loc Cert.DxARefIdeal.main_arg1)
          ∧ r.2.mem ((c.tc : Thread Cert.DxARefIdeal.nD Cert.DxARefIdeal.τ).loc Cert.DxARefIdeal.main_arg2) = m' ((c.tc : Thread Cert.DxARefIdeal.nD Cert.DxARefIdeal.τ).loc Cert.DxARefIdeal.main_arg2)
          ∧ r.2.mem ((c.tc : Thread Cert.DxARefIdeal.nD Cert.DxARefIdeal.τ).loc Cert.DxARefIdeal.main_arg3) = m' ((c.tc : Thread Cert.DxARefIdeal.nD Cert.DxARefIdeal.τ).loc Cert.DxARefIdeal.main_arg3)
          ∧ r.2.mem ((c.tc : Thread Cert.DxARefIdeal.nD Cert.DxARefIdeal.τ).loc Cert.DxARefIdeal.main_arg4) = m' ((c.tc : Thread Cert.DxARefIdeal.nD Cert.DxARefIdeal.τ).loc Cert.DxARefIdeal.main_arg4))

def preserves_Pool_PoolIdeal : Prop :=
  True

def algebraic_PoolIdeal_PoolRefIdeal_pre_finite_pool [hPoolIdeal : Cert.PoolIdeal.Facts] [hPoolRefIdeal : Cert.PoolRefIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v4_0)) (v1 : (c : Dev Cert.PoolIdeal.nD) → Buf (Elt Ideal) ((c.tc : Thread Cert.PoolIdeal.nD Cert.PoolIdeal.τ).loc Cert.PoolIdeal.main_v6_0)) (v2 : (c : Dev Cert.PoolIdeal.nD) → Buf (Elt Ideal) ((c.tc : Thread Cert.PoolIdeal.nD Cert.PoolIdeal.τ).loc Cert.PoolIdeal.main_v6_1)) (v3 : (c : Dev Cert.PoolIdeal.nD) → Buf (Elt Ideal) ((c.tc : Thread Cert.PoolIdeal.nD Cert.PoolIdeal.τ).loc Cert.PoolIdeal.main_v6_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v4_0) = v0 c
          ∧ r.2.mem ((c.tc : Thread Cert.PoolIdeal.nD Cert.PoolIdeal.τ).loc Cert.PoolIdeal.main_v6_0) = v1 c
          ∧ r.2.mem ((c.tc : Thread Cert.PoolIdeal.nD Cert.PoolIdeal.τ).loc Cert.PoolIdeal.main_v6_1) = v2 c
          ∧ r.2.mem ((c.tc : Thread Cert.PoolIdeal.nD Cert.PoolIdeal.τ).loc Cert.PoolIdeal.main_v6_2) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v139) = v0 c
          ∧ r.2.mem ((c.tc : Thread Cert.PoolRefIdeal.nD Cert.PoolRefIdeal.τ).loc Cert.PoolRefIdeal.main_v141) = v1 c
          ∧ r.2.mem ((c.tc : Thread Cert.PoolRefIdeal.nD Cert.PoolRefIdeal.τ).loc Cert.PoolRefIdeal.main_v142) = v2 c
          ∧ r.2.mem ((c.tc : Thread Cert.PoolRefIdeal.nD Cert.PoolRefIdeal.τ).loc Cert.PoolRefIdeal.main_v136) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Ffn2Bwd_Ffn2BwdIdeal : Prop :=
  True

def algebraic_Ffn2BwdIdeal_Ffn2BwdRefIdeal_pre_finite_ffn2 [hFfn2BwdIdeal : Cert.Ffn2BwdIdeal.Facts] [hFfn2BwdRefIdeal : Cert.Ffn2BwdRefIdeal.Facts] [hPre_finite_ffn2 : Cert.Pre_finite_ffn2.Facts] : Prop :=
  ∀ (m : (ℓ : Loc Cert.Ffn2BwdIdeal.nD Cert.Ffn2BwdIdeal.τ Cert.Ffn2BwdIdeal.sig) → Buf (Elt Ideal) ℓ) (g : Dev Cert.Ffn2BwdIdeal.nD → PrngReg)
    (m' : (ℓ : Loc Cert.Ffn2BwdRefIdeal.nD Cert.Ffn2BwdRefIdeal.τ Cert.Ffn2BwdRefIdeal.sig) → Buf (Elt Ideal) ℓ) (g' : Dev Cert.Ffn2BwdRefIdeal.nD → PrngReg), Pre_Ffn2BwdIdeal_finite_ffn2 m →
    (∀ c : Dev Cert.Ffn2BwdIdeal.nD,
      m' ((c.tc : Thread Cert.Ffn2BwdRefIdeal.nD Cert.Ffn2BwdRefIdeal.τ).loc Cert.Ffn2BwdRefIdeal.main_arg0) = m ((c.tc : Thread Cert.Ffn2BwdIdeal.nD Cert.Ffn2BwdIdeal.τ).loc Cert.Ffn2BwdIdeal.main_arg0)
      ∧ m' ((c.tc : Thread Cert.Ffn2BwdRefIdeal.nD Cert.Ffn2BwdRefIdeal.τ).loc Cert.Ffn2BwdRefIdeal.main_arg1) = m ((c.tc : Thread Cert.Ffn2BwdIdeal.nD Cert.Ffn2BwdIdeal.τ).loc Cert.Ffn2BwdIdeal.main_arg1)
      ∧ m' ((c.tc : Thread Cert.Ffn2BwdRefIdeal.nD Cert.Ffn2BwdRefIdeal.τ).loc Cert.Ffn2BwdRefIdeal.main_arg2) = m ((c.tc : Thread Cert.Ffn2BwdIdeal.nD Cert.Ffn2BwdIdeal.τ).loc Cert.Ffn2BwdIdeal.main_arg2)
      ∧ m' ((c.tc : Thread Cert.Ffn2BwdRefIdeal.nD Cert.Ffn2BwdRefIdeal.τ).loc Cert.Ffn2BwdRefIdeal.main_arg3) = m ((c.tc : Thread Cert.Ffn2BwdIdeal.nD Cert.Ffn2BwdIdeal.τ).loc Cert.Ffn2BwdIdeal.main_arg3)
      ∧ m' ((c.tc : Thread Cert.Ffn2BwdRefIdeal.nD Cert.Ffn2BwdRefIdeal.τ).loc Cert.Ffn2BwdRefIdeal.main_arg4) = m ((c.tc : Thread Cert.Ffn2BwdIdeal.nD Cert.Ffn2BwdIdeal.τ).loc Cert.Ffn2BwdIdeal.main_arg4)) →
    ∃ (v0 : (c : Dev Cert.Ffn2BwdIdeal.nD) → Buf (Elt Ideal) ((c.tc : Thread Cert.Ffn2BwdIdeal.nD Cert.Ffn2BwdIdeal.τ).loc Cert.Ffn2BwdIdeal.main_v30_0)) (v1 : (c : Dev Cert.Ffn2BwdIdeal.nD) → Buf (Elt Ideal) ((c.tc : Thread Cert.Ffn2BwdIdeal.nD Cert.Ffn2BwdIdeal.τ).loc Cert.Ffn2BwdIdeal.main_v30_1)) (v2 : (c : Dev Cert.Ffn2BwdIdeal.nD) → Buf (Elt Ideal) ((c.tc : Thread Cert.Ffn2BwdIdeal.nD Cert.Ffn2BwdIdeal.τ).loc Cert.Ffn2BwdIdeal.main_v30_2)) (v3 : (c : Dev Cert.Ffn2BwdIdeal.nD) → Buf (Elt Ideal) ((c.tc : Thread Cert.Ffn2BwdIdeal.nD Cert.Ffn2BwdIdeal.τ).loc Cert.Ffn2BwdIdeal.main_v30_3)) (v4 : (c : Dev Cert.Ffn2BwdIdeal.nD) → Buf (Elt Ideal) ((c.tc : Thread Cert.Ffn2BwdIdeal.nD Cert.Ffn2BwdIdeal.τ).loc Cert.Ffn2BwdIdeal.main_v30_4)) (v5 : (c : Dev Cert.Ffn2BwdIdeal.nD) → Buf (Elt Ideal) ((c.tc : Thread Cert.Ffn2BwdIdeal.nD Cert.Ffn2BwdIdeal.τ).loc Cert.Ffn2BwdIdeal.main_v30_5)),
      θ_run (Cert.Ffn2BwdIdeal.defs (F := Ideal)) (onTc (τ := Cert.Ffn2BwdIdeal.τ) (Cert.Ffn2BwdIdeal.main (F := Ideal))) ⟨m, fun _ => 0, g⟩ (fun r => ∀ c : Dev Cert.Ffn2BwdIdeal.nD,
          r.2.mem ((c.tc : Thread Cert.Ffn2BwdIdeal.nD Cert.Ffn2BwdIdeal.τ).loc Cert.Ffn2BwdIdeal.main_v30_0) = v0 c
          ∧ r.2.mem ((c.tc : Thread Cert.Ffn2BwdIdeal.nD Cert.Ffn2BwdIdeal.τ).loc Cert.Ffn2BwdIdeal.main_v30_1) = v1 c
          ∧ r.2.mem ((c.tc : Thread Cert.Ffn2BwdIdeal.nD Cert.Ffn2BwdIdeal.τ).loc Cert.Ffn2BwdIdeal.main_v30_2) = v2 c
          ∧ r.2.mem ((c.tc : Thread Cert.Ffn2BwdIdeal.nD Cert.Ffn2BwdIdeal.τ).loc Cert.Ffn2BwdIdeal.main_v30_3) = v3 c
          ∧ r.2.mem ((c.tc : Thread Cert.Ffn2BwdIdeal.nD Cert.Ffn2BwdIdeal.τ).loc Cert.Ffn2BwdIdeal.main_v30_4) = v4 c
          ∧ r.2.mem ((c.tc : Thread Cert.Ffn2BwdIdeal.nD Cert.Ffn2BwdIdeal.τ).loc Cert.Ffn2BwdIdeal.main_v30_5) = v5 c
          ∧ r.2.mem ((c.tc : Thread Cert.Ffn2BwdIdeal.nD Cert.Ffn2BwdIdeal.τ).loc Cert.Ffn2BwdIdeal.main_arg0) = m ((c.tc : Thread Cert.Ffn2BwdIdeal.nD Cert.Ffn2BwdIdeal.τ).loc Cert.Ffn2BwdIdeal.main_arg0)
          ∧ r.2.mem ((c.tc : Thread Cert.Ffn2BwdIdeal.nD Cert.Ffn2BwdIdeal.τ).loc Cert.Ffn2BwdIdeal.main_arg1) = m ((c.tc : Thread Cert.Ffn2BwdIdeal.nD Cert.Ffn2BwdIdeal.τ).loc Cert.Ffn2BwdIdeal.main_arg1)
          ∧ r.2.mem ((c.tc : Thread Cert.Ffn2BwdIdeal.nD Cert.Ffn2BwdIdeal.τ).loc Cert.Ffn2BwdIdeal.main_arg2) = m ((c.tc : Thread Cert.Ffn2BwdIdeal.nD Cert.Ffn2BwdIdeal.τ).loc Cert.Ffn2BwdIdeal.main_arg2)
          ∧ r.2.mem ((c.tc : Thread Cert.Ffn2BwdIdeal.nD Cert.Ffn2BwdIdeal.τ).loc Cert.Ffn2BwdIdeal.main_arg3) = m ((c.tc : Thread Cert.Ffn2BwdIdeal.nD Cert.Ffn2BwdIdeal.τ).loc Cert.Ffn2BwdIdeal.main_arg3)
          ∧ r.2.mem ((c.tc : Thread Cert.Ffn2BwdIdeal.nD Cert.Ffn2BwdIdeal.τ).loc Cert.Ffn2BwdIdeal.main_arg4) = m ((c.tc : Thread Cert.Ffn2BwdIdeal.nD Cert.Ffn2BwdIdeal.τ).loc Cert.Ffn2BwdIdeal.main_arg4))
      ∧ θ_run (Cert.Ffn2BwdRefIdeal.defs (F := Ideal)) (onTc (τ := Cert.Ffn2BwdRefIdeal.τ) (Cert.Ffn2BwdRefIdeal.main (F := Ideal))) ⟨m', fun _ => 0, g'⟩ (fun r => ∀ c : Dev Cert.Ffn2BwdRefIdeal.nD,
          r.2.mem ((c.tc : Thread Cert.Ffn2BwdRefIdeal.nD Cert.Ffn2BwdRefIdeal.τ).loc Cert.Ffn2BwdRefIdeal.main_v102) = v0 c
          ∧ r.2.mem ((c.tc : Thread Cert.Ffn2BwdRefIdeal.nD Cert.Ffn2BwdRefIdeal.τ).loc Cert.Ffn2BwdRefIdeal.main_v112) = v1 c
          ∧ r.2.mem ((c.tc : Thread Cert.Ffn2BwdRefIdeal.nD Cert.Ffn2BwdRefIdeal.τ).loc Cert.Ffn2BwdRefIdeal.main_v106) = v2 c
          ∧ r.2.mem ((c.tc : Thread Cert.Ffn2BwdRefIdeal.nD Cert.Ffn2BwdRefIdeal.τ).loc Cert.Ffn2BwdRefIdeal.main_v113) = v3 c
          ∧ r.2.mem ((c.tc : Thread Cert.Ffn2BwdRefIdeal.nD Cert.Ffn2BwdRefIdeal.τ).loc Cert.Ffn2BwdRefIdeal.main_v115) = v4 c
          ∧ r.2.mem ((c.tc : Thread Cert.Ffn2BwdRefIdeal.nD Cert.Ffn2BwdRefIdeal.τ).loc Cert.Ffn2BwdRefIdeal.main_v61) = v5 c
          ∧ r.2.mem ((c.tc : Thread Cert.Ffn2BwdRefIdeal.nD Cert.Ffn2BwdRefIdeal.τ).loc Cert.Ffn2BwdRefIdeal.main_arg0) = m' ((c.tc : Thread Cert.Ffn2BwdRefIdeal.nD Cert.Ffn2BwdRefIdeal.τ).loc Cert.Ffn2BwdRefIdeal.main_arg0)
          ∧ r.2.mem ((c.tc : Thread Cert.Ffn2BwdRefIdeal.nD Cert.Ffn2BwdRefIdeal.τ).loc Cert.Ffn2BwdRefIdeal.main_arg1) = m' ((c.tc : Thread Cert.Ffn2BwdRefIdeal.nD Cert.Ffn2BwdRefIdeal.τ).loc Cert.Ffn2BwdRefIdeal.main_arg1)
          ∧ r.2.mem ((c.tc : Thread Cert.Ffn2BwdRefIdeal.nD Cert.Ffn2BwdRefIdeal.τ).loc Cert.Ffn2BwdRefIdeal.main_arg2) = m' ((c.tc : Thread Cert.Ffn2BwdRefIdeal.nD Cert.Ffn2BwdRefIdeal.τ).loc Cert.Ffn2BwdRefIdeal.main_arg2)
          ∧ r.2.mem ((c.tc : Thread Cert.Ffn2BwdRefIdeal.nD Cert.Ffn2BwdRefIdeal.τ).loc Cert.Ffn2BwdRefIdeal.main_arg3) = m' ((c.tc : Thread Cert.Ffn2BwdRefIdeal.nD Cert.Ffn2BwdRefIdeal.τ).loc Cert.Ffn2BwdRefIdeal.main_arg3)
          ∧ r.2.mem ((c.tc : Thread Cert.Ffn2BwdRefIdeal.nD Cert.Ffn2BwdRefIdeal.τ).loc Cert.Ffn2BwdRefIdeal.main_arg4) = m' ((c.tc : Thread Cert.Ffn2BwdRefIdeal.nD Cert.Ffn2BwdRefIdeal.τ).loc Cert.Ffn2BwdRefIdeal.main_arg4))

def preserves_Ffn2Head_Ffn2HeadIdeal : Prop :=
  True

def algebraic_Ffn2HeadIdeal_Ffn2HeadRefIdeal_pre_finite_head [hFfn2HeadIdeal : Cert.Ffn2HeadIdeal.Facts] [hFfn2HeadRefIdeal : Cert.Ffn2HeadRefIdeal.Facts] [hPre_finite_head : Cert.Pre_finite_head.Facts] : Prop :=
  ∀ (m : (ℓ : Loc Cert.Ffn2HeadIdeal.nD Cert.Ffn2HeadIdeal.τ Cert.Ffn2HeadIdeal.sig) → Buf (Elt Ideal) ℓ) (g : Dev Cert.Ffn2HeadIdeal.nD → PrngReg)
    (m' : (ℓ : Loc Cert.Ffn2HeadRefIdeal.nD Cert.Ffn2HeadRefIdeal.τ Cert.Ffn2HeadRefIdeal.sig) → Buf (Elt Ideal) ℓ) (g' : Dev Cert.Ffn2HeadRefIdeal.nD → PrngReg), Pre_Ffn2HeadIdeal_finite_head m →
    (∀ c : Dev Cert.Ffn2HeadIdeal.nD,
      m' ((c.tc : Thread Cert.Ffn2HeadRefIdeal.nD Cert.Ffn2HeadRefIdeal.τ).loc Cert.Ffn2HeadRefIdeal.main_arg0) = m ((c.tc : Thread Cert.Ffn2HeadIdeal.nD Cert.Ffn2HeadIdeal.τ).loc Cert.Ffn2HeadIdeal.main_arg0)
      ∧ m' ((c.tc : Thread Cert.Ffn2HeadRefIdeal.nD Cert.Ffn2HeadRefIdeal.τ).loc Cert.Ffn2HeadRefIdeal.main_arg1) = m ((c.tc : Thread Cert.Ffn2HeadIdeal.nD Cert.Ffn2HeadIdeal.τ).loc Cert.Ffn2HeadIdeal.main_arg1)
      ∧ m' ((c.tc : Thread Cert.Ffn2HeadRefIdeal.nD Cert.Ffn2HeadRefIdeal.τ).loc Cert.Ffn2HeadRefIdeal.main_arg2) = m ((c.tc : Thread Cert.Ffn2HeadIdeal.nD Cert.Ffn2HeadIdeal.τ).loc Cert.Ffn2HeadIdeal.main_arg2)
      ∧ m' ((c.tc : Thread Cert.Ffn2HeadRefIdeal.nD Cert.Ffn2HeadRefIdeal.τ).loc Cert.Ffn2HeadRefIdeal.main_arg3) = m ((c.tc : Thread Cert.Ffn2HeadIdeal.nD Cert.Ffn2HeadIdeal.τ).loc Cert.Ffn2HeadIdeal.main_arg3)
      ∧ m' ((c.tc : Thread Cert.Ffn2HeadRefIdeal.nD Cert.Ffn2HeadRefIdeal.τ).loc Cert.Ffn2HeadRefIdeal.main_arg4) = m ((c.tc : Thread Cert.Ffn2HeadIdeal.nD Cert.Ffn2HeadIdeal.τ).loc Cert.Ffn2HeadIdeal.main_arg4)
      ∧ m' ((c.tc : Thread Cert.Ffn2HeadRefIdeal.nD Cert.Ffn2HeadRefIdeal.τ).loc Cert.Ffn2HeadRefIdeal.main_arg5) = m ((c.tc : Thread Cert.Ffn2HeadIdeal.nD Cert.Ffn2HeadIdeal.τ).loc Cert.Ffn2HeadIdeal.main_arg5)) →
    ∃ (v0 : (c : Dev Cert.Ffn2HeadIdeal.nD) → Buf (Elt Ideal) ((c.tc : Thread Cert.Ffn2HeadIdeal.nD Cert.Ffn2HeadIdeal.τ).loc Cert.Ffn2HeadIdeal.main_v7_0)) (v1 : (c : Dev Cert.Ffn2HeadIdeal.nD) → Buf (Elt Ideal) ((c.tc : Thread Cert.Ffn2HeadIdeal.nD Cert.Ffn2HeadIdeal.τ).loc Cert.Ffn2HeadIdeal.main_v7_1)) (v2 : (c : Dev Cert.Ffn2HeadIdeal.nD) → Buf (Elt Ideal) ((c.tc : Thread Cert.Ffn2HeadIdeal.nD Cert.Ffn2HeadIdeal.τ).loc Cert.Ffn2HeadIdeal.main_v7_2)) (v3 : (c : Dev Cert.Ffn2HeadIdeal.nD) → Buf (Elt Ideal) ((c.tc : Thread Cert.Ffn2HeadIdeal.nD Cert.Ffn2HeadIdeal.τ).loc Cert.Ffn2HeadIdeal.main_v7_3)) (v4 : (c : Dev Cert.Ffn2HeadIdeal.nD) → Buf (Elt Ideal) ((c.tc : Thread Cert.Ffn2HeadIdeal.nD Cert.Ffn2HeadIdeal.τ).loc Cert.Ffn2HeadIdeal.main_v7_4)),
      θ_run (Cert.Ffn2HeadIdeal.defs (F := Ideal)) (onTc (τ := Cert.Ffn2HeadIdeal.τ) (Cert.Ffn2HeadIdeal.main (F := Ideal))) ⟨m, fun _ => 0, g⟩ (fun r => ∀ c : Dev Cert.Ffn2HeadIdeal.nD,
          r.2.mem ((c.tc : Thread Cert.Ffn2HeadIdeal.nD Cert.Ffn2HeadIdeal.τ).loc Cert.Ffn2HeadIdeal.main_v7_0) = v0 c
          ∧ r.2.mem ((c.tc : Thread Cert.Ffn2HeadIdeal.nD Cert.Ffn2HeadIdeal.τ).loc Cert.Ffn2HeadIdeal.main_v7_1) = v1 c
          ∧ r.2.mem ((c.tc : Thread Cert.Ffn2HeadIdeal.nD Cert.Ffn2HeadIdeal.τ).loc Cert.Ffn2HeadIdeal.main_v7_2) = v2 c
          ∧ r.2.mem ((c.tc : Thread Cert.Ffn2HeadIdeal.nD Cert.Ffn2HeadIdeal.τ).loc Cert.Ffn2HeadIdeal.main_v7_3) = v3 c
          ∧ r.2.mem ((c.tc : Thread Cert.Ffn2HeadIdeal.nD Cert.Ffn2HeadIdeal.τ).loc Cert.Ffn2HeadIdeal.main_v7_4) = v4 c
          ∧ r.2.mem ((c.tc : Thread Cert.Ffn2HeadIdeal.nD Cert.Ffn2HeadIdeal.τ).loc Cert.Ffn2HeadIdeal.main_arg0) = m ((c.tc : Thread Cert.Ffn2HeadIdeal.nD Cert.Ffn2HeadIdeal.τ).loc Cert.Ffn2HeadIdeal.main_arg0)
          ∧ r.2.mem ((c.tc : Thread Cert.Ffn2HeadIdeal.nD Cert.Ffn2HeadIdeal.τ).loc Cert.Ffn2HeadIdeal.main_arg1) = m ((c.tc : Thread Cert.Ffn2HeadIdeal.nD Cert.Ffn2HeadIdeal.τ).loc Cert.Ffn2HeadIdeal.main_arg1)
          ∧ r.2.mem ((c.tc : Thread Cert.Ffn2HeadIdeal.nD Cert.Ffn2HeadIdeal.τ).loc Cert.Ffn2HeadIdeal.main_arg2) = m ((c.tc : Thread Cert.Ffn2HeadIdeal.nD Cert.Ffn2HeadIdeal.τ).loc Cert.Ffn2HeadIdeal.main_arg2)
          ∧ r.2.mem ((c.tc : Thread Cert.Ffn2HeadIdeal.nD Cert.Ffn2HeadIdeal.τ).loc Cert.Ffn2HeadIdeal.main_arg3) = m ((c.tc : Thread Cert.Ffn2HeadIdeal.nD Cert.Ffn2HeadIdeal.τ).loc Cert.Ffn2HeadIdeal.main_arg3)
          ∧ r.2.mem ((c.tc : Thread Cert.Ffn2HeadIdeal.nD Cert.Ffn2HeadIdeal.τ).loc Cert.Ffn2HeadIdeal.main_arg4) = m ((c.tc : Thread Cert.Ffn2HeadIdeal.nD Cert.Ffn2HeadIdeal.τ).loc Cert.Ffn2HeadIdeal.main_arg4)
          ∧ r.2.mem ((c.tc : Thread Cert.Ffn2HeadIdeal.nD Cert.Ffn2HeadIdeal.τ).loc Cert.Ffn2HeadIdeal.main_arg5) = m ((c.tc : Thread Cert.Ffn2HeadIdeal.nD Cert.Ffn2HeadIdeal.τ).loc Cert.Ffn2HeadIdeal.main_arg5))
      ∧ θ_run (Cert.Ffn2HeadRefIdeal.defs (F := Ideal)) (onTc (τ := Cert.Ffn2HeadRefIdeal.τ) (Cert.Ffn2HeadRefIdeal.main (F := Ideal))) ⟨m', fun _ => 0, g'⟩ (fun r => ∀ c : Dev Cert.Ffn2HeadRefIdeal.nD,
          r.2.mem ((c.tc : Thread Cert.Ffn2HeadRefIdeal.nD Cert.Ffn2HeadRefIdeal.τ).loc Cert.Ffn2HeadRefIdeal.main_v85) = v0 c
          ∧ r.2.mem ((c.tc : Thread Cert.Ffn2HeadRefIdeal.nD Cert.Ffn2HeadRefIdeal.τ).loc Cert.Ffn2HeadRefIdeal.main_v87) = v1 c
          ∧ r.2.mem ((c.tc : Thread Cert.Ffn2HeadRefIdeal.nD Cert.Ffn2HeadRefIdeal.τ).loc Cert.Ffn2HeadRefIdeal.main_v84) = v2 c
          ∧ r.2.mem ((c.tc : Thread Cert.Ffn2HeadRefIdeal.nD Cert.Ffn2HeadRefIdeal.τ).loc Cert.Ffn2HeadRefIdeal.main_v88) = v3 c
          ∧ r.2.mem ((c.tc : Thread Cert.Ffn2HeadRefIdeal.nD Cert.Ffn2HeadRefIdeal.τ).loc Cert.Ffn2HeadRefIdeal.main_v89) = v4 c
          ∧ r.2.mem ((c.tc : Thread Cert.Ffn2HeadRefIdeal.nD Cert.Ffn2HeadRefIdeal.τ).loc Cert.Ffn2HeadRefIdeal.main_arg0) = m' ((c.tc : Thread Cert.Ffn2HeadRefIdeal.nD Cert.Ffn2HeadRefIdeal.τ).loc Cert.Ffn2HeadRefIdeal.main_arg0)
          ∧ r.2.mem ((c.tc : Thread Cert.Ffn2HeadRefIdeal.nD Cert.Ffn2HeadRefIdeal.τ).loc Cert.Ffn2HeadRefIdeal.main_arg1) = m' ((c.tc : Thread Cert.Ffn2HeadRefIdeal.nD Cert.Ffn2HeadRefIdeal.τ).loc Cert.Ffn2HeadRefIdeal.main_arg1)
          ∧ r.2.mem ((c.tc : Thread Cert.Ffn2HeadRefIdeal.nD Cert.Ffn2HeadRefIdeal.τ).loc Cert.Ffn2HeadRefIdeal.main_arg2) = m' ((c.tc : Thread Cert.Ffn2HeadRefIdeal.nD Cert.Ffn2HeadRefIdeal.τ).loc Cert.Ffn2HeadRefIdeal.main_arg2)
          ∧ r.2.mem ((c.tc : Thread Cert.Ffn2HeadRefIdeal.nD Cert.Ffn2HeadRefIdeal.τ).loc Cert.Ffn2HeadRefIdeal.main_arg3) = m' ((c.tc : Thread Cert.Ffn2HeadRefIdeal.nD Cert.Ffn2HeadRefIdeal.τ).loc Cert.Ffn2HeadRefIdeal.main_arg3)
          ∧ r.2.mem ((c.tc : Thread Cert.Ffn2HeadRefIdeal.nD Cert.Ffn2HeadRefIdeal.τ).loc Cert.Ffn2HeadRefIdeal.main_arg4) = m' ((c.tc : Thread Cert.Ffn2HeadRefIdeal.nD Cert.Ffn2HeadRefIdeal.τ).loc Cert.Ffn2HeadRefIdeal.main_arg4)
          ∧ r.2.mem ((c.tc : Thread Cert.Ffn2HeadRefIdeal.nD Cert.Ffn2HeadRefIdeal.τ).loc Cert.Ffn2HeadRefIdeal.main_arg5) = m' ((c.tc : Thread Cert.Ffn2HeadRefIdeal.nD Cert.Ffn2HeadRefIdeal.τ).loc Cert.Ffn2HeadRefIdeal.main_arg5))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)) →
    ∃ (v0 : (c : Dev Cert.MixFwdIdeal.nD) → Buf (Elt Ideal) ((c.tc : Thread Cert.MixFwdIdeal.nD Cert.MixFwdIdeal.τ).loc Cert.MixFwdIdeal.main_v6_0)) (v1 : (c : Dev Cert.MixFwdIdeal.nD) → Buf (Elt Ideal) ((c.tc : Thread Cert.MixFwdIdeal.nD Cert.MixFwdIdeal.τ).loc Cert.MixFwdIdeal.main_v6_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v6_0) = v0 c
          ∧ r.2.mem ((c.tc : Thread Cert.MixFwdIdeal.nD Cert.MixFwdIdeal.τ).loc Cert.MixFwdIdeal.main_v6_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v17) = v0 c
          ∧ r.2.mem ((c.tc : Thread Cert.MixFwdRefIdeal.nD Cert.MixFwdRefIdeal.τ).loc Cert.MixFwdRefIdeal.main_v19) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2))

def preserves_Ffn1Fwd_Ffn1FwdIdeal : Prop :=
  True

def algebraic_Ffn1FwdIdeal_Ffn1FwdRefIdeal [hFfn1FwdIdeal : Cert.Ffn1FwdIdeal.Facts] [hFfn1FwdRefIdeal : Cert.Ffn1FwdRefIdeal.Facts] : Prop :=
  ∀ (m : (ℓ : Loc Cert.Ffn1FwdIdeal.nD Cert.Ffn1FwdIdeal.τ Cert.Ffn1FwdIdeal.sig) → Buf (Elt Ideal) ℓ) (g : Dev Cert.Ffn1FwdIdeal.nD → PrngReg)
    (m' : (ℓ : Loc Cert.Ffn1FwdRefIdeal.nD Cert.Ffn1FwdRefIdeal.τ Cert.Ffn1FwdRefIdeal.sig) → Buf (Elt Ideal) ℓ) (g' : Dev Cert.Ffn1FwdRefIdeal.nD → PrngReg), Pre_Ffn1FwdIdeal m →
    (∀ c : Dev Cert.Ffn1FwdIdeal.nD,
      m' ((c.tc : Thread Cert.Ffn1FwdRefIdeal.nD Cert.Ffn1FwdRefIdeal.τ).loc Cert.Ffn1FwdRefIdeal.main_arg0) = m ((c.tc : Thread Cert.Ffn1FwdIdeal.nD Cert.Ffn1FwdIdeal.τ).loc Cert.Ffn1FwdIdeal.main_arg0)
      ∧ m' ((c.tc : Thread Cert.Ffn1FwdRefIdeal.nD Cert.Ffn1FwdRefIdeal.τ).loc Cert.Ffn1FwdRefIdeal.main_arg1) = m ((c.tc : Thread Cert.Ffn1FwdIdeal.nD Cert.Ffn1FwdIdeal.τ).loc Cert.Ffn1FwdIdeal.main_arg1)
      ∧ m' ((c.tc : Thread Cert.Ffn1FwdRefIdeal.nD Cert.Ffn1FwdRefIdeal.τ).loc Cert.Ffn1FwdRefIdeal.main_arg2) = m ((c.tc : Thread Cert.Ffn1FwdIdeal.nD Cert.Ffn1FwdIdeal.τ).loc Cert.Ffn1FwdIdeal.main_arg2)
      ∧ m' ((c.tc : Thread Cert.Ffn1FwdRefIdeal.nD Cert.Ffn1FwdRefIdeal.τ).loc Cert.Ffn1FwdRefIdeal.main_arg3) = m ((c.tc : Thread Cert.Ffn1FwdIdeal.nD Cert.Ffn1FwdIdeal.τ).loc Cert.Ffn1FwdIdeal.main_arg3)) →
    ∃ (v0 : (c : Dev Cert.Ffn1FwdIdeal.nD) → Buf (Elt Ideal) ((c.tc : Thread Cert.Ffn1FwdIdeal.nD Cert.Ffn1FwdIdeal.τ).loc Cert.Ffn1FwdIdeal.main_v5_0)) (v1 : (c : Dev Cert.Ffn1FwdIdeal.nD) → Buf (Elt Ideal) ((c.tc : Thread Cert.Ffn1FwdIdeal.nD Cert.Ffn1FwdIdeal.τ).loc Cert.Ffn1FwdIdeal.main_v5_1)) (v2 : (c : Dev Cert.Ffn1FwdIdeal.nD) → Buf (Elt Ideal) ((c.tc : Thread Cert.Ffn1FwdIdeal.nD Cert.Ffn1FwdIdeal.τ).loc Cert.Ffn1FwdIdeal.main_v5_2)),
      θ_run (Cert.Ffn1FwdIdeal.defs (F := Ideal)) (onTc (τ := Cert.Ffn1FwdIdeal.τ) (Cert.Ffn1FwdIdeal.main (F := Ideal))) ⟨m, fun _ => 0, g⟩ (fun r => ∀ c : Dev Cert.Ffn1FwdIdeal.nD,
          r.2.mem ((c.tc : Thread Cert.Ffn1FwdIdeal.nD Cert.Ffn1FwdIdeal.τ).loc Cert.Ffn1FwdIdeal.main_v5_0) = v0 c
          ∧ r.2.mem ((c.tc : Thread Cert.Ffn1FwdIdeal.nD Cert.Ffn1FwdIdeal.τ).loc Cert.Ffn1FwdIdeal.main_v5_1) = v1 c
          ∧ r.2.mem ((c.tc : Thread Cert.Ffn1FwdIdeal.nD Cert.Ffn1FwdIdeal.τ).loc Cert.Ffn1FwdIdeal.main_v5_2) = v2 c
          ∧ r.2.mem ((c.tc : Thread Cert.Ffn1FwdIdeal.nD Cert.Ffn1FwdIdeal.τ).loc Cert.Ffn1FwdIdeal.main_arg0) = m ((c.tc : Thread Cert.Ffn1FwdIdeal.nD Cert.Ffn1FwdIdeal.τ).loc Cert.Ffn1FwdIdeal.main_arg0)
          ∧ r.2.mem ((c.tc : Thread Cert.Ffn1FwdIdeal.nD Cert.Ffn1FwdIdeal.τ).loc Cert.Ffn1FwdIdeal.main_arg1) = m ((c.tc : Thread Cert.Ffn1FwdIdeal.nD Cert.Ffn1FwdIdeal.τ).loc Cert.Ffn1FwdIdeal.main_arg1)
          ∧ r.2.mem ((c.tc : Thread Cert.Ffn1FwdIdeal.nD Cert.Ffn1FwdIdeal.τ).loc Cert.Ffn1FwdIdeal.main_arg2) = m ((c.tc : Thread Cert.Ffn1FwdIdeal.nD Cert.Ffn1FwdIdeal.τ).loc Cert.Ffn1FwdIdeal.main_arg2)
          ∧ r.2.mem ((c.tc : Thread Cert.Ffn1FwdIdeal.nD Cert.Ffn1FwdIdeal.τ).loc Cert.Ffn1FwdIdeal.main_arg3) = m ((c.tc : Thread Cert.Ffn1FwdIdeal.nD Cert.Ffn1FwdIdeal.τ).loc Cert.Ffn1FwdIdeal.main_arg3))
      ∧ θ_run (Cert.Ffn1FwdRefIdeal.defs (F := Ideal)) (onTc (τ := Cert.Ffn1FwdRefIdeal.τ) (Cert.Ffn1FwdRefIdeal.main (F := Ideal))) ⟨m', fun _ => 0, g'⟩ (fun r => ∀ c : Dev Cert.Ffn1FwdRefIdeal.nD,
          r.2.mem ((c.tc : Thread Cert.Ffn1FwdRefIdeal.nD Cert.Ffn1FwdRefIdeal.τ).loc Cert.Ffn1FwdRefIdeal.main_v33) = v0 c
          ∧ r.2.mem ((c.tc : Thread Cert.Ffn1FwdRefIdeal.nD Cert.Ffn1FwdRefIdeal.τ).loc Cert.Ffn1FwdRefIdeal.main_v35) = v1 c
          ∧ r.2.mem ((c.tc : Thread Cert.Ffn1FwdRefIdeal.nD Cert.Ffn1FwdRefIdeal.τ).loc Cert.Ffn1FwdRefIdeal.main_v32) = v2 c
          ∧ r.2.mem ((c.tc : Thread Cert.Ffn1FwdRefIdeal.nD Cert.Ffn1FwdRefIdeal.τ).loc Cert.Ffn1FwdRefIdeal.main_arg0) = m' ((c.tc : Thread Cert.Ffn1FwdRefIdeal.nD Cert.Ffn1FwdRefIdeal.τ).loc Cert.Ffn1FwdRefIdeal.main_arg0)
          ∧ r.2.mem ((c.tc : Thread Cert.Ffn1FwdRefIdeal.nD Cert.Ffn1FwdRefIdeal.τ).loc Cert.Ffn1FwdRefIdeal.main_arg1) = m' ((c.tc : Thread Cert.Ffn1FwdRefIdeal.nD Cert.Ffn1FwdRefIdeal.τ).loc Cert.Ffn1FwdRefIdeal.main_arg1)
          ∧ r.2.mem ((c.tc : Thread Cert.Ffn1FwdRefIdeal.nD Cert.Ffn1FwdRefIdeal.τ).loc Cert.Ffn1FwdRefIdeal.main_arg2) = m' ((c.tc : Thread Cert.Ffn1FwdRefIdeal.nD Cert.Ffn1FwdRefIdeal.τ).loc Cert.Ffn1FwdRefIdeal.main_arg2)
          ∧ r.2.mem ((c.tc : Thread Cert.Ffn1FwdRefIdeal.nD Cert.Ffn1FwdRefIdeal.τ).loc Cert.Ffn1FwdRefIdeal.main_arg3) = m' ((c.tc : Thread Cert.Ffn1FwdRefIdeal.nD Cert.Ffn1FwdRefIdeal.τ).loc Cert.Ffn1FwdRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v24)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v24) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v21) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_MixDy_MixDyIdeal : Prop :=
  True

def algebraic_MixDyIdeal_MixDyRefIdeal [hMixDyIdeal : Cert.MixDyIdeal.Facts] [hMixDyRefIdeal : Cert.MixDyRefIdeal.Facts] : Prop :=
  ∀ (m : (ℓ : Loc Cert.MixDyIdeal.nD Cert.MixDyIdeal.τ Cert.MixDyIdeal.sig) → Buf (Elt Ideal) ℓ) (g : Dev Cert.MixDyIdeal.nD → PrngReg)
    (m' : (ℓ : Loc Cert.MixDyRefIdeal.nD Cert.MixDyRefIdeal.τ Cert.MixDyRefIdeal.sig) → Buf (Elt Ideal) ℓ) (g' : Dev Cert.MixDyRefIdeal.nD → PrngReg), Pre_MixDyIdeal m →
    (∀ c : Dev Cert.MixDyIdeal.nD,
      m' ((c.tc : Thread Cert.MixDyRefIdeal.nD Cert.MixDyRefIdeal.τ).loc Cert.MixDyRefIdeal.main_arg0) = m ((c.tc : Thread Cert.MixDyIdeal.nD Cert.MixDyIdeal.τ).loc Cert.MixDyIdeal.main_arg0)
      ∧ m' ((c.tc : Thread Cert.MixDyRefIdeal.nD Cert.MixDyRefIdeal.τ).loc Cert.MixDyRefIdeal.main_arg1) = m ((c.tc : Thread Cert.MixDyIdeal.nD Cert.MixDyIdeal.τ).loc Cert.MixDyIdeal.main_arg1)) →
    ∃ (v0 : (c : Dev Cert.MixDyIdeal.nD) → Buf (Elt Ideal) ((c.tc : Thread Cert.MixDyIdeal.nD Cert.MixDyIdeal.τ).loc Cert.MixDyIdeal.main_v4)),
      θ_run (Cert.MixDyIdeal.defs (F := Ideal)) (onTc (τ := Cert.MixDyIdeal.τ) (Cert.MixDyIdeal.main (F := Ideal))) ⟨m, fun _ => 0, g⟩ (fun r => ∀ c : Dev Cert.MixDyIdeal.nD,
          r.2.mem ((c.tc : Thread Cert.MixDyIdeal.nD Cert.MixDyIdeal.τ).loc Cert.MixDyIdeal.main_v4) = v0 c
          ∧ r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
          ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1))
      ∧ θ_run (Cert.MixDyRefIdeal.defs (F := Ideal)) (onTc (τ := Cert.MixDyRefIdeal.τ) (Cert.MixDyRefIdeal.main (F := Ideal))) ⟨m', fun _ => 0, g'⟩ (fun r => ∀ c : Dev Cert.MixDyRefIdeal.nD,
          r.2.mem ((c.tc : Thread Cert.MixDyRefIdeal.nD Cert.MixDyRefIdeal.τ).loc Cert.MixDyRefIdeal.main_v4) = v0 c
          ∧ r.2.mem ((c.tc : Thread Cert.MixDyRefIdeal.nD Cert.MixDyRefIdeal.τ).loc Cert.MixDyRefIdeal.main_arg0) = m' ((c.tc : Thread Cert.MixDyRefIdeal.nD Cert.MixDyRefIdeal.τ).loc Cert.MixDyRefIdeal.main_arg0)
          ∧ r.2.mem ((c.tc : Thread Cert.MixDyRefIdeal.nD Cert.MixDyRefIdeal.τ).loc Cert.MixDyRefIdeal.main_arg1) = m' ((c.tc : Thread Cert.MixDyRefIdeal.nD Cert.MixDyRefIdeal.τ).loc Cert.MixDyRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v5)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v5) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_GlaBwd_GlaBwdIdeal : Prop :=
  True

def preserves_GlaFwd_GlaFwdIdeal : Prop :=
  True

def Claim : Prop :=
  ∃ (hFfn1Gu : Cert.Ffn1Gu.Facts) (hFfn1GuIdeal : Cert.Ffn1GuIdeal.Facts) (hFfn1GuRefIdeal : Cert.Ffn1GuRefIdeal.Facts) (hMixBwd : Cert.MixBwd.Facts) (hMixBwdIdeal : Cert.MixBwdIdeal.Facts) (hMixBwdRefIdeal : Cert.MixBwdRefIdeal.Facts) (hDxB : Cert.DxB.Facts) (hDxBIdeal : Cert.DxBIdeal.Facts) (hDxBRefIdeal : Cert.DxBRefIdeal.Facts) (hDxA : Cert.DxA.Facts) (hDxAIdeal : Cert.DxAIdeal.Facts) (hDxARefIdeal : Cert.DxARefIdeal.Facts) (hPool : Cert.Pool.Facts) (hPoolIdeal : Cert.PoolIdeal.Facts) (hPoolRefIdeal : Cert.PoolRefIdeal.Facts) (hFfn2Bwd : Cert.Ffn2Bwd.Facts) (hFfn2BwdIdeal : Cert.Ffn2BwdIdeal.Facts) (hFfn2BwdRefIdeal : Cert.Ffn2BwdRefIdeal.Facts) (hFfn2Head : Cert.Ffn2Head.Facts) (hFfn2HeadIdeal : Cert.Ffn2HeadIdeal.Facts) (hFfn2HeadRefIdeal : Cert.Ffn2HeadRefIdeal.Facts) (hMixFwd : Cert.MixFwd.Facts) (hMixFwdIdeal : Cert.MixFwdIdeal.Facts) (hMixFwdRefIdeal : Cert.MixFwdRefIdeal.Facts) (hFfn1Fwd : Cert.Ffn1Fwd.Facts) (hFfn1FwdIdeal : Cert.Ffn1FwdIdeal.Facts) (hFfn1FwdRefIdeal : Cert.Ffn1FwdRefIdeal.Facts) (hDwIn : Cert.DwIn.Facts) (hDwInIdeal : Cert.DwInIdeal.Facts) (hDwInRefIdeal : Cert.DwInRefIdeal.Facts) (hMixDy : Cert.MixDy.Facts) (hMixDyIdeal : Cert.MixDyIdeal.Facts) (hMixDyRefIdeal : Cert.MixDyRefIdeal.Facts) (hMixOut : Cert.MixOut.Facts) (hMixOutIdeal : Cert.MixOutIdeal.Facts) (hMixOutRefIdeal : Cert.MixOutRefIdeal.Facts) (hGlaBwd : Cert.GlaBwd.Facts) (hGlaBwdIdeal : Cert.GlaBwdIdeal.Facts) (hGlaFwd : Cert.GlaFwd.Facts) (hGlaFwdIdeal : Cert.GlaFwdIdeal.Facts) (hPre_finite_gu : Cert.Pre_finite_gu.Facts) (hPre_finite_mix : Cert.Pre_finite_mix.Facts) (hPre_finite_dxb : Cert.Pre_finite_dxb.Facts) (hPre_finite_dxa : Cert.Pre_finite_dxa.Facts) (hPre_finite_pool : Cert.Pre_finite_pool.Facts) (hPre_finite_ffn2 : Cert.Pre_finite_ffn2.Facts) (hPre_finite_head : Cert.Pre_finite_head.Facts),
    quiescent_Ffn1Gu (hFfn1Gu := hFfn1Gu)
    ∧ quiescent_Ffn1GuIdeal (hFfn1GuIdeal := hFfn1GuIdeal)
    ∧ quiescent_Ffn1GuIdeal_pre_finite_gu (hFfn1GuIdeal := hFfn1GuIdeal) (hPre_finite_gu := hPre_finite_gu)
    ∧ quiescent_Ffn1GuRefIdeal (hFfn1GuRefIdeal := hFfn1GuRefIdeal)
    ∧ quiescent_Ffn1GuRefIdeal_pre_finite_gu (hFfn1GuRefIdeal := hFfn1GuRefIdeal) (hPre_finite_gu := hPre_finite_gu)
    ∧ quiescent_MixBwd (hMixBwd := hMixBwd)
    ∧ quiescent_MixBwdIdeal (hMixBwdIdeal := hMixBwdIdeal)
    ∧ quiescent_MixBwdIdeal_pre_finite_mix (hMixBwdIdeal := hMixBwdIdeal) (hPre_finite_mix := hPre_finite_mix)
    ∧ quiescent_MixBwdRefIdeal (hMixBwdRefIdeal := hMixBwdRefIdeal)
    ∧ quiescent_MixBwdRefIdeal_pre_finite_mix (hMixBwdRefIdeal := hMixBwdRefIdeal) (hPre_finite_mix := hPre_finite_mix)
    ∧ quiescent_DxB (hDxB := hDxB)
    ∧ quiescent_DxBIdeal (hDxBIdeal := hDxBIdeal)
    ∧ quiescent_DxBIdeal_pre_finite_dxb (hDxBIdeal := hDxBIdeal) (hPre_finite_dxb := hPre_finite_dxb)
    ∧ quiescent_DxBRefIdeal (hDxBRefIdeal := hDxBRefIdeal)
    ∧ quiescent_DxBRefIdeal_pre_finite_dxb (hDxBRefIdeal := hDxBRefIdeal) (hPre_finite_dxb := hPre_finite_dxb)
    ∧ quiescent_DxA (hDxA := hDxA)
    ∧ quiescent_DxAIdeal (hDxAIdeal := hDxAIdeal)
    ∧ quiescent_DxAIdeal_pre_finite_dxa (hDxAIdeal := hDxAIdeal) (hPre_finite_dxa := hPre_finite_dxa)
    ∧ quiescent_DxARefIdeal (hDxARefIdeal := hDxARefIdeal)
    ∧ quiescent_DxARefIdeal_pre_finite_dxa (hDxARefIdeal := hDxARefIdeal) (hPre_finite_dxa := hPre_finite_dxa)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_Ffn2Bwd (hFfn2Bwd := hFfn2Bwd)
    ∧ quiescent_Ffn2BwdIdeal (hFfn2BwdIdeal := hFfn2BwdIdeal)
    ∧ quiescent_Ffn2BwdIdeal_pre_finite_ffn2 (hFfn2BwdIdeal := hFfn2BwdIdeal) (hPre_finite_ffn2 := hPre_finite_ffn2)
    ∧ quiescent_Ffn2BwdRefIdeal (hFfn2BwdRefIdeal := hFfn2BwdRefIdeal)
    ∧ quiescent_Ffn2BwdRefIdeal_pre_finite_ffn2 (hFfn2BwdRefIdeal := hFfn2BwdRefIdeal) (hPre_finite_ffn2 := hPre_finite_ffn2)
    ∧ quiescent_Ffn2Head (hFfn2Head := hFfn2Head)
    ∧ quiescent_Ffn2HeadIdeal (hFfn2HeadIdeal := hFfn2HeadIdeal)
    ∧ quiescent_Ffn2HeadIdeal_pre_finite_head (hFfn2HeadIdeal := hFfn2HeadIdeal) (hPre_finite_head := hPre_finite_head)
    ∧ quiescent_Ffn2HeadRefIdeal (hFfn2HeadRefIdeal := hFfn2HeadRefIdeal)
    ∧ quiescent_Ffn2HeadRefIdeal_pre_finite_head (hFfn2HeadRefIdeal := hFfn2HeadRefIdeal) (hPre_finite_head := hPre_finite_head)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_Ffn1Fwd (hFfn1Fwd := hFfn1Fwd)
    ∧ quiescent_Ffn1FwdIdeal (hFfn1FwdIdeal := hFfn1FwdIdeal)
    ∧ quiescent_Ffn1FwdRefIdeal (hFfn1FwdRefIdeal := hFfn1FwdRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_MixDy (hMixDy := hMixDy)
    ∧ quiescent_MixDyIdeal (hMixDyIdeal := hMixDyIdeal)
    ∧ quiescent_MixDyRefIdeal (hMixDyRefIdeal := hMixDyRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_GlaBwd (hGlaBwd := hGlaBwd)
    ∧ quiescent_GlaBwdIdeal (hGlaBwdIdeal := hGlaBwdIdeal)
    ∧ quiescent_GlaFwd (hGlaFwd := hGlaFwd)
    ∧ quiescent_GlaFwdIdeal (hGlaFwdIdeal := hGlaFwdIdeal)
    ∧ preserves_Ffn1Gu_Ffn1GuIdeal
    ∧ algebraic_Ffn1GuIdeal_Ffn1GuRefIdeal_pre_finite_gu (hFfn1GuIdeal := hFfn1GuIdeal) (hFfn1GuRefIdeal := hFfn1GuRefIdeal) (hPre_finite_gu := hPre_finite_gu)
    ∧ preserves_MixBwd_MixBwdIdeal
    ∧ algebraic_MixBwdIdeal_MixBwdRefIdeal_pre_finite_mix (hMixBwdIdeal := hMixBwdIdeal) (hMixBwdRefIdeal := hMixBwdRefIdeal) (hPre_finite_mix := hPre_finite_mix)
    ∧ preserves_DxB_DxBIdeal
    ∧ algebraic_DxBIdeal_DxBRefIdeal_pre_finite_dxb (hDxBIdeal := hDxBIdeal) (hDxBRefIdeal := hDxBRefIdeal) (hPre_finite_dxb := hPre_finite_dxb)
    ∧ preserves_DxA_DxAIdeal
    ∧ algebraic_DxAIdeal_DxARefIdeal_pre_finite_dxa (hDxAIdeal := hDxAIdeal) (hDxARefIdeal := hDxARefIdeal) (hPre_finite_dxa := hPre_finite_dxa)
    ∧ preserves_Pool_PoolIdeal
    ∧ algebraic_PoolIdeal_PoolRefIdeal_pre_finite_pool (hPoolIdeal := hPoolIdeal) (hPoolRefIdeal := hPoolRefIdeal) (hPre_finite_pool := hPre_finite_pool)
    ∧ preserves_Ffn2Bwd_Ffn2BwdIdeal
    ∧ algebraic_Ffn2BwdIdeal_Ffn2BwdRefIdeal_pre_finite_ffn2 (hFfn2BwdIdeal := hFfn2BwdIdeal) (hFfn2BwdRefIdeal := hFfn2BwdRefIdeal) (hPre_finite_ffn2 := hPre_finite_ffn2)
    ∧ preserves_Ffn2Head_Ffn2HeadIdeal
    ∧ algebraic_Ffn2HeadIdeal_Ffn2HeadRefIdeal_pre_finite_head (hFfn2HeadIdeal := hFfn2HeadIdeal) (hFfn2HeadRefIdeal := hFfn2HeadRefIdeal) (hPre_finite_head := hPre_finite_head)
    ∧ preserves_MixFwd_MixFwdIdeal
    ∧ algebraic_MixFwdIdeal_MixFwdRefIdeal (hMixFwdIdeal := hMixFwdIdeal) (hMixFwdRefIdeal := hMixFwdRefIdeal)
    ∧ preserves_Ffn1Fwd_Ffn1FwdIdeal
    ∧ algebraic_Ffn1FwdIdeal_Ffn1FwdRefIdeal (hFfn1FwdIdeal := hFfn1FwdIdeal) (hFfn1FwdRefIdeal := hFfn1FwdRefIdeal)
    ∧ preserves_DwIn_DwInIdeal
    ∧ algebraic_DwInIdeal_DwInRefIdeal (hDwInIdeal := hDwInIdeal) (hDwInRefIdeal := hDwInRefIdeal)
    ∧ preserves_MixDy_MixDyIdeal
    ∧ algebraic_MixDyIdeal_MixDyRefIdeal (hMixDyIdeal := hMixDyIdeal) (hMixDyRefIdeal := hMixDyRefIdeal)
    ∧ preserves_MixOut_MixOutIdeal
    ∧ algebraic_MixOutIdeal_MixOutRefIdeal (hMixOutIdeal := hMixOutIdeal) (hMixOutRefIdeal := hMixOutRefIdeal)
    ∧ preserves_GlaBwd_GlaBwdIdeal
    ∧ preserves_GlaFwd_GlaFwdIdeal
-- ==== Pre_finite_dxa.lean ====
abbrev S1x2048x2048 : Shape := ⟨3, ![1, 2048, 2048]⟩
abbrev S1x2048 : Shape := ⟨2, ![1, 2048]⟩
abbrev S1x2048x11264 : Shape := ⟨3, ![1, 2048, 11264]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S1x2048x11264 : S_.BroadcastsInDim S1x2048x11264 (![] : Fin 0 → Fin S1x2048x11264.rank)

variable [Facts]

def fn {F : FTy → Type} [FloatOps F] (main_arg0 : FVec F S1x2048x2048 .f32) (main_arg1 : FVec F S1x2048 .f32) (main_arg2 : FVec F S1x2048x11264 .f32) (main_arg3 : FVec F S1x2048x11264 .f32) (main_arg4 : FVec F S1x2048x2048 .f32) : IVec S1x2048x2048 1 × IVec S1x2048 1 × IVec S1x2048x11264 1 × IVec S1x2048x11264 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x11264 .f32 := Host.absf main_arg2
  let main_cst_1 : FVec F S_ .f32 := constant S_ .f32 0x7F800000#32
  let main_v7 : FVec F S1x2048x11264 .f32 := broadcastInDim S1x2048x11264 ![] bcast_S_S1x2048x11264 main_cst_1
  let main_v8 : IVec S1x2048x11264 1 := cmpf .olt main_v6 main_v7
  let main_v9 : FVec F S1x2048x11264 .f32 := Host.absf main_arg3
  let main_cst_2 : FVec F S_ .f32 := constant S_ .f32 0x7F800000#32
  let main_v10 : FVec F S1x2048x11264 .f32 := broadcastInDim S1x2048x11264 ![] bcast_S_S1x2048x11264 main_cst_2
  let main_v11 : IVec S1x2048x11264 1 := cmpf .olt main_v9 main_v10
  (main_v2, main_v5, main_v8, main_v11)
-- ==== Pre_finite_dxb.lean ====
abbrev S1x2048x2048 : Shape := ⟨3, ![1, 2048, 2048]⟩
abbrev S1x2048 : Shape := ⟨2, ![1, 2048]⟩
abbrev S1x2048x11264 : Shape := ⟨3, ![1, 2048, 11264]⟩
abbrev S2048x2048 : Shape := ⟨2, ![2048, 2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S1x2048x11264 : S_.BroadcastsInDim S1x2048x11264 (![] : Fin 0 → Fin S1x2048x11264.rank)

variable [Facts]

def fn {F : FTy → Type} [FloatOps F] (main_arg0 : FVec F S1x2048x2048 .f32) (main_arg1 : FVec F S1x2048 .f32) (main_arg2 : FVec F S1x2048x11264 .f32) (main_arg3 : FVec F S1x2048x11264 .f32) (main_arg4 : FVec F S1x2048x2048 .f32) (main_arg5 : FVec F S2048x2048 .f32) : IVec S1x2048x2048 1 × IVec S1x2048 1 × IVec S1x2048x11264 1 × IVec S1x2048x11264 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x11264 .f32 := Host.absf main_arg2
  let main_cst_1 : FVec F S_ .f32 := constant S_ .f32 0x7F800000#32
  let main_v7 : FVec F S1x2048x11264 .f32 := broadcastInDim S1x2048x11264 ![] bcast_S_S1x2048x11264 main_cst_1
  let main_v8 : IVec S1x2048x11264 1 := cmpf .olt main_v6 main_v7
  let main_v9 : FVec F S1x2048x11264 .f32 := Host.absf main_arg3
  let main_cst_2 : FVec F S_ .f32 := constant S_ .f32 0x7F800000#32
  let main_v10 : FVec F S1x2048x11264 .f32 := broadcastInDim S1x2048x11264 ![] bcast_S_S1x2048x11264 main_cst_2
  let main_v11 : IVec S1x2048x11264 1 := cmpf .olt main_v9 main_v10
  (main_v2, main_v5, main_v8, main_v11)
-- ==== Pre_finite_ffn2.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S1x2048x11264 : S_.BroadcastsInDim S1x2048x11264 (![] : Fin 0 → Fin S1x2048x11264.rank)
  bcast_S_S1x5632x2048 : S_.BroadcastsInDim S1x5632x2048 (![] : Fin 0 → Fin S1x5632x2048.rank)

variable [Facts]

def fn {F : FTy → Type} [FloatOps F] (main_arg0 : FVec F S1x2048x2048 .f32) (main_arg1 : FVec F S1x2048 .f32) (main_arg2 : FVec F S1x2048x11264 .f32) (main_arg3 : FVec F S1x5632x2048 .f32) (main_arg4 : FVec F S1x2048x2048 .f32) : IVec S1x2048x2048 1 × IVec S1x2048 1 × IVec S1x2048x11264 1 × IVec S1x5632x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x11264 .f32 := Host.absf main_arg2
  let main_cst_1 : FVec F S_ .f32 := constant S_ .f32 0x7F800000#32
  let main_v7 : FVec F S1x2048x11264 .f32 := broadcastInDim S1x2048x11264 ![] bcast_S_S1x2048x11264 main_cst_1
  let main_v8 : IVec S1x2048x11264 1 := cmpf .olt main_v6 main_v7
  let main_v9 : FVec F S1x5632x2048 .f32 := Host.absf main_arg3
  let main_cst_2 : FVec F S_ .f32 := constant S_ .f32 0x7F800000#32
  let main_v10 : FVec F S1x5632x2048 .f32 := broadcastInDim S1x5632x2048 ![] bcast_S_S1x5632x2048 main_cst_2
  let main_v11 : IVec S1x5632x2048 1 := cmpf .olt main_v9 main_v10
  let main_v12 : FVec F S1x2048x2048 .f32 := Host.absf main_arg4
  let main_cst_3 : FVec F S_ .f32 := constant S_ .f32 0x7F800000#32
  let main_v13 : FVec F S1x2048x2048 .f32 := broadcastInDim S1x2048x2048 ![] bcast_S_S1x2048x2048 main_cst_3
  let main_v14 : IVec S1x2048x2048 1 := cmpf .olt main_v12 main_v13
  (main_v2, main_v5, main_v8, main_v11, main_v14)
-- ==== Pre_finite_gu.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S1x2048x11264 : S_.BroadcastsInDim S1x2048x11264 (![] : Fin 0 → Fin S1x2048x11264.rank)
  bcast_S_S1x5632x2048 : S_.BroadcastsInDim S1x5632x2048 (![] : Fin 0 → Fin S1x5632x2048.rank)

variable [Facts]

def fn {F : FTy → Type} [FloatOps F] (main_arg0 : FVec F S1x2048x2048 .f32) (main_arg1 : FVec F S1x2048 .f32) (main_arg2 : FVec F S1x2048x11264 .f32) (main_arg3 : FVec F S1x5632x2048 .f32) (main_arg4 : FVec F S1x2048x2048 .f32) : IVec S1x2048x2048 1 × IVec S1x2048 1 × IVec S1x2048x11264 1 × IVec S1x5632x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x11264 .f32 := Host.absf main_arg2
  let main_cst_1 : FVec F S_ .f32 := constant S_ .f32 0x7F800000#32
  let main_v7 : FVec F S1x2048x11264 .f32 := broadcastInDim S1x2048x11264 ![] bcast_S_S1x2048x11264 main_cst_1
  let main_v8 : IVec S1x2048x11264 1 := cmpf .olt main_v6 main_v7
  let main_v9 : FVec F S1x5632x2048 .f32 := Host.absf main_arg3
  let main_cst_2 : FVec F S_ .f32 := constant S_ .f32 0x7F800000#32
  let main_v10 : FVec F S1x5632x2048 .f32 := broadcastInDim S1x5632x2048 ![] bcast_S_S1x5632x2048 main_cst_2
  let main_v11 : IVec S1x5632x2048 1 := cmpf .olt main_v9 main_v10
  let main_v12 : FVec F S1x2048x2048 .f32 := Host.absf main_arg4
  let main_cst_3 : FVec F S_ .f32 := constant S_ .f32 0x7F800000#32
  let main_v13 : FVec F S1x2048x2048 .f32 := broadcastInDim S1x2048x2048 ![] bcast_S_S1x2048x2048 main_cst_3
  let main_v14 : IVec S1x2048x2048 1 := cmpf .olt main_v12 main_v13
  (main_v2, main_v5, main_v8, main_v11, main_v14)
-- ==== Pre_finite_head.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S1x2048x11264 : S_.BroadcastsInDim S1x2048x11264 (![] : Fin 0 → Fin S1x2048x11264.rank)
  bcast_S_S1x5632x2048 : S_.BroadcastsInDim S1x5632x2048 (![] : Fin 0 → Fin S1x5632x2048.rank)
  bcast_S_S2048 : S_.BroadcastsInDim S2048 (![] : Fin 0 → Fin S2048.rank)

variable [Facts]

def fn {F : FTy → Type} [FloatOps F] (main_arg0 : FVec F S1x2048x2048 .f32) (main_arg1 : FVec F S1x2048 .f32) (main_arg2 : FVec F S1x2048x11264 .f32) (main_arg3 : FVec F S1x5632x2048 .f32) (main_arg4 : FVec F S2048 .f32) (main_arg5 : FVec F S1x2048x2048 .f32) : IVec S1x2048x2048 1 × IVec S1x2048 1 × IVec S1x2048x11264 1 × IVec S1x5632x2048 1 × IVec S2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x11264 .f32 := Host.absf main_arg2
  let main_cst_1 : FVec F S_ .f32 := constant S_ .f32 0x7F800000#32
  let main_v7 : FVec F S1x2048x11264 .f32 := broadcastInDim S1x2048x11264 ![] bcast_S_S1x2048x11264 main_cst_1
  let main_v8 : IVec S1x2048x11264 1 := cmpf .olt main_v6 main_v7
  let main_v9 : FVec F S1x5632x2048 .f32 := Host.absf main_arg3
  let main_cst_2 : FVec F S_ .f32 := constant S_ .f32 0x7F800000#32
  let main_v10 : FVec F S1x5632x2048 .f32 := broadcastInDim S1x5632x2048 ![] bcast_S_S1x5632x2048 main_cst_2
  let main_v11 : IVec S1x5632x2048 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S1x2048x2048 .f32 := Host.absf main_arg5
  let main_cst_4 : FVec F S_ .f32 := constant S_ .f32 0x7F800000#32
  let main_v16 : FVec F S1x2048x2048 .f32 := broadcastInDim S1x2048x2048 ![] bcast_S_S1x2048x2048 main_cst_4
  let main_v17 : IVec S1x2048x2048 1 := cmpf .olt main_v15 main_v16
  (main_v2, main_v5, main_v8, main_v11, main_v14, main_v17)
-- ==== Pre_finite_mix.lean ====
abbrev S1x2048x2048 : Shape := ⟨3, ![1, 2048, 2048]⟩
abbrev S1x2048 : Shape := ⟨2, ![1, 2048]⟩
abbrev S1x2048x4112 : Shape := ⟨3, ![1, 2048, 4112]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S1x2048x4112 : S_.BroadcastsInDim S1x2048x4112 (![] : Fin 0 → Fin S1x2048x4112.rank)

variable [Facts]

def fn {F : FTy → Type} [FloatOps F] (main_arg0 : FVec F S1x2048x2048 .f32) (main_arg1 : FVec F S1x2048 .f32) (main_arg2 : FVec F S1x2048x4112 .f32) (main_arg3 : FVec F S1x2048x4112 .f32) (main_arg4 : FVec F S1x2048x2048 .f32) : IVec S1x2048x2048 1 × IVec S1x2048 1 × IVec S1x2048x4112 1 × IVec S1x2048x4112 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048x4112 .f32 := Host.absf main_arg2
  let main_cst_1 : FVec F S_ .f32 := constant S_ .f32 0x7F800000#32
  let main_v7 : FVec F S1x2048x4112 .f32 := broadcastInDim S1x2048x4112 ![] bcast_S_S1x2048x4112 main_cst_1
  let main_v8 : IVec S1x2048x4112 1 := cmpf .olt main_v6 main_v7
  let main_v9 : FVec F S1x2048x4112 .f32 := Host.absf main_arg3
  let main_cst_2 : FVec F S_ .f32 := constant S_ .f32 0x7F800000#32
  let main_v10 : FVec F S1x2048x4112 .f32 := broadcastInDim S1x2048x4112 ![] bcast_S_S1x2048x4112 main_cst_2
  let main_v11 : IVec S1x2048x4112 1 := cmpf .olt main_v9 main_v10
  (main_v2, main_v5, main_v8, main_v11)
-- ==== Pre_finite_pool.lean ====
abbrev S1x2048x4112 : Shape := ⟨3, ![1, 2048, 4112]⟩
abbrev S1x4x256x256 : Shape := ⟨4, ![1, 4, 256, 256]⟩
abbrev S1x1024 : Shape := ⟨2, ![1, 1024]⟩
abbrev S1x2048x2048 : Shape := ⟨3, ![1, 2048, 2048]⟩
abbrev S_ : Shape := ⟨0, ![]⟩

class Facts : Prop where
  bcast_S_S1x2048x4112 : S_.BroadcastsInDim S1x2048x4112 (![] : Fin 0 → Fin S1x2048x4112.rank)
  bcast_S_S1x4x256x256 : S_.BroadcastsInDim S1x4x256x256 (![] : Fin 0 → Fin S1x4x256x256.rank)
  bcast_S_S1x1024 : S_.BroadcastsInDim S1x1024 (![] : Fin 0 → Fin S1x1024.rank)
  bcast_S_S1x2048x2048 : S_.BroadcastsInDim S1x2048x2048 (![] : Fin 0 → Fin S1x2048x2048.rank)

variable [Facts]

def fn {F : FTy → Type} [FloatOps F] (main_arg0 : FVec F S1x2048x4112 .f32) (main_arg1 : FVec F S1x4x256x256 .f32) (main_arg2 : FVec F S1x1024 .f32) (main_arg3 : FVec F S1x2048x2048 .f32) : IVec S1x2048x4112 1 × IVec S1x4x256x256 1 × IVec S1x1024 1 × IVec S1x2048x2048 1 :=
  let main_v0 : FVec F S1x2048x4112 .f32 := Host.absf main_arg0
  let main_cst : FVec F S_ .f32 := constant S_ .f32 0x7F800000#32
  let main_v1 : FVec F S1x2048x4112 .f32 := broadcastInDim S1x2048x4112 ![] bcast_S_S1x2048x4112 main_cst
  let main_v2 : IVec S1x2048x4112 1 := cmpf .olt main_v0 main_v1
  let main_v3 : FVec F S1x4x256x256 .f32 := Host.absf main_arg1
  let main_cst_0 : FVec F S_ .f32 := constant S_ .f32 0x7F800000#32
  let main_v4 : FVec F S1x4x256x256 .f32 := broadcastInDim S1x4x256x256 ![] bcast_S_S1x4x256x256 main_cst_0
  let main_v5 : IVec S1x4x256x256 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x2048x2048 .f32 := Host.absf main_arg3
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  (main_v2, main_v5, main_v8, main_v11)
-- ==== Ffn1Gu.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x11264 : Shape := ⟨2, ![2048, 11264]⟩
abbrev S1x2048x5632 : Shape := ⟨3, ![1, 2048, 5632]⟩
abbrev S2048x5632 : Shape := ⟨2, ![2048, 5632]⟩
abbrev S2x2048x5632 : Shape := ⟨3, ![2, 2048, 5632]⟩
abbrev S2048x2048 : Shape := ⟨2, ![2048, 2048]⟩
abbrev S5632x2048 : Shape := ⟨2, ![5632, 2048]⟩
abbrev S2x512x512 : Shape := ⟨3, ![2, 512, 512]⟩
abbrev S512x2048 : Shape := ⟨2, ![512, 2048]⟩
abbrev S1x512x512 : Shape := ⟨3, ![1, 512, 512]⟩
abbrev S512x512 : Shape := ⟨2, ![512, 512]⟩

abbrev nBuf : Space → Nat
  | .hbm => 41
  | .vmem => 10
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048x2048, .f32⟩
  | .hbm, ⟨5, _⟩ => ⟨S2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x2048, .f32⟩
  | .hbm, ⟨18, _⟩ => ⟨S1x2048x2048, .f32⟩
  | .hbm, ⟨19, _⟩ => ⟨S1x1x2048, .f32⟩
  | .hbm, ⟨20, _⟩ => ⟨S1x2048x2048, .f32⟩
  | .hbm, ⟨21, _⟩ => ⟨S1x2048x2048, .f32⟩
  | .hbm, ⟨22, _⟩ => ⟨S2048x11264, .f32⟩
  | .hbm, ⟨23, _⟩ => ⟨S1x2048x11264, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x2048x5632, .f32⟩
  | .hbm, ⟨29, _⟩ => ⟨S1x2048x5632, .f32⟩
  | .hbm, ⟨30, _⟩ => ⟨S2x2048x5632, .f32⟩
  | .hbm, ⟨31, _⟩ => ⟨S2x2048x5632, .bf16⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .bf16⟩
  | .hbm, ⟨37, _⟩ => ⟨S5632x2048, .f32⟩
  | .hbm, ⟨38, _⟩ => ⟨S5632x2048, .bf16⟩
  | .hbm, ⟨39, _⟩ => ⟨S2x2048x5632, .bf16⟩
  | .hbm, ⟨40, _⟩ => ⟨S5632x2048, .bf16⟩
  | .local _ .vmem, ⟨0, _⟩ => ⟨S2048x2048, .bf16⟩
  | .local _ .vmem, ⟨1, _⟩ => ⟨S2x512x512, .bf16⟩
  | .local _ .vmem, ⟨2, _⟩ => ⟨S2x512x512, .bf16⟩
  | .local _ .vmem, ⟨3, _⟩ => ⟨S512x2048, .bf16⟩
  | .local _ .vmem, ⟨4, _⟩ => ⟨S512x2048, .bf16⟩
  | .local _ .vmem, ⟨5, _⟩ => ⟨S2x512x512, .bf16⟩
  | .local _ .vmem, ⟨6, _⟩ => ⟨S2x512x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def k0_cond3 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_22 : BitVec 32 := 0#32
  let v50 : BitVec 1 := Scalar.cmpi .ne v49 c0_i32_22
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Ffn1GuRefIdeal.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x11264 : Shape := ⟨2, ![2048, 11264]⟩
abbrev S1x2048x5632 : Shape := ⟨3, ![1, 2048, 5632]⟩
abbrev S5632x2048 : Shape := ⟨2, ![5632, 2048]⟩
abbrev S2048x5632 : Shape := ⟨2, ![2048, 5632]⟩
abbrev S2x2048x5632 : Shape := ⟨3, ![2, 2048, 5632]⟩

abbrev nBuf : Space → Nat
  | .hbm => 73
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048x2048, .f32⟩
  | .hbm, ⟨5, _⟩ => ⟨S2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x2048, .f32⟩
  | .hbm, ⟨18, _⟩ => ⟨S1x2048x2048, .f32⟩
  | .hbm, ⟨19, _⟩ => ⟨S1x1x2048, .f32⟩
  | .hbm, ⟨20, _⟩ => ⟨S1x2048x2048, .f32⟩
  | .hbm, ⟨21, _⟩ => ⟨S1x2048x2048, .f32⟩
  | .hbm, ⟨22, _⟩ => ⟨S2048x11264, .f32⟩
  | .hbm, ⟨23, _⟩ => ⟨S1x2048x11264, .f32⟩
  | .hbm, ⟨24, _⟩ => ⟨S1x2048x5632, .f32⟩
  | .hbm, ⟨25, _⟩ => ⟨S1x2048x5632, .f32⟩
  | .hbm, ⟨26, _⟩ => ⟨S1x2048x5632, .f32⟩
  | .hbm, ⟨27, _⟩ => ⟨S1x2048x5632, .f32⟩
  | .hbm, ⟨28, _⟩ => ⟨S_, .f32⟩
  | .hbm, ⟨29, _⟩ => ⟨S1x2048x5632, .f32⟩
  | .hbm, ⟨30, _⟩ => ⟨S1x2048x5632, .f32⟩
  | .hbm, ⟨31, _⟩ => ⟨S_, .f32⟩
  | .hbm, ⟨32, _⟩ => ⟨S1x2048x5632, .f32⟩
  | .hbm, ⟨33, _⟩ => ⟨S1x2048x5632, .f32⟩
  | .hbm, ⟨34, _⟩ => ⟨S_, .f32⟩
  | .hbm, ⟨35, _⟩ => ⟨S1x2048x5632, .f32⟩
  | .hbm, ⟨36, _⟩ => ⟨S1x2048x5632, .f32⟩
  | .hbm, ⟨37, _⟩ => ⟨S1x2048x5632, .f32⟩
  | .hbm, ⟨38, _⟩ => ⟨S1x2048x5632, .f32⟩
  | .hbm, ⟨39, _⟩ => ⟨S1x2048x5632, .f32⟩
  | .hbm, ⟨40, _⟩ => ⟨S5632x2048, .f32⟩
  | .hbm, ⟨41, _⟩ => ⟨S1x2048x2048, .f32⟩
  | .hbm, ⟨42, _⟩ => ⟨S_, .f32⟩
  | .hbm, ⟨43, _⟩ => ⟨S1x2048x2048, .f32⟩
  | .hbm, ⟨44, _⟩ => ⟨S1x2048x2048, .f32⟩
  | .hbm, ⟨45, _⟩ => ⟨S_, .f32⟩
  | .hbm, ⟨46, _⟩ => ⟨S1x2048x2048, .f32⟩
  | .hbm, ⟨47, _⟩ => ⟨S1x2048x2048, .f32⟩
  | .hbm, ⟨48, _⟩ => ⟨S2048x5632, .f32⟩
  | .hbm, ⟨49, _⟩ => ⟨S5632x2048, .f32⟩
  | .hbm, ⟨50, _⟩ => ⟨S1x2048x5632, .f32⟩
  | .hbm, ⟨51, _⟩ => ⟨S1x5632x2048, .f32⟩
  | .hbm, ⟨52, _⟩ => ⟨S1x2048x5632, .f32⟩
  | .hbm, ⟨53, _⟩ => ⟨S1x2048x5632, .f32⟩
  | .hbm, ⟨54, _⟩ => ⟨S1x2048x5632, .f32⟩
  | .hbm, ⟨55, _⟩ => ⟨S1x2048x5632, .f32⟩
  | .hbm, ⟨56, _⟩ => ⟨S1x2048x5632, .f32⟩
  | .hbm, ⟨57, _⟩ => ⟨S1x2048x5632, .f32⟩
  | .hbm, ⟨58, _⟩ => ⟨S_, .f32⟩
  | .hbm, ⟨59, _⟩ => ⟨S1x2048x11264, .f32⟩
  | .hbm, ⟨60, _⟩ => ⟨S_, .f32⟩
  | .hbm, ⟨61, _⟩ => ⟨S1x2048x11264, .f32⟩
  | .hbm, ⟨62, _⟩ => ⟨S1x2048x11264, .f32⟩
  | .hbm, ⟨63, _⟩ => ⟨S1x2048x5632, .f32⟩
  | .hbm, ⟨64, _⟩ => ⟨S2048x5632, .f32⟩
  | .hbm, ⟨65, _⟩ => ⟨S1x2048x5632, .f32⟩
  | .hbm, ⟨66, _⟩ => ⟨S2048x5632, .f32⟩
  | .hbm, ⟨67, _⟩ => ⟨S1x2048x5632, .f32⟩
  | .hbm, ⟨68, _⟩ => ⟨S1x2048x5632, .f32⟩
  | .hbm, ⟨69, _⟩ => ⟨S2x2048x5632, .f32⟩
  | .hbm, ⟨70, _⟩ => ⟨S2x2048x5632, .bf16⟩
  | .hbm, ⟨71, _⟩ => ⟨S5632x2048, .f32⟩
  | .hbm, ⟨72, _⟩ => ⟨S5632x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]
-- ==== MixBwd.lean ====
abbrev S1x2048x2048 : Shape := ⟨3, ![1, 2048, 2048]⟩
abbrev S1x2048 : Shape := ⟨2, ![1, 2048]⟩
abbrev S1x2048x4112 : Shape := ⟨3, ![1, 2048, 4112]⟩
abbrev S2048x4112 : Shape := ⟨2, ![2048, 4112]⟩
abbrev S4112x2048 : Shape := ⟨2, ![4112, 2048]⟩
abbrev S16x2048 : Shape := ⟨2, ![16, 2048]⟩
abbrev S_ : Shape := ⟨0, ![]⟩
abbrev S128x2048 : Shape := ⟨2, ![128, 2048]⟩
abbrev S2048x4224 : Shape := ⟨2, ![2048, 4224]⟩
abbrev S2048x2048 : Shape := ⟨2, ![2048, 2048]⟩
abbrev S256x4224 : Shape := ⟨2, ![256, 4224]⟩
abbrev S256x2048 : Shape := ⟨2, ![256, 2048]⟩
abbrev S256x4096 : Shape := ⟨2, ![256, 4096]⟩
abbrev S4096x2048 : Shape := ⟨2, ![4096, 2048]⟩
abbrev S256x128 : Shape := ⟨2, ![256, 128]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 22
  | .vmem => 15
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x4112, .f32⟩
  | .hbm, ⟨3, _⟩ => ⟨S1x2048x4112, .f32⟩
  | .hbm, ⟨4, _⟩ => ⟨S1x2048x2048, .f32⟩
  | .hbm, ⟨5, _⟩ => ⟨S2048x4112, .f32⟩
  | .hbm, ⟨6, _⟩ => ⟨S4112x2048, .f32⟩
  | .hbm, ⟨7, _⟩ => ⟨S4112x2048, .bf16⟩
  | .hbm, ⟨8, _⟩ => ⟨S16x2048, .bf16⟩
  | .hbm, ⟨9, _⟩ => ⟨S_, .i32⟩
  | .hbm, ⟨10, _⟩ => ⟨S_, .bf16⟩
  | .hbm, ⟨11, _⟩ => ⟨S128x2048, .bf16⟩
  | .hbm, ⟨12, _⟩ => ⟨S2048x4112, .f32⟩
  | .hbm, ⟨13, _⟩ => ⟨S_, .i32⟩
  | .hbm, ⟨14, _⟩ => ⟨S_, .f32⟩
  | .hbm, ⟨15, _⟩ => ⟨S2048x4224, .f32⟩
  | .hbm, ⟨16, _⟩ => ⟨S2048x4224, .bf16⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .bf16⟩
  | .local _ .vmem, ⟨0, _⟩ => ⟨S256x4224, .bf16⟩
  | .local _ .vmem, ⟨1, _⟩ => ⟨S256x4224, .bf16⟩
  | .local _ .vmem, ⟨2, _⟩ => ⟨S4112x2048, .bf16⟩
  | .local _ .vmem, ⟨3, _⟩ => ⟨S128x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c64_i32 : BitVec 32 := 64#32
  let v23 : BitVec 32 := Scalar.muli arg11 c64_i32
  v23
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32 : BitVec 32 := 64#32
  let v23 : BitVec 32 := Scalar.muli arg11 c64_i32
  let v24 : BitVec 32 := v23
  let v25 : Index := Scalar.indexCast v24
  let c0_15 : Index := 0#32
  ![v25.toNat, 0]
def k0_cond1 (i : grid0.Coords) : BitVec 1 :=
  let arg0 : BitVec 32 := BitVec.ofNat 32 (i 0).val
  let c0_i32_11 : BitVec 32 := 0#32
  let v17 : BitVec 1 := Scalar.cmpi .eq arg0 c0_i32_11
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32_13 : BitVec 32 := 0#32
  let v20 : BitVec 1 := Scalar.cmpi .sgt arg0 c0_i32_13
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4112x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixBwdRefIdeal.lean ====
abbrev S1x2048x2048 : Shape := ⟨3, ![1, 2048, 2048]⟩
abbrev S1x2048 : Shape := ⟨2, ![1, 2048]⟩
abbrev S1x2048x4112 : Shape := ⟨3, ![1, 2048, 4112]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x4112 : Shape := ⟨2, ![2048, 4112]⟩
abbrev S2048x2048 : Shape := ⟨2, ![2048, 2048]⟩

abbrev nBuf : Space → Nat
  | .hbm => 63
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x4112, .f32⟩
  | .hbm, ⟨3, _⟩ => ⟨S1x2048x4112, .f32⟩
  | .hbm, ⟨4, _⟩ => ⟨S1x2048x2048, .f32⟩
  | .hbm, ⟨5, _⟩ => ⟨S2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x2048, .f32⟩
  | .hbm, ⟨22, _⟩ => ⟨S1x2048x2048, .f32⟩
  | .hbm, ⟨23, _⟩ => ⟨S1x1x2048, .f32⟩
  | .hbm, ⟨24, _⟩ => ⟨S1x2048x2048, .f32⟩
  | .hbm, ⟨25, _⟩ => ⟨S1x2048x2048, .f32⟩
  | .hbm, ⟨26, _⟩ => ⟨S2048x4112, .f32⟩
  | .hbm, ⟨27, _⟩ => ⟨S1x2048x4112, .f32⟩
  | .hbm, ⟨28, _⟩ => ⟨S1x2048x2048, .f32⟩
  | .hbm, ⟨29, _⟩ => ⟨S1x2048x2048, .f32⟩
  | .hbm, ⟨30, _⟩ => ⟨S_, .f32⟩
  | .hbm, ⟨31, _⟩ => ⟨S1x2048, .f32⟩
  | .hbm, ⟨32, _⟩ => ⟨S1x1x2048, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S2048, .f32⟩
  | .hbm, ⟨37, _⟩ => ⟨S1x2048x2048, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x2048, .f32⟩
  | .hbm, ⟨42, _⟩ => ⟨S1x2048x2048, .f32⟩
  | .hbm, ⟨43, _⟩ => ⟨S1x2048x1, .f32⟩
  | .hbm, ⟨44, _⟩ => ⟨S_, .f32⟩
  | .hbm, ⟨45, _⟩ => ⟨S1x2048x1, .f32⟩
  | .hbm, ⟨46, _⟩ => ⟨S1x2048x1, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048x2048, .f32⟩
  | .hbm, ⟨51, _⟩ => ⟨S1x2048x2048, .f32⟩
  | .hbm, ⟨52, _⟩ => ⟨S1x2048x2048, .f32⟩
  | .hbm, ⟨53, _⟩ => ⟨S1x2048x2048, .f32⟩
  | .hbm, ⟨54, _⟩ => ⟨S1x2048x2048, .f32⟩
  | .hbm, ⟨55, _⟩ => ⟨S1x2048, .f32⟩
  | .hbm, ⟨56, _⟩ => ⟨S1x2048x2048, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S2048x2048, .f32⟩
  | .hbm, ⟨61, _⟩ => ⟨S2048x2048, .f32⟩
  | .hbm, ⟨62, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== DxB.lean ====
abbrev S1x2048x2048 : Shape := ⟨3, ![1, 2048, 2048]⟩
abbrev S1x2048 : Shape := ⟨2, ![1, 2048]⟩
abbrev S1x2048x11264 : Shape := ⟨3, ![1, 2048, 11264]⟩
abbrev S2048x2048 : Shape := ⟨2, ![2048, 2048]⟩
abbrev S1x2048x5632 : Shape := ⟨3, ![1, 2048, 5632]⟩
abbrev S2048x5632 : Shape := ⟨2, ![2048, 5632]⟩
abbrev S2x2048x5632 : Shape := ⟨3, ![2, 2048, 5632]⟩
abbrev S2048x11264 : Shape := ⟨2, ![2048, 11264]⟩
abbrev S2x512x512 : Shape := ⟨3, ![2, 512, 512]⟩
abbrev S512x2048 : Shape := ⟨2, ![512, 2048]⟩
abbrev S2048x512 : Shape := ⟨2, ![2048, 512]⟩
abbrev S1x512x512 : Shape := ⟨3, ![1, 512, 512]⟩
abbrev S512x512 : Shape := ⟨2, ![512, 512]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 20
  | .vmem => 15
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x2048x11264, .f32⟩
  | .hbm, ⟨4, _⟩ => ⟨S1x2048x2048, .f32⟩
  | .hbm, ⟨5, _⟩ => ⟨S2048x2048, .f32⟩
  | .hbm, ⟨6, _⟩ => ⟨S1x2048x5632, .f32⟩
  | .hbm, ⟨7, _⟩ => ⟨S2048x5632, .f32⟩
  | .hbm, ⟨8, _⟩ => ⟨S1x2048x5632, .f32⟩
  | .hbm, ⟨9, _⟩ => ⟨S2048x5632, .f32⟩
  | .hbm, ⟨10, _⟩ => ⟨S1x2048x5632, .f32⟩
  | .hbm, ⟨11, _⟩ => ⟨S1x2048x5632, .f32⟩
  | .hbm, ⟨12, _⟩ => ⟨S2x2048x5632, .f32⟩
  | .hbm, ⟨13, _⟩ => ⟨S2x2048x5632, .bf16⟩
  | .hbm, ⟨14, _⟩ => ⟨S2048x2048, .f32⟩
  | .hbm, ⟨15, _⟩ => ⟨S2048x2048, .f32⟩
  | .hbm, ⟨16, _⟩ => ⟨S2048x11264, .f32⟩
  | .hbm, ⟨17, _⟩ => ⟨S2048x11264, .bf16⟩
  | .hbm, ⟨18, _⟩ => ⟨S2048x2048, .f32⟩
  | .hbm, ⟨19, _⟩ => ⟨S1x2048, .f32⟩
  | .local _ .vmem, ⟨0, _⟩ => ⟨S2x512x512, .bf16⟩
  | .local _ .vmem, ⟨1, _⟩ => ⟨S2x512x512, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .f32⟩
  | .local _ .vmem, ⟨12, _⟩ => ⟨S512x2048, .f32⟩
  | .local _ .vmem, ⟨13, _⟩ => ⟨S1x2048, .f32⟩
  | .local _ .vmem, ⟨14, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v19 : BitVec 1 := Scalar.cmpi .eq arg1 c10_i32
  let v20 : BitVec 32 := Scalar.extui v19
  let c0_i32_14 : BitVec 32 := 0#32
  let v21 : BitVec 1 := Scalar.cmpi .ne v20 c0_i32_14
  v21

@[reducible] def k0_t1_loop : Scf.Loop 32 :=
  let c0_i32_16 : BitVec 32 := 0#32
  let c8_i32 : BitVec 32 := 8#32
  let v23 : BitVec 32 := Scalar.addi c0_i32_16 c8_i32
  let c1_i32 : BitVec 32 := 1#32
  ⟨c0_i32_16, v23, c1_i32⟩
def k0_mult1 (k0_t1 : Fin k0_t1_loop.trips) : BitVec 32 :=
  let c0_i32_16 : BitVec 32 := 0#32
  let c1_i32 : BitVec 32 := 1#32
  let arg12 : BitVec 32 := Scf.iv c0_i32_16 c1_i32 k0_t1
  let c64_i32 : BitVec 32 := 64#32
  let v31 : BitVec 32 := Scalar.muli arg12 c64_i32
  v31
def k0_off1 (k0_t1 : Fin k0_t1_loop.trips) : Fin 2 → Nat :=
  let c0_i32_16 : BitVec 32 := 0#32
  let c1_i32 : BitVec 32 := 1#32
  let arg12 : BitVec 32 := Scf.iv c0_i32_16 c1_i32 k0_t1
  let c64_i32 : BitVec 32 := 64#32
  let v31 : BitVec 32 := Scalar.muli arg12 c64_i32
  let v32 : BitVec 32 := v31
  let v33 : Index := Scalar.indexCast v32
  let c0_22 : Index := 0#32
  ![v33.toNat, 0]
def k0_cond3 (i : grid0.Coords) : BitVec 1 :=
  let arg0 : BitVec 32 := BitVec.ofNat 32 (i 0).val
  let c0_i32_18 : BitVec 32 := 0#32
  let v25 : BitVec 1 := Scalar.cmpi .eq arg0 c0_i32_18
  let v26 : BitVec 32 := Scalar.extui v25
  let c0_i32_19 : BitVec 32 := 0#32
  let v27 : BitVec 1 := Scalar.cmpi .ne v26 c0_i32_19
  v27

def k0_cond4 (i : grid0.Coords) : BitVec 1 :=
  let arg0 : BitVec 32 := BitVec.ofNat 32 (i 0).val
  let c0_i32_20 : BitVec 32 := 0#32
  let v28 : BitVec 1 := Scalar.cmpi .sgt arg0 c0_i32_20
  let v29 : BitVec 32 := Scalar.extui v28
  let c0_i32_21 : BitVec 32 := 0#32
  let v30 : BitVec 1 := Scalar.cmpi .ne v29 c0_i32_21
  v30

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DxBRefIdeal.lean ====
abbrev S1x2048x2048 : Shape := ⟨3, ![1, 2048, 2048]⟩
abbrev S1x2048 : Shape := ⟨2, ![1, 2048]⟩
abbrev S1x2048x11264 : Shape := ⟨3, ![1, 2048, 11264]⟩
abbrev S2048x2048 : Shape := ⟨2, ![2048, 2048]⟩
abbrev S1x1024x2048 : Shape := ⟨3, ![1, 1024, 2048]⟩
abbrev S2048 : Shape := ⟨1, ![2048]⟩
abbrev S_ : Shape := ⟨0, ![]⟩
abbrev S1x1024 : Shape := ⟨2, ![1, 1024]⟩
abbrev S1x1024x1 : Shape := ⟨3, ![1, 1024, 1]⟩
abbrev S1x1x2048 : Shape := ⟨3, ![1, 1, 2048]⟩
abbrev S2048x11264 : Shape := ⟨2, ![2048, 11264]⟩
abbrev S1x1024x11264 : Shape := ⟨3, ![1, 1024, 11264]⟩
abbrev S1024 : Shape := ⟨1, ![1024]⟩
abbrev S1024x2048 : Shape := ⟨2, ![1024, 2048]⟩

abbrev nBuf : Space → Nat
  | .hbm => 64
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x2048x11264, .f32⟩
  | .hbm, ⟨4, _⟩ => ⟨S1x2048x2048, .f32⟩
  | .hbm, ⟨5, _⟩ => ⟨S2048x2048, .f32⟩
  | .hbm, ⟨6, _⟩ => ⟨S1x1024x2048, .f32⟩
  | .hbm, ⟨7, _⟩ => ⟨S2048, .f32⟩
  | .hbm, ⟨8, _⟩ => ⟨S1x1024x2048, .f32⟩
  | .hbm, ⟨9, _⟩ => ⟨S_, .f32⟩
  | .hbm, ⟨10, _⟩ => ⟨S1x1024, .f32⟩
  | .hbm, ⟨11, _⟩ => ⟨S1x1024x1, .f32⟩
  | .hbm, ⟨12, _⟩ => ⟨S_, .f32⟩
  | .hbm, ⟨13, _⟩ => ⟨S1x1024x1, .f32⟩
  | .hbm, ⟨14, _⟩ => ⟨S1x1024x1, .f32⟩
  | .hbm, ⟨15, _⟩ => ⟨S_, .f32⟩
  | .hbm, ⟨16, _⟩ => ⟨S1x1024x1, .f32⟩
  | .hbm, ⟨17, _⟩ => ⟨S1x1024x1, .f32⟩
  | .hbm, ⟨18, _⟩ => ⟨S1x1024x1, .f32⟩
  | .hbm, ⟨19, _⟩ => ⟨S1x1024x1, .f32⟩
  | .hbm, ⟨20, _⟩ => ⟨S_, .f32⟩
  | .hbm, ⟨21, _⟩ => ⟨S1x1024x1, .f32⟩
  | .hbm, ⟨22, _⟩ => ⟨S1x1024x1, .f32⟩
  | .hbm, ⟨23, _⟩ => ⟨S1x1024x2048, .f32⟩
  | .hbm, ⟨24, _⟩ => ⟨S1x1024x2048, .f32⟩
  | .hbm, ⟨25, _⟩ => ⟨S1x1x2048, .f32⟩
  | .hbm, ⟨26, _⟩ => ⟨S1x1024x2048, .f32⟩
  | .hbm, ⟨27, _⟩ => ⟨S1x1024x2048, .f32⟩
  | .hbm, ⟨28, _⟩ => ⟨S2048x11264, .f32⟩
  | .hbm, ⟨29, _⟩ => ⟨S1x1024x11264, .f32⟩
  | .hbm, ⟨30, _⟩ => ⟨S1x1024x11264, .f32⟩
  | .hbm, ⟨31, _⟩ => ⟨S1x1024x2048, .f32⟩
  | .hbm, ⟨32, _⟩ => ⟨S1x1024x2048, .f32⟩
  | .hbm, ⟨33, _⟩ => ⟨S_, .f32⟩
  | .hbm, ⟨34, _⟩ => ⟨S1x2048, .f32⟩
  | .hbm, ⟨35, _⟩ => ⟨S1x1x2048, .f32⟩
  | .hbm, ⟨36, _⟩ => ⟨S1x1024x2048, .f32⟩
  | .hbm, ⟨37, _⟩ => ⟨S1x1024x2048, .f32⟩
  | .hbm, ⟨38, _⟩ => ⟨S_, .f32⟩
  | .hbm, ⟨39, _⟩ => ⟨S2048, .f32⟩
  | .hbm, ⟨40, _⟩ => ⟨S1x1024x2048, .f32⟩
  | .hbm, ⟨41, _⟩ => ⟨S_, .f32⟩
  | .hbm, ⟨42, _⟩ => ⟨S1x1024, .f32⟩
  | .hbm, ⟨43, _⟩ => ⟨S1x1024x1, .f32⟩
  | .hbm, ⟨44, _⟩ => ⟨S1x1024x2048, .f32⟩
  | .hbm, ⟨45, _⟩ => ⟨S1x1024x2048, .f32⟩
  | .hbm, ⟨46, _⟩ => ⟨S1x1024x1, .f32⟩
  | .hbm, ⟨47, _⟩ => ⟨S_, .f32⟩
  | .hbm, ⟨48, _⟩ => ⟨S1x1024x1, .f32⟩
  | .hbm, ⟨49, _⟩ => ⟨S1x1024x1, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S1x1024x2048, .f32⟩
  | .hbm, ⟨54, _⟩ => ⟨S1x1024x2048, .f32⟩
  | .hbm, ⟨55, _⟩ => ⟨S1x1024x2048, .f32⟩
  | .hbm, ⟨56, _⟩ => ⟨S1x1024x2048, .f32⟩
  | .hbm, ⟨57, _⟩ => ⟨S1x1024x2048, .f32⟩
  | .hbm, ⟨58, _⟩ => ⟨S1x2048, .f32⟩
  | .hbm, ⟨59, _⟩ => ⟨S1024x2048, .f32⟩
  | .hbm, ⟨60, _⟩ => ⟨S1x1024x2048, .f32⟩
  | .hbm, ⟨61, _⟩ => ⟨S1x1024x2048, .f32⟩
  | .hbm, ⟨62, _⟩ => ⟨S1024x2048, .f32⟩
  | .hbm, ⟨63, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== DxA.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x2048x5632 : Shape := ⟨3, ![1, 2048, 5632]⟩
abbrev S2048x5632 : Shape := ⟨2, ![2048, 5632]⟩
abbrev S2x2048x5632 : Shape := ⟨3, ![2, 2048, 5632]⟩
abbrev S2048x2048 : Shape := ⟨2, ![2048, 2048]⟩
abbrev S2048x11264 : Shape := ⟨2, ![2048, 11264]⟩
abbrev S2x512x512 : Shape := ⟨3, ![2, 512, 512]⟩
abbrev S512x2048 : Shape := ⟨2, ![512, 2048]⟩
abbrev S2048x512 : Shape := ⟨2, ![2048, 512]⟩
abbrev S1x512x512 : Shape := ⟨3, ![1, 512, 512]⟩
abbrev S512x512 : Shape := ⟨2, ![512, 512]⟩
abbrev S64x2048 : Shape := ⟨2, ![64, 2048]⟩
abbrev S64 : Shape := ⟨1, ![64]⟩
abbrev S64x1 : Shape := ⟨2, ![64, 1]⟩
abbrev S2048 : Shape := ⟨1, ![2048]⟩
abbrev S1024x2048 : Shape := ⟨2, ![1024, 2048]⟩

abbrev nBuf : Space → Nat
  | .hbm => 20
  | .vmem => 15
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x2048x11264, .f32⟩
  | .hbm, ⟨4, _⟩ => ⟨S1x2048x2048, .f32⟩
  | .hbm, ⟨5, _⟩ => ⟨S1x2048x5632, .f32⟩
  | .hbm, ⟨6, _⟩ => ⟨S2048x5632, .f32⟩
  | .hbm, ⟨7, _⟩ => ⟨S1x2048x5632, .f32⟩
  | .hbm, ⟨8, _⟩ => ⟨S2048x5632, .f32⟩
  | .hbm, ⟨9, _⟩ => ⟨S1x2048x5632, .f32⟩
  | .hbm, ⟨10, _⟩ => ⟨S1x2048x5632, .f32⟩
  | .hbm, ⟨11, _⟩ => ⟨S2x2048x5632, .f32⟩
  | .hbm, ⟨12, _⟩ => ⟨S2x2048x5632, .bf16⟩
  | .hbm, ⟨13, _⟩ => ⟨S2048x2048, .f32⟩
  | .hbm, ⟨14, _⟩ => ⟨S2048x2048, .f32⟩
  | .hbm, ⟨15, _⟩ => ⟨S2048x11264, .f32⟩
  | .hbm, ⟨16, _⟩ => ⟨S2048x11264, .bf16⟩
  | .hbm, ⟨17, _⟩ => ⟨S2048x2048, .f32⟩
  | .hbm, ⟨18, _⟩ => ⟨S1x2048, .f32⟩
  | .hbm, ⟨19, _⟩ => ⟨S1024x2048, .f32⟩
  | .local _ .vmem, ⟨0, _⟩ => ⟨S2x512x512, .bf16⟩
  | .local _ .vmem, ⟨1, _⟩ => ⟨S2x512x512, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .f32⟩
  | .local _ .vmem, ⟨12, _⟩ => ⟨S512x2048, .f32⟩
  | .local _ .vmem, ⟨13, _⟩ => ⟨S1x2048, .f32⟩
  | .local _ .vmem, ⟨14, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v19 : BitVec 1 := Scalar.cmpi .eq arg1 c10_i32
  let v20 : BitVec 32 := Scalar.extui v19
  let c0_i32_14 : BitVec 32 := 0#32
  let v21 : BitVec 1 := Scalar.cmpi .ne v20 c0_i32_14
  v21

@[reducible] def k0_t1_loop : Scf.Loop 32 :=
  let c0_i32_16 : BitVec 32 := 0#32
  let c8_i32 : BitVec 32 := 8#32
  let v23 : BitVec 32 := Scalar.addi c0_i32_16 c8_i32
  let c1_i32 : BitVec 32 := 1#32
  ⟨c0_i32_16, v23, c1_i32⟩
def k0_mult1 (k0_t1 : Fin k0_t1_loop.trips) : BitVec 32 :=
  let c0_i32_16 : BitVec 32 := 0#32
  let c1_i32 : BitVec 32 := 1#32
  let arg11 : BitVec 32 := Scf.iv c0_i32_16 c1_i32 k0_t1
  let c64_i32 : BitVec 32 := 64#32
  let v31 : BitVec 32 := Scalar.muli arg11 c64_i32
  v31
def k0_off1 (k0_t1 : Fin k0_t1_loop.trips) : Fin 2 → Nat :=
  let c0_i32_16 : BitVec 32 := 0#32
  let c1_i32 : BitVec 32 := 1#32
  let arg11 : BitVec 32 := Scf.iv c0_i32_16 c1_i32 k0_t1
  let c64_i32 : BitVec 32 := 64#32
  let v31 : BitVec 32 := Scalar.muli arg11 c64_i32
  let v32 : BitVec 32 := v31
  let v33 : Index := Scalar.indexCast v32
  let c0_22 : Index := 0#32
  ![v33.toNat, 0]
def k0_cond3 (i : grid0.Coords) : BitVec 1 :=
  let arg0 : BitVec 32 := BitVec.ofNat 32 (i 0).val
  let c0_i32_18 : BitVec 32 := 0#32
  let v25 : BitVec 1 := Scalar.cmpi .eq arg0 c0_i32_18
  let v26 : BitVec 32 := Scalar.extui v25
  let c0_i32_19 : BitVec 32 := 0#32
  let v27 : BitVec 1 := Scalar.cmpi .ne v26 c0_i32_19
  v27

def k0_cond4 (i : grid0.Coords) : BitVec 1 :=
  let arg0 : BitVec 32 := BitVec.ofNat 32 (i 0).val
  let c0_i32_20 : BitVec 32 := 0#32
  let v28 : BitVec 1 := Scalar.cmpi .sgt arg0 c0_i32_20
  let v29 : BitVec 32 := Scalar.extui v28
  let c0_i32_21 : BitVec 32 := 0#32
  let v30 : BitVec 1 := Scalar.cmpi .ne v29 c0_i32_21
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DxARefIdeal.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x1024x2048 : Shape := ⟨3, ![1, 1024, 2048]⟩
abbrev S2048 : Shape := ⟨1, ![2048]⟩
abbrev S_ : Shape := ⟨0, ![]⟩
abbrev S1x1024 : Shape := ⟨2, ![1, 1024]⟩
abbrev S1x1024x1 : Shape := ⟨3, ![1, 1024, 1]⟩
abbrev S1x1x2048 : Shape := ⟨3, ![1, 1, 2048]⟩
abbrev S2048x11264 : Shape := ⟨2, ![2048, 11264]⟩
abbrev S1x1024x11264 : Shape := ⟨3, ![1, 1024, 11264]⟩
abbrev S1024 : Shape := ⟨1, ![1024]⟩
abbrev S1024x2048 : Shape := ⟨2, ![1024, 2048]⟩

abbrev nBuf : Space → Nat
  | .hbm => 61
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x2048x11264, .f32⟩
  | .hbm, ⟨4, _⟩ => ⟨S1x2048x2048, .f32⟩
  | .hbm, ⟨5, _⟩ => ⟨S1x1024x2048, .f32⟩
  | .hbm, ⟨6, _⟩ => ⟨S2048, .f32⟩
  | .hbm, ⟨7, _⟩ => ⟨S1x1024x2048, .f32⟩
  | .hbm, ⟨8, _⟩ => ⟨S_, .f32⟩
  | .hbm, ⟨9, _⟩ => ⟨S1x1024, .f32⟩
  | .hbm, ⟨10, _⟩ => ⟨S1x1024x1, .f32⟩
  | .hbm, ⟨11, _⟩ => ⟨S_, .f32⟩
  | .hbm, ⟨12, _⟩ => ⟨S1x1024x1, .f32⟩
  | .hbm, ⟨13, _⟩ => ⟨S1x1024x1, .f32⟩
  | .hbm, ⟨14, _⟩ => ⟨S_, .f32⟩
  | .hbm, ⟨15, _⟩ => ⟨S1x1024x1, .f32⟩
  | .hbm, ⟨16, _⟩ => ⟨S1x1024x1, .f32⟩
  | .hbm, ⟨17, _⟩ => ⟨S1x1024x1, .f32⟩
  | .hbm, ⟨18, _⟩ => ⟨S1x1024x1, .f32⟩
  | .hbm, ⟨19, _⟩ => ⟨S_, .f32⟩
  | .hbm, ⟨20, _⟩ => ⟨S1x1024x1, .f32⟩
  | .hbm, ⟨21, _⟩ => ⟨S1x1024x1, .f32⟩
  | .hbm, ⟨22, _⟩ => ⟨S1x1024x2048, .f32⟩
  | .hbm, ⟨23, _⟩ => ⟨S1x1024x2048, .f32⟩
  | .hbm, ⟨24, _⟩ => ⟨S1x1x2048, .f32⟩
  | .hbm, ⟨25, _⟩ => ⟨S1x1024x2048, .f32⟩
  | .hbm, ⟨26, _⟩ => ⟨S1x1024x2048, .f32⟩
  | .hbm, ⟨27, _⟩ => ⟨S2048x11264, .f32⟩
  | .hbm, ⟨28, _⟩ => ⟨S1x1024x11264, .f32⟩
  | .hbm, ⟨29, _⟩ => ⟨S1x1024x11264, .f32⟩
  | .hbm, ⟨30, _⟩ => ⟨S1x1024x2048, .f32⟩
  | .hbm, ⟨31, _⟩ => ⟨S1x1024x2048, .f32⟩
  | .hbm, ⟨32, _⟩ => ⟨S_, .f32⟩
  | .hbm, ⟨33, _⟩ => ⟨S1x2048, .f32⟩
  | .hbm, ⟨34, _⟩ => ⟨S1x1x2048, .f32⟩
  | .hbm, ⟨35, _⟩ => ⟨S1x1024x2048, .f32⟩
  | .hbm, ⟨36, _⟩ => ⟨S1x1024x2048, .f32⟩
  | .hbm, ⟨37, _⟩ => ⟨S_, .f32⟩
  | .hbm, ⟨38, _⟩ => ⟨S2048, .f32⟩
  | .hbm, ⟨39, _⟩ => ⟨S1x1024x2048, .f32⟩
  | .hbm, ⟨40, _⟩ => ⟨S_, .f32⟩
  | .hbm, ⟨41, _⟩ => ⟨S1x1024, .f32⟩
  | .hbm, ⟨42, _⟩ => ⟨S1x1024x1, .f32⟩
  | .hbm, ⟨43, _⟩ => ⟨S1x1024x2048, .f32⟩
  | .hbm, ⟨44, _⟩ => ⟨S1x1024x2048, .f32⟩
  | .hbm, ⟨45, _⟩ => ⟨S1x1024x1, .f32⟩
  | .hbm, ⟨46, _⟩ => ⟨S_, .f32⟩
  | .hbm, ⟨47, _⟩ => ⟨S1x1024x1, .f32⟩
  | .hbm, ⟨48, _⟩ => ⟨S1x1024x1, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S1x1024x2048, .f32⟩
  | .hbm, ⟨53, _⟩ => ⟨S1x1024x2048, .f32⟩
  | .hbm, ⟨54, _⟩ => ⟨S1x1024x2048, .f32⟩
  | .hbm, ⟨55, _⟩ => ⟨S1x1024x2048, .f32⟩
  | .hbm, ⟨56, _⟩ => ⟨S1x1024x2048, .f32⟩
  | .hbm, ⟨57, _⟩ => ⟨S1x2048, .f32⟩
  | .hbm, ⟨58, _⟩ => ⟨S1x1024x2048, .f32⟩
  | .hbm, ⟨59, _⟩ => ⟨S1x1024x2048, .f32⟩
  | .hbm, ⟨60, _⟩ => ⟨S1024x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Pool.lean ====
abbrev S1x2048x4112 : Shape := ⟨3, ![1, 2048, 4112]⟩
abbrev S1x4x256x256 : Shape := ⟨4, ![1, 4, 256, 256]⟩
abbrev S1x1024 : Shape := ⟨2, ![1, 1024]⟩
abbrev S1x2048x2048 : Shape := ⟨3, ![1, 2048, 2048]⟩
abbrev S1x2048x1024 : Shape := ⟨3, ![1, 2048, 1024]⟩
abbrev S2048x1024 : Shape := ⟨2, ![2048, 1024]⟩
abbrev S4x256x256 : Shape := ⟨3, ![4, 256, 256]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩
abbrev S2048x2048 : Shape := ⟨2, ![2048, 2048]⟩
abbrev S256 : Shape := ⟨1, ![256]⟩

abbrev nBuf : Space → Nat
  | .hbm => 14
  | .vmem => 24
  | .smem => 0
  | _ => 0

abbrev bufTy : (tb : Table) → Fin (tcTables nBuf tb) → BufTy
  | .hbm, ⟨0, _⟩ => ⟨S1x2048x4112, .f32⟩
  | .hbm, ⟨1, _⟩ => ⟨S1x4x256x256, .f32⟩
  | .hbm, ⟨2, _⟩ => ⟨S1x1024, .f32⟩
  | .hbm, ⟨3, _⟩ => ⟨S1x2048x2048, .f32⟩
  | .hbm, ⟨4, _⟩ => ⟨S1x2048x1024, .f32⟩
  | .hbm, ⟨5, _⟩ => ⟨S2048x1024, .f32⟩
  | .hbm, ⟨6, _⟩ => ⟨S4x256x256, .f32⟩
  | .hbm, ⟨7, _⟩ => ⟨S4x256x256, .bf16⟩
  | .hbm, ⟨8, _⟩ => ⟨S2048x1024, .bf16⟩
  | .hbm, ⟨9, _⟩ => ⟨S2048x1024, .bf16⟩
  | .hbm, ⟨10, _⟩ => ⟨S2048x2048, .f32⟩
  | .hbm, ⟨11, _⟩ => ⟨S2048x1024, .bf16⟩
  | .hbm, ⟨12, _⟩ => ⟨S4x256x256, .f32⟩
  | .hbm, ⟨13, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256, .f32⟩
  | .local _ .vmem, ⟨17, _⟩ => ⟨S1x256, .f32⟩
  | .local _ .vmem, ⟨18, _⟩ => ⟨S2048x256, .bf16⟩
  | .local _ .vmem, ⟨19, _⟩ => ⟨S2048x256, .bf16⟩
  | .local _ .vmem, ⟨20, _⟩ => ⟨S1x256x256, .f32⟩
  | .local _ .vmem, ⟨21, _⟩ => ⟨S1x256x256, .f32⟩
  | .local _ .vmem, ⟨22, _⟩ => ⟨S1x256, .f32⟩
  | .local _ .vmem, ⟨23, _⟩ => ⟨S1x256, .f32⟩
  | _, _ => ⟨S1x2048x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== PoolRefIdeal.lean ====
abbrev S1x2048x4112 : Shape := ⟨3, ![1, 2048, 4112]⟩
abbrev S1x4x256x256 : Shape := ⟨4, ![1, 4, 256, 256]⟩
abbrev S1x1024 : Shape := ⟨2, ![1, 1024]⟩
abbrev S1x2048x2048 : Shape := ⟨3, ![1, 2048, 2048]⟩
abbrev S1x2048x1024 : Shape := ⟨3, ![1, 2048, 1024]⟩
abbrev S4x256x256 : Shape := ⟨3, ![4, 256, 256]⟩
abbrev S1024 : Shape := ⟨1, ![1024]⟩
abbrev S1x2048x4x256 : Shape := ⟨4, ![1, 2048, 4, 256]⟩
abbrev S_ : Shape := ⟨0, ![]⟩
abbrev S2048 : Shape := ⟨1, ![2048]⟩
abbrev S1x2048x1x256 : Shape := ⟨4, ![1, 2048, 1, 256]⟩
abbrev S1x2048x256 : Shape := ⟨3, ![1, 2048, 256]⟩
abbrev S1x2x256 : Shape := ⟨3, ![1, 2, 256]⟩
abbrev S1x2046x256 : Shape := ⟨3, ![1, 2046, 256]⟩
abbrev S1x2048x1 : Shape := ⟨3, ![1, 2048, 1]⟩
abbrev S1x4x256 : Shape := ⟨3, ![1, 4, 256]⟩
abbrev S1x2044x256 : Shape := ⟨3, ![1, 2044, 256]⟩
abbrev S1x8x256 : Shape := ⟨3, ![1, 8, 256]⟩
abbrev S1x2040x256 : Shape := ⟨3, ![1, 2040, 256]⟩
abbrev S1x16x256 : Shape := ⟨3, ![1, 16, 256]⟩
abbrev S1x2032x256 : Shape := ⟨3, ![1, 2032, 256]⟩
abbrev S4x256x1x2048 : Shape := ⟨4, ![4, 256, 1, 2048]⟩
abbrev S1x1x1024 : Shape := ⟨3, ![1, 1, 1024]⟩
abbrev S4x1x2048x256 : Shape := ⟨4, ![4, 1, 2048, 256]⟩
abbrev S2048x1024 : Shape := ⟨2, ![2048, 1024]⟩

abbrev nBuf : Space → Nat
  | .hbm => 174
  | .vmem => 0
  | .smem => 0
  | _ => 0

abbrev hbmTy0_0 (i : Nat) : BufTy := match i % 128 with
  | 0 => ⟨S1x2048x4112, .f32⟩
  | 1 => ⟨S1x4x256x256, .f32⟩
  | 2 => ⟨S1x1024, .f32⟩
  | 3 => ⟨S1x2048x2048, .f32⟩
  | 4 => ⟨S1x2048x1024, .f32⟩
  | 5 => ⟨S4x256x256, .f32⟩
  | 6 => ⟨S1024, .f32⟩
  | 7 => ⟨S1x2048x4x256, .f32⟩
  | 8 => ⟨S_, .f32⟩
  | 9 => ⟨S_, .f32⟩
  | 10 => ⟨S1x2048x4x256, .f32⟩
  | 11 => ⟨S2048, .i32⟩
  | 12 => ⟨S_, .i32⟩
  | 13 => ⟨S2048, .i32⟩
  | 14 => ⟨S2048, .i32⟩
  | 15 => ⟨S1x2048x1x256, .f32⟩
  | 16 => ⟨S1x2048x256, .f32⟩
  | 17 => ⟨S_, .f32⟩
  | 18 => ⟨S1x2x256, .f32⟩
  | 19 => ⟨S1x2046x256, .f32⟩
  | 20 => ⟨S1x2048x256, .f32⟩
  | 21 => ⟨S_, .f32⟩
  | 22 => ⟨S1x2x256, .f32⟩
  | 23 => ⟨S_, .i32⟩
  | 24 => ⟨S2048, .i32⟩
  | 25 => ⟨S2048, .i32⟩
  | 26 => ⟨S2048, .f32⟩
  | 27 => ⟨S1x2048x1, .f32⟩
  | 28 => ⟨S1x2048x256, .f32⟩
  | 29 => ⟨S1x2048x256, .f32⟩
  | 30 => ⟨S1x2048x256, .f32⟩
  | 31 => ⟨S1x2048x1x256, .f32⟩
  | 32 => ⟨S1x2048x256, .f32⟩
  | 33 => ⟨S_, .f32⟩
  | 34 => ⟨S1x4x256, .f32⟩
  | 35 => ⟨S1x2044x256, .f32⟩
  | 36 => ⟨S1x2048x256, .f32⟩
  | 37 => ⟨S_, .f32⟩
  | 38 => ⟨S1x4x256, .f32⟩
  | 39 => ⟨S_, .i32⟩
  | 40 => ⟨S2048, .i32⟩
  | 41 => ⟨S2048, .i32⟩
  | 42 => ⟨S2048, .f32⟩
  | 43 => ⟨S1x2048x1, .f32⟩
  | 44 => ⟨S1x2048x256, .f32⟩
  | 45 => ⟨S1x2048x256, .f32⟩
  | 46 => ⟨S1x2048x256, .f32⟩
  | 47 => ⟨S1x2048x1x256, .f32⟩
  | 48 => ⟨S1x2048x256, .f32⟩
  | 49 => ⟨S_, .f32⟩
  | 50 => ⟨S1x8x256, .f32⟩
  | 51 => ⟨S1x2040x256, .f32⟩
  | 52 => ⟨S1x2048x256, .f32⟩
  | 53 => ⟨S_, .f32⟩
  | 54 => ⟨S1x8x256, .f32⟩
  | 55 => ⟨S_, .i32⟩
  | 56 => ⟨S2048, .i32⟩
  | 57 => ⟨S2048, .i32⟩
  | 58 => ⟨S2048, .f32⟩
  | 59 => ⟨S1x2048x1, .f32⟩
  | 60 => ⟨S1x2048x256, .f32⟩
  | 61 => ⟨S1x2048x256, .f32⟩
  | 62 => ⟨S1x2048x256, .f32⟩
  | 63 => ⟨S1x2048x1x256, .f32⟩
  | 64 => ⟨S1x2048x256, .f32⟩
  | 65 => ⟨S_, .f32⟩
  | 66 => ⟨S1x16x256, .f32⟩
  | 67 => ⟨S1x2032x256, .f32⟩
  | 68 => ⟨S1x2048x256, .f32⟩
  | 69 => ⟨S_, .f32⟩
  | 70 => ⟨S1x16x256, .f32⟩
  | 71 => ⟨S_, .i32⟩
  | 72 => ⟨S2048, .i32⟩
  | 73 => ⟨S2048, .i32⟩
  | 74 => ⟨S2048, .f32⟩
  | 75 => ⟨S1x2048x1, .f32⟩
  | 76 => ⟨S1x2048x256, .f32⟩
  | 77 => ⟨S1x2048x256, .f32⟩
  | 78 => ⟨S1x2048x256, .f32⟩
  | 79 => ⟨S1x2048x1x256, .f32⟩
  | 80 => ⟨S1x2048x1x256, .f32⟩
  | 81 => ⟨S1x2048x1x256, .f32⟩
  | 82 => ⟨S1x2048x1x256, .f32⟩
  | 83 => ⟨S1x2048x4x256, .f32⟩
  | 84 => ⟨S1x2048x4x256, .f32⟩
  | 85 => ⟨S4x256x1x2048, .f32⟩
  | 86 => ⟨S1x2048x4x256, .f32⟩
  | 87 => ⟨S1x2048x1024, .f32⟩
  | 88 => ⟨S1x1x1024, .f32⟩
  | 89 => ⟨S1x2048x1024, .f32⟩
  | 90 => ⟨S1x2048x1024, .f32⟩
  | 91 => ⟨S1x2048x1024, .f32⟩
  | 92 => ⟨S1x2048x1024, .f32⟩
  | 93 => ⟨S_, .f32⟩
  | 94 => ⟨S1x1024, .f32⟩
  | 95 => ⟨S1x1x1024, .f32⟩
  | 96 => ⟨S1x2048x1024, .f32⟩
  | 97 => ⟨S1x2048x1024, .f32⟩
  | 98 => ⟨S_, .f32⟩
  | 99 => ⟨S1024, .f32⟩
  | 100 => ⟨S1x2048x4x256, .f32⟩
  | 101 => ⟨S4x256x1x2048, .f32⟩
  | 102 => ⟨S4x1x2048x256, .f32⟩
  | 103 => ⟨S1x2048x4x256, .f32⟩
  | 104 => ⟨S4x256x256, .f32⟩
  | 105 => ⟨S4x256x256, .f32⟩
  | 106 => ⟨S1x2048x4x256, .f32⟩
  | 107 => ⟨S1x2048x1x256, .f32⟩
  | 108 => ⟨S1x2048x256, .f32⟩
  | 109 => ⟨S1x2048x1x256, .f32⟩
  | 110 => ⟨S1x2048x256, .f32⟩
  | 111 => ⟨S1x2048x1x256, .f32⟩
  | 112 => ⟨S1x2048x256, .f32⟩
  | 113 => ⟨S1x2048x1x256, .f32⟩
  | 114 => ⟨S1x2048x256, .f32⟩
  | 115 => ⟨S1x2048x256, .f32⟩
  | 116 => ⟨S1x2048x256, .f32⟩
  | 117 => ⟨S1x2048x256, .f32⟩
  | 118 => ⟨S1x16x256, .f32⟩
  | 119 => ⟨S1x2032x256, .f32⟩
  | 120 => ⟨S_, .f32⟩
  | 121 => ⟨S1x2048x256, .f32⟩
  | 122 => ⟨S1x2048x256, .f32⟩
  | 123 => ⟨S1x2048x1x256, .f32⟩
  | 124 => ⟨S_, .f32⟩
  | 125 => ⟨S1x2048x4x256, .f32⟩
  | 126 => ⟨S1x2048x256, .f32⟩
  | 127 => ⟨S1x2048x256, .f32⟩
  | _ => ⟨S1x2048x4112, .f32⟩

abbrev hbmTy0_1 (i : Nat) : BufTy := match i % 128 with
  | 0 => ⟨S1x2048x256, .f32⟩
  | 1 => ⟨S1x8x256, .f32⟩
  | 2 => ⟨S1x2040x256, .f32⟩
  | 3 => ⟨S_, .f32⟩
  | 4 => ⟨S1x2048x256, .f32⟩
  | 5 => ⟨S1x2048x256, .f32⟩
  | 6 => ⟨S1x2048x1x256, .f32⟩
  | 7 => ⟨S_, .f32⟩
  | 8 => ⟨S1x2048x4x256, .f32⟩
  | 9 => ⟨S1x2048x4x256, .f32⟩
  | 10 => ⟨S1x2048x256, .f32⟩
  | 11 => ⟨S1x2048x256, .f32⟩
  | 12 => ⟨S1x2048x256, .f32⟩
  | 13 => ⟨S1x4x256, .f32⟩
  | 14 => ⟨S1x2044x256, .f32⟩
  | 15 => ⟨S_, .f32⟩
  | 16 => ⟨S1x2048x256, .f32⟩
  | 17 => ⟨S1x2048x256, .f32⟩
  | 18 => ⟨S1x2048x1x256, .f32⟩
  | 19 => ⟨S_, .f32⟩
  | 20 => ⟨S1x2048x4x256, .f32⟩
  | 21 => ⟨S1x2048x4x256, .f32⟩
  | 22 => ⟨S1x2048x256, .f32⟩
  | 23 => ⟨S1x2048x256, .f32⟩
  | 24 => ⟨S1x2048x256, .f32⟩
  | 25 => ⟨S1x2x256, .f32⟩
  | 26 => ⟨S1x2046x256, .f32⟩
  | 27 => ⟨S_, .f32⟩
  | 28 => ⟨S1x2048x256, .f32⟩
  | 29 => ⟨S1x2048x256, .f32⟩
  | 30 => ⟨S1x2048x1x256, .f32⟩
  | 31 => ⟨S_, .f32⟩
  | 32 => ⟨S1x2048x4x256, .f32⟩
  | 33 => ⟨S1x2048x4x256, .f32⟩
  | 34 => ⟨S_, .f32⟩
  | 35 => ⟨S_, .f32⟩
  | 36 => ⟨S1x2048x4x256, .f32⟩
  | 37 => ⟨S1x2048x4x256, .f32⟩
  | 38 => ⟨S1x2048x1024, .f32⟩
  | 39 => ⟨S1x1024, .f32⟩
  | 40 => ⟨S1x4x256x256, .f32⟩
  | 41 => ⟨S2048x1024, .f32⟩
  | 42 => ⟨S2048x1024, .bf16⟩
  | 43 => ⟨S2048x1024, .f32⟩
  | 44 => ⟨S2048x1024, .bf16⟩
  | 45 => ⟨S4x256x256, .f32⟩
  | _ => ⟨S1x2048x4112, .f32⟩

abbrev hbmTy (i : Nat) : BufTy := match i / 128 with
  | 0 => hbmTy0_0 i
  | 1 => hbmTy0_1 i
  | _ => ⟨S1x2048x4112, .f32⟩

abbrev bufTy : (tb : Table) → Fin (tcTables nBuf tb) → BufTy
  | .hbm, ⟨i, _⟩ => hbmTy i
  | _, _ => ⟨S1x2048x4112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_11 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_13 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_14 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_15 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_16 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_17 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_18 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_19 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_20 : Ref sig .tc := ⟨.hbm, 159, rfl⟩
abbrev main_v131 : Ref sig .tc := ⟨.hbm, 160, rfl⟩
abbrev main_v132 : Ref sig .tc := ⟨.hbm, 161, rfl⟩
abbrev main_call1_call0_cst : Ref sig .tc := ⟨.hbm, 162, rfl⟩
abbrev main_call1_call0_v0 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩

abbrev nD : Nat := 1
abbrev τ : Topo := Topo.v7x

variable {F : FTy → Type} [FloatOps F]
-- ==== Ffn2Bwd.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x11264 : Shape := ⟨2, ![2048, 11264]⟩
abbrev S1x2048x5632 : Shape := ⟨3, ![1, 2048, 5632]⟩
abbrev S2048x5632 : Shape := ⟨2, ![2048, 5632]⟩
abbrev S2x2048x5632 : Shape := ⟨3, ![2, 2048, 5632]⟩
abbrev S2048x2048 : Shape := ⟨2, ![2048, 2048]⟩
abbrev S5632x2048 : Shape := ⟨2, ![5632, 2048]⟩
abbrev S512x2048 : Shape := ⟨2, ![512, 2048]⟩
abbrev S2x512x512 : Shape := ⟨3, ![2, 512, 512]⟩
abbrev S2048x512 : Shape := ⟨2, ![2048, 512]⟩
abbrev S512x512 : Shape := ⟨2, ![512, 512]⟩
abbrev S64x2048 : Shape := ⟨2, ![64, 2048]⟩
abbrev S1x512x512 : Shape := ⟨3, ![1, 512, 512]⟩
abbrev S64 : Shape := ⟨1, ![64]⟩
abbrev S64x1 : Shape := ⟨2, ![64, 1]⟩

abbrev nBuf : Space → Nat
  | .hbm => 44
  | .vmem => 25
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S1x2048x2048, .f32⟩
  | .hbm, ⟨5, _⟩ => ⟨S2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x2048, .f32⟩
  | .hbm, ⟨18, _⟩ => ⟨S1x2048x2048, .f32⟩
  | .hbm, ⟨19, _⟩ => ⟨S1x1x2048, .f32⟩
  | .hbm, ⟨20, _⟩ => ⟨S1x2048x2048, .f32⟩
  | .hbm, ⟨21, _⟩ => ⟨S1x2048x2048, .f32⟩
  | .hbm, ⟨22, _⟩ => ⟨S2048x11264, .f32⟩
  | .hbm, ⟨23, _⟩ => ⟨S1x2048x11264, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x2048x5632, .f32⟩
  | .hbm, ⟨29, _⟩ => ⟨S1x2048x5632, .f32⟩
  | .hbm, ⟨30, _⟩ => ⟨S2x2048x5632, .f32⟩
  | .hbm, ⟨31, _⟩ => ⟨S2x2048x5632, .bf16⟩
  | .hbm, ⟨32, _⟩ => ⟨S2048x2048, .f32⟩
  | .hbm, ⟨33, _⟩ => ⟨S2048x2048, .f32⟩
  | .hbm, ⟨34, _⟩ => ⟨S2048x11264, .f32⟩
  | .hbm, ⟨35, _⟩ => ⟨S2048x11264, .bf16⟩
  | .hbm, ⟨36, _⟩ => ⟨S5632x2048, .f32⟩
  | .hbm, ⟨37, _⟩ => ⟨S5632x2048, .bf16⟩
  | .hbm, ⟨38, _⟩ => ⟨S2x2048x5632, .bf16⟩
  | .hbm, ⟨39, _⟩ => ⟨S2048x5632, .bf16⟩
  | .hbm, ⟨40, _⟩ => ⟨S2048x2048, .bf16⟩
  | .hbm, ⟨41, _⟩ => ⟨S2048x2048, .f32⟩
  | .hbm, ⟨42, _⟩ => ⟨S2048x2048, .bf16⟩
  | .hbm, ⟨43, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2x512x512, .bf16⟩
  | .local _ .vmem, ⟨6, _⟩ => ⟨S2x512x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S2x512x512, .bf16⟩
  | .local _ .vmem, ⟨14, _⟩ => ⟨S2x512x512, .bf16⟩
  | .local _ .vmem, ⟨15, _⟩ => ⟨S512x512, .bf16⟩
  | .local _ .vmem, ⟨16, _⟩ => ⟨S512x512, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .f32⟩
  | .local _ .vmem, ⟨20, _⟩ => ⟨S512x2048, .f32⟩
  | .local _ .vmem, ⟨21, _⟩ => ⟨S512x2048, .bf16⟩
  | .local _ .vmem, ⟨22, _⟩ => ⟨S512x2048, .bf16⟩
  | .local _ .vmem, ⟨23, _⟩ => ⟨S1x2048, .f32⟩
  | .local _ .vmem, ⟨24, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev main_v30_4 : Ref sig .tc := ⟨.hbm, 42, rfl⟩
abbrev main_v30_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_33 : BitVec 32 := 0#32
  let c8_i32 : BitVec 32 := 8#32
  let v57 : BitVec 32 := Scalar.addi c0_i32_33 c8_i32
  let c1_i32 : BitVec 32 := 1#32
  ⟨c0_i32_33, v57, c1_i32⟩
def k0_mult1 (k0_t1 : Fin k0_t1_loop.trips) : BitVec 32 :=
  let c0_i32_33 : BitVec 32 := 0#32
  let c1_i32 : BitVec 32 := 1#32
  let arg16 : BitVec 32 := Scf.iv c0_i32_33 c1_i32 k0_t1
  let c64_i32 : BitVec 32 := 64#32
  let v62 : BitVec 32 := Scalar.muli arg16 c64_i32
  v62
def k0_off1 (k0_t1 : Fin k0_t1_loop.trips) : Fin 2 → Nat :=
  let c0_i32_33 : BitVec 32 := 0#32
  let c1_i32 : BitVec 32 := 1#32
  let arg16 : BitVec 32 := Scf.iv c0_i32_33 c1_i32 k0_t1
  let c64_i32 : BitVec 32 := 64#32
  let v62 : BitVec 32 := Scalar.muli arg16 c64_i32
  let v63 : BitVec 32 := v62
  let v64 : Index := Scalar.indexCast v63
  let c0_38 : Index := 0#32
  ![v64.toNat, 0]
def k0_cond2 (i : grid0.Coords) : BitVec 1 :=
  let arg1 : BitVec 32 := BitVec.ofNat 32 (i 1).val
  let c10_i32 : BitVec 32 := 10#32
  let v54 : BitVec 1 := Scalar.cmpi .eq arg1 c10_i32
  let v55 : BitVec 32 := Scalar.extui v54
  let c0_i32_32 : BitVec 32 := 0#32
  let v56 : BitVec 1 := Scalar.cmpi .ne v55 c0_i32_32
  v56

@[reducible] def k0_t2_loop : Scf.Loop 32 :=
  let c0_i32_34 : BitVec 32 := 0#32
  let c8_i32 : BitVec 32 := 8#32
  let v58 : BitVec 32 := Scalar.addi c0_i32_34 c8_i32
  let c1_i32 : BitVec 32 := 1#32
  ⟨c0_i32_34, v58, c1_i32⟩
def k0_mult2 (k0_t2 : Fin k0_t2_loop.trips) : BitVec 32 :=
  let c0_i32_34 : BitVec 32 := 0#32
  let c1_i32 : BitVec 32 := 1#32
  let arg16 : BitVec 32 := Scf.iv c0_i32_34 c1_i32 k0_t2
  let c64_i32 : BitVec 32 := 64#32
  let v66 : BitVec 32 := Scalar.muli arg16 c64_i32
  v66
def k0_off2 (k0_t2 : Fin k0_t2_loop.trips) : Fin 2 → Nat :=
  let c0_i32_34 : BitVec 32 := 0#32
  let c1_i32 : BitVec 32 := 1#32
  let arg16 : BitVec 32 := Scf.iv c0_i32_34 c1_i32 k0_t2
  let c64_i32 : BitVec 32 := 64#32
  let v66 : BitVec 32 := Scalar.muli arg16 c64_i32
  let v67 : BitVec 32 := v66
  let v68 : Index := Scalar.indexCast v67
  let c0_40 : Index := 0#32
  ![v68.toNat, 0]
def k0_cond3 (i : grid0.Coords) : BitVec 1 :=
  let arg0 : BitVec 32 := BitVec.ofNat 32 (i 0).val
  let c0_i32_36 : BitVec 32 := 0#32
  let v60 : BitVec 1 := Scalar.cmpi .eq arg0 c0_i32_36
  let v61 : BitVec 32 := Scalar.extui v60
  let c0_i32_37 : BitVec 32 := 0#32
  let v62 : BitVec 1 := Scalar.cmpi .ne v61 c0_i32_37
  v62

def k0_cond4 (i : grid0.Coords) : BitVec 1 :=
  let arg0 : BitVec 32 := BitVec.ofNat 32 (i 0).val
  let c0_i32_38 : BitVec 32 := 0#32
  let v63 : BitVec 1 := Scalar.cmpi .sgt arg0 c0_i32_38
  let v64 : BitVec 32 := Scalar.extui v63
  let c0_i32_39 : BitVec 32 := 0#32
  let v65 : BitVec 1 := Scalar.cmpi .ne v64 c0_i32_39
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Ffn2BwdRefIdeal.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x11264 : Shape := ⟨2, ![2048, 11264]⟩
abbrev S1x2048x5632 : Shape := ⟨3, ![1, 2048, 5632]⟩
abbrev S5632x2048 : Shape := ⟨2, ![5632, 2048]⟩
abbrev S2048x5632 : Shape := ⟨2, ![2048, 5632]⟩
abbrev S2x2048x5632 : Shape := ⟨3, ![2, 2048, 5632]⟩
abbrev S2048x2048 : Shape := ⟨2, ![2048, 2048]⟩

abbrev nBuf : Space → Nat
  | .hbm => 180
  | .vmem => 0
  | .smem => 0
  | _ => 0

abbrev hbmTy0_0 (i : Nat) : BufTy := match i % 128 with
  | 0 => ⟨S1x2048x2048, .f32⟩
  | 1 => ⟨S1x2048, .f32⟩
  | 2 => ⟨S1x2048x11264, .f32⟩
  | 3 => ⟨S1x5632x2048, .f32⟩
  | 4 => ⟨S1x2048x2048, .f32⟩
  | 5 => ⟨S2048, .f32⟩
  | 6 => ⟨S1x2048x2048, .f32⟩
  | 7 => ⟨S_, .f32⟩
  | 8 => ⟨S1x2048, .f32⟩
  | 9 => ⟨S1x2048x1, .f32⟩
  | 10 => ⟨S_, .f32⟩
  | 11 => ⟨S1x2048x1, .f32⟩
  | 12 => ⟨S1x2048x1, .f32⟩
  | 13 => ⟨S_, .f32⟩
  | 14 => ⟨S1x2048x1, .f32⟩
  | 15 => ⟨S1x2048x1, .f32⟩
  | 16 => ⟨S1x2048x1, .f32⟩
  | 17 => ⟨S1x2048x1, .f32⟩
  | 18 => ⟨S_, .f32⟩
  | 19 => ⟨S1x2048x1, .f32⟩
  | 20 => ⟨S1x2048x1, .f32⟩
  | 21 => ⟨S1x2048x2048, .f32⟩
  | 22 => ⟨S1x2048x2048, .f32⟩
  | 23 => ⟨S1x1x2048, .f32⟩
  | 24 => ⟨S1x2048x2048, .f32⟩
  | 25 => ⟨S1x2048x2048, .f32⟩
  | 26 => ⟨S2048x11264, .f32⟩
  | 27 => ⟨S1x2048x11264, .f32⟩
  | 28 => ⟨S1x2048x5632, .f32⟩
  | 29 => ⟨S1x2048x5632, .f32⟩
  | 30 => ⟨S1x2048x5632, .f32⟩
  | 31 => ⟨S1x2048x5632, .f32⟩
  | 32 => ⟨S_, .f32⟩
  | 33 => ⟨S1x2048x5632, .f32⟩
  | 34 => ⟨S1x2048x5632, .f32⟩
  | 35 => ⟨S_, .f32⟩
  | 36 => ⟨S1x2048x5632, .f32⟩
  | 37 => ⟨S1x2048x5632, .f32⟩
  | 38 => ⟨S_, .f32⟩
  | 39 => ⟨S1x2048x5632, .f32⟩
  | 40 => ⟨S1x2048x5632, .f32⟩
  | 41 => ⟨S1x2048x5632, .f32⟩
  | 42 => ⟨S1x2048x5632, .f32⟩
  | 43 => ⟨S1x2048x5632, .f32⟩
  | 44 => ⟨S5632x2048, .f32⟩
  | 45 => ⟨S1x2048x2048, .f32⟩
  | 46 => ⟨S_, .f32⟩
  | 47 => ⟨S1x2048x2048, .f32⟩
  | 48 => ⟨S1x2048x2048, .f32⟩
  | 49 => ⟨S1x2048x2048, .f32⟩
  | 50 => ⟨S1x2048x2048, .f32⟩
  | 51 => ⟨S_, .f32⟩
  | 52 => ⟨S1x2048x2048, .f32⟩
  | 53 => ⟨S1x2048x2048, .f32⟩
  | 54 => ⟨S1x2048x5632, .f32⟩
  | 55 => ⟨S1x2048x5632, .f32⟩
  | 56 => ⟨S1x2048x5632, .f32⟩
  | 57 => ⟨S1x2048x5632, .f32⟩
  | 58 => ⟨S1x2048x5632, .f32⟩
  | 59 => ⟨S1x2048x5632, .f32⟩
  | 60 => ⟨S1x2048x5632, .f32⟩
  | 61 => ⟨S_, .f32⟩
  | 62 => ⟨S1x2048x11264, .f32⟩
  | 63 => ⟨S_, .f32⟩
  | 64 => ⟨S1x2048x11264, .f32⟩
  | 65 => ⟨S1x2048x11264, .f32⟩
  | 66 => ⟨S1x2048x2048, .f32⟩
  | 67 => ⟨S1x2048x2048, .f32⟩
  | 68 => ⟨S_, .f32⟩
  | 69 => ⟨S1x2048, .f32⟩
  | 70 => ⟨S1x1x2048, .f32⟩
  | 71 => ⟨S1x2048x2048, .f32⟩
  | 72 => ⟨S1x2048x2048, .f32⟩
  | 73 => ⟨S_, .f32⟩
  | 74 => ⟨S2048, .f32⟩
  | 75 => ⟨S1x2048x2048, .f32⟩
  | 76 => ⟨S_, .f32⟩
  | 77 => ⟨S1x2048, .f32⟩
  | 78 => ⟨S1x2048x1, .f32⟩
  | 79 => ⟨S1x2048x2048, .f32⟩
  | 80 => ⟨S1x2048x2048, .f32⟩
  | 81 => ⟨S1x2048x2048, .f32⟩
  | 82 => ⟨S1x2048x1, .f32⟩
  | 83 => ⟨S_, .f32⟩
  | 84 => ⟨S1x2048x1, .f32⟩
  | 85 => ⟨S1x2048x1, .f32⟩
  | 86 => ⟨S_, .f32⟩
  | 87 => ⟨S2048, .f32⟩
  | 88 => ⟨S1x2048, .f32⟩
  | 89 => ⟨S1x2048x2048, .f32⟩
  | 90 => ⟨S1x2048x2048, .f32⟩
  | 91 => ⟨S1x2048x2048, .f32⟩
  | 92 => ⟨S1x2048x2048, .f32⟩
  | 93 => ⟨S1x2048x2048, .f32⟩
  | 94 => ⟨S1x2048, .f32⟩
  | 95 => ⟨S2048, .f32⟩
  | 96 => ⟨S1x2048x2048, .f32⟩
  | 97 => ⟨S_, .f32⟩
  | 98 => ⟨S1x2048, .f32⟩
  | 99 => ⟨S1x2048x1, .f32⟩
  | 100 => ⟨S_, .f32⟩
  | 101 => ⟨S1x2048x1, .f32⟩
  | 102 => ⟨S1x2048x1, .f32⟩
  | 103 => ⟨S_, .f32⟩
  | 104 => ⟨S1x2048x1, .f32⟩
  | 105 => ⟨S1x2048x1, .f32⟩
  | 106 => ⟨S1x2048x1, .f32⟩
  | 107 => ⟨S1x2048x2048, .f32⟩
  | 108 => ⟨S1x2048x2048, .f32⟩
  | 109 => ⟨S1x1x2048, .f32⟩
  | 110 => ⟨S1x2048x2048, .f32⟩
  | 111 => ⟨S1x2048x2048, .f32⟩
  | 112 => ⟨S2048x11264, .f32⟩
  | 113 => ⟨S1x2048x11264, .f32⟩
  | 114 => ⟨S1x2048x5632, .f32⟩
  | 115 => ⟨S1x2048x5632, .f32⟩
  | 116 => ⟨S1x2048x5632, .f32⟩
  | 117 => ⟨S1x2048x5632, .f32⟩
  | 118 => ⟨S_, .f32⟩
  | 119 => ⟨S1x2048x5632, .f32⟩
  | 120 => ⟨S1x2048x5632, .f32⟩
  | 121 => ⟨S_, .f32⟩
  | 122 => ⟨S1x2048x5632, .f32⟩
  | 123 => ⟨S1x2048x5632, .f32⟩
  | 124 => ⟨S_, .f32⟩
  | 125 => ⟨S1x2048x5632, .f32⟩
  | 126 => ⟨S1x2048x5632, .f32⟩
  | 127 => ⟨S1x2048x5632, .f32⟩
  | _ => ⟨S1x2048x2048, .f32⟩

abbrev hbmTy0_1 (i : Nat) : BufTy := match i % 128 with
  | 0 => ⟨S1x2048x5632, .f32⟩
  | 1 => ⟨S1x2048x5632, .f32⟩
  | 2 => ⟨S5632x2048, .f32⟩
  | 3 => ⟨S1x2048x2048, .f32⟩
  | 4 => ⟨S_, .f32⟩
  | 5 => ⟨S1x2048x2048, .f32⟩
  | 6 => ⟨S1x2048x2048, .f32⟩
  | 7 => ⟨S_, .f32⟩
  | 8 => ⟨S1x2048x2048, .f32⟩
  | 9 => ⟨S1x2048x2048, .f32⟩
  | 10 => ⟨S1x2048x5632, .f32⟩
  | 11 => ⟨S1x2048x5632, .f32⟩
  | 12 => ⟨S1x2048x5632, .f32⟩
  | 13 => ⟨S1x2048x5632, .f32⟩
  | 14 => ⟨S1x2048x5632, .f32⟩
  | 15 => ⟨S1x2048x5632, .f32⟩
  | 16 => ⟨S1x2048x5632, .f32⟩
  | 17 => ⟨S_, .f32⟩
  | 18 => ⟨S1x2048x11264, .f32⟩
  | 19 => ⟨S_, .f32⟩
  | 20 => ⟨S1x2048x11264, .f32⟩
  | 21 => ⟨S1x2048x11264, .f32⟩
  | 22 => ⟨S1x2048x5632, .f32⟩
  | 23 => ⟨S2048x5632, .f32⟩
  | 24 => ⟨S1x2048x5632, .f32⟩
  | 25 => ⟨S2048x5632, .f32⟩
  | 26 => ⟨S1x2048x5632, .f32⟩
  | 27 => ⟨S1x2048x5632, .f32⟩
  | 28 => ⟨S2x2048x5632, .f32⟩
  | 29 => ⟨S2x2048x5632, .bf16⟩
  | 30 => ⟨S_, .f32⟩
  | 31 => ⟨S1x2048x2048, .f32⟩
  | 32 => ⟨S1x2048x2048, .f32⟩
  | 33 => ⟨S2048x2048, .f32⟩
  | 34 => ⟨S2048x2048, .bf16⟩
  | 35 => ⟨S1x2048x5632, .f32⟩
  | 36 => ⟨S1x2048x5632, .f32⟩
  | 37 => ⟨S1x2048x5632, .f32⟩
  | 38 => ⟨S1x2048x5632, .f32⟩
  | 39 => ⟨S_, .f32⟩
  | 40 => ⟨S1x2048x5632, .f32⟩
  | 41 => ⟨S1x2048x5632, .f32⟩
  | 42 => ⟨S_, .f32⟩
  | 43 => ⟨S1x2048x5632, .f32⟩
  | 44 => ⟨S1x2048x5632, .f32⟩
  | 45 => ⟨S1x2048x5632, .f32⟩
  | 46 => ⟨S1x2048x5632, .f32⟩
  | 47 => ⟨S2048x5632, .f32⟩
  | 48 => ⟨S2048x5632, .bf16⟩
  | 49 => ⟨S2048x2048, .f32⟩
  | 50 => ⟨S2048x2048, .f32⟩
  | 51 => ⟨S2048x2048, .bf16⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v21_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v21_1 : Ref sig .tc := ⟨.hbm, 41, rfl⟩
abbrev main_v21_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call2_v0 : Ref sig .tc := ⟨.hbm, 116, rfl⟩
abbrev main_call2_v1 : Ref sig .tc := ⟨.hbm, 117, rfl⟩
abbrev main_call2_cst : Ref sig .tc := ⟨.hbm, 118, rfl⟩
abbrev main_call2_v2 : Ref sig .tc := ⟨.hbm, 119, rfl⟩
abbrev main_call2_v3 : Ref sig .tc := ⟨.hbm, 120, rfl⟩
abbrev main_call2_cst_0 : Ref sig .tc := ⟨.hbm, 121, rfl⟩
abbrev main_call2_v4 : Ref sig .tc := ⟨.hbm, 122, rfl⟩
abbrev main_v80_2 : Ref sig .tc := ⟨.hbm, 123, rfl⟩
abbrev main_call2_cst_1 : Ref sig .tc := ⟨.hbm, 124, rfl⟩
abbrev main_call2_v6 : Ref sig .tc := ⟨.hbm, 125, rfl⟩
abbrev main_call2_v7 : Ref sig .tc := ⟨.hbm, 126, rfl⟩
abbrev main_v80_1 : Ref sig .tc := ⟨.hbm, 127, rfl⟩
abbrev main_v80_0 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_15 : Ref sig .tc := ⟨.hbm, 132, rfl⟩
abbrev main_v84 : Ref sig .tc := ⟨.hbm, 133, rfl⟩
abbrev main_v85 : Ref sig .tc := ⟨.hbm, 134, rfl⟩
abbrev main_cst_16 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v91 : Ref sig .tc := ⟨.hbm, 144, rfl⟩
abbrev main_cst_17 : Ref sig .tc := ⟨.hbm, 145, rfl⟩
abbrev main_v92 : Ref sig .tc := ⟨.hbm, 146, rfl⟩
abbrev main_cst_18 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_19 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_call4_v0 : Ref sig .tc := ⟨.hbm, 165, rfl⟩
abbrev main_call4_v1 : Ref sig .tc := ⟨.hbm, 166, rfl⟩
abbrev main_call4_cst : Ref sig .tc := ⟨.hbm, 167, rfl⟩
abbrev main_call4_v2 : Ref sig .tc := ⟨.hbm, 168, rfl⟩
abbrev main_call4_v3 : Ref sig .tc := ⟨.hbm, 169, rfl⟩
abbrev main_call4_cst_0 : Ref sig .tc := ⟨.hbm, 170, rfl⟩
abbrev main_call4_v4 : Ref sig .tc := ⟨.hbm, 171, rfl⟩
abbrev main_call4_v5 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩

abbrev nD : Nat := 1
abbrev τ : Topo := Topo.v7x

variable {F : FTy → Type} [FloatOps F]
-- ==== Ffn2Head.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x2048 : Shape := ⟨2, ![2048, 2048]⟩
abbrev S2048x11264 : Shape := ⟨2, ![2048, 11264]⟩
abbrev S5632x2048 : Shape := ⟨2, ![5632, 2048]⟩
abbrev S2x2048x5632 : Shape := ⟨3, ![2, 2048, 5632]⟩
abbrev S1x128 : Shape := ⟨2, ![1, 128]⟩
abbrev S512x2048 : Shape := ⟨2, ![512, 2048]⟩
abbrev S2048x512 : Shape := ⟨2, ![2048, 512]⟩
abbrev S2x512x512 : Shape := ⟨3, ![2, 512, 512]⟩
abbrev S64x2048 : Shape := ⟨2, ![64, 2048]⟩
abbrev S64 : Shape := ⟨1, ![64]⟩
abbrev S64x1 : Shape := ⟨2, ![64, 1]⟩
abbrev S512x512 : Shape := ⟨2, ![512, 512]⟩
abbrev S1x512x512 : Shape := ⟨3, ![1, 512, 512]⟩
abbrev S1x1 : Shape := ⟨2, ![1, 1]⟩
abbrev S1 : Shape := ⟨1, ![1]⟩

abbrev nBuf : Space → Nat
  | .hbm => 18
  | .vmem => 21
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S1x2048x2048, .f32⟩
  | .hbm, ⟨6, _⟩ => ⟨S2048x2048, .f32⟩
  | .hbm, ⟨7, _⟩ => ⟨S2048x11264, .f32⟩
  | .hbm, ⟨8, _⟩ => ⟨S2048x11264, .bf16⟩
  | .hbm, ⟨9, _⟩ => ⟨S5632x2048, .f32⟩
  | .hbm, ⟨10, _⟩ => ⟨S5632x2048, .bf16⟩
  | .hbm, ⟨11, _⟩ => ⟨S1x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2x2048x5632, .bf16⟩
  | .hbm, ⟨16, _⟩ => ⟨S1x2048, .f32⟩
  | .hbm, ⟨17, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S2x512x512, .bf16⟩
  | .local _ .vmem, ⟨17, _⟩ => ⟨S2x512x512, .bf16⟩
  | .local _ .vmem, ⟨18, _⟩ => ⟨S1x2048, .f32⟩
  | .local _ .vmem, ⟨19, _⟩ => ⟨S1x128, .f32⟩
  | .local _ .vmem, ⟨20, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_23 : BitVec 32 := 0#32
  let c8_i32 : BitVec 32 := 8#32
  let v40 : BitVec 32 := Scalar.addi c0_i32_23 c8_i32
  let c1_i32 : BitVec 32 := 1#32
  ⟨c0_i32_23, v40, c1_i32⟩
def k0_mult1 (k0_t1 : Fin k0_t1_loop.trips) : BitVec 32 :=
  let c0_i32_23 : BitVec 32 := 0#32
  let c1_i32 : BitVec 32 := 1#32
  let arg15 : BitVec 32 := Scf.iv c0_i32_23 c1_i32 k0_t1
  let c64_i32 : BitVec 32 := 64#32
  let v45 : BitVec 32 := Scalar.muli arg15 c64_i32
  v45
def k0_off1 (k0_t1 : Fin k0_t1_loop.trips) : Fin 2 → Nat :=
  let c0_i32_23 : BitVec 32 := 0#32
  let c1_i32 : BitVec 32 := 1#32
  let arg15 : BitVec 32 := Scf.iv c0_i32_23 c1_i32 k0_t1
  let c64_i32 : BitVec 32 := 64#32
  let v45 : BitVec 32 := Scalar.muli arg15 c64_i32
  let v46 : BitVec 32 := v45
  let v47 : Index := Scalar.indexCast v46
  let c0_28 : Index := 0#32
  ![v47.toNat, 0]
def k0_cond2 (i : grid0.Coords) : BitVec 1 :=
  let arg1 : BitVec 32 := BitVec.ofNat 32 (i 1).val
  let c10_i32 : BitVec 32 := 10#32
  let v37 : BitVec 1 := Scalar.cmpi .eq arg1 c10_i32
  let v38 : BitVec 32 := Scalar.extui v37
  let c0_i32_22 : BitVec 32 := 0#32
  let v39 : BitVec 1 := Scalar.cmpi .ne v38 c0_i32_22
  v39

@[reducible] def k0_t2_loop : Scf.Loop 32 :=
  let c0_i32_25 : BitVec 32 := 0#32
  let c8_i32 : BitVec 32 := 8#32
  let v42 : BitVec 32 := Scalar.addi c0_i32_25 c8_i32
  let c1_i32 : BitVec 32 := 1#32
  ⟨c0_i32_25, v42, c1_i32⟩
def k0_mult2 (k0_t2 : Fin k0_t2_loop.trips) : BitVec 32 :=
  let c0_i32_25 : BitVec 32 := 0#32
  let c1_i32 : BitVec 32 := 1#32
  let arg15 : BitVec 32 := Scf.iv c0_i32_25 c1_i32 k0_t2
  let c64_i32 : BitVec 32 := 64#32
  let v50 : BitVec 32 := Scalar.muli arg15 c64_i32
  v50
def k0_off2 (k0_t2 : Fin k0_t2_loop.trips) : Fin 2 → Nat :=
  let c0_i32_25 : BitVec 32 := 0#32
  let c1_i32 : BitVec 32 := 1#32
  let arg15 : BitVec 32 := Scf.iv c0_i32_25 c1_i32 k0_t2
  let c64_i32 : BitVec 32 := 64#32
  let v50 : BitVec 32 := Scalar.muli arg15 c64_i32
  let v51 : BitVec 32 := v50
  let v52 : Index := Scalar.indexCast v51
  let c0_31 : Index := 0#32
  ![v52.toNat, 0]
def k0_cond3 (i : grid0.Coords) : BitVec 1 :=
  let arg0 : BitVec 32 := BitVec.ofNat 32 (i 0).val
  let c0_i32_27 : BitVec 32 := 0#32
  let v44 : BitVec 1 := Scalar.cmpi .eq arg0 c0_i32_27
  let v45 : BitVec 32 := Scalar.extui v44
  let c0_i32_28 : BitVec 32 := 0#32
  let v46 : BitVec 1 := Scalar.cmpi .ne v45 c0_i32_28
  v46

def k0_cond4 (i : grid0.Coords) : BitVec 1 :=
  let arg0 : BitVec 32 := BitVec.ofNat 32 (i 0).val
  let c0_i32_29 : BitVec 32 := 0#32
  let v47 : BitVec 1 := Scalar.cmpi .sgt arg0 c0_i32_29
  let v48 : BitVec 32 := Scalar.extui v47
  let c0_i32_30 : BitVec 32 := 0#32
  let v49 : BitVec 1 := Scalar.cmpi .ne v48 c0_i32_30
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Ffn2HeadRefIdeal.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x11264 : Shape := ⟨2, ![2048, 11264]⟩
abbrev S1x2048x5632 : Shape := ⟨3, ![1, 2048, 5632]⟩
abbrev S5632x2048 : Shape := ⟨2, ![5632, 2048]⟩
abbrev S2048x5632 : Shape := ⟨2, ![2048, 5632]⟩
abbrev S2x2048x5632 : Shape := ⟨3, ![2, 2048, 5632]⟩
abbrev S2048x2048 : Shape := ⟨2, ![2048, 2048]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S1x2048x2048, .f32⟩
  | .hbm, ⟨6, _⟩ => ⟨S2048, .f32⟩
  | .hbm, ⟨7, _⟩ => ⟨S1x2048x2048, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S1x2048x2048, .f32⟩
  | .hbm, ⟨19, _⟩ => ⟨S1x2048x2048, .f32⟩
  | .hbm, ⟨20, _⟩ => ⟨S1x1x2048, .f32⟩
  | .hbm, ⟨21, _⟩ => ⟨S1x2048x2048, .f32⟩
  | .hbm, ⟨22, _⟩ => ⟨S1x2048x2048, .f32⟩
  | .hbm, ⟨23, _⟩ => ⟨S2048x11264, .f32⟩
  | .hbm, ⟨24, _⟩ => ⟨S1x2048x11264, .f32⟩
  | .hbm, ⟨25, _⟩ => ⟨S1x2048x5632, .f32⟩
  | .hbm, ⟨26, _⟩ => ⟨S1x2048x5632, .f32⟩
  | .hbm, ⟨27, _⟩ => ⟨S1x2048x5632, .f32⟩
  | .hbm, ⟨28, _⟩ => ⟨S1x2048x5632, .f32⟩
  | .hbm, ⟨29, _⟩ => ⟨S_, .f32⟩
  | .hbm, ⟨30, _⟩ => ⟨S1x2048x5632, .f32⟩
  | .hbm, ⟨31, _⟩ => ⟨S1x2048x5632, .f32⟩
  | .hbm, ⟨32, _⟩ => ⟨S_, .f32⟩
  | .hbm, ⟨33, _⟩ => ⟨S1x2048x5632, .f32⟩
  | .hbm, ⟨34, _⟩ => ⟨S1x2048x5632, .f32⟩
  | .hbm, ⟨35, _⟩ => ⟨S1x2048x5632, .f32⟩
  | .hbm, ⟨36, _⟩ => ⟨S1x2048x5632, .f32⟩
  | .hbm, ⟨37, _⟩ => ⟨S5632x2048, .f32⟩
  | .hbm, ⟨38, _⟩ => ⟨S1x2048x2048, .f32⟩
  | .hbm, ⟨39, _⟩ => ⟨S_, .f32⟩
  | .hbm, ⟨40, _⟩ => ⟨S1x2048x2048, .f32⟩
  | .hbm, ⟨41, _⟩ => ⟨S1x2048x2048, .f32⟩
  | .hbm, ⟨42, _⟩ => ⟨S1x2048x2048, .f32⟩
  | .hbm, ⟨43, _⟩ => ⟨S1x2048x2048, .f32⟩
  | .hbm, ⟨44, _⟩ => ⟨S_, .f32⟩
  | .hbm, ⟨45, _⟩ => ⟨S1x2048, .f32⟩
  | .hbm, ⟨46, _⟩ => ⟨S1x2048x1, .f32⟩
  | .hbm, ⟨47, _⟩ => ⟨S_, .f32⟩
  | .hbm, ⟨48, _⟩ => ⟨S1x2048x1, .f32⟩
  | .hbm, ⟨49, _⟩ => ⟨S1x2048x1, .f32⟩
  | .hbm, ⟨50, _⟩ => ⟨S_, .f32⟩
  | .hbm, ⟨51, _⟩ => ⟨S1x2048x1, .f32⟩
  | .hbm, ⟨52, _⟩ => ⟨S1x2048x1, .f32⟩
  | .hbm, ⟨53, _⟩ => ⟨S1x2048x1, .f32⟩
  | .hbm, ⟨54, _⟩ => ⟨S1x2048x1, .f32⟩
  | .hbm, ⟨55, _⟩ => ⟨S_, .f32⟩
  | .hbm, ⟨56, _⟩ => ⟨S1x2048x1, .f32⟩
  | .hbm, ⟨57, _⟩ => ⟨S1x2048x1, .f32⟩
  | .hbm, ⟨58, _⟩ => ⟨S1x2048x2048, .f32⟩
  | .hbm, ⟨59, _⟩ => ⟨S1x2048x2048, .f32⟩
  | .hbm, ⟨60, _⟩ => ⟨S1x1x2048, .f32⟩
  | .hbm, ⟨61, _⟩ => ⟨S1x2048x2048, .f32⟩
  | .hbm, ⟨62, _⟩ => ⟨S1x2048x2048, .f32⟩
  | .hbm, ⟨63, _⟩ => ⟨S1x2048x2048, .f32⟩
  | .hbm, ⟨64, _⟩ => ⟨S1x2048x2048, .f32⟩
  | .hbm, ⟨65, _⟩ => ⟨S_, .f32⟩
  | .hbm, ⟨66, _⟩ => ⟨S1x2048x2048, .f32⟩
  | .hbm, ⟨67, _⟩ => ⟨S1x2048x2048, .f32⟩
  | .hbm, ⟨68, _⟩ => ⟨S_, .f32⟩
  | .hbm, ⟨69, _⟩ => ⟨S1x2048, .f32⟩
  | .hbm, ⟨70, _⟩ => ⟨S_, .f32⟩
  | .hbm, ⟨71, _⟩ => ⟨S1x2048, .f32⟩
  | .hbm, ⟨72, _⟩ => ⟨S1x2048, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1x2048, .f32⟩
  | .hbm, ⟨81, _⟩ => ⟨S_, .f32⟩
  | .hbm, ⟨82, _⟩ => ⟨S1x2048, .f32⟩
  | .hbm, ⟨83, _⟩ => ⟨S1x2048, .f32⟩
  | .hbm, ⟨84, _⟩ => ⟨S1x2048x2048, .f32⟩
  | .hbm, ⟨85, _⟩ => ⟨S1x2048x2048, .f32⟩
  | .hbm, ⟨86, _⟩ => ⟨S1x2048x2048, .f32⟩
  | .hbm, ⟨87, _⟩ => ⟨S_, .f32⟩
  | .hbm, ⟨88, _⟩ => ⟨S1x2048, .f32⟩
  | .hbm, ⟨89, _⟩ => ⟨S1x1x2048, .f32⟩
  | .hbm, ⟨90, _⟩ => ⟨S1x2048x2048, .f32⟩
  | .hbm, ⟨91, _⟩ => ⟨S1x2048x2048, .f32⟩
  | .hbm, ⟨92, _⟩ => ⟨S_, .f32⟩
  | .hbm, ⟨93, _⟩ => ⟨S2048, .f32⟩
  | .hbm, ⟨94, _⟩ => ⟨S1x2048x2048, .f32⟩
  | .hbm, ⟨95, _⟩ => ⟨S_, .f32⟩
  | .hbm, ⟨96, _⟩ => ⟨S1x2048, .f32⟩
  | .hbm, ⟨97, _⟩ => ⟨S1x2048x1, .f32⟩
  | .hbm, ⟨98, _⟩ => ⟨S1x2048x2048, .f32⟩
  | .hbm, ⟨99, _⟩ => ⟨S1x2048x2048, .f32⟩
  | .hbm, ⟨100, _⟩ => ⟨S1x2048x1, .f32⟩
  | .hbm, ⟨101, _⟩ => ⟨S_, .f32⟩
  | .hbm, ⟨102, _⟩ => ⟨S1x2048x1, .f32⟩
  | .hbm, ⟨103, _⟩ => ⟨S1x2048x1, .f32⟩
  | .hbm, ⟨104, _⟩ => ⟨S_, .f32⟩
  | .hbm, ⟨105, _⟩ => ⟨S2048, .f32⟩
  | .hbm, ⟨106, _⟩ => ⟨S1x2048, .f32⟩
  | .hbm, ⟨107, _⟩ => ⟨S1x2048x2048, .f32⟩
  | .hbm, ⟨108, _⟩ => ⟨S1x2048x2048, .f32⟩
  | .hbm, ⟨109, _⟩ => ⟨S1x2048x2048, .f32⟩
  | .hbm, ⟨110, _⟩ => ⟨S1x2048x2048, .f32⟩
  | .hbm, ⟨111, _⟩ => ⟨S1x2048x2048, .f32⟩
  | .hbm, ⟨112, _⟩ => ⟨S1x2048x5632, .f32⟩
  | .hbm, ⟨113, _⟩ => ⟨S2048x5632, .f32⟩
  | .hbm, ⟨114, _⟩ => ⟨S1x2048x5632, .f32⟩
  | .hbm, ⟨115, _⟩ => ⟨S2048x5632, .f32⟩
  | .hbm, ⟨116, _⟩ => ⟨S1x2048x5632, .f32⟩
  | .hbm, ⟨117, _⟩ => ⟨S1x2048x5632, .f32⟩
  | .hbm, ⟨118, _⟩ => ⟨S2x2048x5632, .f32⟩
  | .hbm, ⟨119, _⟩ => ⟨S2x2048x5632, .bf16⟩
  | .hbm, ⟨120, _⟩ => ⟨S2048x2048, .f32⟩
  | .hbm, ⟨121, _⟩ => ⟨S2048x2048, .f32⟩
  | .hbm, ⟨122, _⟩ => ⟨S2048x2048, .bf16⟩
  | .hbm, ⟨123, _⟩ => ⟨S1x2048, .f32⟩
  | .hbm, ⟨124, _⟩ => ⟨S1x128, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_cst_12 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_16 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_18 : Ref sig .tc := ⟨.hbm, 101, rfl⟩
abbrev main_v68 : Ref sig .tc := ⟨.hbm, 102, rfl⟩
abbrev main_v69 : Ref sig .tc := ⟨.hbm, 103, rfl⟩
abbrev main_cst_19 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]
-- ==== MixFwd.lean ====
abbrev S1x2048x2048 : Shape := ⟨3, ![1, 2048, 2048]⟩
abbrev S1x2048 : Shape := ⟨2, ![1, 2048]⟩
abbrev S1x2048x4112 : Shape := ⟨3, ![1, 2048, 4112]⟩
abbrev S2048x4112 : Shape := ⟨2, ![2048, 4112]⟩
abbrev S4112x2048 : Shape := ⟨2, ![4112, 2048]⟩
abbrev S16x2048 : Shape := ⟨2, ![16, 2048]⟩
abbrev S_ : Shape := ⟨0, ![]⟩
abbrev S128x2048 : Shape := ⟨2, ![128, 2048]⟩
abbrev S2048x2048 : Shape := ⟨2, ![2048, 2048]⟩
abbrev S2048x4224 : Shape := ⟨2, ![2048, 4224]⟩
abbrev S256x2048 : Shape := ⟨2, ![256, 2048]⟩
abbrev S256x4224 : Shape := ⟨2, ![256, 4224]⟩
abbrev S64x2048 : Shape := ⟨2, ![64, 2048]⟩
abbrev S64 : Shape := ⟨1, ![64]⟩
abbrev S64x1 : Shape := ⟨2, ![64, 1]⟩
abbrev S4096x2048 : Shape := ⟨2, ![4096, 2048]⟩
abbrev S256x4096 : Shape := ⟨2, ![256, 4096]⟩
abbrev S256x128 : Shape := ⟨2, ![256, 128]⟩

abbrev nBuf : Space → Nat
  | .hbm => 13
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x4112, .f32⟩
  | .hbm, ⟨3, _⟩ => ⟨S2048x4112, .f32⟩
  | .hbm, ⟨4, _⟩ => ⟨S4112x2048, .f32⟩
  | .hbm, ⟨5, _⟩ => ⟨S4112x2048, .bf16⟩
  | .hbm, ⟨6, _⟩ => ⟨S16x2048, .bf16⟩
  | .hbm, ⟨7, _⟩ => ⟨S_, .i32⟩
  | .hbm, ⟨8, _⟩ => ⟨S_, .bf16⟩
  | .hbm, ⟨9, _⟩ => ⟨S128x2048, .bf16⟩
  | .hbm, ⟨10, _⟩ => ⟨S2048x2048, .f32⟩
  | .hbm, ⟨11, _⟩ => ⟨S2048x4224, .f32⟩
  | .hbm, ⟨12, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S4112x2048, .bf16⟩
  | .local _ .vmem, ⟨4, _⟩ => ⟨S128x2048, .bf16⟩
  | .local _ .vmem, ⟨5, _⟩ => ⟨S256x4224, .f32⟩
  | .local _ .vmem, ⟨6, _⟩ => ⟨S256x4224, .f32⟩
  | .local _ .vmem, ⟨7, _⟩ => ⟨S256x2048, .bf16⟩
  | .local _ .vmem, ⟨8, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c64_i32 : BitVec 32 := 64#32
  let v11 : BitVec 32 := Scalar.muli arg7 c64_i32
  v11
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c64_i32 : BitVec 32 := 64#32
  let v11 : BitVec 32 := Scalar.muli arg7 c64_i32
  let v12 : BitVec 32 := v11
  let v13 : Index := Scalar.indexCast v12
  let c0_10 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4112x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixFwdRefIdeal.lean ====
abbrev S1x2048x2048 : Shape := ⟨3, ![1, 2048, 2048]⟩
abbrev S1x2048 : Shape := ⟨2, ![1, 2048]⟩
abbrev S1x2048x4112 : Shape := ⟨3, ![1, 2048, 4112]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x4112 : Shape := ⟨2, ![2048, 4112]⟩
abbrev S2048x4224 : Shape := ⟨2, ![2048, 4224]⟩
abbrev S2048x2048 : Shape := ⟨2, ![2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x4112, .f32⟩
  | .hbm, ⟨3, _⟩ => ⟨S2048, .f32⟩
  | .hbm, ⟨4, _⟩ => ⟨S1x2048x2048, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x2048, .f32⟩
  | .hbm, ⟨16, _⟩ => ⟨S1x2048x2048, .f32⟩
  | .hbm, ⟨17, _⟩ => ⟨S1x1x2048, .f32⟩
  | .hbm, ⟨18, _⟩ => ⟨S1x2048x2048, .f32⟩
  | .hbm, ⟨19, _⟩ => ⟨S1x2048x2048, .f32⟩
  | .hbm, ⟨20, _⟩ => ⟨S2048x4112, .f32⟩
  | .hbm, ⟨21, _⟩ => ⟨S1x2048x4112, .f32⟩
  | .hbm, ⟨22, _⟩ => ⟨S2048x4112, .f32⟩
  | .hbm, ⟨23, _⟩ => ⟨S_, .i32⟩
  | .hbm, ⟨24, _⟩ => ⟨S_, .f32⟩
  | .hbm, ⟨25, _⟩ => ⟨S2048x4224, .f32⟩
  | .hbm, ⟨26, _⟩ => ⟨S2048x2048, .f32⟩
  | .hbm, ⟨27, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Ffn1Fwd.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048x2048 : Shape := ⟨2, ![2048, 2048]⟩
abbrev S2048x11264 : Shape := ⟨2, ![2048, 11264]⟩
abbrev S5632x2048 : Shape := ⟨2, ![5632, 2048]⟩
abbrev S2x2048x5632 : Shape := ⟨3, ![2, 2048, 5632]⟩
abbrev S512x2048 : Shape := ⟨2, ![512, 2048]⟩
abbrev S2048x512 : Shape := ⟨2, ![2048, 512]⟩
abbrev S2x512x512 : Shape := ⟨3, ![2, 512, 512]⟩
abbrev S64x2048 : Shape := ⟨2, ![64, 2048]⟩
abbrev S64 : Shape := ⟨1, ![64]⟩
abbrev S64x1 : Shape := ⟨2, ![64, 1]⟩
abbrev S512x512 : Shape := ⟨2, ![512, 512]⟩
abbrev S1x512x512 : Shape := ⟨3, ![1, 512, 512]⟩

abbrev nBuf : Space → Nat
  | .hbm => 12
  | .vmem => 16
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048x2048, .f32⟩
  | .hbm, ⟨5, _⟩ => ⟨S2048x11264, .f32⟩
  | .hbm, ⟨6, _⟩ => ⟨S2048x11264, .bf16⟩
  | .hbm, ⟨7, _⟩ => ⟨S5632x2048, .f32⟩
  | .hbm, ⟨8, _⟩ => ⟨S5632x2048, .bf16⟩
  | .hbm, ⟨9, _⟩ => ⟨S2048x2048, .f32⟩
  | .hbm, ⟨10, _⟩ => ⟨S2048x2048, .bf16⟩
  | .hbm, ⟨11, _⟩ => ⟨S2x2048x5632, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S2x512x512, .bf16⟩
  | .local _ .vmem, ⟨14, _⟩ => ⟨S2x512x512, .bf16⟩
  | .local _ .vmem, ⟨15, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_23 : BitVec 32 := 0#32
  let c8_i32 : BitVec 32 := 8#32
  let v40 : BitVec 32 := Scalar.addi c0_i32_23 c8_i32
  let c1_i32 : BitVec 32 := 1#32
  ⟨c0_i32_23, v40, c1_i32⟩
def k0_mult1 (k0_t1 : Fin k0_t1_loop.trips) : BitVec 32 :=
  let c0_i32_23 : BitVec 32 := 0#32
  let c1_i32 : BitVec 32 := 1#32
  let arg11 : BitVec 32 := Scf.iv c0_i32_23 c1_i32 k0_t1
  let c64_i32 : BitVec 32 := 64#32
  let v45 : BitVec 32 := Scalar.muli arg11 c64_i32
  v45
def k0_off1 (k0_t1 : Fin k0_t1_loop.trips) : Fin 2 → Nat :=
  let c0_i32_23 : BitVec 32 := 0#32
  let c1_i32 : BitVec 32 := 1#32
  let arg11 : BitVec 32 := Scf.iv c0_i32_23 c1_i32 k0_t1
  let c64_i32 : BitVec 32 := 64#32
  let v45 : BitVec 32 := Scalar.muli arg11 c64_i32
  let v46 : BitVec 32 := v45
  let v47 : Index := Scalar.indexCast v46
  let c0_28 : Index := 0#32
  ![v47.toNat, 0]
def k0_cond2 (i : grid0.Coords) : BitVec 1 :=
  let arg1 : BitVec 32 := BitVec.ofNat 32 (i 1).val
  let c10_i32 : BitVec 32 := 10#32
  let v37 : BitVec 1 := Scalar.cmpi .eq arg1 c10_i32
  let v38 : BitVec 32 := Scalar.extui v37
  let c0_i32_22 : BitVec 32 := 0#32
  let v39 : BitVec 1 := Scalar.cmpi .ne v38 c0_i32_22
  v39

@[reducible] def k0_t2_loop : Scf.Loop 32 :=
  let c0_i32_23 : BitVec 32 := 0#32
  let c8_i32 : BitVec 32 := 8#32
  let v40 : BitVec 32 := Scalar.addi c0_i32_23 c8_i32
  let c1_i32 : BitVec 32 := 1#32
  ⟨c0_i32_23, v40, c1_i32⟩
def k0_mult2 (k0_t2 : Fin k0_t2_loop.trips) : BitVec 32 :=
  let c0_i32_23 : BitVec 32 := 0#32
  let c1_i32 : BitVec 32 := 1#32
  let arg11 : BitVec 32 := Scf.iv c0_i32_23 c1_i32 k0_t2
  let c64_i32 : BitVec 32 := 64#32
  let v41 : BitVec 32 := Scalar.muli arg11 c64_i32
  v41
def k0_off2 (k0_t2 : Fin k0_t2_loop.trips) : Fin 2 → Nat :=
  let c0_i32_23 : BitVec 32 := 0#32
  let c1_i32 : BitVec 32 := 1#32
  let arg11 : BitVec 32 := Scf.iv c0_i32_23 c1_i32 k0_t2
  let c64_i32 : BitVec 32 := 64#32
  let v41 : BitVec 32 := Scalar.muli arg11 c64_i32
  let v42 : BitVec 32 := v41
  let v43 : Index := Scalar.indexCast v42
  let c0_25 : Index := 0#32
  ![v43.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Ffn1FwdRefIdeal.lean ====
abbrev S1x2048x2048 : Shape := ⟨3, ![1, 2048, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x11264 : Shape := ⟨2, ![2048, 11264]⟩
abbrev S1x2048x5632 : Shape := ⟨3, ![1, 2048, 5632]⟩
abbrev S5632x2048 : Shape := ⟨2, ![5632, 2048]⟩
abbrev S2048x5632 : Shape := ⟨2, ![2048, 5632]⟩
abbrev S2x2048x5632 : Shape := ⟨3, ![2, 2048, 5632]⟩
abbrev S2048x2048 : Shape := ⟨2, ![2048, 2048]⟩

abbrev nBuf : Space → Nat
  | .hbm => 52
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S1x2048x2048, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x2048, .f32⟩
  | .hbm, ⟨17, _⟩ => ⟨S1x2048x2048, .f32⟩
  | .hbm, ⟨18, _⟩ => ⟨S1x1x2048, .f32⟩
  | .hbm, ⟨19, _⟩ => ⟨S1x2048x2048, .f32⟩
  | .hbm, ⟨20, _⟩ => ⟨S1x2048x2048, .f32⟩
  | .hbm, ⟨21, _⟩ => ⟨S2048x11264, .f32⟩
  | .hbm, ⟨22, _⟩ => ⟨S1x2048x11264, .f32⟩
  | .hbm, ⟨23, _⟩ => ⟨S1x2048x5632, .f32⟩
  | .hbm, ⟨24, _⟩ => ⟨S1x2048x5632, .f32⟩
  | .hbm, ⟨25, _⟩ => ⟨S1x2048x5632, .f32⟩
  | .hbm, ⟨26, _⟩ => ⟨S1x2048x5632, .f32⟩
  | .hbm, ⟨27, _⟩ => ⟨S_, .f32⟩
  | .hbm, ⟨28, _⟩ => ⟨S1x2048x5632, .f32⟩
  | .hbm, ⟨29, _⟩ => ⟨S1x2048x5632, .f32⟩
  | .hbm, ⟨30, _⟩ => ⟨S_, .f32⟩
  | .hbm, ⟨31, _⟩ => ⟨S1x2048x5632, .f32⟩
  | .hbm, ⟨32, _⟩ => ⟨S1x2048x5632, .f32⟩
  | .hbm, ⟨33, _⟩ => ⟨S1x2048x5632, .f32⟩
  | .hbm, ⟨34, _⟩ => ⟨S1x2048x5632, .f32⟩
  | .hbm, ⟨35, _⟩ => ⟨S5632x2048, .f32⟩
  | .hbm, ⟨36, _⟩ => ⟨S1x2048x2048, .f32⟩
  | .hbm, ⟨37, _⟩ => ⟨S_, .f32⟩
  | .hbm, ⟨38, _⟩ => ⟨S1x2048x2048, .f32⟩
  | .hbm, ⟨39, _⟩ => ⟨S1x2048x2048, .f32⟩
  | .hbm, ⟨40, _⟩ => ⟨S1x2048x2048, .f32⟩
  | .hbm, ⟨41, _⟩ => ⟨S1x2048x5632, .f32⟩
  | .hbm, ⟨42, _⟩ => ⟨S2048x5632, .f32⟩
  | .hbm, ⟨43, _⟩ => ⟨S1x2048x5632, .f32⟩
  | .hbm, ⟨44, _⟩ => ⟨S2048x5632, .f32⟩
  | .hbm, ⟨45, _⟩ => ⟨S1x2048x5632, .f32⟩
  | .hbm, ⟨46, _⟩ => ⟨S1x2048x5632, .f32⟩
  | .hbm, ⟨47, _⟩ => ⟨S2x2048x5632, .f32⟩
  | .hbm, ⟨48, _⟩ => ⟨S2x2048x5632, .bf16⟩
  | .hbm, ⟨49, _⟩ => ⟨S2048x2048, .f32⟩
  | .hbm, ⟨50, _⟩ => ⟨S2048x2048, .f32⟩
  | .hbm, ⟨51, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== DwIn.lean ====
abbrev S1x2048x2048 : Shape := ⟨3, ![1, 2048, 2048]⟩
abbrev S1x2048 : Shape := ⟨2, ![1, 2048]⟩
abbrev S1x2048x11264 : Shape := ⟨3, ![1, 2048, 11264]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩
abbrev S2048x2048 : Shape := ⟨2, ![2048, 2048]⟩
abbrev S1x2048x5632 : Shape := ⟨3, ![1, 2048, 5632]⟩
abbrev S2048x5632 : Shape := ⟨2, ![2048, 5632]⟩
abbrev S2x2048x5632 : Shape := ⟨3, ![2, 2048, 5632]⟩
abbrev S2048x11264 : Shape := ⟨2, ![2048, 11264]⟩
abbrev S2048x512 : Shape := ⟨2, ![2048, 512]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 31
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S2048, .f32⟩
  | .hbm, ⟨4, _⟩ => ⟨S1x2048x2048, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S1x2048x2048, .f32⟩
  | .hbm, ⟨16, _⟩ => ⟨S1x2048x2048, .f32⟩
  | .hbm, ⟨17, _⟩ => ⟨S1x1x2048, .f32⟩
  | .hbm, ⟨18, _⟩ => ⟨S1x2048x2048, .f32⟩
  | .hbm, ⟨19, _⟩ => ⟨S1x2048x2048, .f32⟩
  | .hbm, ⟨20, _⟩ => ⟨S2048x2048, .f32⟩
  | .hbm, ⟨21, _⟩ => ⟨S2048x2048, .bf16⟩
  | .hbm, ⟨22, _⟩ => ⟨S1x2048x5632, .f32⟩
  | .hbm, ⟨23, _⟩ => ⟨S2048x5632, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S1x2048x5632, .f32⟩
  | .hbm, ⟨28, _⟩ => ⟨S2x2048x5632, .f32⟩
  | .hbm, ⟨29, _⟩ => ⟨S2x2048x5632, .bf16⟩
  | .hbm, ⟨30, _⟩ => ⟨S2048x11264, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .bf16⟩
  | .local _ .vmem, ⟨5, _⟩ => ⟨S512x1408, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInRefIdeal.lean ====
abbrev S1x2048x2048 : Shape := ⟨3, ![1, 2048, 2048]⟩
abbrev S1x2048 : Shape := ⟨2, ![1, 2048]⟩
abbrev S1x2048x11264 : Shape := ⟨3, ![1, 2048, 11264]⟩
abbrev S_ : Shape := ⟨0, ![]⟩
abbrev S2048 : Shape := ⟨1, ![2048]⟩
abbrev S1x2048x1 : Shape := ⟨3, ![1, 2048, 1]⟩
abbrev S1x1x2048 : Shape := ⟨3, ![1, 1, 2048]⟩
abbrev S2048x11264 : Shape := ⟨2, ![2048, 11264]⟩
abbrev S11264x2048 : Shape := ⟨2, ![11264, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S1x2048x11264, .f32⟩
  | .hbm, ⟨3, _⟩ => ⟨S_, .f32⟩
  | .hbm, ⟨4, _⟩ => ⟨S1x2048x11264, .f32⟩
  | .hbm, ⟨5, _⟩ => ⟨S2048, .f32⟩
  | .hbm, ⟨6, _⟩ => ⟨S1x2048x2048, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x2048, .f32⟩
  | .hbm, ⟨18, _⟩ => ⟨S1x2048x2048, .f32⟩
  | .hbm, ⟨19, _⟩ => ⟨S1x1x2048, .f32⟩
  | .hbm, ⟨20, _⟩ => ⟨S1x2048x2048, .f32⟩
  | .hbm, ⟨21, _⟩ => ⟨S1x2048x2048, .f32⟩
  | .hbm, ⟨22, _⟩ => ⟨S2048x11264, .f32⟩
  | .hbm, ⟨23, _⟩ => ⟨S1x2048x11264, .f32⟩
  | .hbm, ⟨24, _⟩ => ⟨S11264x2048, .f32⟩
  | .hbm, ⟨25, _⟩ => ⟨S2048x11264, .f32⟩
  | .hbm, ⟨26, _⟩ => ⟨S1x2048x11264, .f32⟩
  | .hbm, ⟨27, _⟩ => ⟨S2048x11264, .f32⟩
  | .hbm, ⟨28, _⟩ => ⟨S2048x11264, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MixDy.lean ====
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 7
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixDyRefIdeal.lean ====
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S_, .f32⟩
  | .hbm, ⟨3, _⟩ => ⟨S1x2048x2048, .f32⟩
  | .hbm, ⟨4, _⟩ => ⟨S2048x2048, .f32⟩
  | .hbm, ⟨5, _⟩ => ⟨S1x2048x2048, .f32⟩
  | .hbm, ⟨6, _⟩ => ⟨S1x2048x2048, .f32⟩
  | .hbm, ⟨7, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOut.lean ====
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 9
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixOutRefIdeal.lean ====
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S2048x2048, .f32⟩
  | .hbm, ⟨4, _⟩ => ⟨S1x2048x2048, .f32⟩
  | .hbm, ⟨5, _⟩ => ⟨S1x2048x2048, .f32⟩
  | .hbm, ⟨6, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GlaBwd.lean ====
abbrev S1x2048x4112 : Shape := ⟨3, ![1, 2048, 4112]⟩
abbrev S2048x1024 : Shape := ⟨2, ![2048, 1024]⟩
abbrev S32x4x256x128 : Shape := ⟨4, ![32, 4, 256, 128]⟩
abbrev S1x2048x2048 : Shape := ⟨3, ![1, 2048, 2048]⟩
abbrev S1x16x512 : Shape := ⟨3, ![1, 16, 512]⟩
abbrev S1x512 : Shape := ⟨2, ![1, 512]⟩
abbrev S1x256 : Shape := ⟨2, ![1, 256]⟩
abbrev S2048x4112 : Shape := ⟨2, ![2048, 4112]⟩
abbrev S_ : Shape := ⟨0, ![]⟩
abbrev S2048x4224 : Shape := ⟨2, ![2048, 4224]⟩
abbrev S16x512 : Shape := ⟨2, ![16, 512]⟩
abbrev S128x512 : Shape := ⟨2, ![128, 512]⟩
abbrev S2048x2048 : Shape := ⟨2, ![2048, 2048]⟩
abbrev S2048x3200 : Shape := ⟨2, ![2048, 3200]⟩
abbrev S128x1024 : Shape := ⟨2, ![128, 1024]⟩
abbrev S128x128 : Shape := ⟨2, ![128, 128]⟩
abbrev S2x4x256x128 : Shape := ⟨4, ![2, 4, 256, 128]⟩
abbrev S128x3200 : Shape := ⟨2, ![128, 3200]⟩
abbrev S4x256x128 : Shape := ⟨3, ![4, 256, 128]⟩
abbrev S2x64x512 : Shape := ⟨3, ![2, 64, 512]⟩
abbrev S2x1x512 : Shape := ⟨3, ![2, 1, 512]⟩
abbrev S64x64 : Shape := ⟨2, ![64, 64]⟩
abbrev S64x128 : Shape := ⟨2, ![64, 128]⟩
abbrev S64x512 : Shape := ⟨2, ![64, 512]⟩
abbrev S512 : Shape := ⟨1, ![512]⟩
abbrev S64x256 : Shape := ⟨2, ![64, 256]⟩
abbrev S64 : Shape := ⟨1, ![64]⟩
abbrev S64x1 : Shape := ⟨2, ![64, 1]⟩
abbrev S256 : Shape := ⟨1, ![256]⟩
abbrev S1x256x128 : Shape := ⟨3, ![1, 256, 128]⟩
abbrev S256x128 : Shape := ⟨2, ![256, 128]⟩
abbrev S1x1x256x128 : Shape := ⟨4, ![1, 1, 256, 128]⟩
abbrev S128 : Shape := ⟨1, ![128]⟩
abbrev S1x128 : Shape := ⟨2, ![1, 128]⟩
abbrev S1x64x128 : Shape := ⟨3, ![1, 64, 128]⟩
abbrev S1x1x128 : Shape := ⟨3, ![1, 1, 128]⟩
abbrev S1x64x512 : Shape := ⟨3, ![1, 64, 512]⟩
abbrev S1x1x512 : Shape := ⟨3, ![1, 1, 512]⟩

abbrev nBuf : Space → Nat
  | .hbm => 22
  | .vmem => 27
  | .smem => 0
  | _ => 0

abbrev bufTy : (tb : Table) → Fin (tcTables nBuf tb) → BufTy
  | .hbm, ⟨0, _⟩ => ⟨S1x2048x4112, .f32⟩
  | .hbm, ⟨1, _⟩ => ⟨S2048x1024, .f32⟩
  | .hbm, ⟨2, _⟩ => ⟨S32x4x256x128, .f32⟩
  | .hbm, ⟨3, _⟩ => ⟨S1x2048x2048, .f32⟩
  | .hbm, ⟨4, _⟩ => ⟨S1x16x512, .f32⟩
  | .hbm, ⟨5, _⟩ => ⟨S1x512, .f32⟩
  | .hbm, ⟨6, _⟩ => ⟨S1x256, .f32⟩
  | .hbm, ⟨7, _⟩ => ⟨S2048x4112, .f32⟩
  | .hbm, ⟨8, _⟩ => ⟨S_, .i32⟩
  | .hbm, ⟨9, _⟩ => ⟨S_, .f32⟩
  | .hbm, ⟨10, _⟩ => ⟨S2048x4224, .f32⟩
  | .hbm, ⟨11, _⟩ => ⟨S16x512, .f32⟩
  | .hbm, ⟨12, _⟩ => ⟨S_, .i32⟩
  | .hbm, ⟨13, _⟩ => ⟨S_, .f32⟩
  | .hbm, ⟨14, _⟩ => ⟨S128x512, .f32⟩
  | .hbm, ⟨15, _⟩ => ⟨S128x512, .bf16⟩
  | .hbm, ⟨16, _⟩ => ⟨S2048x2048, .f32⟩
  | .hbm, ⟨17, _⟩ => ⟨S2048x3200, .bf16⟩
  | .hbm, ⟨18, _⟩ => ⟨S128x512, .f32⟩
  | .hbm, ⟨19, _⟩ => ⟨S1x512, .f32⟩
  | .hbm, ⟨20, _⟩ => ⟨S1x256, .f32⟩
  | .hbm, ⟨21, _⟩ => ⟨S16x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S128x1024, .f32⟩
  | .local _ .vmem, ⟨11, _⟩ => ⟨S128x1024, .f32⟩
  | .local _ .vmem, ⟨12, _⟩ => ⟨S2x4x256x128, .f32⟩
  | .local _ .vmem, ⟨13, _⟩ => ⟨S2x4x256x128, .f32⟩
  | .local _ .vmem, ⟨14, _⟩ => ⟨S128x1024, .f32⟩
  | .local _ .vmem, ⟨15, _⟩ => ⟨S128x1024, .f32⟩
  | .local _ .vmem, ⟨16, _⟩ => ⟨S128x512, .bf16⟩
  | .local _ .vmem, ⟨17, _⟩ => ⟨S1x512, .f32⟩
  | .local _ .vmem, ⟨18, _⟩ => ⟨S1x256, .f32⟩
  | .local _ .vmem, ⟨19, _⟩ => ⟨S128x3200, .bf16⟩
  | .local _ .vmem, ⟨20, _⟩ => ⟨S128x3200, .bf16⟩
  | .local _ .vmem, ⟨21, _⟩ => ⟨S128x512, .f32⟩
  | .local _ .vmem, ⟨22, _⟩ => ⟨S1x512, .f32⟩
  | .local _ .vmem, ⟨23, _⟩ => ⟨S1x256, .f32⟩
  | .local _ .vmem, ⟨24, _⟩ => ⟨S4x256x128, .f32⟩
  | .local _ .vmem, ⟨25, _⟩ => ⟨S2x64x512, .f32⟩
  | .local _ .vmem, ⟨26, _⟩ => ⟨S2x1x512, .f32⟩
  | _, _ => ⟨S1x2048x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let c0_i32 : BitVec 32 := 0#32
  ![v0.toNat, c32_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x3200 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== GlaFwd.lean ====
abbrev S1x2048x4112 : Shape := ⟨3, ![1, 2048, 4112]⟩
abbrev S1x16x512 : Shape := ⟨3, ![1, 16, 512]⟩
abbrev S1x512 : Shape := ⟨2, ![1, 512]⟩
abbrev S1x256 : Shape := ⟨2, ![1, 256]⟩
abbrev S2048x4112 : Shape := ⟨2, ![2048, 4112]⟩
abbrev S_ : Shape := ⟨0, ![]⟩
abbrev S2048x4224 : Shape := ⟨2, ![2048, 4224]⟩
abbrev S16x512 : Shape := ⟨2, ![16, 512]⟩
abbrev S128x512 : Shape := ⟨2, ![128, 512]⟩
abbrev S2048x1024 : Shape := ⟨2, ![2048, 1024]⟩
abbrev S32x4x256x128 : Shape := ⟨4, ![32, 4, 256, 128]⟩
abbrev S128x1024 : Shape := ⟨2, ![128, 1024]⟩
abbrev S128x128 : Shape := ⟨2, ![128, 128]⟩
abbrev S2x4x256x128 : Shape := ⟨4, ![2, 4, 256, 128]⟩
abbrev S4x256x128 : Shape := ⟨3, ![4, 256, 128]⟩
abbrev S64x128 : Shape := ⟨2, ![64, 128]⟩
abbrev S64x512 : Shape := ⟨2, ![64, 512]⟩
abbrev S64x64 : Shape := ⟨2, ![64, 64]⟩
abbrev S512 : Shape := ⟨1, ![512]⟩
abbrev S64x256 : Shape := ⟨2, ![64, 256]⟩
abbrev S1x256x128 : Shape := ⟨3, ![1, 256, 128]⟩
abbrev S256x128 : Shape := ⟨2, ![256, 128]⟩
abbrev S1x1x256x128 : Shape := ⟨4, ![1, 1, 256, 128]⟩
abbrev S1x128 : Shape := ⟨2, ![1, 128]⟩
abbrev S64 : Shape := ⟨1, ![64]⟩
abbrev S64x1 : Shape := ⟨2, ![64, 1]⟩

abbrev nBuf : Space → Nat
  | .hbm => 16
  | .vmem => 20
  | .smem => 0
  | _ => 0

abbrev bufTy : (tb : Table) → Fin (tcTables nBuf tb) → BufTy
  | .hbm, ⟨0, _⟩ => ⟨S1x2048x4112, .f32⟩
  | .hbm, ⟨1, _⟩ => ⟨S1x16x512, .f32⟩
  | .hbm, ⟨2, _⟩ => ⟨S1x512, .f32⟩
  | .hbm, ⟨3, _⟩ => ⟨S1x256, .f32⟩
  | .hbm, ⟨4, _⟩ => ⟨S2048x4112, .f32⟩
  | .hbm, ⟨5, _⟩ => ⟨S_, .i32⟩
  | .hbm, ⟨6, _⟩ => ⟨S_, .f32⟩
  | .hbm, ⟨7, _⟩ => ⟨S2048x4224, .f32⟩
  | .hbm, ⟨8, _⟩ => ⟨S16x512, .f32⟩
  | .hbm, ⟨9, _⟩ => ⟨S_, .i32⟩
  | .hbm, ⟨10, _⟩ => ⟨S_, .f32⟩
  | .hbm, ⟨11, _⟩ => ⟨S128x512, .f32⟩
  | .hbm, ⟨12, _⟩ => ⟨S128x512, .bf16⟩
  | .hbm, ⟨13, _⟩ => ⟨S2048x1024, .bf16⟩
  | .hbm, ⟨14, _⟩ => ⟨S2048x1024, .f32⟩
  | .hbm, ⟨15, _⟩ => ⟨S32x4x256x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S128x1024, .bf16⟩
  | .local _ .vmem, ⟨14, _⟩ => ⟨S128x1024, .bf16⟩
  | .local _ .vmem, ⟨15, _⟩ => ⟨S128x1024, .f32⟩
  | .local _ .vmem, ⟨16, _⟩ => ⟨S128x1024, .f32⟩
  | .local _ .vmem, ⟨17, _⟩ => ⟨S2x4x256x128, .f32⟩
  | .local _ .vmem, ⟨18, _⟩ => ⟨S2x4x256x128, .f32⟩
  | .local _ .vmem, ⟨19, _⟩ => ⟨S4x256x128, .f32⟩
  | _, _ => ⟨S1x2048x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Proof.Reals.lean ====
/- Extended reals that are real numbers, and the elementary functions of the training step on them. -/
module

public import Idealize.ShloMosaic.Lib.IdealHost
public import Idealize.ShloMosaic.Lib.Pointwise

@[expose] public section

noncomputable section

namespace Cert.Reals

open Idealize.ShloMosaic
open scoped BigOperators

/-- An extended real that is a real number: neither infinity. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A finite sum of real numbers is one. -/
theorem IsReal.sum {ι : Type*} (s : Finset ι) {f : ι → EReal} (hf : ∀ i, IsReal (f i)) : IsReal (∑ i ∈ s, f i) := by
  classical
  induction s using Finset.induction_on with
  | empty => simpa using IsReal.zero
  | insert a s ha ih => rw [Finset.sum_insert ha]; exact (hf a).add ih

/-- A sum of coerced real numbers is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The comparison `|x| < +∞` of the preconditions holds of real numbers only. -/
theorem isReal_of_abs_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hlt : max x (-x) < ⊤ := by
    by_contra hc
    simp [Ideal.cmp, hc] at h
  induction x using EReal.rec with
  | bot => simp at hlt
  | top => simp at hlt
  | coe r => exact ⟨r, rfl⟩

/-- An array whose elements lie below infinity in absolute value has real elements. -/
theorem real_of {S : Shape} (x : FVec Ideal S .f32) (h) (e : cmpf .olt (Host.absf x) (broadcastInDim S ![] h (constant (F := Ideal) ⟨0, ![]⟩ .f32 0x7F800000#32)) = fun _ => 1#1)
    (i : S.Idx) : IsReal (x i) :=
  isReal_of_abs_lt (congrFun e i)

/-- The f32 pattern of one half. -/
theorem ofBits_half : Ideal.ofBits .f32 0x3F000000#32 = (((1 : ℝ) / 2 : ℝ) : EReal) := by
  simp [Ideal.ofBits, Ideal.ieee, -EReal.coe_mul]; norm_num

/-- The f32 pattern of 2048. -/
theorem ofBits_2048 : Ideal.ofBits .f32 0x45000000#32 = ((2048 : ℝ) : EReal) := by
  simp [Ideal.ofBits, Ideal.ieee, -EReal.coe_mul]; norm_num

/-- The f32 number nearest 10⁻⁶, the norms' epsilon, is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

theorem isReal_tanh {x : EReal} (hx : IsReal x) : IsReal (Ideal.tanh x) := by
  obtain ⟨a, rfl⟩ := hx
  exact ⟨_, Ideal.tanh_coe a⟩

theorem isReal_exp {x : EReal} (hx : IsReal x) : IsReal (Ideal.exp x) := by
  obtain ⟨a, rfl⟩ := hx
  exact ⟨_, Ideal.exp_coe a⟩

/-- A quotient by a positive real is a product by its inverse. -/
theorem div_pos_coe {y : ℝ} (hy : 0 < y) (x : ℝ) : Ideal.div (x : EReal) (y : EReal) = ((x / y : ℝ) : EReal) := by
  rw [Ideal.div_coe hy.ne', ← EReal.coe_mul]
  congr 1
  rw [mul_one_div]

/-- The inverse root of a positive real. -/
theorem rsqrt_pos {y : ℝ} (hy : 0 < y) : Ideal.rsqrt (y : EReal) = (((Real.sqrt y)⁻¹ : ℝ) : EReal) := by
  rw [Ideal.rsqrt_coe, if_neg (not_lt.mpr hy.le), if_neg hy.ne']

/-- The logistic function through the hyperbolic tangent of the half argument. -/
theorem half_tanh (x : ℝ) : 1 / 2 * Real.tanh (1 / 2 * x) + 1 / 2 = 1 / (1 + Real.exp (-x)) := by
  have h1 : Real.exp (-x) = Real.exp (-(1 / 2 * x)) / Real.exp (1 / 2 * x) := by
    rw [← Real.exp_sub]; congr 1; ring
  have hp := Real.exp_pos (1 / 2 * x)
  have hn := Real.exp_pos (-(1 / 2 * x))
  rw [Real.tanh_eq, h1]
  field_simp
  ring

/-- The logistic function as the kernel computes it. -/
def sgK (x : EReal) : EReal :=
  Ideal.ofBits .f32 0x3F000000#32 * Ideal.tanh (Ideal.ofBits .f32 0x3F000000#32 * x) + Ideal.ofBits .f32 0x3F000000#32

/-- The logistic function as the reference computes it. -/
def sgR (x : EReal) : EReal := Ideal.div 1 (1 + Ideal.exp (-x))

theorem sgK_coe (x : ℝ) : sgK (x : EReal) = ((1 / (1 + Real.exp (-x)) : ℝ) : EReal) := by
  rw [sgK, ofBits_half, ← EReal.coe_mul, Ideal.tanh_coe, ← EReal.coe_mul, ← EReal.coe_add, half_tanh]

theorem sgR_coe (x : ℝ) : sgR (x : EReal) = ((1 / (1 + Real.exp (-x)) : ℝ) : EReal) := by
  have h : (0 : ℝ) < 1 + Real.exp (-x) := by positivity
  rw [sgR, ← EReal.coe_neg, Ideal.exp_coe, ← EReal.coe_one, ← EReal.coe_add, div_pos_coe h]

/-- The two logistic functions agree on real numbers. -/
theorem sgK_eq {x : EReal} (hx : IsReal x) : sgK x = sgR x := by
  obtain ⟨a, rfl⟩ := hx
  rw [sgK_coe, sgR_coe]

theorem isReal_sgR {x : EReal} (hx : IsReal x) : IsReal (sgR x) := by
  obtain ⟨a, rfl⟩ := hx
  exact ⟨_, sgR_coe a⟩

end Cert.Reals

end
-- ==== Proof.Spec.lean ====
/- The feed-forward layers' mathematics at an index: the root-mean-square norm, the projection of the normed input, and
   the gradient of SwiGLU in the kernel's form and in the reference's. -/
module

public import proofs.«01_k».proof.Proof.Reals

@[expose] public section

noncomputable section

namespace Cert.Spec

open Idealize.ShloMosaic Cert.Reals
open scoped BigOperators

/-- The inverse root mean square of a row. -/
def rinv (x : Fin 2048 → EReal) : EReal :=
  Ideal.rsqrt (Ideal.div (∑ d, x d * x d) (Ideal.ofBits .f32 0x45000000#32) + Ideal.ofBits .f32 0x358637BD#32)

/-- The normed and scaled input, projected. -/
def proj {n : ℕ} (h : Fin 2048 → Fin 2048 → EReal) (g : Fin 2048 → EReal) (w : Fin 2048 → Fin n → EReal) (s : Fin 2048) (j : Fin n) :
    EReal := ∑ d, h s d * rinv (h s) * g d * w d j

/-- A real row's inverse root mean square is a positive real. -/
theorem rinv_coe (x : Fin 2048 → EReal) (hx : ∀ d, IsReal (x d)) : ∃ r : ℝ, 0 < r ∧ rinv x = (r : EReal) := by
  choose f hf using hx
  obtain ⟨e, he, hee⟩ := ofBits_eps
  have hs : 0 ≤ ∑ d, f d * f d := Finset.sum_nonneg fun d _ => mul_self_nonneg (f d)
  have hp : 0 < (∑ d, f d * f d) / 2048 + e := by positivity
  refine ⟨(Real.sqrt ((∑ d, f d * f d) / 2048 + e))⁻¹, by positivity, ?_⟩
  rw [rinv, hee, ofBits_2048, Finset.sum_congr rfl fun d _ => by rw [hf d, ← EReal.coe_mul], coe_sum,
    div_pos_coe (by norm_num), ← EReal.coe_add, rsqrt_pos hp]

theorem isReal_rinv (x : Fin 2048 → EReal) (hx : ∀ d, IsReal (x d)) : IsReal (rinv x) := by
  obtain ⟨r, -, h⟩ := rinv_coe x hx
  exact ⟨r, h⟩

theorem isReal_proj {n : ℕ} {h : Fin 2048 → Fin 2048 → EReal} {g : Fin 2048 → EReal} {w : Fin 2048 → Fin n → EReal}
    (hh : ∀ s d, IsReal (h s d)) (hg : ∀ d, IsReal (g d)) (hw : ∀ d j, IsReal (w d j)) (s : Fin 2048) (j : Fin n) :
    IsReal (proj h g w s j) :=
  IsReal.sum _ fun d => (((hh s d).mul (isReal_rinv _ (hh s))).mul (hg d)).mul (hw d j)

/-- The gate's cotangent as the kernel writes it. -/
def gateK (da g u : EReal) : EReal := da * u * (sgK g * (1 + g * (1 - sgK g)))

/-- The gate's cotangent as differentiation gives it. -/
def gateR (da g u : EReal) : EReal := da * u * sgR g + g * (da * u) * (sgR g * (1 - sgR g))

/-- The two forms of the gate's cotangent agree on real numbers. -/
theorem gate_eq {da g u : EReal} (hd : IsReal da) (hg : IsReal g) (hu : IsReal u) : gateK da g u = gateR da g u := by
  rw [gateK, gateR, sgK_eq hg]
  obtain ⟨s, hs⟩ := isReal_sgR hg
  obtain ⟨d, rfl⟩ := hd
  obtain ⟨a, rfl⟩ := hg
  obtain ⟨b, rfl⟩ := hu
  rw [hs]
  simp only [← EReal.coe_one, ← EReal.coe_mul, ← EReal.coe_sub, ← EReal.coe_add]
  congr 1
  ring

end Cert.Spec

end
-- ==== Proof.Norm.lean ====
/- The gradient of the root-mean-square norm at an index, in the kernels' form and in differentiation's. -/
module

public import proofs.«01_k».proof.Proof.Spec

@[expose] public section

noncomputable section

namespace Cert.Spec

open Idealize.ShloMosaic Cert.Reals
open scoped BigOperators

/-- A row's mean square, shifted by the norm's epsilon. -/
def ms (x : Fin 2048 → EReal) : EReal :=
  Ideal.div (∑ d, x d * x d) (Ideal.ofBits .f32 0x45000000#32) + Ideal.ofBits .f32 0x358637BD#32

/-- The norm's gradient as the kernels write it: `a` the cotangent of the normed row `x`, `g` the scale. -/
def normK (a x g : Fin 2048 → EReal) (d : Fin 2048) : EReal :=
  rinv x * (a d * g d - x d * rinv x * Ideal.div (∑ e, a e * g e * (x e * rinv x)) (Ideal.ofBits .f32 0x45000000#32))

/-- The mean square's cotangent over the row's elements, as differentiation gives it. -/
def normC (a x g : Fin 2048 → EReal) : EReal :=
  Ideal.div ((∑ e, x e * (a e * g e)) * (Ideal.ofBits .f32 0xBF000000#32 * Ideal.div (rinv x) (ms x))) (Ideal.ofBits .f32 0x45000000#32)

/-- The norm's gradient as differentiation gives it. -/
def normR (a x g : Fin 2048 → EReal) (d : Fin 2048) : EReal :=
  a d * g d * rinv x + x d * normC a x g + normC a x g * x d

/-- The f32 pattern of minus one half. -/
theorem ofBits_neg_half : Ideal.ofBits .f32 0xBF000000#32 = ((-(1 / 2) : ℝ) : EReal) := by
  simp [Ideal.ofBits, Ideal.ieee, -EReal.coe_mul]; norm_num

/-- A real row's mean square is a positive real, and the norm's factor its inverse root. -/
theorem ms_coe (x : Fin 2048 → EReal) (hx : ∀ d, IsReal (x d)) : ∃ v : ℝ, 0 < v ∧ ms x = (v : EReal) ∧ rinv x = (((Real.sqrt v)⁻¹ : ℝ) : EReal) := by
  choose f hf using hx
  obtain ⟨e, he, hee⟩ := ofBits_eps
  have hs : 0 ≤ ∑ d, f d * f d := Finset.sum_nonneg fun d _ => mul_self_nonneg (f d)
  have hp : 0 < (∑ d, f d * f d) / 2048 + e := by positivity
  have hm : ms x = (((∑ d, f d * f d) / 2048 + e : ℝ) : EReal) := by
    rw [ms, hee, ofBits_2048, Finset.sum_congr rfl fun d _ => by rw [hf d, ← EReal.coe_mul], coe_sum, div_pos_coe (by norm_num), ← EReal.coe_add]
  exact ⟨_, hp, hm, (congrArg Ideal.rsqrt hm).trans (rsqrt_pos hp)⟩

/-- The two forms of the norm's gradient agree on real numbers. -/
theorem norm_eq {a x g : Fin 2048 → EReal} (ha : ∀ d, IsReal (a d)) (hx : ∀ d, IsReal (x d)) (hg : ∀ d, IsReal (g d)) (d : Fin 2048) :
    normK a x g d = normR a x g d := by
  obtain ⟨v, hv, hm, hr⟩ := ms_coe x hx
  choose af haf using ha
  choose xf hxf using hx
  choose gf hgf using hg
  have hs : 0 < Real.sqrt v := Real.sqrt_pos.mpr hv
  rw [normK, normR, normC, hm, hr, ofBits_neg_half, ofBits_2048, div_pos_coe hv]
  simp only [haf, hxf, hgf, ← EReal.coe_mul, coe_sum, div_pos_coe (show (0 : ℝ) < 2048 by norm_num), ← EReal.coe_sub, ← EReal.coe_add]
  congr 1
  have e1 : ∑ e, af e * gf e * (xf e * (Real.sqrt v)⁻¹) = (∑ e, xf e * (af e * gf e)) * (Real.sqrt v)⁻¹ := by
    rw [Finset.sum_mul]; exact Finset.sum_congr rfl fun e _ => by ring
  rw [e1]
  generalize (∑ e, xf e * (af e * gf e)) = q
  have e2 : v = Real.sqrt v * Real.sqrt v := (Real.mul_self_sqrt hv.le).symm
  rw [show (Real.sqrt v)⁻¹ / v = (Real.sqrt v)⁻¹ * ((Real.sqrt v)⁻¹ * (Real.sqrt v)⁻¹) by
    rw [div_eq_mul_inv, show v⁻¹ = (Real.sqrt v)⁻¹ * (Real.sqrt v)⁻¹ by rw [← mul_inv, ← e2]]]
  ring

end Cert.Spec

end
-- ==== Proof.Trips.lean ====
/- Blocks of rows gone through by trips of 64 rows: a trip's rows, sums over the trips, the norm's gradient over a block's rows,
   and blocks of two halves. -/
module

public import Idealize.ShloMosaic.Lib.Pipeline.ValueKit
public import Idealize.ShloMosaic.Lib.Pipeline.ReadBack
public import Idealize.ShloMosaic.Lib.VecWindow
public import proofs.«01_k».proof.Proof.Norm

@[expose] public section

noncomputable section

namespace Cert.Trips

open Cert.Reals Cert.Spec
open Idealize.ShloMosaic Idealize.ShloMosaic.TcCoe
open scoped BigOperators

/-! ## A trip's rows -/

/-- A block of rows. -/
abbrev B (N : ℕ) : Shape := ⟨2, ![N, 2048]⟩

variable {N : ℕ}

/-- The row of a block that trip `k` holds at row `i`. -/
def row64 (k : ℕ) (hk : 64 * k + 64 ≤ N) (i : Fin 64) : Fin N := ⟨64 * k + i.val, by omega⟩

theorem ld64 (o : Fin 2 → ℕ) (k : ℕ) (hk : 64 * k + 64 ≤ N) (ho : o = ![64 * k, 0]) (X : FVec Ideal (B N) .f32) (h) (j : Fin 64) (d : Fin 2048) :
    View.ld (Val := Elt Ideal) (e' := .f32) X (Rect.unit (s := B N) o ![64, 2048] h) (ix2 j d) = X (ix2 (row64 k hk j) d) := by
  refine View.ld_unit_apply_of (Val := Elt Ideal) (e := .f32) X _ _ _ _ _ fun a => ?_
  refine Eq.trans ?_ (congrArg (· + ((ix2 j d : (B 64).Idx) a : ℕ)) (congrFun ho a).symm)
  match a with
  | 0 => rfl
  | 1 => exact (Nat.zero_add _).symm

theorem emb64 (o : Fin 2 → ℕ) (k : ℕ) (hk : 64 * k + 64 ≤ N) (ho : o = ![64 * k, 0]) (h) (x : (B 64).Idx) :
    (Rect.unit (s := B N) o ![64, 2048] h).emb x = ix2 (row64 k hk (x 0)) (x 1) := by
  funext a
  refine Fin.ext ((congrArg (· + 1 * (x a).val) (congrFun ho a)).trans ?_)
  match a with
  | 0 => exact congrArg (64 * k + ·) (Nat.one_mul _)
  | 1 => exact (Nat.zero_add _).trans (Nat.one_mul _)

theorem mem64 (o : Fin 2 → ℕ) (k : ℕ) (ho : o = ![64 * k, 0]) (h) (y : (B N).Idx) (h1 : 64 * k ≤ (y 0).val) (h2 : (y 0).val < 64 * (k + 1)) :
    y ∈ (Rect.unit (s := B N) o ![64, 2048] h).set := by
  refine Rect.mem_set_unit.mpr fun a => ?_
  rw [congrFun ho a]
  match a with
  | 0 => exact ⟨h1, by show (y 0).val < 64 * k + 64; omega⟩
  | 1 => exact ⟨Nat.zero_le _, by show (y 1).val < 0 + 2048; have := (y 1).isLt; exact (Nat.zero_add 2048).symm ▸ this⟩

theorem ix64 (x : (B 64).Idx) : x = ix2 (x 0) (x 1) := by funext i; match i with | 0 => rfl | 1 => rfl

/-- A trip's share of a sum over a block's rows. -/
def sh (f : Fin N → EReal) (k : ℕ) : EReal := ∑ j : Fin 64, if h : 64 * k + j.val < N then f ⟨64 * k + j.val, h⟩ else 0

theorem sh_eq (f : Fin N → EReal) (k : ℕ) (hk : 64 * k + 64 ≤ N) : sh f k = ∑ j : Fin 64, f (row64 k hk j) :=
  Finset.sum_congr rfl fun j _ => dif_pos (row64 k hk j).isLt

/-- The shares of the trips are the sum over the block's rows. -/
theorem sum_sh (f : Fin N → EReal) (T : ℕ) (hT : T * 64 = N) : ∑ k ∈ Finset.range T, sh f k = ∑ s : Fin N, f s := by
  subst hT
  rw [Finset.sum_range, ← finProdFinEquiv.sum_comp, Fintype.sum_prod_type]
  refine Finset.sum_congr rfl fun k _ => (sh_eq f k.val (by omega)).trans (Finset.sum_congr rfl fun j _ => congrArg f (Fin.ext ?_))
  exact Nat.add_comm _ _

/-! ## The norm's gradient over a block's rows -/

variable (H R A : FVec Ideal (B N) .f32) (G : FVec Ideal (B 1) .f32)

/-- The gradient in the norm's input, added to what comes in beside it. -/
def DH (y : (B N).Idx) : EReal :=
  R y + normK (fun d => A (ix2 (y 0) d)) (fun d => H (ix2 (y 0) d)) (fun d => G (ix2 0 d)) (y 1)

/-- A row's part of the scale's gradient. -/
def dgr (s : Fin N) (d : Fin 2048) : EReal := A (ix2 s d) * (H (ix2 s d) * rinv fun d => H (ix2 s d))

/-! ## Blocks of two halves -/

theorem ldg (o : Fin 2) (X : FVec Ideal ⟨3, ![2, 512, 512]⟩ .bf16) (h) (s n : Fin 512) :
    View.ld (Val := Elt Ideal) (e' := .bf16) X (Rect.unit (s := ⟨3, ![2, 512, 512]⟩) ![o.val, 0, 0] ![1, 512, 512] h) (ix3 0 s n) = X (ix3 o s n) := by
  refine View.ld_unit_apply_of (Val := Elt Ideal) (e := .bf16) X _ _ _ _ _ fun b => ?_
  match b with
  | 0 => rfl
  | 1 => exact (Nat.zero_add _).symm
  | 2 => exact (Nat.zero_add _).symm

/-- Two stores that tile a block, read back. -/
theorem two (a b : Vec Ideal ⟨3, ![1, 512, 512]⟩ .bf16) (y : Shape.Idx ⟨3, ![2, 512, 512]⟩) :
    View.canon (Val := Elt Ideal) (s := ⟨3, ![2, 512, 512]⟩) (e := .bf16)
      [⟨Rect.unit (s := ⟨3, ![2, 512, 512]⟩) ![1, 0, 0] ![1, 512, 512] (by decide), a⟩,
        ⟨Rect.unit ![0, 0, 0] ![1, 512, 512] (by decide), b⟩]
      y = if (y 0).val = 1 then a (ix3 0 (y 1) (y 2)) else b (ix3 0 (y 1) (y 2)) := by
  canon_tiles x h
  · rw [if_pos (by omega)]
    exact congrArg a (funext fun k => Fin.ext (by fin_cases k <;> simp <;> omega))
  · rw [if_neg (by omega)]
    exact congrArg b (funext fun k => Fin.ext (by fin_cases k <;> simp <;> omega))

end Cert.Trips

end
-- ==== Proof.GuKernel.lean ====
/- The kernel of the SwiGLU gradient, read at an index: the blocks it loads, what each stored value is, and what its two
   results hold after the run. -/
module

public import proofs.«01_k».proof.Proof.Gen.Ffn1GuIdeal.Value
public import Idealize.ShloMosaic.Lib.Pipeline.ValueKit
public import Idealize.ShloMosaic.Lib.Pipeline.ReadBack
public import Idealize.ShloMosaic.Lib.Claim
public import proofs.«01_k».proof.Proof.Trips

@[expose] public section

set_option maxRecDepth 16384

noncomputable section

namespace Cert.Ffn1GuIdeal.Read

open Cert.Ffn1GuIdeal Cert.Ffn1GuIdeal.Gen Cert.Ffn1GuIdeal.Value Cert.Reals Cert.Spec
open Idealize.ShloMosaic Idealize.ShloMosaic.TcCoe Idealize.SL.Sem
open Cert.Trips (ldg two)
open Idealize.ShloMosaic.Pipeline (Dat)
open scoped BigOperators

variable (m : (ℓ : Loc nD τ sig) → Buf (Elt Ideal) ℓ) (c : Dev nD)

theorem idx : ∀ t : Fin cfg0.N, win0_0.index t = ![0, 0] ∧ win0_1.index t = ![0, t.val % 4, t.val / 4]
    ∧ win0_2.index t = ![t.val / 4, 0] ∧ win0_3.index t = ![0, t.val % 4, t.val / 4] ∧ win0_4.index t = ![t.val / 4, 0] :=
  (by decide +kernel : ∀ t : Fin grid0.N, _)

theorem off : ∀ t : Fin cfg0.N, k0_off1 (grid0.coords t) = ![512 * (t.val % 4), 0] :=
  (by decide +kernel : ∀ t : Fin grid0.N, _)

/-- The row of the arrays that grid point `t` holds at row `s` of its block. -/
def row (t : Fin cfg0.N) (s : Fin 512) : Fin 2048 := ⟨512 * (t.val % 4) + s.val, by omega⟩

/-- The column of the hidden axis that grid point `t` holds at column `n` of its block. -/
def col (t : Fin cfg0.N) (n : Fin 512) : Fin 5632 :=
  ⟨512 * (t.val / 4) + n.val, by have := t.isLt; have : cfg0.N = 44 := N_0; omega⟩

/-! ## What the region finds in its operands -/

/-- The halved cotangent. -/
def CT (s k : Fin 2048) : EReal := Ideal.ofBits .f32 0x3F000000#32 * m (c, Proc.tc.devRef main_arg4) (ix3 0 s k)

/-- The projection: the gate's half at 0, the other at 1. -/
def GUv (a : Fin 2) (s : Fin 2048) (n : Fin 5632) : EReal :=
  proj (fun s d => m (c, Proc.tc.devRef main_arg0) (ix3 0 s d)) (fun d => m (c, Proc.tc.devRef main_arg1) (ix2 0 d))
    (fun d j => m (c, Proc.tc.devRef main_arg2) (ix3 0 d j)) s
    (if a.val < 1 then (⟨n.val, by omega⟩ : Fin 11264) else ⟨5632 + n.val, by omega⟩)

/-- The output projection. -/
def WO (n : Fin 5632) (k : Fin 2048) : EReal := m (c, Proc.tc.devRef main_arg3) (ix3 0 n k)

theorem e0 (s k : Fin 2048) : V m c main_v27 (ix2 s k) = CT m c s k := by
  entry_read
  pointwise []
  rfl

theorem e1 (a : Fin 2) (s : Fin 2048) (n : Fin 5632) : V m c main_v23 (ix3 a s n) = GUv m c a s n := by
  entry_read
  pointwise []
  unfold GUv
  split_ifs <;> rfl

theorem e2 (n : Fin 5632) (k : Fin 2048) : V m c main_v29 (ix2 n k) = WO m c n k := by
  entry_read
  pointwise []
  rfl

/-! ## The blocks a grid point loads -/

theorem ld0 (t : Fin cfg0.N) (X : FVec Ideal S2048x2048 .bf16) (h) (s : Fin 512) (k : Fin 2048) :
    View.ld (Val := Elt Ideal) (e' := .bf16) X (Rect.unit (s := S2048x2048) (k0_off1 (grid0.coords t)) ![512, 2048] h) (ix2 s k) =
      X (ix2 (row t s) k) := by
  refine View.ld_unit_apply_of (Val := Elt Ideal) (e := .bf16) X _ _ _ _ _ fun a => ?_
  refine Eq.trans ?_ (congrArg (· + ((ix2 s k : S512x2048.Idx) a : ℕ)) (congrFun (off t) a).symm)
  match a with
  | 0 => rfl
  | 1 => exact (Nat.zero_add _).symm

theorem b0 (t : Fin cfg0.N) (s k : Fin 2048) : (show FVec Ideal S2048x2048 .bf16 from iblk m c 0 t) (ix2 s k) = CT m c s k := by
  refine Eq.trans ?_ (e0 m c s k)
  blk_ext [iblk, idx t]

theorem b1 (t : Fin cfg0.N) (a : Fin 2) (s n : Fin 512) :
    (show FVec Ideal S2x512x512 .bf16 from iblk m c 1 t) (ix3 a s n) = GUv m c a (row t s) (col t n) := by
  refine Eq.trans ?_ (e1 m c a (row t s) (col t n))
  blk_ext [iblk, idx t, row, col]

theorem b2 (t : Fin cfg0.N) (n : Fin 512) (k : Fin 2048) :
    (show FVec Ideal S512x2048 .bf16 from iblk m c 2 t) (ix2 n k) = WO m c (col t n) k := by
  refine Eq.trans ?_ (e2 m c (col t n) k)
  blk_ext [iblk, idx t, col]

/-! ## The stored values -/

theorem p12 (v3 : FVec Ideal S512x2048 .bf16) (v5 v8 : FVec Ideal S1x512x512 .bf16) (v11 : FVec Ideal S512x2048 .bf16) (i j : Fin 512) :
    k0_pay12 (F := Ideal) v3 v5 v8 v11 (ix3 0 i j) = gateK (∑ k : Fin 2048, v3 (ix2 i k) * v11 (ix2 j k)) (v5 (ix3 0 i j)) (v8 (ix3 0 i j)) := by
  pointwise [k0_pay12, k0_pay10, k0_pay9, k0_pay7, k0_pay8, k0_pay6]
  rfl

theorem p13 (v3 : FVec Ideal S512x2048 .bf16) (v5 : FVec Ideal S1x512x512 .bf16) (v11 : FVec Ideal S512x2048 .bf16) (i j : Fin 512) :
    k0_pay1 (k0_pay13 (F := Ideal) v3 v5 v11) (ix3 0 i j) =
      (∑ k : Fin 2048, v3 (ix2 i k) * v11 (ix2 j k)) * (v5 (ix3 0 i j) * sgK (v5 (ix3 0 i j))) := by
  pointwise [k0_pay1, k0_pay13, k0_pay11, k0_pay10, k0_pay9, k0_pay7, k0_pay8, k0_pay6]
  rfl

theorem p3 (v3 : FVec Ideal S512x2048 .bf16) (v5 v8 : FVec Ideal S1x512x512 .bf16) (i : Fin 512) (j : Fin 2048) :
    k0_pay2 (F := Ideal) (k0_pay6 v3) (k0_pay8 v8) (k0_pay11 v5) (ix2 i j) =
      ∑ s : Fin 512, v5 (ix3 0 s i) * sgK (v5 (ix3 0 s i)) * v8 (ix3 0 s i) * v3 (ix2 s j) := by
  pointwise [k0_pay2, k0_pay6, k0_pay8, k0_pay11, k0_pay10, k0_pay7]
  rfl

/-- The cotangent of the hidden layer. -/
def D (s : Fin 2048) (n : Fin 5632) : EReal := ∑ k : Fin 2048, CT m c s k * WO m c n k

/-- What the first result holds: the gate's cotangent, then the other half's. -/
def O3 (y : S2x2048x5632.Idx) : EReal :=
  if (y 0).val = 1 then D m c (y 1) (y 2) * (GUv m c 0 (y 1) (y 2) * sgK (GUv m c 0 (y 1) (y 2)))
  else gateK (D m c (y 1) (y 2)) (GUv m c 0 (y 1) (y 2)) (GUv m c 1 (y 1) (y 2))

/-- The two stored tiles at a grid point. -/
theorem o3 (t : Fin cfg0.N) (X0 : FVec Ideal S2048x2048 .bf16) (X1 : FVec Ideal S2x512x512 .bf16) (X2 : FVec Ideal S512x2048 .bf16)
    (h0 : ∀ s k, X0 (ix2 s k) = CT m c s k) (h1 : ∀ a s n, X1 (ix3 a s n) = GUv m c a (row t s) (col t n))
    (h2 : ∀ n k, X2 (ix2 n k) = WO m c (col t n) k) (h h' h'') (a : Fin 2) (s n : Fin 512) :
    (if a.val = 1 then k0_pay1 (k0_pay13 (F := Ideal) (View.ld (Val := Elt Ideal) (e' := .bf16) X0 (Rect.unit (k0_off1 (grid0.coords t)) ![512, 2048] h))
              (View.ld (Val := Elt Ideal) (e' := .bf16) X1 (Rect.unit ![0, 0, 0] ![1, 512, 512] h')) X2) (ix3 0 s n)
     else k0_pay12 (F := Ideal) (View.ld (Val := Elt Ideal) (e' := .bf16) X0 (Rect.unit (k0_off1 (grid0.coords t)) ![512, 2048] h))
            (View.ld (Val := Elt Ideal) (e' := .bf16) X1 (Rect.unit ![0, 0, 0] ![1, 512, 512] h'))
            (View.ld (Val := Elt Ideal) (e' := .bf16) X1 (Rect.unit ![1, 0, 0] ![1, 512, 512] h'')) X2 (ix3 0 s n)) =
      O3 m c (ix3 a (row t s) (col t n)) := by
  rw [p13, p12]
  have hd : (∑ k : Fin 2048, View.ld (Val := Elt Ideal) (e' := .bf16) X0 (Rect.unit (s := S2048x2048) (k0_off1 (grid0.coords t)) ![512, 2048] h) (ix2 s k)
      * X2 (ix2 n k) : EReal) = D m c (row t s) (col t n) :=
    Finset.sum_congr rfl fun k _ => congrArg₂ (fun a b : EReal => a * b) ((ld0 t _ h _ _).trans (h0 _ _)) (h2 _ _)
  have hg := (ldg 0 X1 h' s n).trans (h1 0 s n)
  have hu := (ldg 1 X1 h'' s n).trans (h1 1 s n)
  refine congrArg₂ (fun p q : EReal => if a.val = 1 then p else q) (congrArg₂ (fun d g : EReal => d * (g * sgK g)) hd hg) ?_
  exact (congrArg₂ (fun d g : EReal => gateK d g _) hd hg).trans (congrArg (fun u : EReal => gateK _ _ u) hu)

theorem out3 (t : Fin cfg0.N) (y : S2x512x512.Idx) :
    (outsAt0 m c t.val t.isLt).1 y = O3 m c (ix3 (y 0) (row t (y 1)) (col t (y 2))) := by
  by_cases h0 : t.val % 4 = 0
  · rw [outsAt0_A m c t h0 (by omega) (by omega)]
    frame_out
    rw [two]
    exact o3 m c t _ _ _ (b0 m c t) (b1 m c t) (b2 m c t) _ _ _ (y 0) (y 1) (y 2)
  · by_cases h2 : t.val % 4 = 3
    · rw [outsAt0_C m c t h0 (by omega) h2]
      frame_out
      rw [two]
      exact o3 m c t _ _ _ (b0 m c t) (b1 m c t) (b2 m c t) _ _ _ (y 0) (y 1) (y 2)
    · rw [outsAt0_B m c t h0 (by omega) h2]
      frame_out
      rw [two]
      exact o3 m c t _ _ _ (b0 m c t) (b1 m c t) (b2 m c t) _ _ _ (y 0) (y 1) (y 2)

/-! ## The accumulated result -/

/-- A grid point's part of the weight's gradient. -/
def part (t : Fin cfg0.N) (y : S512x2048.Idx) : EReal :=
  ∑ s : Fin 512, GUv m c 0 (row t s) (col t (y 0)) * sgK (GUv m c 0 (row t s) (col t (y 0))) * GUv m c 1 (row t s) (col t (y 0))
    * CT m c (row t s) (y 1)

theorem part_eq (t : Fin cfg0.N) (X0 : FVec Ideal S2048x2048 .bf16) (X1 : FVec Ideal S2x512x512 .bf16)
    (h0 : ∀ s k, X0 (ix2 s k) = CT m c s k) (h1 : ∀ a s n, X1 (ix3 a s n) = GUv m c a (row t s) (col t n)) (h h' h'') (y : S512x2048.Idx) :
    k0_pay2 (F := Ideal) (k0_pay6 (View.ld (Val := Elt Ideal) (e' := .bf16) X0 (Rect.unit (k0_off1 (grid0.coords t)) ![512, 2048] h)))
      (k0_pay8 (View.ld (Val := Elt Ideal) (e' := .bf16) X1 (Rect.unit ![1, 0, 0] ![1, 512, 512] h'')))
      (k0_pay11 (View.ld (Val := Elt Ideal) (e' := .bf16) X1 (Rect.unit ![0, 0, 0] ![1, 512, 512] h'))) y = part m c t y := by
  idx_vars y
  rw [p3]
  refine Finset.sum_congr rfl fun s _ => ?_
  exact congrArg₂ (fun a b : EReal => a * b) (congrArg₂ (fun g u : EReal => g * sgK g * u) ((ldg 0 _ h' _ _).trans (h1 0 _ _))
    ((ldg 1 _ h'' _ _).trans (h1 1 _ _))) ((ld0 t _ h _ _).trans (h0 _ _))

theorem accA (t : Fin cfg0.N) (h0 : t.val % 4 = 0) (y : S512x2048.Idx) :
    (outsAt0 m c t.val t.isLt).2.2 y = (0 + part m c t y : EReal) := by
  rw [outsAt0_A m c t h0 (by omega) (by omega)]
  frame_out
  exact (congrFun (shapeCast_self _ _) y).trans ((part_eq m c t _ _ (b0 m c t) (b1 m c t) _ _ _ y).trans (zero_add _).symm)

theorem p4 (v4 : FVec Ideal S512x2048 .bf16) (v10 v21 : FVec Ideal S512x512 .f32) (w : FVec Ideal S512x2048 .f32) (y : S512x2048.Idx) :
    k0_pay4 (F := Ideal) v4 v10 v21 w y = (w y + k0_pay2 v4 v10 v21 y : EReal) := by
  idx_vars y
  pointwise [k0_pay4]

theorem accB (t : Fin cfg0.N) (h0 : ¬t.val % 4 = 0) (y : S512x2048.Idx) :
    (outsAt0 m c t.val t.isLt).2.2 y = ((outsAt0 m c (t.val - 1) (by have := t.isLt; omega)).2.2 y + part m c t y : EReal) := by
  by_cases h2 : t.val % 4 = 3
  · rw [outsAt0_C m c t h0 (by omega) h2]
    frame_out
    rw [read_unread_whole]
    exact (p4 _ _ _ _ y).trans (congrArg (fun p : EReal => (outsAt0 m c (t.val - 1) _).2.2 y + p) (part_eq m c t _ _ (b0 m c t) (b1 m c t) _ _ _ y))
  · rw [outsAt0_B m c t h0 (by omega) h2]
    frame_out
    rw [read_unread_whole]
    exact (p4 _ _ _ _ y).trans (congrArg (fun p : EReal => (outsAt0 m c (t.val - 1) _).2.2 y + p) (part_eq m c t _ _ (b0 m c t) (b1 m c t) _ _ _ y))

theorem out4 (t : Fin cfg0.N) (h2 : t.val % 4 = 3) (y : S512x2048.Idx) :
    (outsAt0 m c t.val t.isLt).2.1 y = ((outsAt0 m c t.val t.isLt).2.2 y : EReal) := by
  rw [outsAt0_C m c t (by omega) (by omega) h2]
  frame_out
  rfl

/-- What the second result holds. -/
def O4 (y : S5632x2048.Idx) : EReal :=
  ∑ s : Fin 2048, GUv m c 0 s (y 0) * sgK (GUv m c 0 s (y 0)) * GUv m c 1 s (y 0) * CT m c s (y 1)

theorem acc (t : Fin cfg0.N) (hr : t.val % 4 = 3) (y : S512x2048.Idx) :
    (outsAt0 m c t.val t.isLt).2.2 y = O4 m c (ix2 (col t (y 0)) (y 1)) := by
  refine (Pipeline.eq_sum_fin_of_reset_step_apply_of_flush (M := EReal) (fun n h => (outsAt0 m c n h).2.2) 4 (fun _ => 0) (part m c)
    (accA m c) (accB m c) t hr y).trans ?_
  rw [zero_add]
  refine Fin.sum_mul_add_congr fun s k hl => ?_
  have hrow : row ⟨4 * (t.val / 4) + s.val, Pipeline.run_point_lt_of_flush t hr s⟩ k = ⟨s.val * 512 + k.val, hl⟩ :=
    Fin.ext (by dsimp only [row]; omega)
  have hcol : col ⟨4 * (t.val / 4) + s.val, Pipeline.run_point_lt_of_flush t hr s⟩ (y 0) = col t (y 0) :=
    Fin.ext (by dsimp only [col]; omega)
  rw [hrow, hcol]
  rfl

/-! ## The results after the run -/

theorem final3 : (dats m 0 c).arrAt 3 cfg0.N = O3 m c := by
  refine (dats m 0 c).arrAt_eq_of_covers 3 _ (by decide +kernel) fun t hf y => ?_
  blk_simp
  rw [after0_3, out3]
  refine congrArg (O3 m c) ?_
  blk_point [idx t, row, col]

theorem final4 : (dats m 0 c).arrAt 4 cfg0.N = O4 m c := by
  refine (dats m 0 c).arrAt_eq_of_covers 4 _ (by decide +kernel) fun t hf y => ?_
  blk_simp
  rw [after0_4, out4 m c t ((flush0_4 t).mp hf), acc m c t ((flush0_4 t).mp hf)]
  refine congrArg (O4 m c) ?_
  blk_point [idx t, row, col]

end Cert.Ffn1GuIdeal.Read

end
-- ==== Proof.GuRef.lean ====
/- The reference of the SwiGLU gradient, read at an index. -/
module

public import proofs.«01_k».proof.Proof.Gen.Ffn1GuRefIdeal.Run
public import proofs.«01_k».proof.Proof.Spec

@[expose] public section

set_option maxRecDepth 16384

noncomputable section

namespace Cert.Ffn1GuRefIdeal.Read

open Cert.Ffn1GuRefIdeal Cert.Ffn1GuRefIdeal.Gen Cert.Ffn1GuRefIdeal.Value Cert.Reals Cert.Spec
open Idealize.ShloMosaic Idealize.ShloMosaic.TcCoe Idealize.SL.Sem
open scoped BigOperators

/-- The normed input of the projection. -/
def HN (x0 : FVec Ideal S1x2048x2048 .f32) (x1 : FVec Ideal S1x2048 .f32) : FVec Ideal S1x2048x2048 .f32 :=
  mulf (mulf x0 (broadcastInDim S1x2048x2048 ![0, 1, 2] bcast_S1x2048x1_S1x2048x2048_0_1_2 (Host.rsqrt (addf (Host.divf (broadcastInDim S1x2048x1 ![0, 1] bcast_S1x2048_S1x2048x1_0_1 (Host.reduceAdd (mulf x0 x0) (constant S_ .f32 0x00000000#32) reducesTo_S1x2048x2048_S1x2048_d2 h_S_)) (broadcastInDim S1x2048x1 ![] bcast_S_S1x2048x1 (constant S_ .f32 0x45000000#32))) (broadcastInDim S1x2048x1 ![] bcast_S_S1x2048x1 (constant S_ .f32 0x358637BD#32)))))) (broadcastInDim S1x2048x2048 ![0, 1, 2] bcast_S1x1x2048_S1x2048x2048_0_1_2 (broadcastInDim S1x1x2048 ![2] bcast_S2048_S1x1x2048_2 (shapeCast _ x1 shapeCasts_S1x2048_S2048)))

/-- The gate and up halves side by side. -/
def GU (x0 : FVec Ideal S1x2048x2048 .f32) (x1 : FVec Ideal S1x2048 .f32) (x2 : FVec Ideal S1x2048x11264 .f32) : FVec Ideal S1x2048x11264 .f32 :=
  Host.dotGeneral dot_S1x2048x2048_S2048x11264_S1x2048x11264_2_0_01_1_n_n none (HN x0 x1) (shapeCast _ x2 shapeCasts_S1x2048x11264_S2048x11264)

/-- Half of the cotangent. -/
def HCT (x4 : FVec Ideal S1x2048x2048 .f32) : FVec Ideal S1x2048x2048 .f32 :=
  mulf (broadcastInDim S1x2048x2048 ![] bcast_S_S1x2048x2048 (constant S_ .f32 0x3F000000#32)) x4

/-- The cotangent of the activation. -/
def DA (x3 : FVec Ideal S1x5632x2048 .f32) (x4 : FVec Ideal S1x2048x2048 .f32) : FVec Ideal S1x2048x5632 .f32 :=
  Host.dotGeneral dot_S1x2048x2048_S5632x2048_S1x2048x5632_2_1_01_0_n_n none (HCT x4) (shapeCast _ x3 shapeCasts_S1x5632x2048_S5632x2048)

/-- The gate half. -/
def GATE (gu : FVec Ideal S1x2048x11264 .f32) : FVec Ideal S1x2048x5632 .f32 :=
  extractStridedSlice S1x2048x5632 ![0, 0, 0] gu slices_S1x2048x11264_S1x2048x5632_0_0_0

/-- The up half. -/
def UP (gu : FVec Ideal S1x2048x11264 .f32) : FVec Ideal S1x2048x5632 .f32 :=
  extractStridedSlice S1x2048x5632 ![0, 0, 5632] gu slices_S1x2048x11264_S1x2048x5632_0_0_5632

/-- The logistic function of the gate. -/
def SG (gu : FVec Ideal S1x2048x11264 .f32) : FVec Ideal S1x2048x5632 .f32 :=
  Host.divf (broadcastInDim S1x2048x5632 ![] bcast_S_S1x2048x5632 (constant S_ .f32 0x3F800000#32)) (addf (broadcastInDim S1x2048x5632 ![] bcast_S_S1x2048x5632 (constant S_ .f32 0x3F800000#32)) (Host.exp (Host.negf (GATE gu))))

/-- The cotangent of the gate. -/
def DG (gu : FVec Ideal S1x2048x11264 .f32) (da : FVec Ideal S1x2048x5632 .f32) : FVec Ideal S1x2048x5632 .f32 :=
  addf (mulf (mulf da (UP gu)) (SG gu)) (mulf (mulf (GATE gu) (mulf da (UP gu))) (mulf (SG gu) (subf (broadcastInDim S1x2048x5632 ![] bcast_S_S1x2048x5632 (constant S_ .f32 0x3F800000#32)) (SG gu))))

/-- The cotangent of the up half. -/
def DU (gu : FVec Ideal S1x2048x11264 .f32) (da : FVec Ideal S1x2048x5632 .f32) : FVec Ideal S1x2048x5632 .f32 :=
  mulf (mulf (GATE gu) (SG gu)) da

/-- Both cotangents side by side, as the sum of two padded arrays. -/
def DGU (dg du : FVec Ideal S1x2048x5632 .f32) : FVec Ideal S1x2048x11264 .f32 :=
  addf (pad S1x2048x11264 ![0, 0, 5632] ![0, 0, 0] ![0, 0, 0] du (constant S_ .f32 0x00000000#32) pads_S1x2048x5632_S1x2048x11264_000_000_563200 h_S_) (pad S1x2048x11264 ![0, 0, 0] ![0, 0, 5632] ![0, 0, 0] dg (constant S_ .f32 0x00000000#32) pads_S1x2048x5632_S1x2048x11264_000_000_056320 h_S_)

/-- The two halves stacked. -/
def OUT0 (d : FVec Ideal S1x2048x11264 .f32) : FVec Ideal S2x2048x5632 .bf16 :=
  truncf .bf16 (concatenate S2x2048x5632 0 [⟨S1x2048x5632, (broadcastInDim S1x2048x5632 ![1, 2] bcast_S2048x5632_S1x2048x5632_1_2 (shapeCast _ (extractStridedSlice S1x2048x5632 ![0, 0, 0] d slices_S1x2048x11264_S1x2048x5632_0_0_0) shapeCasts_S1x2048x5632_S2048x5632))⟩, ⟨S1x2048x5632, (broadcastInDim S1x2048x5632 ![1, 2] bcast_S2048x5632_S1x2048x5632_1_2 (shapeCast _ (extractStridedSlice S1x2048x5632 ![0, 0, 5632] d slices_S1x2048x11264_S1x2048x5632_0_0_5632) shapeCasts_S1x2048x5632_S2048x5632))⟩] concatenates_S1x2048x5632_S1x2048x5632_S2x2048x5632_d0) bitsLt_bf16_f32

/-- The weight's gradient. -/
def OUT1 (gu : FVec Ideal S1x2048x11264 .f32) (x4 : FVec Ideal S1x2048x2048 .f32) : FVec Ideal S5632x2048 .bf16 :=
  truncf .bf16 (shapeCast _ (broadcastInDim S1x5632x2048 ![1, 2] bcast_S5632x2048_S1x5632x2048_1_2 (transpose S5632x2048 [1, 0] (Host.dotGeneral dot_S1x2048x2048_S1x2048x5632_S2048x5632_01_01_2_2_n_n none (HCT x4) (mulf (mulf (GATE gu) (SG gu)) (UP gu))) transposes_S2048x5632_S5632x2048_1_0)) shapeCasts_S1x5632x2048_S5632x2048) bitsLt_bf16_f32

/-- The first result as a function of the arguments. -/
def R0 (x0 : FVec Ideal S1x2048x2048 .f32) (x1 : FVec Ideal S1x2048 .f32) (x2 : FVec Ideal S1x2048x11264 .f32) (x3 : FVec Ideal S1x5632x2048 .f32) (x4 : FVec Ideal S1x2048x2048 .f32) :
    FVec Ideal S2x2048x5632 .bf16 :=
  OUT0 (DGU (DG (GU x0 x1 x2) (DA x3 x4)) (DU (GU x0 x1 x2) (DA x3 x4)))

/-- The second result as a function of the arguments. -/
def R1 (x0 : FVec Ideal S1x2048x2048 .f32) (x1 : FVec Ideal S1x2048 .f32) (x2 : FVec Ideal S1x2048x11264 .f32) (x4 : FVec Ideal S1x2048x2048 .f32) :
    FVec Ideal S5632x2048 .bf16 := OUT1 (GU x0 x1 x2) x4

variable (m : (ℓ : Loc nD τ sig) → Buf (Elt Ideal) ℓ) (ρ : Dev nD → PrngReg) (c : Dev nD)

theorem out0_eq : res_main_v43 (F := Ideal) m c = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v43
  rfl

/-- The reference's run with its results as functions of its arguments. -/
theorem run' : θ_run defs (onTc (τ := τ) (main (F := Ideal))) ⟨m, fun _ => 0, ρ⟩ fun r => ∀ c : Dev nD,
      r.2.mem ((c.tc : Thread nD τ).loc main_v43) = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v45) = R1 (m ((c.tc : Thread nD τ).loc main_arg0))
        (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (out0_eq m c), (h c).2.1.trans rfl, (h c).2.2⟩) (run m ρ)

theorem HN_at (x0 : FVec Ideal S1x2048x2048 .f32) (x1 : FVec Ideal S1x2048 .f32) (s d : Fin 2048) :
    HN x0 x1 (ix3 0 s d) = x0 (ix3 0 s d) * rinv (fun e => x0 (ix3 0 s e)) * x1 (ix2 0 d) := by
  pointwise [HN]
  rfl

theorem GU_at (x0 : FVec Ideal S1x2048x2048 .f32) (x1 : FVec Ideal S1x2048 .f32) (x2 : FVec Ideal S1x2048x11264 .f32) (s : Fin 2048) (n : Fin 11264) :
    GU x0 x1 x2 (ix3 0 s n) = proj (fun s d => x0 (ix3 0 s d)) (fun d => x1 (ix2 0 d)) (fun d n => x2 (ix3 0 d n)) s n := by
  pointwise [GU]
  exact Finset.sum_congr rfl fun d _ => congrArg (· * x2 (ix3 0 d n)) (HN_at x0 x1 s d)

theorem DA_at (x3 : FVec Ideal S1x5632x2048 .f32) (x4 : FVec Ideal S1x2048x2048 .f32) (s : Fin 2048) (n : Fin 5632) :
    DA x3 x4 (ix3 0 s n) = ∑ k : Fin 2048, Ideal.ofBits .f32 0x3F000000#32 * x4 (ix3 0 s k) * x3 (ix3 0 n k) := by
  pointwise [DA, HCT]

theorem DG_at (gu : FVec Ideal S1x2048x11264 .f32) (da : FVec Ideal S1x2048x5632 .f32) (s : Fin 2048) (n : Fin 5632) :
    DG gu da (ix3 0 s n) = gateR (da (ix3 0 s n)) (gu (ix3 0 s ⟨n.val, by omega⟩)) (gu (ix3 0 s ⟨5632 + n.val, by omega⟩)) := by
  pointwise [DG, GATE, UP, SG]
  rfl

theorem DU_at (gu : FVec Ideal S1x2048x11264 .f32) (da : FVec Ideal S1x2048x5632 .f32) (s : Fin 2048) (n : Fin 5632) :
    DU gu da (ix3 0 s n) = gu (ix3 0 s ⟨n.val, by omega⟩) * sgR (gu (ix3 0 s ⟨n.val, by omega⟩)) * da (ix3 0 s n) := by
  pointwise [DU, GATE, SG]
  rfl

theorem DGU_lo (dg du : FVec Ideal S1x2048x5632 .f32) (s : Fin 2048) (n : Fin 5632) :
    DGU dg du (ix3 0 s ⟨n.val, by omega⟩) = dg (ix3 0 s n) := by
  pointwise [DGU]

  rw [dif_neg (fun h => h.1), zero_add]

theorem DGU_hi (dg du : FVec Ideal S1x2048x5632 .f32) (s : Fin 2048) (n : Fin 5632) :
    DGU dg du (ix3 0 s ⟨5632 + n.val, by omega⟩) = du (ix3 0 s n) := by
  pointwise [DGU]

/-- The stacked cotangents: gate first, up second. -/
theorem OUT0_at (dg du : FVec Ideal S1x2048x5632 .f32) (a : Fin 2) (s : Fin 2048) (n : Fin 5632) :
    OUT0 (DGU dg du) (ix3 a s n) = if a.val < 1 then dg (ix3 0 s n) else du (ix3 0 s n) := by
  pointwise [OUT0]
  rw [← DGU_lo dg du s n, ← DGU_hi dg du s n]
  rfl

theorem OUT1_at (gu : FVec Ideal S1x2048x11264 .f32) (x4 : FVec Ideal S1x2048x2048 .f32) (n : Fin 5632) (k : Fin 2048) :
    OUT1 gu x4 (ix2 n k) = ∑ s : Fin 2048, Ideal.ofBits .f32 0x3F000000#32 * x4 (ix3 0 s k) *
      (gu (ix3 0 s ⟨n.val, by omega⟩) * sgR (gu (ix3 0 s ⟨n.val, by omega⟩)) * gu (ix3 0 s ⟨5632 + n.val, by omega⟩)) := by
  pointwise [OUT1, HCT, GATE, UP, SG]
  rw [Fin.sum_univ_one]
  rfl

end Cert.Ffn1GuRefIdeal.Read

end
-- ==== Proof.Gu.lean ====
/- The SwiGLU gradient: the kernel's results are the reference's on finite arguments. -/
module

public import proofs.«01_k».proof.Defs
public import proofs.«01_k».proof.Proof.Gen.Pre_finite_gu
public import proofs.«01_k».proof.Proof.GuKernel
public import proofs.«01_k».proof.Proof.GuRef

@[expose] public section

set_option maxRecDepth 16384

noncomputable section

namespace Cert.Gu

open Idealize.ShloMosaic Idealize.ShloMosaic.TcCoe Idealize.SL.Sem Cert.Reals Cert.Spec
open scoped BigOperators

section Values

open Cert.Ffn1GuIdeal Cert.Ffn1GuIdeal.Read
open Cert.Ffn1GuRefIdeal.Read

variable (m : (ℓ : Loc nD τ sig) → Buf (Elt Ideal) ℓ) (c : Dev nD)

/-- An argument's array. -/
abbrev X0 : FVec Ideal S1x2048x2048 .f32 := m (c, Proc.tc.devRef main_arg0)
abbrev X1 : FVec Ideal S1x2048 .f32 := m (c, Proc.tc.devRef main_arg1)
abbrev X2 : FVec Ideal S1x2048x11264 .f32 := m (c, Proc.tc.devRef main_arg2)
abbrev X3 : FVec Ideal S1x5632x2048 .f32 := m (c, Proc.tc.devRef main_arg3)
abbrev X4 : FVec Ideal S1x2048x2048 .f32 := m (c, Proc.tc.devRef main_arg4)

/-- Every element of every argument is a real number. -/
structure Fin' : Prop where
  h0 : ∀ i, IsReal (X0 m c i)
  h1 : ∀ i, IsReal (X1 m c i)
  h2 : ∀ i, IsReal (X2 m c i)
  h3 : ∀ i, IsReal (X3 m c i)
  h4 : ∀ i, IsReal (X4 m c i)

variable {m c}

theorem isReal_gu (h : Fin' m c) (a : Fin 2) (s : Fin 2048) (n : Fin 5632) : IsReal (GUv m c a s n) :=
  isReal_proj (fun s d => h.h0 (ix3 0 s d)) (fun d => h.h1 (ix2 0 d)) (fun d j => h.h2 (ix3 0 d j)) s _

theorem isReal_ct (h : Fin' m c) (s k : Fin 2048) : IsReal (CT m c s k) := by
  exact IsReal.mul ⟨_, ofBits_half⟩ (h.h4 _)

theorem isReal_d (h : Fin' m c) (s : Fin 2048) (n : Fin 5632) : IsReal (D m c s n) :=
  IsReal.sum _ fun k => (isReal_ct h s k).mul (h.h3 (ix3 0 n k))

theorem gate_half (s : Fin 2048) (n : Fin 5632) : GU (X0 m c) (X1 m c) (X2 m c) (ix3 0 s ⟨n.val, by omega⟩) = GUv m c 0 s n :=
  GU_at ..

theorem up_half (s : Fin 2048) (n : Fin 5632) : GU (X0 m c) (X1 m c) (X2 m c) (ix3 0 s ⟨5632 + n.val, by omega⟩) = GUv m c 1 s n :=
  GU_at ..

theorem da (s : Fin 2048) (n : Fin 5632) : DA (X3 m c) (X4 m c) (ix3 0 s n) = D m c s n := DA_at ..

/-- The first result: the cotangents of the two halves of the projection. -/
theorem out0 (h : Fin' m c) : O3 m c = R0 (X0 m c) (X1 m c) (X2 m c) (X3 m c) (X4 m c) := by
  funext y
  idx_vars y
  rw [R0, OUT0_at, DG_at, DU_at, gate_half, up_half, da]
  have hg := isReal_gu h 0 y1 y2
  by_cases ha : y0.val = 1
  · rw [if_neg (by omega)]
    refine (if_pos ha).trans ?_
    show D m c y1 y2 * (GUv m c 0 y1 y2 * sgK (GUv m c 0 y1 y2)) = (_ : EReal)
    rw [sgK_eq hg, mul_comm]
  · rw [if_pos (by omega)]
    exact (if_neg ha).trans (gate_eq (isReal_d h y1 y2) hg (isReal_gu h 1 y1 y2))

/-- The second result: the gradient of the output projection. -/
theorem out1 (h : Fin' m c) : O4 m c = R1 (X0 m c) (X1 m c) (X2 m c) (X4 m c) := by
  funext y
  idx_vars y
  rw [R1, OUT1_at]
  refine Finset.sum_congr rfl fun s _ => ?_
  rw [gate_half, up_half, mul_comm]
  have hg := isReal_gu h 0 s y0
  exact congrArg (fun z : EReal => CT m c s y1 * (GUv m c 0 s y0 * z * GUv m c 1 s y0)) (sgK_eq hg)

end Values

theorem fin_of (m : (ℓ : Loc Cert.Ffn1GuIdeal.nD Cert.Ffn1GuIdeal.τ Cert.Ffn1GuIdeal.sig) → Buf (Elt Ideal) ℓ)
    (h : Cert.Pre_Ffn1GuIdeal_finite_gu m) (c : Dev Cert.Ffn1GuIdeal.nD) : Fin' m c := by
  obtain ⟨h0, h1, h2, h3, h4⟩ := h c
  exact ⟨real_of _ _ h0, real_of _ _ h1, real_of _ _ h2, real_of _ _ h3, real_of _ _ h4⟩

/-- The kernel computes the reference on finite arguments. -/
theorem algebraic : Cert.algebraic_Ffn1GuIdeal_Ffn1GuRefIdeal_pre_finite_gu := by
  pair_intro
  · run_from Cert.Ffn1GuIdeal.Value.run_blocks m g
  · run_from Cert.Ffn1GuRefIdeal.Read.run' m' g'
    · exact ((Cert.Ffn1GuIdeal.Read.final3 m c).trans (out0 (fin_of m hpre c))).symm
    · exact ((Cert.Ffn1GuIdeal.Read.final4 m c).trans (out1 (fin_of m hpre c))).symm

end Cert.Gu

end
-- ==== Proof.MixKernel.lean ====
/- The kernel of the mixer's norm and input-projection gradient, read at an index. -/
module

public import proofs.«01_k».proof.Proof.Gen.MixBwdIdeal.Value
public import Idealize.ShloMosaic.Lib.Pipeline.ValueKit
public import Idealize.ShloMosaic.Lib.Pipeline.ReadBack
public import Idealize.ShloMosaic.Lib.VecWindow
public import Idealize.ShloMosaic.Lib.StableHlo.ReadAt
public import Idealize.ShloMosaic.Lib.Claim
public import proofs.«01_k».proof.Proof.Trips

@[expose] public section

set_option maxRecDepth 16384

noncomputable section

namespace Cert.MixBwdIdeal.Read

open Cert.MixBwdIdeal Cert.MixBwdIdeal.Gen Cert.MixBwdIdeal.Value Cert.Reals Cert.Spec
open Idealize.ShloMosaic Idealize.ShloMosaic.TcCoe Idealize.SL.Sem
open Cert.Trips (row64 ld64 emb64 mem64 ix64 sh sh_eq sum_sh DH dgr)
open Idealize.ShloMosaic.Pipeline (Dat)
open Memref.IsWhole (read_unread)
open scoped BigOperators

/-! ## The stored values -/

theorem p6 (x : FVec Ideal S64x2048 .f32) (i : Fin 64) : k0_pay6 (F := Ideal) x (ix2 i 0) = rinv fun d => x (ix2 i d) := by
  pointwise [k0_pay6, k0_pay5]
  rfl

theorem p7 (x : FVec Ideal S64x2048 .f32) (i : Fin 64) (d : Fin 2048) :
    k0_pay7 (F := Ideal) x (ix2 i d) = x (ix2 i d) * rinv fun d => x (ix2 i d) := by
  pointwise [k0_pay7, k0_pay6, k0_pay5]
  rfl

theorem p9 (a x : FVec Ideal S64x2048 .f32) (g : FVec Ideal S1x2048 .f32) (r : FVec Ideal S64x2048 .f32) (i : Fin 64) (d : Fin 2048) :
    k0_pay9 (F := Ideal) a x g r (ix2 i d) =
      r (ix2 i d) + normK (fun d => a (ix2 i d)) (fun d => x (ix2 i d)) (fun d => g (ix2 0 d)) d := by
  pointwise [k0_pay9, k0_pay7, k0_pay6, k0_pay5]
  rfl

theorem p10 (a x : FVec Ideal S64x2048 .f32) (g : FVec Ideal S1x2048 .f32) (r : FVec Ideal S64x2048 .f32) (i : Fin 64) (d : Fin 2048) :
    k0_pay10 (F := Ideal) a x g r (ix2 i d) = Ideal.ofBits .f32 0x3F000000#32 * k0_pay9 (F := Ideal) a x g r (ix2 i d) := by
  pointwise [k0_pay10]

theorem p3 (v : FVec Ideal S1x2048 .f32) (a x : FVec Ideal S64x2048 .f32) (d : Fin 2048) :
    k0_pay3 (F := Ideal) v (k0_pay8 a x) (ix2 0 d) =
      v (ix2 0 d) + ∑ i : Fin 64, a (ix2 i d) * (x (ix2 i d) * rinv fun d => x (ix2 i d)) := by
  pointwise [k0_pay3, k0_pay8, k0_pay7, k0_pay6, k0_pay5]
  rfl

theorem p1 (v0 : FVec Ideal S256x4096 .bf16) (v2 : FVec Ideal S4096x2048 .bf16) (v5 : FVec Ideal S256x128 .bf16) (v7 : FVec Ideal S128x2048 .bf16)
    (i : Fin 256) (d : Fin 2048) : k0_pay1 (F := Ideal) v0 v2 v5 v7 (ix2 i d) =
      (∑ k : Fin 4096, v0 (ix2 i k) * v2 (ix2 k d)) + ∑ k : Fin 128, v5 (ix2 i k) * v7 (ix2 k d) := by
  pointwise [k0_pay1]

theorem p4 (a b : FVec Ideal S1x2048 .f32) (d : Fin 2048) : k0_pay4 (F := Ideal) a b (ix2 0 d) = b (ix2 0 d) + a (ix2 0 d) := by
  pointwise [k0_pay4]

theorem p2 (d : Fin 2048) : k0_pay2 (F := Ideal) (ix2 0 d) = 0 := by
  pointwise [k0_pay2]

/-! ## The loop over the rows of a block -/

theorem off : ∀ k : Fin k0_t1_loop.trips, k0_off1 k = ![64 * k.val, 0] :=
  (by decide +kernel : ∀ k : Fin k0_t1_loop.trips, _)

theorem trips : k0_t1_loop.trips = 4 := by decide +kernel

section Loop

variable (𝒱 : Variants) (c : Dev nD) (bd : Option 𝒱.V) (i : grid0.Coords)
  (arg1 : Memref sig .tc .vmem S256x4224 .bf16) (harg1 : arg1.IsWhole) (arg2 : Memref sig .tc .vmem S4112x2048 .bf16) (harg2 : arg2.IsWhole)
  (arg3 : Memref sig .tc .vmem S128x2048 .bf16) (harg3 : arg3.IsWhole) (arg4 : Memref sig .tc .vmem S256x2048 .f32) (harg4 : arg4.IsWhole)
  (arg5 : Memref sig .tc .vmem S1x2048 .f32) (harg5 : arg5.IsWhole) (arg6 : Memref sig .tc .vmem S256x2048 .f32) (harg6 : arg6.IsWhole)
  (arg7 : Memref sig .tc .vmem S256x2048 .f32) (harg7 : arg7.IsWhole) (arg8 : Memref sig .tc .vmem S1x2048 .f32) (harg8 : arg8.IsWhole)
  (arg9 : Memref sig .tc .vmem S256x2048 .bf16) (harg9 : arg9.IsWhole) (arg10 : Memref sig .tc .vmem S256x2048 .f32) (harg10 : arg10.IsWhole)
  (X4 : BufTy.Contents (Elt Ideal) arg4.view.ty) (X5 : BufTy.Contents (Elt Ideal) arg5.view.ty) (X6 : BufTy.Contents (Elt Ideal) arg6.view.ty)
  (X10 : BufTy.Contents (Elt Ideal) arg10.view.ty) (init : FVec Ideal S1x2048 .f32)
  (H R A : FVec Ideal S256x2048 .f32) (G : FVec Ideal S1x2048 .f32)

theorem dh_of (a x r : FVec Ideal S64x2048 .f32) (g : FVec Ideal S1x2048 .f32) (i : Fin 64) (d : Fin 2048) (s : Fin 256)
    (ha : ∀ d, a (ix2 i d) = A (ix2 s d)) (hx : ∀ d, x (ix2 i d) = H (ix2 s d)) (hr : r (ix2 i d) = R (ix2 s d)) (hg : g = G) :
    k0_pay9 (F := Ideal) a x g r (ix2 i d) = DH H R A G (ix2 s d) := by
  refine (p9 a x g r i d).trans ?_
  rw [hr, funext ha, funext hx, hg]
  rfl

theorem dgr_of (v : FVec Ideal S1x2048 .f32) (a x : FVec Ideal S64x2048 .f32) (d : Fin 2048) (k : ℕ) (hk : 64 * k + 64 ≤ 256)
    (ha : ∀ i d, a (ix2 i d) = A (ix2 (row64 k hk i) d)) (hx : ∀ i d, x (ix2 i d) = H (ix2 (row64 k hk i) d)) :
    k0_pay3 (F := Ideal) v (k0_pay8 a x) (ix2 0 d) = v (ix2 0 d) + ∑ i : Fin 64, dgr H A (row64 k hk i) d := by
  refine (p3 v a x d).trans (congrArg (v (ix2 0 d) + ·) (Finset.sum_congr rfl fun i _ => ?_))
  rw [ha, hx, funext (hx i)]
  rfl

/-- The state of the loop before a trip: both results' pieces hold the gradient, and the carried sum is of the rows so far. -/
theorem state (h4 : arg4.view.read (Elt Ideal) X4 = H) (h5 : arg5.view.read (Elt Ideal) X5 = G) (h6 : arg6.view.read (Elt Ideal) X6 = R)
    (h10 : arg10.view.read (Elt Ideal) X10 = A) : ∀ n : ℕ, n ≤ k0_t1_loop.trips →
    let s := st_k0_t1 (F := Ideal) 𝒱 c bd i arg1 harg1 arg2 harg2 arg3 harg3 arg4 harg4 arg5 harg5 arg6 harg6 arg7 harg7 arg8 harg8 arg9 harg9 arg10 harg10 X4 X5 X6 X10 init n
    View.PiecesOf (Val := Elt Ideal) (DH H R A G) s.2.1 ∧ View.PiecesOf (Val := Elt Ideal) (fun y => (Ideal.ofBits .f32 0x3F000000#32 * DH H R A G y : EReal)) s.2.2
      ∧ (∀ d : Fin 2048, s.1 (ix2 0 d) = init (ix2 0 d) + ∑ k ∈ Finset.range n, sh (dgr H A · d) k)
      ∧ (∀ y : S256x2048.Idx, (y 0).val < 64 * n → ∃ p ∈ s.2.1, y ∈ p.1.set) ∧ (∀ y : S256x2048.Idx, (y 0).val < 64 * n → ∃ p ∈ s.2.2, y ∈ p.1.set) := by
  intro n
  induction n with
  | zero => exact fun _ => ⟨trivial, trivial, fun d => (add_zero _).symm, fun y h => absurd h (by omega), fun y h => absurd h (by omega)⟩
  | succ n ih =>
    intro hn
    have hk : 64 * n + 64 ≤ 256 := by have := trips; omega
    have ho := off ⟨n, hn⟩
    obtain ⟨q1, q2, q3, q4, q5⟩ := ih (by omega)
    dsimp only
    rw [st_k0_t1_succ (F := Ideal) 𝒱 c bd i arg1 harg1 arg2 harg2 arg3 harg3 arg4 harg4 arg5 harg5 arg6 harg6 arg7 harg7 arg8 harg8 arg9 harg9 arg10 harg10 X4 X5 X6 X10 init ⟨n, hn⟩]
    unfold tripL_k0_t1 tripR_k0_t1 trip_k0_t1
    dsimp only
    subst h4 h5 h6 h10
    refine ⟨⟨fun x => ?_, q1⟩, ⟨fun x => ?_, q2⟩, fun d => ?_, fun y h => ?_, fun y h => ?_⟩
    · refine Eq.trans ?_ (congrArg (DH _ _ _ _) (emb64 _ n hk ho (k0_off1_inb ⟨n, hn⟩) x)).symm
      rw [ix64 x]
      exact dh_of _ _ _ _ _ _ _ _ _ _ _ (fun d => ld64 _ n hk ho _ _ _ _) (fun d => ld64 _ n hk ho _ _ _ _) (ld64 _ n hk ho _ _ _ _) (View.readAt_full _ _ _)
    · refine Eq.trans ?_ (congrArg (fun y => (Ideal.ofBits .f32 0x3F000000#32 * DH _ _ _ _ y : EReal)) (emb64 _ n hk ho (k0_off1_inb ⟨n, hn⟩) x)).symm
      rw [ix64 x]
      exact (p10 _ _ _ _ _ _).trans (congrArg (Ideal.ofBits .f32 0x3F000000#32 * ·)
        (dh_of _ _ _ _ _ _ _ _ _ _ _ (fun d => ld64 _ n hk ho _ _ _ _) (fun d => ld64 _ n hk ho _ _ _ _) (ld64 _ n hk ho _ _ _ _) (View.readAt_full _ _ _)))
    · rw [Finset.sum_range_succ, ← add_assoc, ← q3 d]
      refine (dgr_of _ _ _ _ _ _ n hk (fun i d => ld64 _ n hk ho _ _ _ _) (fun i d => ld64 _ n hk ho _ _ _ _)).trans (congrArg (_ + ·) ?_)
      exact (sh_eq (dgr _ _ · d) n hk).symm
    · by_cases hy : (y 0).val < 64 * n
      · obtain ⟨p, hp, hm⟩ := q4 y hy
        exact ⟨p, List.mem_cons_of_mem _ hp, hm⟩
      · exact ⟨_, List.mem_cons_self, mem64 _ n ho (k0_off1_inb ⟨n, hn⟩) y (by omega) (by omega)⟩
    · by_cases hy : (y 0).val < 64 * n
      · obtain ⟨p, hp, hm⟩ := q5 y hy
        exact ⟨p, List.mem_cons_of_mem _ hp, hm⟩
      · exact ⟨_, List.mem_cons_self, mem64 _ n ho (k0_off1_inb ⟨n, hn⟩) y (by omega) (by omega)⟩

/-- The results' blocks and the carried row after the loop. -/
theorem loop (h4 : arg4.view.read (Elt Ideal) X4 = H) (h5 : arg5.view.read (Elt Ideal) X5 = G) (h6 : arg6.view.read (Elt Ideal) X6 = R)
    (h10 : arg10.view.read (Elt Ideal) X10 = A) :
    let s := st_k0_t1 (F := Ideal) 𝒱 c bd i arg1 harg1 arg2 harg2 arg3 harg3 arg4 harg4 arg5 harg5 arg6 harg6 arg7 harg7 arg8 harg8 arg9 harg9 arg10 harg10 X4 X5 X6 X10 init k0_t1_loop.trips
    (∀ y, View.canon (Val := Elt Ideal) s.2.1 y = DH H R A G y)
      ∧ (∀ y, View.canon (Val := Elt Ideal) s.2.2 y = (Ideal.ofBits .f32 0x3F000000#32 * DH H R A G y : EReal))
      ∧ ∀ d : Fin 2048, s.1 (ix2 0 d) = (init (ix2 0 d) + ∑ s : Fin 256, dgr H A s d : EReal) := by
  obtain ⟨q1, q2, q3, q4, q5⟩ := state 𝒱 c bd i arg1 harg1 arg2 harg2 arg3 harg3 arg4 harg4 arg5 harg5 arg6 harg6 arg7 harg7 arg8 harg8 arg9 harg9 arg10 harg10 X4 X5 X6 X10 init H R A G h4 h5 h6 h10 _ le_rfl
  refine ⟨fun y => ?_, fun y => ?_, fun d => by rw [q3 d, sum_sh _ _ (congrArg (· * 64) trips)]⟩
  · have := View.canon_append_of_piecesOf (Val := Elt Ideal) _ [] _ q1 y (q4 y (by rw [trips]; exact (y 0).isLt))
    rwa [List.append_nil] at this
  · have := View.canon_append_of_piecesOf (Val := Elt Ideal) _ [] _ q2 y (q5 y (by rw [trips]; exact (y 0).isLt))
    rwa [List.append_nil] at this

end Loop

variable (m : (ℓ : Loc nD τ sig) → Buf (Elt Ideal) ℓ) (c : Dev nD)

/-! ## What the region finds in its operands -/

theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![t.val, 0] ∧ win0_6.index t = ![t.val, 0] ∧ win0_7.index t = ![0, 0] ∧ win0_8.index t = ![t.val, 0] :=
  (by decide +kernel : ∀ t : Fin grid0.N, _)

/-- The row of the arrays that grid point `t` holds at row `s` of its block. -/
def row (t : Fin cfg0.N) (s : Fin 256) : Fin 2048 := ⟨256 * t.val + s.val, by have := t.isLt; have : cfg0.N = 8 := N_0; omega⟩

/-- The layer's input. -/
def HH (s d : Fin 2048) : EReal := m (c, Proc.tc.devRef main_arg0) (ix3 0 s d)

/-- The norm's scale. -/
def GG (d : Fin 2048) : EReal := m (c, Proc.tc.devRef main_arg1) (ix2 0 d)

/-- The projection's weight. -/
def WW (d : Fin 2048) (k : Fin 4112) : EReal := m (c, Proc.tc.devRef main_arg2) (ix3 0 d k)

/-- The projection's cotangent. -/
def DU (s : Fin 2048) (k : Fin 4112) : EReal := m (c, Proc.tc.devRef main_arg3) (ix3 0 s k)

/-- The residual's cotangent. -/
def RS (s d : Fin 2048) : EReal := m (c, Proc.tc.devRef main_arg4) (ix3 0 s d)

/-- The normed row's cotangent. -/
def DN (s d : Fin 2048) : EReal := ∑ k : Fin 4112, DU m c s k * WW m c d k

theorem zero_word (φ : FTy) : (FloatOps.sitofp (F := Ideal) φ (0#32 : BitVec 32) : EReal) = 0 := by
  show (((0#32 : BitVec 32).toInt : ℝ) : EReal) = 0
  simp

theorem e0 (s : Fin 2048) (k : Fin 4224) : V m c main_v7 (ix2 s k) = if h : k.val < 4112 then DU m c s ⟨k.val, h⟩ else 0 := by
  unfold V
  simp only [List.flatten_cons, List.flatten_nil, List.append_nil, List.cons_append, List.nil_append, hostOps0, hostOps0_1, hostOps0_2, hostOps0_3, hostOps0_4]
  after_reads_at
  rw [zero_word]
  rfl

theorem e1 (k : Fin 4112) (d : Fin 2048) : V m c main_v2 (ix2 k d) = WW m c d k := by
  unfold V
  simp only [List.flatten_cons, List.flatten_nil, List.append_nil, List.cons_append, List.nil_append, hostOps0, hostOps0_1, hostOps0_2, hostOps0_3, hostOps0_4]
  after_reads_at
  rfl

theorem e2 (k : Fin 128) (d : Fin 2048) : V m c main_v4 (ix2 k d) = if h : k.val < 16 then WW m c d ⟨4096 + k.val, by omega⟩ else 0 := by
  unfold V
  simp only [List.flatten_cons, List.flatten_nil, List.append_nil, List.cons_append, List.nil_append, hostOps0, hostOps0_1, hostOps0_2, hostOps0_3, hostOps0_4]
  after_reads_at
  rw [zero_word]
  rfl

theorem e3 (s d : Fin 2048) : V m c main_v8 (ix2 s d) = HH m c s d := by
  unfold V
  simp only [List.flatten_cons, List.flatten_nil, List.append_nil, List.cons_append, List.nil_append, hostOps0, hostOps0_1, hostOps0_2, hostOps0_3, hostOps0_4]
  after_reads_at
  rfl

theorem e4 (d : Fin 2048) : V m c main_arg1 (ix2 0 d) = GG m c d := by
  entry_read
  rfl

theorem e5 (s d : Fin 2048) : V m c main_v9 (ix2 s d) = RS m c s d := by
  unfold V
  simp only [List.flatten_cons, List.flatten_nil, List.append_nil, List.cons_append, List.nil_append, hostOps0, hostOps0_1, hostOps0_2, hostOps0_3, hostOps0_4]
  after_reads_at
  rfl

/-! ## The blocks a grid point loads -/

theorem b0 (t : Fin cfg0.N) (s : Fin 256) (k : Fin 4224) : (show FVec Ideal S256x4224 .bf16 from iblk m c 0 t) (ix2 s k) = if h : k.val < 4112 then DU m c (row t s) ⟨k.val, h⟩ else 0 := by
  refine Eq.trans ?_ (e0 m c (row t s) k)
  blk_ext [iblk, idx t, row]

theorem b1 (t : Fin cfg0.N) (k : Fin 4112) (d : Fin 2048) : (show FVec Ideal S4112x2048 .bf16 from iblk m c 1 t) (ix2 k d) = WW m c d k := by
  refine Eq.trans ?_ (e1 m c k d)
  blk_ext [iblk, idx t]

theorem b2 (t : Fin cfg0.N) (k : Fin 128) (d : Fin 2048) : (show FVec Ideal S128x2048 .bf16 from iblk m c 2 t) (ix2 k d) = if h : k.val < 16 then WW m c d ⟨4096 + k.val, by omega⟩ else 0 := by
  refine Eq.trans ?_ (e2 m c k d)
  blk_ext [iblk, idx t]

theorem b3 (t : Fin cfg0.N) (s : Fin 256) (d : Fin 2048) : (show FVec Ideal S256x2048 .f32 from iblk m c 3 t) (ix2 s d) = HH m c (row t s) d := by
  refine Eq.trans ?_ (e3 m c (row t s) d)
  blk_ext [iblk, idx t, row]

theorem b4 (t : Fin cfg0.N) (d : Fin 2048) : (show FVec Ideal S1x2048 .f32 from iblk m c 4 t) (ix2 0 d) = GG m c d := by
  refine Eq.trans ?_ (e4 m c d)
  blk_ext [iblk, idx t]

theorem b5 (t : Fin cfg0.N) (s : Fin 256) (d : Fin 2048) : (show FVec Ideal S256x2048 .f32 from iblk m c 5 t) (ix2 s d) = RS m c (row t s) d := by
  refine Eq.trans ?_ (e5 m c (row t s) d)
  blk_ext [iblk, idx t, row]

/-- The sum over the padded columns is the sum over the columns. -/
theorem sum_pad (f : Fin 4112 → EReal) :
    (∑ k : Fin 4096, f ⟨k.val, by omega⟩) + (∑ k : Fin 128, if h : k.val < 16 then f ⟨4096 + k.val, by omega⟩ else 0) = ∑ k : Fin 4112, f k := by
  have e : (∑ k : Fin 128, if h : k.val < 16 then f ⟨4096 + k.val, by omega⟩ else 0) = ∑ k : Fin 16, f ⟨4096 + k.val, by omega⟩ := by
    refine (Fin.sum_univ_add (a := 16) (b := 112) _).trans ?_
    rw [Finset.sum_eq_zero (s := (Finset.univ : Finset (Fin 112))) fun k _ => dif_neg (by simp), add_zero]
    exact Finset.sum_congr rfl fun k _ => dif_pos k.isLt
  rw [e]
  exact (Fin.sum_univ_add (a := 4096) (b := 16) f).symm

/-! ## The stored blocks -/

/-- The normed rows' cotangent, as the body computes it before its loop. -/
theorem pre (t : Fin cfg0.N) (X0 : FVec Ideal S256x4224 .bf16) (X1 : FVec Ideal S4112x2048 .bf16) (X2 : FVec Ideal S128x2048 .bf16)
    (h0 : ∀ s k, X0 (ix2 s k) = if h : k.val < 4112 then DU m c (row t s) ⟨k.val, h⟩ else 0) (h1 : ∀ k d, X1 (ix2 k d) = WW m c d k)
    (h2 : ∀ k d, X2 (ix2 k d) = if h : k.val < 16 then WW m c d ⟨4096 + k.val, by omega⟩ else 0) (h h' h'') (s : Fin 256) (d : Fin 2048) :
    k0_pay1 (F := Ideal) (View.ld (Val := Elt Ideal) (e' := .bf16) X0 (Rect.unit ![0, 0] ![256, 4096] h))
      (View.ld (Val := Elt Ideal) (e' := .bf16) X1 (Rect.unit ![0, 0] ![4096, 2048] h'))
      (View.ld (Val := Elt Ideal) (e' := .bf16) X0 (Rect.unit ![0, 4096] ![256, 128] h'')) X2 (ix2 s d) = DN m c (row t s) d := by
  refine (p1 _ _ _ _ s d).trans (Eq.trans ?_ (sum_pad fun k => DU m c (row t s) k * WW m c d k))
  refine congrArg₂ (fun a b : EReal => a + b) (Finset.sum_congr rfl fun k _ => ?_) (Finset.sum_congr rfl fun k _ => ?_)
  · refine congrArg₂ (fun a b : EReal => a * b) ?_ ?_
    · refine (View.ld_unit_apply_of (Val := Elt Ideal) (e := .bf16) X0 _ _ _ _ (ix2 s (⟨k.val, by omega⟩ : Fin 4224)) fun a => ?_).trans ?_
      · match a with
        | 0 => exact (Nat.zero_add _).symm
        | 1 => exact (Nat.zero_add _).symm
      · exact (h0 _ _).trans (dif_pos _)
    · refine (View.ld_unit_apply_of (Val := Elt Ideal) (e := .bf16) X1 _ _ _ _ (ix2 (⟨k.val, by omega⟩ : Fin 4112) d) fun a => ?_).trans (h1 _ _)
      match a with
      | 0 => exact (Nat.zero_add _).symm
      | 1 => exact (Nat.zero_add _).symm
  · have e := (View.ld_unit_apply_of (Val := Elt Ideal) (e := .bf16) X0 ![0, 4096] ![256, 128] h'' (ix2 s k) (ix2 s (⟨4096 + k.val, by omega⟩ : Fin 4224)) fun a => by
      match a with
      | 0 => exact (Nat.zero_add _).symm
      | 1 => rfl).trans (h0 _ _)
    refine (congrArg₂ (fun a b : EReal => a * b) e (h2 k d)).trans ?_
    by_cases hk : k.val < 16
    · rw [dif_pos hk, dif_pos (show 4096 + k.val < 4112 by omega), dif_pos hk]
    · rw [dif_neg hk, dif_neg hk, mul_zero]

/-- What the first result holds. -/
def O6 (y : S2048x2048.Idx) : EReal := RS m c (y 0) (y 1) + normK (DN m c (y 0)) (HH m c (y 0)) (GG m c) (y 1)

/-- What the second result holds. -/
def O7 (y : S1x2048.Idx) : EReal := ∑ s : Fin 2048, DN m c s (y 1) * (HH m c s (y 1) * rinv (HH m c s))

/-- What the third result holds. -/
def O8 (y : S2048x2048.Idx) : EReal := Ideal.ofBits .f32 0x3F000000#32 * O6 m c y

/-- A grid point's part of the scale's gradient. -/
def part (t : Fin cfg0.N) (y : S1x2048.Idx) : EReal := ∑ s : Fin 256, DN m c (row t s) (y 1) * (HH m c (row t s) (y 1) * rinv (HH m c (row t s)))

theorem N8 (t : Fin cfg0.N) : t.val < 8 := by have := t.isLt; have : cfg0.N = 8 := N_0; omega

/-- A block's gradient is the array's at the block's rows. -/
theorem dh_block (t : Fin cfg0.N) (H R A : FVec Ideal S256x2048 .f32) (G : FVec Ideal S1x2048 .f32) (hH : ∀ s d, H (ix2 s d) = HH m c (row t s) d)
    (hR : ∀ s d, R (ix2 s d) = RS m c (row t s) d) (hA : ∀ s d, A (ix2 s d) = DN m c (row t s) d) (hG : ∀ d, G (ix2 0 d) = GG m c d)
    (y : S256x2048.Idx) : DH H R A G y = O6 m c (ix2 (row t (y 0)) (y 1)) := by
  idx_vars y
  exact congrArg₂ (fun a b : EReal => a + b) (hR _ _)
    (by
      show normK (fun d => A (ix2 y0 d)) (fun d => H (ix2 y0 d)) (fun d => G (ix2 0 d)) y1 = _
      rw [funext (hA y0), funext (hH y0), funext hG]
      rfl)

theorem out6 (t : Fin cfg0.N) (y : S256x2048.Idx) : (outsAt0 m c t.val t.isLt).1 y = O6 m c (ix2 (row t (y 0)) (y 1)) := by
  have := N8 t
  by_cases h0 : t.val % 8 = 0
  · rw [outsAt0_A m c t h0 (by omega)]
    frame_out
    refine ((loop _ _ _ _ _ _ _ _ _ _ _ _ _ _ _ _ _ _ _ _ _ _ _ _ _ _ _ _ _ _ _ _ _ (read_unread _ _) (read_unread _ _) (read_unread _ _) (View.read_writes_full _ _ _ _ _)).1 y).trans ?_
    exact dh_block m c t _ _ _ _ (b3 m c t) (b5 m c t) (pre m c t _ _ _ (b0 m c t) (b1 m c t) (b2 m c t) _ _ _) (b4 m c t) y
  · rw [outsAt0_B m c t h0 (by omega)]
    frame_out
    refine ((loop _ _ _ _ _ _ _ _ _ _ _ _ _ _ _ _ _ _ _ _ _ _ _ _ _ _ _ _ _ _ _ _ _ (read_unread _ _) (read_unread _ _) (read_unread _ _) (View.read_writes_full _ _ _ _ _)).1 y).trans ?_
    exact dh_block m c t _ _ _ _ (b3 m c t) (b5 m c t) (pre m c t _ _ _ (b0 m c t) (b1 m c t) (b2 m c t) _ _ _) (b4 m c t) y

theorem out8 (t : Fin cfg0.N) (y : S256x2048.Idx) : (outsAt0 m c t.val t.isLt).2.2 y = O8 m c (ix2 (row t (y 0)) (y 1)) := by
  have := N8 t
  by_cases h0 : t.val % 8 = 0
  · rw [outsAt0_A m c t h0 (by omega)]
    frame_out
    refine ((loop _ _ _ _ _ _ _ _ _ _ _ _ _ _ _ _ _ _ _ _ _ _ _ _ _ _ _ _ _ _ _ _ _ (read_unread _ _) (read_unread _ _) (read_unread _ _) (View.read_writes_full _ _ _ _ _)).2.1 y).trans (congrArg (Ideal.ofBits .f32 0x3F000000#32 * ·) ?_)
    exact dh_block m c t _ _ _ _ (b3 m c t) (b5 m c t) (pre m c t _ _ _ (b0 m c t) (b1 m c t) (b2 m c t) _ _ _) (b4 m c t) y
  · rw [outsAt0_B m c t h0 (by omega)]
    frame_out
    refine ((loop _ _ _ _ _ _ _ _ _ _ _ _ _ _ _ _ _ _ _ _ _ _ _ _ _ _ _ _ _ _ _ _ _ (read_unread _ _) (read_unread _ _) (read_unread _ _) (View.read_writes_full _ _ _ _ _)).2.1 y).trans (congrArg (Ideal.ofBits .f32 0x3F000000#32 * ·) ?_)
    exact dh_block m c t _ _ _ _ (b3 m c t) (b5 m c t) (pre m c t _ _ _ (b0 m c t) (b1 m c t) (b2 m c t) _ _ _) (b4 m c t) y

theorem part_block (t : Fin cfg0.N) (H A : FVec Ideal S256x2048 .f32) (hH : ∀ s d, H (ix2 s d) = HH m c (row t s) d)
    (hA : ∀ s d, A (ix2 s d) = DN m c (row t s) d) (d : Fin 2048) : ∑ s : Fin 256, dgr H A s d = part m c t (ix2 0 d) := by
  refine Finset.sum_congr rfl fun s _ => ?_
  rw [dgr, hA, hH, funext (hH s)]
  rfl

theorem accA (t : Fin cfg0.N) (h0 : t.val % 8 = 0) (y : S1x2048.Idx) : (outsAt0 m c t.val t.isLt).2.1 y = (0 + part m c t y : EReal) := by
  have := N8 t
  rw [outsAt0_A m c t h0 (by omega)]
  frame_out
  idx_vars y
  obtain rfl : y0 = 0 := Subsingleton.elim _ _
  refine ((loop _ _ _ _ _ _ _ _ _ _ _ _ _ _ _ _ _ _ _ _ _ _ _ _ _ _ _ _ _ _ _ _ _ (read_unread _ _) (read_unread _ _) (read_unread _ _) (View.read_writes_full _ _ _ _ _)).2.2 y1).trans ?_
  rw [p2]
  exact congrArg (0 + · : EReal → EReal) (part_block m c t _ _ (b3 m c t) (pre m c t _ _ _ (b0 m c t) (b1 m c t) (b2 m c t) _ _ _) y1)

theorem accB (t : Fin cfg0.N) (h0 : ¬t.val % 8 = 0) (y : S1x2048.Idx) :
    (outsAt0 m c t.val t.isLt).2.1 y = ((outsAt0 m c (t.val - 1) (by have := t.isLt; omega)).2.1 y + part m c t y : EReal) := by
  have := N8 t
  rw [outsAt0_B m c t h0 (by omega)]
  frame_out
  idx_vars y
  obtain rfl : y0 = 0 := Subsingleton.elim _ _
  refine (p4 _ _ y1).trans (congrArg ((outsAt0 m c (t.val - 1) _).2.1 (ix2 0 y1) + · : EReal → EReal) ?_)
  refine ((loop _ _ _ _ _ _ _ _ _ _ _ _ _ _ _ _ _ _ _ _ _ _ _ _ _ _ _ _ _ _ _ _ _ (read_unread _ _) (read_unread _ _) (read_unread _ _) (View.read_writes_full _ _ _ _ _)).2.2 y1).trans ?_
  rw [p2, zero_add]
  exact part_block m c t _ _ (b3 m c t) (pre m c t _ _ _ (b0 m c t) (b1 m c t) (b2 m c t) _ _ _) y1

theorem acc (t : Fin cfg0.N) (hr : t.val % 8 = 7) (y : S1x2048.Idx) : (outsAt0 m c t.val t.isLt).2.1 y = O7 m c y := by
  refine (Pipeline.eq_sum_fin_of_reset_step_apply_of_flush (M := EReal) (fun n h => (outsAt0 m c n h).2.1) 8 (fun _ => 0) (part m c)
    (accA m c) (accB m c) t hr y).trans ?_
  rw [zero_add]
  refine Fin.sum_mul_add_congr fun s k hl => ?_
  have hrow : row ⟨8 * (t.val / 8) + s.val, Pipeline.run_point_lt_of_flush t hr s⟩ k = ⟨s.val * 256 + k.val, hl⟩ :=
    Fin.ext (by have := N8 t; dsimp only [row]; omega)
  rw [hrow]

/-! ## The results after the run -/

theorem final6 : (dats m 0 c).arrAt 6 cfg0.N = O6 m c := by
  refine (dats m 0 c).arrAt_eq_of_covers 6 _ (by decide +kernel) fun t hf y => ?_
  blk_simp
  rw [after0_6, out6]
  refine congrArg (O6 m c) ?_
  blk_point [idx t, row]

theorem final7 : (dats m 0 c).arrAt 7 cfg0.N = O7 m c := by
  refine (dats m 0 c).arrAt_eq_of_covers 7 _ (by decide +kernel) fun t hf y => ?_
  blk_simp
  rw [after0_7, acc m c t ((flush0_7 t).mp hf)]
  refine congrArg (O7 m c) ?_
  blk_point [idx t]

theorem final8 : (dats m 0 c).arrAt 8 cfg0.N = O8 m c := by
  refine (dats m 0 c).arrAt_eq_of_covers 8 _ (by decide +kernel) fun t hf y => ?_
  blk_simp
  rw [after0_8, out8]
  refine congrArg (O8 m c) ?_
  blk_point [idx t, row]

end Cert.MixBwdIdeal.Read

end
-- ==== Proof.NormRef.lean ====
/- The gradient of the norm as differentiation of the reference's lines prints it, read at an index, for any number
   of rows. -/
module

public import Idealize.ShloMosaic.Lib.Claim
public import Idealize.ShloMosaic.Lib.Pipeline.ValueKit
public import proofs.«01_k».proof.Proof.Norm

@[expose] public section

set_option maxRecDepth 16384

noncomputable section

namespace Cert.NormRef

open Idealize.ShloMosaic Cert.Reals Cert.Spec
open scoped BigOperators

/-- The shapes of a block of `n` rows and of its reductions. -/
abbrev X (n : ℕ) : Shape := ⟨3, ![1, n, 2048]⟩
abbrev C (n : ℕ) : Shape := ⟨3, ![1, n, 1]⟩
abbrev P (n : ℕ) : Shape := ⟨2, ![1, n]⟩
abbrev V (n : ℕ) : Shape := ⟨1, ![n]⟩
abbrev E : Shape := ⟨0, ![]⟩
abbrev G1 : Shape := ⟨2, ![1, 2048]⟩
abbrev G3 : Shape := ⟨3, ![1, 1, 2048]⟩
abbrev GV : Shape := ⟨1, ![2048]⟩

variable {n : ℕ}

theorem bC : E.BroadcastsInDim (C n) (![] : Fin 0 → Fin (C n).rank) := ⟨fun a => a.elim0, fun a => a.elim0⟩
theorem bPC : (P n).BroadcastsInDim (C n) (![0, 1] : Fin 2 → Fin 3) := ⟨(by decide : Function.Injective (![0, 1] : Fin 2 → Fin 3)), fun a => by match a with | 0 | 1 => exact .inr rfl⟩
theorem bCX : (C n).BroadcastsInDim (X n) (![0, 1, 2] : Fin 3 → Fin 3) :=
  ⟨(by decide : Function.Injective (![0, 1, 2] : Fin 3 → Fin 3)), fun a => by match a with | 0 | 1 => exact .inr rfl | 2 => exact .inl rfl⟩
theorem bPX : (P n).BroadcastsInDim (X n) (![0, 1] : Fin 2 → Fin 3) := ⟨(by decide : Function.Injective (![0, 1] : Fin 2 → Fin 3)), fun a => by match a with | 0 | 1 => exact .inr rfl⟩
theorem bVP : (V n).BroadcastsInDim (P n) (![1] : Fin 1 → Fin 2) := ⟨(by decide : Function.Injective (![1] : Fin 1 → Fin 2)), fun a => by match a with | 0 => exact .inr rfl⟩
theorem bG : G3.BroadcastsInDim (X n) (![0, 1, 2] : Fin 3 → Fin 3) :=
  ⟨(by decide : Function.Injective (![0, 1, 2] : Fin 3 → Fin 3)), fun a => by match a with | 0 | 1 => exact .inl rfl | 2 => exact .inr rfl⟩
theorem bGV : GV.BroadcastsInDim G3 (![2] : Fin 1 → Fin G3.rank) := by decide
theorem bGP : GV.BroadcastsInDim G1 (![1] : Fin 1 → Fin G1.rank) := by decide
theorem sG : G1.ShapeCasts GV := by decide
theorem sPC : (P n).ShapeCasts (C n) := by simp [Shape.ShapeCasts, Shape.numel, Fin.prod_univ_succ]
theorem sG3 : G1.ShapeCasts G3 := by decide
theorem rX : (X n).ReducesTo [2] (P n) := ⟨rfl, fun a => by match a with | 0 | 1 => rfl⟩
theorem rC : (C n).ReducesTo [0, 2] (V n) := ⟨rfl, fun a => by match a with | 0 => rfl⟩
theorem rR : (X n).ReducesTo [1] G1 := ⟨rfl, fun a => by match a with | 0 | 1 => rfl⟩
theorem rG : G3.ReducesTo [0, 1] GV := by decide
theorem hE : 0 < E.numel := by decide

/-- A sum over the two unit axes is the one element. -/
theorem rC_at (v : (C n).Idx → EReal) (init : EReal) (s : Fin n) : Ideal.hostReduceAdd rC v init (ix1 s) = init + v (ix3 0 s 0) := by
  refine congrArg (init + ·) (Finset.sum_eq_single_of_mem (ix3 0 s 0) ?_ ?_)
  · refine Finset.mem_filter.mpr ⟨Finset.mem_univ _, funext fun a => ?_⟩
    match a with
    | 0 => rfl
  · intro i hi hn
    refine absurd (funext fun a => ?_) hn
    have e := congrFun (Finset.mem_filter.mp hi).2 0
    match a with
    | 0 => exact Subsingleton.elim (α := Fin 1) _ _
    | 1 => exact Fin.ext (congrArg Fin.val e)
    | 2 => exact Subsingleton.elim (α := Fin 1) _ _

theorem rG_at (v : G3.Idx → EReal) (init : EReal) (d : Fin 2048) : Ideal.hostReduceAdd rG v init (ix1 d) = init + v (ix3 0 0 d) := by
  refine congrArg (init + ·) (Finset.sum_eq_single_of_mem (ix3 0 0 d) ?_ ?_)
  · refine Finset.mem_filter.mpr ⟨Finset.mem_univ _, funext fun a => ?_⟩
    match a with
    | 0 => rfl
  · intro i hi hn
    refine absurd (funext fun a => ?_) hn
    have e := congrFun (Finset.mem_filter.mp hi).2 0
    match a with
    | 0 => exact Subsingleton.elim (α := Fin 1) _ _
    | 1 => exact Subsingleton.elim (α := Fin 1) _ _
    | 2 => exact Fin.ext (congrArg Fin.val e)

/-- The mean squares. -/
def MS (x : FVec Ideal (X n) .f32) : FVec Ideal (C n) .f32 :=
  addf (Host.divf (broadcastInDim (C n) ![0, 1] bPC (Host.reduceAdd (mulf x x) (constant E .f32 0x00000000#32) rX hE)) (broadcastInDim (C n) ![] bC (constant E .f32 0x45000000#32))) (broadcastInDim (C n) ![] bC (constant E .f32 0x358637BD#32))

/-- The cotangent times the scale. -/
def AG (a : FVec Ideal (X n) .f32) (g : FVec Ideal G1 .f32) : FVec Ideal (X n) .f32 :=
  mulf a (broadcastInDim (X n) ![0, 1, 2] bG (broadcastInDim G3 ![2] bGV (shapeCast _ g sG)))

/-- The mean square's cotangent over the row. -/
def CC (a x : FVec Ideal (X n) .f32) (g : FVec Ideal G1 .f32) : FVec Ideal (X n) .f32 :=
  broadcastInDim (X n) ![0, 1] bPX (broadcastInDim (P n) ![1] bVP (Host.reduceAdd (Host.divf (mulf (shapeCast _ (Host.reduceAdd (mulf x (AG a g)) (constant E .f32 0x00000000#32) rX hE) sPC) (mulf (broadcastInDim (C n) ![] bC (constant E .f32 0xBF000000#32)) (Host.divf (Host.rsqrt (MS x)) (MS x)))) (broadcastInDim (C n) ![] bC (constant E .f32 0x45000000#32))) (constant E .f32 0x00000000#32) rC hE))

/-- The norm's gradient in its input. -/
def DX (a x : FVec Ideal (X n) .f32) (g : FVec Ideal G1 .f32) : FVec Ideal (X n) .f32 :=
  addf (addf (mulf (AG a g) (broadcastInDim (X n) ![0, 1, 2] bCX (Host.rsqrt (MS x)))) (mulf x (CC a x g))) (mulf (CC a x g) x)

/-- The norm's gradient in its scale. -/
def DGR (a x : FVec Ideal (X n) .f32) : FVec Ideal G1 .f32 :=
  broadcastInDim G1 ![1] bGP (Host.reduceAdd (shapeCast _ (Host.reduceAdd (mulf (mulf x (broadcastInDim (X n) ![0, 1, 2] bCX (Host.rsqrt (MS x)))) a) (constant E .f32 0x00000000#32) rR hE) sG3) (constant E .f32 0x00000000#32) rG hE)

/-- The numbers of rows the calls have. -/
abbrev Rows (n : ℕ) : Prop := n = 2048 ∨ n = 1024

theorem MS_at (hn : Rows n) (x : FVec Ideal (X n) .f32) (s : Fin n) : MS x (ix3 0 s 0) = ms fun d => x (ix3 0 s d) := by
  rcases hn with rfl | rfl
  all_goals
    pointwise [MS]
    rfl

theorem AG_at (hn : Rows n) (a : FVec Ideal (X n) .f32) (g : FVec Ideal G1 .f32) (s : Fin n) (d : Fin 2048) : AG a g (ix3 0 s d) = a (ix3 0 s d) * g (ix2 0 d) := by
  rcases hn with rfl | rfl <;> pointwise [AG]

theorem CC_at (hn : Rows n) (a x : FVec Ideal (X n) .f32) (g : FVec Ideal G1 .f32) (s : Fin n) (d : Fin 2048) :
    CC a x g (ix3 0 s d) = normC (fun d => a (ix3 0 s d)) (fun d => x (ix3 0 s d)) (fun d => g (ix2 0 d)) := by
  rcases hn with rfl | rfl
  all_goals
    pointwise [CC]
    rw [rC_at]
    pointwise [AG]
    rw [MS_at (by decide)]
    rfl

theorem DX_at (hn : Rows n) (a x : FVec Ideal (X n) .f32) (g : FVec Ideal G1 .f32) (s : Fin n) (d : Fin 2048) :
    DX a x g (ix3 0 s d) = normR (fun d => a (ix3 0 s d)) (fun d => x (ix3 0 s d)) (fun d => g (ix2 0 d)) d := by
  rcases hn with rfl | rfl
  all_goals
    pointwise [DX]
    rw [CC_at (by decide), AG_at (by decide), MS_at (by decide)]
    rfl

theorem DGR_at (hn : Rows n) (a x : FVec Ideal (X n) .f32) (d : Fin 2048) :
    DGR a x (ix2 0 d) = ∑ s : Fin n, x (ix3 0 s d) * rinv (fun e => x (ix3 0 s e)) * a (ix3 0 s d) := by
  rcases hn with rfl | rfl
  all_goals
    pointwise [DGR]
    rw [rG_at]
    pointwise []
    refine Finset.sum_congr rfl fun s _ => ?_
    rw [MS_at (by decide)]
    rfl

end Cert.NormRef

end
-- ==== Proof.MixRef.lean ====
/- The reference of the mixer's norm and input-projection gradient, read at an index. -/
module

public import proofs.«01_k».proof.Proof.Gen.MixBwdRefIdeal.Run
public import proofs.«01_k».proof.Proof.NormRef

@[expose] public section

set_option maxRecDepth 16384

noncomputable section

namespace Cert.MixBwdRefIdeal.Read

open Cert.MixBwdRefIdeal Cert.MixBwdRefIdeal.Gen Cert.MixBwdRefIdeal.Value Cert.Reals Cert.Spec
open Idealize.ShloMosaic Idealize.ShloMosaic.TcCoe Idealize.SL.Sem
open scoped BigOperators

/-- The normed rows' cotangent. -/
def DNr (x2 : FVec Ideal S1x2048x4112 .f32) (x3 : FVec Ideal S1x2048x4112 .f32) : FVec Ideal S1x2048x2048 .f32 :=
  Host.dotGeneral dot_S1x2048x4112_S2048x4112_S1x2048x2048_2_1_01_0_n_n none x3 (shapeCast _ x2 shapeCasts_S1x2048x4112_S2048x4112)

/-- The first result as a function of the arguments. -/
def R0 (x0 : FVec Ideal S1x2048x2048 .f32) (x1 : FVec Ideal S1x2048 .f32) (x2 x3 : FVec Ideal S1x2048x4112 .f32) (x4 : FVec Ideal S1x2048x2048 .f32) :
    FVec Ideal S2048x2048 .f32 :=
  shapeCast _ (addf x4 (NormRef.DX (DNr x2 x3) x0 x1)) shapeCasts_S1x2048x2048_S2048x2048

/-- The second result. -/
def R1 (x0 : FVec Ideal S1x2048x2048 .f32) (x2 x3 : FVec Ideal S1x2048x4112 .f32) : FVec Ideal S1x2048 .f32 := NormRef.DGR (DNr x2 x3) x0

/-- The third result. -/
def R2 (x0 : FVec Ideal S1x2048x2048 .f32) (x1 : FVec Ideal S1x2048 .f32) (x2 x3 : FVec Ideal S1x2048x4112 .f32) (x4 : FVec Ideal S1x2048x2048 .f32) :
    FVec Ideal S2048x2048 .bf16 :=
  truncf .bf16 (mulf (broadcastInDim S2048x2048 ![] bcast_S_S2048x2048 (constant S_ .f32 0x3F000000#32)) (R0 x0 x1 x2 x3 x4)) bitsLt_bf16_f32

variable (m : (ℓ : Loc nD τ sig) → Buf (Elt Ideal) ℓ) (ρ : Dev nD → PrngReg) (c : Dev nD)

theorem out0_eq : res_main_v43 (F := Ideal) m c = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v43
  rfl

theorem out2_eq : res_main_v47 (F := Ideal) m c = R2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v47
  rfl

/-- The reference's run with its results as functions of its arguments. -/
theorem run' : θ_run defs (onTc (τ := τ) (main (F := Ideal))) ⟨m, fun _ => 0, ρ⟩ fun r => ∀ c : Dev nD,
      r.2.mem ((c.tc : Thread nD τ).loc main_v43) = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v41) = R1 (m ((c.tc : Thread nD τ).loc main_arg0)) (m ((c.tc : Thread nD τ).loc main_arg2)) (m ((c.tc : Thread nD τ).loc main_arg3))
      ∧ r.2.mem ((c.tc : Thread nD τ).loc main_v47) = R2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (out0_eq m c), (h c).2.1.trans rfl, (h c).2.2.1.trans (out2_eq m c), (h c).2.2.2⟩) (run m ρ)

theorem DNr_at (x2 x3 : FVec Ideal S1x2048x4112 .f32) (s d : Fin 2048) :
    DNr x2 x3 (ix3 0 s d) = ∑ k : Fin 4112, x3 (ix3 0 s k) * x2 (ix3 0 d k) := by
  pointwise [DNr]

theorem R0_at (x0 : FVec Ideal S1x2048x2048 .f32) (x1 : FVec Ideal S1x2048 .f32) (x2 x3 : FVec Ideal S1x2048x4112 .f32) (x4 : FVec Ideal S1x2048x2048 .f32)
    (s d : Fin 2048) : R0 x0 x1 x2 x3 x4 (ix2 s d) =
      x4 (ix3 0 s d) + normR (fun d => DNr x2 x3 (ix3 0 s d)) (fun d => x0 (ix3 0 s d)) (fun d => x1 (ix2 0 d)) d := by
  pointwise [R0]
  exact congrArg (x4 (ix3 0 s d) + · : EReal → EReal) (NormRef.DX_at (.inl rfl) _ _ _ s d)

theorem R2_at (x0 : FVec Ideal S1x2048x2048 .f32) (x1 : FVec Ideal S1x2048 .f32) (x2 x3 : FVec Ideal S1x2048x4112 .f32) (x4 : FVec Ideal S1x2048x2048 .f32)
    (s d : Fin 2048) : R2 x0 x1 x2 x3 x4 (ix2 s d) = Ideal.ofBits .f32 0x3F000000#32 * R0 x0 x1 x2 x3 x4 (ix2 s d) := by
  pointwise [R2]

end Cert.MixBwdRefIdeal.Read

end
-- ==== Proof.Mix.lean ====
/- The mixer's norm and input-projection gradient: the kernel's results are the reference's on finite arguments. -/
module

public import proofs.«01_k».proof.Defs
public import proofs.«01_k».proof.Proof.Gen.Pre_finite_mix
public import proofs.«01_k».proof.Proof.MixKernel
public import proofs.«01_k».proof.Proof.MixRef

@[expose] public section

set_option maxRecDepth 16384

noncomputable section

namespace Cert.Mix

open Idealize.ShloMosaic Idealize.ShloMosaic.TcCoe Idealize.SL.Sem Cert.Reals Cert.Spec
open scoped BigOperators

section Values

open Cert.MixBwdIdeal Cert.MixBwdIdeal.Read
open Cert.MixBwdRefIdeal.Read

variable (m : (ℓ : Loc nD τ sig) → Buf (Elt Ideal) ℓ) (c : Dev nD)

/-- An argument's array. -/
abbrev X0 : FVec Ideal S1x2048x2048 .f32 := m (c, Proc.tc.devRef main_arg0)
abbrev X1 : FVec Ideal S1x2048 .f32 := m (c, Proc.tc.devRef main_arg1)
abbrev X2 : FVec Ideal S1x2048x4112 .f32 := m (c, Proc.tc.devRef main_arg2)
abbrev X3 : FVec Ideal S1x2048x4112 .f32 := m (c, Proc.tc.devRef main_arg3)
abbrev X4 : FVec Ideal S1x2048x2048 .f32 := m (c, Proc.tc.devRef main_arg4)

/-- Every element of the arguments that are multiplied is a real number. -/
structure Fin' : Prop where
  h0 : ∀ i, IsReal (X0 m c i)
  h1 : ∀ i, IsReal (X1 m c i)
  h2 : ∀ i, IsReal (X2 m c i)
  h3 : ∀ i, IsReal (X3 m c i)

variable {m c}

theorem dn (s d : Fin 2048) : DNr (X2 m c) (X3 m c) (ix3 0 s d) = DN m c s d := DNr_at ..

theorem isReal_dn (h : Fin' m c) (s d : Fin 2048) : IsReal (DN m c s d) :=
  IsReal.sum _ fun k => (h.h3 (ix3 0 s k)).mul (h.h2 (ix3 0 d k))

/-- The first result: the cotangent of the layer's input. -/
theorem out0 (h : Fin' m c) : O6 m c = R0 (X0 m c) (X1 m c) (X2 m c) (X3 m c) (X4 m c) := by
  funext y
  idx_vars y
  refine Eq.trans ?_ (R0_at _ _ _ _ _ y0 y1).symm
  rw [funext (dn y0)]
  exact congrArg (X4 m c (ix3 0 y0 y1) + · : EReal → EReal)
    (norm_eq (isReal_dn h y0) (fun d => h.h0 (ix3 0 y0 d)) (fun d => h.h1 (ix2 0 d)) y1)

/-- The second result: the gradient of the norm's scale. -/
theorem out1 : O7 m c = R1 (X0 m c) (X2 m c) (X3 m c) := by
  funext y
  idx_vars y
  obtain rfl : y0 = 0 := Subsingleton.elim _ _
  refine Eq.trans ?_ (NormRef.DGR_at (.inl rfl) _ _ y1).symm
  refine Finset.sum_congr rfl fun s _ => ?_
  exact (mul_comm _ _).trans (congrArg (X0 m c (ix3 0 s y1) * rinv (fun e => X0 m c (ix3 0 s e)) * · : EReal → EReal) (dn s y1).symm)

/-- The third result: half the cotangent of the layer's input. -/
theorem out2 (h : Fin' m c) : O8 m c = R2 (X0 m c) (X1 m c) (X2 m c) (X3 m c) (X4 m c) := by
  funext y
  idx_vars y
  refine Eq.trans ?_ (R2_at _ _ _ _ _ y0 y1).symm
  exact congrArg (Ideal.ofBits .f32 0x3F000000#32 * · : EReal → EReal) (congrFun (out0 h) (ix2 y0 y1))

end Values

theorem fin_of (m : (ℓ : Loc Cert.MixBwdIdeal.nD Cert.MixBwdIdeal.τ Cert.MixBwdIdeal.sig) → Buf (Elt Ideal) ℓ)
    (h : Cert.Pre_MixBwdIdeal_finite_mix m) (c : Dev Cert.MixBwdIdeal.nD) : Fin' m c := by
  obtain ⟨h0, h1, h2, h3⟩ := h c
  exact ⟨real_of _ _ h0, real_of _ _ h1, real_of _ _ h2, real_of _ _ h3⟩

/-- The kernel computes the reference on finite arguments. -/
theorem algebraic : Cert.algebraic_MixBwdIdeal_MixBwdRefIdeal_pre_finite_mix := by
  pair_intro
  · run_from Cert.MixBwdIdeal.Value.run_blocks m g
  · run_from Cert.MixBwdRefIdeal.Read.run' m' g'
    · exact ((Cert.MixBwdIdeal.Read.final6 m c).trans (out0 (fin_of m hpre c))).symm
    · exact ((Cert.MixBwdIdeal.Read.final7 m c).trans out1).symm
    · exact ((Cert.MixBwdIdeal.Read.final8 m c).trans (out2 (fin_of m hpre c))).symm

end Cert.Mix

end
-- ==== Proof.DxBKernel.lean ====
/- The kernel of the first feed-forward layer's norm and input-projection gradient, lower half of the rows, read at an index. -/
module

public import proofs.«01_k».proof.Proof.Gen.DxBIdeal.Value
public import Idealize.ShloMosaic.Lib.Pipeline.ValueKit
public import Idealize.ShloMosaic.Lib.Pipeline.ReadBack
public import Idealize.ShloMosaic.Lib.VecWindow
public import Idealize.ShloMosaic.Lib.Claim
public import proofs.«01_k».proof.Proof.Trips

@[expose] public section

set_option maxRecDepth 16384

noncomputable section

namespace Cert.DxBIdeal.Read

open Cert.DxBIdeal Cert.DxBIdeal.Gen Cert.DxBIdeal.Value Cert.Reals Cert.Spec
open Idealize.ShloMosaic Idealize.ShloMosaic.TcCoe Idealize.SL.Sem
open Cert.Trips (row64 ld64 emb64 mem64 ix64 sh sh_eq sum_sh DH dgr ldg)
open Idealize.ShloMosaic.Pipeline (Dat)
open Memref.IsWhole (read_unread)
open scoped BigOperators

/-! ## The stored values -/

theorem p2 (v3 : FVec Ideal S512x2048 .f32) (v4 : FVec Ideal S1x512x512 .bf16) (v6 : FVec Ideal S2048x512 .bf16) (v9 : FVec Ideal S1x512x512 .bf16)
    (v11 : FVec Ideal S2048x512 .bf16) (s : Fin 512) (d : Fin 2048) : k0_pay2 (F := Ideal) v3 v4 v6 v9 v11 (ix2 s d) =
      v3 (ix2 s d) + ((∑ k : Fin 512, v4 (ix3 0 s k) * v6 (ix2 d k)) + ∑ k : Fin 512, v9 (ix3 0 s k) * v11 (ix2 d k)) := by
  pointwise [k0_pay2]

theorem p7 (a x : FVec Ideal S64x2048 .f32) (g : FVec Ideal S1x2048 .f32) (r : FVec Ideal S64x2048 .f32) (i : Fin 64) (d : Fin 2048) :
    k0_pay7 (F := Ideal) a x g r (ix2 i d) =
      r (ix2 i d) + normK (fun d => a (ix2 i d)) (fun d => x (ix2 i d)) (fun d => g (ix2 0 d)) d := by
  pointwise [k0_pay7, k0_pay6, k0_pay5, k0_pay4]
  rfl

theorem p8 (v : FVec Ideal S1x2048 .f32) (a x : FVec Ideal S64x2048 .f32) (d : Fin 2048) :
    k0_pay8 (F := Ideal) v a x (ix2 0 d) =
      v (ix2 0 d) + ∑ i : Fin 64, a (ix2 i d) * (x (ix2 i d) * rinv fun d => x (ix2 i d)) := by
  pointwise [k0_pay8, k0_pay6, k0_pay5, k0_pay4]
  rfl

theorem p9 (a b : FVec Ideal S1x2048 .f32) (d : Fin 2048) : k0_pay9 (F := Ideal) a b (ix2 0 d) = b (ix2 0 d) + a (ix2 0 d) := by
  pointwise [k0_pay9]

theorem p1 (y : S512x2048.Idx) : k0_pay1 (F := Ideal) y = (0 : EReal) := by
  idx_vars y
  pointwise [k0_pay1]

theorem p3 (d : Fin 2048) : k0_pay3 (F := Ideal) (ix2 0 d) = (0 : EReal) := by
  pointwise [k0_pay3]

/-! ## The loop over the rows of a block -/

theorem off : ∀ k : Fin k0_t1_loop.trips, k0_off1 k = ![64 * k.val, 0] :=
  (by decide +kernel : ∀ k : Fin k0_t1_loop.trips, _)

theorem trips : k0_t1_loop.trips = 8 := by decide +kernel

section Loop

variable (𝒱 : Variants) (c : Dev nD) (bd : Option 𝒱.V) (i : grid0.Coords)
  (arg2 : Memref sig .tc .vmem S2x512x512 .bf16) (harg2 : arg2.IsWhole) (arg3 : Memref sig .tc .vmem S512x2048 .f32) (harg3 : arg3.IsWhole)
  (arg4 : Memref sig .tc .vmem S512x2048 .f32) (harg4 : arg4.IsWhole) (arg5 : Memref sig .tc .vmem S1x2048 .f32) (harg5 : arg5.IsWhole)
  (arg6 : Memref sig .tc .vmem S2048x512 .bf16) (harg6 : arg6.IsWhole) (arg7 : Memref sig .tc .vmem S2048x512 .bf16) (harg7 : arg7.IsWhole)
  (arg8 : Memref sig .tc .hbm S2048x2048 .f32) (harg8 : arg8.IsWhole) (arg9 : Memref sig .tc .vmem S512x2048 .f32) (harg9 : arg9.IsWhole)
  (arg10 : Memref sig .tc .vmem S1x2048 .f32) (harg10 : arg10.IsWhole) (arg11 : Memref sig .tc .vmem S512x2048 .f32) (harg11 : arg11.IsWhole)
  (hc : k0_cond2 i = 1#1)
  (X3 : BufTy.Contents (Elt Ideal) arg3.view.ty) (X4 : BufTy.Contents (Elt Ideal) arg4.view.ty) (X5 : BufTy.Contents (Elt Ideal) arg5.view.ty)
  (X11 : BufTy.Contents (Elt Ideal) arg11.view.ty) (init : FVec Ideal S1x2048 .f32)
  (H R A : FVec Ideal S512x2048 .f32) (G : FVec Ideal S1x2048 .f32)

theorem dh_of (a x r : FVec Ideal S64x2048 .f32) (g : FVec Ideal S1x2048 .f32) (i : Fin 64) (d : Fin 2048) (s : Fin 512)
    (ha : ∀ d, a (ix2 i d) = A (ix2 s d)) (hx : ∀ d, x (ix2 i d) = H (ix2 s d)) (hr : r (ix2 i d) = R (ix2 s d)) (hg : g = G) :
    k0_pay7 (F := Ideal) a x g r (ix2 i d) = DH H R A G (ix2 s d) := by
  refine (p7 a x g r i d).trans ?_
  rw [hr, funext ha, funext hx, hg]
  rfl

theorem dgr_of (v : FVec Ideal S1x2048 .f32) (a x : FVec Ideal S64x2048 .f32) (d : Fin 2048) (k : ℕ) (hk : 64 * k + 64 ≤ 512)
    (ha : ∀ i d, a (ix2 i d) = A (ix2 (row64 k hk i) d)) (hx : ∀ i d, x (ix2 i d) = H (ix2 (row64 k hk i) d)) :
    k0_pay8 (F := Ideal) v a x (ix2 0 d) = v (ix2 0 d) + ∑ i : Fin 64, dgr H A (row64 k hk i) d := by
  refine (p8 v a x d).trans (congrArg (v (ix2 0 d) + ·) (Finset.sum_congr rfl fun i _ => ?_))
  rw [ha, hx, funext (hx i)]
  rfl

/-- The state of the loop before a trip: the result's pieces hold the gradient, and the carried sum is of the rows so far. -/
theorem state (h3 : arg3.view.read (Elt Ideal) X3 = R) (h4 : arg4.view.read (Elt Ideal) X4 = H) (h5 : arg5.view.read (Elt Ideal) X5 = G)
    (h11 : arg11.view.read (Elt Ideal) X11 = A) : ∀ n : ℕ, n ≤ k0_t1_loop.trips →
    let s := st_k0_t1 (F := Ideal) 𝒱 c bd i arg2 harg2 arg3 harg3 arg4 harg4 arg5 harg5 arg6 harg6 arg7 harg7 arg8 harg8 arg9 harg9 arg10 harg10 arg11 harg11 hc X3 X4 X5 X11 init n
    View.PiecesOf (Val := Elt Ideal) (DH H R A G) s.2
      ∧ (∀ d : Fin 2048, s.1 (ix2 0 d) = init (ix2 0 d) + ∑ k ∈ Finset.range n, sh (dgr H A · d) k)
      ∧ (∀ y : S512x2048.Idx, (y 0).val < 64 * n → ∃ p ∈ s.2, y ∈ p.1.set) := by
  intro n
  induction n with
  | zero => exact fun _ => ⟨trivial, fun d => (add_zero _).symm, fun y h => absurd h (by omega)⟩
  | succ n ih =>
    intro hn
    have hk : 64 * n + 64 ≤ 512 := by have := trips; omega
    have ho := off ⟨n, hn⟩
    obtain ⟨q1, q2, q3⟩ := ih (by omega)
    dsimp only
    rw [st_k0_t1_succ (F := Ideal) 𝒱 c bd i arg2 harg2 arg3 harg3 arg4 harg4 arg5 harg5 arg6 harg6 arg7 harg7 arg8 harg8 arg9 harg9 arg10 harg10 arg11 harg11 hc X3 X4 X5 X11 init ⟨n, hn⟩]
    unfold tripL_k0_t1 tripR_k0_t1 trip_k0_t1
    dsimp only
    subst h3 h4 h5 h11
    refine ⟨⟨fun x => ?_, q1⟩, fun d => ?_, fun y h => ?_⟩
    · refine Eq.trans ?_ (congrArg (DH _ _ _ _) (emb64 _ n hk ho (k0_off1_inb i ⟨n, hn⟩ hc) x)).symm
      rw [ix64 x]
      exact dh_of _ _ _ _ _ _ _ _ _ _ _ (fun d => ld64 _ n hk ho _ _ _ _) (fun d => ld64 _ n hk ho _ _ _ _) (ld64 _ n hk ho _ _ _ _) (View.readAt_full _ _ _)
    · rw [Finset.sum_range_succ, ← add_assoc, ← q2 d]
      refine (dgr_of _ _ _ _ _ _ n hk (fun i d => ld64 _ n hk ho _ _ _ _) (fun i d => ld64 _ n hk ho _ _ _ _)).trans (congrArg (_ + ·) ?_)
      exact (sh_eq (dgr _ _ · d) n hk).symm
    · by_cases hy : (y 0).val < 64 * n
      · obtain ⟨p, hp, hm⟩ := q3 y hy
        exact ⟨p, List.mem_cons_of_mem _ hp, hm⟩
      · exact ⟨_, List.mem_cons_self, mem64 _ n ho (k0_off1_inb i ⟨n, hn⟩ hc) y (by omega) (by omega)⟩

/-- The results' blocks and the carried row after the loop. -/
theorem loop (h3 : arg3.view.read (Elt Ideal) X3 = R) (h4 : arg4.view.read (Elt Ideal) X4 = H) (h5 : arg5.view.read (Elt Ideal) X5 = G)
    (h11 : arg11.view.read (Elt Ideal) X11 = A) :
    let s := st_k0_t1 (F := Ideal) 𝒱 c bd i arg2 harg2 arg3 harg3 arg4 harg4 arg5 harg5 arg6 harg6 arg7 harg7 arg8 harg8 arg9 harg9 arg10 harg10 arg11 harg11 hc X3 X4 X5 X11 init k0_t1_loop.trips
    (∀ y, View.canon (Val := Elt Ideal) s.2 y = DH H R A G y)
      ∧ ∀ d : Fin 2048, s.1 (ix2 0 d) = (init (ix2 0 d) + ∑ s : Fin 512, dgr H A s d : EReal) := by
  obtain ⟨q1, q2, q3⟩ := state 𝒱 c bd i arg2 harg2 arg3 harg3 arg4 harg4 arg5 harg5 arg6 harg6 arg7 harg7 arg8 harg8 arg9 harg9 arg10 harg10 arg11 harg11 hc X3 X4 X5 X11 init H R A G h3 h4 h5 h11 _ le_rfl
  refine ⟨fun y => ?_, fun d => by rw [q2 d, sum_sh _ _ (congrArg (· * 64) trips)]⟩
  have := View.canon_append_of_piecesOf (Val := Elt Ideal) _ [] _ q1 y (q3 y (by rw [trips]; exact (y 0).isLt))
  rwa [List.append_nil] at this

end Loop

variable (m : (ℓ : Loc nD τ sig) → Buf (Elt Ideal) ℓ) (c : Dev nD)

/-! ## What the region finds in its operands -/

theorem N22 (t : Fin cfg0.N) : t.val < 22 := by have := t.isLt; have : cfg0.N = 22 := N_0; omega

theorem idx : ∀ t : Fin cfg0.N, win0_0.index t = ![0, 2 + t.val / 11, t.val % 11] ∧ win0_1.index t = ![2 + t.val / 11, 0] ∧ win0_2.index t = ![2 + t.val / 11, 0]
    ∧ win0_3.index t = ![0, 0] ∧ win0_4.index t = ![0, t.val % 11] ∧ win0_5.index t = ![0, 11 + t.val % 11]
    ∧ win0_6.index t = ![2 + t.val / 11, 0] ∧ win0_7.index t = ![0, 0] :=
  (by decide +kernel : ∀ t : Fin grid0.N, _)

/-- The row of the arrays that grid point `t` holds at row `s` of its block. -/
def row (t : Fin cfg0.N) (s : Fin 512) : Fin 2048 := ⟨512 * (2 + t.val / 11) + s.val, by have := N22 t; omega⟩

/-- The column of the gate's half that grid point `t` holds. -/
def col (t : Fin cfg0.N) (n : Fin 512) : Fin 5632 := ⟨512 * (t.val % 11) + n.val, by have := N22 t; omega⟩

/-- Column `n` of the gate's half. -/
def lo (n : Fin 5632) : Fin 11264 := ⟨n.val, by omega⟩

/-- Column `n` of the other half. -/
def hi (n : Fin 5632) : Fin 11264 := ⟨5632 + n.val, by omega⟩

/-- The layer's input. -/
def HH (s d : Fin 2048) : EReal := m (c, Proc.tc.devRef main_arg0) (ix3 0 s d)

/-- The norm's scale. -/
def GG (d : Fin 2048) : EReal := m (c, Proc.tc.devRef main_arg1) (ix2 0 d)

/-- The projection's weight. -/
def WW (d : Fin 2048) (k : Fin 11264) : EReal := m (c, Proc.tc.devRef main_arg2) (ix3 0 d k)

/-- The projection's cotangent. -/
def DU (s : Fin 2048) (k : Fin 11264) : EReal := m (c, Proc.tc.devRef main_arg3) (ix3 0 s k)

/-- The residual's cotangent. -/
def RS (s d : Fin 2048) : EReal := m (c, Proc.tc.devRef main_arg4) (ix3 0 s d)

/-- The normed row's cotangent. -/
def DN (s d : Fin 2048) : EReal := ∑ k : Fin 11264, DU m c s k * WW m c d k

theorem e0 (s : Fin 2048) (n : Fin 5632) : V m c main_v7 (ix3 0 s n) = DU m c s (lo n) := by
  entry_read
  pointwise []
  rfl

theorem e0' (s : Fin 2048) (n : Fin 5632) : V m c main_v7 (ix3 1 s n) = DU m c s (hi n) := by
  entry_read
  pointwise []
  rfl

theorem e1 (s d : Fin 2048) : V m c main_v8 (ix2 s d) = RS m c s d := by
  entry_read
  pointwise []
  rfl

theorem e2 (s d : Fin 2048) : V m c main_v9 (ix2 s d) = HH m c s d := by
  entry_read
  pointwise []
  rfl

theorem e3 (d : Fin 2048) : V m c main_arg1 (ix2 0 d) = GG m c d := by
  entry_read
  rfl

theorem e4 (d : Fin 2048) (k : Fin 11264) : V m c main_v11 (ix2 d k) = WW m c d k := by
  entry_read
  pointwise []
  rfl

/-! ## The blocks a grid point loads -/

theorem b0 (t : Fin cfg0.N) (s n : Fin 512) : (show FVec Ideal S2x512x512 .bf16 from iblk m c 0 t) (ix3 0 s n) = DU m c (row t s) (lo (col t n)) := by
  refine Eq.trans ?_ (e0 m c (row t s) (col t n))
  blk_ext [iblk, idx t, row, col]

theorem b0' (t : Fin cfg0.N) (s n : Fin 512) : (show FVec Ideal S2x512x512 .bf16 from iblk m c 0 t) (ix3 1 s n) = DU m c (row t s) (hi (col t n)) := by
  refine Eq.trans ?_ (e0' m c (row t s) (col t n))
  blk_ext [iblk, idx t, row, col]

theorem b1 (t : Fin cfg0.N) (s : Fin 512) (d : Fin 2048) : (show FVec Ideal S512x2048 .f32 from iblk m c 1 t) (ix2 s d) = RS m c (row t s) d := by
  refine Eq.trans ?_ (e1 m c (row t s) d)
  blk_ext [iblk, idx t, row]

theorem b2 (t : Fin cfg0.N) (s : Fin 512) (d : Fin 2048) : (show FVec Ideal S512x2048 .f32 from iblk m c 2 t) (ix2 s d) = HH m c (row t s) d := by
  refine Eq.trans ?_ (e2 m c (row t s) d)
  blk_ext [iblk, idx t, row]

theorem b3 (t : Fin cfg0.N) (d : Fin 2048) : (show FVec Ideal S1x2048 .f32 from iblk m c 3 t) (ix2 0 d) = GG m c d := by
  refine Eq.trans ?_ (e3 m c d)
  blk_ext [iblk, idx t]

theorem b4 (t : Fin cfg0.N) (d : Fin 2048) (n : Fin 512) : (show FVec Ideal S2048x512 .bf16 from iblk m c 4 t) (ix2 d n) = WW m c d (lo (col t n)) := by
  refine Eq.trans ?_ (e4 m c d _)
  blk_ext [iblk, idx t, lo, hi, col]

theorem b5 (t : Fin cfg0.N) (d : Fin 2048) (n : Fin 512) : (show FVec Ideal S2048x512 .bf16 from iblk m c 5 t) (ix2 d n) = WW m c d (hi (col t n)) := by
  refine Eq.trans ?_ (e4 m c d _)
  blk_ext [iblk, idx t, lo, hi, col]

/-! ## The product over the projection's columns -/

/-- A grid point's part of the normed row's cotangent. -/
def part (t : Fin cfg0.N) (y : S512x2048.Idx) : EReal :=
  (∑ k : Fin 512, DU m c (row t (y 0)) (lo (col t k)) * WW m c (y 1) (lo (col t k)))
    + ∑ k : Fin 512, DU m c (row t (y 0)) (hi (col t k)) * WW m c (y 1) (hi (col t k))

theorem part_eq (t : Fin cfg0.N) (P : FVec Ideal S512x2048 .f32) (X0 : FVec Ideal S2x512x512 .bf16) (X4 X5 : FVec Ideal S2048x512 .bf16)
    (h0 : ∀ s n, X0 (ix3 0 s n) = DU m c (row t s) (lo (col t n))) (h0' : ∀ s n, X0 (ix3 1 s n) = DU m c (row t s) (hi (col t n)))
    (h4 : ∀ d n, X4 (ix2 d n) = WW m c d (lo (col t n))) (h5 : ∀ d n, X5 (ix2 d n) = WW m c d (hi (col t n))) (h h') (y : S512x2048.Idx) :
    k0_pay2 (F := Ideal) P (View.ld (Val := Elt Ideal) (e' := .bf16) X0 (Rect.unit (s := S2x512x512) ![0, 0, 0] ![1, 512, 512] h)) X4
      (View.ld (Val := Elt Ideal) (e' := .bf16) X0 (Rect.unit (s := S2x512x512) ![1, 0, 0] ![1, 512, 512] h')) X5 y = (P y + part m c t y : EReal) := by
  idx_vars y
  refine (p2 _ _ _ _ _ y0 y1).trans (congrArg (P (ix2 y0 y1) + · : EReal → EReal) ?_)
  refine congrArg₂ (fun a b : EReal => a + b) (Finset.sum_congr rfl fun k _ => ?_) (Finset.sum_congr rfl fun k _ => ?_)
  · exact congrArg₂ (fun a b : EReal => a * b) ((ldg 0 X0 h y0 k).trans (h0 _ _)) (h4 _ _)
  · exact congrArg₂ (fun a b : EReal => a * b) ((ldg 1 X0 h' y0 k).trans (h0' _ _)) (h5 _ _)

theorem accA (t : Fin cfg0.N) (h0 : t.val % 11 = 0) (y : S512x2048.Idx) : (outsAt0 m c t.val t.isLt).2.2 y = (0 + part m c t y : EReal) := by
  rw [outsAt0_A m c t h0 (by omega)]
  frame_out
  refine (part_eq m c t _ _ _ _ (b0 m c t) (b0' m c t) (b4 m c t) (b5 m c t) _ _ y).trans ?_
  rw [p1]

theorem accB (t : Fin cfg0.N) (h0 : ¬t.val % 11 = 0) (y : S512x2048.Idx) :
    (outsAt0 m c t.val t.isLt).2.2 y = ((outsAt0 m c (t.val - 1) (by have := t.isLt; omega)).2.2 y + part m c t y : EReal) := by
  by_cases h1 : t.val % 11 = 10
  · by_cases h2 : t.val < 11
    · rw [outsAt0_C m c t h0 h1 h2 (by omega)]
      frame_out
      rw [read_unread_whole]
      exact part_eq m c t _ _ _ _ (b0 m c t) (b0' m c t) (b4 m c t) (b5 m c t) _ _ y
    · rw [outsAt0_D m c t h0 h1 h2 (by omega)]
      frame_out
      rw [read_unread_whole]
      exact part_eq m c t _ _ _ _ (b0 m c t) (b0' m c t) (b4 m c t) (b5 m c t) _ _ y
  · rw [outsAt0_B m c t h0 h1]
    frame_out
    rw [read_unread_whole]
    exact part_eq m c t _ _ _ _ (b0 m c t) (b0' m c t) (b4 m c t) (b5 m c t) _ _ y

/-- The accumulator at the last point of a row block. -/
theorem acc (t : Fin cfg0.N) (hr : t.val % 11 = 10) (y : S512x2048.Idx) : (outsAt0 m c t.val t.isLt).2.2 y = DN m c (row t (y 0)) (y 1) := by
  refine (Pipeline.eq_sum_fin_of_reset_step_apply_of_flush (M := EReal) (fun n h => (outsAt0 m c n h).2.2) 11 (fun _ => 0) (part m c)
    (accA m c) (accB m c) t hr y).trans ?_
  rw [zero_add]
  refine (Finset.sum_add_distrib).trans (Eq.trans ?_ (Fin.sum_univ_add (a := 5632) (b := 5632) fun k => DU m c (row t (y 0)) k * WW m c (y 1) k).symm)
  have hrow : ∀ s : Fin 11, row ⟨11 * (t.val / 11) + s.val, Pipeline.run_point_lt_of_flush t hr s⟩ (y 0) = row t (y 0) :=
    fun s => Fin.ext (by dsimp only [row]; omega)
  refine congrArg₂ (fun a b : EReal => a + b) ?_ ?_
  · refine Fin.sum_mul_add_congr fun s k hl => ?_
    have hcol : lo (col ⟨11 * (t.val / 11) + s.val, Pipeline.run_point_lt_of_flush t hr s⟩ k) = lo ⟨s.val * 512 + k.val, hl⟩ :=
      congrArg lo (Fin.ext (by dsimp only [col]; omega))
    rw [hrow, hcol]
    rfl
  · refine Fin.sum_mul_add_congr fun s k hl => ?_
    have hcol : hi (col ⟨11 * (t.val / 11) + s.val, Pipeline.run_point_lt_of_flush t hr s⟩ k) = hi ⟨s.val * 512 + k.val, hl⟩ :=
      congrArg hi (Fin.ext (by dsimp only [col]; omega))
    rw [hrow, hcol]
    rfl

/-! ## What the points leave -/

/-- What the first result holds: its lower rows the gradient, the upper ones what it was given. -/
def O6 (y : S2048x2048.Idx) : EReal :=
  if (y 0).val < 1024 then m (c, Proc.tc.devRef main_arg5) y else RS m c (y 0) (y 1) + normK (DN m c (y 0)) (HH m c (y 0)) (GG m c) (y 1)

/-- A row's part of the scale's gradient. -/
def sg (d s : Fin 2048) : EReal := DN m c s d * (HH m c s d * rinv (HH m c s))

/-- What the second result holds. -/
def O7 (y : S1x2048.Idx) : EReal := ∑ s : Fin 1024, sg m c (y 1) (Fin.natAdd 1024 s)

/-- A block's gradient is the array's at the block's rows. -/
theorem dh_block (t : Fin cfg0.N) (H R A : FVec Ideal S512x2048 .f32) (G : FVec Ideal S1x2048 .f32) (hH : ∀ s d, H (ix2 s d) = HH m c (row t s) d)
    (hR : ∀ s d, R (ix2 s d) = RS m c (row t s) d) (hA : ∀ y, A y = DN m c (row t (y 0)) (y 1)) (hG : ∀ d, G (ix2 0 d) = GG m c d)
    (y : S512x2048.Idx) : DH H R A G y = O6 m c (ix2 (row t (y 0)) (y 1)) := by
  idx_vars y
  refine Eq.trans ?_ (if_neg (show ¬(row t y0).val < 1024 by dsimp only [row]; omega)).symm
  exact congrArg₂ (fun a b : EReal => a + b) (hR _ _)
    (by
      show normK (fun d => A (ix2 y0 d)) (fun d => H (ix2 y0 d)) (fun d => G (ix2 0 d)) y1 = _
      rw [funext fun d => hA (ix2 y0 d), funext (hH y0), funext hG]
      rfl)

/-- A block's part of the scale's gradient. -/
def part7 (t : Fin cfg0.N) (d : Fin 2048) : EReal := ∑ s : Fin 512, sg m c d (row t s)

theorem part_block (t : Fin cfg0.N) (H A : FVec Ideal S512x2048 .f32) (hH : ∀ s d, H (ix2 s d) = HH m c (row t s) d)
    (hA : ∀ y, A y = DN m c (row t (y 0)) (y 1)) (d : Fin 2048) : ∑ s : Fin 512, dgr H A s d = part7 m c t d := by
  refine Finset.sum_congr rfl fun s _ => ?_
  rw [dgr, hA, hH, funext (hH s)]
  rfl

theorem out6 (t : Fin cfg0.N) (h1 : t.val % 11 = 10) (y : S512x2048.Idx) :
    (outsAt0 m c t.val t.isLt).1 y = O6 m c (ix2 (row t (y 0)) (y 1)) := by
  have A : ∀ y, (outsAt0 m c t.val t.isLt).2.2 y = DN m c (row t (y 0)) (y 1) := acc m c t h1
  by_cases h2 : t.val < 11
  · rw [outsAt0_C m c t (by omega) h1 h2 (by omega)] at A ⊢
    frame_out
    refine ((loop _ _ _ _ _ _ _ _ _ _ _ _ _ _ _ _ _ _ _ _ _ _ _ _ _ _ _ _ _ _ _ _ _ _ (read_unread _ _) (read_unread _ _) (read_unread _ _) rfl).1 y).trans ?_
    exact dh_block m c t _ _ _ _ (b2 m c t) (b1 m c t) (fun y => (by frame_out : _ = _).trans (A y)) (b3 m c t) y
  · rw [outsAt0_D m c t (by omega) h1 h2 (by omega)] at A ⊢
    frame_out
    refine ((loop _ _ _ _ _ _ _ _ _ _ _ _ _ _ _ _ _ _ _ _ _ _ _ _ _ _ _ _ _ _ _ _ _ _ (read_unread _ _) (read_unread _ _) (read_unread _ _) rfl).1 y).trans ?_
    exact dh_block m c t _ _ _ _ (b2 m c t) (b1 m c t) (fun y => (by frame_out : _ = _).trans (A y)) (b3 m c t) y

theorem carry (t : Fin cfg0.N) (h1 : ¬t.val % 11 = 10) (h : 0 < t.val) :
    (outsAt0 m c t.val t.isLt).2.1 = (outsAt0 m c (t.val - 1) (by have := t.isLt; omega)).2.1 := by
  by_cases h0 : t.val % 11 = 0
  · rw [outsAt0_A m c t h0 h1]
    rfl
  · rw [outsAt0_B m c t h0 h1]
    rfl

/-- The second result's block at the last point of the first row block. -/
theorem dgC (t : Fin cfg0.N) (h1 : t.val % 11 = 10) (h2 : t.val < 11) (d : Fin 2048) :
    (outsAt0 m c t.val t.isLt).2.1 (ix2 0 d) = part7 m c t d := by
  have A : ∀ y, (outsAt0 m c t.val t.isLt).2.2 y = DN m c (row t (y 0)) (y 1) := acc m c t h1
  rw [outsAt0_C m c t (by omega) h1 h2 (by omega)] at A ⊢
  frame_out
  refine ((loop _ _ _ _ _ _ _ _ _ _ _ _ _ _ _ _ _ _ _ _ _ _ _ _ _ _ _ _ _ _ _ _ _ _ (read_unread _ _) (read_unread _ _) (read_unread _ _) rfl).2 d).trans ?_
  rw [p3, zero_add]
  exact part_block m c t _ _ (b2 m c t) (fun y => (by frame_out : _ = _).trans (A y)) d

/-- The second result's block at the last point of the second. -/
theorem dgD (t : Fin cfg0.N) (h1 : t.val % 11 = 10) (h2 : ¬t.val < 11) (d : Fin 2048) :
    (outsAt0 m c t.val t.isLt).2.1 (ix2 0 d) = ((outsAt0 m c (t.val - 1) (by have := t.isLt; omega)).2.1 (ix2 0 d) + part7 m c t d : EReal) := by
  have A : ∀ y, (outsAt0 m c t.val t.isLt).2.2 y = DN m c (row t (y 0)) (y 1) := acc m c t h1
  rw [outsAt0_D m c t (by omega) h1 h2 (by omega)] at A ⊢
  frame_out
  refine (p9 _ _ d).trans (congrArg ((outsAt0 m c (t.val - 1) _).2.1 (ix2 0 d) + · : EReal → EReal) ?_)
  refine ((loop _ _ _ _ _ _ _ _ _ _ _ _ _ _ _ _ _ _ _ _ _ _ _ _ _ _ _ _ _ _ _ _ _ _ (read_unread _ _) (read_unread _ _) (read_unread _ _) rfl).2 d).trans ?_
  rw [p3, zero_add]
  exact part_block m c t _ _ (b2 m c t) (fun y => (by frame_out : _ = _).trans (A y)) d

/-- Between the two the second result's block is kept. -/
theorem kept (j : ℕ) (hj : j < 11) (h h') : (outsAt0 m c (10 + j) h).2.1 = (outsAt0 m c 10 h').2.1 := by
  induction j with
  | zero => rfl
  | succ j ih =>
    have h'' : 10 + j < cfg0.N := Nat.lt_of_succ_lt h
    exact (carry m c ⟨10 + (j + 1), h⟩ (by dsimp only; omega) (by dsimp only; omega)).trans (ih (by omega) h'')

/-- The second result's block at the last point. -/
theorem out7 (t : Fin cfg0.N) (ht : t.val = 21) (y : S1x2048.Idx) : (outsAt0 m c t.val t.isLt).2.1 y = O7 m c y := by
  idx_vars y
  obtain rfl : y0 = 0 := Subsingleton.elim _ _
  have h10 : 10 < cfg0.N := by have := t.isLt; omega
  have h20 : 20 < cfg0.N := by have := t.isLt; omega
  obtain ⟨n, hn⟩ := t
  obtain rfl : n = 21 := ht
  refine (dgD m c ⟨21, hn⟩ (by dsimp only) (by dsimp only; omega) y1).trans ?_
  refine (congrArg (fun f : FVec Ideal S1x2048 .f32 => (f (ix2 0 y1) + part7 m c ⟨21, hn⟩ y1 : EReal)) (kept m c 10 (by omega) h20 h10)).trans ?_
  refine (congrArg (fun x : EReal => x + part7 m c ⟨21, hn⟩ y1) (dgC m c ⟨10, h10⟩ (by dsimp only) (by dsimp only; omega) y1)).trans ?_
  refine Eq.trans ?_ (Fin.sum_univ_add (a := 512) (b := 512) fun s => sg m c y1 (Fin.natAdd 1024 s)).symm
  refine congrArg₂ (fun a b : EReal => a + b) (Finset.sum_congr rfl fun s _ => congrArg (sg m c y1) (Fin.ext ?_))
    (Finset.sum_congr rfl fun s _ => congrArg (sg m c y1) (Fin.ext ?_))
  · show 512 * (2 + 10 / 11) + s.val = 1024 + s.val
    omega
  · show 512 * (2 + 21 / 11) + s.val = 1024 + (512 + s.val)
    omega

/-! ## The results after the run -/

theorem e6 (y : S2048x2048.Idx) : V m c main_v12_0 y = m (c, Proc.tc.devRef main_arg5) y := by
  entry_read
  rfl

theorem final6 : (dats m 0 c).arrAt 6 cfg0.N = O6 m c := by
  have hG : ∀ t : Fin cfg0.N, (cfg0.win 6).flush t = true → (dats m 0 c).flushed 6 t = ((cfg0.win 6).blk t).view.read (Elt Ideal) (O6 m c) := by
    intro t hf
    funext y
    rw [flushed6]
    blk_simp
    refine (out6 m c t ((flush0_6 t).mp hf) y).trans ?_
    refine congrArg (O6 m c) ?_
    blk_point [idx t, row]
  funext i
  by_cases hi : (i 0).val < 1024
  · refine (entry6 m c i fun t hf hm => ?_).trans ?_
    · mem_blk [idx t] at hm
      omega
    · exact (e6 m c i).trans (if_pos hi).symm
  · have hN : cfg0.N = 22 := N_0
    have hi' : (i 0).val < 2048 := (i 0).isLt
    have hlt : 11 * (((i 0).val - 1024) / 512) + 10 < cfg0.N := by omega
    refine (dats m 0 c).arrAt_apply_of_mem 6 _ hG cfg0.N ⟨11 * (((i 0).val - 1024) / 512) + 10, hlt⟩ i hlt ((flush0_6 _).mpr (by dsimp only; omega)) ?_
    mem_blk [idx ⟨11 * (((i 0).val - 1024) / 512) + 10, hlt⟩]
    have : (i 1).val < 2048 := (i 1).isLt
    dsimp only
    omega

theorem final7 : (dats m 0 c).arrAt 7 cfg0.N = O7 m c := by
  refine (dats m 0 c).arrAt_eq_of_covers 7 _ (by decide +kernel) fun t hf y => ?_
  blk_simp
  rw [after0_7, out7 m c t (by have := (flush0_7 t).mp hf; have := N22 t; omega)]
  refine congrArg (O7 m c) ?_
  blk_point [idx t]

end Cert.DxBIdeal.Read

end
-- ==== Proof.DxBRef.lean ====
/- The reference of the first feed-forward layer's norm and input-projection gradient, lower half of the rows, read at an index. -/
module

public import proofs.«01_k».proof.Proof.Gen.DxBRefIdeal.Run
public import proofs.«01_k».proof.Proof.NormRef

@[expose] public section

set_option maxRecDepth 16384

noncomputable section

namespace Cert.DxBRefIdeal.Read

open Cert.DxBRefIdeal Cert.DxBRefIdeal.Gen Cert.DxBRefIdeal.Value Cert.Reals Cert.Spec
open Idealize.ShloMosaic Idealize.ShloMosaic.TcCoe Idealize.SL.Sem
open scoped BigOperators

/-- Row `s` of the lower half. -/
abbrev low (s : Fin 1024) : Fin 2048 := Fin.natAdd 1024 s

/-- The lower half of an array's rows. -/
def cut (x : FVec Ideal S1x2048x2048 .f32) : FVec Ideal S1x1024x2048 .f32 :=
  extractStridedSlice S1x1024x2048 ![0, 1024, 0] x slices_S1x2048x2048_S1x1024x2048_0_1024_0

/-- The normed rows' cotangent. -/
def DNr (x2 x3 : FVec Ideal S1x2048x11264 .f32) : FVec Ideal S1x1024x2048 .f32 :=
  Host.dotGeneral dot_S1x1024x11264_S2048x11264_S1x1024x2048_2_1_01_0_n_n none (extractStridedSlice S1x1024x11264 ![0, 1024, 0] x3 slices_S1x2048x11264_S1x1024x11264_0_1024_0)
    (shapeCast _ x2 shapeCasts_S1x2048x11264_S2048x11264)

/-- The lower rows of the first result. -/
def LOW (x0 : FVec Ideal S1x2048x2048 .f32) (x1 : FVec Ideal S1x2048 .f32) (x2 x3 : FVec Ideal S1x2048x11264 .f32) (x4 : FVec Ideal S1x2048x2048 .f32) :
    FVec Ideal S1024x2048 .f32 :=
  shapeCast _ (addf (cut x4) (NormRef.DX (DNr x2 x3) (cut x0) x1)) shapeCasts_S1x1024x2048_S1024x2048

/-- The first result as a function of the arguments. -/
def R0 (x0 : FVec Ideal S1x2048x2048 .f32) (x1 : FVec Ideal S1x2048 .f32) (x2 x3 : FVec Ideal S1x2048x11264 .f32) (x4 : FVec Ideal S1x2048x2048 .f32)
    (x5 : FVec Ideal S2048x2048 .f32) : FVec Ideal S2048x2048 .f32 :=
  concatenate S2048x2048 0 [⟨S1024x2048, extractStridedSlice S1024x2048 ![0, 0] x5 slices_S2048x2048_S1024x2048_0_0⟩, ⟨S1024x2048, LOW x0 x1 x2 x3 x4⟩]
    concatenates_S1024x2048_S1024x2048_S2048x2048_d0

/-- The second result. -/
def R1 (x0 : FVec Ideal S1x2048x2048 .f32) (x2 x3 : FVec Ideal S1x2048x11264 .f32) : FVec Ideal S1x2048 .f32 := NormRef.DGR (DNr x2 x3) (cut x0)

variable (m : (ℓ : Loc nD τ sig) → Buf (Elt Ideal) ℓ) (ρ : Dev nD → PrngReg) (c : Dev nD)

theorem out0_eq : res_main_v48 (F := Ideal) m c = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v48
  rfl

/-- The reference's run with its results as functions of its arguments. -/
theorem run' : θ_run defs (onTc (τ := τ) (main (F := Ideal))) ⟨m, fun _ => 0, ρ⟩ fun r => ∀ c : Dev nD,
      r.2.mem ((c.tc : Thread nD τ).loc main_v48) = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v43) = R1 (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans (out0_eq m c), (h c).2.1.trans rfl, (h c).2.2⟩) (run m ρ)

theorem cut_at (x : FVec Ideal S1x2048x2048 .f32) (s : Fin 1024) (d : Fin 2048) : cut x (ix3 0 s d) = x (ix3 0 (low s) d) := by
  pointwise [cut]
  rfl

theorem DNr_at (x2 x3 : FVec Ideal S1x2048x11264 .f32) (s : Fin 1024) (d : Fin 2048) :
    DNr x2 x3 (ix3 0 s d) = ∑ k : Fin 11264, x3 (ix3 0 (low s) k) * x2 (ix3 0 d k) := by
  pointwise [DNr]
  rfl

theorem LOW_at (x0 : FVec Ideal S1x2048x2048 .f32) (x1 : FVec Ideal S1x2048 .f32) (x2 x3 : FVec Ideal S1x2048x11264 .f32) (x4 : FVec Ideal S1x2048x2048 .f32)
    (s : Fin 1024) (d : Fin 2048) : LOW x0 x1 x2 x3 x4 (ix2 s d) =
      x4 (ix3 0 (low s) d) + normR (fun d => DNr x2 x3 (ix3 0 s d)) (fun d => x0 (ix3 0 (low s) d)) (fun d => x1 (ix2 0 d)) d := by
  pointwise [LOW]
  refine congrArg₂ (fun a b : EReal => a + b) (cut_at x4 s d) ((NormRef.DX_at (.inr rfl) _ _ _ s d).trans ?_)
  rw [funext fun d => cut_at x0 s d]

theorem R0_low (x0 : FVec Ideal S1x2048x2048 .f32) (x1 : FVec Ideal S1x2048 .f32) (x2 x3 : FVec Ideal S1x2048x11264 .f32) (x4 : FVec Ideal S1x2048x2048 .f32)
    (x5 : FVec Ideal S2048x2048 .f32) (s : Fin 1024) (d : Fin 2048) : R0 x0 x1 x2 x3 x4 x5 (ix2 (low s) d) = LOW x0 x1 x2 x3 x4 (ix2 s d) := by
  pointwise [R0]
  exact (dif_neg (show ¬1024 + s.val < 1024 by omega)).trans
    (congrArg (fun i => LOW x0 x1 x2 x3 x4 (ix2 i d)) (Fin.ext (show 1024 + s.val - 1024 = s.val by omega)))

theorem R0_high (x0 : FVec Ideal S1x2048x2048 .f32) (x1 : FVec Ideal S1x2048 .f32) (x2 x3 : FVec Ideal S1x2048x11264 .f32) (x4 : FVec Ideal S1x2048x2048 .f32)
    (x5 : FVec Ideal S2048x2048 .f32) (s : Fin 1024) (d : Fin 2048) : R0 x0 x1 x2 x3 x4 x5 (ix2 (Fin.castAdd 1024 s) d) = x5 (ix2 (Fin.castAdd 1024 s) d) := by
  pointwise [R0]
  exact dif_pos s.isLt

end Cert.DxBRefIdeal.Read

end
-- ==== Proof.DxB.lean ====
/- The first feed-forward layer's norm and input-projection gradient, lower half of the rows: the kernel's results are the reference's on finite arguments. -/
module

public import proofs.«01_k».proof.Defs
public import proofs.«01_k».proof.Proof.Gen.Pre_finite_dxb
public import proofs.«01_k».proof.Proof.DxBKernel
public import proofs.«01_k».proof.Proof.DxBRef

@[expose] public section

set_option maxRecDepth 16384

noncomputable section

namespace Cert.DxBPair

open Idealize.ShloMosaic Idealize.ShloMosaic.TcCoe Idealize.SL.Sem Cert.Reals Cert.Spec
open scoped BigOperators

section Values

open Cert.DxBIdeal Cert.DxBIdeal.Read
open Cert.DxBRefIdeal.Read

variable (m : (ℓ : Loc nD τ sig) → Buf (Elt Ideal) ℓ) (c : Dev nD)

/-- An argument's array. -/
abbrev X0 : FVec Ideal S1x2048x2048 .f32 := m (c, Proc.tc.devRef main_arg0)
abbrev X1 : FVec Ideal S1x2048 .f32 := m (c, Proc.tc.devRef main_arg1)
abbrev X2 : FVec Ideal S1x2048x11264 .f32 := m (c, Proc.tc.devRef main_arg2)
abbrev X3 : FVec Ideal S1x2048x11264 .f32 := m (c, Proc.tc.devRef main_arg3)
abbrev X4 : FVec Ideal S1x2048x2048 .f32 := m (c, Proc.tc.devRef main_arg4)
abbrev X5 : FVec Ideal S2048x2048 .f32 := m (c, Proc.tc.devRef main_arg5)

/-- Every element of the arguments that are multiplied is a real number. -/
structure Fin' : Prop where
  h0 : ∀ i, IsReal (X0 m c i)
  h1 : ∀ i, IsReal (X1 m c i)
  h2 : ∀ i, IsReal (X2 m c i)
  h3 : ∀ i, IsReal (X3 m c i)

variable {m c}

theorem dn (s : Fin 1024) (d : Fin 2048) : DNr (X2 m c) (X3 m c) (ix3 0 s d) = DN m c (low s) d := DNr_at ..

theorem isReal_dn (h : Fin' m c) (s d : Fin 2048) : IsReal (DN m c s d) :=
  IsReal.sum _ fun k => (h.h3 (ix3 0 s k)).mul (h.h2 (ix3 0 d k))

/-- The first result: the cotangent of the layer's input. -/
theorem out0 (h : Fin' m c) : O6 m c = R0 (X0 m c) (X1 m c) (X2 m c) (X3 m c) (X4 m c) (X5 m c) := by
  funext y
  idx_vars y
  by_cases hy : y0.val < 1024
  · obtain ⟨s, rfl⟩ : ∃ s : Fin 1024, y0 = Fin.castAdd 1024 s := ⟨⟨y0.val, hy⟩, rfl⟩
    exact (if_pos hy).trans (R0_high _ _ _ _ _ _ s y1).symm
  · obtain ⟨s, rfl⟩ : ∃ s : Fin 1024, y0 = low s := ⟨⟨y0.val - 1024, by omega⟩, Fin.ext (by show y0.val = 1024 + (y0.val - 1024); omega)⟩
    refine (if_neg hy).trans (Eq.trans ?_ ((R0_low _ _ _ _ _ _ s y1).trans (LOW_at _ _ _ _ _ s y1)).symm)
    rw [funext (dn s)]
    exact congrArg (X4 m c (ix3 0 (low s) y1) + · : EReal → EReal)
      (norm_eq (isReal_dn h (low s)) (fun d => h.h0 (ix3 0 (low s) d)) (fun d => h.h1 (ix2 0 d)) y1)

/-- The second result: the gradient of the norm's scale. -/
theorem out1 : O7 m c = R1 (X0 m c) (X2 m c) (X3 m c) := by
  funext y
  idx_vars y
  obtain rfl : y0 = 0 := Subsingleton.elim _ _
  refine Eq.trans ?_ (NormRef.DGR_at (.inr rfl) _ _ y1).symm
  refine Finset.sum_congr rfl fun s _ => ?_
  rw [funext fun d => cut_at (X0 m c) s d, cut_at, dn s y1]
  exact mul_comm _ _

end Values

theorem fin_of (m : (ℓ : Loc Cert.DxBIdeal.nD Cert.DxBIdeal.τ Cert.DxBIdeal.sig) → Buf (Elt Ideal) ℓ)
    (h : Cert.Pre_DxBIdeal_finite_dxb m) (c : Dev Cert.DxBIdeal.nD) : Fin' m c := by
  obtain ⟨h0, h1, h2, h3⟩ := h c
  exact ⟨real_of _ _ h0, real_of _ _ h1, real_of _ _ h2, real_of _ _ h3⟩

/-- The kernel computes the reference on finite arguments. -/
theorem algebraic : Cert.algebraic_DxBIdeal_DxBRefIdeal_pre_finite_dxb := by
  pair_intro
  · run_from Cert.DxBIdeal.Value.run_blocks m g
  · run_from Cert.DxBRefIdeal.Read.run' m' g'
    · exact ((Cert.DxBIdeal.Read.final6 m c).trans (out0 (fin_of m hpre c))).symm
    · exact ((Cert.DxBIdeal.Read.final7 m c).trans out1).symm

end Cert.DxBPair

end
-- ==== Proof.DxAKernel.lean ====
/- The kernel of the first feed-forward layer's norm and input-projection gradient, upper half of the rows, read at an index. -/
module

public import proofs.«01_k».proof.Proof.Gen.DxAIdeal.Frame
public import Idealize.ShloMosaic.Lib.Pipeline.ValueKit
public import Idealize.ShloMosaic.Lib.Pipeline.ReadBack
public import Idealize.ShloMosaic.Lib.VecWindow
public import Idealize.ShloMosaic.Lib.Claim
public import Idealize.ShloMosaic.Lib.StableHlo.ReadAt
public import proofs.«01_k».proof.Proof.DxBKernel

@[expose] public section

set_option maxRecDepth 16384

noncomputable section

namespace Cert.DxAIdeal.Read

open Cert.DxAIdeal Cert.DxAIdeal.Gen Cert.Reals Cert.Spec
open Idealize.ShloMosaic Idealize.ShloMosaic.TcCoe Idealize.SL.Sem
open Cert.Trips (ld64 emb64 mem64 ix64 sh sh_eq sum_sh DH dgr ldg)
open Idealize.ShloMosaic.Pipeline (Dat)
open Memref.IsWhole (read_unread)
open Cert.DxBIdeal.Read (p2 p7 p8 p9 off trips dh_of dgr_of lo hi)
open scoped BigOperators

/-! ## The loop over the rows of a block -/

theorem p1 (y : S512x2048.Idx) : k0_pay1 (F := Ideal) y = (0 : EReal) := Cert.DxBIdeal.Read.p1 y

theorem p3 (d : Fin 2048) : k0_pay3 (F := Ideal) (ix2 0 d) = (0 : EReal) := Cert.DxBIdeal.Read.p3 d

section Loop

variable (𝒱 : Variants) (c : Dev nD) (bd : Option 𝒱.V) (i : grid0.Coords)
  (arg2 : Memref sig .tc .vmem S2x512x512 .bf16) (harg2 : arg2.IsWhole) (arg3 : Memref sig .tc .vmem S512x2048 .f32) (harg3 : arg3.IsWhole)
  (arg4 : Memref sig .tc .vmem S512x2048 .f32) (harg4 : arg4.IsWhole) (arg5 : Memref sig .tc .vmem S1x2048 .f32) (harg5 : arg5.IsWhole)
  (arg6 : Memref sig .tc .vmem S2048x512 .bf16) (harg6 : arg6.IsWhole) (arg7 : Memref sig .tc .vmem S2048x512 .bf16) (harg7 : arg7.IsWhole)
  (arg8 : Memref sig .tc .vmem S512x2048 .f32) (harg8 : arg8.IsWhole)
  (arg9 : Memref sig .tc .vmem S1x2048 .f32) (harg9 : arg9.IsWhole) (arg10 : Memref sig .tc .vmem S512x2048 .f32) (harg10 : arg10.IsWhole)
  (hc : k0_cond2 i = 1#1)
  (X3 : BufTy.Contents (Elt Ideal) arg3.view.ty) (X4 : BufTy.Contents (Elt Ideal) arg4.view.ty) (X5 : BufTy.Contents (Elt Ideal) arg5.view.ty)
  (X10 : BufTy.Contents (Elt Ideal) arg10.view.ty) (init : FVec Ideal S1x2048 .f32)
  (H R A : FVec Ideal S512x2048 .f32) (G : FVec Ideal S1x2048 .f32)

/-- The state of the loop before a trip: the result's pieces hold the gradient, and the carried sum is of the rows so far. -/
theorem state (h3 : arg3.view.read (Elt Ideal) X3 = R) (h4 : arg4.view.read (Elt Ideal) X4 = H) (h5 : arg5.view.read (Elt Ideal) X5 = G)
    (h10 : arg10.view.read (Elt Ideal) X10 = A) : ∀ n : ℕ, n ≤ k0_t1_loop.trips →
    let s := st_k0_t1 (F := Ideal) 𝒱 c bd i arg2 harg2 arg3 harg3 arg4 harg4 arg5 harg5 arg6 harg6 arg7 harg7 arg8 harg8 arg9 harg9 arg10 harg10 hc X3 X4 X5 X10 init n
    View.PiecesOf (Val := Elt Ideal) (DH H R A G) s.2
      ∧ (∀ d : Fin 2048, s.1 (ix2 0 d) = init (ix2 0 d) + ∑ k ∈ Finset.range n, sh (dgr H A · d) k)
      ∧ (∀ y : S512x2048.Idx, (y 0).val < 64 * n → ∃ p ∈ s.2, y ∈ p.1.set) := by
  intro n
  induction n with
  | zero => exact fun _ => ⟨trivial, fun d => (add_zero _).symm, fun y h => absurd h (by omega)⟩
  | succ n ih =>
    intro hn
    have hk : 64 * n + 64 ≤ 512 := by have : k0_t1_loop.trips = 8 := trips; omega
    have ho := off ⟨n, hn⟩
    obtain ⟨q1, q2, q3⟩ := ih (by omega)
    dsimp only
    rw [st_k0_t1_succ (F := Ideal) 𝒱 c bd i arg2 harg2 arg3 harg3 arg4 harg4 arg5 harg5 arg6 harg6 arg7 harg7 arg8 harg8 arg9 harg9 arg10 harg10 hc X3 X4 X5 X10 init ⟨n, hn⟩]
    unfold tripL_k0_t1 tripR_k0_t1 trip_k0_t1
    dsimp only
    subst h3 h4 h5 h10
    refine ⟨⟨fun x => ?_, q1⟩, fun d => ?_, fun y h => ?_⟩
    · refine Eq.trans ?_ (congrArg (DH _ _ _ _) (emb64 _ n hk ho (k0_off1_inb i ⟨n, hn⟩ hc) x)).symm
      rw [ix64 x]
      exact dh_of _ _ _ _ _ _ _ _ _ _ _ (fun d => ld64 _ n hk ho _ _ _ _) (fun d => ld64 _ n hk ho _ _ _ _) (ld64 _ n hk ho _ _ _ _) (View.readAt_full _ _ _)
    · rw [Finset.sum_range_succ, ← add_assoc, ← q2 d]
      refine (dgr_of _ _ _ _ _ _ n hk (fun i d => ld64 _ n hk ho _ _ _ _) (fun i d => ld64 _ n hk ho _ _ _ _)).trans (congrArg (_ + ·) ?_)
      exact (sh_eq (dgr _ _ · d) n hk).symm
    · by_cases hy : (y 0).val < 64 * n
      · obtain ⟨p, hp, hm⟩ := q3 y hy
        exact ⟨p, List.mem_cons_of_mem _ hp, hm⟩
      · exact ⟨_, List.mem_cons_self, mem64 _ n ho (k0_off1_inb i ⟨n, hn⟩ hc) y (by omega) (by omega)⟩

/-- The results' blocks and the carried row after the loop. -/
theorem loop (h3 : arg3.view.read (Elt Ideal) X3 = R) (h4 : arg4.view.read (Elt Ideal) X4 = H) (h5 : arg5.view.read (Elt Ideal) X5 = G)
    (h10 : arg10.view.read (Elt Ideal) X10 = A) :
    let s := st_k0_t1 (F := Ideal) 𝒱 c bd i arg2 harg2 arg3 harg3 arg4 harg4 arg5 harg5 arg6 harg6 arg7 harg7 arg8 harg8 arg9 harg9 arg10 harg10 hc X3 X4 X5 X10 init k0_t1_loop.trips
    (∀ y, View.canon (Val := Elt Ideal) s.2 y = DH H R A G y)
      ∧ ∀ d : Fin 2048, s.1 (ix2 0 d) = (init (ix2 0 d) + ∑ s : Fin 512, dgr H A s d : EReal) := by
  obtain ⟨q1, q2, q3⟩ := state 𝒱 c bd i arg2 harg2 arg3 harg3 arg4 harg4 arg5 harg5 arg6 harg6 arg7 harg7 arg8 harg8 arg9 harg9 arg10 harg10 hc X3 X4 X5 X10 init H R A G h3 h4 h5 h10 _ le_rfl
  refine ⟨fun y => ?_, fun d => by rw [q2 d, sum_sh _ _ (congrArg (· * 64) trips)]⟩
  have := View.canon_append_of_piecesOf (Val := Elt Ideal) _ [] _ q1 y (q3 y (by rw [trips]; exact (y 0).isLt))
  rwa [List.append_nil] at this

end Loop

variable (m : (ℓ : Loc nD τ sig) → Buf (Elt Ideal) ℓ) (c : Dev nD)

/-! ## What the region finds in its operands -/

theorem N22 (t : Fin cfg0.N) : t.val < 22 := by have := t.isLt; have : cfg0.N = 22 := N_0; omega

theorem idx : ∀ t : Fin cfg0.N, win0_0.index t = ![0, t.val / 11, t.val % 11] ∧ win0_1.index t = ![t.val / 11, 0] ∧ win0_2.index t = ![t.val / 11, 0]
    ∧ win0_3.index t = ![0, 0] ∧ win0_4.index t = ![0, t.val % 11] ∧ win0_5.index t = ![0, 11 + t.val % 11]
    ∧ win0_6.index t = ![t.val / 11, 0] ∧ win0_7.index t = ![0, 0] :=
  (by decide +kernel : ∀ t : Fin grid0.N, _)

/-- The row of the arrays that grid point `t` holds at row `s` of its block. -/
def row (t : Fin cfg0.N) (s : Fin 512) : Fin 2048 := ⟨512 * (t.val / 11) + s.val, by have := N22 t; omega⟩

/-- The column of the gate's half that grid point `t` holds. -/
def col (t : Fin cfg0.N) (n : Fin 512) : Fin 5632 := ⟨512 * (t.val % 11) + n.val, by have := N22 t; omega⟩

/-- The layer's input. -/
def HH (s d : Fin 2048) : EReal := m (c, Proc.tc.devRef main_arg0) (ix3 0 s d)

/-- The norm's scale. -/
def GG (d : Fin 2048) : EReal := m (c, Proc.tc.devRef main_arg1) (ix2 0 d)

/-- The projection's weight. -/
def WW (d : Fin 2048) (k : Fin 11264) : EReal := m (c, Proc.tc.devRef main_arg2) (ix3 0 d k)

/-- The projection's cotangent. -/
def DU (s : Fin 2048) (k : Fin 11264) : EReal := m (c, Proc.tc.devRef main_arg3) (ix3 0 s k)

/-- The residual's cotangent. -/
def RS (s d : Fin 2048) : EReal := m (c, Proc.tc.devRef main_arg4) (ix3 0 s d)

/-- The normed row's cotangent. -/
def DN (s d : Fin 2048) : EReal := ∑ k : Fin 11264, DU m c s k * WW m c d k

theorem V_eq (b : Ref sig .tc) : V m c b = StableHlo.after hostOps0 (fun b => m (c, b)) (Proc.tc.devRef b) :=
  congrArg (fun l => StableHlo.after l (fun b => m (c, b)) (Proc.tc.devRef b)) (List.append_nil hostOps0)

theorem e0 (s : Fin 2048) (n : Fin 5632) : V m c main_v7 (ix3 0 s n) = DU m c s (lo n) := by
  rw [V_eq]
  after_results
  pointwise []
  rfl

theorem e0' (s : Fin 2048) (n : Fin 5632) : V m c main_v7 (ix3 1 s n) = DU m c s (hi n) := by
  rw [V_eq]
  after_results
  pointwise []
  rfl

theorem e1 (s d : Fin 2048) : V m c main_v8 (ix2 s d) = RS m c s d := by
  rw [V_eq]
  after_results
  pointwise []
  rfl

theorem e2 (s d : Fin 2048) : V m c main_v9 (ix2 s d) = HH m c s d := by
  rw [V_eq]
  after_results
  pointwise []
  rfl

theorem e3 (d : Fin 2048) : V m c main_arg1 (ix2 0 d) = GG m c d := by
  rw [V_eq]
  after_results
  rfl

theorem e4 (d : Fin 2048) (k : Fin 11264) : V m c main_v11 (ix2 d k) = WW m c d k := by
  rw [V_eq]
  after_results
  pointwise []
  rfl

/-! ## The blocks a grid point loads -/

theorem b0 (t : Fin cfg0.N) (s n : Fin 512) : (show FVec Ideal S2x512x512 .bf16 from iblk m c 0 t) (ix3 0 s n) = DU m c (row t s) (lo (col t n)) := by
  refine Eq.trans ?_ (e0 m c (row t s) (col t n))
  blk_ext [iblk, idx t, row, col]

theorem b0' (t : Fin cfg0.N) (s n : Fin 512) : (show FVec Ideal S2x512x512 .bf16 from iblk m c 0 t) (ix3 1 s n) = DU m c (row t s) (hi (col t n)) := by
  refine Eq.trans ?_ (e0' m c (row t s) (col t n))
  blk_ext [iblk, idx t, row, col]

theorem b1 (t : Fin cfg0.N) (s : Fin 512) (d : Fin 2048) : (show FVec Ideal S512x2048 .f32 from iblk m c 1 t) (ix2 s d) = RS m c (row t s) d := by
  refine Eq.trans ?_ (e1 m c (row t s) d)
  blk_ext [iblk, idx t, row]

theorem b2 (t : Fin cfg0.N) (s : Fin 512) (d : Fin 2048) : (show FVec Ideal S512x2048 .f32 from iblk m c 2 t) (ix2 s d) = HH m c (row t s) d := by
  refine Eq.trans ?_ (e2 m c (row t s) d)
  blk_ext [iblk, idx t, row]

theorem b3 (t : Fin cfg0.N) (d : Fin 2048) : (show FVec Ideal S1x2048 .f32 from iblk m c 3 t) (ix2 0 d) = GG m c d := by
  refine Eq.trans ?_ (e3 m c d)
  blk_ext [iblk, idx t]

theorem b4 (t : Fin cfg0.N) (d : Fin 2048) (n : Fin 512) : (show FVec Ideal S2048x512 .bf16 from iblk m c 4 t) (ix2 d n) = WW m c d (lo (col t n)) := by
  refine Eq.trans ?_ (e4 m c d _)
  blk_ext [iblk, idx t, lo, hi, col]

theorem b5 (t : Fin cfg0.N) (d : Fin 2048) (n : Fin 512) : (show FVec Ideal S2048x512 .bf16 from iblk m c 5 t) (ix2 d n) = WW m c d (hi (col t n)) := by
  refine Eq.trans ?_ (e4 m c d _)
  blk_ext [iblk, idx t, lo, hi, col]

/-! ## The product over the projection's columns -/

/-- A grid point's part of the normed row's cotangent. -/
def part (t : Fin cfg0.N) (y : S512x2048.Idx) : EReal :=
  (∑ k : Fin 512, DU m c (row t (y 0)) (lo (col t k)) * WW m c (y 1) (lo (col t k)))
    + ∑ k : Fin 512, DU m c (row t (y 0)) (hi (col t k)) * WW m c (y 1) (hi (col t k))

theorem part_eq (t : Fin cfg0.N) (P : FVec Ideal S512x2048 .f32) (X0 : FVec Ideal S2x512x512 .bf16) (X4 X5 : FVec Ideal S2048x512 .bf16)
    (h0 : ∀ s n, X0 (ix3 0 s n) = DU m c (row t s) (lo (col t n))) (h0' : ∀ s n, X0 (ix3 1 s n) = DU m c (row t s) (hi (col t n)))
    (h4 : ∀ d n, X4 (ix2 d n) = WW m c d (lo (col t n))) (h5 : ∀ d n, X5 (ix2 d n) = WW m c d (hi (col t n))) (h h') (y : S512x2048.Idx) :
    k0_pay2 (F := Ideal) P (View.ld (Val := Elt Ideal) (e' := .bf16) X0 (Rect.unit (s := S2x512x512) ![0, 0, 0] ![1, 512, 512] h)) X4
      (View.ld (Val := Elt Ideal) (e' := .bf16) X0 (Rect.unit (s := S2x512x512) ![1, 0, 0] ![1, 512, 512] h')) X5 y = (P y + part m c t y : EReal) := by
  idx_vars y
  refine (p2 _ _ _ _ _ y0 y1).trans (congrArg (P (ix2 y0 y1) + · : EReal → EReal) ?_)
  refine congrArg₂ (fun a b : EReal => a + b) (Finset.sum_congr rfl fun k _ => ?_) (Finset.sum_congr rfl fun k _ => ?_)
  · exact congrArg₂ (fun a b : EReal => a * b) ((ldg 0 X0 h y0 k).trans (h0 _ _)) (h4 _ _)
  · exact congrArg₂ (fun a b : EReal => a * b) ((ldg 1 X0 h' y0 k).trans (h0' _ _)) (h5 _ _)

theorem accA (t : Fin cfg0.N) (h0 : t.val % 11 = 0) (y : S512x2048.Idx) : (outsAt0 m c t.val t.isLt).2.2 y = (0 + part m c t y : EReal) := by
  rw [outsAt0_A m c t h0 (by omega)]
  frame_out
  refine (part_eq m c t _ _ _ _ (b0 m c t) (b0' m c t) (b4 m c t) (b5 m c t) _ _ y).trans ?_
  rw [p1]

theorem accB (t : Fin cfg0.N) (h0 : ¬t.val % 11 = 0) (y : S512x2048.Idx) :
    (outsAt0 m c t.val t.isLt).2.2 y = ((outsAt0 m c (t.val - 1) (by have := t.isLt; omega)).2.2 y + part m c t y : EReal) := by
  by_cases h1 : t.val % 11 = 10
  · by_cases h2 : t.val < 11
    · rw [outsAt0_C m c t h0 h1 h2 (by omega)]
      frame_out
      rw [read_unread_whole]
      exact part_eq m c t _ _ _ _ (b0 m c t) (b0' m c t) (b4 m c t) (b5 m c t) _ _ y
    · rw [outsAt0_D m c t h0 h1 h2 (by omega)]
      frame_out
      rw [read_unread_whole]
      exact part_eq m c t _ _ _ _ (b0 m c t) (b0' m c t) (b4 m c t) (b5 m c t) _ _ y
  · rw [outsAt0_B m c t h0 h1]
    frame_out
    rw [read_unread_whole]
    exact part_eq m c t _ _ _ _ (b0 m c t) (b0' m c t) (b4 m c t) (b5 m c t) _ _ y

/-- The accumulator at the last point of a row block. -/
theorem acc (t : Fin cfg0.N) (hr : t.val % 11 = 10) (y : S512x2048.Idx) : (outsAt0 m c t.val t.isLt).2.2 y = DN m c (row t (y 0)) (y 1) := by
  refine (Pipeline.eq_sum_fin_of_reset_step_apply_of_flush (M := EReal) (fun n h => (outsAt0 m c n h).2.2) 11 (fun _ => 0) (part m c)
    (accA m c) (accB m c) t hr y).trans ?_
  rw [zero_add]
  refine (Finset.sum_add_distrib).trans (Eq.trans ?_ (Fin.sum_univ_add (a := 5632) (b := 5632) fun k => DU m c (row t (y 0)) k * WW m c (y 1) k).symm)
  have hrow : ∀ s : Fin 11, row ⟨11 * (t.val / 11) + s.val, Pipeline.run_point_lt_of_flush t hr s⟩ (y 0) = row t (y 0) :=
    fun s => Fin.ext (by dsimp only [row]; omega)
  refine congrArg₂ (fun a b : EReal => a + b) ?_ ?_
  · refine Fin.sum_mul_add_congr fun s k hl => ?_
    have hcol : lo (col ⟨11 * (t.val / 11) + s.val, Pipeline.run_point_lt_of_flush t hr s⟩ k) = lo ⟨s.val * 512 + k.val, hl⟩ :=
      congrArg lo (Fin.ext (by dsimp only [col]; omega))
    rw [hrow, hcol]
    rfl
  · refine Fin.sum_mul_add_congr fun s k hl => ?_
    have hcol : hi (col ⟨11 * (t.val / 11) + s.val, Pipeline.run_point_lt_of_flush t hr s⟩ k) = hi ⟨s.val * 512 + k.val, hl⟩ :=
      congrArg hi (Fin.ext (by dsimp only [col]; omega))
    rw [hrow, hcol]
    rfl

/-! ## What the points leave -/

/-- What the first result holds in its upper rows. -/
def O6 (y : S2048x2048.Idx) : EReal := RS m c (y 0) (y 1) + normK (DN m c (y 0)) (HH m c (y 0)) (GG m c) (y 1)

/-- A row's part of the scale's gradient. -/
def sg (d s : Fin 2048) : EReal := DN m c s d * (HH m c s d * rinv (HH m c s))

/-- What the second result holds. -/
def O7 (y : S1x2048.Idx) : EReal := ∑ s : Fin 1024, sg m c (y 1) (Fin.castAdd 1024 s)

/-- A block's gradient is the array's at the block's rows. -/
theorem dh_block (t : Fin cfg0.N) (H R A : FVec Ideal S512x2048 .f32) (G : FVec Ideal S1x2048 .f32) (hH : ∀ s d, H (ix2 s d) = HH m c (row t s) d)
    (hR : ∀ s d, R (ix2 s d) = RS m c (row t s) d) (hA : ∀ y, A y = DN m c (row t (y 0)) (y 1)) (hG : ∀ d, G (ix2 0 d) = GG m c d)
    (y : S512x2048.Idx) : DH H R A G y = O6 m c (ix2 (row t (y 0)) (y 1)) := by
  idx_vars y
  exact congrArg₂ (fun a b : EReal => a + b) (hR _ _)
    (by
      show normK (fun d => A (ix2 y0 d)) (fun d => H (ix2 y0 d)) (fun d => G (ix2 0 d)) y1 = _
      rw [funext fun d => hA (ix2 y0 d), funext (hH y0), funext hG]
      rfl)

/-- A block's part of the scale's gradient. -/
def part7 (t : Fin cfg0.N) (d : Fin 2048) : EReal := ∑ s : Fin 512, sg m c d (row t s)

theorem part_block (t : Fin cfg0.N) (H A : FVec Ideal S512x2048 .f32) (hH : ∀ s d, H (ix2 s d) = HH m c (row t s) d)
    (hA : ∀ y, A y = DN m c (row t (y 0)) (y 1)) (d : Fin 2048) : ∑ s : Fin 512, dgr H A s d = part7 m c t d := by
  refine Finset.sum_congr rfl fun s _ => ?_
  rw [dgr, hA, hH, funext (hH s)]
  rfl

theorem out6 (t : Fin cfg0.N) (h1 : t.val % 11 = 10) (y : S512x2048.Idx) :
    (outsAt0 m c t.val t.isLt).1 y = O6 m c (ix2 (row t (y 0)) (y 1)) := by
  have A : ∀ y, (outsAt0 m c t.val t.isLt).2.2 y = DN m c (row t (y 0)) (y 1) := acc m c t h1
  by_cases h2 : t.val < 11
  · rw [outsAt0_C m c t (by omega) h1 h2 (by omega)] at A ⊢
    frame_out
    refine ((loop _ _ _ _ _ _ _ _ _ _ _ _ _ _ _ _ _ _ _ _ _ _ _ _ _ _ _ _ _ _ _ _ (read_unread _ _) (read_unread _ _) (read_unread _ _) rfl).1 y).trans ?_
    exact dh_block m c t _ _ _ _ (b2 m c t) (b1 m c t) (fun y => (by frame_out : _ = _).trans (A y)) (b3 m c t) y
  · rw [outsAt0_D m c t (by omega) h1 h2 (by omega)] at A ⊢
    frame_out
    refine ((loop _ _ _ _ _ _ _ _ _ _ _ _ _ _ _ _ _ _ _ _ _ _ _ _ _ _ _ _ _ _ _ _ (read_unread _ _) (read_unread _ _) (read_unread _ _) rfl).1 y).trans ?_
    exact dh_block m c t _ _ _ _ (b2 m c t) (b1 m c t) (fun y => (by frame_out : _ = _).trans (A y)) (b3 m c t) y

theorem carry (t : Fin cfg0.N) (h1 : ¬t.val % 11 = 10) (h : 0 < t.val) :
    (outsAt0 m c t.val t.isLt).2.1 = (outsAt0 m c (t.val - 1) (by have := t.isLt; omega)).2.1 := by
  by_cases h0 : t.val % 11 = 0
  · rw [outsAt0_A m c t h0 h1]
    rfl
  · rw [outsAt0_B m c t h0 h1]
    rfl

/-- The second result's block at the last point of the first row block. -/
theorem dgC (t : Fin cfg0.N) (h1 : t.val % 11 = 10) (h2 : t.val < 11) (d : Fin 2048) :
    (outsAt0 m c t.val t.isLt).2.1 (ix2 0 d) = part7 m c t d := by
  have A : ∀ y, (outsAt0 m c t.val t.isLt).2.2 y = DN m c (row t (y 0)) (y 1) := acc m c t h1
  rw [outsAt0_C m c t (by omega) h1 h2 (by omega)] at A ⊢
  frame_out
  refine ((loop _ _ _ _ _ _ _ _ _ _ _ _ _ _ _ _ _ _ _ _ _ _ _ _ _ _ _ _ _ _ _ _ (read_unread _ _) (read_unread _ _) (read_unread _ _) rfl).2 d).trans ?_
  rw [p3, zero_add]
  exact part_block m c t _ _ (b2 m c t) (fun y => (by frame_out : _ = _).trans (A y)) d

/-- The second result's block at the last point of the second. -/
theorem dgD (t : Fin cfg0.N) (h1 : t.val % 11 = 10) (h2 : ¬t.val < 11) (d : Fin 2048) :
    (outsAt0 m c t.val t.isLt).2.1 (ix2 0 d) = ((outsAt0 m c (t.val - 1) (by have := t.isLt; omega)).2.1 (ix2 0 d) + part7 m c t d : EReal) := by
  have A : ∀ y, (outsAt0 m c t.val t.isLt).2.2 y = DN m c (row t (y 0)) (y 1) := acc m c t h1
  rw [outsAt0_D m c t (by omega) h1 h2 (by omega)] at A ⊢
  frame_out
  refine (p9 _ _ d).trans (congrArg ((outsAt0 m c (t.val - 1) _).2.1 (ix2 0 d) + · : EReal → EReal) ?_)
  refine ((loop _ _ _ _ _ _ _ _ _ _ _ _ _ _ _ _ _ _ _ _ _ _ _ _ _ _ _ _ _ _ _ _ (read_unread _ _) (read_unread _ _) (read_unread _ _) rfl).2 d).trans ?_
  rw [p3, zero_add]
  exact part_block m c t _ _ (b2 m c t) (fun y => (by frame_out : _ = _).trans (A y)) d

/-- Between the two the second result's block is kept. -/
theorem kept (j : ℕ) (hj : j < 11) (h h') : (outsAt0 m c (10 + j) h).2.1 = (outsAt0 m c 10 h').2.1 := by
  induction j with
  | zero => rfl
  | succ j ih =>
    have h'' : 10 + j < cfg0.N := Nat.lt_of_succ_lt h
    exact (carry m c ⟨10 + (j + 1), h⟩ (by dsimp only; omega) (by dsimp only; omega)).trans (ih (by omega) h'')

/-- The second result's block at the last point. -/
theorem out7 (t : Fin cfg0.N) (ht : t.val = 21) (y : S1x2048.Idx) : (outsAt0 m c t.val t.isLt).2.1 y = O7 m c y := by
  idx_vars y
  obtain rfl : y0 = 0 := Subsingleton.elim _ _
  have h10 : 10 < cfg0.N := by have := t.isLt; omega
  have h20 : 20 < cfg0.N := by have := t.isLt; omega
  obtain ⟨n, hn⟩ := t
  obtain rfl : n = 21 := ht
  refine (dgD m c ⟨21, hn⟩ (by dsimp only) (by dsimp only; omega) y1).trans ?_
  refine (congrArg (fun f : FVec Ideal S1x2048 .f32 => (f (ix2 0 y1) + part7 m c ⟨21, hn⟩ y1 : EReal)) (kept m c 10 (by omega) h20 h10)).trans ?_
  refine (congrArg (fun x : EReal => x + part7 m c ⟨21, hn⟩ y1) (dgC m c ⟨10, h10⟩ (by dsimp only) (by dsimp only; omega) y1)).trans ?_
  refine Eq.trans ?_ (Fin.sum_univ_add (a := 512) (b := 512) fun s => sg m c y1 (Fin.castAdd 1024 s)).symm
  refine congrArg₂ (fun a b : EReal => a + b) (Finset.sum_congr rfl fun s _ => congrArg (sg m c y1) (Fin.ext ?_))
    (Finset.sum_congr rfl fun s _ => congrArg (sg m c y1) (Fin.ext ?_))
  · show 512 * (10 / 11) + s.val = s.val
    omega
  · show 512 * (21 / 11) + s.val = 512 + s.val
    omega

/-! ## The results after the run -/

theorem final6 (i : S2048x2048.Idx) (hi : (i 0).val < 1024) : (dats m 0 c).arrAt 6 cfg0.N i = O6 m c i := by
  have hG : ∀ t : Fin cfg0.N, (cfg0.win 6).flush t = true → (dats m 0 c).flushed 6 t = ((cfg0.win 6).blk t).view.read (Elt Ideal) (O6 m c) := by
    intro t hf
    funext y
    blk_simp
    rw [after0_6]
    refine (out6 m c t ((flush0_6 t).mp hf) y).trans ?_
    refine congrArg (O6 m c) ?_
    blk_point [idx t, row]
  have hN : cfg0.N = 22 := N_0
  have hlt : 11 * ((i 0).val / 512) + 10 < cfg0.N := by omega
  refine (dats m 0 c).arrAt_apply_of_mem 6 _ hG cfg0.N ⟨11 * ((i 0).val / 512) + 10, hlt⟩ i hlt ((flush0_6 _).mpr (by dsimp only; omega)) ?_
  mem_blk [idx ⟨11 * ((i 0).val / 512) + 10, hlt⟩]
  have : (i 1).val < 2048 := (i 1).isLt
  dsimp only
  omega

theorem final7 : (dats m 0 c).arrAt 7 cfg0.N = O7 m c := by
  refine (dats m 0 c).arrAt_eq_of_covers 7 _ (by decide +kernel) fun t hf y => ?_
  blk_simp
  rw [after0_7, out7 m c t (by have := (flush0_7 t).mp hf; have := N22 t; omega)]
  refine congrArg (O7 m c) ?_
  blk_point [idx t]

/-- What the kernel returns of its first result: the upper rows. -/
def O13 : FVec Ideal S1024x2048 .f32 := fun y => O6 m c (ix2 (Fin.castAdd 1024 (y 0)) (y 1))

theorem tail (r : PUnit × MemSt nD τ sig (Elt Ideal)) (h : Pipeline.FramePost cfgs (dats m) 0 (Pipeline.afterTail₀ cfgs (dats m) 0 (V0 m) [hostOps1]) r) :
    r.2.mem ((c.tc : Thread nD τ).loc main_v13) = O13 m c := by
  refine ((h c).2 main_v13 (Pipeline.mem_restRefs_of main_v13 (by decide) (by decide))).trans ?_
  have e : Pipeline.afterTail₀ cfgs (dats m) 0 (V0 m) [hostOps1] c main_v13
      = extractStridedSlice S1024x2048 ![0, 0] ((dats m 0 c).arrAt 6 cfg0.N) slices_S2048x2048_S1024x2048_0_0 := by
    unfold Pipeline.afterTail₀
    simp only [List.flatten_cons, List.flatten_nil, List.append_nil]
    after_results
    exact congrArg (extractStridedSlice S1024x2048 ![0, 0] · slices_S2048x2048_S1024x2048_0_0)
      ((dats m 0 c).withArrays_arrAt launch₀0.sharedIn (V0 m c) (fun w => A_eq m c w) 6)
  refine e.trans (funext fun y => ?_)
  idx_vars y
  pointwise []
  exact final6 m c _ y0.isLt

variable (ρ : Dev nD → PrngReg)

/-- The kernel's run with its results as functions of its arguments. -/
theorem run' : θ_run defs (onTc (τ := τ) (main (F := Ideal))) ⟨m, fun _ => 0, ρ⟩ fun r => ∀ c : Dev nD,
      r.2.mem ((c.tc : Thread nD τ).loc main_v13) = O13 m c
      ∧ r.2.mem ((c.tc : Thread nD τ).loc main_v12_1) = O7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨tail m c r h.1, ((h.1 c).1 7).trans (final7 m c), h.2 c⟩) (θ_run_and (run_main m ρ) (unchanged m ρ))

end Cert.DxAIdeal.Read

end
-- ==== Proof.DxARef.lean ====
/- The reference of the first feed-forward layer's norm and input-projection gradient, upper half of the rows, read at an index. -/
module

public import proofs.«01_k».proof.Proof.Gen.DxARefIdeal.Run
public import proofs.«01_k».proof.Proof.NormRef

@[expose] public section

set_option maxRecDepth 16384

noncomputable section

namespace Cert.DxARefIdeal.Read

open Cert.DxARefIdeal Cert.DxARefIdeal.Gen Cert.DxARefIdeal.Value Cert.Reals Cert.Spec
open Idealize.ShloMosaic Idealize.ShloMosaic.TcCoe Idealize.SL.Sem
open scoped BigOperators

/-- Row `s` of the upper half. -/
abbrev up (s : Fin 1024) : Fin 2048 := Fin.castAdd 1024 s

/-- The upper half of an array's rows. -/
def cut (x : FVec Ideal S1x2048x2048 .f32) : FVec Ideal S1x1024x2048 .f32 :=
  extractStridedSlice S1x1024x2048 ![0, 0, 0] x slices_S1x2048x2048_S1x1024x2048_0_0_0

/-- The normed rows' cotangent. -/
def DNr (x2 x3 : FVec Ideal S1x2048x11264 .f32) : FVec Ideal S1x1024x2048 .f32 :=
  Host.dotGeneral dot_S1x1024x11264_S2048x11264_S1x1024x2048_2_1_01_0_n_n none (extractStridedSlice S1x1024x11264 ![0, 0, 0] x3 slices_S1x2048x11264_S1x1024x11264_0_0_0)
    (shapeCast _ x2 shapeCasts_S1x2048x11264_S2048x11264)

/-- The first result as a function of the arguments. -/
def R0 (x0 : FVec Ideal S1x2048x2048 .f32) (x1 : FVec Ideal S1x2048 .f32) (x2 x3 : FVec Ideal S1x2048x11264 .f32) (x4 : FVec Ideal S1x2048x2048 .f32) :
    FVec Ideal S1024x2048 .f32 :=
  shapeCast _ (addf (cut x4) (NormRef.DX (DNr x2 x3) (cut x0) x1)) shapeCasts_S1x1024x2048_S1024x2048

/-- The second result. -/
def R1 (x0 : FVec Ideal S1x2048x2048 .f32) (x2 x3 : FVec Ideal S1x2048x11264 .f32) : FVec Ideal S1x2048 .f32 := NormRef.DGR (DNr x2 x3) (cut x0)

variable (m : (ℓ : Loc nD τ sig) → Buf (Elt Ideal) ℓ) (ρ : Dev nD → PrngReg) (c : Dev nD)

theorem out0_eq : res_main_v46 (F := Ideal) m c = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v46
  rfl

/-- The reference's run with its results as functions of its arguments. -/
theorem run' : θ_run defs (onTc (τ := τ) (main (F := Ideal))) ⟨m, fun _ => 0, ρ⟩ fun r => ∀ c : Dev nD,
      r.2.mem ((c.tc : Thread nD τ).loc main_v46) = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = R1 (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (out0_eq m c), (h c).2.1.trans rfl, (h c).2.2⟩) (run m ρ)

theorem cut_at (x : FVec Ideal S1x2048x2048 .f32) (s : Fin 1024) (d : Fin 2048) : cut x (ix3 0 s d) = x (ix3 0 (up s) d) := by
  pointwise [cut]
  rfl

theorem DNr_at (x2 x3 : FVec Ideal S1x2048x11264 .f32) (s : Fin 1024) (d : Fin 2048) :
    DNr x2 x3 (ix3 0 s d) = ∑ k : Fin 11264, x3 (ix3 0 (up s) k) * x2 (ix3 0 d k) := by
  pointwise [DNr]
  rfl

theorem R0_at (x0 : FVec Ideal S1x2048x2048 .f32) (x1 : FVec Ideal S1x2048 .f32) (x2 x3 : FVec Ideal S1x2048x11264 .f32) (x4 : FVec Ideal S1x2048x2048 .f32)
    (s : Fin 1024) (d : Fin 2048) : R0 x0 x1 x2 x3 x4 (ix2 s d) =
      x4 (ix3 0 (up s) d) + normR (fun d => DNr x2 x3 (ix3 0 s d)) (fun d => x0 (ix3 0 (up s) d)) (fun d => x1 (ix2 0 d)) d := by
  pointwise [R0]
  refine congrArg₂ (fun a b : EReal => a + b) (cut_at x4 s d) ((NormRef.DX_at (.inr rfl) _ _ _ s d).trans ?_)
  rw [funext fun d => cut_at x0 s d]

end Cert.DxARefIdeal.Read

end
-- ==== Proof.DxA.lean ====
/- The first feed-forward layer's norm and input-projection gradient, upper half of the rows: the kernel's results are the reference's on finite arguments. -/
module

public import proofs.«01_k».proof.Defs
public import proofs.«01_k».proof.Proof.Gen.Pre_finite_dxa
public import proofs.«01_k».proof.Proof.DxAKernel
public import proofs.«01_k».proof.Proof.DxARef

@[expose] public section

set_option maxRecDepth 16384

noncomputable section

namespace Cert.DxAPair

open Idealize.ShloMosaic Idealize.ShloMosaic.TcCoe Idealize.SL.Sem Cert.Reals Cert.Spec
open scoped BigOperators

section Values

open Cert.DxAIdeal Cert.DxAIdeal.Read
open Cert.DxARefIdeal.Read

variable (m : (ℓ : Loc nD τ sig) → Buf (Elt Ideal) ℓ) (c : Dev nD)

/-- An argument's array. -/
abbrev X0 : FVec Ideal S1x2048x2048 .f32 := m (c, Proc.tc.devRef main_arg0)
abbrev X1 : FVec Ideal S1x2048 .f32 := m (c, Proc.tc.devRef main_arg1)
abbrev X2 : FVec Ideal S1x2048x11264 .f32 := m (c, Proc.tc.devRef main_arg2)
abbrev X3 : FVec Ideal S1x2048x11264 .f32 := m (c, Proc.tc.devRef main_arg3)
abbrev X4 : FVec Ideal S1x2048x2048 .f32 := m (c, Proc.tc.devRef main_arg4)

/-- Every element of the arguments that are multiplied is a real number. -/
structure Fin' : Prop where
  h0 : ∀ i, IsReal (X0 m c i)
  h1 : ∀ i, IsReal (X1 m c i)
  h2 : ∀ i, IsReal (X2 m c i)
  h3 : ∀ i, IsReal (X3 m c i)

variable {m c}

theorem dn (s : Fin 1024) (d : Fin 2048) : DNr (X2 m c) (X3 m c) (ix3 0 s d) = DN m c (up s) d := DNr_at ..

theorem isReal_dn (h : Fin' m c) (s d : Fin 2048) : IsReal (DN m c s d) :=
  IsReal.sum _ fun k => (h.h3 (ix3 0 s k)).mul (h.h2 (ix3 0 d k))

/-- The first result: the cotangent of the layer's input. -/
theorem out0 (h : Fin' m c) : O13 m c = R0 (X0 m c) (X1 m c) (X2 m c) (X3 m c) (X4 m c) := by
  funext y
  idx_vars y
  refine Eq.trans ?_ (R0_at _ _ _ _ _ y0 y1).symm
  rw [funext (dn y0)]
  exact congrArg (X4 m c (ix3 0 (up y0) y1) + · : EReal → EReal)
    (norm_eq (isReal_dn h (up y0)) (fun d => h.h0 (ix3 0 (up y0) d)) (fun d => h.h1 (ix2 0 d)) y1)

/-- The second result: the gradient of the norm's scale. -/
theorem out1 : O7 m c = R1 (X0 m c) (X2 m c) (X3 m c) := by
  funext y
  idx_vars y
  obtain rfl : y0 = 0 := Subsingleton.elim _ _
  refine Eq.trans ?_ (NormRef.DGR_at (.inr rfl) _ _ y1).symm
  refine Finset.sum_congr rfl fun s _ => ?_
  rw [funext fun d => cut_at (X0 m c) s d, cut_at, dn s y1]
  exact mul_comm _ _

end Values

theorem fin_of (m : (ℓ : Loc Cert.DxAIdeal.nD Cert.DxAIdeal.τ Cert.DxAIdeal.sig) → Buf (Elt Ideal) ℓ)
    (h : Cert.Pre_DxAIdeal_finite_dxa m) (c : Dev Cert.DxAIdeal.nD) : Fin' m c := by
  obtain ⟨h0, h1, h2, h3⟩ := h c
  exact ⟨real_of _ _ h0, real_of _ _ h1, real_of _ _ h2, real_of _ _ h3⟩

/-- The kernel computes the reference on finite arguments. -/
theorem algebraic : Cert.algebraic_DxAIdeal_DxARefIdeal_pre_finite_dxa := by
  pair_intro
  · run_from Cert.DxAIdeal.Read.run' m g
  · run_from Cert.DxARefIdeal.Read.run' m' g'
    · exact (out0 (fin_of m hpre c)).symm
    · exact (out1 (m := m) (c := c)).symm

end Cert.DxAPair

end
-- ==== Proof.PoolMath.lean ====
/- The causal windowed sum of a sequence, built by doubling and by differences of running sums, and the running sum
   of a four-dimensional array read at an index. -/
module

public import proofs.«01_k».proof.Proof.Reals

@[expose] public section

set_option maxRecDepth 16384

noncomputable section

namespace Cert.PoolMath

open Idealize.ShloMosaic Cert.Reals
open scoped BigOperators

/-- A sequence continued by zeros. -/
def ext {M : Type*} [Zero M] (x : Fin 2048 → M) (n : ℕ) : M := if h : n < 2048 then x ⟨n, h⟩ else 0

/-- The last `k` terms up to `r`, summed. -/
def back {M : Type*} [AddCommMonoid M] (x : ℕ → M) (k r : ℕ) : M := ∑ j ∈ Finset.range k, if j ≤ r then x (r - j) else 0

/-- The next `k` terms from `r`, summed. -/
def fore {M : Type*} [AddCommMonoid M] (x : ℕ → M) (k r : ℕ) : M := ∑ j ∈ Finset.range k, x (r + j)

variable {M : Type*} [AddCommMonoid M]

theorem ext_val (x : Fin 2048 → M) (r : Fin 2048) : ext x r.val = x r := dif_pos r.isLt

theorem ext_out (x : Fin 2048 → M) {n : ℕ} (h : 2048 ≤ n) : ext x n = 0 := dif_neg (by omega)

theorem back_one (x : ℕ → M) (r : ℕ) : back x 1 r = x r := by
  rw [back, Finset.sum_range_one, if_pos (Nat.zero_le r), Nat.sub_zero]

theorem fore_one (x : ℕ → M) (r : ℕ) : fore x 1 r = x r := by
  rw [fore, Finset.sum_range_one, Nat.add_zero]

/-- Doubling the window adds the sum one window earlier. -/
theorem back_double (x : ℕ → M) (k r : ℕ) : back x k r + (if k ≤ r then back x k (r - k) else 0) = back x (k + k) r := by
  rw [back, back, back, Finset.sum_range_add]
  refine congrArg _ ?_
  split
  · next h =>
    refine Finset.sum_congr rfl fun j _ => ?_
    by_cases e : j ≤ r - k
    · rw [if_pos e, if_pos (by omega), Nat.sub_sub]
    · rw [if_neg e, if_neg (by omega)]
  · next h => exact (Finset.sum_eq_zero fun j _ => if_neg (by omega)).symm

theorem fore_add (x : ℕ → M) (k l r : ℕ) : fore x k r + fore x l (r + k) = fore x (k + l) r := by
  rw [fore, fore, fore, Finset.sum_range_add]
  exact congrArg _ (Finset.sum_congr rfl fun j _ => by rw [Nat.add_assoc])

theorem fore_out (x : Fin 2048 → M) (k : ℕ) {r : ℕ} (h : 2048 ≤ r) : fore (ext x) k r = 0 :=
  Finset.sum_eq_zero fun j _ => ext_out x (by omega)

/-- The window and the terms before it make the running sum. -/
theorem back_sum (x : ℕ → M) (w r : ℕ) :
    back x w r + (if r < w then 0 else ∑ i ∈ Finset.range (r - w + 1), x i) = ∑ i ∈ Finset.range (r + 1), x i := by
  induction w with
  | zero => rw [back, Finset.sum_range_zero, zero_add, if_neg (by omega), Nat.sub_zero]
  | succ w ih =>
    rw [← ih, back, back, Finset.sum_range_succ, add_assoc]
    refine congrArg _ ?_
    by_cases h : r < w
    · rw [if_neg (show ¬ w ≤ r by omega), if_pos (show r < w + 1 by omega), if_pos h, add_zero]
    · rw [if_neg h, if_pos (show w ≤ r by omega)]
      by_cases e : r < w + 1
      · rw [if_pos e, show r - w = 0 by omega, add_zero, zero_add, Finset.sum_range_one]
      · rw [if_neg e, show r - w + 1 = r - (w + 1) + 1 + 1 by omega, Finset.sum_range_succ _ (r - (w + 1) + 1),
          show r - (w + 1) + 1 = r - w by omega, add_comm]

/-- The terms up to `r`, summed over all positions. -/
theorem sum_upto (x : Fin 2048 → M) (r : Fin 2048) : (∑ i, if i ≤ r then x i else 0) = ∑ i ∈ Finset.range (r.val + 1), ext x i := by
  have e : ∀ i : Fin 2048, (if i ≤ r then x i else 0) = (fun n : ℕ => if n ≤ r.val then ext x n else 0) i.val := fun i => by
    dsimp only
    rw [ext_val]
    rfl
  rw [Finset.sum_congr rfl fun i _ => e i, Fin.sum_univ_eq_sum_range (fun n : ℕ => if n ≤ r.val then ext x n else 0), ← Finset.sum_filter]
  refine Finset.sum_congr (Finset.ext fun n => ?_) fun _ _ => rfl
  have := r.isLt
  rw [Finset.mem_filter, Finset.mem_range, Finset.mem_range]
  omega

/-- The terms from `r` on, summed over all positions. -/
theorem sum_from (x : Fin 2048 → M) (r : Fin 2048) : (∑ i, if r ≤ i then x i else 0) = fore (ext x) 2048 r.val := by
  have e : ∀ i : Fin 2048, (if r ≤ i then x i else 0) = (fun n : ℕ => if r.val ≤ n then ext x n else 0) i.val := fun i => by
    dsimp only
    rw [ext_val]
    rfl
  have hr := r.isLt
  rw [Finset.sum_congr rfl fun i _ => e i, Fin.sum_univ_eq_sum_range (fun n : ℕ => if r.val ≤ n then ext x n else 0)]
  have a := Finset.sum_range_add (fun n : ℕ => if r.val ≤ n then ext x n else 0) r.val 2048
  have b := Finset.sum_range_add (fun n : ℕ => if r.val ≤ n then ext x n else 0) 2048 r.val
  rw [Nat.add_comm 2048, a, Finset.sum_eq_zero fun j hj => if_neg (by have := Finset.mem_range.mp hj; omega), zero_add,
    Finset.sum_eq_zero (s := Finset.range r.val) fun j _ => by rw [ext_out x (by omega)]; exact ite_self _, add_zero] at b
  rw [← b]
  exact Finset.sum_congr rfl fun j _ => if_pos (by omega)

/-- A windowed sum of reals as the difference of two running sums. -/
theorem back_eq {x : Fin 2048 → EReal} (hx : ∀ i, IsReal (x i)) (w : ℕ) (r : Fin 2048) :
    (∑ i, if i ≤ r then x i else 0) - (if h : r.val < w then 0 else ∑ i, if i ≤ (⟨r.val - w, by omega⟩ : Fin 2048) then x i else 0) = back (ext x) w r.val := by
  have hr (n : ℕ) : IsReal (ext x n) := by
    rw [ext]
    split
    · exact hx _
    · exact IsReal.zero
  have hb : IsReal (back (ext x) w r.val) := IsReal.sum _ fun j => by
    split
    · exact hr _
    · exact IsReal.zero
  have e : (if h : r.val < w then 0 else ∑ i, if i ≤ (⟨r.val - w, by omega⟩ : Fin 2048) then x i else 0)
      = (if r.val < w then 0 else ∑ i ∈ Finset.range (r.val - w + 1), ext x i) := by
    split
    · rfl
    · exact sum_upto x _
  rw [sum_upto, e, ← back_sum (ext x) w r.val]
  have hs : IsReal (if r.val < w then 0 else ∑ i ∈ Finset.range (r.val - w + 1), ext x i) := by
    split
    · exact IsReal.zero
    · exact IsReal.sum _ fun i => hr i
  obtain ⟨a, ha⟩ := hb
  obtain ⟨b, hb⟩ := hs
  rw [ha, hb, ← EReal.coe_add, ← EReal.coe_sub, add_sub_cancel_right]

/-- A forward windowed sum of reals as the running sum from the end of differences. -/
theorem fore_eq {x : Fin 2048 → EReal} (hx : ∀ i, IsReal (x i)) (w : ℕ) (r : Fin 2048) :
    (∑ i, if r ≤ i then x i + (if h : i.val + w < 2048 then -x ⟨i.val + w, h⟩ else 0) else 0) = fore (ext x) w r.val := by
  choose f hf using hx
  have hx : x = fun i => (f i : EReal) := funext hf
  have hc (n : ℕ) : ext x n = ((ext f n : ℝ) : EReal) := by
    rw [hx, ext, ext]
    split <;> rfl
  have hfore (k n : ℕ) : fore (ext x) k n = ((fore (ext f) k n : ℝ) : EReal) := by
    rw [fore, fore, Finset.sum_congr rfl fun j _ => hc _, coe_sum]
  have he (i : Fin 2048) : x i + (if h : i.val + w < 2048 then -x ⟨i.val + w, h⟩ else 0) = ((f i - ext f (i.val + w) : ℝ) : EReal) := by
    rw [ext, hx]
    split
    · rw [EReal.coe_sub, sub_eq_add_neg]
    · rw [add_zero, sub_zero]
  have hd (n : ℕ) : ext (fun i : Fin 2048 => f i - ext f (i.val + w)) n = ext f n - ext f (n + w) := by
    by_cases h : n < 2048
    · rw [ext, dif_pos h]
      rw [show ext f n = f ⟨n, h⟩ from dif_pos h]
    · rw [ext_out _ (show 2048 ≤ n by omega), ext_out f (show 2048 ≤ n by omega), ext_out f (show 2048 ≤ n + w by omega), sub_zero]
  rw [Finset.sum_congr rfl fun i _ => show _ = (((if r ≤ i then f i - ext f (i.val + w) else 0 : ℝ)) : EReal) by
    rw [he]; split <;> rfl, coe_sum, sum_from, hfore]
  refine congrArg _ ?_
  have a : fore (ext fun i : Fin 2048 => f i - ext f (i.val + w)) 2048 r.val = fore (ext f) 2048 r.val - fore (ext f) 2048 (r.val + w) := by
    rw [fore, fore, fore, ← Finset.sum_sub_distrib]
    exact Finset.sum_congr rfl fun j _ => by rw [hd, Nat.add_right_comm]
  rw [a, sub_eq_iff_eq_add, fore_add, Nat.add_comm w, ← fore_add, fore_out f w (by omega), add_zero]

/-- The array's shape. -/
abbrev X4 : Shape := ⟨4, ![1, 2048, 4, 256]⟩

theorem foldl_sum {n : ℕ} (g : Fin n → EReal) (v : EReal) : (List.finRange n).foldl (fun r k => r + g k) v = v + ∑ k, g k := by
  have key : ∀ (l : List (Fin n)) (v : EReal), l.foldl (fun r k => r + g k) v = v + (l.map g).sum := by
    intro l
    induction l with
    | nil => exact fun v => (add_zero v).symm
    | cons a l ih => exact fun v => (ih _).trans (by rw [List.map_cons, List.sum_cons, add_assoc])
  rw [key, Fin.sum_univ_def]

/-- A running sum along the second axis, of one padding, as a sum over the window. -/
theorem window_at {N : ℕ} (lo hi : Fin 4 → ℕ) (l : ℕ) (hlo : lo = ![0, l, 0, 0]) (x : (⟨4, ![1, N, 4, 256]⟩ : Shape).Idx → EReal)
    (h : (⟨4, ![1, N, 4, 256]⟩ : Shape).ReduceWindows (![1, N, 1, 1] : Fin 4 → ℕ) ![1, 1, 1, 1] lo hi ⟨4, ![1, N, 4, 256]⟩)
    (r : Fin N) (g : Fin 4) (o : Fin 256) :
    Ideal.hostReduceWindowAdd ![1, N, 1, 1] ![1, 1, 1, 1] lo hi h x 0 (ix4 0 r g o)
      = ∑ k : Fin N, if hk : l ≤ r.val + k.val ∧ r.val + k.val - l < N then x (ix4 0 ⟨r.val + k.val - l, hk.2⟩ g o) else 0 := by
  subst hlo
  unfold Ideal.hostReduceWindowAdd Host.reduceWindow
  dsimp only
  rw [foldl_sum, zero_add]
  refine (Equiv.sum_comp (Shape.rowMajor ⟨4, ![1, N, 1, 1]⟩).symm (fun i : (⟨4, ![1, N, 1, 1]⟩ : Shape).Idx => @dite EReal _ (Nat.decidableForallFin _) (fun hin : ∀ a : Fin 4, (![0, l, 0, 0] : Fin 4 → ℕ) a ≤ (ix4 0 r g o : (⟨4, ![1, N, 4, 256]⟩ : Shape).Idx) a * (![1, 1, 1, 1] : Fin 4 → ℕ) a + (i a).val ∧
    (ix4 0 r g o : (⟨4, ![1, N, 4, 256]⟩ : Shape).Idx) a * (![1, 1, 1, 1] : Fin 4 → ℕ) a + (i a).val - (![0, l, 0, 0] : Fin 4 → ℕ) a < (![1, N, 4, 256] : Fin 4 → ℕ) a => x (fun a => ⟨_, (hin a).2⟩)) fun _ => 0)).trans ?_
  refine (Fintype.sum_bijective (fun k : Fin N => (ix4 0 k 0 0 : (⟨4, ![1, N, 1, 1]⟩ : Shape).Idx)) ⟨fun a b e => congrFun e 1, fun i => ⟨i 1, funext fun a => ?_⟩⟩ _ _ fun k => ?_).symm
  · match a with
    | 0 => exact Subsingleton.elim (α := Fin 1) _ _
    | 1 => rfl
    | 2 => exact Subsingleton.elim (α := Fin 1) _ _
    | 3 => exact Subsingleton.elim (α := Fin 1) _ _
  · by_cases hk : l ≤ r.val + k.val ∧ r.val + k.val - l < N
    · rw [dif_pos hk, dif_pos fun a => ?_]
      · refine congrArg x (funext fun a => Fin.ext ?_)
        match a with
        | 0 => rfl
        | 1 => exact congrArg (· + k.val - l) (Nat.mul_one r.val).symm
        | 2 => exact (Nat.mul_one g.val).symm
        | 3 => exact (Nat.mul_one o.val).symm
      · match a with
        | 0 => exact ⟨le_rfl, Nat.one_pos⟩
        | 1 => exact (congrArg (fun q => l ≤ q + k.val ∧ q + k.val - l < N) (Nat.mul_one r.val)).mpr hk
        | 2 => exact ⟨Nat.zero_le _, (Nat.mul_one g.val).trans_lt g.isLt⟩
        | 3 => exact ⟨Nat.zero_le _, (Nat.mul_one o.val).trans_lt o.isLt⟩
    · rw [dif_neg hk, dif_neg fun hin => hk ((congrArg (fun q => l ≤ q + k.val ∧ q + k.val - l < N) (Nat.mul_one r.val)).mp (hin 1))]

/-- The running sum from the start. -/
theorem cum_at (x : X4.Idx → EReal) (h : X4.ReduceWindows ![1, 2048, 1, 1] ![1, 1, 1, 1] ![0, 2047, 0, 0] ![0, 0, 0, 0] X4) (r : Fin 2048) (g : Fin 4) (o : Fin 256) :
    Ideal.hostReduceWindowAdd ![1, 2048, 1, 1] ![1, 1, 1, 1] ![0, 2047, 0, 0] ![0, 0, 0, 0] h x 0 (ix4 0 r g o) = ∑ i : Fin 2048, if i ≤ r then x (ix4 0 i g o) else 0 := by
  refine (window_at _ _ 2047 rfl x h r g o).trans (Fintype.sum_bijective (fun k : Fin 2048 => (⟨(r.val + k.val + 1) % 2048, by omega⟩ : Fin 2048))
    (Finite.injective_iff_bijective.mp fun a b e => Fin.ext ?_) _ _ fun k => ?_)
  · have := congrArg Fin.val e
    dsimp only at this
    omega
  · by_cases hk : 2047 ≤ r.val + k.val
    · rw [dif_pos ⟨hk, by omega⟩, if_pos (Fin.mk_le_of_le_val (by omega))]
      exact congrArg (fun i => x (ix4 0 i g o)) (Fin.ext (by dsimp only; omega))
    · rw [dif_neg (by omega), if_neg fun e => by have : (r.val + k.val + 1) % 2048 ≤ r.val := e; omega]

/-- The running sum from the end. -/
theorem rcum_at (x : X4.Idx → EReal) (h : X4.ReduceWindows ![1, 2048, 1, 1] ![1, 1, 1, 1] ![0, 0, 0, 0] ![0, 2047, 0, 0] X4) (r : Fin 2048) (g : Fin 4) (o : Fin 256) :
    Ideal.hostReduceWindowAdd ![1, 2048, 1, 1] ![1, 1, 1, 1] ![0, 0, 0, 0] ![0, 2047, 0, 0] h x 0 (ix4 0 r g o) = ∑ i : Fin 2048, if r ≤ i then x (ix4 0 i g o) else 0 := by
  refine (window_at _ _ 0 rfl x h r g o).trans (Fintype.sum_bijective (fun k : Fin 2048 => (⟨(r.val + k.val) % 2048, by omega⟩ : Fin 2048))
    (Finite.injective_iff_bijective.mp fun a b e => Fin.ext ?_) _ _ fun k => ?_)
  · have := congrArg Fin.val e
    dsimp only at this
    omega
  · by_cases hk : r.val + k.val < 2048
    · rw [dif_pos ⟨Nat.zero_le _, by omega⟩, if_pos (Fin.mk_le_of_le_val (show r.val ≤ (r.val + k.val) % 2048 by omega) : r ≤ ⟨(r.val + k.val) % 2048, _⟩)]
      exact congrArg (fun i => x (ix4 0 i g o)) (Fin.ext (by dsimp only; omega))
    · rw [dif_neg (by omega), if_neg fun e => by have : r.val ≤ (r.val + k.val) % 2048 := e; omega]

/-- A group's window. -/
def win : Fin 4 → ℕ := ![2, 4, 8, 16]
/-- The window as a word. -/
def word : Fin 4 → BitVec 32 := ![2#32, 4#32, 8#32, 16#32]
/-- How many rows the window ending in row `r` holds. -/
def cnt (g : Fin 4) (r : Fin 2048) : EReal := FloatOps.sitofp (F := Ideal) .f32 (IntOp.minsi (IntOp.addi 1#32 (BitVec.ofNat 32 r.val)) (word g))
/-- The mean over the window less the term itself. -/
def avg (x : Fin 2048 → EReal) (g : Fin 4) (r : Fin 2048) : EReal := Ideal.div (back (ext x) (win g) r.val) (cnt g r) - x r
/-- Its gradient. -/
def gavg (d : Fin 2048 → EReal) (g : Fin 4) (r : Fin 2048) : EReal := fore (ext fun i => Ideal.div (d i) (cnt g i)) (win g) r.val - d r

theorem cnt_pos : ∀ (g : Fin 4) (r : Fin 2048), 0 < (IntOp.minsi (IntOp.addi 1#32 (BitVec.ofNat 32 r.val)) (word g)).toInt := by decide +kernel

theorem cnt_coe (g : Fin 4) (r : Fin 2048) : ∃ n : ℝ, 0 < n ∧ cnt g r = (n : EReal) :=
  ⟨((IntOp.minsi (IntOp.addi 1#32 (BitVec.ofNat 32 r.val)) (word g)).toInt : ℝ), Int.cast_pos.mpr (cnt_pos g r), rfl⟩

theorem isReal_div_cnt {x : EReal} (hx : IsReal x) (g : Fin 4) (r : Fin 2048) : IsReal (Ideal.div x (cnt g r)) := by
  obtain ⟨n, hn, e⟩ := cnt_coe g r
  obtain ⟨a, rfl⟩ := hx
  rw [e, div_pos_coe hn]
  exact ⟨_, rfl⟩

end Cert.PoolMath

end
-- ==== Proof.PoolKernel.lean ====
/- The mean-pool mixer's two kernels read at an index: what a grid point stores, and what the results hold after the run. -/
module

public import proofs.«01_k».proof.Proof.Gen.PoolIdeal.Frame
public import Idealize.ShloMosaic.Lib.Pipeline.ValueKit
public import Idealize.ShloMosaic.Lib.Pipeline.ReadBack
public import Idealize.ShloMosaic.Lib.Claim
public import proofs.«01_k».proof.Proof.PoolMath

@[expose] public section

set_option maxRecDepth 16384

noncomputable section

namespace Cert.PoolIdeal.Read

open Cert.PoolIdeal Cert.PoolIdeal.Gen Cert.Reals Cert.PoolMath
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg) (c : Dev nD)

theorem idx0 : ∀ t : Fin cfg0.N, win0_0.index t = ![0, t.val] ∧ win0_1.index t = ![t.val, 0, 0] ∧ win0_2.index t = ![0, t.val]
    ∧ win0_3.index t = ![0, t.val] ∧ win0_4.index t = ![0, t.val] :=
  (by decide +kernel : ∀ t : Fin grid0.N, _)

theorem idx1 : ∀ t : Fin cfg1.N, win1_0.index t = ![0, t.val] ∧ win1_1.index t = ![0, t.val] ∧ win1_2.index t = ![t.val, 0, 0] ∧ win1_3.index t = ![0, t.val]
    ∧ win1_4.index t = ![0, t.val] ∧ win1_5.index t = ![t.val, 0, 0] ∧ win1_6.index t = ![0, t.val] :=
  (by decide +kernel : ∀ t : Fin grid1.N, _)

/-- The group a grid point works on. -/
def grp (t : Fin cfg0.N) : Fin 4 := ⟨t.val, t.isLt.trans_eq N_0⟩

/-- Column `o` of group `g`. -/
def col (g : Fin 4) (o : Fin 256) : Fin 1024 := ⟨g.val * 256 + o.val, by omega⟩

theorem coord0 : ∀ t : Fin cfg0.N, ((grid0.coords t) 0).val = t.val := (by decide +kernel : ∀ t : Fin grid0.N, _)
theorem coord1 : ∀ t : Fin cfg1.N, ((grid1.coords t) 0).val = t.val := (by decide +kernel : ∀ t : Fin grid1.N, _)

/-- The step of doubling step `p`, as a word and as a number. -/
def kw : Fin 4 → BitVec 32 := ![1#32, 2#32, 4#32, 8#32]
/-- The rotation that brings a later row forward, as a word. -/
def kv : Fin 4 → BitVec 32 := ![2047#32, 2046#32, 2044#32, 2040#32]
def kn : Fin 4 → ℕ := ![1, 2, 4, 8]
/-- The window before step `p` of group `g`. -/
def wd (p : ℕ) (g : Fin 4) : ℕ := min (2 ^ p) (win g)
/-- The window's word of group `g`. -/
def sh (g : Fin 4) : BitVec 32 := Scalar.shli 2#32 (BitVec.ofNat 32 g.val)

theorem mask_row : ∀ (p : Fin 4) (r : Fin 2048), IntOp.cmpi .sge (BitVec.ofNat 32 r.val) (kw p) = if kn p ≤ r.val then 1#1 else 0#1 := by decide +kernel
theorem mask_row' : ∀ (p : Fin 4) (r : Fin 2048), IntOp.cmpi .slt (BitVec.ofNat 32 r.val) (kv p) = if r.val + kn p < 2048 then 1#1 else 0#1 := by decide +kernel
theorem mask_win : ∀ p g : Fin 4, Scalar.cmpi .sgt (sh g) (kw p) = if p ≤ g then 1#1 else 0#1 := by decide +kernel
theorem wd_step : ∀ p g : Fin 4, if p ≤ g then wd p g = kn p ∧ wd (p + 1 : ℕ) g = kn p + kn p else wd (p + 1 : ℕ) g = wd p g := by decide +kernel
theorem kn_small : ∀ p : Fin 4, (kw p).toNat = kn p ∧ (kv p).toNat = 2048 - kn p ∧ 0 < kn p ∧ kn p ≤ 8 := by decide +kernel
theorem wd_zero : ∀ g : Fin 4, wd 0 g = 1 := by decide +kernel
theorem wd_four : ∀ g : Fin 4, wd 4 g = win g := by decide +kernel
theorem sh_word : ∀ g : Fin 4, sh g = word g := by decide +kernel

/-- One step of the forward kernel's window sum. -/
def later (v : BitVec 32) (k : BitVec 32) (x : FVec Ideal S2048x256 .f32) : FVec Ideal S2048x256 .f32 :=
  addf x (select (andi (cmpi .sge (iota .tc S2048x256 32 [0] iota_S2048x256_d0_w32) (broadcast S2048x256 k)) (broadcast S2048x256 (Scalar.cmpi .sgt v k)))
    (dynamicRotate 0 k none x rotates_S2048x256_d0) (broadcast S2048x256 (Scalar.ofBits (F := Ideal) .f32 0x00000000#32)))

/-- One step of the backward kernel's window sum. -/
def sooner (v : BitVec 32) (k l : BitVec 32) (x : FVec Ideal S2048x256 .f32) : FVec Ideal S2048x256 .f32 :=
  addf x (select (andi (cmpi .slt (iota .tc S2048x256 32 [0] iota_S2048x256_d0_w32) (broadcast S2048x256 l)) (broadcast S2048x256 (Scalar.cmpi .sgt v k)))
    (dynamicRotate 0 l none x rotates_S2048x256_d0) (broadcast S2048x256 (Scalar.ofBits (F := Ideal) .f32 0x00000000#32)))

theorem later_at (v k : BitVec 32) (x : FVec Ideal S2048x256 .f32) (r : Fin 2048) (o : Fin 256) :
    later v k x (ix2 r o) = x (ix2 r o) + Scalar.select (IntOp.andi (IntOp.cmpi .sge (BitVec.ofNat 32 r.val) k) (Scalar.cmpi .sgt v k))
      (x (ix2 ⟨(r.val + 2048 - k.toNat % 2048) % 2048, by omega⟩ o)) 0 := by
  pointwise [later]

theorem sooner_at (v k l : BitVec 32) (x : FVec Ideal S2048x256 .f32) (r : Fin 2048) (o : Fin 256) :
    sooner v k l x (ix2 r o) = x (ix2 r o) + Scalar.select (IntOp.andi (IntOp.cmpi .slt (BitVec.ofNat 32 r.val) l) (Scalar.cmpi .sgt v k))
      (x (ix2 ⟨(r.val + 2048 - l.toNat % 2048) % 2048, by omega⟩ o)) 0 := by
  pointwise [sooner]

theorem later_step (p g : Fin 4) (f : ℕ → EReal) (x : FVec Ideal S2048x256 .f32) (o : Fin 256) (hx : ∀ r : Fin 2048, x (ix2 r o) = back f (wd p g) r.val) (r : Fin 2048) :
    later (sh g) (kw p) x (ix2 r o) = back f (wd (p + 1 : ℕ) g) r.val := by
  obtain ⟨h1, -, h3, h4⟩ := kn_small p
  have h := wd_step p g
  rw [later_at, mask_row, mask_win]
  split at h
  · next hp =>
    rw [if_pos hp, h.2, ← back_double, hx, h.1]
    refine congrArg (back f (kn p) r.val + ·) ?_
    by_cases hr : kn p ≤ r.val
    · rw [if_pos hr, if_pos hr]
      refine Eq.trans ?_ ((hx ⟨r.val - kn p, by omega⟩).trans (by rw [h.1]))
      exact congrArg (fun a => x (ix2 a o)) (Fin.ext (by dsimp only; rw [h1]; omega))
    · rw [if_neg hr, if_neg hr]
      rfl
  · next hp =>
    rw [if_neg hp, h, hx]
    split <;> exact add_zero _

theorem sooner_step (p g : Fin 4) (e : Fin 2048 → EReal) (x : FVec Ideal S2048x256 .f32) (o : Fin 256) (hx : ∀ r : Fin 2048, x (ix2 r o) = fore (ext e) (wd p g) r.val) (r : Fin 2048) :
    sooner (sh g) (kw p) (kv p) x (ix2 r o) = fore (ext e) (wd (p + 1 : ℕ) g) r.val := by
  obtain ⟨-, h2, h3, h4⟩ := kn_small p
  have h := wd_step p g
  rw [sooner_at, mask_row', mask_win]
  split at h
  · next hp =>
    rw [if_pos hp, h.2, ← fore_add, hx, h.1]
    refine congrArg (fore (ext e) (kn p) r.val + ·) ?_
    by_cases hr : r.val + kn p < 2048
    · rw [if_pos hr]
      refine Eq.trans ?_ ((hx ⟨r.val + kn p, hr⟩).trans (by rw [h.1]))
      exact congrArg (fun a => x (ix2 a o)) (Fin.ext (by dsimp only; rw [h2]; omega))
    · rw [if_neg hr, fore_out _ _ (by omega)]
      rfl
  · next hp =>
    rw [if_neg hp, h, hx]
    split <;> exact add_zero _

/-- The forward kernel's window sum. -/
theorem pay4 (i : grid0.Coords) (g : Fin 4) (hi : (i 0).val = g.val) (x : FVec Ideal S2048x256 .f32) (r : Fin 2048) (o : Fin 256) :
    k0_pay4 (F := Ideal) i x (ix2 r o) = back (ext fun r => x (ix2 r o)) (win g) r.val := by
  have e : k0_pay4 (F := Ideal) i x = later (sh g) (kw 3) (later (sh g) (kw 2) (later (sh g) (kw 1) (later (sh g) (kw 0) (k0_pay3 x)))) := by
    unfold k0_pay4 sh
    rw [hi]
    rfl
  rw [e, ← wd_four]
  refine later_step 3 g _ _ o (later_step 2 g _ _ o (later_step 1 g _ _ o (later_step 0 g _ _ o fun r => ?_))) r
  refine Eq.trans ?_ ((congrArg (fun w => back (ext fun r => x (ix2 r o)) w r.val) (wd_zero g)).trans ((back_one _ _).trans (ext_val _ r))).symm
  pointwise [k0_pay3]

/-- The mean of the window less the term. -/
theorem pay1 (i : grid0.Coords) (g : Fin 4) (hi : (i 0).val = g.val) (x : FVec Ideal S2048x256 .f32) (r : Fin 2048) (o : Fin 256) :
    k0_pay1 (F := Ideal) (Scalar.shli 2#32 (BitVec.ofNat 32 (i 0).val)) (iota .tc S2048x256 32 [0] iota_S2048x256_d0_w32) (k0_pay3 x) (k0_pay4 i x) (ix2 r o)
      = avg (fun r => x (ix2 r o)) g r := by
  pointwise [k0_pay1, k0_pay3]
  rw [pay4 i g hi, hi, avg, cnt, ← sh_word, sh, IntOp.addi, BitVec.add_comm]
  rfl

/-- The forward result. -/
theorem pay2 (v0 : BitVec 32) (v1) (x y : FVec Ideal S2048x256 .f32) (w : FVec Ideal S1x256x256 .bf16) (s : FVec Ideal S1x256 .f32) (r : Fin 2048) (o : Fin 256) :
    k0_pay2 (F := Ideal) v0 v1 x y w s (ix2 r o) = (∑ k, k0_pay1 (F := Ideal) v0 v1 x y (ix2 r k) * w (ix3 0 k o)) * s (ix2 0 o) := by
  pointwise [k0_pay2]

theorem qay8 (x : FVec Ideal S2048x256 .f32) (w : FVec Ideal S1x256x256 .bf16) (s : FVec Ideal S1x256 .f32) (r : Fin 2048) (o : Fin 256) :
    k1_pay8 (F := Ideal) x w s (ix2 r o) = ∑ k, x (ix2 r k) * s (ix2 0 k) * w (ix3 0 o k) := by
  pointwise [k1_pay8, k1_pay6, k1_pay2, k1_pay4]

/-- The input's gradient. -/
theorem qay1 (i : grid1.Coords) (g : Fin 4) (hi : (i 0).val = g.val) (x : FVec Ideal S2048x256 .f32) (w : FVec Ideal S1x256x256 .bf16) (s : FVec Ideal S1x256 .f32)
    (r : Fin 2048) (o : Fin 256) :
    k1_pay1 (F := Ideal) (Scalar.shli 2#32 (BitVec.ofNat 32 (i 0).val)) (iota .tc S2048x256 32 [0] iota_S2048x256_d0_w32) (k1_pay8 x w s) (k1_pay9 i x w s) (k1_pay10 i)
      (k1_pay11 i x w s) (ix2 r o) = gavg (fun r => k1_pay8 (F := Ideal) x w s (ix2 r o)) g r := by
  have e : k1_pay1 (F := Ideal) (Scalar.shli 2#32 (BitVec.ofNat 32 (i 0).val)) (iota .tc S2048x256 32 [0] iota_S2048x256_d0_w32) (k1_pay8 x w s) (k1_pay9 i x w s) (k1_pay10 i)
      (k1_pay11 i x w s) = truncf .bf16 (subf (sooner (sh g) (kw 3) (kv 3) (sooner (sh g) (kw 2) (kv 2) (sooner (sh g) (kw 1) (kv 1) (sooner (sh g) (kw 0) (kv 0) (k1_pay9 i x w s)))))
        (k1_pay8 (F := Ideal) x w s)) bitsLt_bf16_f32 := by
    unfold k1_pay1 k1_pay10 k1_pay11 sh
    rw [hi]
    rfl
  rw [e]
  pointwise []
  rw [gavg, ← wd_four]
  refine congrArg (· - _) ?_
  refine sooner_step 3 g _ _ o (sooner_step 2 g _ _ o (sooner_step 1 g _ _ o (sooner_step 0 g _ _ o fun r => ?_))) r
  refine Eq.trans ?_ ((congrArg (fun w' => fore (ext fun i => Ideal.div (k1_pay8 (F := Ideal) x w s (ix2 i o)) (cnt g i)) w' r.val) (wd_zero g)).trans ((fore_one _ _).trans (ext_val _ r))).symm
  pointwise [k1_pay9]
  rw [hi, cnt, ← sh_word, sh, IntOp.addi, BitVec.add_comm]
  rfl

/-- The scale's gradient. -/
theorem qay5 (x : FVec Ideal S2048x256 .f32) (y : FVec Ideal S2048x256 .bf16) (z : FVec Ideal S1x256x256 .bf16) (o : Fin 256) :
    k1_pay5 (F := Ideal) x y z (ix2 0 o) = ∑ r, x (ix2 r o) * ∑ k, y (ix2 r k) * z (ix3 0 k o) := by
  pointwise [k1_pay5, k1_pay2, k1_pay3, k1_pay4]

/-- The weights' gradient. -/
theorem qay7 (x : FVec Ideal S2048x256 .f32) (y : FVec Ideal S2048x256 .bf16) (z : FVec Ideal S1x256 .f32) (g : Fin 256) (o : Fin 256) :
    k1_pay7 (F := Ideal) x y z (ix3 0 g o) = ∑ r, y (ix2 r g) * (x (ix2 r o) * z (ix2 0 o)) := by
  pointwise [k1_pay7, k1_pay2, k1_pay3, k1_pay6]

/-! ## What the regions find in their operands -/

theorem e0 (r : Fin 2048) (j : Fin 1024) : V1 m ρ c main_v1 (ix2 r j) = m (c, Proc.tc.devRef main_arg0) (ix3 0 r (j.castLE (by decide))) := by
  have e : V1 m ρ c main_v1 = StableHlo.after hostOps0 (fun b => m (c, b)) (Proc.tc.devRef main_v1) := rfl
  rw [e]
  after_results
  pointwise []
  rfl

theorem e3 (g : Fin 4) (i j : Fin 256) : V1 m ρ c main_v3 (ix3 g i j) = m (c, Proc.tc.devRef main_arg1) (ix4 0 g i j) := by
  have e : V1 m ρ c main_v3 = StableHlo.after hostOps0 (fun b => m (c, b)) (Proc.tc.devRef main_v3) := rfl
  rw [e]
  after_results
  pointwise []

theorem e2 : V1 m ρ c main_arg2 = m (c, Proc.tc.devRef main_arg2) := W1_args m ρ c main_arg2 (by decide)

theorem e5 (r j : Fin 2048) : V3 m ρ c main_v5 (ix2 r j) = m (c, Proc.tc.devRef main_arg3) (ix3 0 r j) := by
  have e : V3 m ρ c main_v5 = StableHlo.after hostOps1 (W2 m ρ c) (Proc.tc.devRef main_v5) := rfl
  rw [e]
  after_results
  pointwise []
  exact congrFun (W2_args m ρ c main_arg3 (by decide)) _

/-! ## The mathematics at an index -/

def U (r : Fin 2048) (j : Fin 1024) : EReal := m (c, Proc.tc.devRef main_arg0) (ix3 0 r (j.castLE (by decide)))
def WT (g : Fin 4) (i j : Fin 256) : EReal := m (c, Proc.tc.devRef main_arg1) (ix4 0 g i j)
def SC (j : Fin 1024) : EReal := m (c, Proc.tc.devRef main_arg2) (ix2 0 j)
def CT (r : Fin 2048) (j : Fin 1024) : EReal := m (c, Proc.tc.devRef main_arg3) (ix3 0 r (j.castLE (by decide)))

/-- The pooled columns. -/
def PO (g : Fin 4) (r : Fin 2048) (k : Fin 256) : EReal := avg (fun r => U m c r (col g k)) g r
/-- The pooled columns' cotangent. -/
def DP (g : Fin 4) (r : Fin 2048) (o : Fin 256) : EReal := ∑ k, CT m c r (col g k) * SC m c (col g k) * WT m c g o k

/-- The group and the place in it of a column. -/
def gof (j : Fin 1024) : Fin 4 := ⟨j.val / 256, by omega⟩
def oof (j : Fin 1024) : Fin 256 := ⟨j.val % 256, by omega⟩

theorem gof_col (g : Fin 4) (o : Fin 256) : gof (col g o) = g := Fin.ext (by dsimp only [gof, col]; omega)
theorem oof_col (g : Fin 4) (o : Fin 256) : oof (col g o) = o := Fin.ext (by dsimp only [oof, col]; omega)

/-- The results of a group of columns. -/
def oy (g : Fin 4) (r : Fin 2048) (o : Fin 256) : EReal := (∑ k, PO m c g r k * WT m c g k o) * SC m c (col g o)
def ou (g : Fin 4) (r : Fin 2048) (o : Fin 256) : EReal := gavg (fun r => DP m c g r o) g r
def ow (g : Fin 4) (k o : Fin 256) : EReal := ∑ r, PO m c g r k * (CT m c r (col g o) * SC m c (col g o))
def os (g : Fin 4) (o : Fin 256) : EReal := ∑ r, CT m c r (col g o) * ∑ k, PO m c g r k * WT m c g k o

/-- The arrays of the results. -/
def OY (y : S2048x1024.Idx) : EReal := oy m c (gof (y 1)) (y 0) (oof (y 1))
def OP (y : S2048x1024.Idx) : EReal := PO m c (gof (y 1)) (y 0) (oof (y 1))
def OU (y : S2048x1024.Idx) : EReal := ou m c (gof (y 1)) (y 0) (oof (y 1))
def OW (y : S4x256x256.Idx) : EReal := ow m c (y 0) (y 1) (y 2)
def OS (y : S1x1024.Idx) : EReal := os m c (gof (y 1)) (oof (y 1))

theorem spread {α : Type} (f : Fin 4 → Fin 256 → α) (g : Fin 4) (o : Fin 256) : f (gof (col g o)) (oof (col g o)) = f g o := by
  rw [gof_col, oof_col]

theorem OY_at (g r o) : OY m c (ix2 r (col g o)) = oy m c g r o := spread (fun g o => oy m c g r o) g o
theorem OP_at (g r o) : OP m c (ix2 r (col g o)) = PO m c g r o := spread (fun g o => PO m c g r o) g o
theorem OU_at (g r o) : OU m c (ix2 r (col g o)) = ou m c g r o := spread (fun g o => ou m c g r o) g o
theorem OS_at (g o) : OS m c (ix2 0 (col g o)) = os m c g o := spread (fun g o => os m c g o) g o

/-! ## The forward kernel -/

theorem b0 (t : Fin cfg0.N) (r : Fin 2048) (o : Fin 256) : (show FVec Ideal S2048x256 .f32 from iblk0 (V1 m ρ) c 0 t) (ix2 r o) = U m c r (col (grp t) o) := by
  refine Eq.trans ?_ (e0 m ρ c r (col (grp t) o))
  blk_ext [iblk0, idx0 t, col, grp]

theorem b1 (t : Fin cfg0.N) (i j : Fin 256) : (show FVec Ideal S1x256x256 .bf16 from iblk0 (V1 m ρ) c 1 t) (ix3 0 i j) = WT m c (grp t) i j := by
  refine Eq.trans ?_ (e3 m ρ c (grp t) i j)
  blk_ext [iblk0, idx0 t, grp]

theorem b2 (t : Fin cfg0.N) (o : Fin 256) : (show FVec Ideal S1x256 .f32 from iblk0 (V1 m ρ) c 2 t) (ix2 0 o) = SC m c (col (grp t) o) := by
  refine Eq.trans ?_ (congrFun (e2 m ρ c) (ix2 0 (col (grp t) o)))
  blk_ext [iblk0, idx0 t, col, grp]

theorem ldS (X : FVec Ideal S2048x256 .f32) : View.ld (Val := Elt Ideal) (e' := .f32) X r0_0 = X := by
  funext y
  idx_vars y
  refine View.ld_unit_apply_of (Val := Elt Ideal) (e := .f32) X _ _ _ _ _ fun a => ?_
  match a with
  | 0 => exact (Nat.zero_add _).symm
  | 1 => exact (Nat.zero_add _).symm

/-- A grid point's pooled columns. -/
theorem pooled_pt (t : Fin cfg0.N) (r : Fin 2048) (o : Fin 256) (X : FVec Ideal S2048x256 .f32) (hX : ∀ r o, X (ix2 r o) = U m c r (col (grp t) o)) :
    k0_pay1 (F := Ideal) (Scalar.shli 2#32 (BitVec.ofNat 32 ((grid0.coords t) 0).val)) (iota .tc S2048x256 32 [0] iota_S2048x256_d0_w32) (k0_pay3 X) (k0_pay4 (grid0.coords t) X) (ix2 r o)
      = PO m c (grp t) r o := by
  rw [pay1 (grid0.coords t) (grp t) (coord0 t), PO]
  simp only [hX]

theorem o4 (t : Fin cfg0.N) (r : Fin 2048) (o : Fin 256) :
    out0_4 (F := Ideal) (grid0.coords t) (iblk0 (V1 m ρ) c 0 t) (iblk0 (V1 m ρ) c 1 t) (iblk0 (V1 m ρ) c 2 t) (ix2 r o) = PO m c (grp t) r o := by
  frame_out
  unfold k0_pay7 k0_pay6 k0_pay5
  refine Eq.trans ?_ (pooled_pt m c t r o _ (b0 m ρ c t))
  exact congrArg (fun X => k0_pay1 (F := Ideal) (Scalar.shli 2#32 (BitVec.ofNat 32 ((grid0.coords t) 0).val)) (iota .tc S2048x256 32 [0] iota_S2048x256_d0_w32) (k0_pay3 X) (k0_pay4 (grid0.coords t) X) (ix2 r o)) (ldS _)

/-- The forward result's block, of any blocks. -/
theorem o3_any (i : grid0.Coords) (x : FVec Ideal S2048x256 .f32) (w : FVec Ideal S1x256x256 .bf16) (s : FVec Ideal S1x256 .f32) (P : Fin 2048 → Fin 256 → EReal)
    (hP : ∀ r k, k0_pay1 (F := Ideal) (Scalar.shli 2#32 (BitVec.ofNat 32 (i 0).val)) (iota .tc S2048x256 32 [0] iota_S2048x256_d0_w32) (k0_pay3 x) (k0_pay4 i x) (ix2 r k) = P r k)
    (r : Fin 2048) (o : Fin 256) : out0_3 (F := Ideal) i x w s (ix2 r o) = (∑ k, P r k * w (ix3 0 k o)) * s (ix2 0 o) := by
  frame_out
  unfold k0_pay7 k0_pay6 k0_pay5
  rw [pay2, ldS]
  simp only [hP]

theorem o3 (t : Fin cfg0.N) (r : Fin 2048) (o : Fin 256) :
    out0_3 (F := Ideal) (grid0.coords t) (iblk0 (V1 m ρ) c 0 t) (iblk0 (V1 m ρ) c 1 t) (iblk0 (V1 m ρ) c 2 t) (ix2 r o) = oy m c (grp t) r o := by
  refine (o3_any (grid0.coords t) (iblk0 (V1 m ρ) c 0 t) (iblk0 (V1 m ρ) c 1 t) (iblk0 (V1 m ρ) c 2 t) (PO m c (grp t))
    (fun r k => pooled_pt m c t r k (iblk0 (V1 m ρ) c 0 t) (b0 m ρ c t)) r o).trans ?_
  exact congrArg₂ (fun a b : EReal => a * b) (Finset.sum_congr rfl fun k _ => congrArg (fun b : EReal => PO m c (grp t) r k * b) (b1 m ρ c t k o)) (b2 m ρ c t o)

theorem final3 : (dat0 (V1 m ρ) c).arrAt 3 cfg0.N = OY m c := by
  refine (dat0 (V1 m ρ) c).arrAt_eq_of_covers 3 _ (by decide +kernel) fun t hf y => ?_
  blk_simp
  rw [after0_3]
  idx_vars y
  rw [o3, ← OY_at]
  refine congrArg (OY m c) ?_
  blk_point [idx0 t, col, grp]

theorem final4 : (dat0 (V1 m ρ) c).arrAt 4 cfg0.N = OP m c := by
  refine (dat0 (V1 m ρ) c).arrAt_eq_of_covers 4 _ (by decide +kernel) fun t hf y => ?_
  blk_simp
  rw [after0_4]
  idx_vars y
  rw [o4, ← OP_at]
  refine congrArg (OP m c) ?_
  blk_point [idx0 t, col, grp]

/-! ## The backward kernel -/

theorem f0 (t : Fin cfg1.N) (r : Fin 2048) (o : Fin 256) : (show FVec Ideal S2048x256 .f32 from iblk1 (V3 m ρ) c 0 t) (ix2 r o) = CT m c r (col (grp t) o) := by
  refine Eq.trans ?_ (e5 m ρ c r ((col (grp t) o).castLE (by decide)))
  blk_ext [iblk1, idx1 t, col, grp]
  rfl

theorem f1 (t : Fin cfg1.N) (r : Fin 2048) (o : Fin 256) : (show FVec Ideal S2048x256 .bf16 from iblk1 (V3 m ρ) c 1 t) (ix2 r o) = PO m c (grp t) r o := by
  have e : V3 m ρ c main_v4_1 = OP m c := (W3_of m ρ c main_v4_1 (by decide)).trans ((W2_arr m ρ c 4).trans (final4 m ρ c))
  refine Eq.trans ?_ ((congrFun e (ix2 r (col (grp t) o))).trans (OP_at m c (grp t) r o))
  blk_ext [iblk1, idx1 t, col, grp]

theorem f2 (t : Fin cfg1.N) (i j : Fin 256) : (show FVec Ideal S1x256x256 .bf16 from iblk1 (V3 m ρ) c 2 t) (ix3 0 i j) = WT m c (grp t) i j := by
  have e : V3 m ρ c main_v3 = V1 m ρ c main_v3 := (W3_of m ρ c main_v3 (by decide)).trans (W2_of m ρ c main_v3 (by decide))
  refine Eq.trans ?_ ((congrFun e (ix3 (grp t) i j)).trans (e3 m ρ c (grp t) i j))
  blk_ext [iblk1, idx1 t, grp]

theorem f3 (t : Fin cfg1.N) (o : Fin 256) : (show FVec Ideal S1x256 .f32 from iblk1 (V3 m ρ) c 3 t) (ix2 0 o) = SC m c (col (grp t) o) := by
  refine Eq.trans ?_ (congrFun (W3_args m ρ c main_arg2 (by decide)) (ix2 0 (col (grp t) o)))
  blk_ext [iblk1, idx1 t, col, grp]

theorem p4 (t : Fin cfg1.N) (r : Fin 2048) (o : Fin 256) :
    out1_4 (F := Ideal) (grid1.coords t) (iblk1 (V3 m ρ) c 0 t) (iblk1 (V3 m ρ) c 1 t) (iblk1 (V3 m ρ) c 2 t) (iblk1 (V3 m ρ) c 3 t) (ix2 r o) = ou m c (grp t) r o := by
  frame_out
  refine (qay1 (grid1.coords t) (grp t) (coord1 t) _ _ _ r o).trans ?_
  refine congrArg (fun d => gavg d (grp t) r) (funext fun r => (qay8 _ _ _ r o).trans (Finset.sum_congr rfl fun k _ => ?_))
  exact congrArg₂ (fun a b : EReal => a * b) (congrArg₂ (fun a b : EReal => a * b) (f0 m ρ c t r k) (f3 m ρ c t k)) (f2 m ρ c t o k)

theorem p5 (t : Fin cfg1.N) (g o : Fin 256) :
    out1_5 (F := Ideal) (grid1.coords t) (iblk1 (V3 m ρ) c 0 t) (iblk1 (V3 m ρ) c 1 t) (iblk1 (V3 m ρ) c 2 t) (iblk1 (V3 m ρ) c 3 t) (ix3 0 g o) = ow m c (grp t) g o := by
  frame_out
  refine (qay7 _ _ _ g o).trans (Finset.sum_congr rfl fun r _ => ?_)
  exact congrArg₂ (fun a b : EReal => a * b) (f1 m ρ c t r g) (congrArg₂ (fun a b : EReal => a * b) (f0 m ρ c t r o) (f3 m ρ c t o))

theorem p6 (t : Fin cfg1.N) (o : Fin 256) :
    out1_6 (F := Ideal) (grid1.coords t) (iblk1 (V3 m ρ) c 0 t) (iblk1 (V3 m ρ) c 1 t) (iblk1 (V3 m ρ) c 2 t) (iblk1 (V3 m ρ) c 3 t) (ix2 0 o) = os m c (grp t) o := by
  frame_out
  refine (qay5 _ _ _ o).trans (Finset.sum_congr rfl fun r _ => ?_)
  exact congrArg₂ (fun a b : EReal => a * b) (f0 m ρ c t r o) (Finset.sum_congr rfl fun k _ => congrArg₂ (fun a b : EReal => a * b) (f1 m ρ c t r k) (f2 m ρ c t k o))

theorem last4 : (dat1 (V3 m ρ) c).arrAt 4 cfg1.N = OU m c := by
  refine (dat1 (V3 m ρ) c).arrAt_eq_of_covers 4 _ (by decide +kernel) fun t hf y => ?_
  blk_simp
  rw [after1_4]
  idx_vars y
  rw [p4, ← OU_at]
  refine congrArg (OU m c) ?_
  blk_point [idx1 t, col, grp]

theorem last5 : (dat1 (V3 m ρ) c).arrAt 5 cfg1.N = OW m c := by
  refine (dat1 (V3 m ρ) c).arrAt_eq_of_covers 5 _ (by decide +kernel) fun t hf y => ?_
  blk_simp
  rw [after1_5]
  idx_vars y
  obtain rfl : y0 = 0 := Subsingleton.elim _ _
  rw [p5]
  refine congrArg (OW m c) (a₁ := ix3 (grp t) y1 y2) ?_
  blk_point [idx1 t, grp]

theorem last6 : (dat1 (V3 m ρ) c).arrAt 6 cfg1.N = OS m c := by
  refine (dat1 (V3 m ρ) c).arrAt_eq_of_covers 6 _ (by decide +kernel) fun t hf y => ?_
  blk_simp
  rw [after1_6]
  idx_vars y
  obtain rfl : y0 = 0 := Subsingleton.elim _ _
  rw [p6, ← OS_at]
  refine congrArg (OS m c) ?_
  blk_point [idx1 t, col, grp]

/-! ## The run -/

section Run
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.isDefEq.respectTransparency.types false in
/-- Every buffer outside the scopes ends at the contents after the last region. -/
theorem run_all : θ_run defs (onTc (τ := τ) (main (F := Ideal))) ⟨m, fun _ => 0, ρ⟩ (fun r => ∀ c : Dev nD, ∀ b ∈ Pipeline.ucRefs τ sig,
    r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htok
      imodintro
      isplitl [Htok]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htok
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hr, -⟩, -⟩
      imodintro
      isplitl [Hb]; · iexact Hb
      isplitl [Hr]; · iexists _; iexact Hr
      iexists ∅
      iexact Ho)
    (QY := fun c s => ∀ b ∈ Pipeline.ucRefs τ sig, s.mem (((c : Thread nD τ)).1, b) = W4 m ρ c b)
    (hfin := fun c s' => by
      iintro ⟨⟨Hb, -⟩, Hs⟩
      unfold StableHlo.held
      imodintro
      iapply (pointsTo_read_all (Pipeline.ucRefs τ sig) (fun b => (((c : Thread nD τ)).1, b)) (W4 m ρ c) s')
      isplitl [Hb] <;> iassumption)
    (hQ := fun _ h _ => h)

end Run

/-- The kernel's run: the results and the arguments at its end. -/
theorem run' : θ_run defs (onTc (τ := τ) (main (F := Ideal))) ⟨m, fun _ => 0, ρ⟩ (fun r => ∀ c : Dev nD,
    r.2.mem (((c : Dev nD), Proc.tc.devRef main_v4_0)) = OY m c
    ∧ r.2.mem (((c : Dev nD), Proc.tc.devRef main_v6_0)) = OU m c
    ∧ r.2.mem (((c : Dev nD), Proc.tc.devRef main_v6_1)) = OW m c
    ∧ r.2.mem (((c : Dev nD), Proc.tc.devRef main_v6_2)) = OS m c
    ∧ r.2.mem (((c : Dev nD), Proc.tc.devRef main_arg0)) = m (((c : Dev nD), Proc.tc.devRef main_arg0))
    ∧ r.2.mem (((c : Dev nD), Proc.tc.devRef main_arg1)) = m (((c : Dev nD), Proc.tc.devRef main_arg1))
    ∧ r.2.mem (((c : Dev nD), Proc.tc.devRef main_arg2)) = m (((c : Dev nD), Proc.tc.devRef main_arg2))
    ∧ r.2.mem (((c : Dev nD), Proc.tc.devRef main_arg3)) = m (((c : Dev nD), Proc.tc.devRef main_arg3))) :=
  (θ_run defs _ _).mono (fun _ h c =>
    ⟨(h c _ (mem_uc main_v4_0 (by decide))).trans ((W4_of m ρ c main_v4_0 (by decide)).trans ((W3_of m ρ c main_v4_0 (by decide)).trans ((W2_arr m ρ c 3).trans (final3 m ρ c)))),
     (h c _ (mem_uc main_v6_0 (by decide))).trans ((W4_arr m ρ c 4).trans (last4 m ρ c)),
     (h c _ (mem_uc main_v6_1 (by decide))).trans ((W4_arr m ρ c 5).trans (last5 m ρ c)),
     (h c _ (mem_uc main_v6_2 (by decide))).trans ((W4_arr m ρ c 6).trans (last6 m ρ c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.PoolIdeal.Read

end
-- ==== Proof.PoolRef.lean ====
/- The causal mean-pool mixer and its gradient as the reference computes them, read at an index. -/
module

public import proofs.«01_k».proof.Proof.Gen.PoolRefIdeal.Run
public import proofs.«01_k».proof.Proof.PoolMath

@[expose] public section

set_option maxRecDepth 16384

noncomputable section

namespace Cert.PoolRefIdeal.Read

open Cert.PoolRefIdeal Cert.PoolRefIdeal.Gen Cert.PoolRefIdeal.Value Cert.Reals Cert.PoolMath
open Idealize.ShloMosaic Idealize.ShloMosaic.TcCoe Idealize.SL.Sem
open scoped BigOperators

/-- The mixer's input, by groups of columns. -/
def inp (x0 : FVec Ideal S1x2048x4112 .f32) : FVec Ideal S1x2048x4x256 .f32 :=
  shapeCast _ (extractStridedSlice S1x2048x1024 ![0, 0, 0] x0 slices_S1x2048x4112_S1x2048x1024_0_0_0) shapeCasts_S1x2048x1024_S1x2048x4x256

/-- The groups' weights. -/
def wts (x1 : FVec Ideal S1x4x256x256 .f32) : FVec Ideal S4x256x256 .f32 := shapeCast _ x1 shapeCasts_S1x4x256x256_S4x256x256

/-- The running sums down the rows. -/
def cum (x : FVec Ideal S1x2048x4x256 .f32) : FVec Ideal S1x2048x4x256 .f32 :=
  Host.reduceWindowAdd ![1, 2048, 1, 1] ![1, 1, 1, 1] ![0, 2047, 0, 0] ![0, 0, 0, 0] x (broadcastInDim S_ ![] bcast_S_S_ (constant S_ .f32 0x00000000#32)) reduceWindows_S1x2048x4x256_S1x2048x4x256_w1s1p0_0_w2048s1p2047_0_w1s1p0_0_w1s1p0_0 h_S_

/-- The running sums up the rows. -/
def rcum (x : FVec Ideal S1x2048x4x256 .f32) : FVec Ideal S1x2048x4x256 .f32 :=
  Host.reduceWindowAdd ![1, 2048, 1, 1] ![1, 1, 1, 1] ![0, 0, 0, 0] ![0, 2047, 0, 0] x (broadcastInDim S_ ![] bcast_S_S_ (constant S_ .f32 0x00000000#32)) reduceWindows_S1x2048x4x256_S1x2048x4x256_w1s1p0_0_w2048s1p0_2047_w1s1p0_0_w1s1p0_0 h_S_

/-- How many rows a window of the given width holds, in each row. -/
def count (w : BitVec 32) : FVec Ideal S1x2048x256 .f32 :=
  broadcastInDim S1x2048x256 ![0, 1, 2] bcast_S1x2048x1_S1x2048x256_0_1_2 (broadcastInDim S1x2048x1 ![1] bcast_S2048_S1x2048x1_1 (sitofp .f32 (minsi (addi (broadcastInDim S2048 ![] bcast_S_S2048 (constantI S_ 32 1#32)) (iotaInDim S2048 32 0)) (broadcastInDim S2048 ![] bcast_S_S2048 (constantI S_ 32 w)))))

/-- Group 0's columns. -/
def cut0 (x : FVec Ideal S1x2048x4x256 .f32) : FVec Ideal S1x2048x256 .f32 :=
  shapeCast _ (extractStridedSlice S1x2048x1x256 ![0, 0, 0, 0] x slices_S1x2048x4x256_S1x2048x1x256_0_0_0_0) shapeCasts_S1x2048x1x256_S1x2048x256
/-- Rows moved down by 2. -/
def down0 (x : FVec Ideal S1x2048x256 .f32) : FVec Ideal S1x2048x256 .f32 :=
  concatenate S1x2048x256 1 [⟨S1x2x256, (broadcastInDim S1x2x256 ![] bcast_S_S1x2x256 (constant S_ .f32 0x00000000#32))⟩, ⟨S1x2046x256, (extractStridedSlice S1x2046x256 ![0, 0, 0] x slices_S1x2048x256_S1x2046x256_0_0_0)⟩] concatenates_S1x2x256_S1x2046x256_S1x2048x256_d1
/-- Rows moved up by 2. -/
def up0 (x : FVec Ideal S1x2048x256 .f32) : FVec Ideal S1x2048x256 .f32 :=
  pad S1x2048x256 ![0, 0, 0] ![0, 2, 0] ![0, 0, 0] (extractStridedSlice S1x2046x256 ![0, 2, 0] x slices_S1x2048x256_S1x2046x256_0_2_0) (constant S_ .f32 0x00000000#32) pads_S1x2046x256_S1x2048x256_000_020_000 h_S_
/-- Group 0's pooled columns. -/
def mean0 (x : FVec Ideal S1x2048x4x256 .f32) : FVec Ideal S1x2048x256 .f32 :=
  Host.divf (subf (cut0 x) (down0 (cut0 x))) (count 2#32)
/-- The cotangent of the running sums that group 0's differences give. -/
def diff0 (x : FVec Ideal S1x2048x4x256 .f32) : FVec Ideal S1x2048x256 .f32 :=
  addf (Host.divf (cut0 x) (count 2#32)) (up0 (Host.negf (Host.divf (cut0 x) (count 2#32))))
/-- Group 0's columns among zeros. -/
def put0 (x : FVec Ideal S1x2048x256 .f32) : FVec Ideal S1x2048x4x256 .f32 :=
  pad S1x2048x4x256 ![0, 0, 0, 0] ![0, 0, 3, 0] ![0, 0, 0, 0] (broadcastInDim S1x2048x1x256 ![0, 1, 3] bcast_S1x2048x256_S1x2048x1x256_0_1_3 x) (constant S_ .f32 0x00000000#32) pads_S1x2048x1x256_S1x2048x4x256_000_000_030_000 h_S_

/-- Group 1's columns. -/
def cut1 (x : FVec Ideal S1x2048x4x256 .f32) : FVec Ideal S1x2048x256 .f32 :=
  shapeCast _ (extractStridedSlice S1x2048x1x256 ![0, 0, 1, 0] x slices_S1x2048x4x256_S1x2048x1x256_0_0_1_0) shapeCasts_S1x2048x1x256_S1x2048x256
/-- Rows moved down by 4. -/
def down1 (x : FVec Ideal S1x2048x256 .f32) : FVec Ideal S1x2048x256 .f32 :=
  concatenate S1x2048x256 1 [⟨S1x4x256, (broadcastInDim S1x4x256 ![] bcast_S_S1x4x256 (constant S_ .f32 0x00000000#32))⟩, ⟨S1x2044x256, (extractStridedSlice S1x2044x256 ![0, 0, 0] x slices_S1x2048x256_S1x2044x256_0_0_0)⟩] concatenates_S1x4x256_S1x2044x256_S1x2048x256_d1
/-- Rows moved up by 4. -/
def up1 (x : FVec Ideal S1x2048x256 .f32) : FVec Ideal S1x2048x256 .f32 :=
  pad S1x2048x256 ![0, 0, 0] ![0, 4, 0] ![0, 0, 0] (extractStridedSlice S1x2044x256 ![0, 4, 0] x slices_S1x2048x256_S1x2044x256_0_4_0) (constant S_ .f32 0x00000000#32) pads_S1x2044x256_S1x2048x256_000_040_000 h_S_
/-- Group 1's pooled columns. -/
def mean1 (x : FVec Ideal S1x2048x4x256 .f32) : FVec Ideal S1x2048x256 .f32 :=
  Host.divf (subf (cut1 x) (down1 (cut1 x))) (count 4#32)
/-- The cotangent of the running sums that group 1's differences give. -/
def diff1 (x : FVec Ideal S1x2048x4x256 .f32) : FVec Ideal S1x2048x256 .f32 :=
  addf (Host.divf (cut1 x) (count 4#32)) (up1 (Host.negf (Host.divf (cut1 x) (count 4#32))))
/-- Group 1's columns among zeros. -/
def put1 (x : FVec Ideal S1x2048x256 .f32) : FVec Ideal S1x2048x4x256 .f32 :=
  pad S1x2048x4x256 ![0, 0, 1, 0] ![0, 0, 2, 0] ![0, 0, 0, 0] (broadcastInDim S1x2048x1x256 ![0, 1, 3] bcast_S1x2048x256_S1x2048x1x256_0_1_3 x) (constant S_ .f32 0x00000000#32) pads_S1x2048x1x256_S1x2048x4x256_000_000_120_000 h_S_

/-- Group 2's columns. -/
def cut2 (x : FVec Ideal S1x2048x4x256 .f32) : FVec Ideal S1x2048x256 .f32 :=
  shapeCast _ (extractStridedSlice S1x2048x1x256 ![0, 0, 2, 0] x slices_S1x2048x4x256_S1x2048x1x256_0_0_2_0) shapeCasts_S1x2048x1x256_S1x2048x256
/-- Rows moved down by 8. -/
def down2 (x : FVec Ideal S1x2048x256 .f32) : FVec Ideal S1x2048x256 .f32 :=
  concatenate S1x2048x256 1 [⟨S1x8x256, (broadcastInDim S1x8x256 ![] bcast_S_S1x8x256 (constant S_ .f32 0x00000000#32))⟩, ⟨S1x2040x256, (extractStridedSlice S1x2040x256 ![0, 0, 0] x slices_S1x2048x256_S1x2040x256_0_0_0)⟩] concatenates_S1x8x256_S1x2040x256_S1x2048x256_d1
/-- Rows moved up by 8. -/
def up2 (x : FVec Ideal S1x2048x256 .f32) : FVec Ideal S1x2048x256 .f32 :=
  pad S1x2048x256 ![0, 0, 0] ![0, 8, 0] ![0, 0, 0] (extractStridedSlice S1x2040x256 ![0, 8, 0] x slices_S1x2048x256_S1x2040x256_0_8_0) (constant S_ .f32 0x00000000#32) pads_S1x2040x256_S1x2048x256_000_080_000 h_S_
/-- Group 2's pooled columns. -/
def mean2 (x : FVec Ideal S1x2048x4x256 .f32) : FVec Ideal S1x2048x256 .f32 :=
  Host.divf (subf (cut2 x) (down2 (cut2 x))) (count 8#32)
/-- The cotangent of the running sums that group 2's differences give. -/
def diff2 (x : FVec Ideal S1x2048x4x256 .f32) : FVec Ideal S1x2048x256 .f32 :=
  addf (Host.divf (cut2 x) (count 8#32)) (up2 (Host.negf (Host.divf (cut2 x) (count 8#32))))
/-- Group 2's columns among zeros. -/
def put2 (x : FVec Ideal S1x2048x256 .f32) : FVec Ideal S1x2048x4x256 .f32 :=
  pad S1x2048x4x256 ![0, 0, 2, 0] ![0, 0, 1, 0] ![0, 0, 0, 0] (broadcastInDim S1x2048x1x256 ![0, 1, 3] bcast_S1x2048x256_S1x2048x1x256_0_1_3 x) (constant S_ .f32 0x00000000#32) pads_S1x2048x1x256_S1x2048x4x256_000_000_210_000 h_S_

/-- Group 3's columns. -/
def cut3 (x : FVec Ideal S1x2048x4x256 .f32) : FVec Ideal S1x2048x256 .f32 :=
  shapeCast _ (extractStridedSlice S1x2048x1x256 ![0, 0, 3, 0] x slices_S1x2048x4x256_S1x2048x1x256_0_0_3_0) shapeCasts_S1x2048x1x256_S1x2048x256
/-- Rows moved down by 16. -/
def down3 (x : FVec Ideal S1x2048x256 .f32) : FVec Ideal S1x2048x256 .f32 :=
  concatenate S1x2048x256 1 [⟨S1x16x256, (broadcastInDim S1x16x256 ![] bcast_S_S1x16x256 (constant S_ .f32 0x00000000#32))⟩, ⟨S1x2032x256, (extractStridedSlice S1x2032x256 ![0, 0, 0] x slices_S1x2048x256_S1x2032x256_0_0_0)⟩] concatenates_S1x16x256_S1x2032x256_S1x2048x256_d1
/-- Rows moved up by 16. -/
def up3 (x : FVec Ideal S1x2048x256 .f32) : FVec Ideal S1x2048x256 .f32 :=
  pad S1x2048x256 ![0, 0, 0] ![0, 16, 0] ![0, 0, 0] (extractStridedSlice S1x2032x256 ![0, 16, 0] x slices_S1x2048x256_S1x2032x256_0_16_0) (constant S_ .f32 0x00000000#32) pads_S1x2032x256_S1x2048x256_000_0160_000 h_S_
/-- Group 3's pooled columns. -/
def mean3 (x : FVec Ideal S1x2048x4x256 .f32) : FVec Ideal S1x2048x256 .f32 :=
  Host.divf (subf (cut3 x) (down3 (cut3 x))) (count 16#32)
/-- The cotangent of the running sums that group 3's differences give. -/
def diff3 (x : FVec Ideal S1x2048x4x256 .f32) : FVec Ideal S1x2048x256 .f32 :=
  addf (Host.divf (cut3 x) (count 16#32)) (up3 (Host.negf (Host.divf (cut3 x) (count 16#32))))
/-- Group 3's columns among zeros. -/
def put3 (x : FVec Ideal S1x2048x256 .f32) : FVec Ideal S1x2048x4x256 .f32 :=
  pad S1x2048x4x256 ![0, 0, 3, 0] ![0, 0, 0, 0] ![0, 0, 0, 0] (broadcastInDim S1x2048x1x256 ![0, 1, 3] bcast_S1x2048x256_S1x2048x1x256_0_1_3 x) (constant S_ .f32 0x00000000#32) pads_S1x2048x1x256_S1x2048x4x256_000_000_300_000 h_S_

/-- The pooled columns less the input. -/
def pooled (x0 : FVec Ideal S1x2048x4112 .f32) : FVec Ideal S1x2048x4x256 .f32 :=
  subf (concatenate S1x2048x4x256 2 [⟨S1x2048x1x256, (broadcastInDim S1x2048x1x256 ![0, 1, 3] bcast_S1x2048x256_S1x2048x1x256_0_1_3 (mean0 (cum (inp x0))))⟩, ⟨S1x2048x1x256, (broadcastInDim S1x2048x1x256 ![0, 1, 3] bcast_S1x2048x256_S1x2048x1x256_0_1_3 (mean1 (cum (inp x0))))⟩, ⟨S1x2048x1x256, (broadcastInDim S1x2048x1x256 ![0, 1, 3] bcast_S1x2048x256_S1x2048x1x256_0_1_3 (mean2 (cum (inp x0))))⟩, ⟨S1x2048x1x256, (broadcastInDim S1x2048x1x256 ![0, 1, 3] bcast_S1x2048x256_S1x2048x1x256_0_1_3 (mean3 (cum (inp x0))))⟩] concatenates_S1x2048x1x256_S1x2048x1x256_S1x2048x1x256_S1x2048x1x256_S1x2048x4x256_d2) (inp x0)

/-- The groups' products, unscaled. -/
def y0 (x0 : FVec Ideal S1x2048x4112 .f32) (x1 : FVec Ideal S1x4x256x256 .f32) : FVec Ideal S1x2048x1024 .f32 :=
  shapeCast _ (transpose S1x2048x4x256 [2, 3, 0, 1] (Host.dotGeneral dot_S4x256x256_S1x2048x4x256_S4x256x1x2048_1_3_2_01_0_2 none (wts x1) (pooled x0)) transposes_S4x256x1x2048_S1x2048x4x256_2_3_0_1) shapeCasts_S1x2048x4x256_S1x2048x1024

/-- The scale on every row. -/
def scale (x2 : FVec Ideal S1x1024 .f32) : FVec Ideal S1x2048x1024 .f32 :=
  broadcastInDim S1x2048x1024 ![0, 1, 2] bcast_S1x1x1024_S1x2048x1024_0_1_2 (broadcastInDim S1x1x1024 ![2] bcast_S1024_S1x1x1024_2 (shapeCast _ x2 shapeCasts_S1x1024_S1024))

/-- The cotangent's columns of this mixer. -/
def cot (x3 : FVec Ideal S1x2048x2048 .f32) : FVec Ideal S1x2048x1024 .f32 := extractStridedSlice S1x2048x1024 ![0, 0, 0] x3 slices_S1x2048x2048_S1x2048x1024_0_0_0

/-- The products' cotangent, by groups. -/
def dz (x2 : FVec Ideal S1x1024 .f32) (x3 : FVec Ideal S1x2048x2048 .f32) : FVec Ideal S4x256x1x2048 .f32 :=
  transpose S4x256x1x2048 [2, 3, 0, 1] (shapeCast _ (mulf (cot x3) (scale x2)) shapeCasts_S1x2048x1024_S1x2048x4x256) transposes_S1x2048x4x256_S4x256x1x2048_2_3_0_1

/-- The pooled columns' cotangent. -/
def dp (x1 : FVec Ideal S1x4x256x256 .f32) (x2 : FVec Ideal S1x1024 .f32) (x3 : FVec Ideal S1x2048x2048 .f32) : FVec Ideal S1x2048x4x256 .f32 :=
  transpose S1x2048x4x256 [1, 2, 0, 3] (Host.dotGeneral dot_S4x256x1x2048_S4x256x256_S4x1x2048x256_1_2_23_1_0_0 none (dz x2 x3) (wts x1)) transposes_S4x1x2048x256_S1x2048x4x256_1_2_0_3

/-- The running sums' cotangent. -/
def dc (x : FVec Ideal S1x2048x4x256 .f32) : FVec Ideal S1x2048x4x256 .f32 :=
  addf (addf (addf (put3 (diff3 x)) (put2 (diff2 x))) (put1 (diff1 x))) (put0 (diff0 x))

/-- The results as functions of the arguments. -/
def R0 (x0 : FVec Ideal S1x2048x4112 .f32) (x1 : FVec Ideal S1x4x256x256 .f32) (x2 : FVec Ideal S1x1024 .f32) : FVec Ideal S2048x1024 .bf16 :=
  truncf .bf16 (shapeCast _ (mulf (y0 x0 x1) (scale x2)) shapeCasts_S1x2048x1024_S2048x1024) bitsLt_bf16_f32
/-- The input's gradient. -/
def R1 (x1 : FVec Ideal S1x4x256x256 .f32) (x2 : FVec Ideal S1x1024 .f32) (x3 : FVec Ideal S1x2048x2048 .f32) : FVec Ideal S2048x1024 .bf16 :=
  truncf .bf16 (shapeCast _ (shapeCast _ (addf (Host.negf (dp x1 x2 x3)) (rcum (dc (dp x1 x2 x3)))) shapeCasts_S1x2048x4x256_S1x2048x1024) shapeCasts_S1x2048x1024_S2048x1024) bitsLt_bf16_f32
/-- The weights' gradient. -/
def R2 (x0 : FVec Ideal S1x2048x4112 .f32) (x2 : FVec Ideal S1x1024 .f32) (x3 : FVec Ideal S1x2048x2048 .f32) : FVec Ideal S4x256x256 .f32 :=
  shapeCast _ (broadcastInDim S1x4x256x256 ![1, 2, 3] bcast_S4x256x256_S1x4x256x256_1_2_3 (transpose S4x256x256 [0, 2, 1] (Host.dotGeneral dot_S4x256x1x2048_S1x2048x4x256_S4x256x256_23_01_1_3_0_2 none (dz x2 x3) (pooled x0)) transposes_S4x256x256_S4x256x256_0_2_1)) shapeCasts_S1x4x256x256_S4x256x256
/-- The scale's gradient. -/
def R3 (x0 : FVec Ideal S1x2048x4112 .f32) (x1 : FVec Ideal S1x4x256x256 .f32) (x3 : FVec Ideal S1x2048x2048 .f32) : FVec Ideal S1x1024 .f32 :=
  broadcastInDim S1x1024 ![1] bcast_S1024_S1x1024_1 (Host.reduceAdd (shapeCast _ (Host.reduceAdd (mulf (y0 x0 x1) (cot x3)) (constant S_ .f32 0x00000000#32) reducesTo_S1x2048x1024_S1x1024_d1 h_S_) shapeCasts_S1x1024_S1x1x1024) (constant S_ .f32 0x00000000#32) reducesTo_S1x1x1024_S1024_d0_1 h_S_)

variable (m : (ℓ : Loc nD τ sig) → Buf (Elt Ideal) ℓ) (ρ : Dev nD → PrngReg) (c : Dev nD)

theorem out0_eq : res_main_v139 (F := Ideal) m c = R0 (m ((c.tc : Thread nD τ).loc main_arg0)) (m ((c.tc : Thread nD τ).loc main_arg1)) (m ((c.tc : Thread nD τ).loc main_arg2)) := by
  unfold res_main_v139
  rfl

theorem out1_eq : res_main_v141 (F := Ideal) m c = R1 (m ((c.tc : Thread nD τ).loc main_arg1)) (m ((c.tc : Thread nD τ).loc main_arg2)) (m ((c.tc : Thread nD τ).loc main_arg3)) := by
  unfold res_main_v141
  rfl

theorem out2_eq : res_main_v142 (F := Ideal) m c = R2 (m ((c.tc : Thread nD τ).loc main_arg0)) (m ((c.tc : Thread nD τ).loc main_arg2)) (m ((c.tc : Thread nD τ).loc main_arg3)) := by
  unfold res_main_v142
  rfl

theorem out3_eq : res_main_v136 (F := Ideal) m c = R3 (m ((c.tc : Thread nD τ).loc main_arg0)) (m ((c.tc : Thread nD τ).loc main_arg1)) (m ((c.tc : Thread nD τ).loc main_arg3)) := by
  unfold res_main_v136
  rfl

/-- The reference's run with its results as functions of its arguments. -/
theorem run' : θ_run defs (onTc (τ := τ) (main (F := Ideal))) ⟨m, fun _ => 0, ρ⟩ fun r => ∀ c : Dev nD,
      r.2.mem ((c.tc : Thread nD τ).loc main_v139) = R0 (m ((c.tc : Thread nD τ).loc main_arg0)) (m ((c.tc : Thread nD τ).loc main_arg1)) (m ((c.tc : Thread nD τ).loc main_arg2))
      ∧ r.2.mem ((c.tc : Thread nD τ).loc main_v141) = R1 (m ((c.tc : Thread nD τ).loc main_arg1)) (m ((c.tc : Thread nD τ).loc main_arg2)) (m ((c.tc : Thread nD τ).loc main_arg3))
      ∧ r.2.mem ((c.tc : Thread nD τ).loc main_v142) = R2 (m ((c.tc : Thread nD τ).loc main_arg0)) (m ((c.tc : Thread nD τ).loc main_arg2)) (m ((c.tc : Thread nD τ).loc main_arg3))
      ∧ r.2.mem ((c.tc : Thread nD τ).loc main_v136) = R3 (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (out0_eq m c), (h c).2.1.trans (out1_eq m c), (h c).2.2.1.trans (out2_eq m c), (h c).2.2.2.1.trans (out3_eq m c), (h c).2.2.2.2⟩) (run m ρ)

/-- Column `o` of group `g`. -/
def col (g : Fin 4) (o : Fin 256) : Fin 1024 := ⟨g.val * 256 + o.val, by omega⟩

theorem inp_at (x0 : FVec Ideal S1x2048x4112 .f32) (r : Fin 2048) (g : Fin 4) (o : Fin 256) : inp x0 (ix4 0 r g o) = x0 (ix3 0 r ((col g o).castLE (by decide))) := by
  pointwise [inp]
  rfl

theorem zero_at : (broadcastInDim S_ ![] bcast_S_S_ (constant (F := Ideal) S_ .f32 0x00000000#32)) (Shape.Idx.first h_S_) = 0 := by
  pointwise []

theorem cum_at' (x : FVec Ideal S1x2048x4x256 .f32) (r : Fin 2048) (g : Fin 4) (o : Fin 256) : cum x (ix4 0 r g o) = ∑ i : Fin 2048, if i ≤ r then x (ix4 0 i g o) else 0 := by
  unfold cum Host.reduceWindowAdd
  rw [zero_at]
  exact cum_at x _ r g o

theorem rcum_at' (x : FVec Ideal S1x2048x4x256 .f32) (r : Fin 2048) (g : Fin 4) (o : Fin 256) : rcum x (ix4 0 r g o) = ∑ i : Fin 2048, if r ≤ i then x (ix4 0 i g o) else 0 := by
  unfold rcum Host.reduceWindowAdd
  rw [zero_at]
  exact rcum_at x _ r g o

theorem mean0_at (x : FVec Ideal S1x2048x4x256 .f32) (hx : ∀ r g o, IsReal (x (ix4 0 r g o))) (r : Fin 2048) (o : Fin 256) :
    mean0 (cum x) (ix3 0 r o) = Ideal.div (back (ext fun i => x (ix4 0 i 0 o)) (win 0) r.val) (cnt 0 r) := by
  pointwise [mean0, cut0, down0, count]
  simp only [cum_at']
  rw [← back_eq (fun i => hx _ _ _)]
  rfl

theorem diff0_at (x : FVec Ideal S1x2048x4x256 .f32) (r : Fin 2048) (o : Fin 256) :
    diff0 x (ix3 0 r o) = Ideal.div (x (ix4 0 r 0 o)) (cnt 0 r)
      + (if h : r.val + win 0 < 2048 then -Ideal.div (x (ix4 0 ⟨r.val + win 0, h⟩ 0 o)) (cnt 0 ⟨r.val + win 0, h⟩) else 0) := by
  pointwise [diff0, cut0, up0, count]
  refine congrArg (Ideal.div (x (ix4 0 r 0 o)) (cnt 0 r) + ·) ?_
  by_cases h : r.val < 2046
  · have e : (⟨2 + r.val, by omega⟩ : Fin 2048) = ⟨r.val + win 0, by change r.val + 2 < 2048; omega⟩ := Fin.ext (Nat.add_comm _ _)
    rw [dif_pos h, dif_pos (show r.val + win 0 < 2048 by change r.val + 2 < 2048; omega), ← e]
    rfl
  · rw [dif_neg h, dif_neg (show ¬ r.val + win 0 < 2048 by change ¬ r.val + 2 < 2048; omega)]

theorem put0_at (x : FVec Ideal S1x2048x256 .f32) (r : Fin 2048) (g : Fin 4) (o : Fin 256) : put0 x (ix4 0 r g o) = if 0 ≤ g.val ∧ g.val - 0 < 1 then x (ix3 0 r o) else 0 := by
  pointwise [put0]
  split <;> rfl

theorem mean1_at (x : FVec Ideal S1x2048x4x256 .f32) (hx : ∀ r g o, IsReal (x (ix4 0 r g o))) (r : Fin 2048) (o : Fin 256) :
    mean1 (cum x) (ix3 0 r o) = Ideal.div (back (ext fun i => x (ix4 0 i 1 o)) (win 1) r.val) (cnt 1 r) := by
  pointwise [mean1, cut1, down1, count]
  simp only [cum_at']
  rw [← back_eq (fun i => hx _ _ _)]
  rfl

theorem diff1_at (x : FVec Ideal S1x2048x4x256 .f32) (r : Fin 2048) (o : Fin 256) :
    diff1 x (ix3 0 r o) = Ideal.div (x (ix4 0 r 1 o)) (cnt 1 r)
      + (if h : r.val + win 1 < 2048 then -Ideal.div (x (ix4 0 ⟨r.val + win 1, h⟩ 1 o)) (cnt 1 ⟨r.val + win 1, h⟩) else 0) := by
  pointwise [diff1, cut1, up1, count]
  refine congrArg (Ideal.div (x (ix4 0 r 1 o)) (cnt 1 r) + ·) ?_
  by_cases h : r.val < 2044
  · have e : (⟨4 + r.val, by omega⟩ : Fin 2048) = ⟨r.val + win 1, by change r.val + 4 < 2048; omega⟩ := Fin.ext (Nat.add_comm _ _)
    rw [dif_pos h, dif_pos (show r.val + win 1 < 2048 by change r.val + 4 < 2048; omega), ← e]
    rfl
  · rw [dif_neg h, dif_neg (show ¬ r.val + win 1 < 2048 by change ¬ r.val + 4 < 2048; omega)]

theorem put1_at (x : FVec Ideal S1x2048x256 .f32) (r : Fin 2048) (g : Fin 4) (o : Fin 256) : put1 x (ix4 0 r g o) = if 1 ≤ g.val ∧ g.val - 1 < 1 then x (ix3 0 r o) else 0 := by
  pointwise [put1]
  split <;> rfl

theorem mean2_at (x : FVec Ideal S1x2048x4x256 .f32) (hx : ∀ r g o, IsReal (x (ix4 0 r g o))) (r : Fin 2048) (o : Fin 256) :
    mean2 (cum x) (ix3 0 r o) = Ideal.div (back (ext fun i => x (ix4 0 i 2 o)) (win 2) r.val) (cnt 2 r) := by
  pointwise [mean2, cut2, down2, count]
  simp only [cum_at']
  rw [← back_eq (fun i => hx _ _ _)]
  rfl

theorem diff2_at (x : FVec Ideal S1x2048x4x256 .f32) (r : Fin 2048) (o : Fin 256) :
    diff2 x (ix3 0 r o) = Ideal.div (x (ix4 0 r 2 o)) (cnt 2 r)
      + (if h : r.val + win 2 < 2048 then -Ideal.div (x (ix4 0 ⟨r.val + win 2, h⟩ 2 o)) (cnt 2 ⟨r.val + win 2, h⟩) else 0) := by
  pointwise [diff2, cut2, up2, count]
  refine congrArg (Ideal.div (x (ix4 0 r 2 o)) (cnt 2 r) + ·) ?_
  by_cases h : r.val < 2040
  · have e : (⟨8 + r.val, by omega⟩ : Fin 2048) = ⟨r.val + win 2, by change r.val + 8 < 2048; omega⟩ := Fin.ext (Nat.add_comm _ _)
    rw [dif_pos h, dif_pos (show r.val + win 2 < 2048 by change r.val + 8 < 2048; omega), ← e]
    rfl
  · rw [dif_neg h, dif_neg (show ¬ r.val + win 2 < 2048 by change ¬ r.val + 8 < 2048; omega)]

theorem put2_at (x : FVec Ideal S1x2048x256 .f32) (r : Fin 2048) (g : Fin 4) (o : Fin 256) : put2 x (ix4 0 r g o) = if 2 ≤ g.val ∧ g.val - 2 < 1 then x (ix3 0 r o) else 0 := by
  pointwise [put2]
  split <;> rfl

theorem mean3_at (x : FVec Ideal S1x2048x4x256 .f32) (hx : ∀ r g o, IsReal (x (ix4 0 r g o))) (r : Fin 2048) (o : Fin 256) :
    mean3 (cum x) (ix3 0 r o) = Ideal.div (back (ext fun i => x (ix4 0 i 3 o)) (win 3) r.val) (cnt 3 r) := by
  pointwise [mean3, cut3, down3, count]
  simp only [cum_at']
  rw [← back_eq (fun i => hx _ _ _)]
  rfl

theorem diff3_at (x : FVec Ideal S1x2048x4x256 .f32) (r : Fin 2048) (o : Fin 256) :
    diff3 x (ix3 0 r o) = Ideal.div (x (ix4 0 r 3 o)) (cnt 3 r)
      + (if h : r.val + win 3 < 2048 then -Ideal.div (x (ix4 0 ⟨r.val + win 3, h⟩ 3 o)) (cnt 3 ⟨r.val + win 3, h⟩) else 0) := by
  pointwise [diff3, cut3, up3, count]
  refine congrArg (Ideal.div (x (ix4 0 r 3 o)) (cnt 3 r) + ·) ?_
  by_cases h : r.val < 2032
  · have e : (⟨16 + r.val, by omega⟩ : Fin 2048) = ⟨r.val + win 3, by change r.val + 16 < 2048; omega⟩ := Fin.ext (Nat.add_comm _ _)
    rw [dif_pos h, dif_pos (show r.val + win 3 < 2048 by change r.val + 16 < 2048; omega), ← e]
    rfl
  · rw [dif_neg h, dif_neg (show ¬ r.val + win 3 < 2048 by change ¬ r.val + 16 < 2048; omega)]

theorem put3_at (x : FVec Ideal S1x2048x256 .f32) (r : Fin 2048) (g : Fin 4) (o : Fin 256) : put3 x (ix4 0 r g o) = if 3 ≤ g.val ∧ g.val - 3 < 1 then x (ix3 0 r o) else 0 := by
  pointwise [put3]
  split <;> rfl

/-- The pooled columns less the input. -/
theorem pooled_at (x0 : FVec Ideal S1x2048x4112 .f32) (h0 : ∀ i, IsReal (x0 i)) (r : Fin 2048) (g : Fin 4) (o : Fin 256) :
    pooled x0 (ix4 0 r g o) = avg (fun i => x0 (ix3 0 i ((col g o).castLE (by decide)))) g r := by
  have hx : ∀ r g o, IsReal (inp x0 (ix4 0 r g o)) := fun r g o => by
    rw [inp_at]
    exact h0 _
  pointwise [pooled]
  simp only [← inp_at]
  refine congrArg (· - inp x0 (ix4 0 r g o)) ?_
  match g with
  | 0 => exact mean0_at (inp x0) hx r o
  | 1 => exact mean1_at (inp x0) hx r o
  | 2 => exact mean2_at (inp x0) hx r o
  | 3 => exact mean3_at (inp x0) hx r o

/-- The running sums' cotangent. -/
theorem dc_at (x : FVec Ideal S1x2048x4x256 .f32) (r : Fin 2048) (g : Fin 4) (o : Fin 256) :
    dc x (ix4 0 r g o) = Ideal.div (x (ix4 0 r g o)) (cnt g r)
      + (if h : r.val + win g < 2048 then -Ideal.div (x (ix4 0 ⟨r.val + win g, h⟩ g o)) (cnt g ⟨r.val + win g, h⟩) else 0) := by
  pointwise [dc]
  simp only [put0_at, put1_at, put2_at, put3_at, diff0_at, diff1_at, diff2_at, diff3_at]
  match g with
  | 0 => simp
  | 1 => simp
  | 2 => simp
  | 3 => simp

theorem y0_at (x0 : FVec Ideal S1x2048x4112 .f32) (x1 : FVec Ideal S1x4x256x256 .f32) (r : Fin 2048) (g : Fin 4) (o : Fin 256) :
    y0 x0 x1 (ix3 0 r (col g o)) = ∑ k : Fin 256, x1 (ix4 0 g k o) * pooled x0 (ix4 0 r g k) := by
  pointwise [y0, wts]
  refine Finset.sum_congr rfl fun k _ => ?_
  have a : (⟨(col g o).val / 256, by have := (col g o).isLt; omega⟩ : Fin 4) = g := Fin.ext (by change (g.val * 256 + o.val) / 256 = g.val; omega)
  have b : (⟨(col g o).val % 256, by omega⟩ : Fin 256) = o := Fin.ext (by change (g.val * 256 + o.val) % 256 = o.val; omega)
  exact congrArg₂ (· * ·) (congrArg₂ (fun p q => x1 (ix4 0 p k q)) a b) (congrArg (fun p => pooled x0 (ix4 0 r p k)) a)

theorem dp_at (x1 : FVec Ideal S1x4x256x256 .f32) (x2 : FVec Ideal S1x1024 .f32) (x3 : FVec Ideal S1x2048x2048 .f32) (r : Fin 2048) (g : Fin 4) (o : Fin 256) :
    dp x1 x2 x3 (ix4 0 r g o) = ∑ k : Fin 256, x3 (ix3 0 r ((col g k).castLE (by decide))) * x2 (ix2 0 (col g k)) * x1 (ix4 0 g o k) := by
  pointwise [dp, dz, wts, scale, cot]
  rfl

theorem R0_at (x0 : FVec Ideal S1x2048x4112 .f32) (x1 : FVec Ideal S1x4x256x256 .f32) (x2 : FVec Ideal S1x1024 .f32) (r : Fin 2048) (g : Fin 4) (o : Fin 256) :
    R0 x0 x1 x2 (ix2 r (col g o)) = (∑ k : Fin 256, x1 (ix4 0 g k o) * pooled x0 (ix4 0 r g k)) * x2 (ix2 0 (col g o)) := by
  pointwise [R0, scale]
  rw [y0_at]

theorem R1_at (x1 : FVec Ideal S1x4x256x256 .f32) (x2 : FVec Ideal S1x1024 .f32) (x3 : FVec Ideal S1x2048x2048 .f32) (h : ∀ i, IsReal (dp x1 x2 x3 i))
    (r : Fin 2048) (g : Fin 4) (o : Fin 256) : R1 x1 x2 x3 (ix2 r (col g o)) = gavg (fun i => dp x1 x2 x3 (ix4 0 i g o)) g r := by
  have a : (⟨(col g o).val / 256, by have := (col g o).isLt; omega⟩ : Fin 4) = g := Fin.ext (by change (g.val * 256 + o.val) / 256 = g.val; omega)
  have b : (⟨(col g o).val % 256, by omega⟩ : Fin 256) = o := Fin.ext (by change (g.val * 256 + o.val) % 256 = o.val; omega)
  pointwise [R1]
  refine (congrArg₂ (fun p q => -dp x1 x2 x3 (ix4 0 r p q) + rcum (dc (dp x1 x2 x3)) (ix4 0 r p q)) a b).trans ?_
  rw [rcum_at', gavg, ← fore_eq (fun i => isReal_div_cnt (h _) g i), sub_eq_add_neg, add_comm]
  simp only [dc_at]

theorem R2_at (x0 : FVec Ideal S1x2048x4112 .f32) (x2 : FVec Ideal S1x1024 .f32) (x3 : FVec Ideal S1x2048x2048 .f32) (g : Fin 4) (i o : Fin 256) :
    R2 x0 x2 x3 (ix3 g i o) = ∑ r : Fin 2048, x3 (ix3 0 r ((col g o).castLE (by decide))) * x2 (ix2 0 (col g o)) * pooled x0 (ix4 0 r g i) := by
  pointwise [R2, dz, scale, cot]
  rw [Fin.sum_univ_one]
  rfl

theorem red_at (v : S1x1x1024.Idx → EReal) (init : EReal) (d : Fin 1024) : Ideal.hostReduceAdd reducesTo_S1x1x1024_S1024_d0_1 v init (ix1 d) = init + v (ix3 0 0 d) := by
  refine congrArg (init + ·) (Finset.sum_eq_single_of_mem (ix3 0 0 d) ?_ ?_)
  · refine Finset.mem_filter.mpr ⟨Finset.mem_univ _, funext fun a => ?_⟩
    match a with
    | 0 => rfl
  · intro i hi hn
    refine absurd (funext fun a => ?_) hn
    have e := congrFun (Finset.mem_filter.mp hi).2 0
    match a with
    | 0 => exact Subsingleton.elim (α := Fin 1) _ _
    | 1 => exact Subsingleton.elim (α := Fin 1) _ _
    | 2 => exact Fin.ext (congrArg Fin.val e)

theorem R3_at (x0 : FVec Ideal S1x2048x4112 .f32) (x1 : FVec Ideal S1x4x256x256 .f32) (x3 : FVec Ideal S1x2048x2048 .f32) (g : Fin 4) (o : Fin 256) :
    R3 x0 x1 x3 (ix2 0 (col g o)) = ∑ r : Fin 2048, (∑ k : Fin 256, x1 (ix4 0 g k o) * pooled x0 (ix4 0 r g k)) * x3 (ix3 0 r ((col g o).castLE (by decide))) := by
  pointwise [R3]
  rw [red_at]
  pointwise [cot]
  simp only [y0_at]
  rfl

end Cert.PoolRefIdeal.Read

end
-- ==== Proof.Pool.lean ====
/- The causal pooling, forward and backward: the kernels' results are the reference's on finite arguments. -/
module

public import proofs.«01_k».proof.Defs
public import proofs.«01_k».proof.Proof.Gen.Pre_finite_pool
public import proofs.«01_k».proof.Proof.PoolKernel
public import proofs.«01_k».proof.Proof.PoolRef

@[expose] public section

set_option maxRecDepth 16384

noncomputable section

namespace Cert.PoolPair

open Idealize.ShloMosaic Idealize.ShloMosaic.TcCoe Idealize.SL.Sem Cert.Reals Cert.PoolMath
open scoped BigOperators

section Values

open Cert.PoolIdeal Cert.PoolIdeal.Read
open Cert.PoolRefIdeal.Read (R0 R1 R2 R3 R0_at R1_at R2_at R3_at pooled dp pooled_at dp_at)

variable (m : (ℓ : Loc nD τ sig) → Buf (Elt Ideal) ℓ) (c : Dev nD)

/-- An argument's array. -/
abbrev X0 : FVec Ideal S1x2048x4112 .f32 := m (c, Proc.tc.devRef main_arg0)
abbrev X1 : FVec Ideal S1x4x256x256 .f32 := m (c, Proc.tc.devRef main_arg1)
abbrev X2 : FVec Ideal S1x1024 .f32 := m (c, Proc.tc.devRef main_arg2)
abbrev X3 : FVec Ideal S1x2048x2048 .f32 := m (c, Proc.tc.devRef main_arg3)

/-- Every element of the arguments is a real number. -/
structure Fin' : Prop where
  h0 : ∀ i, IsReal (X0 m c i)
  h1 : ∀ i, IsReal (X1 m c i)
  h2 : ∀ i, IsReal (X2 m c i)
  h3 : ∀ i, IsReal (X3 m c i)

variable {m c}

theorem col_split (j : Fin 1024) : ∃ g o, j = col g o :=
  ⟨gof j, oof j, Fin.ext (by dsimp only [gof, oof, col]; omega)⟩

theorem po (h : Fin' m c) (g : Fin 4) (r : Fin 2048) (o : Fin 256) : pooled (X0 m c) (ix4 0 r g o) = PO m c g r o := pooled_at (X0 m c) h.h0 r g o

theorem dpp (g : Fin 4) (r : Fin 2048) (o : Fin 256) : dp (X1 m c) (X2 m c) (X3 m c) (ix4 0 r g o) = DP m c g r o := dp_at ..

theorem isReal_dp (h : Fin' m c) (i) : IsReal (dp (X1 m c) (X2 m c) (X3 m c) i) := by
  idx_vars i
  obtain rfl : i0 = 0 := Subsingleton.elim _ _
  rw [dp_at]
  exact IsReal.sum _ fun k => ((h.h3 _).mul (h.h2 _)).mul (h.h1 _)

/-- The forward result. -/
theorem out0 (h : Fin' m c) : OY m c = R0 (X0 m c) (X1 m c) (X2 m c) := by
  funext y
  idx_vars y
  obtain ⟨g, o, rfl⟩ := col_split y1
  refine (OY_at m c g y0 o).trans (Eq.trans ?_ (R0_at (X0 m c) (X1 m c) (X2 m c) y0 g o).symm)
  refine congrArg (fun a : EReal => a * X2 m c (ix2 0 (col g o))) (Finset.sum_congr rfl fun k _ => ?_)
  rw [po h]
  exact mul_comm _ _

/-- The input's gradient. -/
theorem out1 (h : Fin' m c) : OU m c = R1 (X1 m c) (X2 m c) (X3 m c) := by
  funext y
  idx_vars y
  obtain ⟨g, o, rfl⟩ := col_split y1
  refine (OU_at m c g y0 o).trans (Eq.trans ?_ (R1_at (X1 m c) (X2 m c) (X3 m c) (isReal_dp h) y0 g o).symm)
  exact congrArg (fun d => gavg d g y0) (funext fun r => (dpp g r o).symm)

/-- The weights' gradient. -/
theorem out2 (h : Fin' m c) : OW m c = R2 (X0 m c) (X2 m c) (X3 m c) := by
  funext y
  idx_vars y
  refine Eq.trans (b := ow m c y0 y1 y2) rfl (Eq.trans ?_ (R2_at (X0 m c) (X2 m c) (X3 m c) y0 y1 y2).symm)
  rw [ow]
  refine Finset.sum_congr rfl fun r _ => ?_
  rw [po h]
  exact mul_comm _ _

/-- The scale's gradient. -/
theorem out3 (h : Fin' m c) : OS m c = R3 (X0 m c) (X1 m c) (X3 m c) := by
  funext y
  idx_vars y
  obtain rfl : y0 = 0 := Subsingleton.elim _ _
  obtain ⟨g, o, rfl⟩ := col_split y1
  refine (OS_at m c g o).trans (Eq.trans ?_ (R3_at (X0 m c) (X1 m c) (X3 m c) g o).symm)
  refine Finset.sum_congr rfl fun r _ => (mul_comm _ _).trans ?_
  refine congrArg (fun a : EReal => a * X3 m c (ix3 0 r ((col g o).castLE (by decide)))) (Finset.sum_congr rfl fun k _ => ?_)
  rw [po h]
  exact mul_comm _ _

end Values

theorem fin_of (m : (ℓ : Loc Cert.PoolIdeal.nD Cert.PoolIdeal.τ Cert.PoolIdeal.sig) → Buf (Elt Ideal) ℓ)
    (h : Cert.Pre_PoolIdeal_finite_pool m) (c : Dev Cert.PoolIdeal.nD) : Fin' m c := by
  obtain ⟨h0, h1, h2, h3⟩ := h c
  exact ⟨real_of _ _ h0, real_of _ _ h1, real_of _ _ h2, real_of _ _ h3⟩

/-- The kernels compute the reference on finite arguments. -/
theorem algebraic : Cert.algebraic_PoolIdeal_PoolRefIdeal_pre_finite_pool := by
  pair_intro
  · run_from Cert.PoolIdeal.Read.run' m g
  · run_from Cert.PoolRefIdeal.Read.run' m' g'
    · exact (out0 (fin_of m hpre c)).symm
    · exact (out1 (fin_of m hpre c)).symm
    · exact (out2 (fin_of m hpre c)).symm
    · exact (out3 (fin_of m hpre c)).symm

end Cert.PoolPair

end
-- ==== Proof.Hold.lean ====
/- A buffer handed back by a body: an input at its contents, an output at the pieces stored into it. -/
module

public import Idealize.ShloMosaic.Lib.Pipeline.ReadBack
public import Idealize.ShloMosaic.Lib.Ring

@[expose] public section

noncomputable section

namespace Cert.Hold

open Idealize.ShloMosaic Idealize.ShloMosaic.TcCoe
open Idealize.SL Idealize.SL.RA Idealize.SL.BI
open scoped Idealize.SL.BI
open Idealize.SL.BI.BIBase Idealize.SL.BI.Laws Idealize.SL.ProofMode

variable {nD : Nat} {τ : Topo} {sig : RefSig} {Val : EltTy → Type} [∀ e, Inhabited (Val e)]
variable {Ix : Type} [DecidableEq Ix] {Name : Type} [DecidableEq Name] {U : Type} [URA U] {Lvl : Type}

local notation "𝕄" => MT nD τ sig Ix Val Name U Lvl

/-- A memref that holds the raw form of these contents. -/
theorem hold (c : Dev nD) {s : Shape} {e : EltTy} {a : Memref sig .tc .vmem s e} (h : a.IsWhole) (X : s.Idx → Val e) :
    (a.view.loc (c : Thread nD τ) ↦[a.view.set]{fullShare} h.unread X)
      ⊢ (iprop(∃ f, ⌜a.view.read Val f = X⌝ ∗ (a.view.loc (c : Thread nD τ) ↦[a.view.set]{fullShare} f)) : sProp 𝕄) := by
  iintro H; iexists _; isplitr
  · ipureintro; exact h.read_unread _
  iexact H

variable (c : Thread nD τ) {sp : Space} {s : Shape} {e : EltTy} (a : Memref sig c.2.kind sp s e)

/-- A memref whose blocks of this size are all stored. -/
theorem back {κ : Kind} {sp' : Space} (V : View sig κ sp' s e) (size : Fin s.rank → ℕ) (L : List (View.Piece Val s e)) (f : a.view.ty.Contents Val)
    (h : View.Piece.tiledL L size = true) :
    (a.view.loc c ↦[a.view.set]{fullShare} a.view.writes Val f L) ⊢ (owns c a fullShare (V.read Val (V.writes Val V.junk L)) : sProp 𝕄) := by
  unfold owns
  iintro H; iexists _; isplitr
  swap; · iexact H
  ipureintro; exact View.read_writes_of_cover _ _ _ _ _ fun y => View.cover_of_tiledL L size h y

end Cert.Hold

end
-- ==== Proof.Ffn2BRuns.lean ====
/- The body of the second block's backward kernel, run once per case of its conditions: the first column step of a row
   block (case A), the steps between (B), the last step of the first row block (C) and of a later one (D). Each run says
   which pieces the body's stores leave in the outputs and in the accumulator. Stated over any values. -/
module

public import proofs.«01_k».proof.Proof.Gen.Ffn2BwdIdeal.Frame
public import proofs.«01_k».proof.Proof.Gen.Ffn2BwdIdeal.Launch
public import proofs.«01_k».proof.Proof.Gen.Ffn2BwdIdeal.Skeleton
public import proofs.«01_k».proof.Proof.Gen.Ffn2BwdIdeal.Loops
public import proofs.«01_k».proof.Proof.Gen.Ffn2BwdIdeal.Points
public import proofs.«01_k».proof.Proof.Hold
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Ffn2B

open Cert.Ffn2BwdIdeal Cert.Ffn2BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hold (hold)

variable {F : FTy → Type} [FloatOps F]

local notation "𝕄" => MT nD τ sig Unit (Elt F) ℕ (UR sig nD τ) ℕ

/-- The first column step of a row block, the last one, the first row block, a later one. -/
abbrev isFirst (i : grid0.Coords) : Prop := k0_cond1 i = 1#1
abbrev isLast (i : grid0.Coords) : Prop := k0_cond2 i = 1#1
abbrev topRow (i : grid0.Coords) : Prop := k0_cond3 i = 1#1
abbrev lowRow (i : grid0.Coords) : Prop := k0_cond4 i = 1#1

/-- The memrefs the body is called with: seven inputs, six outputs, the accumulator; each the whole of its buffer. -/
structure Mems where
  a2 : Memref sig .tc .vmem S512x2048 .f32
  h2 : a2.IsWhole
  a3 : Memref sig .tc .vmem S512x2048 .f32
  h3 : a3.IsWhole
  a4 : Memref sig .tc .vmem S1x2048 .f32
  h4 : a4.IsWhole
  a5 : Memref sig .tc .vmem S2x512x512 .bf16
  h5 : a5.IsWhole
  a6 : Memref sig .tc .vmem S2048x512 .bf16
  h6 : a6.IsWhole
  a7 : Memref sig .tc .vmem S2048x512 .bf16
  h7 : a7.IsWhole
  a8 : Memref sig .tc .vmem S512x2048 .bf16
  h8 : a8.IsWhole
  a9 : Memref sig .tc .vmem S2x512x512 .bf16
  h9 : a9.IsWhole
  a10 : Memref sig .tc .vmem S512x512 .bf16
  h10 : a10.IsWhole
  a11 : Memref sig .tc .vmem S512x2048 .bf16
  h11 : a11.IsWhole
  a12 : Memref sig .tc .vmem S512x2048 .f32
  h12 : a12.IsWhole
  a13 : Memref sig .tc .vmem S512x2048 .bf16
  h13 : a13.IsWhole
  a14 : Memref sig .tc .vmem S1x2048 .f32
  h14 : a14.IsWhole
  a15 : Memref sig .tc .vmem S512x2048 .f32
  h15 : a15.IsWhole

/-- What the inputs hold. -/
structure Ins (F : FTy → Type) where
  x2 : Vec F S512x2048 .f32
  x3 : Vec F S512x2048 .f32
  x4 : Vec F S1x2048 .f32
  x5 : Vec F S2x512x512 .bf16
  x6 : Vec F S2048x512 .bf16
  x7 : Vec F S2048x512 .bf16
  x8 : Vec F S512x2048 .bf16

/-- The body on these memrefs. -/
abbrev body (i : grid0.Coords) (M : Mems) : Prog (TpuEff nD τ sig (Elt F) Λ₀ .tc) PUnit :=
  cc0_ffn2_bwd i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15

/-- The inputs' memrefs at their contents. -/
abbrev ins (c : Dev nD) (M : Mems) (X : Ins F) : sProp 𝕄 :=
  iprop(owns (c : Thread nD τ) M.a2 fullShare X.x2 ∗ owns (c : Thread nD τ) M.a3 fullShare X.x3 ∗ owns (c : Thread nD τ) M.a4 fullShare X.x4 ∗ owns (c : Thread nD τ) M.a5 fullShare X.x5 ∗ owns (c : Thread nD τ) M.a6 fullShare X.x6 ∗ owns (c : Thread nD τ) M.a7 fullShare X.x7 ∗ owns (c : Thread nD τ) M.a8 fullShare X.x8)

/-- A memref at whatever it holds. -/
abbrev some' {S : Shape} {e : EltTy} (c : Dev nD) (a : Memref sig .tc .vmem S e) : sProp 𝕄 := iprop(∃ d, owns (c : Thread nD τ) a fullShare d)

/-- A memref with these pieces stored into it. -/
abbrev left {S : Shape} {e : EltTy} (c : Dev nD) (a : Memref sig .tc .vmem S e) (L : List (View.Piece (Elt F) S e)) : sProp 𝕄 :=
  iprop(∃ f, a.view.loc (c : Thread nD τ) ↦[a.view.set]{fullShare} a.view.writes (Elt F) f L)

set_option maxHeartbeats 1000000 in
/-- At a row block's first column step: the two gates' gradients, the product with the activations, the cast cotangent and a fresh accumulator. -/
def runA (c : Dev nD) (i : grid0.Coords) (M : Mems) (hc0 : isFirst i) (hc1 : ¬isLast i) (X : Ins F) (y11 : Vec F S512x2048 .bf16) :
    Σ' (L9 : List (View.Piece (Elt F) S2x512x512 .bf16)), Σ' (L10 : List (View.Piece (Elt F) S512x512 .bf16)), Σ' (L11 : List (View.Piece (Elt F) S512x2048 .bf16)), { L15 : List (View.Piece (Elt F) S512x2048 .f32) //
      ∀ (d12 : Vec F S512x2048 .f32) (d13 : Vec F S512x2048 .bf16) (d14 : Vec F S1x2048 .f32) (E : Set ℕ) (K : PUnit → sProp 𝕄),
        iprop(ins c M X ∗ some' c M.a9 ∗ some' c M.a10 ∗ owns (c : Thread nD τ) M.a11 fullShare y11 ∗ owns (c : Thread nD τ) M.a12 fullShare d12 ∗ owns (c : Thread nD τ) M.a13 fullShare d13 ∗ owns (c : Thread nD τ) M.a14 fullShare d14 ∗ some' c M.a15
            ∗ (iprop(ins c M X ∗ left c M.a9 L9 ∗ left c M.a10 L10 ∗ left c M.a11 L11 ∗ owns (c : Thread nD τ) M.a12 fullShare d12 ∗ owns (c : Thread nD τ) M.a13 fullShare d13 ∗ owns (c : Thread nD τ) M.a14 fullShare d14 ∗ left c M.a15 L15) -∗ K ⟨⟩))
          ⊢ wp frame (wpE (defs₀ (F := F)) Variants.none c none) E (body i M) K } := by
  refine ⟨?_, ?_, ?_, ?_, fun d12 d13 d14 E K => ?run⟩
  case run =>
    simp only [body, cc0_ffn2_bwd_eq_skeleton]; unfold cc0_ffn2_bwd_skel
    simp only [ins, some']; unfold owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%d9, %f9, -, H9⟩, ⟨%d10, %f10, -, H10⟩, ⟨%f11, %e11, H11⟩, ⟨%f12, %e12, H12⟩, ⟨%f13, %e13, H13⟩, ⟨%f14, %e14, H14⟩, ⟨%d15, %f15, -, H15⟩, Hk⟩
    obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8; obtain rfl := M.h11.eq_unread e11; obtain rfl := M.h12.eq_unread e12; obtain rfl := M.h13.eq_unread e13; obtain rfl := M.h14.eq_unread e14
    sl_exec (disch := first | sl_exact hc0 | sl_exact hc1)
    sl_step
    iapply Hk
    isplitl [H2 H3 H4 H5 H6 H7 H8]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      isplitl [H6]; · iapply (hold c M.h6 _); iexact H6
      isplitl [H7]; · iapply (hold c M.h7 _); iexact H7
      iapply (hold c M.h8 _); iexact H8
    isplitl [H9]; · iexists _; iexact H9
    isplitl [H10]; · iexists _; iexact H10
    isplitl [H11]; · iexists _; iexact H11
    isplitl [H12]; · iapply (hold c M.h12 _); iexact H12
    isplitl [H13]; · iapply (hold c M.h13 _); iexact H13
    isplitl [H14]; · iapply (hold c M.h14 _); iexact H14
    iexists _; iexact H15

set_option maxHeartbeats 1000000 in
/-- At a step between: the cast cotangent is read and the accumulator added to. -/
def runB (c : Dev nD) (i : grid0.Coords) (M : Mems) (hc0 : ¬isFirst i) (hc1 : ¬isLast i) (X : Ins F) (y11 : Vec F S512x2048 .bf16) (y15 : Vec F S512x2048 .f32) :
    Σ' (L9 : List (View.Piece (Elt F) S2x512x512 .bf16)), Σ' (L10 : List (View.Piece (Elt F) S512x512 .bf16)), { L15 : List (View.Piece (Elt F) S512x2048 .f32) //
      ∀ (d12 : Vec F S512x2048 .f32) (d13 : Vec F S512x2048 .bf16) (d14 : Vec F S1x2048 .f32) (E : Set ℕ) (K : PUnit → sProp 𝕄),
        iprop(ins c M X ∗ some' c M.a9 ∗ some' c M.a10 ∗ owns (c : Thread nD τ) M.a11 fullShare y11 ∗ owns (c : Thread nD τ) M.a12 fullShare d12 ∗ owns (c : Thread nD τ) M.a13 fullShare d13 ∗ owns (c : Thread nD τ) M.a14 fullShare d14 ∗ owns (c : Thread nD τ) M.a15 fullShare y15
            ∗ (iprop(ins c M X ∗ left c M.a9 L9 ∗ left c M.a10 L10 ∗ owns (c : Thread nD τ) M.a11 fullShare y11 ∗ owns (c : Thread nD τ) M.a12 fullShare d12 ∗ owns (c : Thread nD τ) M.a13 fullShare d13 ∗ owns (c : Thread nD τ) M.a14 fullShare d14 ∗ left c M.a15 L15) -∗ K ⟨⟩))
          ⊢ wp frame (wpE (defs₀ (F := F)) Variants.none c none) E (body i M) K } := by
  refine ⟨?_, ?_, ?_, fun d12 d13 d14 E K => ?run⟩
  case run =>
    simp only [body, cc0_ffn2_bwd_eq_skeleton]; unfold cc0_ffn2_bwd_skel
    simp only [ins, some']; unfold owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%d9, %f9, -, H9⟩, ⟨%d10, %f10, -, H10⟩, ⟨%f11, %e11, H11⟩, ⟨%f12, %e12, H12⟩, ⟨%f13, %e13, H13⟩, ⟨%f14, %e14, H14⟩, ⟨%f15, %e15, H15⟩, Hk⟩
    obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8; obtain rfl := M.h11.eq_unread e11; obtain rfl := M.h12.eq_unread e12; obtain rfl := M.h13.eq_unread e13; obtain rfl := M.h14.eq_unread e14; obtain rfl := M.h15.eq_unread e15
    sl_exec (disch := first | sl_exact hc0 | sl_exact hc1)
    sl_step
    iapply Hk
    isplitl [H2 H3 H4 H5 H6 H7 H8]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      isplitl [H6]; · iapply (hold c M.h6 _); iexact H6
      isplitl [H7]; · iapply (hold c M.h7 _); iexact H7
      iapply (hold c M.h8 _); iexact H8
    isplitl [H9]; · iexists _; iexact H9
    isplitl [H10]; · iexists _; iexact H10
    isplitl [H11]; · iapply (hold c M.h11 _); iexact H11
    isplitl [H12]; · iapply (hold c M.h12 _); iexact H12
    isplitl [H13]; · iapply (hold c M.h13 _); iexact H13
    isplitl [H14]; · iapply (hold c M.h14 _); iexact H14
    iexists _; iexact H15

set_option maxHeartbeats 1000000 in
/-- At the last step of the first row block: the gradient of the norm's input too, and the scale's gradient begun. -/
def runC (c : Dev nD) (i : grid0.Coords) (M : Mems) (hc0 : ¬isFirst i) (hc1 : isLast i) (hc2 : topRow i) (hc3 : ¬lowRow i) (X : Ins F) (y11 : Vec F S512x2048 .bf16) (y15 : Vec F S512x2048 .f32) :
    Σ' (L9 : List (View.Piece (Elt F) S2x512x512 .bf16)), Σ' (L10 : List (View.Piece (Elt F) S512x512 .bf16)), Σ' (L12 : List (View.Piece (Elt F) S512x2048 .f32)), Σ' (L13 : List (View.Piece (Elt F) S512x2048 .bf16)), Σ' (L14 : List (View.Piece (Elt F) S1x2048 .f32)), { L15 : List (View.Piece (Elt F) S512x2048 .f32) //
      ∀ (E : Set ℕ) (K : PUnit → sProp 𝕄),
        iprop(ins c M X ∗ some' c M.a9 ∗ some' c M.a10 ∗ owns (c : Thread nD τ) M.a11 fullShare y11 ∗ some' c M.a12 ∗ some' c M.a13 ∗ some' c M.a14 ∗ owns (c : Thread nD τ) M.a15 fullShare y15
            ∗ (iprop(ins c M X ∗ left c M.a9 L9 ∗ left c M.a10 L10 ∗ owns (c : Thread nD τ) M.a11 fullShare y11 ∗ left c M.a12 L12 ∗ left c M.a13 L13 ∗ left c M.a14 L14 ∗ left c M.a15 L15) -∗ K ⟨⟩))
          ⊢ wp frame (wpE (defs₀ (F := F)) Variants.none c none) E (body i M) K } := by
  refine ⟨?_, ?_, ?_, ?_, ?_, ?_, fun E K => ?run⟩
  case run =>
    simp only [body, cc0_ffn2_bwd_eq_skeleton]; unfold cc0_ffn2_bwd_skel
    simp only [ins, some']; unfold owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%d9, %f9, -, H9⟩, ⟨%d10, %f10, -, H10⟩, ⟨%f11, %e11, H11⟩, ⟨%d12, %f12, -, H12⟩, ⟨%d13, %f13, -, H13⟩, ⟨%d14, %f14, -, H14⟩, ⟨%f15, %e15, H15⟩, Hk⟩
    obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8; obtain rfl := M.h11.eq_unread e11; obtain rfl := M.h15.eq_unread e15
    sl_exec (disch := first | sl_exact hc0 | sl_exact hc1 | sl_exact hc2 | sl_exact hc3)
    sl_step
    iapply Hk
    isplitl [H2 H3 H4 H5 H6 H7 H8]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      isplitl [H6]; · iapply (hold c M.h6 _); iexact H6
      isplitl [H7]; · iapply (hold c M.h7 _); iexact H7
      iapply (hold c M.h8 _); iexact H8
    isplitl [H9]; · iexists _; iexact H9
    isplitl [H10]; · iexists _; iexact H10
    isplitl [H11]; · iapply (hold c M.h11 _); iexact H11
    isplitl [H12]; · iexists _; iexact H12
    isplitl [H13]; · iexists _; iexact H13
    isplitl [H14]; · iexists _; iexact H14
    iexists _; iexact H15

set_option maxHeartbeats 1000000 in
/-- At the last step of a later row block: the scale's gradient is added to. -/
def runD (c : Dev nD) (i : grid0.Coords) (M : Mems) (hc0 : ¬isFirst i) (hc1 : isLast i) (hc2 : ¬topRow i) (hc3 : lowRow i) (X : Ins F) (y11 : Vec F S512x2048 .bf16) (y14 : Vec F S1x2048 .f32) (y15 : Vec F S512x2048 .f32) :
    Σ' (L9 : List (View.Piece (Elt F) S2x512x512 .bf16)), Σ' (L10 : List (View.Piece (Elt F) S512x512 .bf16)), Σ' (L12 : List (View.Piece (Elt F) S512x2048 .f32)), Σ' (L13 : List (View.Piece (Elt F) S512x2048 .bf16)), Σ' (L14 : List (View.Piece (Elt F) S1x2048 .f32)), { L15 : List (View.Piece (Elt F) S512x2048 .f32) //
      ∀ (E : Set ℕ) (K : PUnit → sProp 𝕄),
        iprop(ins c M X ∗ some' c M.a9 ∗ some' c M.a10 ∗ owns (c : Thread nD τ) M.a11 fullShare y11 ∗ some' c M.a12 ∗ some' c M.a13 ∗ owns (c : Thread nD τ) M.a14 fullShare y14 ∗ owns (c : Thread nD τ) M.a15 fullShare y15
            ∗ (iprop(ins c M X ∗ left c M.a9 L9 ∗ left c M.a10 L10 ∗ owns (c : Thread nD τ) M.a11 fullShare y11 ∗ left c M.a12 L12 ∗ left c M.a13 L13 ∗ left c M.a14 L14 ∗ left c M.a15 L15) -∗ K ⟨⟩))
          ⊢ wp frame (wpE (defs₀ (F := F)) Variants.none c none) E (body i M) K } := by
  refine ⟨?_, ?_, ?_, ?_, ?_, ?_, fun E K => ?run⟩
  case run =>
    simp only [body, cc0_ffn2_bwd_eq_skeleton]; unfold cc0_ffn2_bwd_skel
    simp only [ins, some']; unfold owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%d9, %f9, -, H9⟩, ⟨%d10, %f10, -, H10⟩, ⟨%f11, %e11, H11⟩, ⟨%d12, %f12, -, H12⟩, ⟨%d13, %f13, -, H13⟩, ⟨%f14, %e14, H14⟩, ⟨%f15, %e15, H15⟩, Hk⟩
    obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8; obtain rfl := M.h11.eq_unread e11; obtain rfl := M.h14.eq_unread e14; obtain rfl := M.h15.eq_unread e15
    sl_exec (disch := first | sl_exact hc0 | sl_exact hc1 | sl_exact hc2 | sl_exact hc3)
    sl_step
    iapply Hk
    isplitl [H2 H3 H4 H5 H6 H7 H8]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      isplitl [H6]; · iapply (hold c M.h6 _); iexact H6
      isplitl [H7]; · iapply (hold c M.h7 _); iexact H7
      iapply (hold c M.h8 _); iexact H8
    isplitl [H9]; · iexists _; iexact H9
    isplitl [H10]; · iexists _; iexact H10
    isplitl [H11]; · iapply (hold c M.h11 _); iexact H11
    isplitl [H12]; · iexists _; iexact H12
    isplitl [H13]; · iexists _; iexact H13
    isplitl [H14]; · iexists _; iexact H14
    iexists _; iexact H15

end Cert.Ffn2B

end
-- ==== Proof.Ffn2BSteps.lean ====
/- What the outputs and the accumulator hold after the body of the second block's backward kernel, case by case, as functions
   of what they held before; and the body's triple in that form. Stated over any values. -/
module

public import proofs.«01_k».proof.Proof.Ffn2BRuns
public import proofs.«01_k».proof.Proof.Hold
public import Idealize.ShloMosaic.Lib.Pipeline.ValueKit

@[expose] public section

set_option maxRecDepth 16384

noncomputable section

namespace Cert.Ffn2B

open Cert.Ffn2BwdIdeal Cert.Ffn2BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hold (back)

variable {F : FTy → Type} [FloatOps F]

local notation "𝕄" => MT nD τ sig Unit (Elt F) ℕ (UR sig nD τ) ℕ

/-- What the six outputs' buffers and the accumulator hold. -/
abbrev St (F : FTy → Type) := Vec F S2x512x512 .bf16 × Vec F S512x512 .bf16 × Vec F S512x2048 .bf16 × Vec F S512x2048 .f32 × Vec F S512x2048 .bf16 × Vec F S1x2048 .f32 × Vec F S512x2048 .f32

/-- Views of the outputs' buffers and of the accumulator, through which pieces are read back. -/
abbrev V9 : View sig .tc .vmem S2x512x512 .bf16 := (Memref.whole cc0_stg7_0 : Memref sig .tc .vmem S2x512x512 .bf16).view
abbrev V10 : View sig .tc .vmem S512x512 .bf16 := (Memref.whole cc0_stg8_0 : Memref sig .tc .vmem S512x512 .bf16).view
abbrev V11 : View sig .tc .vmem S512x2048 .bf16 := (Memref.whole cc0_stg9_0 : Memref sig .tc .vmem S512x2048 .bf16).view
abbrev V12 : View sig .tc .vmem S512x2048 .f32 := (Memref.whole cc0_stg10_0 : Memref sig .tc .vmem S512x2048 .f32).view
abbrev V13 : View sig .tc .vmem S512x2048 .bf16 := (Memref.whole cc0_stg11_0 : Memref sig .tc .vmem S512x2048 .bf16).view
abbrev V14 : View sig .tc .vmem S1x2048 .f32 := (Memref.whole cc0_stg12_0 : Memref sig .tc .vmem S1x2048 .f32).view
abbrev V15 : View sig .tc .vmem S512x2048 .f32 := (Memref.whole cc0_scratch0 : Memref sig .tc .vmem S512x2048 .f32).view

/-- Pieces read back over a buffer never written. -/
def rd {S : Shape} {e : EltTy} (V : View sig .tc .vmem S e) (L : List (View.Piece (Elt F) S e)) : Vec F S e :=
  V.read (Elt F) (V.writes (Elt F) V.junk L)

/-- The outputs' memrefs and the accumulator at these contents. -/
abbrev outs (c : Dev nD) (M : Mems) (S : St F) : sProp 𝕄 :=
  iprop(owns (c : Thread nD τ) M.a9 fullShare S.1 ∗ owns (c : Thread nD τ) M.a10 fullShare S.2.1 ∗ owns (c : Thread nD τ) M.a11 fullShare S.2.2.1 ∗ owns (c : Thread nD τ) M.a12 fullShare S.2.2.2.1 ∗ owns (c : Thread nD τ) M.a13 fullShare S.2.2.2.2.1 ∗ owns (c : Thread nD τ) M.a14 fullShare S.2.2.2.2.2.1 ∗ owns (c : Thread nD τ) M.a15 fullShare S.2.2.2.2.2.2)

variable (c : Dev nD) (i : grid0.Coords) (M : Mems)

/-- The cast cotangent's loop stores its whole block. -/
theorem cast_cover (hc0 : isFirst i) (hc1 : ¬isLast i) (X : Ins F) (y11 : Vec F S512x2048 .bf16) (y : S512x2048.Idx) :
    ∃ pc ∈ (runA c i M hc0 hc1 X y11).2.2.1, y ∈ pc.1.set :=
  View.cover_of_tiledL (runA c i M hc0 hc1 X y11).2.2.1 S64x2048.size (by sl_kernel_rfl) y

/-- What a first step leaves does not depend on what the cast cotangent's buffer held. -/
theorem runA_9 (hc0 : isFirst i) (hc1 : ¬isLast i) (X : Ins F) (y y' : Vec F S512x2048 .bf16) :
    (runA c i M hc0 hc1 X y).1 = (runA c i M hc0 hc1 X y').1 := by
  have key : ∀ z R, View.readAt (Elt F) M.a11.view R (M.a11.view.writes (Elt F) (M.h11.unread z)
      (pb_k0_t1 Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 hc0 (M.h2.unread X.x2) (Scf.trips 0#32 (Scalar.addi 0#32 8#32) 1#32))) = M.a11.view.readCov _ R :=
    fun z R => View.readAt_writes_of_cover _ _ _ R fun j => cast_cover c i M hc0 hc1 X y _
  frame_open
  simp only [key]

theorem runA_15 (hc0 : isFirst i) (hc1 : ¬isLast i) (X : Ins F) (y y' : Vec F S512x2048 .bf16) :
    (runA c i M hc0 hc1 X y).2.2.2.1 = (runA c i M hc0 hc1 X y').2.2.2.1 := by
  have key : ∀ z R, View.readAt (Elt F) M.a11.view R (M.a11.view.writes (Elt F) (M.h11.unread z)
      (pb_k0_t1 Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 hc0 (M.h2.unread X.x2) (Scf.trips 0#32 (Scalar.addi 0#32 8#32) 1#32))) = M.a11.view.readCov _ R :=
    fun z R => View.readAt_writes_of_cover _ _ _ R fun j => cast_cover c i M hc0 hc1 X y _
  frame_open
  simp only [key]

/-- Case A. -/
def outA (hc0 : isFirst i) (hc1 : ¬isLast i) (X : Ins F) (S : St F) : St F :=
  (rd V9 (runA c i M hc0 hc1 X S.2.2.1).1,
   rd V10 (runA c i M hc0 hc1 X S.2.2.1).2.1,
   rd V11 (runA c i M hc0 hc1 X S.2.2.1).2.2.1,
   S.2.2.2.1,
   S.2.2.2.2.1,
   S.2.2.2.2.2.1,
   rd V15 (runA c i M hc0 hc1 X S.2.2.1).2.2.2.1)

set_option maxHeartbeats 1000000 in
theorem soundA (hc0 : isFirst i) (hc1 : ¬isLast i) (X : Ins F) (S : St F) (E : Set ℕ) (K : PUnit → sProp 𝕄) :
    iprop(ins c M X ∗ outs c M S ∗ (iprop(ins c M X ∗ outs c M (outA c i M hc0 hc1 X S)) -∗ K ⟨⟩))
      ⊢ wp frame (wpE (defs₀ (F := F)) Variants.none c none) E (body i M) K := by
  unfold outA rd outs; dsimp only
  iintro ⟨Hi, ⟨H9, H10, H11, H12, H13, H14, H15⟩, Hk⟩
  iapply ((runA c i M hc0 hc1 X S.2.2.1).2.2.2.2 _ _ _ E K)
  isplitl [Hi]; · iexact Hi
  isplitl [H9]; · iexists _; iexact H9
  isplitl [H10]; · iexists _; iexact H10
  iframe H11 H12 H13 H14
  isplitl [H15]; · iexists _; iexact H15
  iintro ⟨Hi, ⟨%f9, H9⟩, ⟨%f10, H10⟩, ⟨%f11, H11⟩, H12, H13, H14, ⟨%f15, H15⟩⟩
  iapply Hk
  isplitl [Hi]; · iexact Hi
  isplitl [H9]; · iapply (back _ M.a9 V9 S1x512x512.size (runA c i M hc0 hc1 X S.2.2.1).1 _ (by sl_kernel_rfl)); iexact H9
  isplitl [H10]; · iapply (back _ M.a10 V10 S512x512.size (runA c i M hc0 hc1 X S.2.2.1).2.1 _ (by sl_kernel_rfl)); iexact H10
  isplitl [H11]; · iapply (back _ M.a11 V11 S64x2048.size (runA c i M hc0 hc1 X S.2.2.1).2.2.1 _ (by sl_kernel_rfl)); iexact H11
  iframe H12 H13 H14
  iapply (back _ M.a15 V15 S512x2048.size (runA c i M hc0 hc1 X S.2.2.1).2.2.2.1 _ (by sl_kernel_rfl)); iexact H15

/-- Case B. -/
def outB (hc0 : ¬isFirst i) (hc1 : ¬isLast i) (X : Ins F) (S : St F) : St F :=
  (rd V9 (runB c i M hc0 hc1 X S.2.2.1 S.2.2.2.2.2.2).1,
   rd V10 (runB c i M hc0 hc1 X S.2.2.1 S.2.2.2.2.2.2).2.1,
   S.2.2.1,
   S.2.2.2.1,
   S.2.2.2.2.1,
   S.2.2.2.2.2.1,
   rd V15 (runB c i M hc0 hc1 X S.2.2.1 S.2.2.2.2.2.2).2.2.1)

set_option maxHeartbeats 1000000 in
theorem soundB (hc0 : ¬isFirst i) (hc1 : ¬isLast i) (X : Ins F) (S : St F) (E : Set ℕ) (K : PUnit → sProp 𝕄) :
    iprop(ins c M X ∗ outs c M S ∗ (iprop(ins c M X ∗ outs c M (outB c i M hc0 hc1 X S)) -∗ K ⟨⟩))
      ⊢ wp frame (wpE (defs₀ (F := F)) Variants.none c none) E (body i M) K := by
  unfold outB rd outs; dsimp only
  iintro ⟨Hi, ⟨H9, H10, H11, H12, H13, H14, H15⟩, Hk⟩
  iapply ((runB c i M hc0 hc1 X S.2.2.1 S.2.2.2.2.2.2).2.2.2 _ _ _ E K)
  isplitl [Hi]; · iexact Hi
  isplitl [H9]; · iexists _; iexact H9
  isplitl [H10]; · iexists _; iexact H10
  iframe H11 H12 H13 H14 H15
  iintro ⟨Hi, ⟨%f9, H9⟩, ⟨%f10, H10⟩, H11, H12, H13, H14, ⟨%f15, H15⟩⟩
  iapply Hk
  isplitl [Hi]; · iexact Hi
  isplitl [H9]; · iapply (back _ M.a9 V9 S1x512x512.size (runB c i M hc0 hc1 X S.2.2.1 S.2.2.2.2.2.2).1 _ (by sl_kernel_rfl)); iexact H9
  isplitl [H10]; · iapply (back _ M.a10 V10 S512x512.size (runB c i M hc0 hc1 X S.2.2.1 S.2.2.2.2.2.2).2.1 _ (by sl_kernel_rfl)); iexact H10
  iframe H11 H12 H13 H14
  iapply (back _ M.a15 V15 S512x2048.size (runB c i M hc0 hc1 X S.2.2.1 S.2.2.2.2.2.2).2.2.1 _ (by sl_kernel_rfl)); iexact H15

/-- Case C. -/
def outC (hc0 : ¬isFirst i) (hc1 : isLast i) (hc2 : topRow i) (hc3 : ¬lowRow i) (X : Ins F) (S : St F) : St F :=
  (rd V9 (runC c i M hc0 hc1 hc2 hc3 X S.2.2.1 S.2.2.2.2.2.2).1,
   rd V10 (runC c i M hc0 hc1 hc2 hc3 X S.2.2.1 S.2.2.2.2.2.2).2.1,
   S.2.2.1,
   rd V12 (runC c i M hc0 hc1 hc2 hc3 X S.2.2.1 S.2.2.2.2.2.2).2.2.1,
   rd V13 (runC c i M hc0 hc1 hc2 hc3 X S.2.2.1 S.2.2.2.2.2.2).2.2.2.1,
   rd V14 (runC c i M hc0 hc1 hc2 hc3 X S.2.2.1 S.2.2.2.2.2.2).2.2.2.2.1,
   rd V15 (runC c i M hc0 hc1 hc2 hc3 X S.2.2.1 S.2.2.2.2.2.2).2.2.2.2.2.1)

set_option maxHeartbeats 1000000 in
theorem soundC (hc0 : ¬isFirst i) (hc1 : isLast i) (hc2 : topRow i) (hc3 : ¬lowRow i) (X : Ins F) (S : St F) (E : Set ℕ) (K : PUnit → sProp 𝕄) :
    iprop(ins c M X ∗ outs c M S ∗ (iprop(ins c M X ∗ outs c M (outC c i M hc0 hc1 hc2 hc3 X S)) -∗ K ⟨⟩))
      ⊢ wp frame (wpE (defs₀ (F := F)) Variants.none c none) E (body i M) K := by
  unfold outC rd outs; dsimp only
  iintro ⟨Hi, ⟨H9, H10, H11, H12, H13, H14, H15⟩, Hk⟩
  iapply ((runC c i M hc0 hc1 hc2 hc3 X S.2.2.1 S.2.2.2.2.2.2).2.2.2.2.2.2 E K)
  isplitl [Hi]; · iexact Hi
  isplitl [H9]; · iexists _; iexact H9
  isplitl [H10]; · iexists _; iexact H10
  isplitl [H11]; · iexact H11
  isplitl [H12]; · iexists _; iexact H12
  isplitl [H13]; · iexists _; iexact H13
  isplitl [H14]; · iexists _; iexact H14
  isplitl [H15]; · iexact H15
  iintro ⟨Hi, ⟨%f9, H9⟩, ⟨%f10, H10⟩, H11, ⟨%f12, H12⟩, ⟨%f13, H13⟩, ⟨%f14, H14⟩, ⟨%f15, H15⟩⟩
  iapply Hk
  isplitl [Hi]; · iexact Hi
  isplitl [H9]; · iapply (back _ M.a9 V9 S1x512x512.size (runC c i M hc0 hc1 hc2 hc3 X S.2.2.1 S.2.2.2.2.2.2).1 _ (by sl_kernel_rfl)); iexact H9
  isplitl [H10]; · iapply (back _ M.a10 V10 S512x512.size (runC c i M hc0 hc1 hc2 hc3 X S.2.2.1 S.2.2.2.2.2.2).2.1 _ (by sl_kernel_rfl)); iexact H10
  isplitl [H11]; · iexact H11
  isplitl [H12]; · iapply (back _ M.a12 V12 S64x2048.size (runC c i M hc0 hc1 hc2 hc3 X S.2.2.1 S.2.2.2.2.2.2).2.2.1 _ (by sl_kernel_rfl)); iexact H12
  isplitl [H13]; · iapply (back _ M.a13 V13 S64x2048.size (runC c i M hc0 hc1 hc2 hc3 X S.2.2.1 S.2.2.2.2.2.2).2.2.2.1 _ (by sl_kernel_rfl)); iexact H13
  isplitl [H14]; · iapply (back _ M.a14 V14 S1x2048.size (runC c i M hc0 hc1 hc2 hc3 X S.2.2.1 S.2.2.2.2.2.2).2.2.2.2.1 _ (by sl_kernel_rfl)); iexact H14
  iapply (back _ M.a15 V15 S512x2048.size (runC c i M hc0 hc1 hc2 hc3 X S.2.2.1 S.2.2.2.2.2.2).2.2.2.2.2.1 _ (by sl_kernel_rfl)); iexact H15

/-- Case D. -/
def outD (hc0 : ¬isFirst i) (hc1 : isLast i) (hc2 : ¬topRow i) (hc3 : lowRow i) (X : Ins F) (S : St F) : St F :=
  (rd V9 (runD c i M hc0 hc1 hc2 hc3 X S.2.2.1 S.2.2.2.2.2.1 S.2.2.2.2.2.2).1,
   rd V10 (runD c i M hc0 hc1 hc2 hc3 X S.2.2.1 S.2.2.2.2.2.1 S.2.2.2.2.2.2).2.1,
   S.2.2.1,
   rd V12 (runD c i M hc0 hc1 hc2 hc3 X S.2.2.1 S.2.2.2.2.2.1 S.2.2.2.2.2.2).2.2.1,
   rd V13 (runD c i M hc0 hc1 hc2 hc3 X S.2.2.1 S.2.2.2.2.2.1 S.2.2.2.2.2.2).2.2.2.1,
   rd V14 (runD c i M hc0 hc1 hc2 hc3 X S.2.2.1 S.2.2.2.2.2.1 S.2.2.2.2.2.2).2.2.2.2.1,
   rd V15 (runD c i M hc0 hc1 hc2 hc3 X S.2.2.1 S.2.2.2.2.2.1 S.2.2.2.2.2.2).2.2.2.2.2.1)

set_option maxHeartbeats 1000000 in
theorem soundD (hc0 : ¬isFirst i) (hc1 : isLast i) (hc2 : ¬topRow i) (hc3 : lowRow i) (X : Ins F) (S : St F) (E : Set ℕ) (K : PUnit → sProp 𝕄) :
    iprop(ins c M X ∗ outs c M S ∗ (iprop(ins c M X ∗ outs c M (outD c i M hc0 hc1 hc2 hc3 X S)) -∗ K ⟨⟩))
      ⊢ wp frame (wpE (defs₀ (F := F)) Variants.none c none) E (body i M) K := by
  unfold outD rd outs; dsimp only
  iintro ⟨Hi, ⟨H9, H10, H11, H12, H13, H14, H15⟩, Hk⟩
  iapply ((runD c i M hc0 hc1 hc2 hc3 X S.2.2.1 S.2.2.2.2.2.1 S.2.2.2.2.2.2).2.2.2.2.2.2 E K)
  isplitl [Hi]; · iexact Hi
  isplitl [H9]; · iexists _; iexact H9
  isplitl [H10]; · iexists _; iexact H10
  isplitl [H11]; · iexact H11
  isplitl [H12]; · iexists _; iexact H12
  isplitl [H13]; · iexists _; iexact H13
  iframe H14 H15
  iintro ⟨Hi, ⟨%f9, H9⟩, ⟨%f10, H10⟩, H11, ⟨%f12, H12⟩, ⟨%f13, H13⟩, ⟨%f14, H14⟩, ⟨%f15, H15⟩⟩
  iapply Hk
  isplitl [Hi]; · iexact Hi
  isplitl [H9]; · iapply (back _ M.a9 V9 S1x512x512.size (runD c i M hc0 hc1 hc2 hc3 X S.2.2.1 S.2.2.2.2.2.1 S.2.2.2.2.2.2).1 _ (by sl_kernel_rfl)); iexact H9
  isplitl [H10]; · iapply (back _ M.a10 V10 S512x512.size (runD c i M hc0 hc1 hc2 hc3 X S.2.2.1 S.2.2.2.2.2.1 S.2.2.2.2.2.2).2.1 _ (by sl_kernel_rfl)); iexact H10
  isplitl [H11]; · iexact H11
  isplitl [H12]; · iapply (back _ M.a12 V12 S64x2048.size (runD c i M hc0 hc1 hc2 hc3 X S.2.2.1 S.2.2.2.2.2.1 S.2.2.2.2.2.2).2.2.1 _ (by sl_kernel_rfl)); iexact H12
  isplitl [H13]; · iapply (back _ M.a13 V13 S64x2048.size (runD c i M hc0 hc1 hc2 hc3 X S.2.2.1 S.2.2.2.2.2.1 S.2.2.2.2.2.2).2.2.2.1 _ (by sl_kernel_rfl)); iexact H13
  isplitl [H14]; · iapply (back _ M.a14 V14 S1x2048.size (runD c i M hc0 hc1 hc2 hc3 X S.2.2.1 S.2.2.2.2.2.1 S.2.2.2.2.2.2).2.2.2.2.1 _ (by sl_kernel_rfl)); iexact H14
  iapply (back _ M.a15 V15 S512x2048.size (runD c i M hc0 hc1 hc2 hc3 X S.2.2.1 S.2.2.2.2.2.1 S.2.2.2.2.2.2).2.2.2.2.2.1 _ (by sl_kernel_rfl)); iexact H15

theorem runA_10 (hc0 : isFirst i) (hc1 : ¬isLast i) (X : Ins F) (y y' : Vec F S512x2048 .bf16) :
    (runA c i M hc0 hc1 X y).2.1 = (runA c i M hc0 hc1 X y').2.1 := by
  frame_open
  rfl

theorem runA_11 (hc0 : isFirst i) (hc1 : ¬isLast i) (X : Ins F) (y y' : Vec F S512x2048 .bf16) :
    (runA c i M hc0 hc1 X y).2.2.1 = (runA c i M hc0 hc1 X y').2.2.1 := by
  frame_open
  rfl

/-- What each case leaves depends only on what it reads, and what a case does not store stays. -/
theorem liveA (hc0 : isFirst i) (hc1 : ¬isLast i) (X : Ins F) (S S' : St F) :
    (outA c i M hc0 hc1 X S).1 = (outA c i M hc0 hc1 X S').1 ∧ (outA c i M hc0 hc1 X S).2.1 = (outA c i M hc0 hc1 X S').2.1
    ∧ (outA c i M hc0 hc1 X S).2.2.1 = (outA c i M hc0 hc1 X S').2.2.1
    ∧ (outA c i M hc0 hc1 X S).2.2.2.2.2.2 = (outA c i M hc0 hc1 X S').2.2.2.2.2.2 := by
  dsimp only [outA]
  exact ⟨congrArg (rd V9) (runA_9 c i M hc0 hc1 X _ _), congrArg (rd V10) (runA_10 c i M hc0 hc1 X _ _),
    congrArg (rd V11) (runA_11 c i M hc0 hc1 X _ _), congrArg (rd V15) (runA_15 c i M hc0 hc1 X _ _)⟩

theorem keepA (hc0 : isFirst i) (hc1 : ¬isLast i) (X : Ins F) (S : St F) : (outA c i M hc0 hc1 X S).2.2.2.1 = S.2.2.2.1 ∧ (outA c i M hc0 hc1 X S).2.2.2.2.1 = S.2.2.2.2.1
    ∧ (outA c i M hc0 hc1 X S).2.2.2.2.2.1 = S.2.2.2.2.2.1 := by
  dsimp only [outA]
  exact ⟨rfl, rfl, rfl⟩

theorem liveB (hc0 : ¬isFirst i) (hc1 : ¬isLast i) (X : Ins F) (S S' : St F) (h9 : S.2.2.1 = S'.2.2.1) (h15 : S.2.2.2.2.2.2 = S'.2.2.2.2.2.2) :
    (outB c i M hc0 hc1 X S).1 = (outB c i M hc0 hc1 X S').1 ∧ (outB c i M hc0 hc1 X S).2.1 = (outB c i M hc0 hc1 X S').2.1 ∧ (outB c i M hc0 hc1 X S).2.2.1 = (outB c i M hc0 hc1 X S').2.2.1 ∧ (outB c i M hc0 hc1 X S).2.2.2.2.2.2 = (outB c i M hc0 hc1 X S').2.2.2.2.2.2 := by
  obtain ⟨s1, s2, s3, s4, s5, s6, s7⟩ := S
  obtain ⟨r1, r2, r3, r4, r5, r6, r7⟩ := S'
  dsimp only at h9 h15
  subst h9 h15
  dsimp only [outB]
  exact ⟨rfl, rfl, rfl, rfl⟩

theorem keepB (hc0 : ¬isFirst i) (hc1 : ¬isLast i) (X : Ins F) (S : St F) : (outB c i M hc0 hc1 X S).2.2.1 = S.2.2.1 ∧ (outB c i M hc0 hc1 X S).2.2.2.1 = S.2.2.2.1 ∧ (outB c i M hc0 hc1 X S).2.2.2.2.1 = S.2.2.2.2.1 ∧ (outB c i M hc0 hc1 X S).2.2.2.2.2.1 = S.2.2.2.2.2.1 := by
  dsimp only [outB]
  exact ⟨rfl, rfl, rfl, rfl⟩

theorem liveC (hc0 : ¬isFirst i) (hc1 : isLast i) (hc2 : topRow i) (hc3 : ¬lowRow i) (X : Ins F) (S S' : St F) (h9 : S.2.2.1 = S'.2.2.1) (h15 : S.2.2.2.2.2.2 = S'.2.2.2.2.2.2) :
    (outC c i M hc0 hc1 hc2 hc3 X S).1 = (outC c i M hc0 hc1 hc2 hc3 X S').1 ∧ (outC c i M hc0 hc1 hc2 hc3 X S).2.1 = (outC c i M hc0 hc1 hc2 hc3 X S').2.1 ∧ (outC c i M hc0 hc1 hc2 hc3 X S).2.2.1 = (outC c i M hc0 hc1 hc2 hc3 X S').2.2.1 ∧ (outC c i M hc0 hc1 hc2 hc3 X S).2.2.2.2.2.2 = (outC c i M hc0 hc1 hc2 hc3 X S').2.2.2.2.2.2 ∧ (outC c i M hc0 hc1 hc2 hc3 X S).2.2.2.1 = (outC c i M hc0 hc1 hc2 hc3 X S').2.2.2.1 ∧ (outC c i M hc0 hc1 hc2 hc3 X S).2.2.2.2.1 = (outC c i M hc0 hc1 hc2 hc3 X S').2.2.2.2.1 ∧ (outC c i M hc0 hc1 hc2 hc3 X S).2.2.2.2.2.1 = (outC c i M hc0 hc1 hc2 hc3 X S').2.2.2.2.2.1 := by
  obtain ⟨s1, s2, s3, s4, s5, s6, s7⟩ := S
  obtain ⟨r1, r2, r3, r4, r5, r6, r7⟩ := S'
  dsimp only at h9 h15
  subst h9 h15
  dsimp only [outC]
  exact ⟨rfl, rfl, rfl, rfl, rfl, rfl, rfl⟩

theorem keepC (hc0 : ¬isFirst i) (hc1 : isLast i) (hc2 : topRow i) (hc3 : ¬lowRow i) (X : Ins F) (S : St F) : (outC c i M hc0 hc1 hc2 hc3 X S).2.2.1 = S.2.2.1 := by
  dsimp only [outC]

theorem liveD (hc0 : ¬isFirst i) (hc1 : isLast i) (hc2 : ¬topRow i) (hc3 : lowRow i) (X : Ins F) (S S' : St F) (h9 : S.2.2.1 = S'.2.2.1) (h15 : S.2.2.2.2.2.2 = S'.2.2.2.2.2.2) (h14 : S.2.2.2.2.2.1 = S'.2.2.2.2.2.1) :
    (outD c i M hc0 hc1 hc2 hc3 X S).1 = (outD c i M hc0 hc1 hc2 hc3 X S').1 ∧ (outD c i M hc0 hc1 hc2 hc3 X S).2.1 = (outD c i M hc0 hc1 hc2 hc3 X S').2.1 ∧ (outD c i M hc0 hc1 hc2 hc3 X S).2.2.1 = (outD c i M hc0 hc1 hc2 hc3 X S').2.2.1 ∧ (outD c i M hc0 hc1 hc2 hc3 X S).2.2.2.2.2.2 = (outD c i M hc0 hc1 hc2 hc3 X S').2.2.2.2.2.2 ∧ (outD c i M hc0 hc1 hc2 hc3 X S).2.2.2.1 = (outD c i M hc0 hc1 hc2 hc3 X S').2.2.2.1 ∧ (outD c i M hc0 hc1 hc2 hc3 X S).2.2.2.2.1 = (outD c i M hc0 hc1 hc2 hc3 X S').2.2.2.2.1 ∧ (outD c i M hc0 hc1 hc2 hc3 X S).2.2.2.2.2.1 = (outD c i M hc0 hc1 hc2 hc3 X S').2.2.2.2.2.1 := by
  obtain ⟨s1, s2, s3, s4, s5, s6, s7⟩ := S
  obtain ⟨r1, r2, r3, r4, r5, r6, r7⟩ := S'
  dsimp only at h9 h15 h14
  subst h9 h15 h14
  dsimp only [outD]
  exact ⟨rfl, rfl, rfl, rfl, rfl, rfl, rfl⟩

theorem keepD (hc0 : ¬isFirst i) (hc1 : isLast i) (hc2 : ¬topRow i) (hc3 : lowRow i) (X : Ins F) (S : St F) : (outD c i M hc0 hc1 hc2 hc3 X S).2.2.1 = S.2.2.1 := by
  dsimp only [outD]

end Cert.Ffn2B

end
-- ==== Proof.Ffn2BFrame.lean ====
/- The frame of the second block's backward kernel: what every buffer holds point by point over the 4 by 11 grid, the body's
   obligation at each point, the run of the whole program and the claim that its arguments end unchanged. Any values. -/
module

public import proofs.«01_k».proof.Proof.Ffn2BSteps
public import Idealize.ShloMosaic.Lib.Claim

@[expose] public section

set_option maxRecDepth 16384

noncomputable section

namespace Cert.Ffn2B

open Cert.Ffn2BwdIdeal Cert.Ffn2BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions and the idle points over the grid -/

theorem first_iff : ∀ t : Fin cfg0.N, isFirst (grid0.coords t) ↔ t.val % 11 = 0 :=
  (by decide +kernel : ∀ t : Fin grid0.N, isFirst (grid0.coords t) ↔ t.val % 11 = 0)
theorem last_iff : ∀ t : Fin cfg0.N, isLast (grid0.coords t) ↔ t.val % 11 = 10 :=
  (by decide +kernel : ∀ t : Fin grid0.N, isLast (grid0.coords t) ↔ t.val % 11 = 10)
theorem top_iff : ∀ t : Fin cfg0.N, topRow (grid0.coords t) ↔ t.val < 11 :=
  (by decide +kernel : ∀ t : Fin grid0.N, topRow (grid0.coords t) ↔ t.val < 11)
theorem low_iff : ∀ t : Fin cfg0.N, lowRow (grid0.coords t) ↔ 11 ≤ t.val :=
  (by decide +kernel : ∀ t : Fin grid0.N, lowRow (grid0.coords t) ↔ 11 ≤ t.val)

/-- The inputs and the first two outputs are touched at every point. -/
theorem live : ∀ t : Fin cfg0.N, cfg0.idle 0 (grid0.coords t) = false ∧ cfg0.idle 1 (grid0.coords t) = false ∧ cfg0.idle 2 (grid0.coords t) = false
    ∧ cfg0.idle 3 (grid0.coords t) = false ∧ cfg0.idle 4 (grid0.coords t) = false ∧ cfg0.idle 5 (grid0.coords t) = false
    ∧ cfg0.idle 6 (grid0.coords t) = false ∧ cfg0.idle 7 (grid0.coords t) = false ∧ cfg0.idle 8 (grid0.coords t) = false := by decide +kernel
theorem idle9 : ∀ t : Fin cfg0.N, cfg0.idle 9 (grid0.coords t) = !(t.val % 11 == 0) := by decide +kernel
theorem idle10 : ∀ t : Fin cfg0.N, cfg0.idle 10 (grid0.coords t) = !(t.val % 11 == 10) := by decide +kernel
theorem idle11 : ∀ t : Fin cfg0.N, cfg0.idle 11 (grid0.coords t) = !(t.val % 11 == 10) := by decide +kernel
theorem idle12 : ∀ t : Fin cfg0.N, cfg0.idle 12 (grid0.coords t) = !(t.val % 11 == 10) := by decide +kernel
theorem fl9 : ∀ t : Fin cfg0.N, (cfg0.win 9).flush t = (t.val % 11 == 10) := by decide +kernel
theorem fl10 : ∀ t : Fin cfg0.N, (cfg0.win 10).flush t = (t.val % 11 == 10) := by decide +kernel
theorem fl11 : ∀ t : Fin cfg0.N, (cfg0.win 11).flush t = (t.val % 11 == 10) := by decide +kernel
theorem fl12 : ∀ t : Fin cfg0.N, (cfg0.win 12).flush t = (t.val == 43) := by decide +kernel

/-- The cast cotangent's buffer is fresh at a row block's first step only; the scale gradient's until the end of the first row
    block. -/
theorem fresh9 (t : Fin cfg0.N) : cfg0.fresh 9 t.val = (t.val % 11 == 0) :=
  Cfg.fresh_tab cfg0 9 (fun n => n % 11 == 0) rfl (by decide +kernel) t.val (Nat.le_of_lt t.isLt)
theorem fresh12 (t : Fin cfg0.N) : cfg0.fresh 12 t.val = (decide (t.val < 11) || t.val == 44) :=
  Cfg.fresh_tab cfg0 12 (fun n => decide (n < 11) || n == 44) rfl (by decide +kernel) t.val (Nat.le_of_lt t.isLt)

/-! ## What the buffers hold point by point -/

variable (c : Dev nD) (t : Fin cfg0.N)

/-- The memrefs and the input blocks of point `t`. -/
abbrev mems (t : Fin cfg0.N) : Mems :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12),
    Memref.whole cc0_scratch0, Memref.isWhole_whole _⟩
abbrev blks : Ins F := ⟨iblk m c 0 t, iblk m c 1 t, iblk m c 2 t, iblk m c 3 t, iblk m c 4 t, iblk m c 5 t, iblk m c 6 t⟩

/-- What point `t` makes of the contents it finds. -/
def step (S : St F) : St F :=
  if h0 : t.val % 11 = 0 then
    outA c (grid0.coords t) (mems t) ((first_iff t).mpr h0) (fun h => by have := (last_iff t).mp h; omega) (blks m c t) S
  else if h1 : t.val % 11 = 10 then
    if h2 : t.val < 11 then
      outC c (grid0.coords t) (mems t) (fun h => h0 ((first_iff t).mp h)) ((last_iff t).mpr h1) ((top_iff t).mpr h2)
        (fun h => by have := (low_iff t).mp h; omega) (blks m c t) S
    else
      outD c (grid0.coords t) (mems t) (fun h => h0 ((first_iff t).mp h)) ((last_iff t).mpr h1) (fun h => h2 ((top_iff t).mp h))
        ((low_iff t).mpr (by omega)) (blks m c t) S
  else
    outB c (grid0.coords t) (mems t) (fun h => h0 ((first_iff t).mp h)) (fun h => h1 ((last_iff t).mp h)) (blks m c t) S

theorem step_A (S : St F) (h0 : t.val % 11 = 0) : step m c t S =
    outA c (grid0.coords t) (mems t) ((first_iff t).mpr h0) (fun h => by have := (last_iff t).mp h; omega) (blks m c t) S := dif_pos h0
theorem step_B (S : St F) (h0 : ¬t.val % 11 = 0) (h1 : ¬t.val % 11 = 10) : step m c t S =
    outB c (grid0.coords t) (mems t) (fun h => h0 ((first_iff t).mp h)) (fun h => h1 ((last_iff t).mp h)) (blks m c t) S :=
  (dif_neg h0).trans (dif_neg h1)
theorem step_C (S : St F) (h0 : ¬t.val % 11 = 0) (h1 : t.val % 11 = 10) (h2 : t.val < 11) : step m c t S =
    outC c (grid0.coords t) (mems t) (fun h => h0 ((first_iff t).mp h)) ((last_iff t).mpr h1) ((top_iff t).mpr h2)
      (fun h => by have := (low_iff t).mp h; omega) (blks m c t) S :=
  (dif_neg h0).trans ((dif_pos h1).trans (dif_pos h2))
theorem step_D (S : St F) (h0 : ¬t.val % 11 = 0) (h1 : t.val % 11 = 10) (h2 : ¬t.val < 11) : step m c t S =
    outD c (grid0.coords t) (mems t) (fun h => h0 ((first_iff t).mp h)) ((last_iff t).mpr h1) (fun h => h2 ((top_iff t).mp h))
      ((low_iff t).mpr (by omega)) (blks m c t) S :=
  (dif_neg h0).trans ((dif_pos h1).trans (dif_neg h2))

/-- Contents nobody consults: the buffers before the first point. -/
def ini : St F := (rd V9 [], rd V10 [], rd V11 [], rd V12 [], rd V13 [], rd V14 [], rd V15 [])

/-- What the buffers hold after point `n`. -/
def outsAt (c : Dev nD) : (n : ℕ) → n < cfg0.N → St F
  | 0, hn => step m c ⟨0, hn⟩ ini
  | n + 1, hn => step m c ⟨n + 1, hn⟩ (outsAt c n (Nat.lt_of_succ_lt hn))

/-- What they held before point `t`. -/
def prevAt : St F :=
  if h : t.val = 0 then ini else outsAt m c (t.val - 1) (by have := t.isLt; omega)

theorem prevAt_pos (h : t.val ≠ 0) :
    prevAt m c t = outsAt m c (t.val - 1) (Nat.lt_of_le_of_lt (Nat.sub_le _ _) t.isLt) := dif_neg h

theorem outsAt_eq : outsAt m c t.val t.isLt = step m c t (prevAt m c t) := by
  obtain ⟨n, hn⟩ := t
  cases n with
  | zero => rfl
  | succ n => rfl

/-- What a point leaves depends only on what it reads. -/
theorem step_live (S S' : St F) (h9 : ¬t.val % 11 = 0 → S.2.2.1 = S'.2.2.1)
    (h15 : ¬t.val % 11 = 0 → S.2.2.2.2.2.2 = S'.2.2.2.2.2.2) (h12 : t.val % 11 = 10 → ¬t.val < 11 → S.2.2.2.2.2.1 = S'.2.2.2.2.2.1) :
    (step m c t S).1 = (step m c t S').1 ∧ (step m c t S).2.1 = (step m c t S').2.1 ∧ (step m c t S).2.2.1 = (step m c t S').2.2.1
    ∧ (step m c t S).2.2.2.2.2.2 = (step m c t S').2.2.2.2.2.2
    ∧ (t.val % 11 = 10 → (step m c t S).2.2.2.1 = (step m c t S').2.2.2.1 ∧ (step m c t S).2.2.2.2.1 = (step m c t S').2.2.2.2.1
      ∧ (step m c t S).2.2.2.2.2.1 = (step m c t S').2.2.2.2.2.1) := by
  by_cases h0 : t.val % 11 = 0
  · rw [step_A m c t S h0, step_A m c t S' h0]
    obtain ⟨h, h', h'', hq⟩ := liveA c (grid0.coords t) (mems t) ((first_iff t).mpr h0) (fun h => by have := (last_iff t).mp h; omega) (blks m c t) S S'
    exact ⟨h, h', h'', hq, fun h => by omega⟩
  · by_cases h1 : t.val % 11 = 10
    · by_cases h2 : t.val < 11
      · rw [step_C m c t S h0 h1 h2, step_C m c t S' h0 h1 h2]
        obtain ⟨a1, a2, a3, a4, a5⟩ := liveC c (grid0.coords t) (mems t) (fun h => h0 ((first_iff t).mp h)) ((last_iff t).mpr h1)
          ((top_iff t).mpr h2) (fun h => by have := (low_iff t).mp h; omega) (blks m c t) S S' (h9 h0) (h15 h0)
        exact ⟨a1, a2, a3, a4, fun _ => a5⟩
      · rw [step_D m c t S h0 h1 h2, step_D m c t S' h0 h1 h2]
        obtain ⟨a1, a2, a3, a4, a5⟩ := liveD c (grid0.coords t) (mems t) (fun h => h0 ((first_iff t).mp h)) ((last_iff t).mpr h1)
          (fun h => h2 ((top_iff t).mp h)) ((low_iff t).mpr (by omega)) (blks m c t) S S' (h9 h0) (h15 h0) (h12 h1 h2)
        exact ⟨a1, a2, a3, a4, fun _ => a5⟩
    · rw [step_B m c t S h0 h1, step_B m c t S' h0 h1]
      obtain ⟨a1, a2, a3, a4⟩ := liveB c (grid0.coords t) (mems t) (fun h => h0 ((first_iff t).mp h)) (fun h => h1 ((last_iff t).mp h))
        (blks m c t) S S' (h9 h0) (h15 h0)
      exact ⟨a1, a2, a3, a4, fun h => absurd h h1⟩

/-- Away from a row block's first step the cast cotangent stays. -/
theorem keep9 (S : St F) (h0 : ¬t.val % 11 = 0) : (step m c t S).2.2.1 = S.2.2.1 := by
  by_cases h1 : t.val % 11 = 10
  · by_cases h2 : t.val < 11
    · rw [step_C m c t S h0 h1 h2]; exact keepC c _ _ _ _ _ _ _ S
    · rw [step_D m c t S h0 h1 h2]; exact keepD c _ _ _ _ _ _ _ S
  · rw [step_B m c t S h0 h1]; exact (keepB c _ _ _ _ _ S).1

/-- Away from a row block's last step the last three outputs stay. -/
theorem keep (S : St F) (h1 : ¬t.val % 11 = 10) :
    (step m c t S).2.2.2.1 = S.2.2.2.1 ∧ (step m c t S).2.2.2.2.1 = S.2.2.2.2.1 ∧ (step m c t S).2.2.2.2.2.1 = S.2.2.2.2.2.1 := by
  by_cases h0 : t.val % 11 = 0
  · rw [step_A m c t S h0]; exact keepA c _ _ _ _ _ S
  · rw [step_B m c t S h0 h1]; exact (keepB c _ _ _ _ _ S).2

/-- The body's triple at any point, from any contents. -/
theorem sound (S : St F) (E : Set ℕ) (K : PUnit → sProp 𝕄) :
    iprop(ins c (mems t) (blks m c t) ∗ outs c (mems t) S ∗ (iprop(ins c (mems t) (blks m c t) ∗ outs c (mems t) (step m c t S)) -∗ K ⟨⟩))
      ⊢ wp frame (wpE (defs₀ (F := F)) Variants.none c none) E (bodyAt0 t) K := by
  by_cases h0 : t.val % 11 = 0
  · rw [step_A m c t S h0]; exact soundA c _ _ _ _ _ S E K
  · by_cases h1 : t.val % 11 = 10
    · by_cases h2 : t.val < 11
      · rw [step_C m c t S h0 h1 h2]; exact soundC c _ _ _ _ _ _ _ S E K
      · rw [step_D m c t S h0 h1 h2]; exact soundD c _ _ _ _ _ _ _ S E K
    · rw [step_B m c t S h0 h1]; exact soundB c _ _ _ _ _ S E K

/-! ## The pipeline's data -/

/-- The accumulator as a memref. -/
abbrev acc : Memref sig .tc .vmem S512x2048 .f32 := Memref.whole cc0_scratch0

theorem PhiA_eq (c : Dev nD) : (Pipeline.ΦA spec0 c : sProp 𝕄) = iprop(iprop((∃ d, owns (c : Thread nD τ) acc fullShare d)) ∗ (∃ r, prngReg c r)) := by
  unfold Pipeline.ΦA; rw [scopedRest0_eq]; simp only [acc, owns_whole]; try rfl

/-- Before the first point the accumulator holds anything, afterwards what the point before left. -/
def Phi (c : Dev nD) : (n : ℕ) → n ≤ cfg0.N → sProp 𝕄
  | 0, _ => Pipeline.ΦA spec0 c
  | n + 1, hn => iprop(owns (c : Thread nD τ) acc fullShare (outsAt m c n hn).2.2.2.2.2.2 ∗ (∃ r, prngReg c r))

theorem Phi_zero (c : Dev nD) (n : ℕ) (h : n ≤ cfg0.N) (hz : n = 0) : Phi m c n h = Pipeline.ΦA spec0 c := by subst hz; rfl
theorem Phi_pos (c : Dev nD) (n : ℕ) (h : n ≤ cfg0.N) (hz : n ≠ 0) :
    Phi m c n h = iprop(owns (c : Thread nD τ) acc fullShare (outsAt m c (n - 1) (by omega)).2.2.2.2.2.2 ∗ (∃ r, prngReg c r)) := by
  cases n with
  | zero => exact absurd rfl hz
  | succ n => rfl

/-- The arrays as the region finds them; the inputs' buffers at their blocks, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
    | ⟨10, _⟩ => (outsAt m c t.val t.isLt).2.2.2.1
    | ⟨11, _⟩ => (outsAt m c t.val t.isLt).2.2.2.2.1
    | ⟨12, _⟩ => (outsAt m c t.val t.isLt).2.2.2.2.2.1
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem Phi_castSucc : (dats m 0 c).Φ t.castSucc = Phi m c t.val (Nat.le_of_lt t.isLt) := by
  dsimp only [dats]; exact Dat.Φ_castSucc (Phi m c) t

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = (outsAt m c t.val t.isLt).1 := by dsimp only [dats]
theorem after_8 : (dats m 0 c).after 8 t = (outsAt m c t.val t.isLt).2.1 := by dsimp only [dats]
theorem after_9 : (dats m 0 c).after 9 t = (outsAt m c t.val t.isLt).2.2.1 := by dsimp only [dats]
theorem after_10 : (dats m 0 c).after 10 t = (outsAt m c t.val t.isLt).2.2.2.1 := by dsimp only [dats]
theorem after_11 : (dats m 0 c).after 11 t = (outsAt m c t.val t.isLt).2.2.2.2.1 := by dsimp only [dats]
theorem after_12 : (dats m 0 c).after 12 t = (outsAt m c t.val t.isLt).2.2.2.2.2.1 := by dsimp only [dats]
theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d

theorem carry9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t hz hi _
  have h0 : ¬t.val % 11 = 0 := fun h => by rw [idle9 t, h] at hi; exact absurd hi (by decide)
  rw [after_9, after_9, outsAt_eq, keep9 m c t _ h0, prevAt_pos m c t hz]

theorem carry12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t hz hi _
  have h1 : ¬t.val % 11 = 10 := fun h => by rw [idle12 t, h] at hi; exact absurd hi (by decide)
  rw [after_12, after_12, outsAt_eq, (keep m c t _ h1).2.2, prevAt_pos m c t hz]

theorem before_9 (h0 : ¬t.val % 11 = 0) (d) : (dats m 0 c).before 9 t d = (prevAt m c t).2.2.1 := by
  rw [Dat.before_out_traj _ 9 rfl (fun _ _ => rfl) (carry9 m c) t.val t rfl d,
    if_neg (by rw [fresh9 t]; simp only [beq_iff_eq]; exact h0), after_9, prevAt_pos m c t (fun h => h0 (by rw [h]))]

theorem before_12 (h2 : ¬t.val < 11) (d) : (dats m 0 c).before 12 t d = (prevAt m c t).2.2.2.2.2.1 := by
  have hN : t.val < 44 := lt_of_lt_of_eq t.isLt (show cfg0.N = 44 from N_0)
  rw [Dat.before_out_traj _ 12 rfl (fun _ _ => rfl) (carry12 m c) t.val t rfl d,
    if_neg (by rw [fresh12 t]; simp only [Bool.or_eq_true, decide_eq_true_eq, beq_iff_eq]; omega), after_12, prevAt_pos m c t (by omega)]

/-! ## The obligation at a point -/

/-- What the body hands back for an output stored at some points only: its contents, live or not. -/
theorem leave9 (S : St F) (d) (hS : S.2.2.1 = (dats m 0 c).before 9 t d)
    (he : (step m c t S).2.2.1 = (outsAt m c t.val t.isLt).2.2.1) :
    owns (c : Thread nD τ) (mems t).a11 fullShare (step m c t S).2.2.1 ⊢ ((dats m 0 c).leavesExact 9 t : sProp 𝕄) := by
  by_cases h0 : t.val % 11 = 0
  · unfold Dat.leavesExact
    rw [show cfg0.idle 9 (cfg0.grid.coords t) = false from by rw [idle9 t, h0]; rfl, after_9, he]
  · by_cases h1 : t.val % 11 = 10
    · unfold Dat.leavesExact
      rw [show cfg0.idle 9 (cfg0.grid.coords t) = true from by rw [idle9 t, h1]; rfl, show (cfg0.win 9).flush t = true from by rw [fl9 t, h1]; rfl, after_9, he]
    · rw [Dat.leavesExact_idle (dats m 0 c) 9 t (by rw [idle9 t]; simp only [Bool.not_eq_true', beq_eq_false_iff_ne]; exact h0)
        (by rw [fl9 t]; simp only [beq_eq_false_iff_ne]; exact h1), keep9 m c t S h0, hS]
      iintro H; iexists _; iexact H

theorem leave10 (S : St F) (d) (hS : S.2.2.2.1 = (dats m 0 c).before 10 t d)
    (he : t.val % 11 = 10 → (step m c t S).2.2.2.1 = (outsAt m c t.val t.isLt).2.2.2.1) :
    owns (c : Thread nD τ) (mems t).a12 fullShare (step m c t S).2.2.2.1 ⊢ ((dats m 0 c).leavesExact 10 t : sProp 𝕄) := by
  by_cases h1 : t.val % 11 = 10
  · unfold Dat.leavesExact
    rw [show cfg0.idle 10 (cfg0.grid.coords t) = false from by rw [idle10 t, h1]; rfl, after_10, he h1]
  · rw [Dat.leavesExact_idle (dats m 0 c) 10 t (by rw [idle10 t]; simp only [Bool.not_eq_true', beq_eq_false_iff_ne]; exact h1)
      (by rw [fl10 t]; simp only [beq_eq_false_iff_ne]; exact h1), (keep m c t S h1).1, hS]
    iintro H; iexists _; iexact H

theorem leave11 (S : St F) (d) (hS : S.2.2.2.2.1 = (dats m 0 c).before 11 t d)
    (he : t.val % 11 = 10 → (step m c t S).2.2.2.2.1 = (outsAt m c t.val t.isLt).2.2.2.2.1) :
    owns (c : Thread nD τ) (mems t).a13 fullShare (step m c t S).2.2.2.2.1 ⊢ ((dats m 0 c).leavesExact 11 t : sProp 𝕄) := by
  by_cases h1 : t.val % 11 = 10
  · unfold Dat.leavesExact
    rw [show cfg0.idle 11 (cfg0.grid.coords t) = false from by rw [idle11 t, h1]; rfl, after_11, he h1]
  · rw [Dat.leavesExact_idle (dats m 0 c) 11 t (by rw [idle11 t]; simp only [Bool.not_eq_true', beq_eq_false_iff_ne]; exact h1)
      (by rw [fl11 t]; simp only [beq_eq_false_iff_ne]; exact h1), (keep m c t S h1).2.1, hS]
    iintro H; iexists _; iexact H

theorem leave12 (S : St F) (d) (hS : S.2.2.2.2.2.1 = (dats m 0 c).before 12 t d)
    (he : t.val % 11 = 10 → (step m c t S).2.2.2.2.2.1 = (outsAt m c t.val t.isLt).2.2.2.2.2.1) :
    owns (c : Thread nD τ) (mems t).a14 fullShare (step m c t S).2.2.2.2.2.1 ⊢ ((dats m 0 c).leavesExact 12 t : sProp 𝕄) := by
  by_cases h1 : t.val % 11 = 10
  · unfold Dat.leavesExact
    rw [show cfg0.idle 12 (cfg0.grid.coords t) = false from by rw [idle12 t, h1]; rfl, after_12, he h1]
  · rw [Dat.leavesExact_idle (dats m 0 c) 12 t (by rw [idle12 t]; simp only [Bool.not_eq_true', beq_eq_false_iff_ne]; exact h1)
      (by rw [fl12 t]; simp only [beq_eq_false_iff_ne]; omega), (keep m c t S h1).2.2, hS]
    iintro H; iexists _; iexact H

/-- From contents that agree with what the point before left wherever the point reads them. -/
theorem point (d7 d8 d9 d10 d11 d12) (a : Vec F S512x2048 .f32) (ha : ¬t.val % 11 = 0 → a = (prevAt m c t).2.2.2.2.2.2) :
    iprop(ins c (mems t) (blks m c t)
        ∗ outs c (mems t) ((dats m 0 c).before 7 t d7, (dats m 0 c).before 8 t d8, (dats m 0 c).before 9 t d9, (dats m 0 c).before 10 t d10, (dats m 0 c).before 11 t d11, (dats m 0 c).before 12 t d12, a))
      ⊢ wp frame (wpE (defs₀ (F := F)) Variants.none c none) Set.univ (bodyAt0 t) (fun _ => iprop(
          ins c (mems t) (blks m c t) ∗ owns (c : Thread nD τ) acc fullShare (outsAt m c t.val t.isLt).2.2.2.2.2.2
          ∗ (dats m 0 c).leavesExact 7 t ∗ (dats m 0 c).leavesExact 8 t ∗ (dats m 0 c).leavesExact 9 t
          ∗ (dats m 0 c).leavesExact 10 t ∗ (dats m 0 c).leavesExact 11 t ∗ (dats m 0 c).leavesExact 12 t)) := by
  generalize hS : (((dats m 0 c).before 7 t d7, (dats m 0 c).before 8 t d8, (dats m 0 c).before 9 t d9, (dats m 0 c).before 10 t d10, (dats m 0 c).before 11 t d11, (dats m 0 c).before 12 t d12, a) : St F) = S
  have s9 : S.2.2.1 = (dats m 0 c).before 9 t d9 := by rw [← hS]
  have s10 : S.2.2.2.1 = (dats m 0 c).before 10 t d10 := by rw [← hS]
  have s11 : S.2.2.2.2.1 = (dats m 0 c).before 11 t d11 := by rw [← hS]
  have s12 : S.2.2.2.2.2.1 = (dats m 0 c).before 12 t d12 := by rw [← hS]
  have s15 : S.2.2.2.2.2.2 = a := by rw [← hS]
  clear hS
  obtain ⟨e7, e8, e9, e15, e⟩ := step_live m c t S (prevAt m c t) (fun h => by rw [s9, before_9 m c t h]) (fun h => by rw [s15, ha h])
    (fun _ h => by rw [s12, before_12 m c t h])
  rw [← outsAt_eq] at e7 e8 e9 e15 e
  have l7 : ((dats m 0 c).leavesExact 7 t : sProp 𝕄) = owns (c : Thread nD τ) (mems t).a9 fullShare (step m c t S).1 := by
    unfold Dat.leavesExact; rw [show cfg0.idle 7 (cfg0.grid.coords t) = false from (live t).2.2.2.2.2.2.2.1, after_7, e7]
  have l8 : ((dats m 0 c).leavesExact 8 t : sProp 𝕄) = owns (c : Thread nD τ) (mems t).a10 fullShare (step m c t S).2.1 := by
    unfold Dat.leavesExact; rw [show cfg0.idle 8 (cfg0.grid.coords t) = false from (live t).2.2.2.2.2.2.2.2, after_8, e8]
  rw [l7, l8, ← e15]
  iintro ⟨Hi, Ho⟩
  iapply (sound m c t S Set.univ _)
  isplitl [Hi]; · iexact Hi
  isplitl [Ho]; · iexact Ho
  iintro ⟨Hi, ⟨H7, H8, H9, H10, H11, H12, Ha⟩⟩
  isplitl [Hi]; · iexact Hi
  isplitl [Ha]; · iexact Ha
  isplitl [H7]; · iexact H7
  isplitl [H8]; · iexact H8
  isplitl [H9]; · iapply (leave9 m c t S d9 s9 e9); iexact H9
  isplitl [H10]; · iapply (leave10 m c t S d10 s10 (fun h => (e h).1)); iexact H10
  isplitl [H11]; · iapply (leave11 m c t S d11 s11 (fun h => (e h).2.1)); iexact H11
  iapply (leave12 m c t S d12 s12 (fun h => (e h).2.2)); iexact H12

/-- What the body is called with at point `t`, -/
def bodyPre : sProp 𝕄 :=
  iprop((dats m 0 c).Φ t.castSucc ∗ (dats m 0 c).owesAt () t.castSucc
    ∗ (∃ d, owns (c : Thread nD τ) (mems t).a2 fullShare ((dats m 0 c).before 0 t d))
    ∗ (∃ d, owns (c : Thread nD τ) (mems t).a3 fullShare ((dats m 0 c).before 1 t d))
    ∗ (∃ d, owns (c : Thread nD τ) (mems t).a4 fullShare ((dats m 0 c).before 2 t d))
    ∗ (∃ d, owns (c : Thread nD τ) (mems t).a5 fullShare ((dats m 0 c).before 3 t d))
    ∗ (∃ d, owns (c : Thread nD τ) (mems t).a6 fullShare ((dats m 0 c).before 4 t d))
    ∗ (∃ d, owns (c : Thread nD τ) (mems t).a7 fullShare ((dats m 0 c).before 5 t d))
    ∗ (∃ d, owns (c : Thread nD τ) (mems t).a8 fullShare ((dats m 0 c).before 6 t d))
    ∗ (∃ d, owns (c : Thread nD τ) (mems t).a9 fullShare ((dats m 0 c).before 7 t d))
    ∗ (∃ d, owns (c : Thread nD τ) (mems t).a10 fullShare ((dats m 0 c).before 8 t d))
    ∗ (∃ d, owns (c : Thread nD τ) (mems t).a11 fullShare ((dats m 0 c).before 9 t d))
    ∗ (∃ d, owns (c : Thread nD τ) (mems t).a12 fullShare ((dats m 0 c).before 10 t d))
    ∗ (∃ d, owns (c : Thread nD τ) (mems t).a13 fullShare ((dats m 0 c).before 11 t d))
    ∗ (∃ d, owns (c : Thread nD τ) (mems t).a14 fullShare ((dats m 0 c).before 12 t d)))

/-- and what it returns. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 1000000 in
theorem sound_body :
    bodyPre m c t ⊢ wp frame (wpE (defs₀ (F := F)) Variants.none c none) Set.univ (bodyAt0 t) (fun _ => bodyPost m c t) := by
  unfold bodyPre bodyPost
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, show Phi m c (t.val + 1) t.isLt = iprop(owns (c : Thread nD τ) acc fullShare (outsAt m c t.val t.isLt).2.2.2.2.2.2 ∗ (∃ r, prngReg c r)) from rfl]
  rw [show ((dats m 0 c).leavesExact 0 t : sProp 𝕄) = owns (c : Thread nD τ) (mems t).a2 fullShare (iblk m c 0 t) from by
    unfold Dat.leavesExact; rw [show cfg0.idle 0 (cfg0.grid.coords t) = false from (live t).1, after_0]]
  rw [show ((dats m 0 c).leavesExact 1 t : sProp 𝕄) = owns (c : Thread nD τ) (mems t).a3 fullShare (iblk m c 1 t) from by
    unfold Dat.leavesExact; rw [show cfg0.idle 1 (cfg0.grid.coords t) = false from (live t).2.1, after_1]]
  rw [show ((dats m 0 c).leavesExact 2 t : sProp 𝕄) = owns (c : Thread nD τ) (mems t).a4 fullShare (iblk m c 2 t) from by
    unfold Dat.leavesExact; rw [show cfg0.idle 2 (cfg0.grid.coords t) = false from (live t).2.2.1, after_2]]
  rw [show ((dats m 0 c).leavesExact 3 t : sProp 𝕄) = owns (c : Thread nD τ) (mems t).a5 fullShare (iblk m c 3 t) from by
    unfold Dat.leavesExact; rw [show cfg0.idle 3 (cfg0.grid.coords t) = false from (live t).2.2.2.1, after_3]]
  rw [show ((dats m 0 c).leavesExact 4 t : sProp 𝕄) = owns (c : Thread nD τ) (mems t).a6 fullShare (iblk m c 4 t) from by
    unfold Dat.leavesExact; rw [show cfg0.idle 4 (cfg0.grid.coords t) = false from (live t).2.2.2.2.1, after_4]]
  rw [show ((dats m 0 c).leavesExact 5 t : sProp 𝕄) = owns (c : Thread nD τ) (mems t).a7 fullShare (iblk m c 5 t) from by
    unfold Dat.leavesExact; rw [show cfg0.idle 5 (cfg0.grid.coords t) = false from (live t).2.2.2.2.2.1, after_5]]
  rw [show ((dats m 0 c).leavesExact 6 t : sProp 𝕄) = owns (c : Thread nD τ) (mems t).a8 fullShare (iblk m c 6 t) from by
    unfold Dat.leavesExact; rw [show cfg0.idle 6 (cfg0.grid.coords t) = false from (live t).2.2.2.2.2.2.1, after_6]]
  have hP : (dats m 0 c).Φ t.castSucc ⊢ (iprop(∃ a, ⌜¬t.val % 11 = 0 → a = (prevAt m c t).2.2.2.2.2.2⌝ ∗ owns (c : Thread nD τ) acc fullShare a ∗ (∃ r, prngReg c r)) : sProp 𝕄) := by
    by_cases hz : t.val = 0
    · rw [Phi_castSucc m c t, Phi_zero m c _ _ hz, PhiA_eq]
      iintro ⟨⟨%a, HS⟩, Hg⟩
      iexists a; isplitr
      · ipureintro; intro h; exact absurd (by rw [hz]) h
      iframe
    · rw [Phi_castSucc m c t, Phi_pos m c _ _ hz]
      iintro ⟨HS, Hg⟩
      iexists _; isplitr
      · ipureintro; intro _; rw [prevAt_pos m c t hz]
      iframe
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HP := hP $$ HP
  icases HP with ⟨%a, %ha, HS, Hg⟩
  iapply (wp_wand_r frame (wpE (defs₀ (F := F)) Variants.none c none) Set.univ (Q := fun _ => iprop(
      ins c (mems t) (blks m c t) ∗ owns (c : Thread nD τ) acc fullShare (outsAt m c t.val t.isLt).2.2.2.2.2.2
      ∗ (dats m 0 c).leavesExact 7 t ∗ (dats m 0 c).leavesExact 8 t ∗ (dats m 0 c).leavesExact 9 t
      ∗ (dats m 0 c).leavesExact 10 t ∗ (dats m 0 c).leavesExact 11 t ∗ (dats m 0 c).leavesExact 12 t)))
  isplitl [HS H0 H1 H2 H3 H4 H5 H6 H7 H8 H9 H10 H11 H12]
  · iapply (point m c t d7 d8 d9 d10 d11 d12 a ha)
    unfold ins outs; dsimp only; iframe
  · iintro %_ ⟨⟨H0, H1, H2, H3, H4, H5, H6⟩, HS, H7, H8, H9, H10, H11, H12⟩
    iframe

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 44 := N_0; omega)

/-! ## The run of the whole program -/

set_option backward.isDefEq.respectTransparency.types false in
/-- Every execution ends, with every array at what its blocks say and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Ffn2B

end
-- ==== Proof.Ffn2BBody.lean ====
/- The bodies of the second block's backward kernel read at an index, over any blocks: what each case leaves in the outputs'
   buffers and in the accumulator. -/
module

public import proofs.«01_k».proof.Proof.Ffn2BSteps
public import Idealize.ShloMosaic.Lib.Pipeline.ReadBack
public import Idealize.ShloMosaic.Lib.VecWindow
public import Idealize.ShloMosaic.Lib.Claim
public import proofs.«01_k».proof.Proof.Trips

@[expose] public section

set_option maxRecDepth 16384

noncomputable section

namespace Cert.Ffn2B

open Cert.Ffn2BwdIdeal Cert.Ffn2BwdIdeal.Gen Cert.Reals Cert.Spec
open Idealize.ShloMosaic Idealize.ShloMosaic.TcCoe Idealize.SL.Sem
open scoped BigOperators
open Cert.Trips (row64 ld64 emb64 mem64 ix64 sh sh_eq sum_sh DH dgr ldg two)
open Memref.IsWhole (read_unread)

/-! ## The stored values -/

/-- Half the cotangent. -/
def HF (x : S512x2048.Idx → EReal) (y : S512x2048.Idx) : EReal := Ideal.ofBits .f32 0x3F000000#32 * x y

/-- The gated product's cotangent. -/
def tD (df wo : S512x2048.Idx → EReal) (s n : Fin 512) : EReal := ∑ k : Fin 2048, df (ix2 s k) * wo (ix2 n k)

/-- The gate's cotangent. -/
def tG (gu : S2x512x512.Idx → EReal) (df wo : S512x2048.Idx → EReal) (s n : Fin 512) : EReal :=
  gateK (tD df wo s n) (gu (ix3 0 s n)) (gu (ix3 1 s n))

/-- The other half's cotangent. -/
def tU (gu : S2x512x512.Idx → EReal) (df wo : S512x2048.Idx → EReal) (s n : Fin 512) : EReal :=
  tD df wo s n * (gu (ix3 0 s n) * sgK (gu (ix3 0 s n)))

/-- What the first output's buffer is left with. -/
def P9 (gu : S2x512x512.Idx → EReal) (df wo : S512x2048.Idx → EReal) (y : S2x512x512.Idx) : EReal :=
  if (y 0).val = 1 then tU gu df wo (y 1) (y 2) else tG gu df wo (y 1) (y 2)

/-- What the second output's buffer is left with. -/
def P10 (gu : S2x512x512.Idx → EReal) (y : S512x512.Idx) : EReal :=
  gu (ix3 0 (y 0) (y 1)) * sgK (gu (ix3 0 (y 0) (y 1))) * gu (ix3 1 (y 0) (y 1))

/-- What the accumulator gains. -/
def PA (gu : S2x512x512.Idx → EReal) (df wo : S512x2048.Idx → EReal) (wg wu : S2048x512.Idx → EReal) (y : S512x2048.Idx) : EReal :=
  (∑ k : Fin 512, tG gu df wo (y 0) k * wg (ix2 (y 1) k)) + ∑ k : Fin 512, tU gu df wo (y 0) k * wu (ix2 (y 1) k)

theorem p19 (a b : FVec Ideal S1x512x512 .bf16) (df wo : FVec Ideal S512x2048 .bf16) (i j : Fin 512) :
    k0_pay19 (F := Ideal) a b df wo (ix2 i j) = gateK (tD df wo i j) (a (ix3 0 i j)) (b (ix3 0 i j)) := by
  pointwise [k0_pay19, k0_pay14, k0_pay15, k0_pay16, k0_pay17]
  rfl

theorem p20 (a : FVec Ideal S1x512x512 .bf16) (df wo : FVec Ideal S512x2048 .bf16) (i j : Fin 512) :
    k0_pay20 (F := Ideal) a df wo (ix2 i j) = tD df wo i j * (a (ix3 0 i j) * sgK (a (ix3 0 i j))) := by
  pointwise [k0_pay20, k0_pay14, k0_pay16, k0_pay17, k0_pay18]
  rfl

theorem p21 (a b : FVec Ideal S1x512x512 .bf16) (i j : Fin 512) :
    k0_pay21 (F := Ideal) a b (ix2 i j) = a (ix3 0 i j) * sgK (a (ix3 0 i j)) * b (ix3 0 i j) := by
  pointwise [k0_pay21, k0_pay14, k0_pay15, k0_pay17, k0_pay18]
  rfl

theorem p1 (v : FVec Ideal S512x512 .bf16) (i j : Fin 512) : k0_pay1 (F := Ideal) v (ix3 0 i j) = v (ix2 i j) := by
  pointwise [k0_pay1]

theorem p2 (v : FVec Ideal S512x512 .bf16) (i j : Fin 512) : k0_pay2 (F := Ideal) v (ix3 0 i j) = v (ix2 i j) := by
  pointwise [k0_pay2]

theorem p3 (a b : FVec Ideal S512x512 .bf16) (v : FVec Ideal S512x2048 .f32) (wg wu : FVec Ideal S2048x512 .bf16) (s : Fin 512) (d : Fin 2048) :
    k0_pay3 (F := Ideal) a b v wg wu (ix2 s d) =
      v (ix2 s d) + ((∑ k : Fin 512, a (ix2 s k) * wg (ix2 d k)) + ∑ k : Fin 512, b (ix2 s k) * wu (ix2 d k)) := by
  pointwise [k0_pay3]

theorem p4 (d : Fin 2048) : k0_pay4 (F := Ideal) (ix2 0 d) = (0 : EReal) := by
  pointwise [k0_pay4]

theorem p5 (a b : FVec Ideal S1x2048 .f32) (d : Fin 2048) : k0_pay5 (F := Ideal) a b (ix2 0 d) = b (ix2 0 d) + a (ix2 0 d) := by
  pointwise [k0_pay5]

theorem p9 (a x : FVec Ideal S64x2048 .f32) (g : FVec Ideal S1x2048 .f32) (r : FVec Ideal S64x2048 .f32) (i : Fin 64) (d : Fin 2048) :
    k0_pay9 (F := Ideal) a x g r (ix2 i d) =
      r (ix2 i d) + normK (fun d => a (ix2 i d)) (fun d => x (ix2 i d)) (fun d => g (ix2 0 d)) d := by
  pointwise [k0_pay9, k0_pay8, k0_pay7, k0_pay6]
  rfl

theorem p11 (v : FVec Ideal S1x2048 .f32) (a x : FVec Ideal S64x2048 .f32) (d : Fin 2048) :
    k0_pay11 (F := Ideal) v a x (ix2 0 d) =
      v (ix2 0 d) + ∑ i : Fin 64, a (ix2 i d) * (x (ix2 i d) * rinv fun d => x (ix2 i d)) := by
  pointwise [k0_pay11, k0_pay8, k0_pay7, k0_pay6]
  rfl

theorem p12 (x : FVec Ideal S64x2048 .f32) (i : Fin 64) (d : Fin 2048) :
    k0_pay12 (F := Ideal) x (ix2 i d) = Ideal.ofBits .f32 0x3F000000#32 * x (ix2 i d) := by
  pointwise [k0_pay12]

theorem p13 (y : S512x2048.Idx) : k0_pay13 (F := Ideal) y = (0 : EReal) := by
  idx_vars y
  pointwise [k0_pay13]

/-! ## The rows of a trip -/

theorem off1 : ∀ k : Fin k0_t1_loop.trips, k0_off1 k = ![64 * k.val, 0] :=
  (by decide +kernel : ∀ k : Fin k0_t1_loop.trips, _)

theorem off2 : ∀ k : Fin k0_t2_loop.trips, k0_off2 k = ![64 * k.val, 0] :=
  (by decide +kernel : ∀ k : Fin k0_t2_loop.trips, _)

theorem trips1 : k0_t1_loop.trips = 8 := by decide +kernel

theorem trips2 : k0_t2_loop.trips = 8 := by decide +kernel

/-! ## The two loops -/

section Loop

variable (c : Dev nD) (i : grid0.Coords) (M : Mems)
  (hc0 : isFirst i) (hc1 : isLast i)
  (X2 : BufTy.Contents (Elt Ideal) M.a2.view.ty) (X3 : BufTy.Contents (Elt Ideal) M.a3.view.ty) (X4 : BufTy.Contents (Elt Ideal) M.a4.view.ty)
  (X15 : BufTy.Contents (Elt Ideal) M.a15.view.ty) (init : FVec Ideal S1x2048 .f32)
  (R H A : FVec Ideal S512x2048 .f32) (G : FVec Ideal S1x2048 .f32)

/-- The first loop's pieces and the last loop's state before a trip. -/
abbrev pb1 := pb_k0_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15
abbrev st2 := st_k0_t2 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15

/-- The cast cotangent's pieces hold half of it. -/
theorem cast_state (h2 : M.a2.view.read (Elt Ideal) X2 = R) : ∀ n : ℕ, n ≤ k0_t1_loop.trips →
    View.PiecesOf (Val := Elt Ideal) (e := .bf16) (HF R) (pb1 c i M hc0 X2 n)
      ∧ ∀ y : S512x2048.Idx, (y 0).val < 64 * n → ∃ p ∈ pb1 c i M hc0 X2 n, y ∈ p.1.set := by
  intro n
  induction n with
  | zero => exact fun _ => ⟨trivial, fun y h => absurd h (by omega)⟩
  | succ n ih =>
    intro hn
    obtain ⟨q1, q2⟩ := ih (by omega)
    have hk : 64 * n + 64 ≤ 512 := by have := trips1; omega
    unfold pb1
    rw [pb_k0_t1_succ (F := Ideal) (k := ⟨n, hn⟩)]
    unfold tripL_k0_t1 trip_k0_t1
    dsimp only
    subst h2
    refine ⟨⟨fun x => ?_, q1⟩, fun y h => ?_⟩
    · refine Eq.trans ?_ (congrArg (HF _) (emb64 _ n hk (off1 ⟨n, hn⟩) (k0_off1_inb i ⟨n, hn⟩ hc0) x)).symm
      rw [ix64 x]
      exact (p12 _ _ _).trans (congrArg (Ideal.ofBits .f32 0x3F000000#32 * · : EReal → EReal) (ld64 _ n hk (off1 ⟨n, hn⟩) _ _ _ _))
    · by_cases hy : (y 0).val < 64 * n
      · obtain ⟨p, hp, hm⟩ := q2 y hy
        exact ⟨p, List.mem_cons_of_mem _ hp, hm⟩
      · exact ⟨_, List.mem_cons_self, mem64 _ n (off1 ⟨n, hn⟩) (k0_off1_inb i ⟨n, hn⟩ hc0) y (by omega) (by omega)⟩

/-- The cast cotangent read back. -/
theorem cast_canon (h2 : M.a2.view.read (Elt Ideal) X2 = R) (y : S512x2048.Idx) :
    View.canon (Val := Elt Ideal) (pb1 c i M hc0 X2 k0_t1_loop.trips) y = HF R y := by
  obtain ⟨q, q'⟩ := cast_state c i M hc0 X2 R h2 _ le_rfl
  have := View.canon_append_of_piecesOf (Val := Elt Ideal) (e := .bf16) _ [] _ q y (q' y (by rw [trips1]; exact (y 0).isLt))
  rwa [List.append_nil] at this

theorem dh_of (a x r : FVec Ideal S64x2048 .f32) (g : FVec Ideal S1x2048 .f32) (i : Fin 64) (d : Fin 2048) (s : Fin 512)
    (ha : ∀ d, a (ix2 i d) = A (ix2 s d)) (hx : ∀ d, x (ix2 i d) = H (ix2 s d)) (hr : r (ix2 i d) = R (ix2 s d)) (hg : g = G) :
    k0_pay9 (F := Ideal) a x g r (ix2 i d) = DH H R A G (ix2 s d) := by
  refine (p9 a x g r i d).trans ?_
  rw [hr, funext ha, funext hx, hg]
  rfl

theorem dgr_of (v : FVec Ideal S1x2048 .f32) (a x : FVec Ideal S64x2048 .f32) (d : Fin 2048) (k : ℕ) (hk : 64 * k + 64 ≤ 512)
    (ha : ∀ i d, a (ix2 i d) = A (ix2 (row64 k hk i) d)) (hx : ∀ i d, x (ix2 i d) = H (ix2 (row64 k hk i) d)) :
    k0_pay11 (F := Ideal) v a x (ix2 0 d) = v (ix2 0 d) + ∑ i : Fin 64, dgr H A (row64 k hk i) d := by
  refine (p11 v a x d).trans (congrArg (v (ix2 0 d) + ·) (Finset.sum_congr rfl fun i _ => ?_))
  rw [ha, hx, funext (hx i)]
  rfl

/-- The state of the last loop before a trip: the pieces hold the gradient, and the carried sum is of the rows so far. -/
theorem norm_state (h2 : M.a2.view.read (Elt Ideal) X2 = R) (h3 : M.a3.view.read (Elt Ideal) X3 = H) (h4 : M.a4.view.read (Elt Ideal) X4 = G)
    (h15 : M.a15.view.read (Elt Ideal) X15 = A) : ∀ n : ℕ, n ≤ k0_t2_loop.trips →
    let s := st2 c i M hc1 X2 X3 X4 X15 init n
    (View.PiecesOf (Val := Elt Ideal) (e := .f32) (DH H R A G) s.2.1 ∧ View.PiecesOf (Val := Elt Ideal) (e := .bf16) (DH H R A G) s.2.2)
      ∧ (∀ d : Fin 2048, s.1 (ix2 0 d) = init (ix2 0 d) + ∑ k ∈ Finset.range n, sh (dgr H A · d) k)
      ∧ (∀ y : S512x2048.Idx, (y 0).val < 64 * n → (∃ p ∈ s.2.1, y ∈ p.1.set) ∧ ∃ p ∈ s.2.2, y ∈ p.1.set) := by
  intro n
  induction n with
  | zero => exact fun _ => ⟨⟨trivial, trivial⟩, fun d => (add_zero _).symm, fun y h => absurd h (by omega)⟩
  | succ n ih =>
    intro hn
    obtain ⟨⟨q1, q1'⟩, q2, q3⟩ := ih (by omega)
    have hk : 64 * n + 64 ≤ 512 := by have := trips2; omega
    have ho := off2 ⟨n, hn⟩
    have hi := k0_off2_inb i ⟨n, hn⟩ hc1
    dsimp only [st2]
    rw [st_k0_t2_succ (F := Ideal) (k := ⟨n, hn⟩)]
    unfold tripL_k0_t2 tripR_k0_t2 trip_k0_t2
    dsimp only
    subst h2 h3 h4 h15
    refine ⟨⟨⟨fun x => ?_, q1⟩, ⟨fun x => ?_, q1'⟩⟩, fun d => ?_, fun y h => ?_⟩
    · refine Eq.trans ?_ (congrArg (DH _ _ _ _) (emb64 _ n hk ho hi x)).symm
      rw [ix64 x]
      exact dh_of _ _ _ _ _ _ _ _ _ _ _ (fun d => ld64 _ n hk ho _ _ _ _) (fun d => ld64 _ n hk ho _ _ _ _) (ld64 _ n hk ho _ _ _ _) (View.readAt_full _ _ _)
    · refine Eq.trans ?_ (congrArg (DH _ _ _ _) (emb64 _ n hk ho hi x)).symm
      rw [ix64 x]
      exact dh_of _ _ _ _ _ _ _ _ _ _ _ (fun d => ld64 _ n hk ho _ _ _ _) (fun d => ld64 _ n hk ho _ _ _ _) (ld64 _ n hk ho _ _ _ _) (View.readAt_full _ _ _)
    · rw [Finset.sum_range_succ, ← add_assoc, ← q2 d]
      refine (dgr_of _ _ _ _ _ _ n hk (fun i d => ld64 _ n hk ho _ _ _ _) (fun i d => ld64 _ n hk ho _ _ _ _)).trans (congrArg (_ + ·) ?_)
      exact (sh_eq (dgr _ _ · d) n hk).symm
    · by_cases hy : (y 0).val < 64 * n
      · obtain ⟨⟨p, hp, hm⟩, ⟨p', hp', hm'⟩⟩ := q3 y hy
        exact ⟨⟨p, List.mem_cons_of_mem _ hp, hm⟩, ⟨p', List.mem_cons_of_mem _ hp', hm'⟩⟩
      · exact ⟨⟨_, List.mem_cons_self, mem64 _ n ho hi y (by omega) (by omega)⟩, ⟨_, List.mem_cons_self, mem64 _ n ho hi y (by omega) (by omega)⟩⟩

/-- The last loop's results read back. -/
theorem norm_end (h2 : M.a2.view.read (Elt Ideal) X2 = R) (h3 : M.a3.view.read (Elt Ideal) X3 = H) (h4 : M.a4.view.read (Elt Ideal) X4 = G)
    (h15 : M.a15.view.read (Elt Ideal) X15 = A) :
    let s := st2 c i M hc1 X2 X3 X4 X15 init k0_t2_loop.trips
    (∀ y, View.canon (Val := Elt Ideal) s.2.1 y = DH H R A G y) ∧ (∀ y, View.canon (Val := Elt Ideal) s.2.2 y = DH H R A G y)
      ∧ ∀ d : Fin 2048, s.1 (ix2 0 d) = (init (ix2 0 d) + ∑ s : Fin 512, dgr H A s d : EReal) := by
  obtain ⟨⟨q1, q1'⟩, q2, q3⟩ := norm_state c i M hc1 X2 X3 X4 X15 init R H A G h2 h3 h4 h15 _ le_rfl
  refine ⟨fun y => ?_, fun y => ?_, fun d => by rw [q2 d, sum_sh _ _ (congrArg (· * 64) trips2)]⟩
  · have := View.canon_append_of_piecesOf (Val := Elt Ideal) (e := .f32) _ [] _ q1 y (q3 y (by rw [trips2]; exact (y 0).isLt)).1
    rwa [List.append_nil] at this
  · have := View.canon_append_of_piecesOf (Val := Elt Ideal) (e := .bf16) _ [] _ q1' y (q3 y (by rw [trips2]; exact (y 0).isLt)).2
    rwa [List.append_nil] at this

end Loop

/-! ## The blocks' values -/

theorem ldg0 (gu : FVec Ideal S2x512x512 .bf16) (h) (s n : Fin 512) : (View.ld (Val := Elt Ideal) (e' := .bf16) gu (Rect.unit (s := S2x512x512) ![0, 0, 0] ![1, 512, 512] h)) (ix3 0 s n) = gu (ix3 0 s n) := ldg 0 gu h s n

theorem ldg1 (gu : FVec Ideal S2x512x512 .bf16) (h') (s n : Fin 512) : (View.ld (Val := Elt Ideal) (e' := .bf16) gu (Rect.unit (s := S2x512x512) ![1, 0, 0] ![1, 512, 512] h')) (ix3 0 s n) = gu (ix3 1 s n) := ldg 1 gu h' s n

theorem g19 (gu : FVec Ideal S2x512x512 .bf16) (df wo : FVec Ideal S512x2048 .bf16) (h h') (i j : Fin 512) :
    k0_pay19 (F := Ideal) (View.ld (Val := Elt Ideal) (e' := .bf16) gu (Rect.unit (s := S2x512x512) ![0, 0, 0] ![1, 512, 512] h)) (View.ld (Val := Elt Ideal) (e' := .bf16) gu (Rect.unit (s := S2x512x512) ![1, 0, 0] ![1, 512, 512] h')) df wo (ix2 i j) = tG gu df wo i j :=
  (p19 _ _ _ _ i j).trans (by rw [ldg0, ldg1]; rfl)

theorem g20 (gu : FVec Ideal S2x512x512 .bf16) (df wo : FVec Ideal S512x2048 .bf16) (h) (i j : Fin 512) :
    k0_pay20 (F := Ideal) (View.ld (Val := Elt Ideal) (e' := .bf16) gu (Rect.unit (s := S2x512x512) ![0, 0, 0] ![1, 512, 512] h)) df wo (ix2 i j) = tU gu df wo i j :=
  (p20 _ _ _ i j).trans (by rw [ldg0]; rfl)

theorem v9 (gu : FVec Ideal S2x512x512 .bf16) (df wo : FVec Ideal S512x2048 .bf16) (h h') (y : S2x512x512.Idx) :
    (if (y 0).val = 1 then k0_pay2 (F := Ideal) (k0_pay20 (View.ld (Val := Elt Ideal) (e' := .bf16) gu (Rect.unit (s := S2x512x512) ![0, 0, 0] ![1, 512, 512] h)) df wo) (ix3 0 (y 1) (y 2))
      else k0_pay1 (F := Ideal) (k0_pay19 (View.ld (Val := Elt Ideal) (e' := .bf16) gu (Rect.unit (s := S2x512x512) ![0, 0, 0] ![1, 512, 512] h))
        (View.ld (Val := Elt Ideal) (e' := .bf16) gu (Rect.unit (s := S2x512x512) ![1, 0, 0] ![1, 512, 512] h')) df wo) (ix3 0 (y 1) (y 2))) = P9 gu df wo y := by
  unfold P9
  split
  · exact (p2 _ (y 1) (y 2)).trans (g20 gu df wo h (y 1) (y 2))
  · exact (p1 _ (y 1) (y 2)).trans (g19 gu df wo h h' (y 1) (y 2))

theorem v10 (gu : FVec Ideal S2x512x512 .bf16) (h h') (y : S512x512.Idx) :
    k0_pay21 (F := Ideal) (View.ld (Val := Elt Ideal) (e' := .bf16) gu (Rect.unit (s := S2x512x512) ![0, 0, 0] ![1, 512, 512] h))
      (View.ld (Val := Elt Ideal) (e' := .bf16) gu (Rect.unit (s := S2x512x512) ![1, 0, 0] ![1, 512, 512] h')) y = P10 gu y := by
  idx_vars y
  exact (p21 _ _ _ _).trans (by rw [ldg0, ldg1]; rfl)

theorem v15 (gu : FVec Ideal S2x512x512 .bf16) (df wo : FVec Ideal S512x2048 .bf16) (wg wu : FVec Ideal S2048x512 .bf16) (v : FVec Ideal S512x2048 .f32) (h h') (y : S512x2048.Idx) :
    k0_pay3 (F := Ideal) (k0_pay19 (View.ld (Val := Elt Ideal) (e' := .bf16) gu (Rect.unit (s := S2x512x512) ![0, 0, 0] ![1, 512, 512] h))
        (View.ld (Val := Elt Ideal) (e' := .bf16) gu (Rect.unit (s := S2x512x512) ![1, 0, 0] ![1, 512, 512] h')) df wo)
      (k0_pay20 (View.ld (Val := Elt Ideal) (e' := .bf16) gu (Rect.unit (s := S2x512x512) ![0, 0, 0] ![1, 512, 512] h)) df wo) v wg wu y
      = (v y + PA gu df wo wg wu y : EReal) := by
  idx_vars y
  refine (p3 _ _ _ _ _ y0 y1).trans (congrArg (v (ix2 y0 y1) + · : EReal → EReal) ?_)
  refine congrArg₂ (fun a b : EReal => a + b) (Finset.sum_congr rfl fun k _ => ?_) (Finset.sum_congr rfl fun k _ => ?_)
  · exact congrArg (· * wg (ix2 y1 k) : EReal → EReal) (g19 gu df wo h h' y0 k)
  · exact congrArg (· * wu (ix2 y1 k) : EReal → EReal) (g20 gu df wo h y0 k)

/-! ## The cases -/

section Cases

variable (c : Dev nD) (i : grid0.Coords) (M : Mems) (X : Ins Ideal) (S : St Ideal)

/-- What a first step reads of the cast cotangent. -/
theorem cast_read (hc0 : isFirst i) (hc1 : ¬isLast i) (z : Vec Ideal S512x2048 .bf16) :
    View.read (Elt Ideal) M.a11.view (M.a11.view.writes (Elt Ideal) (M.h11.unread z)
      (pb1 c i M hc0 (M.h2.unread X.x2) (Scf.trips 0#32 (Scalar.addi 0#32 8#32) 1#32))) = (HF X.x2 : FVec Ideal S512x2048 .bf16) := by
  refine (View.read_writes_eq_canon _ _ _ fun y => cast_cover c i M hc0 hc1 X z y).trans (funext fun y => ?_)
  exact cast_canon c i M hc0 _ X.x2 (read_unread _ _) y

theorem A9 (hc0 : isFirst i) (hc1 : ¬isLast i) (y) : (outA c i M hc0 hc1 X S).1 y = P9 X.x5 (HF X.x2) X.x8 y := by
  unfold outA
  dsimp only
  frame_out
  rw [cast_read c i M X hc0 hc1]
  exact (two _ _ y).trans (v9 _ _ _ _ _ y)

theorem A10 (hc0 : isFirst i) (hc1 : ¬isLast i) (y) : (outA c i M hc0 hc1 X S).2.1 y = P10 X.x5 y := by
  unfold outA
  dsimp only
  frame_out
  exact v10 _ _ _ y

theorem A15 (hc0 : isFirst i) (hc1 : ¬isLast i) (y) : (outA c i M hc0 hc1 X S).2.2.2.2.2.2 y = (0 + PA X.x5 (HF X.x2) X.x8 X.x6 X.x7 y : EReal) := by
  unfold outA
  dsimp only
  frame_out
  rw [cast_read c i M X hc0 hc1]
  exact (v15 _ _ _ _ _ _ _ _ y).trans (by rw [p13])

theorem A11 (hc0 : isFirst i) (hc1 : ¬isLast i) : (outA c i M hc0 hc1 X S).2.2.1 = (HF X.x2 : FVec Ideal S512x2048 .bf16) := by
  unfold outA
  dsimp only
  refine (View.read_writes_junk_eq_canon _ _).trans (funext fun y => ?_)
  frame_open
  exact cast_canon c i M hc0 _ X.x2 (read_unread _ _) y

theorem B9 (hc0 : ¬isFirst i) (hc1 : ¬isLast i) (y) : (outB c i M hc0 hc1 X S).1 y = P9 X.x5 S.2.2.1 X.x8 y := by
  unfold outB
  dsimp only
  frame_out
  exact (two _ _ y).trans (v9 _ _ _ _ _ y)

theorem B10 (hc0 : ¬isFirst i) (hc1 : ¬isLast i) (y) : (outB c i M hc0 hc1 X S).2.1 y = P10 X.x5 y := by
  unfold outB
  dsimp only
  frame_out
  exact v10 _ _ _ y

theorem B15 (hc0 : ¬isFirst i) (hc1 : ¬isLast i) (y) : (outB c i M hc0 hc1 X S).2.2.2.2.2.2 y = (S.2.2.2.2.2.2 y + PA X.x5 S.2.2.1 X.x8 X.x6 X.x7 y : EReal) := by
  unfold outB
  dsimp only
  frame_out
  exact (v15 _ _ _ _ _ _ _ _ y)

theorem C9 (hc0 : ¬isFirst i) (hc1 : isLast i) (hc2 : topRow i) (hc3 : ¬lowRow i) (y) : (outC c i M hc0 hc1 hc2 hc3 X S).1 y = P9 X.x5 S.2.2.1 X.x8 y := by
  unfold outC
  dsimp only
  frame_out
  exact (two _ _ y).trans (v9 _ _ _ _ _ y)

theorem C10 (hc0 : ¬isFirst i) (hc1 : isLast i) (hc2 : topRow i) (hc3 : ¬lowRow i) (y) : (outC c i M hc0 hc1 hc2 hc3 X S).2.1 y = P10 X.x5 y := by
  unfold outC
  dsimp only
  frame_out
  exact v10 _ _ _ y

theorem C15 (hc0 : ¬isFirst i) (hc1 : isLast i) (hc2 : topRow i) (hc3 : ¬lowRow i) (y) : (outC c i M hc0 hc1 hc2 hc3 X S).2.2.2.2.2.2 y = (S.2.2.2.2.2.2 y + PA X.x5 S.2.2.1 X.x8 X.x6 X.x7 y : EReal) := by
  unfold outC
  dsimp only
  frame_out
  exact (v15 _ _ _ _ _ _ _ _ y)

/-- The accumulator as the last loop reads it. -/
def accC : FVec Ideal S512x2048 .f32 := fun y => (S.2.2.2.2.2.2 y + PA X.x5 S.2.2.1 X.x8 X.x6 X.x7 y : EReal)

/-- What the last loop finds in the accumulator. -/
theorem acc_read (a15 : Memref sig .tc .vmem S512x2048 .f32) (f : BufTy.Contents (Elt Ideal) a15.view.ty) (h h' h'') :
    View.read (Elt Ideal) a15.view (a15.view.writes (Elt Ideal) f [⟨Rect.unit (s := S512x2048) ![0, 0] ![512, 2048] h'',
      k0_pay3 (F := Ideal) (k0_pay19 (View.ld (Val := Elt Ideal) (e' := .bf16) X.x5 (Rect.unit (s := S2x512x512) ![0, 0, 0] ![1, 512, 512] h))
        (View.ld (Val := Elt Ideal) (e' := .bf16) X.x5 (Rect.unit (s := S2x512x512) ![1, 0, 0] ![1, 512, 512] h')) S.2.2.1 X.x8)
      (k0_pay20 (View.ld (Val := Elt Ideal) (e' := .bf16) X.x5 (Rect.unit (s := S2x512x512) ![0, 0, 0] ![1, 512, 512] h)) S.2.2.1 X.x8) S.2.2.2.2.2.2 X.x6 X.x7⟩])
      = accC X S := by
  refine (View.read_writes_eq_canon _ _ _ fun y => ⟨_, List.mem_cons_self, ?_⟩).trans ?_
  · refine (Rect.mem_set_unit (s := S512x2048) (off := ![0, 0]) (size := ![512, 2048]) (inb := h'')).mpr fun a => ?_
    match a with
    | 0 => exact ⟨Nat.zero_le _, by show (y 0).val < 0 + 512; have := (y 0).isLt; exact (Nat.zero_add 512).symm ▸ this⟩
    | 1 => exact ⟨Nat.zero_le _, by show (y 1).val < 0 + 2048; have := (y 1).isLt; exact (Nat.zero_add 2048).symm ▸ this⟩
  · refine (View.canon_cons_unit_lit _ _ _ (fun a => by match a with | 0 => rfl | 1 => rfl)).trans (funext fun y => v15 _ _ _ _ _ _ _ _ y)

theorem C12 (hc0 : ¬isFirst i) (hc1 : isLast i) (hc2 : topRow i) (hc3 : ¬lowRow i) (y) : (outC c i M hc0 hc1 hc2 hc3 X S).2.2.2.1 y = DH X.x3 X.x2 (accC X S) X.x4 y := by
  unfold outC
  dsimp only
  frame_out
  exact (norm_end c i M hc1 _ _ _ _ _ X.x2 X.x3 (accC X S) X.x4 (read_unread _ _) (read_unread _ _) (read_unread _ _) (acc_read X S M.a15 _ _ _ _)).1 y

theorem C13 (hc0 : ¬isFirst i) (hc1 : isLast i) (hc2 : topRow i) (hc3 : ¬lowRow i) (y) : (outC c i M hc0 hc1 hc2 hc3 X S).2.2.2.2.1 y = DH X.x3 X.x2 (accC X S) X.x4 y := by
  unfold outC
  dsimp only
  frame_out
  exact (norm_end c i M hc1 _ _ _ _ _ X.x2 X.x3 (accC X S) X.x4 (read_unread _ _) (read_unread _ _) (read_unread _ _) (acc_read X S M.a15 _ _ _ _)).2.1 y

theorem C14 (hc0 : ¬isFirst i) (hc1 : isLast i) (hc2 : topRow i) (hc3 : ¬lowRow i) (d : Fin 2048) : (outC c i M hc0 hc1 hc2 hc3 X S).2.2.2.2.2.1 (ix2 0 d) = (∑ s : Fin 512, dgr X.x3 (accC X S) s d : EReal) := by
  unfold outC
  dsimp only
  frame_out

  exact ((norm_end c i M hc1 _ _ _ _ _ X.x2 X.x3 (accC X S) X.x4 (read_unread _ _) (read_unread _ _) (read_unread _ _) (acc_read X S M.a15 _ _ _ _)).2.2 d).trans (by rw [p4, zero_add])

theorem D9 (hc0 : ¬isFirst i) (hc1 : isLast i) (hc2 : ¬topRow i) (hc3 : lowRow i) (y) : (outD c i M hc0 hc1 hc2 hc3 X S).1 y = P9 X.x5 S.2.2.1 X.x8 y := by
  unfold outD
  dsimp only
  frame_out
  exact (two _ _ y).trans (v9 _ _ _ _ _ y)

theorem D10 (hc0 : ¬isFirst i) (hc1 : isLast i) (hc2 : ¬topRow i) (hc3 : lowRow i) (y) : (outD c i M hc0 hc1 hc2 hc3 X S).2.1 y = P10 X.x5 y := by
  unfold outD
  dsimp only
  frame_out
  exact v10 _ _ _ y

theorem D15 (hc0 : ¬isFirst i) (hc1 : isLast i) (hc2 : ¬topRow i) (hc3 : lowRow i) (y) : (outD c i M hc0 hc1 hc2 hc3 X S).2.2.2.2.2.2 y = (S.2.2.2.2.2.2 y + PA X.x5 S.2.2.1 X.x8 X.x6 X.x7 y : EReal) := by
  unfold outD
  dsimp only
  frame_out
  exact (v15 _ _ _ _ _ _ _ _ y)

theorem D12 (hc0 : ¬isFirst i) (hc1 : isLast i) (hc2 : ¬topRow i) (hc3 : lowRow i) (y) : (outD c i M hc0 hc1 hc2 hc3 X S).2.2.2.1 y = DH X.x3 X.x2 (accC X S) X.x4 y := by
  unfold outD
  dsimp only
  frame_out
  exact (norm_end c i M hc1 _ _ _ _ _ X.x2 X.x3 (accC X S) X.x4 (read_unread _ _) (read_unread _ _) (read_unread _ _) (acc_read X S M.a15 _ _ _ _)).1 y

theorem D13 (hc0 : ¬isFirst i) (hc1 : isLast i) (hc2 : ¬topRow i) (hc3 : lowRow i) (y) : (outD c i M hc0 hc1 hc2 hc3 X S).2.2.2.2.1 y = DH X.x3 X.x2 (accC X S) X.x4 y := by
  unfold outD
  dsimp only
  frame_out
  exact (norm_end c i M hc1 _ _ _ _ _ X.x2 X.x3 (accC X S) X.x4 (read_unread _ _) (read_unread _ _) (read_unread _ _) (acc_read X S M.a15 _ _ _ _)).2.1 y

theorem D14 (hc0 : ¬isFirst i) (hc1 : isLast i) (hc2 : ¬topRow i) (hc3 : lowRow i) (d : Fin 2048) : (outD c i M hc0 hc1 hc2 hc3 X S).2.2.2.2.2.1 (ix2 0 d) = (S.2.2.2.2.2.1 (ix2 0 d) + ∑ s : Fin 512, dgr X.x3 (accC X S) s d : EReal) := by
  unfold outD
  dsimp only
  frame_out
  refine (p5 _ _ d).trans (congrArg (S.2.2.2.2.2.1 (ix2 0 d) + · : EReal → EReal) ?_)
  exact ((norm_end c i M hc1 _ _ _ _ _ X.x2 X.x3 (accC X S) X.x4 (read_unread _ _) (read_unread _ _) (read_unread _ _) (acc_read X S M.a15 _ _ _ _)).2.2 d).trans (by rw [p4, zero_add])

end Cases

end Cert.Ffn2B

end
-- ==== Proof.Ffn2BKernel.lean ====
/- The second block's backward kernel read at an index: the blocks it loads, what its points leave, and what its six results
   hold after the run. -/
module

public import proofs.«01_k».proof.Proof.Ffn2BFrame
public import proofs.«01_k».proof.Proof.Ffn2BBody

@[expose] public section

set_option maxRecDepth 16384

noncomputable section

namespace Cert.Ffn2B

open Cert.Ffn2BwdIdeal Cert.Ffn2BwdIdeal.Gen Cert.Reals Cert.Spec
open Cert.Trips (DH dgr)
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-! ## What the region finds in its operands -/

theorem N44 (t : Fin cfg0.N) : t.val < 44 := by have := t.isLt; have : cfg0.N = 44 := N_0; omega

theorem idx : ∀ t : Fin cfg0.N, win0_0.index t = ![t.val / 11, 0] ∧ win0_1.index t = ![t.val / 11, 0] ∧ win0_2.index t = ![0, 0]
    ∧ win0_3.index t = ![0, t.val / 11, t.val % 11] ∧ win0_4.index t = ![0, t.val % 11] ∧ win0_5.index t = ![0, 11 + t.val % 11]
    ∧ win0_6.index t = ![t.val % 11, 0] ∧ win0_7.index t = ![0, t.val / 11, t.val % 11] ∧ win0_8.index t = ![t.val / 11, t.val % 11]
    ∧ win0_9.index t = ![t.val / 11, 0] ∧ win0_10.index t = ![t.val / 11, 0] ∧ win0_11.index t = ![t.val / 11, 0] ∧ win0_12.index t = ![0, 0] :=
  (by decide +kernel : ∀ t : Fin grid0.N, _)

/-- The row of the arrays that grid point `t` holds at row `s` of its block. -/
def row (t : Fin cfg0.N) (s : Fin 512) : Fin 2048 := ⟨512 * (t.val / 11) + s.val, by have := N44 t; omega⟩

/-- The column of the gate's half that grid point `t` holds. -/
def col (t : Fin cfg0.N) (n : Fin 512) : Fin 5632 := ⟨512 * (t.val % 11) + n.val, by omega⟩

/-- Column `n` of the gate's half. -/
def lo (n : Fin 5632) : Fin 11264 := ⟨n.val, by omega⟩

/-- Column `n` of the other half. -/
def hi (n : Fin 5632) : Fin 11264 := ⟨5632 + n.val, by omega⟩

/-- The layer's input. -/
def HH (s d : Fin 2048) : EReal := m (c, Proc.tc.devRef main_arg0) (ix3 0 s d)

/-- The norm's scale. -/
def GG (d : Fin 2048) : EReal := m (c, Proc.tc.devRef main_arg1) (ix2 0 d)

/-- The input projection's weight. -/
def WW (d : Fin 2048) (k : Fin 11264) : EReal := m (c, Proc.tc.devRef main_arg2) (ix3 0 d k)

/-- The output projection's weight. -/
def WO (n : Fin 5632) (k : Fin 2048) : EReal := m (c, Proc.tc.devRef main_arg3) (ix3 0 n k)

/-- The cotangent. -/
def CT (s k : Fin 2048) : EReal := m (c, Proc.tc.devRef main_arg4) (ix3 0 s k)

/-- The halved cotangent. -/
def CH (s k : Fin 2048) : EReal := Ideal.ofBits .f32 0x3F000000#32 * CT m c s k

/-- The projection: the gate's half at 0, the other at 1. -/
def GUv (a : Fin 2) (s : Fin 2048) (n : Fin 5632) : EReal :=
  proj (HH m c) (GG m c) (WW m c) s (if a.val < 1 then lo n else hi n)

/-- The gated product's cotangent. -/
def D (s : Fin 2048) (n : Fin 5632) : EReal := ∑ k : Fin 2048, CH m c s k * WO m c n k

/-- The gate's cotangent. -/
def DGv (s : Fin 2048) (n : Fin 5632) : EReal := gateK (D m c s n) (GUv m c 0 s n) (GUv m c 1 s n)

/-- The other half's cotangent. -/
def DUv (s : Fin 2048) (n : Fin 5632) : EReal := D m c s n * (GUv m c 0 s n * sgK (GUv m c 0 s n))

/-- The normed row's cotangent. -/
def DN (s d : Fin 2048) : EReal := (∑ n : Fin 5632, DGv m c s n * WW m c d (lo n)) + ∑ n : Fin 5632, DUv m c s n * WW m c d (hi n)

theorem e0 (s d : Fin 2048) : V m c main_v24 (ix2 s d) = CT m c s d := by
  entry_read
  pointwise []
  rfl

theorem e1 (s d : Fin 2048) : V m c main_v25 (ix2 s d) = HH m c s d := by
  entry_read
  pointwise []
  rfl

theorem e2 (d : Fin 2048) : V m c main_arg1 (ix2 0 d) = GG m c d := by
  entry_read
  rfl

theorem e3 (a : Fin 2) (s : Fin 2048) (n : Fin 5632) : V m c main_v23 (ix3 a s n) = GUv m c a s n := by
  entry_read
  pointwise []
  unfold GUv
  split_ifs <;> rfl

theorem e4 (d : Fin 2048) (k : Fin 11264) : V m c main_v27 (ix2 d k) = WW m c d k := by
  entry_read
  pointwise []
  rfl

theorem e6 (n : Fin 5632) (k : Fin 2048) : V m c main_v29 (ix2 n k) = WO m c n k := by
  entry_read
  pointwise []
  rfl

/-! ## The blocks a grid point loads -/

theorem b0 (t : Fin cfg0.N) (s : Fin 512) (d : Fin 2048) : (show FVec Ideal S512x2048 .f32 from iblk m c 0 t) (ix2 s d) = CT m c (row t s) d := by
  refine Eq.trans ?_ (e0 m c (row t s) d)
  blk_ext [iblk, idx t, row]

theorem b1 (t : Fin cfg0.N) (s : Fin 512) (d : Fin 2048) : (show FVec Ideal S512x2048 .f32 from iblk m c 1 t) (ix2 s d) = HH m c (row t s) d := by
  refine Eq.trans ?_ (e1 m c (row t s) d)
  blk_ext [iblk, idx t, row]

theorem b2 (t : Fin cfg0.N) (d : Fin 2048) : (show FVec Ideal S1x2048 .f32 from iblk m c 2 t) (ix2 0 d) = GG m c d := by
  refine Eq.trans ?_ (e2 m c d)
  blk_ext [iblk, idx t]

theorem b3 (t : Fin cfg0.N) (a : Fin 2) (s n : Fin 512) :
    (show FVec Ideal S2x512x512 .bf16 from iblk m c 3 t) (ix3 a s n) = GUv m c a (row t s) (col t n) := by
  refine Eq.trans ?_ (e3 m c a (row t s) (col t n))
  blk_ext [iblk, idx t, row, col]

theorem b4 (t : Fin cfg0.N) (d : Fin 2048) (n : Fin 512) : (show FVec Ideal S2048x512 .bf16 from iblk m c 4 t) (ix2 d n) = WW m c d (lo (col t n)) := by
  refine Eq.trans ?_ (e4 m c d _)
  blk_ext [iblk, idx t, lo, hi, col]

theorem b5 (t : Fin cfg0.N) (d : Fin 2048) (n : Fin 512) : (show FVec Ideal S2048x512 .bf16 from iblk m c 5 t) (ix2 d n) = WW m c d (hi (col t n)) := by
  refine Eq.trans ?_ (e4 m c d _)
  blk_ext [iblk, idx t, lo, hi, col]

theorem b6 (t : Fin cfg0.N) (n : Fin 512) (k : Fin 2048) : (show FVec Ideal S512x2048 .bf16 from iblk m c 6 t) (ix2 n k) = WO m c (col t n) k := by
  refine Eq.trans ?_ (e6 m c (col t n) k)
  blk_ext [iblk, idx t, col]

/-! ## The cast cotangent's buffer -/

theorem hf_at (t : Fin cfg0.N) (s : Fin 512) (d : Fin 2048) : HF (blks m c t).x2 (ix2 s d) = CH m c (row t s) d :=
  congrArg (Ideal.ofBits .f32 0x3F000000#32 * · : EReal → EReal) (b0 m c t s d)

/-- At every point of a row block the cast cotangent's buffer holds half the cotangent's rows. -/
theorem df_at : ∀ (n : ℕ) (hn : n < cfg0.N) (s : Fin 512) (d : Fin 2048),
    (outsAt m c n hn).2.2.1 (ix2 s d) = CH m c (row ⟨n, hn⟩ s) d := by
  intro n
  induction n with
  | zero =>
    intro hn s d
    rw [show outsAt m c 0 hn = step m c ⟨0, hn⟩ (prevAt m c ⟨0, hn⟩) from outsAt_eq m c ⟨0, hn⟩, step_A m c _ _ rfl]
    exact (congrFun (A11 c _ _ _ _ _ _) (ix2 s d)).trans (hf_at m c _ s d)
  | succ n ih =>
    intro hn s d
    rw [show outsAt m c (n + 1) hn = step m c ⟨n + 1, hn⟩ (prevAt m c ⟨n + 1, hn⟩) from outsAt_eq m c ⟨n + 1, hn⟩]
    by_cases h0 : (n + 1) % 11 = 0
    · rw [step_A m c _ _ h0]
      exact (congrFun (A11 c _ _ _ _ _ _) (ix2 s d)).trans (hf_at m c _ s d)
    · rw [keep9 m c _ _ h0, prevAt_pos m c _ (Nat.succ_ne_zero n)]
      refine (ih (Nat.lt_of_succ_lt hn) s d).trans (congrArg (CH m c · d) (Fin.ext ?_))
      dsimp only [row]
      omega

theorem df_prev (t : Fin cfg0.N) (h0 : ¬t.val % 11 = 0) (s : Fin 512) (d : Fin 2048) :
    (prevAt m c t).2.2.1 (ix2 s d) = CH m c (row t s) d := by
  rw [prevAt_pos m c t (by omega)]
  refine (df_at m c _ _ s d).trans (congrArg (CH m c · d) (Fin.ext ?_))
  dsimp only [row]
  omega

/-! ## The blocks' values in the arrays -/

/-- What the first result holds. -/
def O7 (y : S2x2048x5632.Idx) : EReal := if (y 0).val = 1 then DUv m c (y 1) (y 2) else DGv m c (y 1) (y 2)

/-- What the second result holds. -/
def O8 (y : S2048x5632.Idx) : EReal := GUv m c 0 (y 0) (y 1) * sgK (GUv m c 0 (y 0) (y 1)) * GUv m c 1 (y 0) (y 1)

section Blocks

variable (t : Fin cfg0.N) (gu : S2x512x512.Idx → EReal) (df wo : S512x2048.Idx → EReal) (wg wu : S2048x512.Idx → EReal)
  (h3 : ∀ a s n, gu (ix3 a s n) = GUv m c a (row t s) (col t n)) (h9 : ∀ s d, df (ix2 s d) = CH m c (row t s) d)
  (h6 : ∀ n k, wo (ix2 n k) = WO m c (col t n) k)
  (h4 : ∀ d n, wg (ix2 d n) = WW m c d (lo (col t n))) (h5 : ∀ d n, wu (ix2 d n) = WW m c d (hi (col t n)))

include h9 h6 in
theorem tD_at (s n : Fin 512) : tD df wo s n = D m c (row t s) (col t n) :=
  Finset.sum_congr rfl fun k _ => congrArg₂ (fun a b : EReal => a * b) (h9 s k) (h6 n k)

include h3 h9 h6 in
theorem tG_at (s n : Fin 512) : tG gu df wo s n = DGv m c (row t s) (col t n) := by
  rw [tG, tD_at m c t df wo h9 h6, h3, h3]
  rfl

include h3 h9 h6 in
theorem tU_at (s n : Fin 512) : tU gu df wo s n = DUv m c (row t s) (col t n) := by
  rw [tU, tD_at m c t df wo h9 h6, h3]
  rfl

include h3 h9 h6 in
theorem P9_at (y : S2x512x512.Idx) : P9 gu df wo y = O7 m c (ix3 (y 0) (row t (y 1)) (col t (y 2))) := by
  idx_vars y
  exact if_congr Iff.rfl (tU_at m c t gu df wo h3 h9 h6 y1 y2) (tG_at m c t gu df wo h3 h9 h6 y1 y2)

include h3 in
theorem P10_at (y : S512x512.Idx) : P10 gu y = O8 m c (ix2 (row t (y 0)) (col t (y 1))) := by
  idx_vars y
  show gu (ix3 0 y0 y1) * sgK (gu (ix3 0 y0 y1)) * gu (ix3 1 y0 y1) = _
  rw [h3, h3]
  rfl

/-- A grid point's part of the normed row's cotangent. -/
def part (t : Fin cfg0.N) (y : S512x2048.Idx) : EReal :=
  (∑ k : Fin 512, DGv m c (row t (y 0)) (col t k) * WW m c (y 1) (lo (col t k)))
    + ∑ k : Fin 512, DUv m c (row t (y 0)) (col t k) * WW m c (y 1) (hi (col t k))

include h3 h9 h6 h4 h5 in
theorem PA_at (y : S512x2048.Idx) : PA gu df wo wg wu y = part m c t y := by
  idx_vars y
  refine congrArg₂ (fun a b : EReal => a + b) (Finset.sum_congr rfl fun k _ => ?_) (Finset.sum_congr rfl fun k _ => ?_)
  · exact congrArg₂ (fun a b : EReal => a * b) (tG_at m c t gu df wo h3 h9 h6 y0 k) (h4 y1 k)
  · exact congrArg₂ (fun a b : EReal => a * b) (tU_at m c t gu df wo h3 h9 h6 y0 k) (h5 y1 k)

end Blocks

/-! ## What the points leave -/

set_option maxHeartbeats 1000000 in
theorem out7 (t : Fin cfg0.N) (y : S2x512x512.Idx) :
    (outsAt m c t.val t.isLt).1 y = O7 m c (ix3 (y 0) (row t (y 1)) (col t (y 2))) := by
  rw [outsAt_eq]
  by_cases h0 : t.val % 11 = 0
  · rw [step_A m c t _ h0]
    exact (A9 c _ _ _ _ _ _ y).trans (P9_at m c t _ _ _ (b3 m c t) (hf_at m c t) (b6 m c t) y)
  · by_cases h1 : t.val % 11 = 10
    · by_cases h2 : t.val < 11
      · rw [step_C m c t _ h0 h1 h2]
        exact (C9 c _ _ _ _ _ _ _ _ y).trans (P9_at m c t _ _ _ (b3 m c t) (df_prev m c t h0) (b6 m c t) y)
      · rw [step_D m c t _ h0 h1 h2]
        exact (D9 c _ _ _ _ _ _ _ _ y).trans (P9_at m c t _ _ _ (b3 m c t) (df_prev m c t h0) (b6 m c t) y)
    · rw [step_B m c t _ h0 h1]
      exact (B9 c _ _ _ _ _ _ y).trans (P9_at m c t _ _ _ (b3 m c t) (df_prev m c t h0) (b6 m c t) y)

theorem out8 (t : Fin cfg0.N) (y : S512x512.Idx) :
    (outsAt m c t.val t.isLt).2.1 y = O8 m c (ix2 (row t (y 0)) (col t (y 1))) := by
  rw [outsAt_eq]
  by_cases h0 : t.val % 11 = 0
  · rw [step_A m c t _ h0]
    exact (A10 c _ _ _ _ _ _ y).trans (P10_at m c t _ (b3 m c t) y)
  · by_cases h1 : t.val % 11 = 10
    · by_cases h2 : t.val < 11
      · rw [step_C m c t _ h0 h1 h2]
        exact (C10 c _ _ _ _ _ _ _ _ y).trans (P10_at m c t _ (b3 m c t) y)
      · rw [step_D m c t _ h0 h1 h2]
        exact (D10 c _ _ _ _ _ _ _ _ y).trans (P10_at m c t _ (b3 m c t) y)
    · rw [step_B m c t _ h0 h1]
      exact (B10 c _ _ _ _ _ _ y).trans (P10_at m c t _ (b3 m c t) y)

/-- What a point adds to the accumulator it finds. -/
theorem PA_prev (t : Fin cfg0.N) (h0 : ¬t.val % 11 = 0) (y : S512x2048.Idx) :
    PA (blks m c t).x5 (prevAt m c t).2.2.1 (blks m c t).x8 (blks m c t).x6 (blks m c t).x7 y = part m c t y :=
  PA_at m c t _ _ _ _ _ (b3 m c t) (df_prev m c t h0) (b6 m c t) (b4 m c t) (b5 m c t) y

/-- What a row block's first point adds. -/
theorem PA_first (t : Fin cfg0.N) (y : S512x2048.Idx) :
    PA (blks m c t).x5 (HF (blks m c t).x2) (blks m c t).x8 (blks m c t).x6 (blks m c t).x7 y = part m c t y :=
  PA_at m c t (blks m c t).x5 (HF (blks m c t).x2) (blks m c t).x8 (blks m c t).x6 (blks m c t).x7 (b3 m c t) (hf_at m c t) (b6 m c t) (b4 m c t) (b5 m c t) y

theorem accA (t : Fin cfg0.N) (h0 : t.val % 11 = 0) (y : S512x2048.Idx) : (outsAt m c t.val t.isLt).2.2.2.2.2.2 y = (0 + part m c t y : EReal) := by
  rw [outsAt_eq, step_A m c t _ h0]
  rw [A15 c, PA_first]

theorem accP (t : Fin cfg0.N) (h0 : ¬t.val % 11 = 0) (y : S512x2048.Idx) :
    (outsAt m c t.val t.isLt).2.2.2.2.2.2 y = ((prevAt m c t).2.2.2.2.2.2 y
      + PA (blks m c t).x5 (prevAt m c t).2.2.1 (blks m c t).x8 (blks m c t).x6 (blks m c t).x7 y : EReal) := by
  rw [outsAt_eq]
  by_cases h1 : t.val % 11 = 10
  · by_cases h2 : t.val < 11
    · rw [step_C m c t _ h0 h1 h2]
      exact C15 c _ _ _ _ _ _ _ _ y
    · rw [step_D m c t _ h0 h1 h2]
      exact D15 c _ _ _ _ _ _ _ _ y
  · rw [step_B m c t _ h0 h1]
    exact B15 c _ _ _ _ _ _ y

theorem accB (t : Fin cfg0.N) (h0 : ¬t.val % 11 = 0) (y : S512x2048.Idx) :
    (outsAt m c t.val t.isLt).2.2.2.2.2.2 y = ((outsAt m c (t.val - 1) (by have := t.isLt; omega)).2.2.2.2.2.2 y + part m c t y : EReal) := by
  refine (accP m c t h0 y).trans (congrArg₂ (fun a b : EReal => a + b) ?_ (PA_prev m c t h0 y))
  rw [prevAt_pos m c t (by omega)]

theorem dn_at (t : Fin cfg0.N) (hr : t.val % 11 = 10) (y : S512x2048.Idx) : (outsAt m c t.val t.isLt).2.2.2.2.2.2 y = DN m c (row t (y 0)) (y 1) := by
  refine (Pipeline.eq_sum_fin_of_reset_step_apply_of_flush (M := EReal) (fun n h => (outsAt m c n h).2.2.2.2.2.2) 11 (fun _ => 0) (part m c)
    (accA m c) (accB m c) t hr y).trans ?_
  rw [zero_add]
  refine (Finset.sum_add_distrib).trans ?_
  have hrow : ∀ s : Fin 11, row ⟨11 * (t.val / 11) + s.val, Pipeline.run_point_lt_of_flush t hr s⟩ (y 0) = row t (y 0) :=
    fun s => Fin.ext (by dsimp only [row]; omega)
  refine congrArg₂ (fun a b : EReal => a + b) ?_ ?_
  · refine Fin.sum_mul_add_congr fun s k hl => ?_
    have hcol : col ⟨11 * (t.val / 11) + s.val, Pipeline.run_point_lt_of_flush t hr s⟩ k = ⟨s.val * 512 + k.val, hl⟩ :=
      Fin.ext (by dsimp only [col]; omega)
    rw [hrow, hcol]
  · refine Fin.sum_mul_add_congr fun s k hl => ?_
    have hcol : col ⟨11 * (t.val / 11) + s.val, Pipeline.run_point_lt_of_flush t hr s⟩ k = ⟨s.val * 512 + k.val, hl⟩ :=
      Fin.ext (by dsimp only [col]; omega)
    rw [hrow, hcol]

/-- The accumulator as a row block's last step reads it. -/
theorem acc_last (t : Fin cfg0.N) (h1 : t.val % 11 = 10) (y : S512x2048.Idx) :
    accC (blks m c t) (prevAt m c t) y = DN m c (row t (y 0)) (y 1) :=
  (accP m c t (by omega) y).symm.trans (dn_at m c t h1 y)

/-- What the fourth and the fifth result hold. -/
def O10 (y : S2048x2048.Idx) : EReal := CT m c (y 0) (y 1) + normK (DN m c (y 0)) (HH m c (y 0)) (GG m c) (y 1)

/-- A row's part of the scale's gradient. -/
def sg (d s : Fin 2048) : EReal := DN m c s d * (HH m c s d * rinv (HH m c s))

/-- What the sixth result holds. -/
def O12 (y : S1x2048.Idx) : EReal := ∑ s : Fin 2048, sg m c (y 1) s

/-- A block's gradient is the array's at the block's rows. -/
theorem DH_at (t : Fin cfg0.N) (R H A : FVec Ideal S512x2048 .f32) (G : FVec Ideal S1x2048 .f32) (hR : ∀ s d, R (ix2 s d) = CT m c (row t s) d)
    (hH : ∀ s d, H (ix2 s d) = HH m c (row t s) d) (hA : ∀ y, A y = DN m c (row t (y 0)) (y 1)) (hG : ∀ d, G (ix2 0 d) = GG m c d)
    (y : S512x2048.Idx) : DH H R A G y = O10 m c (ix2 (row t (y 0)) (y 1)) := by
  idx_vars y
  exact congrArg₂ (fun a b : EReal => a + b) (hR _ _)
    (by
      show normK (fun d => A (ix2 y0 d)) (fun d => H (ix2 y0 d)) (fun d => G (ix2 0 d)) y1 = _
      rw [funext fun d => hA (ix2 y0 d), funext (hH y0), funext hG]
      rfl)

/-- A block's part of the scale's gradient. -/
def part12 (n : ℕ) (d : Fin 2048) : EReal := ∑ s : Fin 512, if h : 512 * n + s.val < 2048 then sg m c d ⟨512 * n + s.val, h⟩ else 0

theorem part_block (t : Fin cfg0.N) (H A : FVec Ideal S512x2048 .f32) (hH : ∀ s d, H (ix2 s d) = HH m c (row t s) d)
    (hA : ∀ y, A y = DN m c (row t (y 0)) (y 1)) (d : Fin 2048) : ∑ s : Fin 512, dgr H A s d = part12 m c (t.val / 11) d := by
  refine Finset.sum_congr rfl fun s _ => ?_
  rw [dgr, hA, hH, funext (hH s), dif_pos (show 512 * (t.val / 11) + s.val < 2048 from (row t s).isLt)]
  rfl

theorem out10 (t : Fin cfg0.N) (h1 : t.val % 11 = 10) (y : S512x2048.Idx) :
    (outsAt m c t.val t.isLt).2.2.2.1 y = O10 m c (ix2 (row t (y 0)) (y 1)) := by
  have h0 : ¬t.val % 11 = 0 := by omega
  rw [outsAt_eq]
  by_cases h2 : t.val < 11
  · rw [step_C m c t _ h0 h1 h2]
    exact (C12 c _ _ _ _ _ _ _ _ y).trans (DH_at m c t _ _ _ _ (b0 m c t) (b1 m c t) (acc_last m c t h1) (b2 m c t) y)
  · rw [step_D m c t _ h0 h1 h2]
    exact (D12 c _ _ _ _ _ _ _ _ y).trans (DH_at m c t _ _ _ _ (b0 m c t) (b1 m c t) (acc_last m c t h1) (b2 m c t) y)

theorem out11 (t : Fin cfg0.N) (h1 : t.val % 11 = 10) (y : S512x2048.Idx) :
    (outsAt m c t.val t.isLt).2.2.2.2.1 y = O10 m c (ix2 (row t (y 0)) (y 1)) := by
  have h0 : ¬t.val % 11 = 0 := by omega
  rw [outsAt_eq]
  by_cases h2 : t.val < 11
  · rw [step_C m c t _ h0 h1 h2]
    exact (C13 c _ _ _ _ _ _ _ _ y).trans (DH_at m c t _ _ _ _ (b0 m c t) (b1 m c t) (acc_last m c t h1) (b2 m c t) y)
  · rw [step_D m c t _ h0 h1 h2]
    exact (D13 c _ _ _ _ _ _ _ _ y).trans (DH_at m c t _ _ _ _ (b0 m c t) (b1 m c t) (acc_last m c t h1) (b2 m c t) y)

/-- Away from a row block's last step the scale gradient's block is kept. -/
theorem carry (t : Fin cfg0.N) (h1 : ¬t.val % 11 = 10) (h : 0 < t.val) :
    (outsAt m c t.val t.isLt).2.2.2.2.2.1 = (outsAt m c (t.val - 1) (by have := t.isLt; omega)).2.2.2.2.2.1 := by
  rw [outsAt_eq, prevAt_pos m c t (by omega)]
  exact (keep m c t _ h1).2.2

/-- The scale gradient's block after each row block: the rows so far. -/
theorem out12 : ∀ (n : ℕ) (hn : n < cfg0.N) (h : 10 ≤ n) (d : Fin 2048),
    (outsAt m c n hn).2.2.2.2.2.1 (ix2 0 d) = (∑ k ∈ Finset.range ((n + 1) / 11), part12 m c k d : EReal) := by
  intro n
  induction n with
  | zero => exact fun _ h => absurd h (by omega)
  | succ n ih =>
    intro hn h d
    by_cases h1 : (n + 1) % 11 = 10
    · have h0 : ¬(n + 1) % 11 = 0 := by omega
      rw [show outsAt m c (n + 1) hn = step m c ⟨n + 1, hn⟩ (prevAt m c ⟨n + 1, hn⟩) from outsAt_eq m c ⟨n + 1, hn⟩]
      by_cases h2 : n + 1 < 11
      · rw [step_C m c ⟨n + 1, hn⟩ _ h0 h1 h2]
        refine (C14 c _ _ _ _ _ _ _ _ d).trans ((part_block m c ⟨n + 1, hn⟩ _ _ (b1 m c _) (acc_last m c _ h1) d).trans ?_)
        rw [show (n + 1 + 1) / 11 = 1 by omega, Finset.sum_range_one]
        exact congrArg (part12 m c · d) (by dsimp only; omega)
      · rw [step_D m c ⟨n + 1, hn⟩ _ h0 h1 h2]
        refine (D14 c _ _ _ _ _ _ _ _ d).trans ?_
        rw [show (n + 1 + 1) / 11 = (n + 1) / 11 + 1 by omega, Finset.sum_range_succ, ← ih (Nat.lt_of_succ_lt hn) (by omega) d,
          prevAt_pos m c _ (Nat.succ_ne_zero n)]
        exact congrArg (_ + · : EReal → EReal) (part_block m c ⟨n + 1, hn⟩ _ _ (b1 m c _) (acc_last m c _ h1) d)
    · rw [carry m c ⟨n + 1, hn⟩ h1 (Nat.succ_pos n), show (n + 1 + 1) / 11 = (n + 1) / 11 by omega]
      exact ih (Nat.lt_of_succ_lt hn) (by omega) d

theorem out12' (t : Fin cfg0.N) (ht : t.val = 43) (y : S1x2048.Idx) : (outsAt m c t.val t.isLt).2.2.2.2.2.1 y = O12 m c y := by
  idx_vars y
  obtain rfl : y0 = 0 := Subsingleton.elim _ _
  refine (out12 m c _ _ (by omega) y1).trans ?_
  rw [ht, show (43 + 1) / 11 = 4 from rfl, Finset.sum_range]
  refine Fin.sum_mul_add_congr fun k s hl => ?_
  have h : 512 * k.val + s.val < 2048 := by have := k.isLt; omega
  exact (dif_pos h).trans (congrArg (sg m c y1) (Fin.ext (by dsimp only; omega)))

/-! ## The results after the run -/

/-- What the third result holds. -/
def O9 (y : S2048x2048.Idx) : EReal := CH m c (y 0) (y 1)

theorem final7 : (dats m 0 c).arrAt 7 cfg0.N = O7 m c := by
  refine (dats m 0 c).arrAt_eq_of_covers 7 _ (by decide +kernel) fun t hf y => ?_
  blk_simp
  rw [after_7, out7]
  refine congrArg (O7 m c) ?_
  blk_point [idx t, row, col]

theorem final8 : (dats m 0 c).arrAt 8 cfg0.N = O8 m c := by
  refine (dats m 0 c).arrAt_eq_of_covers 8 _ (by decide +kernel) fun t hf y => ?_
  blk_simp
  rw [after_8, out8]
  refine congrArg (O8 m c) ?_
  blk_point [idx t, row, col]

theorem final9 : (dats m 0 c).arrAt 9 cfg0.N = O9 m c := by
  refine (dats m 0 c).arrAt_eq_of_covers 9 _ (by decide +kernel) fun t hf y => ?_
  blk_simp
  rw [after_9]
  idx_vars y
  refine (df_at m c _ _ y0 y1).trans ?_
  refine congrArg (O9 m c) (a₁ := ix2 (row t y0) y1) ?_
  blk_point [idx t, row, col]

theorem final10 : (dats m 0 c).arrAt 10 cfg0.N = O10 m c := by
  refine (dats m 0 c).arrAt_eq_of_covers 10 _ (by decide +kernel) fun t hf y => ?_
  blk_simp
  rw [after_10, out10 m c t (beq_iff_eq.mp ((fl10 t).symm.trans hf))]
  refine congrArg (O10 m c) ?_
  blk_point [idx t, row, col]

theorem final11 : (dats m 0 c).arrAt 11 cfg0.N = O10 m c := by
  refine (dats m 0 c).arrAt_eq_of_covers 11 _ (by decide +kernel) fun t hf y => ?_
  blk_simp
  rw [after_11, out11 m c t (beq_iff_eq.mp ((fl11 t).symm.trans hf))]
  refine congrArg (O10 m c) ?_
  blk_point [idx t, row, col]

theorem final12 : (dats m 0 c).arrAt 12 cfg0.N = O12 m c := by
  refine (dats m 0 c).arrAt_eq_of_covers 12 _ (by decide +kernel) fun t hf y => ?_
  blk_simp
  rw [after_12, out12' m c t (beq_iff_eq.mp ((fl12 t).symm.trans hf))]
  refine congrArg (O12 m c) ?_
  blk_point [idx t]

/-- The kernel's run: the results and the arguments at its end. -/
theorem run' (ρ : Dev nD → PrngReg) : θ_run defs (onTc (τ := τ) (main (F := Ideal))) ⟨m, fun _ => 0, ρ⟩ (fun r => ∀ c : Dev nD,
    r.2.mem (((c : Dev nD), Proc.tc.devRef main_v30_0)) = O7 m c
    ∧ r.2.mem (((c : Dev nD), Proc.tc.devRef main_v30_1)) = O8 m c
    ∧ r.2.mem (((c : Dev nD), Proc.tc.devRef main_v30_2)) = O9 m c
    ∧ r.2.mem (((c : Dev nD), Proc.tc.devRef main_v30_3)) = O10 m c
    ∧ r.2.mem (((c : Dev nD), Proc.tc.devRef main_v30_4)) = O10 m c
    ∧ r.2.mem (((c : Dev nD), Proc.tc.devRef main_v30_5)) = O12 m c
    ∧ r.2.mem (((c : Dev nD), Proc.tc.devRef main_arg0)) = m (((c : Dev nD), Proc.tc.devRef main_arg0))
    ∧ r.2.mem (((c : Dev nD), Proc.tc.devRef main_arg1)) = m (((c : Dev nD), Proc.tc.devRef main_arg1))
    ∧ r.2.mem (((c : Dev nD), Proc.tc.devRef main_arg2)) = m (((c : Dev nD), Proc.tc.devRef main_arg2))
    ∧ r.2.mem (((c : Dev nD), Proc.tc.devRef main_arg3)) = m (((c : Dev nD), Proc.tc.devRef main_arg3))
    ∧ r.2.mem (((c : Dev nD), Proc.tc.devRef main_arg4)) = m (((c : Dev nD), Proc.tc.devRef main_arg4))) :=
  (θ_run defs _ _).mono (fun _ h c => ⟨((h.1 c).1 7).trans (final7 m c), ((h.1 c).1 8).trans (final8 m c), ((h.1 c).1 9).trans (final9 m c),
    ((h.1 c).1 10).trans (final10 m c), ((h.1 c).1 11).trans (final11 m c), ((h.1 c).1 12).trans (final12 m c), h.2 c⟩)
    (θ_run_and (run_main m ρ) (frame_of m ρ (dats m) (A_eq m) (run_main m ρ)))

end Cert.Ffn2B

end
-- ==== Proof.Ffn2BRef.lean ====
/- The reference of the second feed-forward layer's backward pass, read at an index. -/
module

public import proofs.«01_k».proof.Proof.Gen.Ffn2BwdRefIdeal.Run
public import proofs.«01_k».proof.Proof.GuRef
public import proofs.«01_k».proof.Proof.NormRef

@[expose] public section

set_option maxRecDepth 16384

noncomputable section

namespace Cert.Ffn2BwdRefIdeal.Read

open Cert.Ffn2BwdRefIdeal Cert.Ffn2BwdRefIdeal.Gen Cert.Ffn2BwdRefIdeal.Value Cert.Reals Cert.Spec
open Cert.Ffn1GuRefIdeal.Read (HN GU HCT DA GATE UP SG DG DU DGU OUT0 GU_at DA_at DG_at DU_at DGU_lo DGU_hi OUT0_at)
open Idealize.ShloMosaic Idealize.ShloMosaic.TcCoe Idealize.SL.Sem
open scoped BigOperators

/-- An array cast to its own shape. -/
def same (x : FVec Ideal S1x2048x2048 .f32) : FVec Ideal S1x2048x2048 .f32 := shapeCast _ x shapeCasts_S1x2048x2048_S1x2048x2048

/-- The projection's cotangent, both halves side by side. -/
def DP (x0 : FVec Ideal S1x2048x2048 .f32) (x1 : FVec Ideal S1x2048 .f32) (x2 : FVec Ideal S1x2048x11264 .f32) (x3 : FVec Ideal S1x5632x2048 .f32) (x4 : FVec Ideal S1x2048x2048 .f32) :
    FVec Ideal S1x2048x11264 .f32 := DGU (DG (GU x0 x1 x2) (DA x3 x4)) (DU (GU x0 x1 x2) (DA x3 x4))

/-- The normed rows' cotangent. -/
def DNr (x2 dp : FVec Ideal S1x2048x11264 .f32) : FVec Ideal S1x2048x2048 .f32 :=
  Host.dotGeneral dot_S1x2048x11264_S2048x11264_S1x2048x2048_2_1_01_0_n_n none dp (shapeCast _ x2 shapeCasts_S1x2048x11264_S2048x11264)

/-- The cotangent plus the norm's gradient. -/
def SUM (x0 : FVec Ideal S1x2048x2048 .f32) (x1 : FVec Ideal S1x2048 .f32) (dn x4 : FVec Ideal S1x2048x2048 .f32) : FVec Ideal S1x2048x2048 .f32 :=
  addf (addf (addf x4 (mulf (NormRef.AG dn x1) (broadcastInDim S1x2048x2048 ![0, 1, 2] bcast_S1x2048x1_S1x2048x2048_0_1_2 (Host.rsqrt (NormRef.MS x0)))))
    (mulf x0 (NormRef.CC dn x0 x1))) (mulf (NormRef.CC dn x0 x1) x0)

/-- The first result as a function of the arguments. -/
def R0 (x0 : FVec Ideal S1x2048x2048 .f32) (x1 : FVec Ideal S1x2048 .f32) (x2 : FVec Ideal S1x2048x11264 .f32) (x3 : FVec Ideal S1x5632x2048 .f32) (x4 : FVec Ideal S1x2048x2048 .f32) :
    FVec Ideal S2x2048x5632 .bf16 := OUT0 (DP x0 x1 x2 x3 x4)

/-- The second result: the gated product. -/
def R1 (x0 : FVec Ideal S1x2048x2048 .f32) (x1 : FVec Ideal S1x2048 .f32) (x2 : FVec Ideal S1x2048x11264 .f32) : FVec Ideal S2048x5632 .bf16 :=
  truncf .bf16 (shapeCast _ (mulf (mulf (GATE (GU x0 x1 x2)) (SG (GU x0 x1 x2))) (UP (GU x0 x1 x2))) shapeCasts_S1x2048x5632_S2048x5632) bitsLt_bf16_f32

/-- The third result: the halved cotangent. -/
def R2 (x4 : FVec Ideal S1x2048x2048 .f32) : FVec Ideal S2048x2048 .bf16 :=
  truncf .bf16 (shapeCast _ (HCT x4) shapeCasts_S1x2048x2048_S2048x2048) bitsLt_bf16_f32

/-- The fourth result: the cotangent of the layer's input. -/
def R3 (x0 : FVec Ideal S1x2048x2048 .f32) (x1 : FVec Ideal S1x2048 .f32) (x2 : FVec Ideal S1x2048x11264 .f32) (x3 : FVec Ideal S1x5632x2048 .f32) (x4 : FVec Ideal S1x2048x2048 .f32) :
    FVec Ideal S2048x2048 .f32 := shapeCast _ (SUM x0 x1 (DNr x2 (DP x0 x1 x2 x3 (same x4))) x4) shapeCasts_S1x2048x2048_S2048x2048

/-- The fifth result: the fourth, rounded. -/
def R4 (x0 : FVec Ideal S1x2048x2048 .f32) (x1 : FVec Ideal S1x2048 .f32) (x2 : FVec Ideal S1x2048x11264 .f32) (x3 : FVec Ideal S1x5632x2048 .f32) (x4 : FVec Ideal S1x2048x2048 .f32) :
    FVec Ideal S2048x2048 .bf16 :=
  truncf .bf16 (shapeCast _ (SUM x0 x1 (DNr x2 (DP x0 x1 x2 x3 (same x4))) x4) shapeCasts_S1x2048x2048_S2048x2048) bitsLt_bf16_f32

/-- The sixth result: the gradient of the norm's scale. -/
def R5 (x0 : FVec Ideal S1x2048x2048 .f32) (x1 : FVec Ideal S1x2048 .f32) (x2 : FVec Ideal S1x2048x11264 .f32) (x3 : FVec Ideal S1x5632x2048 .f32) (x4 : FVec Ideal S1x2048x2048 .f32) :
    FVec Ideal S1x2048 .f32 := NormRef.DGR (DNr x2 (DP x0 x1 x2 x3 (same x4))) x0

variable (m : (ℓ : Loc nD τ sig) → Buf (Elt Ideal) ℓ) (ρ : Dev nD → PrngReg) (c : Dev nD)

/-- An argument's array. -/
abbrev A0 : FVec Ideal S1x2048x2048 .f32 := m ((c.tc : Thread nD τ).loc main_arg0)
abbrev A1 : FVec Ideal S1x2048 .f32 := m ((c.tc : Thread nD τ).loc main_arg1)
abbrev A2 : FVec Ideal S1x2048x11264 .f32 := m ((c.tc : Thread nD τ).loc main_arg2)
abbrev A3 : FVec Ideal S1x5632x2048 .f32 := m ((c.tc : Thread nD τ).loc main_arg3)
abbrev A4 : FVec Ideal S1x2048x2048 .f32 := m ((c.tc : Thread nD τ).loc main_arg4)

theorem out0_eq : res_main_v102 (F := Ideal) m c = R0 (A0 m c) (A1 m c) (A2 m c) (A3 m c) (A4 m c) := by
  unfold res_main_v102
  rfl

theorem out3_eq : res_main_v113 (F := Ideal) m c = R3 (A0 m c) (A1 m c) (A2 m c) (A3 m c) (A4 m c) := by
  unfold res_main_v113
  rfl

theorem out4_eq : res_main_v115 (F := Ideal) m c = R4 (A0 m c) (A1 m c) (A2 m c) (A3 m c) (A4 m c) := by
  unfold res_main_v115
  rfl

theorem out5_eq : res_main_v61 (F := Ideal) m c = R5 (A0 m c) (A1 m c) (A2 m c) (A3 m c) (A4 m c) := by
  unfold res_main_v61
  rfl

/-- The reference's run with its results as functions of its arguments. -/
theorem run' : θ_run defs (onTc (τ := τ) (main (F := Ideal))) ⟨m, fun _ => 0, ρ⟩ fun r => ∀ c : Dev nD,
      r.2.mem ((c.tc : Thread nD τ).loc main_v102) = R0 (A0 m c) (A1 m c) (A2 m c) (A3 m c) (A4 m c)
      ∧ r.2.mem ((c.tc : Thread nD τ).loc main_v112) = R1 (A0 m c) (A1 m c) (A2 m c)
      ∧ r.2.mem ((c.tc : Thread nD τ).loc main_v106) = R2 (A4 m c)
      ∧ r.2.mem ((c.tc : Thread nD τ).loc main_v113) = R3 (A0 m c) (A1 m c) (A2 m c) (A3 m c) (A4 m c)
      ∧ r.2.mem ((c.tc : Thread nD τ).loc main_v115) = R4 (A0 m c) (A1 m c) (A2 m c) (A3 m c) (A4 m c)
      ∧ r.2.mem ((c.tc : Thread nD τ).loc main_v61) = R5 (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (out0_eq m c), (h c).2.1.trans rfl, (h c).2.2.1.trans rfl, (h c).2.2.2.1.trans (out3_eq m c),
    (h c).2.2.2.2.1.trans (out4_eq m c), (h c).2.2.2.2.2.1.trans (out5_eq m c), (h c).2.2.2.2.2.2⟩) (run m ρ)

theorem same_eq (x : FVec Ideal S1x2048x2048 .f32) : same x = x := by
  funext y
  idx_vars y
  obtain rfl : y0 = 0 := Subsingleton.elim _ _
  pointwise [same]

theorem R1_at (x0 : FVec Ideal S1x2048x2048 .f32) (x1 : FVec Ideal S1x2048 .f32) (x2 : FVec Ideal S1x2048x11264 .f32) (s : Fin 2048) (n : Fin 5632) :
    R1 x0 x1 x2 (ix2 s n) = GU x0 x1 x2 (ix3 0 s ⟨n.val, by omega⟩) * sgR (GU x0 x1 x2 (ix3 0 s ⟨n.val, by omega⟩)) * GU x0 x1 x2 (ix3 0 s ⟨5632 + n.val, by omega⟩) := by
  pointwise [R1, GATE, UP, SG]
  rfl

theorem R2_at (x4 : FVec Ideal S1x2048x2048 .f32) (s d : Fin 2048) : R2 x4 (ix2 s d) = Ideal.ofBits .f32 0x3F000000#32 * x4 (ix3 0 s d) := by
  pointwise [R2, HCT]

theorem DNr_at (x2 dp : FVec Ideal S1x2048x11264 .f32) (s d : Fin 2048) : DNr x2 dp (ix3 0 s d) = ∑ k : Fin 11264, dp (ix3 0 s k) * x2 (ix3 0 d k) := by
  pointwise [DNr]

theorem SUM_at (x0 : FVec Ideal S1x2048x2048 .f32) (x1 : FVec Ideal S1x2048 .f32) (dn x4 : FVec Ideal S1x2048x2048 .f32) (s d : Fin 2048) :
    SUM x0 x1 dn x4 (ix3 0 s d) = x4 (ix3 0 s d) + normR (fun d => dn (ix3 0 s d)) (fun d => x0 (ix3 0 s d)) (fun d => x1 (ix2 0 d)) d := by
  rw [← NormRef.DX_at (.inl rfl)]
  exact (congrArg (· + NormRef.CC dn x0 x1 (ix3 0 s d) * x0 (ix3 0 s d) : EReal → EReal) (add_assoc (x4 (ix3 0 s d) : EReal) _ _)).trans
    (add_assoc (x4 (ix3 0 s d) : EReal) _ _)

theorem R3_at (x0 : FVec Ideal S1x2048x2048 .f32) (x1 : FVec Ideal S1x2048 .f32) (x2 : FVec Ideal S1x2048x11264 .f32) (x3 : FVec Ideal S1x5632x2048 .f32) (x4 : FVec Ideal S1x2048x2048 .f32)
    (s d : Fin 2048) : R3 x0 x1 x2 x3 x4 (ix2 s d) = x4 (ix3 0 s d) + normR (fun d => DNr x2 (DP x0 x1 x2 x3 x4) (ix3 0 s d)) (fun d => x0 (ix3 0 s d)) (fun d => x1 (ix2 0 d)) d := by
  pointwise [R3]
  rw [same_eq, SUM_at]

theorem R4_eq (x0 : FVec Ideal S1x2048x2048 .f32) (x1 : FVec Ideal S1x2048 .f32) (x2 : FVec Ideal S1x2048x11264 .f32) (x3 : FVec Ideal S1x5632x2048 .f32) (x4 : FVec Ideal S1x2048x2048 .f32) :
    R4 x0 x1 x2 x3 x4 = R3 x0 x1 x2 x3 x4 := rfl

end Cert.Ffn2BwdRefIdeal.Read

end
-- ==== Proof.Ffn2B.lean ====
/- The second feed-forward layer's backward pass: the kernel's results are the reference's on finite arguments. -/
module

public import proofs.«01_k».proof.Defs
public import proofs.«01_k».proof.Proof.Gen.Pre_finite_ffn2
public import proofs.«01_k».proof.Proof.Gen.Ffn2Bwd
public import proofs.«01_k».proof.Proof.Ffn2BKernel
public import proofs.«01_k».proof.Proof.Ffn2BRef

@[expose] public section

set_option maxRecDepth 16384

noncomputable section

namespace Cert.Ffn2BPair

open Idealize.ShloMosaic Idealize.ShloMosaic.TcCoe Idealize.SL.Sem Cert.Reals Cert.Spec
open scoped BigOperators

section Values

open Cert.Ffn2BwdIdeal Cert.Ffn2B
open Cert.Ffn2BwdRefIdeal.Read
open Cert.Ffn1GuRefIdeal.Read (GU DA DG DU DGU OUT0 GU_at DA_at DG_at DU_at DGU_lo DGU_hi OUT0_at)

variable (m : (ℓ : Loc nD τ sig) → Buf (Elt Ideal) ℓ) (c : Dev nD)

/-- An argument's array. -/
abbrev X0 : FVec Ideal S1x2048x2048 .f32 := m (c, Proc.tc.devRef main_arg0)
abbrev X1 : FVec Ideal S1x2048 .f32 := m (c, Proc.tc.devRef main_arg1)
abbrev X2 : FVec Ideal S1x2048x11264 .f32 := m (c, Proc.tc.devRef main_arg2)
abbrev X3 : FVec Ideal S1x5632x2048 .f32 := m (c, Proc.tc.devRef main_arg3)
abbrev X4 : FVec Ideal S1x2048x2048 .f32 := m (c, Proc.tc.devRef main_arg4)

/-- Every element of every argument is a real number. -/
structure Fin' : Prop where
  h0 : ∀ i, IsReal (X0 m c i)
  h1 : ∀ i, IsReal (X1 m c i)
  h2 : ∀ i, IsReal (X2 m c i)
  h3 : ∀ i, IsReal (X3 m c i)
  h4 : ∀ i, IsReal (X4 m c i)

variable {m c}

theorem isReal_gu (h : Fin' m c) (a : Fin 2) (s : Fin 2048) (n : Fin 5632) : IsReal (GUv m c a s n) :=
  isReal_proj (fun s d => h.h0 (ix3 0 s d)) (fun d => h.h1 (ix2 0 d)) (fun d j => h.h2 (ix3 0 d j)) s _

theorem isReal_ch (h : Fin' m c) (s k : Fin 2048) : IsReal (CH m c s k) := by
  exact IsReal.mul ⟨_, ofBits_half⟩ (h.h4 _)

theorem isReal_d (h : Fin' m c) (s : Fin 2048) (n : Fin 5632) : IsReal (D m c s n) :=
  IsReal.sum _ fun k => (isReal_ch h s k).mul (h.h3 (ix3 0 n k))

theorem gate_half (s : Fin 2048) (n : Fin 5632) : GU (X0 m c) (X1 m c) (X2 m c) (ix3 0 s ⟨n.val, by omega⟩) = GUv m c 0 s n :=
  GU_at ..

theorem up_half (s : Fin 2048) (n : Fin 5632) : GU (X0 m c) (X1 m c) (X2 m c) (ix3 0 s ⟨5632 + n.val, by omega⟩) = GUv m c 1 s n :=
  GU_at ..

theorem da (s : Fin 2048) (n : Fin 5632) : DA (X3 m c) (X4 m c) (ix3 0 s n) = D m c s n := DA_at ..

/-- The gate's cotangent. -/
theorem dg_eq (h : Fin' m c) (s : Fin 2048) (n : Fin 5632) :
    DG (GU (X0 m c) (X1 m c) (X2 m c)) (DA (X3 m c) (X4 m c)) (ix3 0 s n) = DGv m c s n := by
  rw [DG_at, gate_half, up_half, da]
  exact (gate_eq (isReal_d h s n) (isReal_gu h 0 s n) (isReal_gu h 1 s n)).symm

/-- The other half's cotangent. -/
theorem du_eq (h : Fin' m c) (s : Fin 2048) (n : Fin 5632) :
    DU (GU (X0 m c) (X1 m c) (X2 m c)) (DA (X3 m c) (X4 m c)) (ix3 0 s n) = DUv m c s n := by
  rw [DU_at, gate_half, da]
  show _ = (D m c s n * (GUv m c 0 s n * sgK (GUv m c 0 s n)) : EReal)
  rw [sgK_eq (isReal_gu h 0 s n), mul_comm]

/-- The normed rows' cotangent. -/
theorem dn_eq (h : Fin' m c) (s d : Fin 2048) :
    DNr (X2 m c) (DP (X0 m c) (X1 m c) (X2 m c) (X3 m c) (X4 m c)) (ix3 0 s d) = DN m c s d := by
  rw [DNr_at]
  refine (Fin.sum_univ_add (a := 5632) (b := 5632) _).trans ?_
  refine congrArg₂ (fun a b : EReal => a + b) (Finset.sum_congr rfl fun n _ => ?_) (Finset.sum_congr rfl fun n _ => ?_)
  · exact congrArg (fun z : EReal => z * WW m c d (lo n)) ((DGU_lo _ _ s n).trans (dg_eq h s n))
  · exact congrArg (fun z : EReal => z * WW m c d (hi n)) ((DGU_hi _ _ s n).trans (du_eq h s n))

theorem isReal_sg (h : Fin' m c) (s : Fin 2048) (n : Fin 5632) : IsReal (sgK (GUv m c 0 s n)) := by
  rw [sgK_eq (isReal_gu h 0 s n)]
  exact isReal_sgR (isReal_gu h 0 s n)

theorem isReal_dg (h : Fin' m c) (s : Fin 2048) (n : Fin 5632) : IsReal (DGv m c s n) := by
  rw [DGv, gate_eq (isReal_d h s n) (isReal_gu h 0 s n) (isReal_gu h 1 s n)]
  have hs := isReal_sgR (isReal_gu h 0 s n)
  exact (((isReal_d h s n).mul (isReal_gu h 1 s n)).mul hs).add (((isReal_gu h 0 s n).mul ((isReal_d h s n).mul (isReal_gu h 1 s n))).mul (hs.mul (IsReal.one.sub hs)))

theorem isReal_du (h : Fin' m c) (s : Fin 2048) (n : Fin 5632) : IsReal (DUv m c s n) :=
  (isReal_d h s n).mul ((isReal_gu h 0 s n).mul (isReal_sg h s n))

theorem isReal_dn (h : Fin' m c) (s d : Fin 2048) : IsReal (DN m c s d) :=
  (IsReal.sum _ fun n => (isReal_dg h s n).mul (h.h2 (ix3 0 d (lo n)))).add (IsReal.sum _ fun n => (isReal_du h s n).mul (h.h2 (ix3 0 d (hi n))))

/-- The first result: the cotangents of the two halves of the projection. -/
theorem out0 (h : Fin' m c) : O7 m c = R0 (X0 m c) (X1 m c) (X2 m c) (X3 m c) (X4 m c) := by
  funext y
  idx_vars y
  rw [R0, DP, OUT0_at, dg_eq h, du_eq h]
  by_cases ha : y0.val = 1
  · rw [if_neg (by omega)]
    exact if_pos ha
  · rw [if_pos (by omega)]
    exact if_neg ha

/-- The second result: the gated product. -/
theorem out1 (h : Fin' m c) : O8 m c = R1 (X0 m c) (X1 m c) (X2 m c) := by
  funext y
  idx_vars y
  rw [R1_at, gate_half, up_half]
  exact congrArg (fun z : EReal => GUv m c 0 y0 y1 * z * GUv m c 1 y0 y1) (sgK_eq (isReal_gu h 0 y0 y1))

/-- The third result: the halved cotangent. -/
theorem out2 : O9 m c = R2 (X4 m c) := by
  funext y
  idx_vars y
  exact (R2_at _ y0 y1).symm

/-- The fourth result: the cotangent of the layer's input. -/
theorem out3 (h : Fin' m c) : O10 m c = R3 (X0 m c) (X1 m c) (X2 m c) (X3 m c) (X4 m c) := by
  funext y
  idx_vars y
  rw [R3_at, funext (dn_eq h y0)]
  exact congrArg (X4 m c (ix3 0 y0 y1) + · : EReal → EReal)
    (norm_eq (isReal_dn h y0) (fun d => h.h0 (ix3 0 y0 d)) (fun d => h.h1 (ix2 0 d)) y1)

/-- The sixth result: the gradient of the norm's scale. -/
theorem out5 (h : Fin' m c) : O12 m c = R5 (X0 m c) (X1 m c) (X2 m c) (X3 m c) (X4 m c) := by
  funext y
  idx_vars y
  obtain rfl : y0 = 0 := Subsingleton.elim _ _
  rw [R5, same_eq]
  refine Eq.trans ?_ (NormRef.DGR_at (.inl rfl) _ _ y1).symm
  refine Finset.sum_congr rfl fun s _ => ?_
  rw [dn_eq h s y1]
  exact mul_comm _ _

end Values

theorem fin_of (m : (ℓ : Loc Cert.Ffn2BwdIdeal.nD Cert.Ffn2BwdIdeal.τ Cert.Ffn2BwdIdeal.sig) → Buf (Elt Ideal) ℓ)
    (h : Cert.Pre_Ffn2BwdIdeal_finite_ffn2 m) (c : Dev Cert.Ffn2BwdIdeal.nD) : Fin' m c := by
  obtain ⟨h0, h1, h2, h3, h4⟩ := h c
  exact ⟨real_of _ _ h0, real_of _ _ h1, real_of _ _ h2, real_of _ _ h3, real_of _ _ h4⟩

/-- The kernel computes the reference on finite arguments. -/
theorem algebraic : Cert.algebraic_Ffn2BwdIdeal_Ffn2BwdRefIdeal_pre_finite_ffn2 := by
  pair_intro
  · run_from Cert.Ffn2B.run' m g
  · run_from Cert.Ffn2BwdRefIdeal.Read.run' m' g'
    · exact (out0 (fin_of m hpre c)).symm
    · exact (out1 (fin_of m hpre c)).symm
    · exact out2.symm
    · exact (out3 (fin_of m hpre c)).symm
    · exact (out3 (fin_of m hpre c)).symm
    · exact (out5 (fin_of m hpre c)).symm

end Cert.Ffn2BPair

end
-- ==== Proof.HeadRuns.lean ====
/- The body of the kernel of the second block's forward pass with the loss at its end, run once per case of its conditions: the first column step of a row
   block (case A), the steps between (B), the last step of the first row block (C) and of a later one (D). Each run says
   which pieces the body's stores leave in the outputs and in the accumulator. Stated over any values. -/
module

public import proofs.«01_k».proof.Proof.Gen.Ffn2HeadIdeal.Frame
public import proofs.«01_k».proof.Proof.Gen.Ffn2HeadIdeal.Launch
public import proofs.«01_k».proof.Proof.Gen.Ffn2HeadIdeal.Skeleton
public import proofs.«01_k».proof.Proof.Gen.Ffn2HeadIdeal.Loops
public import proofs.«01_k».proof.Proof.Gen.Ffn2HeadIdeal.Points
public import proofs.«01_k».proof.Proof.Hold
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Head

open Cert.Ffn2HeadIdeal Cert.Ffn2HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hold (hold)

variable {F : FTy → Type} [FloatOps F]

local notation "𝕄" => MT nD τ sig Unit (Elt F) ℕ (UR sig nD τ) ℕ

/-- The first column step of a row block, the last one, the first row block, a later one. -/
abbrev isFirst (i : grid0.Coords) : Prop := k0_cond1 i = 1#1
abbrev isLast (i : grid0.Coords) : Prop := k0_cond2 i = 1#1
abbrev topRow (i : grid0.Coords) : Prop := k0_cond3 i = 1#1
abbrev lowRow (i : grid0.Coords) : Prop := k0_cond4 i = 1#1

/-- The memrefs the body is called with: seven inputs, five outputs, the accumulator; each the whole of its buffer. -/
structure Mems where
  a2 : Memref sig .tc .vmem S512x2048 .f32
  h2 : a2.IsWhole
  a3 : Memref sig .tc .vmem S1x2048 .f32
  h3 : a3.IsWhole
  a4 : Memref sig .tc .vmem S2048x512 .bf16
  h4 : a4.IsWhole
  a5 : Memref sig .tc .vmem S2048x512 .bf16
  h5 : a5.IsWhole
  a6 : Memref sig .tc .vmem S512x2048 .bf16
  h6 : a6.IsWhole
  a7 : Memref sig .tc .vmem S1x2048 .f32
  h7 : a7.IsWhole
  a8 : Memref sig .tc .vmem S512x2048 .f32
  h8 : a8.IsWhole
  a9 : Memref sig .tc .vmem S512x2048 .f32
  h9 : a9.IsWhole
  a10 : Memref sig .tc .vmem S512x2048 .bf16
  h10 : a10.IsWhole
  a11 : Memref sig .tc .vmem S2x512x512 .bf16
  h11 : a11.IsWhole
  a12 : Memref sig .tc .vmem S1x2048 .f32
  h12 : a12.IsWhole
  a13 : Memref sig .tc .vmem S1x128 .f32
  h13 : a13.IsWhole
  a14 : Memref sig .tc .vmem S512x2048 .f32
  h14 : a14.IsWhole

/-- What the inputs hold. -/
structure Ins (F : FTy → Type) where
  x2 : Vec F S512x2048 .f32
  x3 : Vec F S1x2048 .f32
  x4 : Vec F S2048x512 .bf16
  x5 : Vec F S2048x512 .bf16
  x6 : Vec F S512x2048 .bf16
  x7 : Vec F S1x2048 .f32
  x8 : Vec F S512x2048 .f32

/-- The body on these memrefs. -/
abbrev body (i : grid0.Coords) (M : Mems) : Prog (TpuEff nD τ sig (Elt F) Λ₀ .tc) PUnit :=
  cc0_ffn2_fwd i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14

/-- The inputs' memrefs at their contents. -/
abbrev ins (c : Dev nD) (M : Mems) (X : Ins F) : sProp 𝕄 :=
  iprop(owns (c : Thread nD τ) M.a2 fullShare X.x2 ∗ owns (c : Thread nD τ) M.a3 fullShare X.x3 ∗ owns (c : Thread nD τ) M.a4 fullShare X.x4 ∗ owns (c : Thread nD τ) M.a5 fullShare X.x5 ∗ owns (c : Thread nD τ) M.a6 fullShare X.x6 ∗ owns (c : Thread nD τ) M.a7 fullShare X.x7 ∗ owns (c : Thread nD τ) M.a8 fullShare X.x8)

/-- A memref at whatever it holds. -/
abbrev some' {S : Shape} {e : EltTy} (c : Dev nD) (a : Memref sig .tc .vmem S e) : sProp 𝕄 := iprop(∃ d, owns (c : Thread nD τ) a fullShare d)

/-- A memref with these pieces stored into it. -/
abbrev left {S : Shape} {e : EltTy} (c : Dev nD) (a : Memref sig .tc .vmem S e) (L : List (View.Piece (Elt F) S e)) : sProp 𝕄 :=
  iprop(∃ f, a.view.loc (c : Thread nD τ) ↦[a.view.set]{fullShare} a.view.writes (Elt F) f L)

set_option maxHeartbeats 1000000 in
/-- At a row block's first column step: the normed rows, the two gates and a fresh accumulator. -/
def runA (c : Dev nD) (i : grid0.Coords) (M : Mems) (hc0 : isFirst i) (hc1 : ¬isLast i) (X : Ins F) (y10 : Vec F S512x2048 .bf16) :
    Σ' (L10 : List (View.Piece (Elt F) S512x2048 .bf16)), Σ' (L11 : List (View.Piece (Elt F) S2x512x512 .bf16)), { L14 : List (View.Piece (Elt F) S512x2048 .f32) //
      ∀ (d9 : Vec F S512x2048 .f32) (d12 : Vec F S1x2048 .f32) (d13 : Vec F S1x128 .f32) (E : Set ℕ) (K : PUnit → sProp 𝕄),
        iprop(ins c M X ∗ owns (c : Thread nD τ) M.a9 fullShare d9 ∗ owns (c : Thread nD τ) M.a10 fullShare y10 ∗ some' c M.a11 ∗ owns (c : Thread nD τ) M.a12 fullShare d12 ∗ owns (c : Thread nD τ) M.a13 fullShare d13 ∗ some' c M.a14
            ∗ (iprop(ins c M X ∗ owns (c : Thread nD τ) M.a9 fullShare d9 ∗ left c M.a10 L10 ∗ left c M.a11 L11 ∗ owns (c : Thread nD τ) M.a12 fullShare d12 ∗ owns (c : Thread nD τ) M.a13 fullShare d13 ∗ left c M.a14 L14) -∗ K ⟨⟩))
          ⊢ wp frame (wpE (defs₀ (F := F)) Variants.none c none) E (body i M) K } := by
  refine ⟨?_, ?_, ?_, fun d9 d12 d13 E K => ?run⟩
  case run =>
    simp only [body, cc0_ffn2_fwd_eq_skeleton]; unfold cc0_ffn2_fwd_skel
    simp only [ins, some']; unfold owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%f9, %e9, H9⟩, ⟨%f10, %e10, H10⟩, ⟨%d11, %f11, -, H11⟩, ⟨%f12, %e12, H12⟩, ⟨%f13, %e13, H13⟩, ⟨%d14, %f14, -, H14⟩, Hk⟩
    obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8; obtain rfl := M.h9.eq_unread e9; obtain rfl := M.h10.eq_unread e10; obtain rfl := M.h12.eq_unread e12; obtain rfl := M.h13.eq_unread e13
    sl_exec (disch := first | sl_exact hc0 | sl_exact hc1)
    sl_step
    iapply Hk
    isplitl [H2 H3 H4 H5 H6 H7 H8]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      isplitl [H6]; · iapply (hold c M.h6 _); iexact H6
      isplitl [H7]; · iapply (hold c M.h7 _); iexact H7
      iapply (hold c M.h8 _); iexact H8
    isplitl [H9]; · iapply (hold c M.h9 _); iexact H9
    isplitl [H10]; · iexists _; iexact H10
    isplitl [H11]; · iexists _; iexact H11
    isplitl [H12]; · iapply (hold c M.h12 _); iexact H12
    isplitl [H13]; · iapply (hold c M.h13 _); iexact H13
    iexists _; iexact H14

set_option maxHeartbeats 1000000 in
/-- At a step between: the normed rows are read, the gates stored and the accumulator added to. -/
def runB (c : Dev nD) (i : grid0.Coords) (M : Mems) (hc0 : ¬isFirst i) (hc1 : ¬isLast i) (X : Ins F) (y10 : Vec F S512x2048 .bf16) (y14 : Vec F S512x2048 .f32) :
    Σ' (L11 : List (View.Piece (Elt F) S2x512x512 .bf16)), { L14 : List (View.Piece (Elt F) S512x2048 .f32) //
      ∀ (d9 : Vec F S512x2048 .f32) (d12 : Vec F S1x2048 .f32) (d13 : Vec F S1x128 .f32) (E : Set ℕ) (K : PUnit → sProp 𝕄),
        iprop(ins c M X ∗ owns (c : Thread nD τ) M.a9 fullShare d9 ∗ owns (c : Thread nD τ) M.a10 fullShare y10 ∗ some' c M.a11 ∗ owns (c : Thread nD τ) M.a12 fullShare d12 ∗ owns (c : Thread nD τ) M.a13 fullShare d13 ∗ owns (c : Thread nD τ) M.a14 fullShare y14
            ∗ (iprop(ins c M X ∗ owns (c : Thread nD τ) M.a9 fullShare d9 ∗ owns (c : Thread nD τ) M.a10 fullShare y10 ∗ left c M.a11 L11 ∗ owns (c : Thread nD τ) M.a12 fullShare d12 ∗ owns (c : Thread nD τ) M.a13 fullShare d13 ∗ left c M.a14 L14) -∗ K ⟨⟩))
          ⊢ wp frame (wpE (defs₀ (F := F)) Variants.none c none) E (body i M) K } := by
  refine ⟨?_, ?_, fun d9 d12 d13 E K => ?run⟩
  case run =>
    simp only [body, cc0_ffn2_fwd_eq_skeleton]; unfold cc0_ffn2_fwd_skel
    simp only [ins, some']; unfold owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%f9, %e9, H9⟩, ⟨%f10, %e10, H10⟩, ⟨%d11, %f11, -, H11⟩, ⟨%f12, %e12, H12⟩, ⟨%f13, %e13, H13⟩, ⟨%f14, %e14, H14⟩, Hk⟩
    obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8; obtain rfl := M.h9.eq_unread e9; obtain rfl := M.h10.eq_unread e10; obtain rfl := M.h12.eq_unread e12; obtain rfl := M.h13.eq_unread e13; obtain rfl := M.h14.eq_unread e14
    sl_exec (disch := first | sl_exact hc0 | sl_exact hc1)
    sl_step
    iapply Hk
    isplitl [H2 H3 H4 H5 H6 H7 H8]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      isplitl [H6]; · iapply (hold c M.h6 _); iexact H6
      isplitl [H7]; · iapply (hold c M.h7 _); iexact H7
      iapply (hold c M.h8 _); iexact H8
    isplitl [H9]; · iapply (hold c M.h9 _); iexact H9
    isplitl [H10]; · iapply (hold c M.h10 _); iexact H10
    isplitl [H11]; · iexists _; iexact H11
    isplitl [H12]; · iapply (hold c M.h12 _); iexact H12
    isplitl [H13]; · iapply (hold c M.h13 _); iexact H13
    iexists _; iexact H14

set_option maxHeartbeats 1000000 in
/-- At the last step of the first row block: the gradient of the norm's input too, and the scale's gradient and the loss begun. -/
def runC (c : Dev nD) (i : grid0.Coords) (M : Mems) (hc0 : ¬isFirst i) (hc1 : isLast i) (hc2 : topRow i) (hc3 : ¬lowRow i) (X : Ins F) (y10 : Vec F S512x2048 .bf16) (y14 : Vec F S512x2048 .f32) :
    Σ' (L9 : List (View.Piece (Elt F) S512x2048 .f32)), Σ' (L11 : List (View.Piece (Elt F) S2x512x512 .bf16)), Σ' (L12 : List (View.Piece (Elt F) S1x2048 .f32)), Σ' (L13 : List (View.Piece (Elt F) S1x128 .f32)), { L14 : List (View.Piece (Elt F) S512x2048 .f32) //
      ∀ (E : Set ℕ) (K : PUnit → sProp 𝕄),
        iprop(ins c M X ∗ some' c M.a9 ∗ owns (c : Thread nD τ) M.a10 fullShare y10 ∗ some' c M.a11 ∗ some' c M.a12 ∗ some' c M.a13 ∗ owns (c : Thread nD τ) M.a14 fullShare y14
            ∗ (iprop(ins c M X ∗ left c M.a9 L9 ∗ owns (c : Thread nD τ) M.a10 fullShare y10 ∗ left c M.a11 L11 ∗ left c M.a12 L12 ∗ left c M.a13 L13 ∗ left c M.a14 L14) -∗ K ⟨⟩))
          ⊢ wp frame (wpE (defs₀ (F := F)) Variants.none c none) E (body i M) K } := by
  refine ⟨?_, ?_, ?_, ?_, ?_, fun E K => ?run⟩
  case run =>
    simp only [body, cc0_ffn2_fwd_eq_skeleton]; unfold cc0_ffn2_fwd_skel
    simp only [ins, some']; unfold owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%d9, %f9, -, H9⟩, ⟨%f10, %e10, H10⟩, ⟨%d11, %f11, -, H11⟩, ⟨%d12, %f12, -, H12⟩, ⟨%d13, %f13, -, H13⟩, ⟨%f14, %e14, H14⟩, Hk⟩
    obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8; obtain rfl := M.h10.eq_unread e10; obtain rfl := M.h14.eq_unread e14
    sl_exec (disch := first | sl_exact hc0 | sl_exact hc1 | sl_exact hc2 | sl_exact hc3)
    sl_step
    iapply Hk
    isplitl [H2 H3 H4 H5 H6 H7 H8]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      isplitl [H6]; · iapply (hold c M.h6 _); iexact H6
      isplitl [H7]; · iapply (hold c M.h7 _); iexact H7
      iapply (hold c M.h8 _); iexact H8
    isplitl [H9]; · iexists _; iexact H9
    isplitl [H10]; · iapply (hold c M.h10 _); iexact H10
    isplitl [H11]; · iexists _; iexact H11
    isplitl [H12]; · iexists _; iexact H12
    isplitl [H13]; · iexists _; iexact H13
    iexists _; iexact H14

set_option maxHeartbeats 1000000 in
/-- At the last step of a later row block: the scale's gradient and the loss are added to. -/
def runD (c : Dev nD) (i : grid0.Coords) (M : Mems) (hc0 : ¬isFirst i) (hc1 : isLast i) (hc2 : ¬topRow i) (hc3 : lowRow i) (X : Ins F) (y10 : Vec F S512x2048 .bf16) (y12 : Vec F S1x2048 .f32) (y13 : Vec F S1x128 .f32) (y14 : Vec F S512x2048 .f32) :
    Σ' (L9 : List (View.Piece (Elt F) S512x2048 .f32)), Σ' (L11 : List (View.Piece (Elt F) S2x512x512 .bf16)), Σ' (L12 : List (View.Piece (Elt F) S1x2048 .f32)), Σ' (L13 : List (View.Piece (Elt F) S1x128 .f32)), { L14 : List (View.Piece (Elt F) S512x2048 .f32) //
      ∀ (E : Set ℕ) (K : PUnit → sProp 𝕄),
        iprop(ins c M X ∗ some' c M.a9 ∗ owns (c : Thread nD τ) M.a10 fullShare y10 ∗ some' c M.a11 ∗ owns (c : Thread nD τ) M.a12 fullShare y12 ∗ owns (c : Thread nD τ) M.a13 fullShare y13 ∗ owns (c : Thread nD τ) M.a14 fullShare y14
            ∗ (iprop(ins c M X ∗ left c M.a9 L9 ∗ owns (c : Thread nD τ) M.a10 fullShare y10 ∗ left c M.a11 L11 ∗ left c M.a12 L12 ∗ left c M.a13 L13 ∗ left c M.a14 L14) -∗ K ⟨⟩))
          ⊢ wp frame (wpE (defs₀ (F := F)) Variants.none c none) E (body i M) K } := by
  refine ⟨?_, ?_, ?_, ?_, ?_, fun E K => ?run⟩
  case run =>
    simp only [body, cc0_ffn2_fwd_eq_skeleton]; unfold cc0_ffn2_fwd_skel
    simp only [ins, some']; unfold owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%d9, %f9, -, H9⟩, ⟨%f10, %e10, H10⟩, ⟨%d11, %f11, -, H11⟩, ⟨%f12, %e12, H12⟩, ⟨%f13, %e13, H13⟩, ⟨%f14, %e14, H14⟩, Hk⟩
    obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8; obtain rfl := M.h10.eq_unread e10; obtain rfl := M.h12.eq_unread e12; obtain rfl := M.h13.eq_unread e13; obtain rfl := M.h14.eq_unread e14
    sl_exec (disch := first | sl_exact hc0 | sl_exact hc1 | sl_exact hc2 | sl_exact hc3)
    sl_step
    iapply Hk
    isplitl [H2 H3 H4 H5 H6 H7 H8]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      isplitl [H6]; · iapply (hold c M.h6 _); iexact H6
      isplitl [H7]; · iapply (hold c M.h7 _); iexact H7
      iapply (hold c M.h8 _); iexact H8
    isplitl [H9]; · iexists _; iexact H9
    isplitl [H10]; · iapply (hold c M.h10 _); iexact H10
    isplitl [H11]; · iexists _; iexact H11
    isplitl [H12]; · iexists _; iexact H12
    isplitl [H13]; · iexists _; iexact H13
    iexists _; iexact H14

end Cert.Head

end
-- ==== Proof.HeadSteps.lean ====
/- What the outputs and the accumulator hold after the body of the second block's forward kernel, case by case, as functions
   of what they held before; and the body's triple in that form. Stated over any values. -/
module

public import proofs.«01_k».proof.Proof.HeadRuns
public import proofs.«01_k».proof.Proof.Hold
public import Idealize.ShloMosaic.Lib.Pipeline.ValueKit

@[expose] public section

set_option maxRecDepth 16384

noncomputable section

namespace Cert.Head

open Cert.Ffn2HeadIdeal Cert.Ffn2HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hold (back)

variable {F : FTy → Type} [FloatOps F]

local notation "𝕄" => MT nD τ sig Unit (Elt F) ℕ (UR sig nD τ) ℕ

/-- What the five outputs' buffers and the accumulator hold. -/
abbrev St (F : FTy → Type) := Vec F S512x2048 .f32 × Vec F S512x2048 .bf16 × Vec F S2x512x512 .bf16 × Vec F S1x2048 .f32 × Vec F S1x128 .f32 × Vec F S512x2048 .f32

/-- Views of the outputs' buffers and of the accumulator, through which pieces are read back. -/
abbrev V9 : View sig .tc .vmem S512x2048 .f32 := (Memref.whole cc0_stg7_0 : Memref sig .tc .vmem S512x2048 .f32).view
abbrev V10 : View sig .tc .vmem S512x2048 .bf16 := (Memref.whole cc0_stg8_0 : Memref sig .tc .vmem S512x2048 .bf16).view
abbrev V11 : View sig .tc .vmem S2x512x512 .bf16 := (Memref.whole cc0_stg9_0 : Memref sig .tc .vmem S2x512x512 .bf16).view
abbrev V12 : View sig .tc .vmem S1x2048 .f32 := (Memref.whole cc0_stg10_0 : Memref sig .tc .vmem S1x2048 .f32).view
abbrev V13 : View sig .tc .vmem S1x128 .f32 := (Memref.whole cc0_stg11_0 : Memref sig .tc .vmem S1x128 .f32).view
abbrev V14 : View sig .tc .vmem S512x2048 .f32 := (Memref.whole cc0_scratch0 : Memref sig .tc .vmem S512x2048 .f32).view

/-- Pieces read back over a buffer never written. -/
def rd {S : Shape} {e : EltTy} (V : View sig .tc .vmem S e) (L : List (View.Piece (Elt F) S e)) : Vec F S e :=
  V.read (Elt F) (V.writes (Elt F) V.junk L)

/-- The outputs' memrefs and the accumulator at these contents. -/
abbrev outs (c : Dev nD) (M : Mems) (S : St F) : sProp 𝕄 :=
  iprop(owns (c : Thread nD τ) M.a9 fullShare S.1 ∗ owns (c : Thread nD τ) M.a10 fullShare S.2.1 ∗ owns (c : Thread nD τ) M.a11 fullShare S.2.2.1 ∗ owns (c : Thread nD τ) M.a12 fullShare S.2.2.2.1 ∗ owns (c : Thread nD τ) M.a13 fullShare S.2.2.2.2.1 ∗ owns (c : Thread nD τ) M.a14 fullShare S.2.2.2.2.2)

variable (c : Dev nD) (i : grid0.Coords) (M : Mems)

/-- The loop over the normed rows stores its whole block. -/
theorem rows_cover (hc0 : isFirst i) (hc1 : ¬isLast i) (X : Ins F) (y10 : Vec F S512x2048 .bf16) (y : S512x2048.Idx) :
    ∃ pc ∈ (runA c i M hc0 hc1 X y10).1, y ∈ pc.1.set :=
  View.cover_of_tiledL (runA c i M hc0 hc1 X y10).1 S64x2048.size (by sl_kernel_rfl) y

/-- What a first step leaves does not depend on what the normed rows' buffer held. -/
theorem runA_10 (hc0 : isFirst i) (hc1 : ¬isLast i) (X : Ins F) (y y' : Vec F S512x2048 .bf16) :
    (runA c i M hc0 hc1 X y).1 = (runA c i M hc0 hc1 X y').1 := by
  frame_open
  rfl

theorem runA_11 (hc0 : isFirst i) (hc1 : ¬isLast i) (X : Ins F) (y y' : Vec F S512x2048 .bf16) :
    (runA c i M hc0 hc1 X y).2.1 = (runA c i M hc0 hc1 X y').2.1 := by
  have key : ∀ z R, View.readAt (Elt F) M.a10.view R (M.a10.view.writes (Elt F) (M.h10.unread z)
      (pb_k0_t1 Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 hc0 (M.h2.unread X.x2) (M.h3.unread X.x3) (Scf.trips 0#32 (Scalar.addi 0#32 8#32) 1#32))) = M.a10.view.readCov _ R :=
    fun z R => View.readAt_writes_of_cover _ _ _ R fun j => rows_cover c i M hc0 hc1 X y _
  frame_open
  simp only [key]

theorem runA_14 (hc0 : isFirst i) (hc1 : ¬isLast i) (X : Ins F) (y y' : Vec F S512x2048 .bf16) :
    (runA c i M hc0 hc1 X y).2.2.1 = (runA c i M hc0 hc1 X y').2.2.1 := by
  have key : ∀ z R, View.readAt (Elt F) M.a10.view R (M.a10.view.writes (Elt F) (M.h10.unread z)
      (pb_k0_t1 Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 hc0 (M.h2.unread X.x2) (M.h3.unread X.x3) (Scf.trips 0#32 (Scalar.addi 0#32 8#32) 1#32))) = M.a10.view.readCov _ R :=
    fun z R => View.readAt_writes_of_cover _ _ _ R fun j => rows_cover c i M hc0 hc1 X y _
  frame_open
  simp only [key]

/-- Case A. -/
def outA (hc0 : isFirst i) (hc1 : ¬isLast i) (X : Ins F) (S : St F) : St F :=
  (S.1,
   rd V10 (runA c i M hc0 hc1 X S.2.1).1,
   rd V11 (runA c i M hc0 hc1 X S.2.1).2.1,
   S.2.2.2.1,
   S.2.2.2.2.1,
   rd V14 (runA c i M hc0 hc1 X S.2.1).2.2.1)

set_option maxHeartbeats 1000000 in
theorem soundA (hc0 : isFirst i) (hc1 : ¬isLast i) (X : Ins F) (S : St F) (E : Set ℕ) (K : PUnit → sProp 𝕄) :
    iprop(ins c M X ∗ outs c M S ∗ (iprop(ins c M X ∗ outs c M (outA c i M hc0 hc1 X S)) -∗ K ⟨⟩))
      ⊢ wp frame (wpE (defs₀ (F := F)) Variants.none c none) E (body i M) K := by
  unfold outA rd outs; dsimp only
  iintro ⟨Hi, ⟨H9, H10, H11, H12, H13, H14⟩, Hk⟩
  iapply ((runA c i M hc0 hc1 X S.2.1).2.2.2 _ _ _ E K)
  iframe Hi H9 H10
  isplitl [H11]; · iexists _; iexact H11
  iframe H12 H13
  isplitl [H14]; · iexists _; iexact H14
  iintro ⟨Hi, H9, ⟨%f10, H10⟩, ⟨%f11, H11⟩, H12, H13, ⟨%f14, H14⟩⟩
  iapply Hk
  iframe Hi H9
  isplitl [H10]; · iapply (back _ M.a10 V10 S64x2048.size (runA c i M hc0 hc1 X S.2.1).1 _ (by sl_kernel_rfl)); iexact H10
  isplitl [H11]; · iapply (back _ M.a11 V11 S1x512x512.size (runA c i M hc0 hc1 X S.2.1).2.1 _ (by sl_kernel_rfl)); iexact H11
  iframe H12 H13
  iapply (back _ M.a14 V14 S512x2048.size (runA c i M hc0 hc1 X S.2.1).2.2.1 _ (by sl_kernel_rfl)); iexact H14

/-- Case B. -/
def outB (hc0 : ¬isFirst i) (hc1 : ¬isLast i) (X : Ins F) (S : St F) : St F :=
  (S.1,
   S.2.1,
   rd V11 (runB c i M hc0 hc1 X S.2.1 S.2.2.2.2.2).1,
   S.2.2.2.1,
   S.2.2.2.2.1,
   rd V14 (runB c i M hc0 hc1 X S.2.1 S.2.2.2.2.2).2.1)

set_option maxHeartbeats 1000000 in
theorem soundB (hc0 : ¬isFirst i) (hc1 : ¬isLast i) (X : Ins F) (S : St F) (E : Set ℕ) (K : PUnit → sProp 𝕄) :
    iprop(ins c M X ∗ outs c M S ∗ (iprop(ins c M X ∗ outs c M (outB c i M hc0 hc1 X S)) -∗ K ⟨⟩))
      ⊢ wp frame (wpE (defs₀ (F := F)) Variants.none c none) E (body i M) K := by
  unfold outB rd outs; dsimp only
  iintro ⟨Hi, ⟨H9, H10, H11, H12, H13, H14⟩, Hk⟩
  iapply ((runB c i M hc0 hc1 X S.2.1 S.2.2.2.2.2).2.2 _ _ _ E K)
  iframe Hi H9 H10
  isplitl [H11]; · iexists _; iexact H11
  iframe H12 H13 H14
  iintro ⟨Hi, H9, H10, ⟨%f11, H11⟩, H12, H13, ⟨%f14, H14⟩⟩
  iapply Hk
  iframe Hi H9 H10
  isplitl [H11]; · iapply (back _ M.a11 V11 S1x512x512.size (runB c i M hc0 hc1 X S.2.1 S.2.2.2.2.2).1 _ (by sl_kernel_rfl)); iexact H11
  iframe H12 H13
  iapply (back _ M.a14 V14 S512x2048.size (runB c i M hc0 hc1 X S.2.1 S.2.2.2.2.2).2.1 _ (by sl_kernel_rfl)); iexact H14

/-- Case C. -/
def outC (hc0 : ¬isFirst i) (hc1 : isLast i) (hc2 : topRow i) (hc3 : ¬lowRow i) (X : Ins F) (S : St F) : St F :=
  (rd V9 (runC c i M hc0 hc1 hc2 hc3 X S.2.1 S.2.2.2.2.2).1,
   S.2.1,
   rd V11 (runC c i M hc0 hc1 hc2 hc3 X S.2.1 S.2.2.2.2.2).2.1,
   rd V12 (runC c i M hc0 hc1 hc2 hc3 X S.2.1 S.2.2.2.2.2).2.2.1,
   rd V13 (runC c i M hc0 hc1 hc2 hc3 X S.2.1 S.2.2.2.2.2).2.2.2.1,
   rd V14 (runC c i M hc0 hc1 hc2 hc3 X S.2.1 S.2.2.2.2.2).2.2.2.2.1)

set_option maxHeartbeats 1000000 in
theorem soundC (hc0 : ¬isFirst i) (hc1 : isLast i) (hc2 : topRow i) (hc3 : ¬lowRow i) (X : Ins F) (S : St F) (E : Set ℕ) (K : PUnit → sProp 𝕄) :
    iprop(ins c M X ∗ outs c M S ∗ (iprop(ins c M X ∗ outs c M (outC c i M hc0 hc1 hc2 hc3 X S)) -∗ K ⟨⟩))
      ⊢ wp frame (wpE (defs₀ (F := F)) Variants.none c none) E (body i M) K := by
  unfold outC rd outs; dsimp only
  iintro ⟨Hi, ⟨H9, H10, H11, H12, H13, H14⟩, Hk⟩
  iapply ((runC c i M hc0 hc1 hc2 hc3 X S.2.1 S.2.2.2.2.2).2.2.2.2.2 E K)
  isplitl [Hi]; · iexact Hi
  isplitl [H9]; · iexists _; iexact H9
  isplitl [H10]; · iexact H10
  isplitl [H11]; · iexists _; iexact H11
  isplitl [H12]; · iexists _; iexact H12
  isplitl [H13]; · iexists _; iexact H13
  isplitl [H14]; · iexact H14
  iintro ⟨Hi, ⟨%f9, H9⟩, H10, ⟨%f11, H11⟩, ⟨%f12, H12⟩, ⟨%f13, H13⟩, ⟨%f14, H14⟩⟩
  iapply Hk
  isplitl [Hi]; · iexact Hi
  isplitl [H9]; · iapply (back _ M.a9 V9 S64x2048.size (runC c i M hc0 hc1 hc2 hc3 X S.2.1 S.2.2.2.2.2).1 _ (by sl_kernel_rfl)); iexact H9
  isplitl [H10]; · iexact H10
  isplitl [H11]; · iapply (back _ M.a11 V11 S1x512x512.size (runC c i M hc0 hc1 hc2 hc3 X S.2.1 S.2.2.2.2.2).2.1 _ (by sl_kernel_rfl)); iexact H11
  isplitl [H12]; · iapply (back _ M.a12 V12 S1x2048.size (runC c i M hc0 hc1 hc2 hc3 X S.2.1 S.2.2.2.2.2).2.2.1 _ (by sl_kernel_rfl)); iexact H12
  isplitl [H13]; · iapply (back _ M.a13 V13 S1x128.size (runC c i M hc0 hc1 hc2 hc3 X S.2.1 S.2.2.2.2.2).2.2.2.1 _ (by sl_kernel_rfl)); iexact H13
  iapply (back _ M.a14 V14 S512x2048.size (runC c i M hc0 hc1 hc2 hc3 X S.2.1 S.2.2.2.2.2).2.2.2.2.1 _ (by sl_kernel_rfl)); iexact H14

/-- Case D. -/
def outD (hc0 : ¬isFirst i) (hc1 : isLast i) (hc2 : ¬topRow i) (hc3 : lowRow i) (X : Ins F) (S : St F) : St F :=
  (rd V9 (runD c i M hc0 hc1 hc2 hc3 X S.2.1 S.2.2.2.1 S.2.2.2.2.1 S.2.2.2.2.2).1,
   S.2.1,
   rd V11 (runD c i M hc0 hc1 hc2 hc3 X S.2.1 S.2.2.2.1 S.2.2.2.2.1 S.2.2.2.2.2).2.1,
   rd V12 (runD c i M hc0 hc1 hc2 hc3 X S.2.1 S.2.2.2.1 S.2.2.2.2.1 S.2.2.2.2.2).2.2.1,
   rd V13 (runD c i M hc0 hc1 hc2 hc3 X S.2.1 S.2.2.2.1 S.2.2.2.2.1 S.2.2.2.2.2).2.2.2.1,
   rd V14 (runD c i M hc0 hc1 hc2 hc3 X S.2.1 S.2.2.2.1 S.2.2.2.2.1 S.2.2.2.2.2).2.2.2.2.1)

set_option maxHeartbeats 1000000 in
theorem soundD (hc0 : ¬isFirst i) (hc1 : isLast i) (hc2 : ¬topRow i) (hc3 : lowRow i) (X : Ins F) (S : St F) (E : Set ℕ) (K : PUnit → sProp 𝕄) :
    iprop(ins c M X ∗ outs c M S ∗ (iprop(ins c M X ∗ outs c M (outD c i M hc0 hc1 hc2 hc3 X S)) -∗ K ⟨⟩))
      ⊢ wp frame (wpE (defs₀ (F := F)) Variants.none c none) E (body i M) K := by
  unfold outD rd outs; dsimp only
  iintro ⟨Hi, ⟨H9, H10, H11, H12, H13, H14⟩, Hk⟩
  iapply ((runD c i M hc0 hc1 hc2 hc3 X S.2.1 S.2.2.2.1 S.2.2.2.2.1 S.2.2.2.2.2).2.2.2.2.2 E K)
  isplitl [Hi]; · iexact Hi
  isplitl [H9]; · iexists _; iexact H9
  isplitl [H10]; · iexact H10
  isplitl [H11]; · iexists _; iexact H11
  iframe H12 H13 H14
  iintro ⟨Hi, ⟨%f9, H9⟩, H10, ⟨%f11, H11⟩, ⟨%f12, H12⟩, ⟨%f13, H13⟩, ⟨%f14, H14⟩⟩
  iapply Hk
  isplitl [Hi]; · iexact Hi
  isplitl [H9]; · iapply (back _ M.a9 V9 S64x2048.size (runD c i M hc0 hc1 hc2 hc3 X S.2.1 S.2.2.2.1 S.2.2.2.2.1 S.2.2.2.2.2).1 _ (by sl_kernel_rfl)); iexact H9
  isplitl [H10]; · iexact H10
  isplitl [H11]; · iapply (back _ M.a11 V11 S1x512x512.size (runD c i M hc0 hc1 hc2 hc3 X S.2.1 S.2.2.2.1 S.2.2.2.2.1 S.2.2.2.2.2).2.1 _ (by sl_kernel_rfl)); iexact H11
  isplitl [H12]; · iapply (back _ M.a12 V12 S1x2048.size (runD c i M hc0 hc1 hc2 hc3 X S.2.1 S.2.2.2.1 S.2.2.2.2.1 S.2.2.2.2.2).2.2.1 _ (by sl_kernel_rfl)); iexact H12
  isplitl [H13]; · iapply (back _ M.a13 V13 S1x128.size (runD c i M hc0 hc1 hc2 hc3 X S.2.1 S.2.2.2.1 S.2.2.2.2.1 S.2.2.2.2.2).2.2.2.1 _ (by sl_kernel_rfl)); iexact H13
  iapply (back _ M.a14 V14 S512x2048.size (runD c i M hc0 hc1 hc2 hc3 X S.2.1 S.2.2.2.1 S.2.2.2.2.1 S.2.2.2.2.2).2.2.2.2.1 _ (by sl_kernel_rfl)); iexact H14

/-- What each case leaves depends only on what it reads, and what a case does not store stays. -/
theorem liveA (hc0 : isFirst i) (hc1 : ¬isLast i) (X : Ins F) (S S' : St F) :
    (outA c i M hc0 hc1 X S).2.1 = (outA c i M hc0 hc1 X S').2.1
    ∧ (outA c i M hc0 hc1 X S).2.2.1 = (outA c i M hc0 hc1 X S').2.2.1
    ∧ (outA c i M hc0 hc1 X S).2.2.2.2.2 = (outA c i M hc0 hc1 X S').2.2.2.2.2 := by
  dsimp only [outA]
  exact ⟨congrArg (rd V10) (runA_10 c i M hc0 hc1 X _ _),
    congrArg (rd V11) (runA_11 c i M hc0 hc1 X _ _), congrArg (rd V14) (runA_14 c i M hc0 hc1 X _ _)⟩

theorem keepA (hc0 : isFirst i) (hc1 : ¬isLast i) (X : Ins F) (S : St F) : (outA c i M hc0 hc1 X S).1 = S.1 ∧ (outA c i M hc0 hc1 X S).2.2.2.1 = S.2.2.2.1
    ∧ (outA c i M hc0 hc1 X S).2.2.2.2.1 = S.2.2.2.2.1 := by
  dsimp only [outA]
  exact ⟨rfl, rfl, rfl⟩

theorem liveB (hc0 : ¬isFirst i) (hc1 : ¬isLast i) (X : Ins F) (S S' : St F) (h9 : S.2.1 = S'.2.1) (h15 : S.2.2.2.2.2 = S'.2.2.2.2.2) :
    (outB c i M hc0 hc1 X S).2.1 = (outB c i M hc0 hc1 X S').2.1 ∧ (outB c i M hc0 hc1 X S).2.2.1 = (outB c i M hc0 hc1 X S').2.2.1 ∧ (outB c i M hc0 hc1 X S).2.2.2.2.2 = (outB c i M hc0 hc1 X S').2.2.2.2.2 := by
  obtain ⟨s1, s2, s3, s4, s5, s6⟩ := S
  obtain ⟨r1, r2, r3, r4, r5, r6⟩ := S'
  dsimp only at h9 h15
  subst h9 h15
  dsimp only [outB]
  exact ⟨rfl, rfl, rfl⟩

theorem keepB (hc0 : ¬isFirst i) (hc1 : ¬isLast i) (X : Ins F) (S : St F) : (outB c i M hc0 hc1 X S).2.1 = S.2.1 ∧ (outB c i M hc0 hc1 X S).1 = S.1 ∧ (outB c i M hc0 hc1 X S).2.2.2.1 = S.2.2.2.1 ∧ (outB c i M hc0 hc1 X S).2.2.2.2.1 = S.2.2.2.2.1 := by
  dsimp only [outB]
  exact ⟨rfl, rfl, rfl, rfl⟩

theorem liveC (hc0 : ¬isFirst i) (hc1 : isLast i) (hc2 : topRow i) (hc3 : ¬lowRow i) (X : Ins F) (S S' : St F) (h9 : S.2.1 = S'.2.1) (h15 : S.2.2.2.2.2 = S'.2.2.2.2.2) :
    (outC c i M hc0 hc1 hc2 hc3 X S).2.1 = (outC c i M hc0 hc1 hc2 hc3 X S').2.1 ∧ (outC c i M hc0 hc1 hc2 hc3 X S).2.2.1 = (outC c i M hc0 hc1 hc2 hc3 X S').2.2.1 ∧ (outC c i M hc0 hc1 hc2 hc3 X S).2.2.2.2.2 = (outC c i M hc0 hc1 hc2 hc3 X S').2.2.2.2.2 ∧ (outC c i M hc0 hc1 hc2 hc3 X S).1 = (outC c i M hc0 hc1 hc2 hc3 X S').1 ∧ (outC c i M hc0 hc1 hc2 hc3 X S).2.2.2.1 = (outC c i M hc0 hc1 hc2 hc3 X S').2.2.2.1 ∧ (outC c i M hc0 hc1 hc2 hc3 X S).2.2.2.2.1 = (outC c i M hc0 hc1 hc2 hc3 X S').2.2.2.2.1 := by
  obtain ⟨s1, s2, s3, s4, s5, s6⟩ := S
  obtain ⟨r1, r2, r3, r4, r5, r6⟩ := S'
  dsimp only at h9 h15
  subst h9 h15
  dsimp only [outC]
  exact ⟨rfl, rfl, rfl, rfl, rfl, rfl⟩

theorem keepC (hc0 : ¬isFirst i) (hc1 : isLast i) (hc2 : topRow i) (hc3 : ¬lowRow i) (X : Ins F) (S : St F) : (outC c i M hc0 hc1 hc2 hc3 X S).2.1 = S.2.1 := by
  dsimp only [outC]

theorem liveD (hc0 : ¬isFirst i) (hc1 : isLast i) (hc2 : ¬topRow i) (hc3 : lowRow i) (X : Ins F) (S S' : St F) (h9 : S.2.1 = S'.2.1) (h15 : S.2.2.2.2.2 = S'.2.2.2.2.2) (h12 : S.2.2.2.1 = S'.2.2.2.1) (h13 : S.2.2.2.2.1 = S'.2.2.2.2.1) :
    (outD c i M hc0 hc1 hc2 hc3 X S).2.1 = (outD c i M hc0 hc1 hc2 hc3 X S').2.1 ∧ (outD c i M hc0 hc1 hc2 hc3 X S).2.2.1 = (outD c i M hc0 hc1 hc2 hc3 X S').2.2.1 ∧ (outD c i M hc0 hc1 hc2 hc3 X S).2.2.2.2.2 = (outD c i M hc0 hc1 hc2 hc3 X S').2.2.2.2.2 ∧ (outD c i M hc0 hc1 hc2 hc3 X S).1 = (outD c i M hc0 hc1 hc2 hc3 X S').1 ∧ (outD c i M hc0 hc1 hc2 hc3 X S).2.2.2.1 = (outD c i M hc0 hc1 hc2 hc3 X S').2.2.2.1 ∧ (outD c i M hc0 hc1 hc2 hc3 X S).2.2.2.2.1 = (outD c i M hc0 hc1 hc2 hc3 X S').2.2.2.2.1 := by
  obtain ⟨s1, s2, s3, s4, s5, s6⟩ := S
  obtain ⟨r1, r2, r3, r4, r5, r6⟩ := S'
  dsimp only at h9 h15 h12 h13
  subst h9 h15 h12 h13
  dsimp only [outD]
  exact ⟨rfl, rfl, rfl, rfl, rfl, rfl⟩

theorem keepD (hc0 : ¬isFirst i) (hc1 : isLast i) (hc2 : ¬topRow i) (hc3 : lowRow i) (X : Ins F) (S : St F) : (outD c i M hc0 hc1 hc2 hc3 X S).2.1 = S.2.1 := by
  dsimp only [outD]

end Cert.Head

end
-- ==== Proof.HeadFrame.lean ====
/- The frame of the second block's forward kernel: what every buffer holds point by point over the 4 by 11 grid, the body's
   obligation at each point, the run of the whole program and the claim that its arguments end unchanged. Any values. -/
module

public import proofs.«01_k».proof.Proof.HeadSteps
public import Idealize.ShloMosaic.Lib.Claim

@[expose] public section

set_option maxRecDepth 16384

noncomputable section

namespace Cert.Head

open Cert.Ffn2HeadIdeal Cert.Ffn2HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions and the idle points over the grid -/

theorem first_iff : ∀ t : Fin cfg0.N, isFirst (grid0.coords t) ↔ t.val % 11 = 0 :=
  (by decide +kernel : ∀ t : Fin grid0.N, isFirst (grid0.coords t) ↔ t.val % 11 = 0)
theorem last_iff : ∀ t : Fin cfg0.N, isLast (grid0.coords t) ↔ t.val % 11 = 10 :=
  (by decide +kernel : ∀ t : Fin grid0.N, isLast (grid0.coords t) ↔ t.val % 11 = 10)
theorem top_iff : ∀ t : Fin cfg0.N, topRow (grid0.coords t) ↔ t.val < 11 :=
  (by decide +kernel : ∀ t : Fin grid0.N, topRow (grid0.coords t) ↔ t.val < 11)
theorem low_iff : ∀ t : Fin cfg0.N, lowRow (grid0.coords t) ↔ 11 ≤ t.val :=
  (by decide +kernel : ∀ t : Fin grid0.N, lowRow (grid0.coords t) ↔ 11 ≤ t.val)

/-- The inputs and the gates are touched at every point. -/
theorem live : ∀ t : Fin cfg0.N, cfg0.idle 0 (grid0.coords t) = false ∧ cfg0.idle 1 (grid0.coords t) = false ∧ cfg0.idle 2 (grid0.coords t) = false
    ∧ cfg0.idle 3 (grid0.coords t) = false ∧ cfg0.idle 4 (grid0.coords t) = false ∧ cfg0.idle 5 (grid0.coords t) = false
    ∧ cfg0.idle 6 (grid0.coords t) = false ∧ cfg0.idle 9 (grid0.coords t) = false := by decide +kernel
theorem idle7 : ∀ t : Fin cfg0.N, cfg0.idle 7 (grid0.coords t) = !(t.val % 11 == 10) := by decide +kernel
theorem idle8 : ∀ t : Fin cfg0.N, cfg0.idle 8 (grid0.coords t) = !(t.val % 11 == 0) := by decide +kernel
theorem idle10 : ∀ t : Fin cfg0.N, cfg0.idle 10 (grid0.coords t) = !(t.val % 11 == 10) := by decide +kernel
theorem idle11 : ∀ t : Fin cfg0.N, cfg0.idle 11 (grid0.coords t) = !(t.val % 11 == 10) := by decide +kernel
theorem fl7 : ∀ t : Fin cfg0.N, (cfg0.win 7).flush t = (t.val % 11 == 10) := by decide +kernel
theorem fl8 : ∀ t : Fin cfg0.N, (cfg0.win 8).flush t = (t.val % 11 == 10) := by decide +kernel
theorem fl10 : ∀ t : Fin cfg0.N, (cfg0.win 10).flush t = (t.val == 43) := by decide +kernel
theorem fl11 : ∀ t : Fin cfg0.N, (cfg0.win 11).flush t = (t.val == 43) := by decide +kernel

/-- The normed rows' buffer is fresh at a row block's first step only; the scale gradient's and the loss's until the end of the
    first row block. -/
theorem fresh8 (t : Fin cfg0.N) : cfg0.fresh 8 t.val = (t.val % 11 == 0) :=
  Cfg.fresh_tab cfg0 8 (fun n => n % 11 == 0) rfl (by decide +kernel) t.val (Nat.le_of_lt t.isLt)
theorem fresh10 (t : Fin cfg0.N) : cfg0.fresh 10 t.val = (decide (t.val < 11) || t.val == 44) :=
  Cfg.fresh_tab cfg0 10 (fun n => decide (n < 11) || n == 44) rfl (by decide +kernel) t.val (Nat.le_of_lt t.isLt)
theorem fresh11 (t : Fin cfg0.N) : cfg0.fresh 11 t.val = (decide (t.val < 11) || t.val == 44) :=
  Cfg.fresh_tab cfg0 11 (fun n => decide (n < 11) || n == 44) rfl (by decide +kernel) t.val (Nat.le_of_lt t.isLt)

/-! ## What the buffers hold point by point -/

variable (c : Dev nD) (t : Fin cfg0.N)

/-- The memrefs and the input blocks of point `t`. -/
abbrev mems (t : Fin cfg0.N) : Mems :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11),
    Memref.whole cc0_scratch0, Memref.isWhole_whole _⟩
abbrev blks : Ins F := ⟨iblk m c 0 t, iblk m c 1 t, iblk m c 2 t, iblk m c 3 t, iblk m c 4 t, iblk m c 5 t, iblk m c 6 t⟩

/-- What point `t` makes of the contents it finds. -/
def step (S : St F) : St F :=
  if h0 : t.val % 11 = 0 then
    outA c (grid0.coords t) (mems t) ((first_iff t).mpr h0) (fun h => by have := (last_iff t).mp h; omega) (blks m c t) S
  else if h1 : t.val % 11 = 10 then
    if h2 : t.val < 11 then
      outC c (grid0.coords t) (mems t) (fun h => h0 ((first_iff t).mp h)) ((last_iff t).mpr h1) ((top_iff t).mpr h2)
        (fun h => by have := (low_iff t).mp h; omega) (blks m c t) S
    else
      outD c (grid0.coords t) (mems t) (fun h => h0 ((first_iff t).mp h)) ((last_iff t).mpr h1) (fun h => h2 ((top_iff t).mp h))
        ((low_iff t).mpr (by omega)) (blks m c t) S
  else
    outB c (grid0.coords t) (mems t) (fun h => h0 ((first_iff t).mp h)) (fun h => h1 ((last_iff t).mp h)) (blks m c t) S

theorem step_A (S : St F) (h0 : t.val % 11 = 0) : step m c t S =
    outA c (grid0.coords t) (mems t) ((first_iff t).mpr h0) (fun h => by have := (last_iff t).mp h; omega) (blks m c t) S := dif_pos h0
theorem step_B (S : St F) (h0 : ¬t.val % 11 = 0) (h1 : ¬t.val % 11 = 10) : step m c t S =
    outB c (grid0.coords t) (mems t) (fun h => h0 ((first_iff t).mp h)) (fun h => h1 ((last_iff t).mp h)) (blks m c t) S :=
  (dif_neg h0).trans (dif_neg h1)
theorem step_C (S : St F) (h0 : ¬t.val % 11 = 0) (h1 : t.val % 11 = 10) (h2 : t.val < 11) : step m c t S =
    outC c (grid0.coords t) (mems t) (fun h => h0 ((first_iff t).mp h)) ((last_iff t).mpr h1) ((top_iff t).mpr h2)
      (fun h => by have := (low_iff t).mp h; omega) (blks m c t) S :=
  (dif_neg h0).trans ((dif_pos h1).trans (dif_pos h2))
theorem step_D (S : St F) (h0 : ¬t.val % 11 = 0) (h1 : t.val % 11 = 10) (h2 : ¬t.val < 11) : step m c t S =
    outD c (grid0.coords t) (mems t) (fun h => h0 ((first_iff t).mp h)) ((last_iff t).mpr h1) (fun h => h2 ((top_iff t).mp h))
      ((low_iff t).mpr (by omega)) (blks m c t) S :=
  (dif_neg h0).trans ((dif_pos h1).trans (dif_neg h2))

/-- Contents nobody consults: the buffers before the first point. -/
def ini : St F := (rd V9 [], rd V10 [], rd V11 [], rd V12 [], rd V13 [], rd V14 [])

/-- What the buffers hold after point `n`. -/
def outsAt (c : Dev nD) : (n : ℕ) → n < cfg0.N → St F
  | 0, hn => step m c ⟨0, hn⟩ ini
  | n + 1, hn => step m c ⟨n + 1, hn⟩ (outsAt c n (Nat.lt_of_succ_lt hn))

/-- What they held before point `t`. -/
def prevAt : St F :=
  if h : t.val = 0 then ini else outsAt m c (t.val - 1) (by have := t.isLt; omega)

theorem prevAt_pos (h : t.val ≠ 0) :
    prevAt m c t = outsAt m c (t.val - 1) (Nat.lt_of_le_of_lt (Nat.sub_le _ _) t.isLt) := dif_neg h

theorem outsAt_eq : outsAt m c t.val t.isLt = step m c t (prevAt m c t) := by
  obtain ⟨n, hn⟩ := t
  cases n with
  | zero => rfl
  | succ n => rfl

/-- What a point leaves depends only on what it reads. -/
theorem step_live (S S' : St F) (h9 : ¬t.val % 11 = 0 → S.2.1 = S'.2.1)
    (h15 : ¬t.val % 11 = 0 → S.2.2.2.2.2 = S'.2.2.2.2.2) (h12 : t.val % 11 = 10 → ¬t.val < 11 → S.2.2.2.1 = S'.2.2.2.1)
    (h13 : t.val % 11 = 10 → ¬t.val < 11 → S.2.2.2.2.1 = S'.2.2.2.2.1) :
    (step m c t S).2.1 = (step m c t S').2.1 ∧ (step m c t S).2.2.1 = (step m c t S').2.2.1
    ∧ (step m c t S).2.2.2.2.2 = (step m c t S').2.2.2.2.2
    ∧ (t.val % 11 = 10 → (step m c t S).1 = (step m c t S').1 ∧ (step m c t S).2.2.2.1 = (step m c t S').2.2.2.1
      ∧ (step m c t S).2.2.2.2.1 = (step m c t S').2.2.2.2.1) := by
  by_cases h0 : t.val % 11 = 0
  · rw [step_A m c t S h0, step_A m c t S' h0]
    obtain ⟨h, h', hq⟩ := liveA c (grid0.coords t) (mems t) ((first_iff t).mpr h0) (fun h => by have := (last_iff t).mp h; omega) (blks m c t) S S'
    exact ⟨h, h', hq, fun h => by omega⟩
  · by_cases h1 : t.val % 11 = 10
    · by_cases h2 : t.val < 11
      · rw [step_C m c t S h0 h1 h2, step_C m c t S' h0 h1 h2]
        obtain ⟨a1, a3, a4, a5⟩ := liveC c (grid0.coords t) (mems t) (fun h => h0 ((first_iff t).mp h)) ((last_iff t).mpr h1)
          ((top_iff t).mpr h2) (fun h => by have := (low_iff t).mp h; omega) (blks m c t) S S' (h9 h0) (h15 h0)
        exact ⟨a1, a3, a4, fun _ => a5⟩
      · rw [step_D m c t S h0 h1 h2, step_D m c t S' h0 h1 h2]
        obtain ⟨a1, a3, a4, a5⟩ := liveD c (grid0.coords t) (mems t) (fun h => h0 ((first_iff t).mp h)) ((last_iff t).mpr h1)
          (fun h => h2 ((top_iff t).mp h)) ((low_iff t).mpr (by omega)) (blks m c t) S S' (h9 h0) (h15 h0) (h12 h1 h2) (h13 h1 h2)
        exact ⟨a1, a3, a4, fun _ => a5⟩
    · rw [step_B m c t S h0 h1, step_B m c t S' h0 h1]
      obtain ⟨a1, a3, a4⟩ := liveB c (grid0.coords t) (mems t) (fun h => h0 ((first_iff t).mp h)) (fun h => h1 ((last_iff t).mp h))
        (blks m c t) S S' (h9 h0) (h15 h0)
      exact ⟨a1, a3, a4, fun h => absurd h h1⟩

/-- Away from a row block's first step the normed rows stay. -/
theorem keep8 (S : St F) (h0 : ¬t.val % 11 = 0) : (step m c t S).2.1 = S.2.1 := by
  by_cases h1 : t.val % 11 = 10
  · by_cases h2 : t.val < 11
    · rw [step_C m c t S h0 h1 h2]; exact keepC c _ _ _ _ _ _ _ S
    · rw [step_D m c t S h0 h1 h2]; exact keepD c _ _ _ _ _ _ _ S
  · rw [step_B m c t S h0 h1]; exact (keepB c _ _ _ _ _ S).1

/-- Away from a row block's last step the gradients and the loss stay. -/
theorem keep (S : St F) (h1 : ¬t.val % 11 = 10) :
    (step m c t S).1 = S.1 ∧ (step m c t S).2.2.2.1 = S.2.2.2.1 ∧ (step m c t S).2.2.2.2.1 = S.2.2.2.2.1 := by
  by_cases h0 : t.val % 11 = 0
  · rw [step_A m c t S h0]; exact keepA c _ _ _ _ _ S
  · rw [step_B m c t S h0 h1]; exact (keepB c _ _ _ _ _ S).2

/-- The body's triple at any point, from any contents. -/
theorem sound (S : St F) (E : Set ℕ) (K : PUnit → sProp 𝕄) :
    iprop(ins c (mems t) (blks m c t) ∗ outs c (mems t) S ∗ (iprop(ins c (mems t) (blks m c t) ∗ outs c (mems t) (step m c t S)) -∗ K ⟨⟩))
      ⊢ wp frame (wpE (defs₀ (F := F)) Variants.none c none) E (bodyAt0 t) K := by
  by_cases h0 : t.val % 11 = 0
  · rw [step_A m c t S h0]; exact soundA c _ _ _ _ _ S E K
  · by_cases h1 : t.val % 11 = 10
    · by_cases h2 : t.val < 11
      · rw [step_C m c t S h0 h1 h2]; exact soundC c _ _ _ _ _ _ _ S E K
      · rw [step_D m c t S h0 h1 h2]; exact soundD c _ _ _ _ _ _ _ S E K
    · rw [step_B m c t S h0 h1]; exact soundB c _ _ _ _ _ S E K

/-! ## The pipeline's data -/

/-- The accumulator as a memref. -/
abbrev acc : Memref sig .tc .vmem S512x2048 .f32 := Memref.whole cc0_scratch0

theorem PhiA_eq (c : Dev nD) : (Pipeline.ΦA spec0 c : sProp 𝕄) = iprop(iprop((∃ d, owns (c : Thread nD τ) acc fullShare d)) ∗ (∃ r, prngReg c r)) := by
  unfold Pipeline.ΦA; rw [scopedRest0_eq]; simp only [acc, owns_whole]; try rfl

/-- Before the first point the accumulator holds anything, afterwards what the point before left. -/
def Phi (c : Dev nD) : (n : ℕ) → n ≤ cfg0.N → sProp 𝕄
  | 0, _ => Pipeline.ΦA spec0 c
  | n + 1, hn => iprop(owns (c : Thread nD τ) acc fullShare (outsAt m c n hn).2.2.2.2.2 ∗ (∃ r, prngReg c r))

theorem Phi_zero (c : Dev nD) (n : ℕ) (h : n ≤ cfg0.N) (hz : n = 0) : Phi m c n h = Pipeline.ΦA spec0 c := by subst hz; rfl
theorem Phi_pos (c : Dev nD) (n : ℕ) (h : n ≤ cfg0.N) (hz : n ≠ 0) :
    Phi m c n h = iprop(owns (c : Thread nD τ) acc fullShare (outsAt m c (n - 1) (by omega)).2.2.2.2.2 ∗ (∃ r, prngReg c r)) := by
  cases n with
  | zero => exact absurd rfl hz
  | succ n => rfl

/-- The arrays as the region finds them; the inputs' buffers at their blocks, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
    | ⟨10, _⟩ => (outsAt m c t.val t.isLt).2.2.2.1
    | ⟨11, _⟩ => (outsAt m c t.val t.isLt).2.2.2.2.1
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem Phi_castSucc : (dats m 0 c).Φ t.castSucc = Phi m c t.val (Nat.le_of_lt t.isLt) := by
  dsimp only [dats]; exact Dat.Φ_castSucc (Phi m c) t

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = (outsAt m c t.val t.isLt).1 := by dsimp only [dats]
theorem after_8 : (dats m 0 c).after 8 t = (outsAt m c t.val t.isLt).2.1 := by dsimp only [dats]
theorem after_9 : (dats m 0 c).after 9 t = (outsAt m c t.val t.isLt).2.2.1 := by dsimp only [dats]
theorem after_10 : (dats m 0 c).after 10 t = (outsAt m c t.val t.isLt).2.2.2.1 := by dsimp only [dats]
theorem after_11 : (dats m 0 c).after 11 t = (outsAt m c t.val t.isLt).2.2.2.2.1 := by dsimp only [dats]
theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d

theorem carry8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t hz hi _
  have h0 : ¬t.val % 11 = 0 := fun h => by rw [idle8 t, h] at hi; exact absurd hi (by decide)
  rw [after_8, after_8, outsAt_eq, keep8 m c t _ h0, prevAt_pos m c t hz]

theorem carry10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t hz hi _
  have h1 : ¬t.val % 11 = 10 := fun h => by rw [idle10 t, h] at hi; exact absurd hi (by decide)
  rw [after_10, after_10, outsAt_eq, (keep m c t _ h1).2.1, prevAt_pos m c t hz]

theorem before_10 (h2 : ¬t.val < 11) (d) : (dats m 0 c).before 10 t d = (prevAt m c t).2.2.2.1 := by
  have hN : t.val < 44 := lt_of_lt_of_eq t.isLt (show cfg0.N = 44 from N_0)
  rw [Dat.before_out_traj _ 10 rfl (fun _ _ => rfl) (carry10 m c) t.val t rfl d,
    if_neg (by rw [fresh10 t]; simp only [Bool.or_eq_true, decide_eq_true_eq, beq_iff_eq]; omega), after_10, prevAt_pos m c t (by omega)]

theorem carry11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t hz hi _
  have h1 : ¬t.val % 11 = 10 := fun h => by rw [idle11 t, h] at hi; exact absurd hi (by decide)
  rw [after_11, after_11, outsAt_eq, (keep m c t _ h1).2.2, prevAt_pos m c t hz]

theorem before_11 (h2 : ¬t.val < 11) (d) : (dats m 0 c).before 11 t d = (prevAt m c t).2.2.2.2.1 := by
  have hN : t.val < 44 := lt_of_lt_of_eq t.isLt (show cfg0.N = 44 from N_0)
  rw [Dat.before_out_traj _ 11 rfl (fun _ _ => rfl) (carry11 m c) t.val t rfl d,
    if_neg (by rw [fresh11 t]; simp only [Bool.or_eq_true, decide_eq_true_eq, beq_iff_eq]; omega), after_11, prevAt_pos m c t (by omega)]

theorem before_8 (h0 : ¬t.val % 11 = 0) (d) : (dats m 0 c).before 8 t d = (prevAt m c t).2.1 := by
  rw [Dat.before_out_traj _ 8 rfl (fun _ _ => rfl) (carry8 m c) t.val t rfl d,
    if_neg (by rw [fresh8 t]; simp only [beq_iff_eq]; exact h0), after_8, prevAt_pos m c t (fun h => h0 (by rw [h]))]

/-! ## The obligation at a point -/

/-- What the body hands back for an output stored at some points only: its contents, live or not. -/
theorem leave8 (S : St F) (d) (hS : S.2.1 = (dats m 0 c).before 8 t d)
    (he : (step m c t S).2.1 = (outsAt m c t.val t.isLt).2.1) :
    owns (c : Thread nD τ) (mems t).a10 fullShare (step m c t S).2.1 ⊢ ((dats m 0 c).leavesExact 8 t : sProp 𝕄) := by
  by_cases h0 : t.val % 11 = 0
  · unfold Dat.leavesExact
    rw [show cfg0.idle 8 (cfg0.grid.coords t) = false from by rw [idle8 t, h0]; rfl, after_8, he]
  · by_cases h1 : t.val % 11 = 10
    · unfold Dat.leavesExact
      rw [show cfg0.idle 8 (cfg0.grid.coords t) = true from by rw [idle8 t, h1]; rfl, show (cfg0.win 8).flush t = true from by rw [fl8 t, h1]; rfl, after_8, he]
    · rw [Dat.leavesExact_idle (dats m 0 c) 8 t (by rw [idle8 t]; simp only [Bool.not_eq_true', beq_eq_false_iff_ne]; exact h0)
        (by rw [fl8 t]; simp only [beq_eq_false_iff_ne]; exact h1), keep8 m c t S h0, hS]
      iintro H; iexists _; iexact H

theorem leave7 (S : St F) (d) (hS : S.1 = (dats m 0 c).before 7 t d)
    (he : t.val % 11 = 10 → (step m c t S).1 = (outsAt m c t.val t.isLt).1) :
    owns (c : Thread nD τ) (mems t).a9 fullShare (step m c t S).1 ⊢ ((dats m 0 c).leavesExact 7 t : sProp 𝕄) := by
  by_cases h1 : t.val % 11 = 10
  · unfold Dat.leavesExact
    rw [show cfg0.idle 7 (cfg0.grid.coords t) = false from by rw [idle7 t, h1]; rfl, after_7, he h1]
  · rw [Dat.leavesExact_idle (dats m 0 c) 7 t (by rw [idle7 t]; simp only [Bool.not_eq_true', beq_eq_false_iff_ne]; exact h1)
      (by rw [fl7 t]; simp only [beq_eq_false_iff_ne]; exact h1), (keep m c t S h1).1, hS]
    iintro H; iexists _; iexact H

theorem leave10 (S : St F) (d) (hS : S.2.2.2.1 = (dats m 0 c).before 10 t d)
    (he : t.val % 11 = 10 → (step m c t S).2.2.2.1 = (outsAt m c t.val t.isLt).2.2.2.1) :
    owns (c : Thread nD τ) (mems t).a12 fullShare (step m c t S).2.2.2.1 ⊢ ((dats m 0 c).leavesExact 10 t : sProp 𝕄) := by
  by_cases h1 : t.val % 11 = 10
  · unfold Dat.leavesExact
    rw [show cfg0.idle 10 (cfg0.grid.coords t) = false from by rw [idle10 t, h1]; rfl, after_10, he h1]
  · rw [Dat.leavesExact_idle (dats m 0 c) 10 t (by rw [idle10 t]; simp only [Bool.not_eq_true', beq_eq_false_iff_ne]; exact h1)
      (by rw [fl10 t]; simp only [beq_eq_false_iff_ne]; omega), (keep m c t S h1).2.1, hS]
    iintro H; iexists _; iexact H

theorem leave11 (S : St F) (d) (hS : S.2.2.2.2.1 = (dats m 0 c).before 11 t d)
    (he : t.val % 11 = 10 → (step m c t S).2.2.2.2.1 = (outsAt m c t.val t.isLt).2.2.2.2.1) :
    owns (c : Thread nD τ) (mems t).a13 fullShare (step m c t S).2.2.2.2.1 ⊢ ((dats m 0 c).leavesExact 11 t : sProp 𝕄) := by
  by_cases h1 : t.val % 11 = 10
  · unfold Dat.leavesExact
    rw [show cfg0.idle 11 (cfg0.grid.coords t) = false from by rw [idle11 t, h1]; rfl, after_11, he h1]
  · rw [Dat.leavesExact_idle (dats m 0 c) 11 t (by rw [idle11 t]; simp only [Bool.not_eq_true', beq_eq_false_iff_ne]; exact h1)
      (by rw [fl11 t]; simp only [beq_eq_false_iff_ne]; omega), (keep m c t S h1).2.2, hS]
    iintro H; iexists _; iexact H

/-- From contents that agree with what the point before left wherever the point reads them. -/
theorem point (d7 d8 d9 d10 d11) (a : Vec F S512x2048 .f32) (ha : ¬t.val % 11 = 0 → a = (prevAt m c t).2.2.2.2.2) :
    iprop(ins c (mems t) (blks m c t)
        ∗ outs c (mems t) ((dats m 0 c).before 7 t d7, (dats m 0 c).before 8 t d8, (dats m 0 c).before 9 t d9, (dats m 0 c).before 10 t d10, (dats m 0 c).before 11 t d11, a))
      ⊢ wp frame (wpE (defs₀ (F := F)) Variants.none c none) Set.univ (bodyAt0 t) (fun _ => iprop(
          ins c (mems t) (blks m c t) ∗ owns (c : Thread nD τ) acc fullShare (outsAt m c t.val t.isLt).2.2.2.2.2
          ∗ (dats m 0 c).leavesExact 7 t ∗ (dats m 0 c).leavesExact 8 t ∗ (dats m 0 c).leavesExact 9 t
          ∗ (dats m 0 c).leavesExact 10 t ∗ (dats m 0 c).leavesExact 11 t)) := by
  generalize hS : (((dats m 0 c).before 7 t d7, (dats m 0 c).before 8 t d8, (dats m 0 c).before 9 t d9, (dats m 0 c).before 10 t d10, (dats m 0 c).before 11 t d11, a) : St F) = S
  have s7 : S.1 = (dats m 0 c).before 7 t d7 := by rw [← hS]
  have s8 : S.2.1 = (dats m 0 c).before 8 t d8 := by rw [← hS]
  have s10 : S.2.2.2.1 = (dats m 0 c).before 10 t d10 := by rw [← hS]
  have s11 : S.2.2.2.2.1 = (dats m 0 c).before 11 t d11 := by rw [← hS]
  have s14 : S.2.2.2.2.2 = a := by rw [← hS]
  clear hS
  obtain ⟨e8, e9, e14, e⟩ := step_live m c t S (prevAt m c t) (fun h => by rw [s8, before_8 m c t h]) (fun h => by rw [s14, ha h])
    (fun _ h => by rw [s10, before_10 m c t h]) (fun _ h => by rw [s11, before_11 m c t h])
  rw [← outsAt_eq] at e8 e9 e14 e
  have l9 : ((dats m 0 c).leavesExact 9 t : sProp 𝕄) = owns (c : Thread nD τ) (mems t).a11 fullShare (step m c t S).2.2.1 := by
    unfold Dat.leavesExact; rw [show cfg0.idle 9 (cfg0.grid.coords t) = false from (live t).2.2.2.2.2.2.2, after_9, e9]
  rw [l9, ← e14]
  iintro ⟨Hi, Ho⟩
  iapply (sound m c t S Set.univ _)
  isplitl [Hi]; · iexact Hi
  isplitl [Ho]; · iexact Ho
  iintro ⟨Hi, ⟨H7, H8, H9, H10, H11, Ha⟩⟩
  isplitl [Hi]; · iexact Hi
  isplitl [Ha]; · iexact Ha
  isplitl [H7]; · iapply (leave7 m c t S d7 s7 (fun h => (e h).1)); iexact H7
  isplitl [H8]; · iapply (leave8 m c t S d8 s8 e8); iexact H8
  isplitl [H9]; · iexact H9
  isplitl [H10]; · iapply (leave10 m c t S d10 s10 (fun h => (e h).2.1)); iexact H10
  iapply (leave11 m c t S d11 s11 (fun h => (e h).2.2)); iexact H11

/-- What the body is called with at point `t`, -/
def bodyPre : sProp 𝕄 :=
  iprop((dats m 0 c).Φ t.castSucc ∗ (dats m 0 c).owesAt () t.castSucc
    ∗ (∃ d, owns (c : Thread nD τ) (mems t).a2 fullShare ((dats m 0 c).before 0 t d))
    ∗ (∃ d, owns (c : Thread nD τ) (mems t).a3 fullShare ((dats m 0 c).before 1 t d))
    ∗ (∃ d, owns (c : Thread nD τ) (mems t).a4 fullShare ((dats m 0 c).before 2 t d))
    ∗ (∃ d, owns (c : Thread nD τ) (mems t).a5 fullShare ((dats m 0 c).before 3 t d))
    ∗ (∃ d, owns (c : Thread nD τ) (mems t).a6 fullShare ((dats m 0 c).before 4 t d))
    ∗ (∃ d, owns (c : Thread nD τ) (mems t).a7 fullShare ((dats m 0 c).before 5 t d))
    ∗ (∃ d, owns (c : Thread nD τ) (mems t).a8 fullShare ((dats m 0 c).before 6 t d))
    ∗ (∃ d, owns (c : Thread nD τ) (mems t).a9 fullShare ((dats m 0 c).before 7 t d))
    ∗ (∃ d, owns (c : Thread nD τ) (mems t).a10 fullShare ((dats m 0 c).before 8 t d))
    ∗ (∃ d, owns (c : Thread nD τ) (mems t).a11 fullShare ((dats m 0 c).before 9 t d))
    ∗ (∃ d, owns (c : Thread nD τ) (mems t).a12 fullShare ((dats m 0 c).before 10 t d))
    ∗ (∃ d, owns (c : Thread nD τ) (mems t).a13 fullShare ((dats m 0 c).before 11 t d)))

/-- and what it returns. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 1000000 in
theorem sound_body :
    bodyPre m c t ⊢ wp frame (wpE (defs₀ (F := F)) Variants.none c none) Set.univ (bodyAt0 t) (fun _ => bodyPost m c t) := by
  unfold bodyPre bodyPost
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, show Phi m c (t.val + 1) t.isLt = iprop(owns (c : Thread nD τ) acc fullShare (outsAt m c t.val t.isLt).2.2.2.2.2 ∗ (∃ r, prngReg c r)) from rfl]
  rw [show ((dats m 0 c).leavesExact 0 t : sProp 𝕄) = owns (c : Thread nD τ) (mems t).a2 fullShare (iblk m c 0 t) from by
    unfold Dat.leavesExact; rw [show cfg0.idle 0 (cfg0.grid.coords t) = false from (live t).1, after_0]]
  rw [show ((dats m 0 c).leavesExact 1 t : sProp 𝕄) = owns (c : Thread nD τ) (mems t).a3 fullShare (iblk m c 1 t) from by
    unfold Dat.leavesExact; rw [show cfg0.idle 1 (cfg0.grid.coords t) = false from (live t).2.1, after_1]]
  rw [show ((dats m 0 c).leavesExact 2 t : sProp 𝕄) = owns (c : Thread nD τ) (mems t).a4 fullShare (iblk m c 2 t) from by
    unfold Dat.leavesExact; rw [show cfg0.idle 2 (cfg0.grid.coords t) = false from (live t).2.2.1, after_2]]
  rw [show ((dats m 0 c).leavesExact 3 t : sProp 𝕄) = owns (c : Thread nD τ) (mems t).a5 fullShare (iblk m c 3 t) from by
    unfold Dat.leavesExact; rw [show cfg0.idle 3 (cfg0.grid.coords t) = false from (live t).2.2.2.1, after_3]]
  rw [show ((dats m 0 c).leavesExact 4 t : sProp 𝕄) = owns (c : Thread nD τ) (mems t).a6 fullShare (iblk m c 4 t) from by
    unfold Dat.leavesExact; rw [show cfg0.idle 4 (cfg0.grid.coords t) = false from (live t).2.2.2.2.1, after_4]]
  rw [show ((dats m 0 c).leavesExact 5 t : sProp 𝕄) = owns (c : Thread nD τ) (mems t).a7 fullShare (iblk m c 5 t) from by
    unfold Dat.leavesExact; rw [show cfg0.idle 5 (cfg0.grid.coords t) = false from (live t).2.2.2.2.2.1, after_5]]
  rw [show ((dats m 0 c).leavesExact 6 t : sProp 𝕄) = owns (c : Thread nD τ) (mems t).a8 fullShare (iblk m c 6 t) from by
    unfold Dat.leavesExact; rw [show cfg0.idle 6 (cfg0.grid.coords t) = false from (live t).2.2.2.2.2.2.1, after_6]]
  have hP : (dats m 0 c).Φ t.castSucc ⊢ (iprop(∃ a, ⌜¬t.val % 11 = 0 → a = (prevAt m c t).2.2.2.2.2⌝ ∗ owns (c : Thread nD τ) acc fullShare a ∗ (∃ r, prngReg c r)) : sProp 𝕄) := by
    by_cases hz : t.val = 0
    · rw [Phi_castSucc m c t, Phi_zero m c _ _ hz, PhiA_eq]
      iintro ⟨⟨%a, HS⟩, Hg⟩
      iexists a; isplitr
      · ipureintro; intro h; exact absurd (by rw [hz]) h
      iframe
    · rw [Phi_castSucc m c t, Phi_pos m c _ _ hz]
      iintro ⟨HS, Hg⟩
      iexists _; isplitr
      · ipureintro; intro _; rw [prevAt_pos m c t hz]
      iframe
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HP := hP $$ HP
  icases HP with ⟨%a, %ha, HS, Hg⟩
  iapply (wp_wand_r frame (wpE (defs₀ (F := F)) Variants.none c none) Set.univ (Q := fun _ => iprop(
      ins c (mems t) (blks m c t) ∗ owns (c : Thread nD τ) acc fullShare (outsAt m c t.val t.isLt).2.2.2.2.2
      ∗ (dats m 0 c).leavesExact 7 t ∗ (dats m 0 c).leavesExact 8 t ∗ (dats m 0 c).leavesExact 9 t
      ∗ (dats m 0 c).leavesExact 10 t ∗ (dats m 0 c).leavesExact 11 t)))
  isplitl [HS H0 H1 H2 H3 H4 H5 H6 H7 H8 H9 H10 H11]
  · iapply (point m c t d7 d8 d9 d10 d11 a ha)
    unfold ins outs; dsimp only; iframe
  · iintro %_ ⟨⟨H0, H1, H2, H3, H4, H5, H6⟩, HS, H7, H8, H9, H10, H11⟩
    iframe

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 44 := N_0; omega)

/-! ## The run of the whole program -/

set_option backward.isDefEq.respectTransparency.types false in
/-- Every execution ends, with every array at what its blocks say and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Head

end
-- ==== Proof.HeadBody.lean ====
/- The bodies of the second block's forward kernel with the loss, read at an index, over any blocks: what each case leaves in
   the outputs' buffers and in the accumulator. -/
module

public import proofs.«01_k».proof.Proof.HeadSteps
public import proofs.«01_k».proof.Proof.Trips

@[expose] public section

set_option maxRecDepth 16384

noncomputable section

namespace Cert.Head

open Cert.Ffn2HeadIdeal Cert.Ffn2HeadIdeal.Gen Cert.Reals Cert.Spec
open Idealize.ShloMosaic Idealize.ShloMosaic.TcCoe Idealize.SL.Sem
open scoped BigOperators
open Memref.IsWhole (read_unread)
open Cert.Trips (row64 ld64 emb64 mem64 ix64 sh sum_sh two)

/-! ## The stored values -/

/-- The normed rows. -/
def NR (h : S512x2048.Idx → EReal) (g : S1x2048.Idx → EReal) (y : S512x2048.Idx) : EReal :=
  h y * rinv (fun d => h (ix2 (y 0) d)) * g (ix2 0 (y 1))

/-- A normed row times a column of a weight. -/
def pr (n : S512x2048.Idx → EReal) (w : S2048x512.Idx → EReal) (s j : Fin 512) : EReal := ∑ k : Fin 2048, n (ix2 s k) * w (ix2 k j)

/-- The two gates. -/
def PG (n : S512x2048.Idx → EReal) (wg wu : S2048x512.Idx → EReal) (y : S2x512x512.Idx) : EReal :=
  if (y 0).val = 1 then pr n wu (y 1) (y 2) else pr n wg (y 1) (y 2)

/-- The gated product. -/
def tH (n : S512x2048.Idx → EReal) (wg wu : S2048x512.Idx → EReal) (s j : Fin 512) : EReal :=
  pr n wg s j * sgK (pr n wg s j) * pr n wu s j

/-- What the accumulator gains. -/
def PA (n : S512x2048.Idx → EReal) (wg wu : S2048x512.Idx → EReal) (wo : S512x2048.Idx → EReal) (y : S512x2048.Idx) : EReal :=
  ∑ k : Fin 512, tH n wg wu (y 0) k * wo (ix2 k (y 1))

/-- A row of the block's output: the input and half the accumulated product. -/
def xo (h a : Fin 2048 → EReal) (d : Fin 2048) : EReal := h d + Ideal.ofBits .f32 0x3F000000#32 * a d

/-- A row's distance from the target, once normed. -/
def er (x g t : Fin 2048 → EReal) (d : Fin 2048) : EReal := x d * rinv x * g d - t d

/-- The normed row's cotangent. -/
def ae (x g t : Fin 2048 → EReal) (d : Fin 2048) : EReal := er x g t d * Ideal.ofBits .f32 0x3A000000#32

/-- A row's mean squared distance. -/
def lr (x g t : Fin 2048 → EReal) : EReal := Ideal.div (∑ d, er x g t d * er x g t d) (Ideal.ofBits .f32 0x45000000#32)

theorem p17 (x : FVec Ideal S64x2048 .f32) (g : FVec Ideal S1x2048 .f32) (i : Fin 64) (d : Fin 2048) :
    k0_pay17 (F := Ideal) x g (ix2 i d) = x (ix2 i d) * rinv (fun d => x (ix2 i d)) * g (ix2 0 d) := by
  pointwise [k0_pay17]
  rfl

theorem p22 (n : FVec Ideal S512x2048 .bf16) (w : FVec Ideal S2048x512 .bf16) (i j : Fin 512) :
    k0_pay22 (F := Ideal) n w (ix3 0 i j) = pr n w i j := by
  pointwise [k0_pay22, k0_pay20, k0_pay19]
  rfl

theorem p23 (n : FVec Ideal S512x2048 .bf16) (w : FVec Ideal S2048x512 .bf16) (i j : Fin 512) :
    k0_pay23 (F := Ideal) n w (ix3 0 i j) = pr n w i j := by
  pointwise [k0_pay23, k0_pay21, k0_pay19]
  rfl

theorem p24 (n : FVec Ideal S512x2048 .bf16) (wg wu : FVec Ideal S2048x512 .bf16) (i j : Fin 512) :
    k0_pay24 (F := Ideal) n wg wu (ix2 i j) = tH n wg wu i j := by
  pointwise [k0_pay24, k0_pay20, k0_pay21, k0_pay19]
  rfl

theorem p1 (v : FVec Ideal S512x2048 .f32) (a : FVec Ideal S512x512 .bf16) (wo : FVec Ideal S512x2048 .bf16) (s : Fin 512) (d : Fin 2048) :
    k0_pay1 (F := Ideal) v a (k0_pay25 wo) (ix2 s d) = v (ix2 s d) + ∑ k : Fin 512, a (ix2 s k) * wo (ix2 k d) := by
  pointwise [k0_pay1, k0_pay25]

theorem p2 (d : Fin 2048) : k0_pay2 (F := Ideal) (ix2 0 d) = (0 : EReal) := by
  pointwise [k0_pay2]

theorem p3 : k0_pay3 (F := Ideal) (ix2 0 0) = (0 : EReal) := by
  pointwise [k0_pay3]

theorem p8 (v : FVec Ideal S1x1 .f32) (j : Fin 128) : k0_pay8 (F := Ideal) v (ix2 0 j) = v (ix2 0 0) := by
  pointwise [k0_pay8]

theorem p9 (a b : FVec Ideal S1x2048 .f32) (d : Fin 2048) : k0_pay9 (F := Ideal) a b (ix2 0 d) = b (ix2 0 d) + a (ix2 0 d) := by
  pointwise [k0_pay9]

theorem p10 (a : FVec Ideal S1x1 .f32) (b : FVec Ideal S1x128 .f32) (j : Fin 128) :
    k0_pay10 (F := Ideal) a b (ix2 0 j) = b (ix2 0 j) + a (ix2 0 0) := by
  pointwise [k0_pay10]

theorem p18 (y : S512x2048.Idx) : k0_pay18 (F := Ideal) y = (0 : EReal) := by
  idx_vars y
  pointwise [k0_pay18]

theorem p11 (h a : FVec Ideal S64x2048 .f32) (i : Fin 64) (d : Fin 2048) :
    k0_pay11 (F := Ideal) h a (ix2 i d) = xo (fun d => h (ix2 i d)) (fun d => a (ix2 i d)) d := by
  pointwise [k0_pay11]
  rfl

theorem p16 (h a : FVec Ideal S64x2048 .f32) (i : Fin 64) :
    Ideal.rsqrt (Ideal.div (k0_pay16 (F := Ideal) h a (ix2 i 0)) (Ideal.ofBits .f32 0x45000000#32) + Ideal.ofBits .f32 0x358637BD#32)
      = rinv (xo (fun d => h (ix2 i d)) (fun d => a (ix2 i d))) := by
  pointwise [k0_pay16, k0_pay11]
  rfl

theorem p13 (h a : FVec Ideal S64x2048 .f32) (g : FVec Ideal S1x2048 .f32) (t : FVec Ideal S64x2048 .f32) (i : Fin 64) (d : Fin 2048) :
    k0_pay13 (F := Ideal) h a g t (ix2 i d) =
      er (xo (fun d => h (ix2 i d)) (fun d => a (ix2 i d))) (fun d => g (ix2 0 d)) (fun d => t (ix2 i d)) d := by
  pointwise [k0_pay13, k0_pay12, k0_pay11]
  rfl

theorem p15 (h a : FVec Ideal S64x2048 .f32) (g : FVec Ideal S1x2048 .f32) (t : FVec Ideal S64x2048 .f32) (i : Fin 64) (d : Fin 2048) :
    k0_pay15 (F := Ideal) h a g t (ix2 i d) =
      ae (xo (fun d => h (ix2 i d)) (fun d => a (ix2 i d))) (fun d => g (ix2 0 d)) (fun d => t (ix2 i d)) d := by
  refine Eq.trans ?_ (congrArg (· * Ideal.ofBits .f32 0x3A000000#32) (p13 h a g t i d))
  pointwise [k0_pay15]

theorem p6 (x : FVec Ideal S64x2048 .f32) (g : FVec Ideal S1x2048 .f32) (e : FVec Ideal S64x2048 .f32) (q : FVec Ideal S64x1 .f32) (i : Fin 64) (d : Fin 2048)
    (hq : Ideal.rsqrt (Ideal.div (q (ix2 i 0)) (Ideal.ofBits .f32 0x45000000#32) + Ideal.ofBits .f32 0x358637BD#32) = rinv fun d => x (ix2 i d)) :
    k0_pay6 (F := Ideal) x (k0_pay12 g) e q (ix2 i d) = normK (fun d => e (ix2 i d)) (fun d => x (ix2 i d)) (fun d => g (ix2 0 d)) d := by
  unfold normK
  rw [← hq]
  pointwise [k0_pay6, k0_pay5, k0_pay4, k0_pay12]

theorem p7 (v : FVec Ideal S1x2048 .f32) (x e : FVec Ideal S64x2048 .f32) (q : FVec Ideal S64x1 .f32) (r : Fin 64 → EReal) (d : Fin 2048)
    (hq : ∀ i, Ideal.rsqrt (Ideal.div (q (ix2 i 0)) (Ideal.ofBits .f32 0x45000000#32) + Ideal.ofBits .f32 0x358637BD#32) = r i) :
    k0_pay7 (F := Ideal) v x e q (ix2 0 d) = v (ix2 0 d) + ∑ i : Fin 64, e (ix2 i d) * (x (ix2 i d) * r i) := by
  simp only [← hq]
  pointwise [k0_pay7, k0_pay5, k0_pay4]

theorem p14 (v : FVec Ideal S1x1 .f32) (h a : FVec Ideal S64x2048 .f32) (g : FVec Ideal S1x2048 .f32) (t : FVec Ideal S64x2048 .f32) :
    k0_pay14 (F := Ideal) v h a g t (ix2 0 0) = v (ix2 0 0) + Ideal.ofBits .f32 0x3F000000#32 *
      ∑ i : Fin 64, lr (xo (fun d => h (ix2 i d)) (fun d => a (ix2 i d))) (fun d => g (ix2 0 d)) (fun d => t (ix2 i d)) := by
  simp only [lr, ← p13]
  pointwise [k0_pay14]

/-! ## The rows of a trip -/

theorem off1 : ∀ k : Fin k0_t1_loop.trips, k0_off1 k = ![64 * k.val, 0] :=
  (by decide +kernel : ∀ k : Fin k0_t1_loop.trips, _)

theorem off2 : ∀ k : Fin k0_t2_loop.trips, k0_off2 k = ![64 * k.val, 0] :=
  (by decide +kernel : ∀ k : Fin k0_t2_loop.trips, _)

theorem trips1 : k0_t1_loop.trips = 8 := by decide +kernel

theorem trips2 : k0_t2_loop.trips = 8 := by decide +kernel

/-! ## The two loops -/

section Loop

variable (c : Dev nD) (i : grid0.Coords) (M : Mems)
  (hc0 : isFirst i) (hc1 : isLast i)
  (X2 : BufTy.Contents (Elt Ideal) M.a2.view.ty) (X3 : BufTy.Contents (Elt Ideal) M.a3.view.ty) (X7 : BufTy.Contents (Elt Ideal) M.a7.view.ty)
  (X8 : BufTy.Contents (Elt Ideal) M.a8.view.ty) (X14 : BufTy.Contents (Elt Ideal) M.a14.view.ty) (init : FVec Ideal S1x2048 .f32 × FVec Ideal S1x1 .f32)
  (R A W : FVec Ideal S512x2048 .f32) (G : FVec Ideal S1x2048 .f32)

/-- The first loop's pieces and the last loop's state before a trip. -/
abbrev pb1 := pb_k0_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14
abbrev st2 := st_k0_t2 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14

theorem nr_of (x : FVec Ideal S64x2048 .f32) (g : FVec Ideal S1x2048 .f32) (i : Fin 64) (d : Fin 2048) (s : Fin 512)
    (hx : ∀ d, x (ix2 i d) = R (ix2 s d)) (hg : g = G) : k0_pay17 (F := Ideal) x g (ix2 i d) = NR R G (ix2 s d) := by
  refine (p17 x g i d).trans ?_
  rw [hx, funext hx, hg]
  rfl

/-- The first loop's pieces hold the normed rows. -/
theorem rows_state (h2 : M.a2.view.read (Elt Ideal) X2 = R) (h3 : M.a3.view.read (Elt Ideal) X3 = G) : ∀ n : ℕ, n ≤ k0_t1_loop.trips →
    View.PiecesOf (Val := Elt Ideal) (e := .bf16) (NR R G) (pb1 c i M hc0 X2 X3 n)
      ∧ ∀ y : S512x2048.Idx, (y 0).val < 64 * n → ∃ p ∈ pb1 c i M hc0 X2 X3 n, y ∈ p.1.set := by
  intro n
  induction n with
  | zero => exact fun _ => ⟨trivial, fun y h => absurd h (by omega)⟩
  | succ n ih =>
    intro hn
    obtain ⟨q1, q2⟩ := ih (by omega)
    have hk : 64 * n + 64 ≤ 512 := by have := trips1; omega
    unfold pb1
    rw [pb_k0_t1_succ (F := Ideal) (k := ⟨n, hn⟩)]
    unfold tripL_k0_t1 trip_k0_t1
    dsimp only
    subst h2 h3
    refine ⟨⟨fun x => ?_, q1⟩, fun y h => ?_⟩
    · refine Eq.trans ?_ (congrArg (NR _ _) (emb64 _ n hk (off1 ⟨n, hn⟩) (k0_off1_inb i ⟨n, hn⟩ hc0) x)).symm
      rw [ix64 x]
      exact nr_of _ _ _ _ _ _ _ (fun d => ld64 _ n hk (off1 ⟨n, hn⟩) _ _ _ _) (View.readAt_full _ _ _)
    · by_cases hy : (y 0).val < 64 * n
      · obtain ⟨p, hp, hm⟩ := q2 y hy
        exact ⟨p, List.mem_cons_of_mem _ hp, hm⟩
      · exact ⟨_, List.mem_cons_self, mem64 _ n (off1 ⟨n, hn⟩) (k0_off1_inb i ⟨n, hn⟩ hc0) y (by omega) (by omega)⟩

/-- The normed rows read back. -/
theorem rows_canon (h2 : M.a2.view.read (Elt Ideal) X2 = R) (h3 : M.a3.view.read (Elt Ideal) X3 = G) (y : S512x2048.Idx) :
    View.canon (Val := Elt Ideal) (pb1 c i M hc0 X2 X3 k0_t1_loop.trips) y = NR R G y := by
  obtain ⟨q, q'⟩ := rows_state c i M hc0 X2 X3 R G h2 h3 _ le_rfl
  have := View.canon_append_of_piecesOf (Val := Elt Ideal) (e := .bf16) _ [] _ q y (q' y (by rw [trips1]; exact (y 0).isLt))
  rwa [List.append_nil] at this

/-- Row `s` of the block's output. -/
def XR (s : Fin 512) : Fin 2048 → EReal := xo (fun d => R (ix2 s d)) (fun d => A (ix2 s d))

/-- The cotangent of row `s` after the norm. -/
def AR (s : Fin 512) : Fin 2048 → EReal := ae (XR R A s) (fun d => G (ix2 0 d)) (fun d => W (ix2 s d))

/-- What the first output's buffer is left with. -/
def DO (y : S512x2048.Idx) : EReal := normK (AR R A W G (y 0)) (XR R A (y 0)) (fun d => G (ix2 0 d)) (y 1)

/-- A row's part of the scale's gradient. -/
def dgr (d : Fin 2048) (s : Fin 512) : EReal := AR R A W G s d * (XR R A s d * rinv (XR R A s))

/-- A row's part of the loss, before the half. -/
def lrow (s : Fin 512) : EReal := lr (XR R A s) (fun d => G (ix2 0 d)) (fun d => W (ix2 s d))

/-- The loss of the block's rows. -/
def LS : EReal := ∑ k ∈ Finset.range 8, Ideal.ofBits .f32 0x3F000000#32 * sh (lrow R A W G) k

theorem xr_of (h a : FVec Ideal S64x2048 .f32) (i : Fin 64) (s : Fin 512) (hr : ∀ d, h (ix2 i d) = R (ix2 s d)) (ha : ∀ d, a (ix2 i d) = A (ix2 s d)) :
    xo (fun d => h (ix2 i d)) (fun d => a (ix2 i d)) = XR R A s := by
  rw [funext hr, funext ha]
  rfl

theorem do_of (h a t : FVec Ideal S64x2048 .f32) (g : FVec Ideal S1x2048 .f32) (i : Fin 64) (d : Fin 2048) (s : Fin 512)
    (hr : ∀ d, h (ix2 i d) = R (ix2 s d)) (ha : ∀ d, a (ix2 i d) = A (ix2 s d)) (ht : ∀ d, t (ix2 i d) = W (ix2 s d)) (hg : g = G) :
    k0_pay6 (F := Ideal) (k0_pay11 h a) (k0_pay12 g) (k0_pay15 h a g t) (k0_pay16 h a) (ix2 i d) = DO R A W G (ix2 s d) := by
  subst hg
  refine (p6 _ _ _ _ i d ((p16 h a i).trans (congrArg rinv (funext fun d => (p11 h a i d).symm)))).trans ?_
  simp only [p11, p15]
  rw [xr_of R A h a i s hr ha, funext ht]
  rfl

theorem dg_of (v : FVec Ideal S1x2048 .f32) (h a t : FVec Ideal S64x2048 .f32) (g : FVec Ideal S1x2048 .f32) (d : Fin 2048) (k : ℕ) (hk : 64 * k + 64 ≤ 512)
    (hr : ∀ i d, h (ix2 i d) = R (ix2 (row64 k hk i) d)) (ha : ∀ i d, a (ix2 i d) = A (ix2 (row64 k hk i) d))
    (ht : ∀ i d, t (ix2 i d) = W (ix2 (row64 k hk i) d)) (hg : g = G) :
    k0_pay7 (F := Ideal) v (k0_pay11 h a) (k0_pay15 h a g t) (k0_pay16 h a) (ix2 0 d) = v (ix2 0 d) + sh (dgr R A W G d) k := by
  subst hg
  refine (p7 v _ _ _ _ d fun i => p16 h a i).trans (congrArg (v (ix2 0 d) + · : EReal → EReal) (Finset.sum_congr rfl fun i _ => ?_))
  rw [p11, p15, xr_of R A h a i _ (hr i) (ha i), funext (ht i), dif_pos (show 64 * k + i.val < 512 from (row64 k hk i).isLt)]
  rfl

theorem ls_of (v : FVec Ideal S1x1 .f32) (h a t : FVec Ideal S64x2048 .f32) (g : FVec Ideal S1x2048 .f32) (k : ℕ) (hk : 64 * k + 64 ≤ 512)
    (hr : ∀ i d, h (ix2 i d) = R (ix2 (row64 k hk i) d)) (ha : ∀ i d, a (ix2 i d) = A (ix2 (row64 k hk i) d))
    (ht : ∀ i d, t (ix2 i d) = W (ix2 (row64 k hk i) d)) (hg : g = G) :
    k0_pay14 (F := Ideal) v h a g t (ix2 0 0) = v (ix2 0 0) + Ideal.ofBits .f32 0x3F000000#32 * sh (lrow R A W G) k := by
  subst hg
  refine (p14 v h a g t).trans (congrArg (fun x : EReal => v (ix2 0 0) + Ideal.ofBits .f32 0x3F000000#32 * x) (Finset.sum_congr rfl fun i _ => ?_))
  rw [xr_of R A h a i _ (hr i) (ha i), funext (ht i), dif_pos (show 64 * k + i.val < 512 from (row64 k hk i).isLt)]
  rfl

/-- The state of the last loop before a trip: the pieces hold the gradient, and the carried sums are of the rows so far. -/
theorem last_state (h2 : M.a2.view.read (Elt Ideal) X2 = R) (h7 : M.a7.view.read (Elt Ideal) X7 = G) (h8 : M.a8.view.read (Elt Ideal) X8 = W)
    (h14 : M.a14.view.read (Elt Ideal) X14 = A) : ∀ n : ℕ, n ≤ k0_t2_loop.trips →
    let s := st2 c i M hc1 X2 X7 X8 X14 init n
    View.PiecesOf (Val := Elt Ideal) (e := .f32) (DO R A W G) s.2
      ∧ (∀ d : Fin 2048, s.1.1 (ix2 0 d) = init.1 (ix2 0 d) + ∑ k ∈ Finset.range n, sh (dgr R A W G d) k)
      ∧ (s.1.2 (ix2 0 0) = init.2 (ix2 0 0) + ∑ k ∈ Finset.range n, Ideal.ofBits .f32 0x3F000000#32 * sh (lrow R A W G) k)
      ∧ (∀ y : S512x2048.Idx, (y 0).val < 64 * n → ∃ p ∈ s.2, y ∈ p.1.set) := by
  intro n
  induction n with
  | zero => exact fun _ => ⟨trivial, fun d => (add_zero _).symm, (add_zero _).symm, fun y h => absurd h (by omega)⟩
  | succ n ih =>
    intro hn
    obtain ⟨q1, q2, q2', q3⟩ := ih (by omega)
    have hk : 64 * n + 64 ≤ 512 := by have := trips2; omega
    have ho := off2 ⟨n, hn⟩
    have hi := k0_off2_inb i ⟨n, hn⟩ hc1
    dsimp only [st2]
    rw [st_k0_t2_succ (F := Ideal) (k := ⟨n, hn⟩)]
    unfold tripL_k0_t2 tripR_k0_t2 trip_k0_t2
    dsimp only
    subst h2 h7 h8 h14
    refine ⟨⟨fun x => ?_, q1⟩, fun d => ?_, ?_, fun y h => ?_⟩
    · refine Eq.trans ?_ (congrArg (DO _ _ _ _) (emb64 _ n hk ho hi x)).symm
      rw [ix64 x]
      exact do_of _ _ _ _ _ _ _ _ _ _ _ (fun d => ld64 _ n hk ho _ _ _ _) (fun d => ld64 _ n hk ho _ _ _ _) (fun d => ld64 _ n hk ho _ _ _ _) (View.readAt_full _ _ _)
    · rw [Finset.sum_range_succ, ← add_assoc, ← q2 d]
      exact dg_of _ _ _ _ _ _ _ _ _ _ n hk (fun i d => ld64 _ n hk ho _ _ _ _) (fun i d => ld64 _ n hk ho _ _ _ _) (fun i d => ld64 _ n hk ho _ _ _ _) (View.readAt_full _ _ _)
    · rw [Finset.sum_range_succ, ← add_assoc, ← q2']
      exact ls_of _ _ _ _ _ _ _ _ _ n hk (fun i d => ld64 _ n hk ho _ _ _ _) (fun i d => ld64 _ n hk ho _ _ _ _) (fun i d => ld64 _ n hk ho _ _ _ _) (View.readAt_full _ _ _)
    · by_cases hy : (y 0).val < 64 * n
      · obtain ⟨p, hp, hm⟩ := q3 y hy
        exact ⟨p, List.mem_cons_of_mem _ hp, hm⟩
      · exact ⟨_, List.mem_cons_self, mem64 _ n ho hi y (by omega) (by omega)⟩

/-- The last loop's results read back. -/
theorem last_end (h2 : M.a2.view.read (Elt Ideal) X2 = R) (h7 : M.a7.view.read (Elt Ideal) X7 = G) (h8 : M.a8.view.read (Elt Ideal) X8 = W)
    (h14 : M.a14.view.read (Elt Ideal) X14 = A) :
    let s := st2 c i M hc1 X2 X7 X8 X14 init k0_t2_loop.trips
    (∀ y, View.canon (Val := Elt Ideal) s.2 y = DO R A W G y)
      ∧ (∀ d : Fin 2048, s.1.1 (ix2 0 d) = (init.1 (ix2 0 d) + ∑ s : Fin 512, dgr R A W G d s : EReal))
      ∧ s.1.2 (ix2 0 0) = (init.2 (ix2 0 0) + LS R A W G : EReal) := by
  obtain ⟨q1, q2, q2', q3⟩ := last_state c i M hc1 X2 X7 X8 X14 init R A W G h2 h7 h8 h14 _ le_rfl
  refine ⟨fun y => ?_, fun d => by rw [q2 d, trips2, sum_sh _ _ rfl], by rw [q2', trips2]; rfl⟩
  have := View.canon_append_of_piecesOf (Val := Elt Ideal) (e := .f32) _ [] _ q1 y (q3 y (by rw [trips2]; exact (y 0).isLt))
  rwa [List.append_nil] at this

end Loop

/-! ## The blocks' values -/

theorem vG (n : FVec Ideal S512x2048 .bf16) (wg wu : FVec Ideal S2048x512 .bf16) (y : S2x512x512.Idx) :
    (if (y 0).val = 1 then k0_pay23 (F := Ideal) n wu (ix3 0 (y 1) (y 2)) else k0_pay22 (F := Ideal) n wg (ix3 0 (y 1) (y 2))) = PG n wg wu y := by
  unfold PG
  split
  · exact p23 n wu (y 1) (y 2)
  · exact p22 n wg (y 1) (y 2)

theorem vA (v : FVec Ideal S512x2048 .f32) (n : FVec Ideal S512x2048 .bf16) (wg wu : FVec Ideal S2048x512 .bf16) (wo : FVec Ideal S512x2048 .bf16) (y : S512x2048.Idx) :
    k0_pay1 (F := Ideal) v (k0_pay24 n wg wu) (k0_pay25 wo) y = (v y + PA n wg wu wo y : EReal) := by
  idx_vars y
  refine (p1 _ _ _ y0 y1).trans (congrArg (v (ix2 y0 y1) + · : EReal → EReal) ?_)
  exact Finset.sum_congr rfl fun k _ => congrArg (· * wo (ix2 k y1) : EReal → EReal) (p24 n wg wu y0 k)

/-! ## The cases -/

section Cases

variable (c : Dev nD) (i : grid0.Coords) (M : Mems) (X : Ins Ideal) (S : St Ideal)

/-- What a first step reads of the normed rows. -/
theorem rows_read (hc0 : isFirst i) (hc1 : ¬isLast i) (z : Vec Ideal S512x2048 .bf16) :
    View.read (Elt Ideal) M.a10.view (M.a10.view.writes (Elt Ideal) (M.h10.unread z)
      (pb1 c i M hc0 (M.h2.unread X.x2) (M.h3.unread X.x3) (Scf.trips 0#32 (Scalar.addi 0#32 8#32) 1#32))) = (NR X.x2 X.x3 : FVec Ideal S512x2048 .bf16) := by
  refine (View.read_writes_eq_canon _ _ _ fun y => rows_cover c i M hc0 hc1 X z y).trans (funext fun y => ?_)
  exact rows_canon c i M hc0 _ _ X.x2 X.x3 (read_unread _ _) (read_unread _ _) y

theorem A10 (hc0 : isFirst i) (hc1 : ¬isLast i) : (outA c i M hc0 hc1 X S).2.1 = (NR X.x2 X.x3 : FVec Ideal S512x2048 .bf16) := by
  unfold outA
  dsimp only
  refine (View.read_writes_junk_eq_canon _ _).trans (funext fun y => ?_)
  frame_open
  exact rows_canon c i M hc0 _ _ X.x2 X.x3 (read_unread _ _) (read_unread _ _) y

theorem A11 (hc0 : isFirst i) (hc1 : ¬isLast i) (y) : (outA c i M hc0 hc1 X S).2.2.1 y = PG (NR X.x2 X.x3) X.x4 X.x5 y := by
  unfold outA
  dsimp only
  frame_out
  rw [rows_read c i M X hc0 hc1]
  exact (two _ _ y).trans (vG _ _ _ y)

theorem A14 (hc0 : isFirst i) (hc1 : ¬isLast i) (y) : (outA c i M hc0 hc1 X S).2.2.2.2.2 y = (0 + PA (NR X.x2 X.x3) X.x4 X.x5 X.x6 y : EReal) := by
  unfold outA
  dsimp only
  frame_out
  rw [rows_read c i M X hc0 hc1]
  exact (vA _ _ _ _ _ y).trans (by rw [p18])

/-- The accumulator as the last loop reads it. -/
def accC : FVec Ideal S512x2048 .f32 := fun y => (S.2.2.2.2.2 y + PA S.2.1 X.x4 X.x5 X.x6 y : EReal)

/-- What the last loop finds in the accumulator. -/
theorem acc_read (a14 : Memref sig .tc .vmem S512x2048 .f32) (f : BufTy.Contents (Elt Ideal) a14.view.ty) (h'') :
    View.read (Elt Ideal) a14.view (a14.view.writes (Elt Ideal) f [⟨Rect.unit (s := S512x2048) ![0, 0] ![512, 2048] h'',
      k0_pay1 (F := Ideal) S.2.2.2.2.2 (k0_pay24 S.2.1 X.x4 X.x5) (k0_pay25 X.x6)⟩]) = accC X S := by
  refine (View.read_writes_eq_canon _ _ _ fun y => ⟨_, List.mem_cons_self, ?_⟩).trans ?_
  · refine (Rect.mem_set_unit (s := S512x2048) (off := ![0, 0]) (size := ![512, 2048]) (inb := h'')).mpr fun a => ?_
    match a with
    | 0 => exact ⟨Nat.zero_le _, by show (y 0).val < 0 + 512; have := (y 0).isLt; exact (Nat.zero_add 512).symm ▸ this⟩
    | 1 => exact ⟨Nat.zero_le _, by show (y 1).val < 0 + 2048; have := (y 1).isLt; exact (Nat.zero_add 2048).symm ▸ this⟩
  · refine (View.canon_cons_unit_lit _ _ _ (fun a => by match a with | 0 => rfl | 1 => rfl)).trans (funext fun y => vA _ _ _ _ _ y)

theorem B11 (hc0 : ¬isFirst i) (hc1 : ¬isLast i) (y) : (outB c i M hc0 hc1 X S).2.2.1 y = PG S.2.1 X.x4 X.x5 y := by
  unfold outB
  dsimp only
  frame_out
  exact (two _ _ y).trans (vG _ _ _ y)

theorem B14 (hc0 : ¬isFirst i) (hc1 : ¬isLast i) (y) : (outB c i M hc0 hc1 X S).2.2.2.2.2 y = accC X S y := by
  unfold outB
  dsimp only
  frame_out
  exact vA _ _ _ _ _ y

theorem C11 (hc0 : ¬isFirst i) (hc1 : isLast i) (hc2 : topRow i) (hc3 : ¬lowRow i) (y) : (outC c i M hc0 hc1 hc2 hc3 X S).2.2.1 y = PG S.2.1 X.x4 X.x5 y := by
  unfold outC
  dsimp only
  frame_out
  exact (two _ _ y).trans (vG _ _ _ y)

theorem C14 (hc0 : ¬isFirst i) (hc1 : isLast i) (hc2 : topRow i) (hc3 : ¬lowRow i) (y) : (outC c i M hc0 hc1 hc2 hc3 X S).2.2.2.2.2 y = accC X S y := by
  unfold outC
  dsimp only
  frame_out
  exact vA _ _ _ _ _ y

theorem C9 (hc0 : ¬isFirst i) (hc1 : isLast i) (hc2 : topRow i) (hc3 : ¬lowRow i) (y) : (outC c i M hc0 hc1 hc2 hc3 X S).1 y = DO X.x2 (accC X S) X.x8 X.x7 y := by
  unfold outC
  dsimp only
  frame_out
  exact (last_end c i M hc1 _ _ _ _ _ X.x2 (accC X S) X.x8 X.x7 (read_unread _ _) (read_unread _ _) (read_unread _ _) (acc_read X S M.a14 _ _)).1 y

theorem C12 (hc0 : ¬isFirst i) (hc1 : isLast i) (hc2 : topRow i) (hc3 : ¬lowRow i) (d : Fin 2048) : (outC c i M hc0 hc1 hc2 hc3 X S).2.2.2.1 (ix2 0 d) = (∑ s : Fin 512, dgr X.x2 (accC X S) X.x8 X.x7 d s : EReal) := by
  unfold outC
  dsimp only
  frame_out
  exact ((last_end c i M hc1 _ _ _ _ _ X.x2 (accC X S) X.x8 X.x7 (read_unread _ _) (read_unread _ _) (read_unread _ _) (acc_read X S M.a14 _ _)).2.1 d).trans (by dsimp only; rw [p2, zero_add])

theorem C13 (hc0 : ¬isFirst i) (hc1 : isLast i) (hc2 : topRow i) (hc3 : ¬lowRow i) (j : Fin 128) : (outC c i M hc0 hc1 hc2 hc3 X S).2.2.2.2.1 (ix2 0 j) = (LS X.x2 (accC X S) X.x8 X.x7 : EReal) := by
  unfold outC
  dsimp only
  frame_out
  refine (p8 _ j).trans ?_
  exact (last_end c i M hc1 _ _ _ _ _ X.x2 (accC X S) X.x8 X.x7 (read_unread _ _) (read_unread _ _) (read_unread _ _) (acc_read X S M.a14 _ _)).2.2.trans (by dsimp only; rw [p3, zero_add])

theorem D11 (hc0 : ¬isFirst i) (hc1 : isLast i) (hc2 : ¬topRow i) (hc3 : lowRow i) (y) : (outD c i M hc0 hc1 hc2 hc3 X S).2.2.1 y = PG S.2.1 X.x4 X.x5 y := by
  unfold outD
  dsimp only
  frame_out
  exact (two _ _ y).trans (vG _ _ _ y)

theorem D14 (hc0 : ¬isFirst i) (hc1 : isLast i) (hc2 : ¬topRow i) (hc3 : lowRow i) (y) : (outD c i M hc0 hc1 hc2 hc3 X S).2.2.2.2.2 y = accC X S y := by
  unfold outD
  dsimp only
  frame_out
  exact vA _ _ _ _ _ y

theorem D9 (hc0 : ¬isFirst i) (hc1 : isLast i) (hc2 : ¬topRow i) (hc3 : lowRow i) (y) : (outD c i M hc0 hc1 hc2 hc3 X S).1 y = DO X.x2 (accC X S) X.x8 X.x7 y := by
  unfold outD
  dsimp only
  frame_out
  exact (last_end c i M hc1 _ _ _ _ _ X.x2 (accC X S) X.x8 X.x7 (read_unread _ _) (read_unread _ _) (read_unread _ _) (acc_read X S M.a14 _ _)).1 y

theorem D12 (hc0 : ¬isFirst i) (hc1 : isLast i) (hc2 : ¬topRow i) (hc3 : lowRow i) (d : Fin 2048) : (outD c i M hc0 hc1 hc2 hc3 X S).2.2.2.1 (ix2 0 d) = (S.2.2.2.1 (ix2 0 d) + ∑ s : Fin 512, dgr X.x2 (accC X S) X.x8 X.x7 d s : EReal) := by
  unfold outD
  dsimp only
  frame_out
  refine (p9 _ _ d).trans (congrArg (S.2.2.2.1 (ix2 0 d) + · : EReal → EReal) ?_)
  exact ((last_end c i M hc1 _ _ _ _ _ X.x2 (accC X S) X.x8 X.x7 (read_unread _ _) (read_unread _ _) (read_unread _ _) (acc_read X S M.a14 _ _)).2.1 d).trans (by dsimp only; rw [p2, zero_add])

theorem D13 (hc0 : ¬isFirst i) (hc1 : isLast i) (hc2 : ¬topRow i) (hc3 : lowRow i) (j : Fin 128) : (outD c i M hc0 hc1 hc2 hc3 X S).2.2.2.2.1 (ix2 0 j) = (S.2.2.2.2.1 (ix2 0 j) + LS X.x2 (accC X S) X.x8 X.x7 : EReal) := by
  unfold outD
  dsimp only
  frame_out
  refine (p10 _ _ j).trans (congrArg (S.2.2.2.2.1 (ix2 0 j) + · : EReal → EReal) ?_)
  exact (last_end c i M hc1 _ _ _ _ _ X.x2 (accC X S) X.x8 X.x7 (read_unread _ _) (read_unread _ _) (read_unread _ _) (acc_read X S M.a14 _ _)).2.2.trans (by dsimp only; rw [p3, zero_add])

end Cases

end Cert.Head

end
-- ==== Proof.HeadKernel.lean ====
/- The second block's forward kernel with the loss read at an index: the blocks it loads, what its points leave, and what its
   five results hold after the run. -/
module

public import proofs.«01_k».proof.Proof.HeadFrame
public import proofs.«01_k».proof.Proof.HeadBody

@[expose] public section

set_option maxRecDepth 16384

noncomputable section

namespace Cert.Head

open Cert.Ffn2HeadIdeal Cert.Ffn2HeadIdeal.Gen Cert.Reals Cert.Spec
open Cert.Trips (sh)
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-! ## What the region finds in its operands -/

theorem N44 (t : Fin cfg0.N) : t.val < 44 := by have := t.isLt; have : cfg0.N = 44 := N_0; omega

theorem idx : ∀ t : Fin cfg0.N, win0_0.index t = ![t.val / 11, 0] ∧ win0_1.index t = ![0, 0] ∧ win0_2.index t = ![0, t.val % 11]
    ∧ win0_3.index t = ![0, 11 + t.val % 11] ∧ win0_4.index t = ![t.val % 11, 0] ∧ win0_5.index t = ![0, 0] ∧ win0_6.index t = ![t.val / 11, 0]
    ∧ win0_7.index t = ![t.val / 11, 0] ∧ win0_8.index t = ![t.val / 11, 0] ∧ win0_9.index t = ![0, t.val / 11, t.val % 11]
    ∧ win0_10.index t = ![0, 0] ∧ win0_11.index t = ![0, 0] :=
  (by decide +kernel : ∀ t : Fin grid0.N, _)

/-- The row of the arrays that grid point `t` holds at row `s` of its block. -/
def row (t : Fin cfg0.N) (s : Fin 512) : Fin 2048 := ⟨512 * (t.val / 11) + s.val, by have := N44 t; omega⟩

/-- The column of the gate's half that grid point `t` holds. -/
def col (t : Fin cfg0.N) (n : Fin 512) : Fin 5632 := ⟨512 * (t.val % 11) + n.val, by omega⟩

/-- Column `n` of the gate's half. -/
def lo (n : Fin 5632) : Fin 11264 := ⟨n.val, by omega⟩

/-- Column `n` of the other half. -/
def hi (n : Fin 5632) : Fin 11264 := ⟨5632 + n.val, by omega⟩

/-- The layer's input. -/
def HH (s d : Fin 2048) : EReal := m (c, Proc.tc.devRef main_arg0) (ix3 0 s d)

/-- The norm's scale. -/
def GG (d : Fin 2048) : EReal := m (c, Proc.tc.devRef main_arg1) (ix2 0 d)

/-- The input projection's weight. -/
def WW (d : Fin 2048) (k : Fin 11264) : EReal := m (c, Proc.tc.devRef main_arg2) (ix3 0 d k)

/-- The output projection's weight. -/
def WO (n : Fin 5632) (k : Fin 2048) : EReal := m (c, Proc.tc.devRef main_arg3) (ix3 0 n k)

/-- The last norm's scale. -/
def GF (d : Fin 2048) : EReal := m (c, Proc.tc.devRef main_arg4) (ix1 d)

/-- The target. -/
def TT (s d : Fin 2048) : EReal := m (c, Proc.tc.devRef main_arg5) (ix3 0 s d)

/-- The normed row. -/
def NN (s d : Fin 2048) : EReal := HH m c s d * rinv (HH m c s) * GG m c d

/-- The projection: the gate's half at 0, the other at 1. -/
def GUv (a : Fin 2) (s : Fin 2048) (n : Fin 5632) : EReal :=
  proj (HH m c) (GG m c) (WW m c) s (if a.val = 1 then hi n else lo n)

/-- The gated product. -/
def HC (s : Fin 2048) (n : Fin 5632) : EReal := GUv m c 0 s n * sgK (GUv m c 0 s n) * GUv m c 1 s n

/-- The product with the output projection. -/
def AC (s d : Fin 2048) : EReal := ∑ n : Fin 5632, HC m c s n * WO m c n d

/-- The block's output. -/
def X3 (s : Fin 2048) : Fin 2048 → EReal := xo (HH m c s) (AC m c s)

/-- The cotangent after the last norm. -/
def A3 (s : Fin 2048) : Fin 2048 → EReal := ae (X3 m c s) (GF m c) (TT m c s)

/-- A row's part of the loss, before the half. -/
def lrs (s : Fin 2048) : EReal := lr (X3 m c s) (GF m c) (TT m c s)

theorem e0 (s d : Fin 2048) : V m c main_v0 (ix2 s d) = HH m c s d := by
  entry_read
  pointwise []
  rfl

theorem e1 (d : Fin 2048) : V m c main_arg1 (ix2 0 d) = GG m c d := by
  entry_read
  rfl

theorem e2 (d : Fin 2048) (k : Fin 11264) : V m c main_v2 (ix2 d k) = WW m c d k := by
  entry_read
  pointwise []
  rfl

theorem e4 (n : Fin 5632) (k : Fin 2048) : V m c main_v4 (ix2 n k) = WO m c n k := by
  entry_read
  pointwise []
  rfl

theorem e5 (d : Fin 2048) : V m c main_v5 (ix2 0 d) = GF m c d := by
  entry_read
  pointwise []
  rfl

theorem e6 (s d : Fin 2048) : V m c main_v6 (ix2 s d) = TT m c s d := by
  entry_read
  pointwise []
  rfl

/-! ## The blocks a grid point loads -/

theorem b0 (t : Fin cfg0.N) (s : Fin 512) (d : Fin 2048) : (show FVec Ideal S512x2048 .f32 from iblk m c 0 t) (ix2 s d) = HH m c (row t s) d := by
  refine Eq.trans ?_ (e0 m c (row t s) d)
  blk_ext [iblk, idx t, row]

theorem b1 (t : Fin cfg0.N) (d : Fin 2048) : (show FVec Ideal S1x2048 .f32 from iblk m c 1 t) (ix2 0 d) = GG m c d := by
  refine Eq.trans ?_ (e1 m c d)
  blk_ext [iblk, idx t]

theorem b2 (t : Fin cfg0.N) (d : Fin 2048) (n : Fin 512) : (show FVec Ideal S2048x512 .bf16 from iblk m c 2 t) (ix2 d n) = WW m c d (lo (col t n)) := by
  refine Eq.trans ?_ (e2 m c d _)
  blk_ext [iblk, idx t, lo, hi, col]

theorem b3 (t : Fin cfg0.N) (d : Fin 2048) (n : Fin 512) : (show FVec Ideal S2048x512 .bf16 from iblk m c 3 t) (ix2 d n) = WW m c d (hi (col t n)) := by
  refine Eq.trans ?_ (e2 m c d _)
  blk_ext [iblk, idx t, lo, hi, col]

theorem b4 (t : Fin cfg0.N) (n : Fin 512) (k : Fin 2048) : (show FVec Ideal S512x2048 .bf16 from iblk m c 4 t) (ix2 n k) = WO m c (col t n) k := by
  refine Eq.trans ?_ (e4 m c (col t n) k)
  blk_ext [iblk, idx t, col]

theorem b5 (t : Fin cfg0.N) (d : Fin 2048) : (show FVec Ideal S1x2048 .f32 from iblk m c 5 t) (ix2 0 d) = GF m c d := by
  refine Eq.trans ?_ (e5 m c d)
  blk_ext [iblk, idx t]

theorem b6 (t : Fin cfg0.N) (s : Fin 512) (d : Fin 2048) : (show FVec Ideal S512x2048 .f32 from iblk m c 6 t) (ix2 s d) = TT m c (row t s) d := by
  refine Eq.trans ?_ (e6 m c (row t s) d)
  blk_ext [iblk, idx t, row]

/-! ## The normed rows' buffer -/

theorem nr_at (t : Fin cfg0.N) (s : Fin 512) (d : Fin 2048) : NR (blks m c t).x2 (blks m c t).x3 (ix2 s d) = NN m c (row t s) d := by
  refine congrArg₂ (fun a b : EReal => a * b) (congrArg₂ (fun a b : EReal => a * b) (b0 m c t s d) (congrArg rinv (funext (b0 m c t s)))) (b1 m c t d)

/-- At every point of a row block the normed rows' buffer holds the block's. -/
theorem n_at : ∀ (n : ℕ) (hn : n < cfg0.N) (s : Fin 512) (d : Fin 2048),
    (outsAt m c n hn).2.1 (ix2 s d) = NN m c (row ⟨n, hn⟩ s) d := by
  intro n
  induction n with
  | zero =>
    intro hn s d
    rw [show outsAt m c 0 hn = step m c ⟨0, hn⟩ (prevAt m c ⟨0, hn⟩) from outsAt_eq m c ⟨0, hn⟩, step_A m c _ _ rfl]
    exact (congrFun (A10 c _ _ _ _ _ _) (ix2 s d)).trans (nr_at m c _ s d)
  | succ n ih =>
    intro hn s d
    rw [show outsAt m c (n + 1) hn = step m c ⟨n + 1, hn⟩ (prevAt m c ⟨n + 1, hn⟩) from outsAt_eq m c ⟨n + 1, hn⟩]
    by_cases h0 : (n + 1) % 11 = 0
    · rw [step_A m c _ _ h0]
      exact (congrFun (A10 c _ _ _ _ _ _) (ix2 s d)).trans (nr_at m c _ s d)
    · rw [keep8 m c _ _ h0, prevAt_pos m c _ (Nat.succ_ne_zero n)]
      refine (ih (Nat.lt_of_succ_lt hn) s d).trans (congrArg (NN m c · d) (Fin.ext ?_))
      dsimp only [row]
      omega

theorem n_prev (t : Fin cfg0.N) (h0 : ¬t.val % 11 = 0) (s : Fin 512) (d : Fin 2048) :
    (prevAt m c t).2.1 (ix2 s d) = NN m c (row t s) d := by
  rw [prevAt_pos m c t (by omega)]
  refine (n_at m c _ _ s d).trans (congrArg (NN m c · d) (Fin.ext ?_))
  dsimp only [row]
  omega

/-! ## The blocks' values in the arrays -/

/-- What the third result holds. -/
def O9 (y : S2x2048x5632.Idx) : EReal := GUv m c (y 0) (y 1) (y 2)

section Blocks

variable (t : Fin cfg0.N) (n wo : S512x2048.Idx → EReal) (wg wu : S2048x512.Idx → EReal)
  (hn : ∀ s d, n (ix2 s d) = NN m c (row t s) d) (h4 : ∀ n k, wo (ix2 n k) = WO m c (col t n) k)
  (h2 : ∀ d n, wg (ix2 d n) = WW m c d (lo (col t n))) (h3 : ∀ d n, wu (ix2 d n) = WW m c d (hi (col t n)))

include hn h2 in
theorem prG (s j : Fin 512) : pr n wg s j = GUv m c 0 (row t s) (col t j) :=
  Finset.sum_congr rfl fun k _ => congrArg₂ (fun a b : EReal => a * b) (hn s k) (h2 k j)

include hn h3 in
theorem prU (s j : Fin 512) : pr n wu s j = GUv m c 1 (row t s) (col t j) :=
  Finset.sum_congr rfl fun k _ => congrArg₂ (fun a b : EReal => a * b) (hn s k) (h3 k j)

include hn h2 h3 in
theorem PG_at (y : S2x512x512.Idx) : PG n wg wu y = O9 m c (ix3 (y 0) (row t (y 1)) (col t (y 2))) := by
  idx_vars y
  show (if y0.val = 1 then pr n wu y1 y2 else pr n wg y1 y2) = GUv m c y0 (row t y1) (col t y2)
  by_cases h : y0.val = 1
  · obtain rfl : y0 = 1 := Fin.ext h
    exact (if_pos rfl).trans (prU m c t n wu hn h3 y1 y2)
  · obtain rfl : y0 = 0 := Fin.ext (by show y0.val = 0; omega)
    exact (if_neg h).trans (prG m c t n wg hn h2 y1 y2)

/-- A grid point's part of the product with the output projection. -/
def part (t : Fin cfg0.N) (y : S512x2048.Idx) : EReal := ∑ k : Fin 512, HC m c (row t (y 0)) (col t k) * WO m c (col t k) (y 1)

include hn h2 h3 h4 in
theorem PA_at (y : S512x2048.Idx) : PA n wg wu wo y = part m c t y := by
  idx_vars y
  refine Finset.sum_congr rfl fun k _ => congrArg₂ (fun a b : EReal => a * b) ?_ (h4 k y1)
  show pr n wg y0 k * sgK (pr n wg y0 k) * pr n wu y0 k = _
  rw [prG m c t n wg hn h2, prU m c t n wu hn h3]
  rfl

end Blocks

/-! ## What the points leave -/

set_option maxHeartbeats 1000000 in
theorem out9 (t : Fin cfg0.N) (y : S2x512x512.Idx) :
    (outsAt m c t.val t.isLt).2.2.1 y = O9 m c (ix3 (y 0) (row t (y 1)) (col t (y 2))) := by
  rw [outsAt_eq]
  by_cases h0 : t.val % 11 = 0
  · rw [step_A m c t _ h0]
    exact (A11 c _ _ _ _ _ _ y).trans (PG_at m c t _ _ _ (nr_at m c t) (b2 m c t) (b3 m c t) y)
  · by_cases h1 : t.val % 11 = 10
    · by_cases h2 : t.val < 11
      · rw [step_C m c t _ h0 h1 h2]
        exact (C11 c _ _ _ _ _ _ _ _ y).trans (PG_at m c t _ _ _ (n_prev m c t h0) (b2 m c t) (b3 m c t) y)
      · rw [step_D m c t _ h0 h1 h2]
        exact (D11 c _ _ _ _ _ _ _ _ y).trans (PG_at m c t _ _ _ (n_prev m c t h0) (b2 m c t) (b3 m c t) y)
    · rw [step_B m c t _ h0 h1]
      exact (B11 c _ _ _ _ _ _ y).trans (PG_at m c t _ _ _ (n_prev m c t h0) (b2 m c t) (b3 m c t) y)

/-- What a point adds to the accumulator it finds. -/
theorem PA_prev (t : Fin cfg0.N) (h0 : ¬t.val % 11 = 0) (y : S512x2048.Idx) :
    PA (prevAt m c t).2.1 (blks m c t).x4 (blks m c t).x5 (blks m c t).x6 y = part m c t y :=
  PA_at m c t (prevAt m c t).2.1 (blks m c t).x6 (blks m c t).x4 (blks m c t).x5 (n_prev m c t h0) (b4 m c t) (b2 m c t) (b3 m c t) y

/-- What a row block's first point adds. -/
theorem PA_first (t : Fin cfg0.N) (y : S512x2048.Idx) :
    PA (NR (blks m c t).x2 (blks m c t).x3) (blks m c t).x4 (blks m c t).x5 (blks m c t).x6 y = part m c t y :=
  PA_at m c t (NR (blks m c t).x2 (blks m c t).x3) (blks m c t).x6 (blks m c t).x4 (blks m c t).x5 (nr_at m c t) (b4 m c t) (b2 m c t) (b3 m c t) y

theorem accA (t : Fin cfg0.N) (h0 : t.val % 11 = 0) (y : S512x2048.Idx) : (outsAt m c t.val t.isLt).2.2.2.2.2 y = (0 + part m c t y : EReal) := by
  rw [outsAt_eq, step_A m c t _ h0]
  rw [A14 c, PA_first]

theorem accP (t : Fin cfg0.N) (h0 : ¬t.val % 11 = 0) (y : S512x2048.Idx) :
    (outsAt m c t.val t.isLt).2.2.2.2.2 y = accC (blks m c t) (prevAt m c t) y := by
  rw [outsAt_eq]
  by_cases h1 : t.val % 11 = 10
  · by_cases h2 : t.val < 11
    · rw [step_C m c t _ h0 h1 h2]
      exact C14 c _ _ _ _ _ _ _ _ y
    · rw [step_D m c t _ h0 h1 h2]
      exact D14 c _ _ _ _ _ _ _ _ y
  · rw [step_B m c t _ h0 h1]
    exact B14 c _ _ _ _ _ _ y

theorem accB (t : Fin cfg0.N) (h0 : ¬t.val % 11 = 0) (y : S512x2048.Idx) :
    (outsAt m c t.val t.isLt).2.2.2.2.2 y = ((outsAt m c (t.val - 1) (by have := t.isLt; omega)).2.2.2.2.2 y + part m c t y : EReal) := by
  refine (accP m c t h0 y).trans (congrArg₂ (fun a b : EReal => a + b) ?_ (PA_prev m c t h0 y))
  rw [prevAt_pos m c t (by omega)]

theorem ac_at (t : Fin cfg0.N) (hr : t.val % 11 = 10) (y : S512x2048.Idx) : (outsAt m c t.val t.isLt).2.2.2.2.2 y = AC m c (row t (y 0)) (y 1) := by
  refine (Pipeline.eq_sum_fin_of_reset_step_apply_of_flush (M := EReal) (fun n h => (outsAt m c n h).2.2.2.2.2) 11 (fun _ => 0) (part m c)
    (accA m c) (accB m c) t hr y).trans ?_
  rw [zero_add]
  refine Fin.sum_mul_add_congr fun s k hl => ?_
  have hrow : row ⟨11 * (t.val / 11) + s.val, Pipeline.run_point_lt_of_flush t hr s⟩ (y 0) = row t (y 0) :=
    Fin.ext (by dsimp only [row]; omega)
  have hcol : col ⟨11 * (t.val / 11) + s.val, Pipeline.run_point_lt_of_flush t hr s⟩ k = ⟨s.val * 512 + k.val, hl⟩ :=
    Fin.ext (by dsimp only [col]; omega)
  rw [hrow, hcol]

/-- The accumulator as a row block's last step reads it. -/
theorem acc_last (t : Fin cfg0.N) (h1 : t.val % 11 = 10) (y : S512x2048.Idx) :
    accC (blks m c t) (prevAt m c t) y = AC m c (row t (y 0)) (y 1) :=
  (accP m c t (by omega) y).symm.trans (ac_at m c t h1 y)

/-- What the first result holds. -/
def O7 (y : S2048x2048.Idx) : EReal := normK (A3 m c (y 0)) (X3 m c (y 0)) (GF m c) (y 1)

/-- A row's part of the scale's gradient. -/
def sg (d s : Fin 2048) : EReal := A3 m c s d * (X3 m c s d * rinv (X3 m c s))

/-- What the fourth result holds. -/
def O10 (y : S1x2048.Idx) : EReal := ∑ s : Fin 2048, sg m c (y 1) s

section Last

variable (t : Fin cfg0.N) (R A W : FVec Ideal S512x2048 .f32) (G : FVec Ideal S1x2048 .f32) (hR : ∀ s d, R (ix2 s d) = HH m c (row t s) d)
  (hA : ∀ y, A y = AC m c (row t (y 0)) (y 1)) (hW : ∀ s d, W (ix2 s d) = TT m c (row t s) d) (hG : ∀ d, G (ix2 0 d) = GF m c d)

include hR hA in
theorem XR_at (s : Fin 512) : XR R A s = X3 m c (row t s) := by
  unfold XR
  rw [funext (hR s), funext fun d => hA (ix2 s d)]
  rfl

include hR hA hW hG in
theorem AR_at (s : Fin 512) : AR R A W G s = A3 m c (row t s) := by
  unfold AR
  rw [XR_at m c t R A hR hA, funext hG, funext (hW s)]
  rfl

include hR hA hW hG in
theorem DO_at (y : S512x2048.Idx) : DO R A W G y = O7 m c (ix2 (row t (y 0)) (y 1)) := by
  idx_vars y
  show normK (AR R A W G y0) (XR R A y0) (fun d => G (ix2 0 d)) y1 = _
  rw [XR_at m c t R A hR hA, AR_at m c t R A W G hR hA hW hG, funext hG]
  rfl

include hR hA hW hG in
theorem dgr_at (d : Fin 2048) (s : Fin 512) : dgr R A W G d s = sg m c d (row t s) := by
  unfold dgr
  rw [XR_at m c t R A hR hA, AR_at m c t R A W G hR hA hW hG]
  rfl

include hR hA hW hG in
theorem lrow_at (s : Fin 512) : lrow R A W G s = lrs m c (row t s) := by
  unfold lrow
  rw [XR_at m c t R A hR hA, funext hG, funext (hW s)]
  rfl

end Last

/-- A function of the arrays' rows at a row block's. -/
def at_block (f : Fin 2048 → EReal) (n : ℕ) (s : Fin 512) : EReal := if h : 512 * n + s.val < 2048 then f ⟨512 * n + s.val, h⟩ else 0

theorem at_row (f : Fin 2048 → EReal) (t : Fin cfg0.N) (s : Fin 512) : f (row t s) = at_block f (t.val / 11) s := by
  unfold at_block
  rw [dif_pos (show 512 * (t.val / 11) + s.val < 2048 from (row t s).isLt)]
  rfl

/-- A block's part of the scale's gradient. -/
def part10 (n : ℕ) (d : Fin 2048) : EReal := ∑ s : Fin 512, at_block (sg m c d) n s

/-- A block's part of the loss. -/
def part11 (n : ℕ) : EReal := ∑ k ∈ Finset.range 8, Ideal.ofBits .f32 0x3F000000#32 * sh (at_block (lrs m c) n) k

/-- What the fifth result holds. -/
def O11 : EReal := ∑ n ∈ Finset.range 4, part11 m c n

theorem block10 (t : Fin cfg0.N) (h1 : t.val % 11 = 10) (d : Fin 2048) :
    ∑ s : Fin 512, dgr (blks m c t).x2 (accC (blks m c t) (prevAt m c t)) (blks m c t).x8 (blks m c t).x7 d s = part10 m c (t.val / 11) d :=
  Finset.sum_congr rfl fun s _ => (dgr_at m c t (blks m c t).x2 (accC (blks m c t) (prevAt m c t)) (blks m c t).x8 (blks m c t).x7
    (b0 m c t) (acc_last m c t h1) (b6 m c t) (b5 m c t) d s).trans (at_row (sg m c d) t s)

theorem block11 (t : Fin cfg0.N) (h1 : t.val % 11 = 10) :
    LS (blks m c t).x2 (accC (blks m c t) (prevAt m c t)) (blks m c t).x8 (blks m c t).x7 = part11 m c (t.val / 11) := by
  unfold LS part11
  rw [show lrow (blks m c t).x2 (accC (blks m c t) (prevAt m c t)) (blks m c t).x8 (blks m c t).x7 = at_block (lrs m c) (t.val / 11) from
    funext fun s => (lrow_at m c t (blks m c t).x2 (accC (blks m c t) (prevAt m c t)) (blks m c t).x8 (blks m c t).x7
      (b0 m c t) (acc_last m c t h1) (b6 m c t) (b5 m c t) s).trans (at_row (lrs m c) t s)]

theorem out7 (t : Fin cfg0.N) (h1 : t.val % 11 = 10) (y : S512x2048.Idx) :
    (outsAt m c t.val t.isLt).1 y = O7 m c (ix2 (row t (y 0)) (y 1)) := by
  have h0 : ¬t.val % 11 = 0 := by omega
  rw [outsAt_eq]
  by_cases h2 : t.val < 11
  · rw [step_C m c t _ h0 h1 h2]
    exact (C9 c _ _ _ _ _ _ _ _ y).trans (DO_at m c t _ _ _ _ (b0 m c t) (acc_last m c t h1) (b6 m c t) (b5 m c t) y)
  · rw [step_D m c t _ h0 h1 h2]
    exact (D9 c _ _ _ _ _ _ _ _ y).trans (DO_at m c t _ _ _ _ (b0 m c t) (acc_last m c t h1) (b6 m c t) (b5 m c t) y)

/-- Away from a row block's last step the two sums' blocks are kept. -/
theorem carry (t : Fin cfg0.N) (h1 : ¬t.val % 11 = 10) (h : 0 < t.val) :
    (outsAt m c t.val t.isLt).2.2.2.1 = (outsAt m c (t.val - 1) (by have := t.isLt; omega)).2.2.2.1
    ∧ (outsAt m c t.val t.isLt).2.2.2.2.1 = (outsAt m c (t.val - 1) (by have := t.isLt; omega)).2.2.2.2.1 := by
  rw [outsAt_eq, prevAt_pos m c t (by omega)]
  exact (keep m c t _ h1).2

/-- The two sums' blocks after each row block: the rows so far. -/
theorem sums : ∀ (n : ℕ) (hn : n < cfg0.N) (h : 10 ≤ n),
    (∀ d : Fin 2048, (outsAt m c n hn).2.2.2.1 (ix2 0 d) = (∑ k ∈ Finset.range ((n + 1) / 11), part10 m c k d : EReal))
    ∧ ∀ j : Fin 128, (outsAt m c n hn).2.2.2.2.1 (ix2 0 j) = (∑ k ∈ Finset.range ((n + 1) / 11), part11 m c k : EReal) := by
  intro n
  induction n with
  | zero => exact fun _ h => absurd h (by omega)
  | succ n ih =>
    intro hn h
    by_cases h1 : (n + 1) % 11 = 10
    · have h0 : ¬(n + 1) % 11 = 0 := by omega
      rw [show outsAt m c (n + 1) hn = step m c ⟨n + 1, hn⟩ (prevAt m c ⟨n + 1, hn⟩) from outsAt_eq m c ⟨n + 1, hn⟩]
      by_cases h2 : n + 1 < 11
      · rw [step_C m c ⟨n + 1, hn⟩ _ h0 h1 h2, show (n + 1 + 1) / 11 = (n + 1) / 11 + 1 by omega, show (n + 1) / 11 = 0 by omega]
        refine ⟨fun d => (C12 c _ _ _ _ _ _ _ _ d).trans ((block10 m c ⟨n + 1, hn⟩ h1 d).trans ?_),
          fun j => (C13 c _ _ _ _ _ _ _ _ j).trans ((block11 m c ⟨n + 1, hn⟩ h1).trans ?_)⟩
        · rw [Finset.sum_range_one]
          exact congrArg (part10 m c · d) (by dsimp only; omega)
        · rw [Finset.sum_range_one]
          exact congrArg (part11 m c) (by dsimp only; omega)
      · have hp := ih (Nat.lt_of_succ_lt hn) (by omega)
        rw [step_D m c ⟨n + 1, hn⟩ _ h0 h1 h2, show (n + 1 + 1) / 11 = (n + 1) / 11 + 1 by omega]
        refine ⟨fun d => (D12 c _ _ _ _ _ _ _ _ d).trans ?_, fun j => (D13 c _ _ _ _ _ _ _ _ j).trans ?_⟩
        · rw [Finset.sum_range_succ, ← hp.1 d, block10 m c ⟨n + 1, hn⟩ h1 d, prevAt_pos m c _ (Nat.succ_ne_zero n)]
          rfl
        · rw [Finset.sum_range_succ, ← hp.2 j, block11 m c ⟨n + 1, hn⟩ h1, prevAt_pos m c _ (Nat.succ_ne_zero n)]
          rfl
    · rw [(carry m c ⟨n + 1, hn⟩ h1 (Nat.succ_pos n)).1, (carry m c ⟨n + 1, hn⟩ h1 (Nat.succ_pos n)).2, show (n + 1 + 1) / 11 = (n + 1) / 11 by omega]
      exact ih (Nat.lt_of_succ_lt hn) (by omega)

theorem out10 (t : Fin cfg0.N) (ht : t.val = 43) (y : S1x2048.Idx) : (outsAt m c t.val t.isLt).2.2.2.1 y = O10 m c y := by
  idx_vars y
  obtain rfl : y0 = 0 := Subsingleton.elim _ _
  refine ((sums m c _ _ (by omega)).1 y1).trans ?_
  rw [ht, show (43 + 1) / 11 = 4 from rfl, Finset.sum_range]
  refine Fin.sum_mul_add_congr fun k s hl => ?_
  have h : 512 * k.val + s.val < 2048 := by have := k.isLt; omega
  rw [at_block, dif_pos h]
  exact congrArg (sg m c y1) (Fin.ext (by dsimp only; omega))

theorem out11 (t : Fin cfg0.N) (ht : t.val = 43) (y : S1x128.Idx) : (outsAt m c t.val t.isLt).2.2.2.2.1 y = O11 m c := by
  idx_vars y
  obtain rfl : y0 = 0 := Subsingleton.elim _ _
  refine ((sums m c _ _ (by omega)).2 y1).trans ?_
  rw [ht, show (43 + 1) / 11 = 4 from rfl]
  rfl

/-! ## The results after the run -/

/-- What the second result holds. -/
def O8 (y : S2048x2048.Idx) : EReal := NN m c (y 0) (y 1)

theorem final7 : (dats m 0 c).arrAt 7 cfg0.N = O7 m c := by
  refine (dats m 0 c).arrAt_eq_of_covers 7 _ (by decide +kernel) fun t hf y => ?_
  blk_simp
  rw [after_7, out7 m c t (beq_iff_eq.mp ((fl7 t).symm.trans hf))]
  refine congrArg (O7 m c) ?_
  blk_point [idx t, row, col]

theorem final8 : (dats m 0 c).arrAt 8 cfg0.N = O8 m c := by
  refine (dats m 0 c).arrAt_eq_of_covers 8 _ (by decide +kernel) fun t hf y => ?_
  blk_simp
  rw [after_8]
  idx_vars y
  refine (n_at m c _ _ y0 y1).trans ?_
  refine congrArg (O8 m c) (a₁ := ix2 (row t y0) y1) ?_
  blk_point [idx t, row, col]

theorem final9 : (dats m 0 c).arrAt 9 cfg0.N = O9 m c := by
  refine (dats m 0 c).arrAt_eq_of_covers 9 _ (by decide +kernel) fun t hf y => ?_
  blk_simp
  rw [after_9, out9]
  refine congrArg (O9 m c) ?_
  blk_point [idx t, row, col]

theorem final10 : (dats m 0 c).arrAt 10 cfg0.N = O10 m c := by
  refine (dats m 0 c).arrAt_eq_of_covers 10 _ (by decide +kernel) fun t hf y => ?_
  blk_simp
  rw [after_10, out10 m c t (beq_iff_eq.mp ((fl10 t).symm.trans hf))]
  refine congrArg (O10 m c) ?_
  blk_point [idx t]

theorem final11 : (dats m 0 c).arrAt 11 cfg0.N = fun _ => O11 m c := by
  refine (dats m 0 c).arrAt_eq_of_covers 11 _ (by decide +kernel) fun t hf y => ?_
  blk_simp
  rw [after_11, out11 m c t (beq_iff_eq.mp ((fl11 t).symm.trans hf))]

/-- The kernel's run: the results and the arguments at its end. -/
theorem run' (ρ : Dev nD → PrngReg) : θ_run defs (onTc (τ := τ) (main (F := Ideal))) ⟨m, fun _ => 0, ρ⟩ (fun r => ∀ c : Dev nD,
    r.2.mem (((c : Dev nD), Proc.tc.devRef main_v7_0)) = O7 m c
    ∧ r.2.mem (((c : Dev nD), Proc.tc.devRef main_v7_1)) = O8 m c
    ∧ r.2.mem (((c : Dev nD), Proc.tc.devRef main_v7_2)) = O9 m c
    ∧ r.2.mem (((c : Dev nD), Proc.tc.devRef main_v7_3)) = O10 m c
    ∧ r.2.mem (((c : Dev nD), Proc.tc.devRef main_v7_4)) = (fun _ => O11 m c)
    ∧ r.2.mem (((c : Dev nD), Proc.tc.devRef main_arg0)) = m (((c : Dev nD), Proc.tc.devRef main_arg0))
    ∧ r.2.mem (((c : Dev nD), Proc.tc.devRef main_arg1)) = m (((c : Dev nD), Proc.tc.devRef main_arg1))
    ∧ r.2.mem (((c : Dev nD), Proc.tc.devRef main_arg2)) = m (((c : Dev nD), Proc.tc.devRef main_arg2))
    ∧ r.2.mem (((c : Dev nD), Proc.tc.devRef main_arg3)) = m (((c : Dev nD), Proc.tc.devRef main_arg3))
    ∧ r.2.mem (((c : Dev nD), Proc.tc.devRef main_arg4)) = m (((c : Dev nD), Proc.tc.devRef main_arg4))
    ∧ r.2.mem (((c : Dev nD), Proc.tc.devRef main_arg5)) = m (((c : Dev nD), Proc.tc.devRef main_arg5))) :=
  (θ_run defs _ _).mono (fun _ h c => ⟨((h.1 c).1 7).trans (final7 m c), ((h.1 c).1 8).trans (final8 m c), ((h.1 c).1 9).trans (final9 m c),
    ((h.1 c).1 10).trans (final10 m c), ((h.1 c).1 11).trans (final11 m c), h.2 c⟩)
    (θ_run_and (run_main m ρ) (frame_of m ρ (dats m) (A_eq m) (run_main m ρ)))

end Cert.Head

end
-- ==== Proof.HeadRef.lean ====
/- The reference of the second feed-forward layer with the loss and its gradient, read at an index. -/
module

public import proofs.«01_k».proof.Proof.Gen.Ffn2HeadRefIdeal.Run
public import proofs.«01_k».proof.Proof.GuRef
public import proofs.«01_k».proof.Proof.NormRef

@[expose] public section

set_option maxRecDepth 16384

noncomputable section

namespace Cert.Ffn2HeadRefIdeal.Read

open Cert.Ffn2HeadRefIdeal Cert.Ffn2HeadRefIdeal.Gen Cert.Ffn2HeadRefIdeal.Value Cert.Reals Cert.Spec
open Cert.Ffn1GuRefIdeal.Read (HN GU GATE UP SG GU_at)
open Idealize.ShloMosaic Idealize.ShloMosaic.TcCoe Idealize.SL.Sem
open scoped BigOperators

/-- The layer's output: the input and half the gated product's projection. -/
def H3 (x0 : FVec Ideal S1x2048x2048 .f32) (gu : FVec Ideal S1x2048x11264 .f32) (x3 : FVec Ideal S1x5632x2048 .f32) : FVec Ideal S1x2048x2048 .f32 :=
  addf x0 (mulf (broadcastInDim S1x2048x2048 ![] bcast_S_S1x2048x2048 (constant S_ .f32 0x3F000000#32))
    (Host.dotGeneral dot_S1x2048x5632_S5632x2048_S1x2048x2048_2_0_01_1_n_n none (mulf (mulf (GATE gu) (SG gu)) (UP gu)) (shapeCast _ x3 shapeCasts_S1x5632x2048_S5632x2048)))

/-- The rows over their root mean squares. -/
def NX (h : FVec Ideal S1x2048x2048 .f32) : FVec Ideal S1x2048x2048 .f32 :=
  mulf h (broadcastInDim S1x2048x2048 ![0, 1, 2] bcast_S1x2048x1_S1x2048x2048_0_1_2 (Host.rsqrt (NormRef.MS h)))

/-- The last norm's scale along the rows. -/
def GB (x4 : FVec Ideal S2048 .f32) : FVec Ideal S1x2048x2048 .f32 :=
  broadcastInDim S1x2048x2048 ![0, 1, 2] bcast_S1x1x2048_S1x2048x2048_0_1_2 (broadcastInDim S1x1x2048 ![2] bcast_S2048_S1x1x2048_2 x4)

/-- The normed rows' distance from the target. -/
def ER (h : FVec Ideal S1x2048x2048 .f32) (x4 : FVec Ideal S2048 .f32) (x5 : FVec Ideal S1x2048x2048 .f32) : FVec Ideal S1x2048x2048 .f32 := subf (mulf (NX h) (GB x4)) x5

/-- A row's length as an array. -/
def LEN : FVec Ideal S1x2048 .f32 := broadcastInDim S1x2048 ![] bcast_S_S1x2048 (constant S_ .f32 0x45000000#32)

/-- The distance's cotangent. -/
def AE (e : FVec Ideal S1x2048x2048 .f32) : FVec Ideal S1x2048x2048 .f32 :=
  mulf (broadcastInDim S1x2048x2048 ![0, 1] bcast_S1x2048_S1x2048x2048_0_1 (Host.divf (broadcastInDim S1x2048 ![] bcast_S_S1x2048 (mulf (constant S_ .f32 0x3F000000#32) (constant S_ .f32 0x3F800000#32))) LEN))
    (mulf (broadcastInDim S1x2048x2048 ![] bcast_S_S1x2048x2048 (constant S_ .f32 0x40000000#32)) e)

/-- The last norm's scale as a row. -/
def row (x4 : FVec Ideal S2048 .f32) : FVec Ideal S1x2048 .f32 := shapeCast _ x4 shapeCasts_S2048_S1x2048

/-- The first result: the cotangent of the layer's output. -/
def R0 (x0 : FVec Ideal S1x2048x2048 .f32) (x1 : FVec Ideal S1x2048 .f32) (x2 : FVec Ideal S1x2048x11264 .f32) (x3 : FVec Ideal S1x5632x2048 .f32) (x4 : FVec Ideal S2048 .f32) (x5 : FVec Ideal S1x2048x2048 .f32) : FVec Ideal S2048x2048 .f32 :=
  shapeCast _ (NormRef.DX (AE (ER (H3 x0 (GU x0 x1 x2) x3) x4 x5)) (H3 x0 (GU x0 x1 x2) x3) (row x4)) shapeCasts_S1x2048x2048_S2048x2048

/-- The second result: the normed rows. -/
def R1 (x0 : FVec Ideal S1x2048x2048 .f32) (x1 : FVec Ideal S1x2048 .f32) : FVec Ideal S2048x2048 .bf16 := truncf .bf16 (shapeCast _ (HN x0 x1) shapeCasts_S1x2048x2048_S2048x2048) bitsLt_bf16_f32

/-- The third result: the two halves of the projection. -/
def R2 (x0 : FVec Ideal S1x2048x2048 .f32) (x1 : FVec Ideal S1x2048 .f32) (x2 : FVec Ideal S1x2048x11264 .f32) : FVec Ideal S2x2048x5632 .bf16 :=
  truncf .bf16 (concatenate S2x2048x5632 0 [⟨S1x2048x5632, (broadcastInDim S1x2048x5632 ![1, 2] bcast_S2048x5632_S1x2048x5632_1_2 (shapeCast _ (GATE (GU x0 x1 x2)) shapeCasts_S1x2048x5632_S2048x5632))⟩,
    ⟨S1x2048x5632, (broadcastInDim S1x2048x5632 ![1, 2] bcast_S2048x5632_S1x2048x5632_1_2 (shapeCast _ (UP (GU x0 x1 x2)) shapeCasts_S1x2048x5632_S2048x5632))⟩] concatenates_S1x2048x5632_S1x2048x5632_S2x2048x5632_d0) bitsLt_bf16_f32

/-- The last norm's scale's gradient, of the cotangent and the rows. -/
def GS (a h : FVec Ideal S1x2048x2048 .f32) : FVec Ideal S1x2048 .f32 :=
  shapeCast _ (Host.reduceAdd (shapeCast _ (Host.reduceAdd (mulf (NX h) a) (constant S_ .f32 0x00000000#32) reducesTo_S1x2048x2048_S1x2048_d1 h_S_) shapeCasts_S1x2048_S1x1x2048) (constant S_ .f32 0x00000000#32) reducesTo_S1x1x2048_S2048_d0_1 h_S_) shapeCasts_S2048_S1x2048

/-- The loss, of the distances. -/
def LO (e : FVec Ideal S1x2048x2048 .f32) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S1x2048x2048_S1x2048_d2 h_S_) LEN) (constant S_ .f32 0x00000000#32) reducesTo_S1x2048_S_d0_1 h_S_))

/-- The fourth result: the gradient of the last norm's scale. -/
def R3 (x0 : FVec Ideal S1x2048x2048 .f32) (x1 : FVec Ideal S1x2048 .f32) (x2 : FVec Ideal S1x2048x11264 .f32) (x3 : FVec Ideal S1x5632x2048 .f32) (x4 : FVec Ideal S2048 .f32) (x5 : FVec Ideal S1x2048x2048 .f32) : FVec Ideal S1x2048 .f32 := GS (AE (ER (H3 x0 (GU x0 x1 x2) x3) x4 x5)) (H3 x0 (GU x0 x1 x2) x3)

/-- The fifth result: the loss. -/
def R4 (x0 : FVec Ideal S1x2048x2048 .f32) (x1 : FVec Ideal S1x2048 .f32) (x2 : FVec Ideal S1x2048x11264 .f32) (x3 : FVec Ideal S1x5632x2048 .f32) (x4 : FVec Ideal S2048 .f32) (x5 : FVec Ideal S1x2048x2048 .f32) : FVec Ideal S1x128 .f32 := LO (ER (H3 x0 (GU x0 x1 x2) x3) x4 x5)

/-- A row cast to two axes and back. -/
theorem row_back (x4 : FVec Ideal S2048 .f32) : (shapeCast _ (row x4) NormRef.sG : FVec Ideal S2048 .f32) = x4 := by
  funext y
  idx_vars y
  pointwise [row]

/-- The cotangent times the scale. -/
theorem AG_row (a : FVec Ideal S1x2048x2048 .f32) (x4 : FVec Ideal S2048 .f32) : NormRef.AG a (row x4) = mulf a (GB x4) := by
  unfold NormRef.AG
  rw [row_back]
  rfl

variable (m : (ℓ : Loc nD τ sig) → Buf (Elt Ideal) ℓ) (ρ : Dev nD → PrngReg) (c : Dev nD)

/-- An argument's array. -/
abbrev A0 : FVec Ideal S1x2048x2048 .f32 := m ((c.tc : Thread nD τ).loc main_arg0)
abbrev A1 : FVec Ideal S1x2048 .f32 := m ((c.tc : Thread nD τ).loc main_arg1)
abbrev A2 : FVec Ideal S1x2048x11264 .f32 := m ((c.tc : Thread nD τ).loc main_arg2)
abbrev A3 : FVec Ideal S1x5632x2048 .f32 := m ((c.tc : Thread nD τ).loc main_arg3)
abbrev A4 : FVec Ideal S2048 .f32 := m ((c.tc : Thread nD τ).loc main_arg4)
abbrev A5 : FVec Ideal S1x2048x2048 .f32 := m ((c.tc : Thread nD τ).loc main_arg5)

theorem out0_eq : res_main_v85 (F := Ideal) m c = R0 (A0 m c) (A1 m c) (A2 m c) (A3 m c) (A4 m c) (A5 m c) := by
  unfold R0 NormRef.DX NormRef.CC
  rw [AG_row]
  unfold res_main_v85
  rfl

theorem out3_eq : res_main_v88 (F := Ideal) m c = R3 (A0 m c) (A1 m c) (A2 m c) (A3 m c) (A4 m c) (A5 m c) := by
  unfold res_main_v88
  rfl

theorem out4_eq : res_main_v89 (F := Ideal) m c = R4 (A0 m c) (A1 m c) (A2 m c) (A3 m c) (A4 m c) (A5 m c) := by
  unfold res_main_v89
  rfl

/-- The reference's run with its results as functions of its arguments. -/
theorem run' : θ_run defs (onTc (τ := τ) (main (F := Ideal))) ⟨m, fun _ => 0, ρ⟩ fun r => ∀ c : Dev nD,
      r.2.mem ((c.tc : Thread nD τ).loc main_v85) = R0 (A0 m c) (A1 m c) (A2 m c) (A3 m c) (A4 m c) (A5 m c)
      ∧ r.2.mem ((c.tc : Thread nD τ).loc main_v87) = R1 (A0 m c) (A1 m c)
      ∧ r.2.mem ((c.tc : Thread nD τ).loc main_v84) = R2 (A0 m c) (A1 m c) (A2 m c)
      ∧ r.2.mem ((c.tc : Thread nD τ).loc main_v88) = R3 (A0 m c) (A1 m c) (A2 m c) (A3 m c) (A4 m c) (A5 m c)
      ∧ r.2.mem ((c.tc : Thread nD τ).loc main_v89) = R4 (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans (out0_eq m c), (h c).2.1.trans rfl, (h c).2.2.1.trans rfl, (h c).2.2.2.1.trans (out3_eq m c),
    (h c).2.2.2.2.1.trans (out4_eq m c), (h c).2.2.2.2.2⟩) (run m ρ)

theorem R1_at (x0 : FVec Ideal S1x2048x2048 .f32) (x1 : FVec Ideal S1x2048 .f32) (s d : Fin 2048) : R1 x0 x1 (ix2 s d) = x0 (ix3 0 s d) * rinv (fun d => x0 (ix3 0 s d)) * x1 (ix2 0 d) := by
  pointwise [R1, HN]
  rfl

theorem R2_at (x0 : FVec Ideal S1x2048x2048 .f32) (x1 : FVec Ideal S1x2048 .f32) (x2 : FVec Ideal S1x2048x11264 .f32) (a : Fin 2) (s : Fin 2048) (n : Fin 5632) :
    R2 x0 x1 x2 (ix3 a s n) = if a.val < 1 then GU x0 x1 x2 (ix3 0 s ⟨n.val, by omega⟩) else GU x0 x1 x2 (ix3 0 s ⟨5632 + n.val, by omega⟩) := by
  pointwise [R2, GATE, UP]
  split_ifs <;> rfl

theorem H3_at (x0 : FVec Ideal S1x2048x2048 .f32) (gu : FVec Ideal S1x2048x11264 .f32) (x3 : FVec Ideal S1x5632x2048 .f32) (s d : Fin 2048) :
    H3 x0 gu x3 (ix3 0 s d) = x0 (ix3 0 s d) + Ideal.ofBits .f32 0x3F000000#32 * ∑ n : Fin 5632, gu (ix3 0 s ⟨n.val, by omega⟩) * sgR (gu (ix3 0 s ⟨n.val, by omega⟩)) * gu (ix3 0 s ⟨5632 + n.val, by omega⟩) * x3 (ix3 0 n d) := by
  pointwise [H3, GATE, UP, SG]
  rfl

theorem NX_at (h : FVec Ideal S1x2048x2048 .f32) (s d : Fin 2048) : NX h (ix3 0 s d) = h (ix3 0 s d) * rinv (fun e => h (ix3 0 s e)) := by
  pointwise [NX]
  rw [NormRef.MS_at (.inl rfl)]
  rfl

theorem ER_at (h : FVec Ideal S1x2048x2048 .f32) (x4 : FVec Ideal S2048 .f32) (x5 : FVec Ideal S1x2048x2048 .f32) (s d : Fin 2048) : ER h x4 x5 (ix3 0 s d) = h (ix3 0 s d) * rinv (fun e => h (ix3 0 s e)) * x4 (ix1 d) - x5 (ix3 0 s d) := by
  pointwise [ER, GB]
  rw [NX_at]

theorem AE_at (e : FVec Ideal S1x2048x2048 .f32) (s d : Fin 2048) : AE e (ix3 0 s d)
    = Ideal.div (Ideal.ofBits .f32 0x3F000000#32 * Ideal.ofBits .f32 0x3F800000#32) (Ideal.ofBits .f32 0x45000000#32) * (Ideal.ofBits .f32 0x40000000#32 * e (ix3 0 s d)) := by
  pointwise [AE, LEN]

theorem R0_at (x0 : FVec Ideal S1x2048x2048 .f32) (x1 : FVec Ideal S1x2048 .f32) (x2 : FVec Ideal S1x2048x11264 .f32) (x3 : FVec Ideal S1x5632x2048 .f32) (x4 : FVec Ideal S2048 .f32) (x5 : FVec Ideal S1x2048x2048 .f32) (s d : Fin 2048) : R0 x0 x1 x2 x3 x4 x5 (ix2 s d)
    = NormRef.DX (AE (ER (H3 x0 (GU x0 x1 x2) x3) x4 x5)) (H3 x0 (GU x0 x1 x2) x3) (row x4) (ix3 0 s d) := by
  pointwise [R0]

theorem row_at (x4 : FVec Ideal S2048 .f32) (d : Fin 2048) : row x4 (ix2 0 d) = x4 (ix1 d) := by
  pointwise [row]

theorem GS_at (a h : FVec Ideal S1x2048x2048 .f32) (d : Fin 2048) : GS a h (ix2 0 d) = ∑ s : Fin 2048, h (ix3 0 s d) * rinv (fun e => h (ix3 0 s e)) * a (ix3 0 s d) := by
  pointwise [GS]
  rw [NormRef.rG_at]
  pointwise []
  refine Finset.sum_congr rfl fun s _ => ?_
  rw [NX_at]

theorem LO_at (e : FVec Ideal S1x2048x2048 .f32) (j : Fin 128) : LO e (ix2 0 j)
    = Ideal.ofBits .f32 0x3F000000#32 * ∑ s : Fin 2048, Ideal.div (∑ d : Fin 2048, e (ix3 0 s d) * e (ix3 0 s d)) (Ideal.ofBits .f32 0x45000000#32) := by
  pointwise [LO, LEN]
  exact congrArg (Ideal.ofBits .f32 0x3F000000#32 * · : EReal → EReal) (Fin.sum_univ_one _)

end Cert.Ffn2HeadRefIdeal.Read

end
-- ==== Proof.Head.lean ====
/- The second feed-forward layer with the loss: the kernel's results are the reference's on finite arguments. -/
module

public import proofs.«01_k».proof.Defs
public import proofs.«01_k».proof.Proof.Gen.Pre_finite_head
public import proofs.«01_k».proof.Proof.Gen.Ffn2Head
public import proofs.«01_k».proof.Proof.HeadKernel
public import proofs.«01_k».proof.Proof.HeadRef

@[expose] public section

set_option maxRecDepth 16384

noncomputable section

namespace Cert.HeadPair

open Idealize.ShloMosaic Idealize.ShloMosaic.TcCoe Idealize.SL.Sem Cert.Reals Cert.Spec
open scoped BigOperators
open Cert.Trips (sh)

/-- Half of each term of a sum is half of the sum. -/
theorem half_sum {ι : Type*} (s : Finset ι) (f : ι → EReal) :
    ∑ i ∈ s, Ideal.ofBits .f32 0x3F000000#32 * f i = Ideal.ofBits .f32 0x3F000000#32 * ∑ i ∈ s, f i := by
  classical
  rw [ofBits_half]
  induction s using Finset.induction_on with
  | empty => simp only [Finset.sum_empty, mul_zero]
  | insert a s ha ih =>
    rw [Finset.sum_insert ha, Finset.sum_insert ha, ih]
    exact (EReal.left_distrib_of_nonneg_of_ne_top (EReal.coe_nonneg.mpr (by norm_num)) (EReal.coe_ne_top _) _ _).symm

/-- The f32 pattern of 1/2048. -/
theorem ofBits_inv : Ideal.ofBits .f32 0x3A000000#32 = ((1 / 2048 : ℝ) : EReal) := by
  simp [Ideal.ofBits, Ideal.ieee, -EReal.coe_mul]; norm_num

/-- Half the mean's cotangent of a square is the element over the row's length. -/
theorem mean_ct {e : EReal} (h : IsReal e) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  obtain ⟨r, rfl⟩ := h
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h1, h2, ofBits_inv, ofBits_half, ofBits_2048, ← EReal.coe_mul, div_pos_coe (by norm_num), ← EReal.coe_mul, ← EReal.coe_mul, ← EReal.coe_mul]
  exact congrArg _ (by ring)

section Values

open Cert.Ffn2HeadIdeal Cert.Head
open Cert.Ffn2HeadRefIdeal.Read hiding row
open Cert.Ffn1GuRefIdeal.Read (GU GU_at)

variable (m : (ℓ : Loc nD τ sig) → Buf (Elt Ideal) ℓ) (c : Dev nD)

/-- An argument's array. -/
abbrev Y0 : FVec Ideal S1x2048x2048 .f32 := m (c, Proc.tc.devRef main_arg0)
abbrev Y1 : FVec Ideal S1x2048 .f32 := m (c, Proc.tc.devRef main_arg1)
abbrev Y2 : FVec Ideal S1x2048x11264 .f32 := m (c, Proc.tc.devRef main_arg2)
abbrev Y3 : FVec Ideal S1x5632x2048 .f32 := m (c, Proc.tc.devRef main_arg3)
abbrev Y4 : FVec Ideal S2048 .f32 := m (c, Proc.tc.devRef main_arg4)
abbrev Y5 : FVec Ideal S1x2048x2048 .f32 := m (c, Proc.tc.devRef main_arg5)

/-- Every element of every argument is a real number. -/
structure Fin' : Prop where
  h0 : ∀ i, IsReal (Y0 m c i)
  h1 : ∀ i, IsReal (Y1 m c i)
  h2 : ∀ i, IsReal (Y2 m c i)
  h3 : ∀ i, IsReal (Y3 m c i)
  h4 : ∀ i, IsReal (Y4 m c i)
  h5 : ∀ i, IsReal (Y5 m c i)

/-- The reference's output of the layer, its distances from the target and their cotangent. -/
abbrev RH : FVec Ideal S1x2048x2048 .f32 := H3 (Y0 m c) (GU (Y0 m c) (Y1 m c) (Y2 m c)) (Y3 m c)
abbrev RE : FVec Ideal S1x2048x2048 .f32 := ER (RH m c) (Y4 m c) (Y5 m c)

variable {m c}

theorem isReal_gu (h : Fin' m c) (a : Fin 2) (s : Fin 2048) (n : Fin 5632) : IsReal (GUv m c a s n) :=
  isReal_proj (fun s d => h.h0 (ix3 0 s d)) (fun d => h.h1 (ix2 0 d)) (fun d j => h.h2 (ix3 0 d j)) s _

theorem isReal_hc (h : Fin' m c) (s : Fin 2048) (n : Fin 5632) : IsReal (HC m c s n) := by
  rw [HC, sgK_eq (isReal_gu h 0 s n)]
  exact ((isReal_gu h 0 s n).mul (isReal_sgR (isReal_gu h 0 s n))).mul (isReal_gu h 1 s n)

theorem isReal_x3 (h : Fin' m c) (s d : Fin 2048) : IsReal (X3 m c s d) :=
  (h.h0 (ix3 0 s d)).add (IsReal.mul ⟨_, ofBits_half⟩ (IsReal.sum _ fun n => (isReal_hc h s n).mul (h.h3 (ix3 0 n d))))

theorem isReal_er (h : Fin' m c) (s d : Fin 2048) : IsReal (er (X3 m c s) (GF m c) (TT m c s) d) :=
  (((isReal_x3 h s d).mul (isReal_rinv _ (isReal_x3 h s))).mul (h.h4 (ix1 d))).sub (h.h5 (ix3 0 s d))

theorem gate_half (s : Fin 2048) (n : Fin 5632) : GU (Y0 m c) (Y1 m c) (Y2 m c) (ix3 0 s ⟨n.val, by omega⟩) = GUv m c 0 s n :=
  GU_at ..

theorem up_half (s : Fin 2048) (n : Fin 5632) : GU (Y0 m c) (Y1 m c) (Y2 m c) (ix3 0 s ⟨5632 + n.val, by omega⟩) = GUv m c 1 s n :=
  GU_at ..

theorem h3_eq (h : Fin' m c) (s d : Fin 2048) : RH m c (ix3 0 s d) = X3 m c s d := by
  rw [RH, H3_at]
  refine congrArg (fun z : EReal => Y0 m c (ix3 0 s d) + Ideal.ofBits .f32 0x3F000000#32 * z) (Finset.sum_congr rfl fun n _ => ?_)
  rw [gate_half, up_half, ← sgK_eq (isReal_gu h 0 s n)]
  rfl

theorem er_eq (h : Fin' m c) (s d : Fin 2048) : RE m c (ix3 0 s d) = er (X3 m c s) (GF m c) (TT m c s) d := by
  rw [RE, ER_at, funext (h3_eq h s), h3_eq h s d]
  rfl

theorem ae_eq (h : Fin' m c) (s d : Fin 2048) : AE (RE m c) (ix3 0 s d) = Cert.Head.A3 m c s d := by
  rw [AE_at, er_eq h s d]
  exact mean_ct (isReal_er h s d)

theorem isReal_a3 (h : Fin' m c) (s d : Fin 2048) : IsReal (Cert.Head.A3 m c s d) := by
  exact (isReal_er h s d).mul ⟨_, ofBits_inv⟩

/-- The first result: the cotangent of the layer's output. -/
theorem out0 (h : Fin' m c) : O7 m c = R0 (Y0 m c) (Y1 m c) (Y2 m c) (Y3 m c) (Y4 m c) (Y5 m c) := by
  funext y
  idx_vars y
  rw [R0_at, NormRef.DX_at (.inl rfl), funext (ae_eq h y0), funext (h3_eq h y0), funext (row_at (Y4 m c))]
  exact norm_eq (isReal_a3 h y0) (isReal_x3 h y0) (fun d => h.h4 (ix1 d)) y1

/-- The second result: the normed rows. -/
theorem out1 : O8 m c = R1 (Y0 m c) (Y1 m c) := by
  funext y
  idx_vars y
  exact (R1_at _ _ y0 y1).symm

/-- The third result: the two halves of the projection. -/
theorem out2 : O9 m c = R2 (Y0 m c) (Y1 m c) (Y2 m c) := by
  funext y
  idx_vars y
  rw [R2_at, gate_half, up_half]
  by_cases ha : y0.val = 1
  · obtain rfl : y0 = 1 := Fin.ext ha
    rfl
  · obtain rfl : y0 = 0 := Fin.ext (by show y0.val = 0; omega)
    rfl

/-- The fourth result: the gradient of the last norm's scale. -/
theorem out3 (h : Fin' m c) : O10 m c = R3 (Y0 m c) (Y1 m c) (Y2 m c) (Y3 m c) (Y4 m c) (Y5 m c) := by
  funext y
  idx_vars y
  obtain rfl : y0 = 0 := Subsingleton.elim _ _
  refine Eq.trans ?_ (GS_at (AE (RE m c)) (RH m c) y1).symm
  refine Finset.sum_congr rfl fun s _ => ?_
  rw [ae_eq h s y1, funext (h3_eq h s), h3_eq h s y1]
  exact mul_comm _ _

theorem loss_blocks (m : (ℓ : Loc nD τ sig) → Buf (Elt Ideal) ℓ) (c : Dev nD) :
    O11 m c = Ideal.ofBits .f32 0x3F000000#32 * ∑ s : Fin 2048, lrs m c s := by
  unfold O11 part11
  rw [show (∑ n ∈ Finset.range 4, ∑ k ∈ Finset.range 8, Ideal.ofBits .f32 0x3F000000#32 * sh (at_block (lrs m c) n) k : EReal)
    = ∑ n ∈ Finset.range 4, Ideal.ofBits .f32 0x3F000000#32 * ∑ s : Fin 512, at_block (lrs m c) n s from
      Finset.sum_congr rfl fun n _ => (half_sum _ _).trans (congrArg _ (Cert.Trips.sum_sh _ 8 rfl)), half_sum, Finset.sum_range]
  refine congrArg _ (Fin.sum_mul_add_congr fun k s hl => ?_)
  have h : 512 * k.val + s.val < 2048 := by have := k.isLt; omega
  rw [at_block, dif_pos h]
  exact congrArg (lrs m c) (Fin.ext (by dsimp only; omega))

/-- The fifth result: the loss. -/
theorem out4 (h : Fin' m c) : (fun _ => O11 m c) = R4 (Y0 m c) (Y1 m c) (Y2 m c) (Y3 m c) (Y4 m c) (Y5 m c) := by
  funext y
  idx_vars y
  obtain rfl : y0 = 0 := Subsingleton.elim _ _
  refine Eq.trans ?_ (LO_at (RE m c) y1).symm
  rw [loss_blocks]
  refine congrArg _ (Finset.sum_congr rfl fun s _ => ?_)
  rw [show (∑ d : Fin 2048, RE m c (ix3 0 s d) * RE m c (ix3 0 s d) : EReal) = ∑ d, er (X3 m c s) (GF m c) (TT m c s) d * er (X3 m c s) (GF m c) (TT m c s) d from
    Finset.sum_congr rfl fun d _ => by rw [er_eq h s d]]
  rfl

end Values

theorem fin_of (m : (ℓ : Loc Cert.Ffn2HeadIdeal.nD Cert.Ffn2HeadIdeal.τ Cert.Ffn2HeadIdeal.sig) → Buf (Elt Ideal) ℓ)
    (h : Cert.Pre_Ffn2HeadIdeal_finite_head m) (c : Dev Cert.Ffn2HeadIdeal.nD) : Fin' m c := by
  obtain ⟨h0, h1, h2, h3, h4, h5⟩ := h c
  exact ⟨real_of _ _ h0, real_of _ _ h1, real_of _ _ h2, real_of _ _ h3, real_of _ _ h4, real_of _ _ h5⟩

/-- The kernel computes the reference on finite arguments. -/
theorem algebraic : Cert.algebraic_Ffn2HeadIdeal_Ffn2HeadRefIdeal_pre_finite_head := by
  pair_intro
  · run_from Cert.Head.run' m g
  · run_from Cert.Ffn2HeadRefIdeal.Read.run' m' g'
    · exact (out0 (fin_of m hpre c)).symm
    · exact out1.symm
    · exact out2.symm
    · exact (out3 (fin_of m hpre c)).symm
    · exact (out4 (fin_of m hpre c)).symm

end Cert.HeadPair

end
-- ==== Proof.MixFKernel.lean ====
/- The kernel of the mixer's norm and input projection, read at an index. -/
module

public import proofs.«01_k».proof.Proof.Gen.MixFwdIdeal.Value
public import Idealize.ShloMosaic.Lib.Pipeline.ValueKit
public import Idealize.ShloMosaic.Lib.Pipeline.ReadBack
public import Idealize.ShloMosaic.Lib.VecWindow
public import Idealize.ShloMosaic.Lib.StableHlo.ReadAt
public import Idealize.ShloMosaic.Lib.Claim
public import proofs.«01_k».proof.Proof.Trips

@[expose] public section

set_option maxRecDepth 16384

noncomputable section

namespace Cert.MixFwdIdeal.Read

open Cert.MixFwdIdeal Cert.MixFwdIdeal.Gen Cert.MixFwdIdeal.Value Cert.Reals Cert.Spec
open Idealize.ShloMosaic Idealize.ShloMosaic.TcCoe Idealize.SL.Sem
open Cert.Trips (ld64 emb64 mem64 ix64)
open Idealize.ShloMosaic.Pipeline (Dat)
open scoped BigOperators

/-! ## The stored values -/

/-- The normed rows of a block. -/
def NR (h : S256x2048.Idx → EReal) (g : S1x2048.Idx → EReal) (y : S256x2048.Idx) : EReal :=
  h y * rinv (fun d => h (ix2 (y 0) d)) * g (ix2 0 (y 1))

theorem p1 (x : FVec Ideal S64x2048 .f32) (g : FVec Ideal S1x2048 .f32) (i : Fin 64) (d : Fin 2048) :
    k0_pay1 (F := Ideal) x g (ix2 i d) = x (ix2 i d) * rinv (fun d => x (ix2 i d)) * g (ix2 0 d) := by
  pointwise [k0_pay1]
  rfl

theorem p3 (n : FVec Ideal S256x2048 .bf16) (w : FVec Ideal S4096x2048 .bf16) (i : Fin 256) (k : Fin 4096) :
    k0_pay3 (F := Ideal) n w (ix2 i k) = ∑ d : Fin 2048, n (ix2 i d) * w (ix2 k d) := by
  pointwise [k0_pay3, k0_pay2]

theorem p4 (n : FVec Ideal S256x2048 .bf16) (w : FVec Ideal S128x2048 .bf16) (i : Fin 256) (k : Fin 128) :
    k0_pay4 (F := Ideal) n w (ix2 i k) = ∑ d : Fin 2048, n (ix2 i d) * w (ix2 k d) := by
  pointwise [k0_pay4, k0_pay2]

/-! ## The loop over the rows of a block -/

theorem off : ∀ k : Fin k0_t1_loop.trips, k0_off1 k = ![64 * k.val, 0] :=
  (by decide +kernel : ∀ k : Fin k0_t1_loop.trips, _)

theorem trips : k0_t1_loop.trips = 4 := by decide +kernel

section Loop

variable (𝒱 : Variants) (c : Dev nD) (bd : Option 𝒱.V) (i : grid0.Coords)
  (arg1 : Memref sig .tc .vmem S256x2048 .f32) (harg1 : arg1.IsWhole)
  (arg2 : Memref sig .tc .vmem S1x2048 .f32) (harg2 : arg2.IsWhole)
  (arg3 : Memref sig .tc .vmem S4112x2048 .bf16) (harg3 : arg3.IsWhole)
  (arg4 : Memref sig .tc .vmem S128x2048 .bf16) (harg4 : arg4.IsWhole)
  (arg5 : Memref sig .tc .vmem S256x4224 .f32) (harg5 : arg5.IsWhole)
  (arg6 : Memref sig .tc .vmem S256x2048 .bf16) (harg6 : arg6.IsWhole)
  (X1 : BufTy.Contents (Elt Ideal) arg1.view.ty) (X2 : BufTy.Contents (Elt Ideal) arg2.view.ty) (H : FVec Ideal S256x2048 .f32) (G : FVec Ideal S1x2048 .f32)

theorem nr_of (x : FVec Ideal S64x2048 .f32) (g : FVec Ideal S1x2048 .f32) (i : Fin 64) (d : Fin 2048) (s : Fin 256)
    (hx : ∀ d, x (ix2 i d) = H (ix2 s d)) (hg : g = G) : k0_pay1 (F := Ideal) x g (ix2 i d) = NR H G (ix2 s d) := by
  refine (p1 x g i d).trans ?_
  rw [hx, funext hx, hg]
  rfl

/-- The loop's pieces hold the normed rows. -/
theorem rows_state (h1 : arg1.view.read (Elt Ideal) X1 = H) (h2 : arg2.view.read (Elt Ideal) X2 = G) : ∀ n : ℕ, n ≤ k0_t1_loop.trips →
    View.PiecesOf (Val := Elt Ideal) (e := .bf16) (NR H G) (pb_k0_t1 (F := Ideal) 𝒱 c bd i arg1 harg1 arg2 harg2 arg3 harg3 arg4 harg4 arg5 harg5 arg6 harg6 X1 X2 n)
      ∧ ∀ y : S256x2048.Idx, (y 0).val < 64 * n → ∃ p ∈ pb_k0_t1 (F := Ideal) 𝒱 c bd i arg1 harg1 arg2 harg2 arg3 harg3 arg4 harg4 arg5 harg5 arg6 harg6 X1 X2 n, y ∈ p.1.set := by
  intro n
  induction n with
  | zero => exact fun _ => ⟨trivial, fun y h => absurd h (by omega)⟩
  | succ n ih =>
    intro hn
    have hk : 64 * n + 64 ≤ 256 := by have := trips; omega
    have ho := off ⟨n, hn⟩
    obtain ⟨q1, q2⟩ := ih (by omega)
    rw [pb_k0_t1_succ (F := Ideal) 𝒱 c bd i arg1 harg1 arg2 harg2 arg3 harg3 arg4 harg4 arg5 harg5 arg6 harg6 X1 X2 ⟨n, hn⟩]
    unfold tripL_k0_t1 trip_k0_t1
    dsimp only
    subst h1 h2
    refine ⟨⟨fun x => ?_, q1⟩, fun y h => ?_⟩
    · refine Eq.trans ?_ (congrArg (NR _ _) (emb64 _ n hk ho (k0_off1_inb ⟨n, hn⟩) x)).symm
      rw [ix64 x]
      exact nr_of _ _ _ _ _ _ _ (fun d => ld64 _ n hk ho _ _ _ _) (View.readAt_full _ _ _)
    · by_cases hy : (y 0).val < 64 * n
      · obtain ⟨p, hp, hm⟩ := q2 y hy
        exact ⟨p, List.mem_cons_of_mem _ hp, hm⟩
      · exact ⟨_, List.mem_cons_self, mem64 _ n ho (k0_off1_inb ⟨n, hn⟩) y (by omega) (by omega)⟩

/-- The normed rows read back. -/
theorem rows_canon (h1 : arg1.view.read (Elt Ideal) X1 = H) (h2 : arg2.view.read (Elt Ideal) X2 = G) (y : S256x2048.Idx) :
    View.canon (Val := Elt Ideal) (pb_k0_t1 (F := Ideal) 𝒱 c bd i arg1 harg1 arg2 harg2 arg3 harg3 arg4 harg4 arg5 harg5 arg6 harg6 X1 X2 k0_t1_loop.trips) y = NR H G y := by
  obtain ⟨q, q'⟩ := rows_state 𝒱 c bd i arg1 harg1 arg2 harg2 arg3 harg3 arg4 harg4 arg5 harg5 arg6 harg6 X1 X2 H G h1 h2 _ le_rfl
  have := View.canon_append_of_piecesOf (Val := Elt Ideal) (e := .bf16) _ [] _ q y (q' y (by rw [trips]; exact (y 0).isLt))
  rwa [List.append_nil] at this

end Loop

variable (m : (ℓ : Loc nD τ sig) → Buf (Elt Ideal) ℓ) (c : Dev nD)

/-! ## What the region finds in its operands -/

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

/-- The row of the arrays that grid point `t` holds at row `s` of its block. -/
def row (t : Fin cfg0.N) (s : Fin 256) : Fin 2048 := ⟨256 * t.val + s.val, by have := t.isLt; have : cfg0.N = 8 := N_0; omega⟩

/-- The layer's input. -/
def HH (s d : Fin 2048) : EReal := m (c, Proc.tc.devRef main_arg0) (ix3 0 s d)

/-- The norm's scale. -/
def GG (d : Fin 2048) : EReal := m (c, Proc.tc.devRef main_arg1) (ix2 0 d)

/-- The projection's weight. -/
def WW (d : Fin 2048) (k : Fin 4112) : EReal := m (c, Proc.tc.devRef main_arg2) (ix3 0 d k)

/-- The weight with its columns padded by zeros. -/
def WP (d : Fin 2048) (k : Fin 4224) : EReal := if h : k.val < 4112 then WW m c d ⟨k.val, h⟩ else 0

theorem zero_word (φ : FTy) : (FloatOps.sitofp (F := Ideal) φ (0#32 : BitVec 32) : EReal) = 0 := by
  show (((0#32 : BitVec 32).toInt : ℝ) : EReal) = 0
  simp

theorem e0 (s d : Fin 2048) : V m c main_v5 (ix2 s d) = HH m c s d := by
  unfold V
  simp only [List.flatten_cons, List.flatten_nil, List.append_nil, List.cons_append, List.nil_append, hostOps0, hostOps0_1, hostOps0_2]
  after_reads_at
  rfl

theorem e1 (d : Fin 2048) : V m c main_arg1 (ix2 0 d) = GG m c d := by
  entry_read
  rfl

theorem e2 (k : Fin 4112) (d : Fin 2048) : V m c main_v2 (ix2 k d) = WW m c d k := by
  unfold V
  simp only [List.flatten_cons, List.flatten_nil, List.append_nil, List.cons_append, List.nil_append, hostOps0, hostOps0_1, hostOps0_2]
  after_reads_at
  rfl

theorem e3 (k : Fin 128) (d : Fin 2048) : V m c main_v4 (ix2 k d) = if h : k.val < 16 then WW m c d ⟨4096 + k.val, by omega⟩ else 0 := by
  unfold V
  simp only [List.flatten_cons, List.flatten_nil, List.append_nil, List.cons_append, List.nil_append, hostOps0, hostOps0_1, hostOps0_2]
  after_reads_at
  rw [zero_word]
  rfl

/-! ## The blocks a grid point loads -/

theorem b0 (t : Fin cfg0.N) (s : Fin 256) (d : Fin 2048) : (show FVec Ideal S256x2048 .f32 from iblk m c 0 t) (ix2 s d) = HH m c (row t s) d := by
  refine Eq.trans ?_ (e0 m c (row t s) d)
  blk_ext [iblk, idx t, row]

theorem b1 (t : Fin cfg0.N) (d : Fin 2048) : (show FVec Ideal S1x2048 .f32 from iblk m c 1 t) (ix2 0 d) = GG m c d := by
  refine Eq.trans ?_ (e1 m c d)
  blk_ext [iblk, idx t]

theorem b2 (t : Fin cfg0.N) (k : Fin 4112) (d : Fin 2048) : (show FVec Ideal S4112x2048 .bf16 from iblk m c 2 t) (ix2 k d) = WW m c d k := by
  refine Eq.trans ?_ (e2 m c k d)
  blk_ext [iblk, idx t]

theorem b3 (t : Fin cfg0.N) (k : Fin 128) (d : Fin 2048) : (show FVec Ideal S128x2048 .bf16 from iblk m c 3 t) (ix2 k d) = WP m c d ⟨4096 + k.val, by omega⟩ := by
  refine Eq.trans ?_ ((e3 m c k d).trans ?_)
  · blk_ext [iblk, idx t]
  · unfold WP
    split_ifs with h h' h'
    · rfl
    · exact absurd (show 4096 + k.val < 4112 by omega) h'
    · exact absurd (show k.val < 16 by have : 4096 + k.val < 4112 := h'; omega) h
    · rfl

/-! ## The stored blocks -/

/-- The normed rows. -/
def O5 (y : S2048x2048.Idx) : EReal := HH m c (y 0) (y 1) * rinv (HH m c (y 0)) * GG m c (y 1)

/-- The projected rows, the columns beyond the weight's being zero. -/
def O4 (y : S2048x4224.Idx) : EReal := ∑ d : Fin 2048, O5 m c (ix2 (y 0) d) * WP m c d (y 1)

theorem nr_block (t : Fin cfg0.N) (H : FVec Ideal S256x2048 .f32) (G : FVec Ideal S1x2048 .f32) (hH : ∀ s d, H (ix2 s d) = HH m c (row t s) d)
    (hG : ∀ d, G (ix2 0 d) = GG m c d) (s : Fin 256) (d : Fin 2048) : NR H G (ix2 s d) = O5 m c (ix2 (row t s) d) := by
  show H (ix2 s d) * rinv (fun e => H (ix2 s e)) * G (ix2 0 d) = _
  rw [hH, funext (hH s), hG]
  rfl

theorem out5 (t : Fin cfg0.N) (s : Fin 256) (d : Fin 2048) : (outsAt0 m c t).2 (ix2 s d) = O5 m c (ix2 (row t s) d) := by
  unfold outsAt0
  frame_out
  exact (rows_canon _ _ _ _ _ _ _ _ _ _ _ _ _ _ _ _ _ _ _ _ (Memref.IsWhole.read_unread _ _) (Memref.IsWhole.read_unread _ _) _).trans
    (nr_block m c t _ _ (b0 m c t) (b1 m c t) s d)

/-- The normed rows as the body reads them back. -/
theorem nread (t : Fin cfg0.N) {sg : RefSig} {κ : Kind} {sp : Space} (v : View sg κ sp S256x2048 .bf16) (L : List (View.Piece (Elt Ideal) S256x2048 .bf16))
    (hL : ∀ s d, View.canon (Val := Elt Ideal) L (ix2 s d) = O5 m c (ix2 (row t s) d)) (h) (s : Fin 256) (d : Fin 2048) :
    (show FVec Ideal S256x2048 .bf16 from v.readCov L (Rect.unit (s := S256x2048) ![0, 0] S256x2048.size h).toLoadRect) (ix2 s d) = O5 m c (ix2 (row t s) d) := by
  refine Eq.trans ?_ (hL s d)
  exact congrFun ((View.readAt_full v (v.writes (Elt Ideal) v.junk L) h).trans (View.read_writes_junk_eq_canon v L)) (ix2 s d)

/-- A block's projected rows. -/
def UB (t : Fin cfg0.N) (y : S256x4224.Idx) : EReal := O4 m c (ix2 (row t (y 0)) (y 1))

theorem u_lo (t : Fin cfg0.N) (n : FVec Ideal S256x2048 .bf16) (w : FVec Ideal S4096x2048 .bf16) (hn : ∀ s d, n (ix2 s d) = O5 m c (ix2 (row t s) d))
    (hw : ∀ k d, w (ix2 k d) = WP m c d ⟨k.val, by omega⟩) (i : Fin 256) (k : Fin 4096) :
    k0_pay3 (F := Ideal) n w (ix2 i k) = O4 m c (ix2 (row t i) ⟨k.val, by omega⟩) := by
  refine (p3 n w i k).trans (Finset.sum_congr rfl fun d _ => ?_)
  rw [hn, hw]
  rfl

theorem u_hi (t : Fin cfg0.N) (n : FVec Ideal S256x2048 .bf16) (w : FVec Ideal S128x2048 .bf16) (hn : ∀ s d, n (ix2 s d) = O5 m c (ix2 (row t s) d))
    (hw : ∀ k d, w (ix2 k d) = WP m c d ⟨4096 + k.val, by omega⟩) (i : Fin 256) (k : Fin 128) :
    k0_pay4 (F := Ideal) n w (ix2 i k) = O4 m c (ix2 (row t i) ⟨4096 + k.val, by omega⟩) := by
  refine (p4 n w i k).trans (Finset.sum_congr rfl fun d _ => ?_)
  rw [hn, hw]
  rfl

/-- A column of the weight among the first 4096. -/
theorem w_lo (t : Fin cfg0.N) (h) (k : Fin 4096) (d : Fin 2048) :
    View.ld (Val := Elt Ideal) (e' := .bf16) (show FVec Ideal S4112x2048 .bf16 from iblk m c 2 t) (Rect.unit ![0, 0] ![4096, 2048] h) (ix2 k d) = WP m c d ⟨k.val, by omega⟩ := by
  refine (View.ld_unit_apply_of (Val := Elt Ideal) (e := .bf16) (show FVec Ideal S4112x2048 .bf16 from iblk m c 2 t) _ _ _ _ (ix2 (⟨k.val, by omega⟩ : Fin 4112) d) fun a => ?_).trans ((b2 m c t _ d).trans ?_)
  · match a with
    | 0 => exact (Nat.zero_add _).symm
    | 1 => exact (Nat.zero_add _).symm
  · unfold WP
    rw [dif_pos (show k.val < 4112 by omega)]

theorem emb_lo (h) (x : S256x4096.Idx) : (Rect.unit (s := S256x4224) ![0, 0] S256x4096.size h).emb x = ix2 (x 0) (⟨(x 1).val, (x 1).isLt.trans (by decide)⟩ : Fin 4224) := by
  funext a
  refine Fin.ext ?_
  match a with
  | 0 => exact (Nat.zero_add _).trans (Nat.one_mul _)
  | 1 => exact (Nat.zero_add _).trans (Nat.one_mul _)

theorem emb_hi (h) (x : S256x128.Idx) : (Rect.unit (s := S256x4224) ![0, 4096] S256x128.size h).emb x = ix2 (x 0) (⟨4096 + (x 1).val, by have : (x 1).val < 128 := (x 1).isLt; omega⟩ : Fin 4224) := by
  funext a
  refine Fin.ext ?_
  match a with
  | 0 => exact (Nat.zero_add _).trans (Nat.one_mul _)
  | 1 => exact congrArg (4096 + ·) (Nat.one_mul _)

theorem out4 (t : Fin cfg0.N) (y : S256x4224.Idx) : (outsAt0 m c t).1 y = UB m c t y := by
  unfold outsAt0
  frame_out
  have hL := fun s d => (rows_canon Variants.none c none (grid0.coords t) (ms0_0 t) (hs0_0 t) (ms0_1 t) (hs0_1 t) (ms0_2 t) (hs0_2 t) (ms0_3 t) (hs0_3 t) (ms0_4 t) (hs0_4 t) (ms0_5 t) (hs0_5 t) _ _ _ _
    (Memref.IsWhole.read_unread (hs0_0 t) (iblk m c 0 t)) (Memref.IsWhole.read_unread (hs0_1 t) (iblk m c 1 t)) (ix2 s d)).trans (nr_block m c t _ _ (b0 m c t) (b1 m c t) s d)
  refine (congrArg (fun L => View.canon (Val := Elt Ideal) L y) (List.append_nil _).symm).trans
    (View.canon_append_of_piecesOf (Val := Elt Ideal) (e := .f32) (UB m c t) [] _ ?_ y ?_)
  · refine ⟨fun x => ?_, fun x => ?_, trivial⟩
    · refine Eq.trans ?_ (congrArg (UB m c t) (emb_hi inb_S256x4224_S256x128_0_4096 x)).symm
      have hx : x = ix2 (x 0) (x 1) := by
        funext a
        match a with
        | 0 => rfl
        | 1 => rfl
      rw [hx]
      exact u_hi m c t _ _ (nread m c t _ _ hL _) (b3 m c t) (x 0) (x 1)
    · refine Eq.trans ?_ (congrArg (UB m c t) (emb_lo inb_S256x4224_S256x4096_0_0 x)).symm
      have hx : x = ix2 (x 0) (x 1) := by
        funext a
        match a with
        | 0 => rfl
        | 1 => rfl
      rw [hx]
      exact u_lo m c t _ _ (nread m c t _ _ hL _) (w_lo m c t _) (x 0) (x 1)
  · by_cases hy : (y 1).val < 4096
    · refine ⟨_, List.mem_cons_of_mem _ List.mem_cons_self, (Rect.mem_set_unit (inb := inb_S256x4224_S256x4096_0_0)).mpr fun a => ?_⟩
      match a with
      | 0 => exact ⟨Nat.zero_le _, by show (y 0).val < 0 + 256; have : (y 0).val < 256 := (y 0).isLt; omega⟩
      | 1 => exact ⟨Nat.zero_le _, by show (y 1).val < 0 + 4096; omega⟩
    · refine ⟨_, List.mem_cons_self, (Rect.mem_set_unit (inb := inb_S256x4224_S256x128_0_4096)).mpr fun a => ?_⟩
      match a with
      | 0 => exact ⟨Nat.zero_le _, by show (y 0).val < 0 + 256; have : (y 0).val < 256 := (y 0).isLt; omega⟩
      | 1 => exact ⟨by show 4096 ≤ (y 1).val; omega, by show (y 1).val < 4096 + 128; have : (y 1).val < 4224 := (y 1).isLt; omega⟩

/-! ## The results after the run -/

theorem final4 : (dats m 0 c).arrAt 4 cfg0.N = O4 m c := by
  refine (dats m 0 c).arrAt_eq_of_covers 4 _ (by decide +kernel) fun t hf y => ?_
  blk_simp
  rw [after0_4, out4]
  refine congrArg (O4 m c) ?_
  blk_point [idx t, row]

theorem final5 : (dats m 0 c).arrAt 5 cfg0.N = O5 m c := by
  refine (dats m 0 c).arrAt_eq_of_covers 5 _ (by decide +kernel) fun t hf y => ?_
  blk_simp
  idx_vars y
  rw [after0_5, out5]
  refine congrArg (O5 m c) ?_
  blk_point [idx t, row]

end Cert.MixFwdIdeal.Read

end
-- ==== Proof.MixFRef.lean ====
/- The reference of the mixer's norm and input projection, read at an index. -/
module

public import proofs.«01_k».proof.Proof.Gen.MixFwdRefIdeal.Run
public import proofs.«01_k».proof.Proof.GuRef

@[expose] public section

set_option maxRecDepth 16384

noncomputable section

namespace Cert.MixFwdRefIdeal.Read

open Cert.MixFwdRefIdeal Cert.MixFwdRefIdeal.Gen Cert.MixFwdRefIdeal.Value Cert.Reals Cert.Spec
open Cert.Ffn1GuRefIdeal.Read (HN HN_at)
open Idealize.ShloMosaic Idealize.ShloMosaic.TcCoe Idealize.SL.Sem
open scoped BigOperators

/-- The first result: the projected rows beside columns of zeros. -/
def R0 (x0 : FVec Ideal S1x2048x2048 .f32) (x1 : FVec Ideal S1x2048 .f32) (x2 : FVec Ideal S1x2048x4112 .f32) : FVec Ideal S2048x4224 .f32 :=
  pad S2048x4224 ![0, 0] ![0, 112] ![0, 0] (shapeCast _ (Host.dotGeneral dot_S1x2048x2048_S2048x4112_S1x2048x4112_2_0_01_1_n_n none (HN x0 x1)
    (shapeCast _ x2 shapeCasts_S1x2048x4112_S2048x4112)) shapeCasts_S1x2048x4112_S2048x4112) (sitofp .f32 (constantI S_ 32 0#32)) pads_S2048x4112_S2048x4224_000_01120 h_S_

/-- The second result: the normed rows. -/
def R1 (x0 : FVec Ideal S1x2048x2048 .f32) (x1 : FVec Ideal S1x2048 .f32) : FVec Ideal S2048x2048 .bf16 :=
  truncf .bf16 (shapeCast _ (HN x0 x1) shapeCasts_S1x2048x2048_S2048x2048) bitsLt_bf16_f32

variable (m : (ℓ : Loc nD τ sig) → Buf (Elt Ideal) ℓ) (ρ : Dev nD → PrngReg) (c : Dev nD)

/-- An argument's array. -/
abbrev A0 : FVec Ideal S1x2048x2048 .f32 := m ((c.tc : Thread nD τ).loc main_arg0)
abbrev A1 : FVec Ideal S1x2048 .f32 := m ((c.tc : Thread nD τ).loc main_arg1)
abbrev A2 : FVec Ideal S1x2048x4112 .f32 := m ((c.tc : Thread nD τ).loc main_arg2)

/-- The reference's run with its results as functions of its arguments. -/
theorem run' : θ_run defs (onTc (τ := τ) (main (F := Ideal))) ⟨m, fun _ => 0, ρ⟩ fun r => ∀ c : Dev nD,
      r.2.mem ((c.tc : Thread nD τ).loc main_v17) = R0 (A0 m c) (A1 m c) (A2 m c)
      ∧ r.2.mem ((c.tc : Thread nD τ).loc main_v19) = R1 (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans rfl, (h c).2.1.trans rfl, (h c).2.2⟩) (run m ρ)

theorem zero_word : (FloatOps.sitofp (F := Ideal) .f32 (0#32 : BitVec 32) : EReal) = 0 := by
  show (((0#32 : BitVec 32).toInt : ℝ) : EReal) = 0
  simp

theorem R0_at (x0 : FVec Ideal S1x2048x2048 .f32) (x1 : FVec Ideal S1x2048 .f32) (x2 : FVec Ideal S1x2048x4112 .f32) (s : Fin 2048) (k : Fin 4224) :
    R0 x0 x1 x2 (ix2 s k) = if h : k.val < 4112 then ∑ d : Fin 2048, HN x0 x1 (ix3 0 s d) * x2 (ix3 0 d ⟨k.val, h⟩) else 0 := by
  pointwise [R0]
  rw [zero_word]

theorem R1_at (x0 : FVec Ideal S1x2048x2048 .f32) (x1 : FVec Ideal S1x2048 .f32) (s d : Fin 2048) : R1 x0 x1 (ix2 s d) = HN x0 x1 (ix3 0 s d) := by
  pointwise [R1]

end Cert.MixFwdRefIdeal.Read

end
-- ==== Proof.MixF.lean ====
/- The mixer's norm and input projection: the kernel's results are the reference's, on any arguments. -/
module

public import proofs.«01_k».proof.Defs
public import proofs.«01_k».proof.Proof.MixFKernel
public import proofs.«01_k».proof.Proof.MixFRef

@[expose] public section

set_option maxRecDepth 16384

noncomputable section

namespace Cert.MixF

open Idealize.ShloMosaic Idealize.ShloMosaic.TcCoe Idealize.SL.Sem Cert.Reals Cert.Spec
open Cert.Ffn1GuRefIdeal.Read (HN HN_at)
open scoped BigOperators

section Values

open Cert.MixFwdIdeal Cert.MixFwdIdeal.Read
open Cert.MixFwdRefIdeal.Read (R0 R1 R0_at R1_at)

variable (m : (ℓ : Loc nD τ sig) → Buf (Elt Ideal) ℓ) (c : Dev nD)

/-- An argument's array. -/
abbrev X0 : FVec Ideal S1x2048x2048 .f32 := m (c, Proc.tc.devRef main_arg0)
abbrev X1 : FVec Ideal S1x2048 .f32 := m (c, Proc.tc.devRef main_arg1)
abbrev X2 : FVec Ideal S1x2048x4112 .f32 := m (c, Proc.tc.devRef main_arg2)

variable {m c}

/-- The normed rows. -/
theorem hn (s d : Fin 2048) : HN (X0 m c) (X1 m c) (ix3 0 s d) = O5 m c (ix2 s d) := HN_at ..

/-- The first result: the projected rows. -/
theorem out0 : O4 m c = R0 (X0 m c) (X1 m c) (X2 m c) := by
  funext y
  idx_vars y
  refine Eq.trans ?_ (R0_at _ _ _ y0 y1).symm
  show ∑ d : Fin 2048, O5 m c (ix2 y0 d) * WP m c d y1 = _
  unfold WP
  split_ifs with h
  · exact Finset.sum_congr rfl fun d _ => congrArg (· * WW m c d ⟨y1.val, h⟩ : EReal → EReal) (hn y0 d).symm
  · exact Finset.sum_eq_zero fun d _ => mul_zero _

/-- The second result: the normed rows. -/
theorem out1 : O5 m c = R1 (X0 m c) (X1 m c) := by
  funext y
  idx_vars y
  exact (hn y0 y1).symm.trans (R1_at _ _ y0 y1).symm

end Values

/-- The kernel computes the reference. -/
theorem algebraic : Cert.algebraic_MixFwdIdeal_MixFwdRefIdeal := by
  pair_intro
  · run_from Cert.MixFwdIdeal.Value.run_blocks m g
  · run_from Cert.MixFwdRefIdeal.Read.run' m' g'
    · exact ((Cert.MixFwdIdeal.Read.final4 m c).trans out0).symm
    · exact ((Cert.MixFwdIdeal.Read.final5 m c).trans out1).symm

end Cert.MixF

end
-- ==== Proof.Ffn1Runs.lean ====
/- The body of the kernel of the first block's forward pass, run once per case of its conditions: the first column step of a row
   block (case A), the steps between (B), the last step (C). Each run says which pieces the body's stores leave in the outputs and in the accumulator. Stated over any values. -/
module

public import proofs.«01_k».proof.Proof.Gen.Ffn1FwdIdeal.Frame
public import proofs.«01_k».proof.Proof.Gen.Ffn1FwdIdeal.Launch
public import proofs.«01_k».proof.Proof.Gen.Ffn1FwdIdeal.Skeleton
public import proofs.«01_k».proof.Proof.Gen.Ffn1FwdIdeal.Loops
public import proofs.«01_k».proof.Proof.Gen.Ffn1FwdIdeal.Points
public import proofs.«01_k».proof.Proof.Hold
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Ffn1

open Cert.Ffn1FwdIdeal Cert.Ffn1FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hold (hold)

variable {F : FTy → Type} [FloatOps F]

local notation "𝕄" => MT nD τ sig Unit (Elt F) ℕ (UR sig nD τ) ℕ

/-- The first column step of a row block, the last one. -/
abbrev isFirst (i : grid0.Coords) : Prop := k0_cond1 i = 1#1
abbrev isLast (i : grid0.Coords) : Prop := k0_cond2 i = 1#1

/-- The memrefs the body is called with: five inputs, three outputs, the accumulator; each the whole of its buffer. -/
structure Mems where
  a2 : Memref sig .tc .vmem S512x2048 .f32
  h2 : a2.IsWhole
  a3 : Memref sig .tc .vmem S1x2048 .f32
  h3 : a3.IsWhole
  a4 : Memref sig .tc .vmem S2048x512 .bf16
  h4 : a4.IsWhole
  a5 : Memref sig .tc .vmem S2048x512 .bf16
  h5 : a5.IsWhole
  a6 : Memref sig .tc .vmem S512x2048 .bf16
  h6 : a6.IsWhole
  a7 : Memref sig .tc .vmem S512x2048 .f32
  h7 : a7.IsWhole
  a8 : Memref sig .tc .vmem S512x2048 .bf16
  h8 : a8.IsWhole
  a9 : Memref sig .tc .vmem S2x512x512 .bf16
  h9 : a9.IsWhole
  a10 : Memref sig .tc .vmem S512x2048 .f32
  h10 : a10.IsWhole

/-- What the inputs hold. -/
structure Ins (F : FTy → Type) where
  x2 : Vec F S512x2048 .f32
  x3 : Vec F S1x2048 .f32
  x4 : Vec F S2048x512 .bf16
  x5 : Vec F S2048x512 .bf16
  x6 : Vec F S512x2048 .bf16

/-- The body on these memrefs. -/
abbrev body (i : grid0.Coords) (M : Mems) : Prog (TpuEff nD τ sig (Elt F) Λ₀ .tc) PUnit :=
  cc0_ffn1_fwd i M.a2 M.h2 M.a3 M.h3 M.a4 M.h4 M.a5 M.h5 M.a6 M.h6 M.a7 M.h7 M.a8 M.h8 M.a9 M.h9 M.a10 M.h10

/-- The inputs' memrefs at their contents. -/
abbrev ins (c : Dev nD) (M : Mems) (X : Ins F) : sProp 𝕄 :=
  iprop(owns (c : Thread nD τ) M.a2 fullShare X.x2 ∗ owns (c : Thread nD τ) M.a3 fullShare X.x3 ∗ owns (c : Thread nD τ) M.a4 fullShare X.x4 ∗ owns (c : Thread nD τ) M.a5 fullShare X.x5 ∗ owns (c : Thread nD τ) M.a6 fullShare X.x6)

/-- A memref at whatever it holds. -/
abbrev some' {S : Shape} {e : EltTy} (c : Dev nD) (a : Memref sig .tc .vmem S e) : sProp 𝕄 := iprop(∃ d, owns (c : Thread nD τ) a fullShare d)

/-- A memref with these pieces stored into it. -/
abbrev left {S : Shape} {e : EltTy} (c : Dev nD) (a : Memref sig .tc .vmem S e) (L : List (View.Piece (Elt F) S e)) : sProp 𝕄 :=
  iprop(∃ f, a.view.loc (c : Thread nD τ) ↦[a.view.set]{fullShare} a.view.writes (Elt F) f L)

set_option maxHeartbeats 1000000 in
/-- At a row block's first column step: the normed rows, the two gates and a fresh accumulator. -/
def runA (c : Dev nD) (i : grid0.Coords) (M : Mems) (hc0 : isFirst i) (hc1 : ¬isLast i) (X : Ins F) (y8 : Vec F S512x2048 .bf16) :
    Σ' (L8 : List (View.Piece (Elt F) S512x2048 .bf16)), Σ' (L9 : List (View.Piece (Elt F) S2x512x512 .bf16)), { L10 : List (View.Piece (Elt F) S512x2048 .f32) //
      ∀ (d7 : Vec F S512x2048 .f32) (E : Set ℕ) (K : PUnit → sProp 𝕄),
        iprop(ins c M X ∗ owns (c : Thread nD τ) M.a7 fullShare d7 ∗ owns (c : Thread nD τ) M.a8 fullShare y8 ∗ some' c M.a9 ∗ some' c M.a10
            ∗ (iprop(ins c M X ∗ owns (c : Thread nD τ) M.a7 fullShare d7 ∗ left c M.a8 L8 ∗ left c M.a9 L9 ∗ left c M.a10 L10) -∗ K ⟨⟩))
          ⊢ wp frame (wpE (defs₀ (F := F)) Variants.none c none) E (body i M) K } := by
  refine ⟨?_, ?_, ?_, fun d7 E K => ?run⟩
  case run =>
    simp only [body, cc0_ffn1_fwd_eq_skeleton]; unfold cc0_ffn1_fwd_skel
    simp only [ins, some']; unfold owns
    iintro ⟨⟨⟨%f2, %e2, H2⟩, ⟨%f3, %e3, H3⟩, ⟨%f4, %e4, H4⟩, ⟨%f5, %e5, H5⟩, ⟨%f6, %e6, H6⟩⟩, ⟨%f7, %e7, H7⟩, ⟨%f8, %e8, H8⟩, ⟨%d9, %f9, -, H9⟩, ⟨%d10, %f10, -, H10⟩, Hk⟩
    obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8
    sl_exec (disch := first | sl_exact hc0 | sl_exact hc1)
    sl_step
    iapply Hk
    isplitl [H2 H3 H4 H5 H6]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      iapply (hold c M.h6 _); iexact H6
    isplitl [H7]; · iapply (hold c M.h7 _); iexact H7
    isplitl [H8]; · iexists _; iexact H8
    isplitl [H9]; · iexists _; iexact H9
    iexists _; iexact H10

set_option maxHeartbeats 1000000 in
/-- At a step between: the normed rows are read, the gates stored and the accumulator added to. -/
def runB (c : Dev nD) (i : grid0.Coords) (M : Mems) (hc0 : ¬isFirst i) (hc1 : ¬isLast i) (X : Ins F) (y8 : Vec F S512x2048 .bf16) (y10 : Vec F S512x2048 .f32) :
    Σ' (L9 : List (View.Piece (Elt F) S2x512x512 .bf16)), { L10 : List (View.Piece (Elt F) S512x2048 .f32) //
      ∀ (d7 : Vec F S512x2048 .f32) (E : Set ℕ) (K : PUnit → sProp 𝕄),
        iprop(ins c M X ∗ owns (c : Thread nD τ) M.a7 fullShare d7 ∗ owns (c : Thread nD τ) M.a8 fullShare y8 ∗ some' c M.a9 ∗ owns (c : Thread nD τ) M.a10 fullShare y10
            ∗ (iprop(ins c M X ∗ owns (c : Thread nD τ) M.a7 fullShare d7 ∗ owns (c : Thread nD τ) M.a8 fullShare y8 ∗ left c M.a9 L9 ∗ left c M.a10 L10) -∗ K ⟨⟩))
          ⊢ wp frame (wpE (defs₀ (F := F)) Variants.none c none) E (body i M) K } := by
  refine ⟨?_, ?_, fun d7 E K => ?run⟩
  case run =>
    simp only [body, cc0_ffn1_fwd_eq_skeleton]; unfold cc0_ffn1_fwd_skel
    simp only [ins, some']; unfold owns
    iintro ⟨⟨⟨%f2, %e2, H2⟩, ⟨%f3, %e3, H3⟩, ⟨%f4, %e4, H4⟩, ⟨%f5, %e5, H5⟩, ⟨%f6, %e6, H6⟩⟩, ⟨%f7, %e7, H7⟩, ⟨%f8, %e8, H8⟩, ⟨%d9, %f9, -, H9⟩, ⟨%f10, %e10, H10⟩, Hk⟩
    obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8; obtain rfl := M.h10.eq_unread e10
    sl_exec (disch := first | sl_exact hc0 | sl_exact hc1)
    sl_step
    iapply Hk
    isplitl [H2 H3 H4 H5 H6]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      iapply (hold c M.h6 _); iexact H6
    isplitl [H7]; · iapply (hold c M.h7 _); iexact H7
    isplitl [H8]; · iapply (hold c M.h8 _); iexact H8
    isplitl [H9]; · iexists _; iexact H9
    iexists _; iexact H10

set_option maxHeartbeats 1000000 in
/-- At the last step of a row block: the residual rows too. -/
def runC (c : Dev nD) (i : grid0.Coords) (M : Mems) (hc0 : ¬isFirst i) (hc1 : isLast i) (X : Ins F) (y8 : Vec F S512x2048 .bf16) (y10 : Vec F S512x2048 .f32) :
    Σ' (L7 : List (View.Piece (Elt F) S512x2048 .f32)), Σ' (L9 : List (View.Piece (Elt F) S2x512x512 .bf16)), { L10 : List (View.Piece (Elt F) S512x2048 .f32) //
      ∀ (E : Set ℕ) (K : PUnit → sProp 𝕄),
        iprop(ins c M X ∗ some' c M.a7 ∗ owns (c : Thread nD τ) M.a8 fullShare y8 ∗ some' c M.a9 ∗ owns (c : Thread nD τ) M.a10 fullShare y10
            ∗ (iprop(ins c M X ∗ left c M.a7 L7 ∗ owns (c : Thread nD τ) M.a8 fullShare y8 ∗ left c M.a9 L9 ∗ left c M.a10 L10) -∗ K ⟨⟩))
          ⊢ wp frame (wpE (defs₀ (F := F)) Variants.none c none) E (body i M) K } := by
  refine ⟨?_, ?_, ?_, fun E K => ?run⟩
  case run =>
    simp only [body, cc0_ffn1_fwd_eq_skeleton]; unfold cc0_ffn1_fwd_skel
    simp only [ins, some']; unfold owns
    iintro ⟨⟨⟨%f2, %e2, H2⟩, ⟨%f3, %e3, H3⟩, ⟨%f4, %e4, H4⟩, ⟨%f5, %e5, H5⟩, ⟨%f6, %e6, H6⟩⟩, ⟨%d7, %f7, -, H7⟩, ⟨%f8, %e8, H8⟩, ⟨%d9, %f9, -, H9⟩, ⟨%f10, %e10, H10⟩, Hk⟩
    obtain rfl := M.h2.eq_unread e2; obtain rfl := M.h3.eq_unread e3; obtain rfl := M.h4.eq_unread e4; obtain rfl := M.h5.eq_unread e5; obtain rfl := M.h6.eq_unread e6; obtain rfl := M.h8.eq_unread e8; obtain rfl := M.h10.eq_unread e10
    sl_exec (disch := first | sl_exact hc0 | sl_exact hc1)
    sl_step
    iapply Hk
    isplitl [H2 H3 H4 H5 H6]
    · isplitl [H2]; · iapply (hold c M.h2 _); iexact H2
      isplitl [H3]; · iapply (hold c M.h3 _); iexact H3
      isplitl [H4]; · iapply (hold c M.h4 _); iexact H4
      isplitl [H5]; · iapply (hold c M.h5 _); iexact H5
      iapply (hold c M.h6 _); iexact H6
    isplitl [H7]; · iexists _; iexact H7
    isplitl [H8]; · iapply (hold c M.h8 _); iexact H8
    isplitl [H9]; · iexists _; iexact H9
    iexists _; iexact H10

end Cert.Ffn1

end
-- ==== Proof.Ffn1Steps.lean ====
/- What the outputs and the accumulator hold after the body of the first block's forward kernel, case by case, as functions
   of what they held before; and the body's triple in that form. Stated over any values. -/
module

public import proofs.«01_k».proof.Proof.Ffn1Runs
public import proofs.«01_k».proof.Proof.Hold
public import Idealize.ShloMosaic.Lib.Pipeline.ValueKit

@[expose] public section

set_option maxRecDepth 16384

noncomputable section

namespace Cert.Ffn1

open Cert.Ffn1FwdIdeal Cert.Ffn1FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hold (back)

variable {F : FTy → Type} [FloatOps F]

local notation "𝕄" => MT nD τ sig Unit (Elt F) ℕ (UR sig nD τ) ℕ

/-- What the three outputs' buffers and the accumulator hold. -/
abbrev St (F : FTy → Type) := Vec F S512x2048 .f32 × Vec F S512x2048 .bf16 × Vec F S2x512x512 .bf16 × Vec F S512x2048 .f32

/-- Views of the outputs' buffers and of the accumulator, through which pieces are read back. -/
abbrev V7 : View sig .tc .vmem S512x2048 .f32 := (Memref.whole cc0_stg5_0 : Memref sig .tc .vmem S512x2048 .f32).view
abbrev V8 : View sig .tc .vmem S512x2048 .bf16 := (Memref.whole cc0_stg6_0 : Memref sig .tc .vmem S512x2048 .bf16).view
abbrev V9 : View sig .tc .vmem S2x512x512 .bf16 := (Memref.whole cc0_stg7_0 : Memref sig .tc .vmem S2x512x512 .bf16).view
abbrev V10 : View sig .tc .vmem S512x2048 .f32 := (Memref.whole cc0_scratch0 : Memref sig .tc .vmem S512x2048 .f32).view

/-- Pieces read back over a buffer never written. -/
def rd {S : Shape} {e : EltTy} (V : View sig .tc .vmem S e) (L : List (View.Piece (Elt F) S e)) : Vec F S e :=
  V.read (Elt F) (V.writes (Elt F) V.junk L)

/-- The outputs' memrefs and the accumulator at these contents. -/
abbrev outs (c : Dev nD) (M : Mems) (S : St F) : sProp 𝕄 :=
  iprop(owns (c : Thread nD τ) M.a7 fullShare S.1 ∗ owns (c : Thread nD τ) M.a8 fullShare S.2.1 ∗ owns (c : Thread nD τ) M.a9 fullShare S.2.2.1 ∗ owns (c : Thread nD τ) M.a10 fullShare S.2.2.2)

variable (c : Dev nD) (i : grid0.Coords) (M : Mems)

/-- The loop over the normed rows stores its whole block. -/
theorem rows_cover (hc0 : isFirst i) (hc1 : ¬isLast i) (X : Ins F) (y8 : Vec F S512x2048 .bf16) (y : S512x2048.Idx) :
    ∃ pc ∈ (runA c i M hc0 hc1 X y8).1, y ∈ pc.1.set :=
  View.cover_of_tiledL (runA c i M hc0 hc1 X y8).1 S64x2048.size (by sl_kernel_rfl) y

/-- What a first step leaves does not depend on what the normed rows' buffer held. -/
theorem runA_8 (hc0 : isFirst i) (hc1 : ¬isLast i) (X : Ins F) (y y' : Vec F S512x2048 .bf16) :
    (runA c i M hc0 hc1 X y).1 = (runA c i M hc0 hc1 X y').1 := by
  frame_open
  rfl

theorem runA_9 (hc0 : isFirst i) (hc1 : ¬isLast i) (X : Ins F) (y y' : Vec F S512x2048 .bf16) :
    (runA c i M hc0 hc1 X y).2.1 = (runA c i M hc0 hc1 X y').2.1 := by
  have key : ∀ z R, View.readAt (Elt F) M.a8.view R (M.a8.view.writes (Elt F) (M.h8.unread z)
      (pb_k0_t1 Variants.none c none i M.a2 M.h2 M.a3 M.h3 M.a4 M.h4 M.a5 M.h5 M.a6 M.h6 M.a7 M.h7 M.a8 M.h8 M.a9 M.h9 M.a10 M.h10 hc0 (M.h2.unread X.x2) (M.h3.unread X.x3) (Scf.trips 0#32 (Scalar.addi 0#32 8#32) 1#32))) = M.a8.view.readCov _ R :=
    fun z R => View.readAt_writes_of_cover _ _ _ R fun j => rows_cover c i M hc0 hc1 X y _
  frame_open
  simp only [key]

theorem runA_10 (hc0 : isFirst i) (hc1 : ¬isLast i) (X : Ins F) (y y' : Vec F S512x2048 .bf16) :
    (runA c i M hc0 hc1 X y).2.2.1 = (runA c i M hc0 hc1 X y').2.2.1 := by
  have key : ∀ z R, View.readAt (Elt F) M.a8.view R (M.a8.view.writes (Elt F) (M.h8.unread z)
      (pb_k0_t1 Variants.none c none i M.a2 M.h2 M.a3 M.h3 M.a4 M.h4 M.a5 M.h5 M.a6 M.h6 M.a7 M.h7 M.a8 M.h8 M.a9 M.h9 M.a10 M.h10 hc0 (M.h2.unread X.x2) (M.h3.unread X.x3) (Scf.trips 0#32 (Scalar.addi 0#32 8#32) 1#32))) = M.a8.view.readCov _ R :=
    fun z R => View.readAt_writes_of_cover _ _ _ R fun j => rows_cover c i M hc0 hc1 X y _
  frame_open
  simp only [key]

/-- Case A. -/
def outA (hc0 : isFirst i) (hc1 : ¬isLast i) (X : Ins F) (S : St F) : St F :=
  (S.1,
   rd V8 (runA c i M hc0 hc1 X S.2.1).1,
   rd V9 (runA c i M hc0 hc1 X S.2.1).2.1,
   rd V10 (runA c i M hc0 hc1 X S.2.1).2.2.1)

set_option maxHeartbeats 1000000 in
theorem soundA (hc0 : isFirst i) (hc1 : ¬isLast i) (X : Ins F) (S : St F) (E : Set ℕ) (K : PUnit → sProp 𝕄) :
    iprop(ins c M X ∗ outs c M S ∗ (iprop(ins c M X ∗ outs c M (outA c i M hc0 hc1 X S)) -∗ K ⟨⟩))
      ⊢ wp frame (wpE (defs₀ (F := F)) Variants.none c none) E (body i M) K := by
  unfold outA rd outs; dsimp only
  iintro ⟨Hi, ⟨H7, H8, H9, H10⟩, Hk⟩
  iapply ((runA c i M hc0 hc1 X S.2.1).2.2.2 _ E K)
  iframe Hi H7 H8
  isplitl [H9]; · iexists _; iexact H9
  isplitl [H10]; · iexists _; iexact H10
  iintro ⟨Hi, H7, ⟨%f8, H8⟩, ⟨%f9, H9⟩, ⟨%f10, H10⟩⟩
  iapply Hk
  iframe Hi H7
  isplitl [H8]; · iapply (back _ M.a8 V8 S64x2048.size (runA c i M hc0 hc1 X S.2.1).1 _ (by sl_kernel_rfl)); iexact H8
  isplitl [H9]; · iapply (back _ M.a9 V9 S1x512x512.size (runA c i M hc0 hc1 X S.2.1).2.1 _ (by sl_kernel_rfl)); iexact H9
  iapply (back _ M.a10 V10 S512x2048.size (runA c i M hc0 hc1 X S.2.1).2.2.1 _ (by sl_kernel_rfl)); iexact H10

/-- Case B. -/
def outB (hc0 : ¬isFirst i) (hc1 : ¬isLast i) (X : Ins F) (S : St F) : St F :=
  (S.1,
   S.2.1,
   rd V9 (runB c i M hc0 hc1 X S.2.1 S.2.2.2).1,
   rd V10 (runB c i M hc0 hc1 X S.2.1 S.2.2.2).2.1)

set_option maxHeartbeats 1000000 in
theorem soundB (hc0 : ¬isFirst i) (hc1 : ¬isLast i) (X : Ins F) (S : St F) (E : Set ℕ) (K : PUnit → sProp 𝕄) :
    iprop(ins c M X ∗ outs c M S ∗ (iprop(ins c M X ∗ outs c M (outB c i M hc0 hc1 X S)) -∗ K ⟨⟩))
      ⊢ wp frame (wpE (defs₀ (F := F)) Variants.none c none) E (body i M) K := by
  unfold outB rd outs; dsimp only
  iintro ⟨Hi, ⟨H7, H8, H9, H10⟩, Hk⟩
  iapply ((runB c i M hc0 hc1 X S.2.1 S.2.2.2).2.2 _ E K)
  iframe Hi H7 H8
  isplitl [H9]; · iexists _; iexact H9
  isplitl [H10]; · iexact H10
  iintro ⟨Hi, H7, H8, ⟨%f9, H9⟩, ⟨%f10, H10⟩⟩
  iapply Hk
  iframe Hi H7 H8
  isplitl [H9]; · iapply (back _ M.a9 V9 S1x512x512.size (runB c i M hc0 hc1 X S.2.1 S.2.2.2).1 _ (by sl_kernel_rfl)); iexact H9
  iapply (back _ M.a10 V10 S512x2048.size (runB c i M hc0 hc1 X S.2.1 S.2.2.2).2.1 _ (by sl_kernel_rfl)); iexact H10

/-- Case C. -/
def outC (hc0 : ¬isFirst i) (hc1 : isLast i) (X : Ins F) (S : St F) : St F :=
  (rd V7 (runC c i M hc0 hc1 X S.2.1 S.2.2.2).1,
   S.2.1,
   rd V9 (runC c i M hc0 hc1 X S.2.1 S.2.2.2).2.1,
   rd V10 (runC c i M hc0 hc1 X S.2.1 S.2.2.2).2.2.1)

set_option maxHeartbeats 1000000 in
theorem soundC (hc0 : ¬isFirst i) (hc1 : isLast i) (X : Ins F) (S : St F) (E : Set ℕ) (K : PUnit → sProp 𝕄) :
    iprop(ins c M X ∗ outs c M S ∗ (iprop(ins c M X ∗ outs c M (outC c i M hc0 hc1 X S)) -∗ K ⟨⟩))
      ⊢ wp frame (wpE (defs₀ (F := F)) Variants.none c none) E (body i M) K := by
  unfold outC rd outs; dsimp only
  iintro ⟨Hi, ⟨H7, H8, H9, H10⟩, Hk⟩
  iapply ((runC c i M hc0 hc1 X S.2.1 S.2.2.2).2.2.2 E K)
  isplitl [Hi]; · iexact Hi
  isplitl [H7]; · iexists _; iexact H7
  isplitl [H8]; · iexact H8
  isplitl [H9]; · iexists _; iexact H9
  isplitl [H10]; · iexact H10
  iintro ⟨Hi, ⟨%f7, H7⟩, H8, ⟨%f9, H9⟩, ⟨%f10, H10⟩⟩
  iapply Hk
  isplitl [Hi]; · iexact Hi
  isplitl [H7]; · iapply (back _ M.a7 V7 S64x2048.size (runC c i M hc0 hc1 X S.2.1 S.2.2.2).1 _ (by sl_kernel_rfl)); iexact H7
  isplitl [H8]; · iexact H8
  isplitl [H9]; · iapply (back _ M.a9 V9 S1x512x512.size (runC c i M hc0 hc1 X S.2.1 S.2.2.2).2.1 _ (by sl_kernel_rfl)); iexact H9
  iapply (back _ M.a10 V10 S512x2048.size (runC c i M hc0 hc1 X S.2.1 S.2.2.2).2.2.1 _ (by sl_kernel_rfl)); iexact H10

/-- What each case leaves depends only on what it reads, and what a case does not store stays. -/
theorem liveA (hc0 : isFirst i) (hc1 : ¬isLast i) (X : Ins F) (S S' : St F) :
    (outA c i M hc0 hc1 X S).2.1 = (outA c i M hc0 hc1 X S').2.1
    ∧ (outA c i M hc0 hc1 X S).2.2.1 = (outA c i M hc0 hc1 X S').2.2.1
    ∧ (outA c i M hc0 hc1 X S).2.2.2 = (outA c i M hc0 hc1 X S').2.2.2 := by
  dsimp only [outA]
  exact ⟨congrArg (rd V8) (runA_8 c i M hc0 hc1 X _ _),
    congrArg (rd V9) (runA_9 c i M hc0 hc1 X _ _), congrArg (rd V10) (runA_10 c i M hc0 hc1 X _ _)⟩

theorem keepA (hc0 : isFirst i) (hc1 : ¬isLast i) (X : Ins F) (S : St F) : (outA c i M hc0 hc1 X S).1 = S.1 := by
  dsimp only [outA]

theorem liveB (hc0 : ¬isFirst i) (hc1 : ¬isLast i) (X : Ins F) (S S' : St F) (h9 : S.2.1 = S'.2.1) (h15 : S.2.2.2 = S'.2.2.2) :
    (outB c i M hc0 hc1 X S).2.1 = (outB c i M hc0 hc1 X S').2.1 ∧ (outB c i M hc0 hc1 X S).2.2.1 = (outB c i M hc0 hc1 X S').2.2.1 ∧ (outB c i M hc0 hc1 X S).2.2.2 = (outB c i M hc0 hc1 X S').2.2.2 := by
  obtain ⟨s1, s2, s3, s6⟩ := S
  obtain ⟨r1, r2, r3, r6⟩ := S'
  dsimp only at h9 h15
  subst h9 h15
  dsimp only [outB]
  exact ⟨rfl, rfl, rfl⟩

theorem keepB (hc0 : ¬isFirst i) (hc1 : ¬isLast i) (X : Ins F) (S : St F) : (outB c i M hc0 hc1 X S).2.1 = S.2.1 ∧ (outB c i M hc0 hc1 X S).1 = S.1 := by
  dsimp only [outB]
  exact ⟨rfl, rfl⟩

theorem liveC (hc0 : ¬isFirst i) (hc1 : isLast i) (X : Ins F) (S S' : St F) (h9 : S.2.1 = S'.2.1) (h15 : S.2.2.2 = S'.2.2.2) :
    (outC c i M hc0 hc1 X S).2.1 = (outC c i M hc0 hc1 X S').2.1 ∧ (outC c i M hc0 hc1 X S).2.2.1 = (outC c i M hc0 hc1 X S').2.2.1 ∧ (outC c i M hc0 hc1 X S).2.2.2 = (outC c i M hc0 hc1 X S').2.2.2 ∧ (outC c i M hc0 hc1 X S).1 = (outC c i M hc0 hc1 X S').1 := by
  obtain ⟨s1, s2, s3, s6⟩ := S
  obtain ⟨r1, r2, r3, r6⟩ := S'
  dsimp only at h9 h15
  subst h9 h15
  dsimp only [outC]
  exact ⟨rfl, rfl, rfl, rfl⟩

theorem keepC (hc0 : ¬isFirst i) (hc1 : isLast i) (X : Ins F) (S : St F) : (outC c i M hc0 hc1 X S).2.1 = S.2.1 := by
  dsimp only [outC]

end Cert.Ffn1

end
-- ==== Proof.Ffn1Frame.lean ====
/- The frame of the first block's forward kernel: what every buffer holds point by point over the 4 by 11 grid, the body's
   obligation at each point, the run of the whole program and the claim that its arguments end unchanged. Any values. -/
module

public import proofs.«01_k».proof.Proof.Ffn1Steps
public import Idealize.ShloMosaic.Lib.Claim

@[expose] public section

set_option maxRecDepth 16384

noncomputable section

namespace Cert.Ffn1

open Cert.Ffn1FwdIdeal Cert.Ffn1FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions and the idle points over the grid -/

theorem first_iff : ∀ t : Fin cfg0.N, isFirst (grid0.coords t) ↔ t.val % 11 = 0 :=
  (by decide +kernel : ∀ t : Fin grid0.N, isFirst (grid0.coords t) ↔ t.val % 11 = 0)
theorem last_iff : ∀ t : Fin cfg0.N, isLast (grid0.coords t) ↔ t.val % 11 = 10 :=
  (by decide +kernel : ∀ t : Fin grid0.N, isLast (grid0.coords t) ↔ t.val % 11 = 10)

/-- The inputs and the gates are touched at every point. -/
theorem live : ∀ t : Fin cfg0.N, cfg0.idle 0 (grid0.coords t) = false ∧ cfg0.idle 1 (grid0.coords t) = false ∧ cfg0.idle 2 (grid0.coords t) = false
    ∧ cfg0.idle 3 (grid0.coords t) = false ∧ cfg0.idle 4 (grid0.coords t) = false
    ∧ cfg0.idle 7 (grid0.coords t) = false := by decide +kernel
theorem idle5 : ∀ t : Fin cfg0.N, cfg0.idle 5 (grid0.coords t) = !(t.val % 11 == 10) := by decide +kernel
theorem idle6 : ∀ t : Fin cfg0.N, cfg0.idle 6 (grid0.coords t) = !(t.val % 11 == 0) := by decide +kernel
theorem fl5 : ∀ t : Fin cfg0.N, (cfg0.win 5).flush t = (t.val % 11 == 10) := by decide +kernel
theorem fl6 : ∀ t : Fin cfg0.N, (cfg0.win 6).flush t = (t.val % 11 == 10) := by decide +kernel

/-- The normed rows' buffer is fresh at a row block's first step only. -/
theorem fresh6 (t : Fin cfg0.N) : cfg0.fresh 6 t.val = (t.val % 11 == 0) :=
  Cfg.fresh_tab cfg0 6 (fun n => n % 11 == 0) rfl (by decide +kernel) t.val (Nat.le_of_lt t.isLt)

/-! ## What the buffers hold point by point -/

variable (c : Dev nD) (t : Fin cfg0.N)

/-- The memrefs and the input blocks of point `t`. -/
abbrev mems (t : Fin cfg0.N) : Mems :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7),
    Memref.whole cc0_scratch0, Memref.isWhole_whole _⟩
abbrev blks : Ins F := ⟨iblk m c 0 t, iblk m c 1 t, iblk m c 2 t, iblk m c 3 t, iblk m c 4 t⟩

/-- What point `t` makes of the contents it finds. -/
def step (S : St F) : St F :=
  if h0 : t.val % 11 = 0 then
    outA c (grid0.coords t) (mems t) ((first_iff t).mpr h0) (fun h => by have := (last_iff t).mp h; omega) (blks m c t) S
  else if h1 : t.val % 11 = 10 then
    outC c (grid0.coords t) (mems t) (fun h => h0 ((first_iff t).mp h)) ((last_iff t).mpr h1) (blks m c t) S
  else
    outB c (grid0.coords t) (mems t) (fun h => h0 ((first_iff t).mp h)) (fun h => h1 ((last_iff t).mp h)) (blks m c t) S

theorem step_A (S : St F) (h0 : t.val % 11 = 0) : step m c t S =
    outA c (grid0.coords t) (mems t) ((first_iff t).mpr h0) (fun h => by have := (last_iff t).mp h; omega) (blks m c t) S := dif_pos h0
theorem step_B (S : St F) (h0 : ¬t.val % 11 = 0) (h1 : ¬t.val % 11 = 10) : step m c t S =
    outB c (grid0.coords t) (mems t) (fun h => h0 ((first_iff t).mp h)) (fun h => h1 ((last_iff t).mp h)) (blks m c t) S :=
  (dif_neg h0).trans (dif_neg h1)
theorem step_C (S : St F) (h0 : ¬t.val % 11 = 0) (h1 : t.val % 11 = 10) : step m c t S =
    outC c (grid0.coords t) (mems t) (fun h => h0 ((first_iff t).mp h)) ((last_iff t).mpr h1) (blks m c t) S :=
  (dif_neg h0).trans (dif_pos h1)

/-- Contents nobody consults: the buffers before the first point. -/
def ini : St F := (rd V7 [], rd V8 [], rd V9 [], rd V10 [])

/-- What the buffers hold after point `n`. -/
def outsAt (c : Dev nD) : (n : ℕ) → n < cfg0.N → St F
  | 0, hn => step m c ⟨0, hn⟩ ini
  | n + 1, hn => step m c ⟨n + 1, hn⟩ (outsAt c n (Nat.lt_of_succ_lt hn))

/-- What they held before point `t`. -/
def prevAt : St F :=
  if h : t.val = 0 then ini else outsAt m c (t.val - 1) (by have := t.isLt; omega)

theorem prevAt_pos (h : t.val ≠ 0) :
    prevAt m c t = outsAt m c (t.val - 1) (Nat.lt_of_le_of_lt (Nat.sub_le _ _) t.isLt) := dif_neg h

theorem outsAt_eq : outsAt m c t.val t.isLt = step m c t (prevAt m c t) := by
  obtain ⟨n, hn⟩ := t
  cases n with
  | zero => rfl
  | succ n => rfl

/-- What a point leaves depends only on what it reads. -/
theorem step_live (S S' : St F) (h9 : ¬t.val % 11 = 0 → S.2.1 = S'.2.1)
    (h15 : ¬t.val % 11 = 0 → S.2.2.2 = S'.2.2.2) :
    (step m c t S).2.1 = (step m c t S').2.1 ∧ (step m c t S).2.2.1 = (step m c t S').2.2.1
    ∧ (step m c t S).2.2.2 = (step m c t S').2.2.2
    ∧ (t.val % 11 = 10 → (step m c t S).1 = (step m c t S').1) := by
  by_cases h0 : t.val % 11 = 0
  · rw [step_A m c t S h0, step_A m c t S' h0]
    obtain ⟨h, h', hq⟩ := liveA c (grid0.coords t) (mems t) ((first_iff t).mpr h0) (fun h => by have := (last_iff t).mp h; omega) (blks m c t) S S'
    exact ⟨h, h', hq, fun h => by omega⟩
  · by_cases h1 : t.val % 11 = 10
    · rw [step_C m c t S h0 h1, step_C m c t S' h0 h1]
      obtain ⟨a1, a3, a4, a5⟩ := liveC c (grid0.coords t) (mems t) (fun h => h0 ((first_iff t).mp h)) ((last_iff t).mpr h1)
        (blks m c t) S S' (h9 h0) (h15 h0)
      exact ⟨a1, a3, a4, fun _ => a5⟩
    · rw [step_B m c t S h0 h1, step_B m c t S' h0 h1]
      obtain ⟨a1, a3, a4⟩ := liveB c (grid0.coords t) (mems t) (fun h => h0 ((first_iff t).mp h)) (fun h => h1 ((last_iff t).mp h))
        (blks m c t) S S' (h9 h0) (h15 h0)
      exact ⟨a1, a3, a4, fun h => absurd h h1⟩

/-- Away from a row block's first step the normed rows stay. -/
theorem keep6 (S : St F) (h0 : ¬t.val % 11 = 0) : (step m c t S).2.1 = S.2.1 := by
  by_cases h1 : t.val % 11 = 10
  · rw [step_C m c t S h0 h1]; exact keepC c _ _ _ _ _ S
  · rw [step_B m c t S h0 h1]; exact (keepB c _ _ _ _ _ S).1

/-- Away from a row block's last step the residual rows stay. -/
theorem keep (S : St F) (h1 : ¬t.val % 11 = 10) :
    (step m c t S).1 = S.1 := by
  by_cases h0 : t.val % 11 = 0
  · rw [step_A m c t S h0]; exact keepA c _ _ _ _ _ S
  · rw [step_B m c t S h0 h1]; exact (keepB c _ _ _ _ _ S).2

/-- The body's triple at any point, from any contents. -/
theorem sound (S : St F) (E : Set ℕ) (K : PUnit → sProp 𝕄) :
    iprop(ins c (mems t) (blks m c t) ∗ outs c (mems t) S ∗ (iprop(ins c (mems t) (blks m c t) ∗ outs c (mems t) (step m c t S)) -∗ K ⟨⟩))
      ⊢ wp frame (wpE (defs₀ (F := F)) Variants.none c none) E (bodyAt0 t) K := by
  by_cases h0 : t.val % 11 = 0
  · rw [step_A m c t S h0]; exact soundA c _ _ _ _ _ S E K
  · by_cases h1 : t.val % 11 = 10
    · rw [step_C m c t S h0 h1]; exact soundC c _ _ _ _ _ S E K
    · rw [step_B m c t S h0 h1]; exact soundB c _ _ _ _ _ S E K

/-! ## The pipeline's data -/

/-- The accumulator as a memref. -/
abbrev acc : Memref sig .tc .vmem S512x2048 .f32 := Memref.whole cc0_scratch0

theorem PhiA_eq (c : Dev nD) : (Pipeline.ΦA spec0 c : sProp 𝕄) = iprop(iprop((∃ d, owns (c : Thread nD τ) acc fullShare d)) ∗ (∃ r, prngReg c r)) := by
  unfold Pipeline.ΦA; rw [scopedRest0_eq]; simp only [acc, owns_whole]; try rfl

/-- Before the first point the accumulator holds anything, afterwards what the point before left. -/
def Phi (c : Dev nD) : (n : ℕ) → n ≤ cfg0.N → sProp 𝕄
  | 0, _ => Pipeline.ΦA spec0 c
  | n + 1, hn => iprop(owns (c : Thread nD τ) acc fullShare (outsAt m c n hn).2.2.2 ∗ (∃ r, prngReg c r))

theorem Phi_zero (c : Dev nD) (n : ℕ) (h : n ≤ cfg0.N) (hz : n = 0) : Phi m c n h = Pipeline.ΦA spec0 c := by subst hz; rfl
theorem Phi_pos (c : Dev nD) (n : ℕ) (h : n ≤ cfg0.N) (hz : n ≠ 0) :
    Phi m c n h = iprop(owns (c : Thread nD τ) acc fullShare (outsAt m c (n - 1) (by omega)).2.2.2 ∗ (∃ r, prngReg c r)) := by
  cases n with
  | zero => exact absurd rfl hz
  | succ n => rfl

/-- The arrays as the region finds them; the inputs' buffers at their blocks, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
    | ⟨6, _⟩ => (outsAt m c t.val t.isLt).2.1
    | ⟨7, _⟩ => (outsAt m c t.val t.isLt).2.2.1
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem Phi_castSucc : (dats m 0 c).Φ t.castSucc = Phi m c t.val (Nat.le_of_lt t.isLt) := by
  dsimp only [dats]; exact Dat.Φ_castSucc (Phi m c) t
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = (outsAt m c t.val t.isLt).1 := by dsimp only [dats]
theorem after_6 : (dats m 0 c).after 6 t = (outsAt m c t.val t.isLt).2.1 := by dsimp only [dats]
theorem after_7 : (dats m 0 c).after 7 t = (outsAt m c t.val t.isLt).2.2.1 := by dsimp only [dats]

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d

theorem carry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t hz hi _
  have h0 : ¬t.val % 11 = 0 := fun h => by rw [idle6 t, h] at hi; exact absurd hi (by decide)
  rw [after_6, after_6, outsAt_eq, keep6 m c t _ h0, prevAt_pos m c t hz]

theorem before_6 (h0 : ¬t.val % 11 = 0) (d) : (dats m 0 c).before 6 t d = (prevAt m c t).2.1 := by
  rw [Dat.before_out_traj _ 6 rfl (fun _ _ => rfl) (carry6 m c) t.val t rfl d,
    if_neg (by rw [fresh6 t]; simp only [beq_iff_eq]; exact h0), after_6, prevAt_pos m c t (fun h => h0 (by rw [h]))]

/-! ## The obligation at a point -/

/-- What the body hands back for an output stored at some points only: its contents, live or not. -/
theorem leave6 (S : St F) (d) (hS : S.2.1 = (dats m 0 c).before 6 t d)
    (he : (step m c t S).2.1 = (outsAt m c t.val t.isLt).2.1) :
    owns (c : Thread nD τ) (mems t).a8 fullShare (step m c t S).2.1 ⊢ ((dats m 0 c).leavesExact 6 t : sProp 𝕄) := by
  by_cases h0 : t.val % 11 = 0
  · unfold Dat.leavesExact
    rw [show cfg0.idle 6 (cfg0.grid.coords t) = false from by rw [idle6 t, h0]; rfl, after_6, he]
  · by_cases h1 : t.val % 11 = 10
    · unfold Dat.leavesExact
      rw [show cfg0.idle 6 (cfg0.grid.coords t) = true from by rw [idle6 t, h1]; rfl, show (cfg0.win 6).flush t = true from by rw [fl6 t, h1]; rfl, after_6, he]
    · rw [Dat.leavesExact_idle (dats m 0 c) 6 t (by rw [idle6 t]; simp only [Bool.not_eq_true', beq_eq_false_iff_ne]; exact h0)
        (by rw [fl6 t]; simp only [beq_eq_false_iff_ne]; exact h1), keep6 m c t S h0, hS]
      iintro H; iexists _; iexact H

theorem leave5 (S : St F) (d) (hS : S.1 = (dats m 0 c).before 5 t d)
    (he : t.val % 11 = 10 → (step m c t S).1 = (outsAt m c t.val t.isLt).1) :
    owns (c : Thread nD τ) (mems t).a7 fullShare (step m c t S).1 ⊢ ((dats m 0 c).leavesExact 5 t : sProp 𝕄) := by
  by_cases h1 : t.val % 11 = 10
  · unfold Dat.leavesExact
    rw [show cfg0.idle 5 (cfg0.grid.coords t) = false from by rw [idle5 t, h1]; rfl, after_5, he h1]
  · rw [Dat.leavesExact_idle (dats m 0 c) 5 t (by rw [idle5 t]; simp only [Bool.not_eq_true', beq_eq_false_iff_ne]; exact h1)
      (by rw [fl5 t]; simp only [beq_eq_false_iff_ne]; exact h1), keep m c t S h1, hS]
    iintro H; iexists _; iexact H

/-- From contents that agree with what the point before left wherever the point reads them. -/
theorem point (d5 d6 d7) (a : Vec F S512x2048 .f32) (ha : ¬t.val % 11 = 0 → a = (prevAt m c t).2.2.2) :
    iprop(ins c (mems t) (blks m c t)
        ∗ outs c (mems t) ((dats m 0 c).before 5 t d5, (dats m 0 c).before 6 t d6, (dats m 0 c).before 7 t d7, a))
      ⊢ wp frame (wpE (defs₀ (F := F)) Variants.none c none) Set.univ (bodyAt0 t) (fun _ => iprop(
          ins c (mems t) (blks m c t) ∗ owns (c : Thread nD τ) acc fullShare (outsAt m c t.val t.isLt).2.2.2
          ∗ (dats m 0 c).leavesExact 5 t ∗ (dats m 0 c).leavesExact 6 t ∗ (dats m 0 c).leavesExact 7 t)) := by
  generalize hS : (((dats m 0 c).before 5 t d5, (dats m 0 c).before 6 t d6, (dats m 0 c).before 7 t d7, a) : St F) = S
  have s5 : S.1 = (dats m 0 c).before 5 t d5 := by rw [← hS]
  have s6 : S.2.1 = (dats m 0 c).before 6 t d6 := by rw [← hS]
  have s14 : S.2.2.2 = a := by rw [← hS]
  clear hS
  obtain ⟨e6, e7, e14, e⟩ := step_live m c t S (prevAt m c t) (fun h => by rw [s6, before_6 m c t h]) (fun h => by rw [s14, ha h])
  rw [← outsAt_eq] at e6 e7 e14 e
  have l7 : ((dats m 0 c).leavesExact 7 t : sProp 𝕄) = owns (c : Thread nD τ) (mems t).a9 fullShare (step m c t S).2.2.1 := by
    unfold Dat.leavesExact; rw [show cfg0.idle 7 (cfg0.grid.coords t) = false from (live t).2.2.2.2.2, after_7, e7]
  rw [l7, ← e14]
  iintro ⟨Hi, Ho⟩
  iapply (sound m c t S Set.univ _)
  isplitl [Hi]; · iexact Hi
  isplitl [Ho]; · iexact Ho
  iintro ⟨Hi, ⟨H5, H6, H7, Ha⟩⟩
  isplitl [Hi]; · iexact Hi
  isplitl [Ha]; · iexact Ha
  isplitl [H5]; · iapply (leave5 m c t S d5 s5 e); iexact H5
  isplitl [H6]; · iapply (leave6 m c t S d6 s6 e6); iexact H6
  iexact H7

/-- What the body is called with at point `t`, -/
def bodyPre : sProp 𝕄 :=
  iprop((dats m 0 c).Φ t.castSucc ∗ (dats m 0 c).owesAt () t.castSucc
    ∗ (∃ d, owns (c : Thread nD τ) (mems t).a2 fullShare ((dats m 0 c).before 0 t d))
    ∗ (∃ d, owns (c : Thread nD τ) (mems t).a3 fullShare ((dats m 0 c).before 1 t d))
    ∗ (∃ d, owns (c : Thread nD τ) (mems t).a4 fullShare ((dats m 0 c).before 2 t d))
    ∗ (∃ d, owns (c : Thread nD τ) (mems t).a5 fullShare ((dats m 0 c).before 3 t d))
    ∗ (∃ d, owns (c : Thread nD τ) (mems t).a6 fullShare ((dats m 0 c).before 4 t d))
    ∗ (∃ d, owns (c : Thread nD τ) (mems t).a7 fullShare ((dats m 0 c).before 5 t d))
    ∗ (∃ d, owns (c : Thread nD τ) (mems t).a8 fullShare ((dats m 0 c).before 6 t d))
    ∗ (∃ d, owns (c : Thread nD τ) (mems t).a9 fullShare ((dats m 0 c).before 7 t d)))

/-- and what it returns. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1000000 in
theorem sound_body :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).owesAt () t.succ = (dats m 0 c).owesAt () t.castSucc from rfl]
  rw [show (dats m 0 c).Φ t.succ = Phi m c (t.val + 1) t.isLt from rfl, show Phi m c (t.val + 1) t.isLt = iprop(owns (c : Thread nD τ) acc fullShare (outsAt m c t.val t.isLt).2.2.2 ∗ (∃ r, prngReg c r)) from rfl]
  rw [show ((dats m 0 c).leavesExact 0 t : sProp 𝕄) = owns (c : Thread nD τ) (mems t).a2 fullShare (iblk m c 0 t) from by
    unfold Dat.leavesExact; rw [show cfg0.idle 0 (cfg0.grid.coords t) = false from (live t).1, after_0]]
  rw [show ((dats m 0 c).leavesExact 1 t : sProp 𝕄) = owns (c : Thread nD τ) (mems t).a3 fullShare (iblk m c 1 t) from by
    unfold Dat.leavesExact; rw [show cfg0.idle 1 (cfg0.grid.coords t) = false from (live t).2.1, after_1]]
  rw [show ((dats m 0 c).leavesExact 2 t : sProp 𝕄) = owns (c : Thread nD τ) (mems t).a4 fullShare (iblk m c 2 t) from by
    unfold Dat.leavesExact; rw [show cfg0.idle 2 (cfg0.grid.coords t) = false from (live t).2.2.1, after_2]]
  rw [show ((dats m 0 c).leavesExact 3 t : sProp 𝕄) = owns (c : Thread nD τ) (mems t).a5 fullShare (iblk m c 3 t) from by
    unfold Dat.leavesExact; rw [show cfg0.idle 3 (cfg0.grid.coords t) = false from (live t).2.2.2.1, after_3]]
  rw [show ((dats m 0 c).leavesExact 4 t : sProp 𝕄) = owns (c : Thread nD τ) (mems t).a6 fullShare (iblk m c 4 t) from by
    unfold Dat.leavesExact; rw [show cfg0.idle 4 (cfg0.grid.coords t) = false from (live t).2.2.2.2.1, after_4]]
  have hP : (dats m 0 c).Φ t.castSucc ⊢ (iprop(∃ a, ⌜¬t.val % 11 = 0 → a = (prevAt m c t).2.2.2⌝ ∗ owns (c : Thread nD τ) acc fullShare a ∗ (∃ r, prngReg c r)) : sProp 𝕄) := by
    by_cases hz : t.val = 0
    · rw [Phi_castSucc m c t, Phi_zero m c _ _ hz, PhiA_eq]
      iintro ⟨⟨%a, HS⟩, Hg⟩
      iexists a; isplitr
      · ipureintro; intro h; exact absurd (by rw [hz]) h
      iframe
    · rw [Phi_castSucc m c t, Phi_pos m c _ _ hz]
      iintro ⟨HS, Hg⟩
      iexists _; isplitr
      · ipureintro; intro _; rw [prevAt_pos m c t hz]
      iframe
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HP := hP $$ HP
  icases HP with ⟨%a, %ha, HS, Hg⟩
  iapply (wp_wand_r frame (wpE (defs₀ (F := F)) Variants.none c none) Set.univ (Q := fun _ => iprop(
      ins c (mems t) (blks m c t) ∗ owns (c : Thread nD τ) acc fullShare (outsAt m c t.val t.isLt).2.2.2
      ∗ (dats m 0 c).leavesExact 5 t ∗ (dats m 0 c).leavesExact 6 t ∗ (dats m 0 c).leavesExact 7 t)))
  isplitl [HS H0 H1 H2 H3 H4 H5 H6 H7]
  · iapply (point m c t d5 d6 d7 a ha)
    unfold ins outs; dsimp only; iframe
  · iintro %_ ⟨⟨H0, H1, H2, H3, H4⟩, HS, H5, H6, H7⟩
    iframe

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 44 := N_0; omega)

/-! ## The run of the whole program -/

set_option backward.isDefEq.respectTransparency.types false in
/-- Every execution ends, with every array at what its blocks say and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Ffn1

end
-- ==== Proof.Ffn1Body.lean ====
/- The bodies of the first block's forward kernel, read at an index, over any blocks: what each case leaves in the outputs'
   buffers and in the accumulator. The values are those of the second block's kernel before its loss. -/
module

public import proofs.«01_k».proof.Proof.Ffn1Steps
public import proofs.«01_k».proof.Proof.HeadBody

@[expose] public section

set_option maxRecDepth 16384

noncomputable section

namespace Cert.Ffn1

open Cert.Ffn1FwdIdeal Cert.Ffn1FwdIdeal.Gen Cert.Reals Cert.Spec
open Idealize.ShloMosaic Idealize.ShloMosaic.TcCoe Idealize.SL.Sem
open scoped BigOperators
open Memref.IsWhole (read_unread)
open Cert.Trips (ld64 emb64 mem64 ix64 two)
open Cert.Head (NR pr PG tH PA xo)

/-! ## The stored values -/

theorem p3 (x : FVec Ideal S64x2048 .f32) (g : FVec Ideal S1x2048 .f32) (i : Fin 64) (d : Fin 2048) :
    k0_pay3 (F := Ideal) x g (ix2 i d) = x (ix2 i d) * rinv (fun d => x (ix2 i d)) * g (ix2 0 d) := by
  pointwise [k0_pay3]
  rfl

theorem p8 (n : FVec Ideal S512x2048 .bf16) (w : FVec Ideal S2048x512 .bf16) (i j : Fin 512) :
    k0_pay8 (F := Ideal) n w (ix3 0 i j) = pr n w i j := by
  pointwise [k0_pay8, k0_pay6, k0_pay5]
  rfl

theorem p9 (n : FVec Ideal S512x2048 .bf16) (w : FVec Ideal S2048x512 .bf16) (i j : Fin 512) :
    k0_pay9 (F := Ideal) n w (ix3 0 i j) = pr n w i j := by
  pointwise [k0_pay9, k0_pay7, k0_pay5]
  rfl

theorem p10 (n : FVec Ideal S512x2048 .bf16) (wg wu : FVec Ideal S2048x512 .bf16) (i j : Fin 512) :
    k0_pay10 (F := Ideal) n wg wu (ix2 i j) = tH n wg wu i j := by
  pointwise [k0_pay10, k0_pay6, k0_pay7, k0_pay5]
  rfl

theorem p1 (v : FVec Ideal S512x2048 .f32) (a : FVec Ideal S512x512 .bf16) (wo : FVec Ideal S512x2048 .bf16) (s : Fin 512) (d : Fin 2048) :
    k0_pay1 (F := Ideal) v a (k0_pay11 wo) (ix2 s d) = v (ix2 s d) + ∑ k : Fin 512, a (ix2 s k) * wo (ix2 k d) := by
  pointwise [k0_pay1, k0_pay11]

theorem p4 (y : S512x2048.Idx) : k0_pay4 (F := Ideal) y = (0 : EReal) := by
  idx_vars y
  pointwise [k0_pay4]

theorem p2 (h a : FVec Ideal S64x2048 .f32) (i : Fin 64) (d : Fin 2048) :
    k0_pay2 (F := Ideal) h a (ix2 i d) = xo (fun d => h (ix2 i d)) (fun d => a (ix2 i d)) d := by
  pointwise [k0_pay2]
  rfl

/-! ## The two loops -/

theorem off1 : ∀ k : Fin k0_t1_loop.trips, k0_off1 k = ![64 * k.val, 0] :=
  (by decide +kernel : ∀ k : Fin k0_t1_loop.trips, _)

theorem off2 : ∀ k : Fin k0_t2_loop.trips, k0_off2 k = ![64 * k.val, 0] :=
  (by decide +kernel : ∀ k : Fin k0_t2_loop.trips, _)

theorem trips1 : k0_t1_loop.trips = 8 := by decide +kernel

theorem trips2 : k0_t2_loop.trips = 8 := by decide +kernel

section Loop

variable (c : Dev nD) (i : grid0.Coords) (M : Mems) (hc0 : isFirst i) (hc1 : isLast i)

/-- The first loop's pieces before trip `n`. -/
abbrev pb1 (X2 : BufTy.Contents (Elt Ideal) M.a2.view.ty) (X3 : BufTy.Contents (Elt Ideal) M.a3.view.ty) :=
  pb_k0_t1 (F := Ideal) Variants.none c none i M.a2 M.h2 M.a3 M.h3 M.a4 M.h4 M.a5 M.h5 M.a6 M.h6 M.a7 M.h7 M.a8 M.h8 M.a9 M.h9 M.a10 M.h10 hc0 X2 X3

/-- The last loop's pieces before trip `n`. -/
abbrev pb2 (X2 : BufTy.Contents (Elt Ideal) M.a2.view.ty) (X10 : BufTy.Contents (Elt Ideal) M.a10.view.ty) :=
  pb_k0_t2 (F := Ideal) Variants.none c none i M.a2 M.h2 M.a3 M.h3 M.a4 M.h4 M.a5 M.h5 M.a6 M.h6 M.a7 M.h7 M.a8 M.h8 M.a9 M.h9 M.a10 M.h10 hc1 X2 X10

variable (X2 : BufTy.Contents (Elt Ideal) M.a2.view.ty) (X3 : BufTy.Contents (Elt Ideal) M.a3.view.ty) (X10 : BufTy.Contents (Elt Ideal) M.a10.view.ty)
  (R A : FVec Ideal S512x2048 .f32) (G : FVec Ideal S1x2048 .f32)

theorem nr_of (x : FVec Ideal S64x2048 .f32) (g : FVec Ideal S1x2048 .f32) (i : Fin 64) (d : Fin 2048) (s : Fin 512)
    (hx : ∀ d, x (ix2 i d) = R (ix2 s d)) (hg : g = G) : k0_pay3 (F := Ideal) x g (ix2 i d) = NR R G (ix2 s d) := by
  refine (p3 x g i d).trans ?_
  rw [hx, funext hx, hg]
  rfl

/-- The block's output rows. -/
def RO (y : S512x2048.Idx) : EReal := xo (fun d => R (ix2 (y 0) d)) (fun d => A (ix2 (y 0) d)) (y 1)

theorem ro_of (h a : FVec Ideal S64x2048 .f32) (i : Fin 64) (d : Fin 2048) (s : Fin 512)
    (hr : ∀ d, h (ix2 i d) = R (ix2 s d)) (ha : ∀ d, a (ix2 i d) = A (ix2 s d)) : k0_pay2 (F := Ideal) h a (ix2 i d) = RO R A (ix2 s d) := by
  refine (p2 h a i d).trans ?_
  rw [funext hr, funext ha]
  rfl

/-- The first loop's pieces hold the normed rows. -/
theorem rows_state (h2 : M.a2.view.read (Elt Ideal) X2 = R) (h3 : M.a3.view.read (Elt Ideal) X3 = G) : ∀ n : ℕ, n ≤ k0_t1_loop.trips →
    View.PiecesOf (Val := Elt Ideal) (e := .bf16) (NR R G) (pb1 c i M hc0 X2 X3 n)
      ∧ ∀ y : S512x2048.Idx, (y 0).val < 64 * n → ∃ p ∈ pb1 c i M hc0 X2 X3 n, y ∈ p.1.set := by
  intro n
  induction n with
  | zero => exact fun _ => ⟨trivial, fun y h => absurd h (by omega)⟩
  | succ n ih =>
    intro hn
    obtain ⟨q1, q2⟩ := ih (by omega)
    have hk : 64 * n + 64 ≤ 512 := by have := trips1; omega
    unfold pb1
    rw [pb_k0_t1_succ (F := Ideal) (k := ⟨n, hn⟩)]
    unfold tripL_k0_t1 trip_k0_t1
    dsimp only
    subst h2 h3
    refine ⟨⟨fun x => ?_, q1⟩, fun y h => ?_⟩
    · refine Eq.trans ?_ (congrArg (NR _ _) (emb64 _ n hk (off1 ⟨n, hn⟩) (k0_off1_inb i ⟨n, hn⟩ hc0) x)).symm
      rw [ix64 x]
      exact nr_of _ _ _ _ _ _ _ (fun d => ld64 _ n hk (off1 ⟨n, hn⟩) _ _ _ _) (View.readAt_full _ _ _)
    · by_cases hy : (y 0).val < 64 * n
      · obtain ⟨p, hp, hm⟩ := q2 y hy
        exact ⟨p, List.mem_cons_of_mem _ hp, hm⟩
      · exact ⟨_, List.mem_cons_self, mem64 _ n (off1 ⟨n, hn⟩) (k0_off1_inb i ⟨n, hn⟩ hc0) y (by omega) (by omega)⟩

/-- The last loop's pieces hold the output rows. -/
theorem last_state (h2 : M.a2.view.read (Elt Ideal) X2 = R) (h10 : M.a10.view.read (Elt Ideal) X10 = A) : ∀ n : ℕ, n ≤ k0_t2_loop.trips →
    View.PiecesOf (Val := Elt Ideal) (e := .f32) (RO R A) (pb2 c i M hc1 X2 X10 n)
      ∧ ∀ y : S512x2048.Idx, (y 0).val < 64 * n → ∃ p ∈ pb2 c i M hc1 X2 X10 n, y ∈ p.1.set := by
  intro n
  induction n with
  | zero => exact fun _ => ⟨trivial, fun y h => absurd h (by omega)⟩
  | succ n ih =>
    intro hn
    obtain ⟨q1, q2⟩ := ih (by omega)
    have hk : 64 * n + 64 ≤ 512 := by have := trips2; omega
    have ho := off2 ⟨n, hn⟩
    have hi := k0_off2_inb i ⟨n, hn⟩ hc1
    unfold pb2
    rw [pb_k0_t2_succ (F := Ideal) (k := ⟨n, hn⟩)]
    unfold tripL_k0_t2 trip_k0_t2
    dsimp only
    subst h2 h10
    refine ⟨⟨fun x => ?_, q1⟩, fun y h => ?_⟩
    · refine Eq.trans ?_ (congrArg (RO _ _) (emb64 _ n hk ho hi x)).symm
      rw [ix64 x]
      exact ro_of _ _ _ _ _ _ _ (fun d => ld64 _ n hk ho _ _ _ _) (fun d => ld64 _ n hk ho _ _ _ _)
    · by_cases hy : (y 0).val < 64 * n
      · obtain ⟨p, hp, hm⟩ := q2 y hy
        exact ⟨p, List.mem_cons_of_mem _ hp, hm⟩
      · exact ⟨_, List.mem_cons_self, mem64 _ n ho hi y (by omega) (by omega)⟩

/-- Pieces that cover every row, read back. -/
theorem canon_of {e : EltTy} (L : List (View.Piece (Elt Ideal) S512x2048 e)) (f : S512x2048.Idx → Elt Ideal e) (q : View.PiecesOf (Val := Elt Ideal) f L)
    (y : S512x2048.Idx) (q' : ∃ p ∈ L, y ∈ p.1.set) : View.canon (Val := Elt Ideal) L y = f y := by
  have := View.canon_append_of_piecesOf (Val := Elt Ideal) (e := e) _ [] _ q y q'
  rwa [List.append_nil] at this

theorem rows_canon (h2 : M.a2.view.read (Elt Ideal) X2 = R) (h3 : M.a3.view.read (Elt Ideal) X3 = G) (y : S512x2048.Idx) :
    View.canon (Val := Elt Ideal) (pb1 c i M hc0 X2 X3 k0_t1_loop.trips) y = NR R G y :=
  have q := rows_state c i M hc0 X2 X3 R G h2 h3 _ le_rfl
  canon_of (e := .bf16) _ _ q.1 y (q.2 y (by rw [trips1]; exact (y 0).isLt))

theorem last_canon (h2 : M.a2.view.read (Elt Ideal) X2 = R) (h10 : M.a10.view.read (Elt Ideal) X10 = A) (y : S512x2048.Idx) :
    View.canon (Val := Elt Ideal) (pb2 c i M hc1 X2 X10 k0_t2_loop.trips) y = RO R A y :=
  have q := last_state c i M hc1 X2 X10 R A h2 h10 _ le_rfl
  canon_of (e := .f32) _ _ q.1 y (q.2 y (by rw [trips2]; exact (y 0).isLt))

end Loop

/-! ## The blocks' values -/

theorem vG (n : FVec Ideal S512x2048 .bf16) (wg wu : FVec Ideal S2048x512 .bf16) (y : S2x512x512.Idx) :
    (if (y 0).val = 1 then k0_pay9 (F := Ideal) n wu (ix3 0 (y 1) (y 2)) else k0_pay8 (F := Ideal) n wg (ix3 0 (y 1) (y 2))) = PG n wg wu y := by
  unfold PG
  split
  · exact p9 n wu (y 1) (y 2)
  · exact p8 n wg (y 1) (y 2)

theorem vA (v : FVec Ideal S512x2048 .f32) (n : FVec Ideal S512x2048 .bf16) (wg wu : FVec Ideal S2048x512 .bf16) (wo : FVec Ideal S512x2048 .bf16) (y : S512x2048.Idx) :
    k0_pay1 (F := Ideal) v (k0_pay10 n wg wu) (k0_pay11 wo) y = (v y + PA n wg wu wo y : EReal) := by
  idx_vars y
  refine (p1 _ _ _ y0 y1).trans (congrArg (v (ix2 y0 y1) + · : EReal → EReal) ?_)
  exact Finset.sum_congr rfl fun k _ => congrArg (· * wo (ix2 k y1) : EReal → EReal) (p10 n wg wu y0 k)

/-! ## The cases -/

section Cases

variable (c : Dev nD) (i : grid0.Coords) (M : Mems) (X : Ins Ideal) (S : St Ideal)

/-- What a first step reads of the normed rows. -/
theorem rows_read (hc0 : isFirst i) (hc1 : ¬isLast i) (z : Vec Ideal S512x2048 .bf16) :
    View.read (Elt Ideal) M.a8.view (M.a8.view.writes (Elt Ideal) (M.h8.unread z)
      (pb1 c i M hc0 (M.h2.unread X.x2) (M.h3.unread X.x3) (Scf.trips 0#32 (Scalar.addi 0#32 8#32) 1#32))) = (NR X.x2 X.x3 : FVec Ideal S512x2048 .bf16) := by
  refine (View.read_writes_eq_canon _ _ _ fun y => rows_cover c i M hc0 hc1 X z y).trans (funext fun y => ?_)
  exact rows_canon c i M hc0 _ _ X.x2 X.x3 (read_unread _ _) (read_unread _ _) y

theorem A8 (hc0 : isFirst i) (hc1 : ¬isLast i) : (outA c i M hc0 hc1 X S).2.1 = (NR X.x2 X.x3 : FVec Ideal S512x2048 .bf16) := by
  unfold outA
  dsimp only
  refine (View.read_writes_junk_eq_canon _ _).trans (funext fun y => ?_)
  frame_open
  exact rows_canon c i M hc0 _ _ X.x2 X.x3 (read_unread _ _) (read_unread _ _) y

theorem A9 (hc0 : isFirst i) (hc1 : ¬isLast i) (y) : (outA c i M hc0 hc1 X S).2.2.1 y = PG (NR X.x2 X.x3) X.x4 X.x5 y := by
  unfold outA
  dsimp only
  frame_out
  rw [rows_read c i M X hc0 hc1]
  exact (two _ _ y).trans (vG _ _ _ y)

theorem A10 (hc0 : isFirst i) (hc1 : ¬isLast i) (y) : (outA c i M hc0 hc1 X S).2.2.2 y = (0 + PA (NR X.x2 X.x3) X.x4 X.x5 X.x6 y : EReal) := by
  unfold outA
  dsimp only
  frame_out
  rw [rows_read c i M X hc0 hc1]
  exact (vA _ _ _ _ _ y).trans (by rw [p4])

/-- The accumulator as the last loop reads it. -/
def accC : FVec Ideal S512x2048 .f32 := fun y => (S.2.2.2 y + PA S.2.1 X.x4 X.x5 X.x6 y : EReal)

/-- What the last loop finds in the accumulator. -/
theorem acc_read (a : Memref sig .tc .vmem S512x2048 .f32) (f : BufTy.Contents (Elt Ideal) a.view.ty) (h'') :
    View.read (Elt Ideal) a.view (a.view.writes (Elt Ideal) f [⟨Rect.unit (s := S512x2048) ![0, 0] ![512, 2048] h'',
      k0_pay1 (F := Ideal) S.2.2.2 (k0_pay10 S.2.1 X.x4 X.x5) (k0_pay11 X.x6)⟩]) = accC X S := by
  refine (View.read_writes_eq_canon _ _ _ fun y => ⟨_, List.mem_cons_self, ?_⟩).trans ?_
  · refine (Rect.mem_set_unit (s := S512x2048) (off := ![0, 0]) (size := ![512, 2048]) (inb := h'')).mpr fun a => ?_
    match a with
    | 0 => exact ⟨Nat.zero_le _, by show (y 0).val < 0 + 512; have := (y 0).isLt; exact (Nat.zero_add 512).symm ▸ this⟩
    | 1 => exact ⟨Nat.zero_le _, by show (y 1).val < 0 + 2048; have := (y 1).isLt; exact (Nat.zero_add 2048).symm ▸ this⟩
  · refine (View.canon_cons_unit_lit _ _ _ (fun a => by match a with | 0 => rfl | 1 => rfl)).trans (funext fun y => vA _ _ _ _ _ y)

theorem B9 (hc0 : ¬isFirst i) (hc1 : ¬isLast i) (y) : (outB c i M hc0 hc1 X S).2.2.1 y = PG S.2.1 X.x4 X.x5 y := by
  unfold outB
  dsimp only
  frame_out
  exact (two _ _ y).trans (vG _ _ _ y)

theorem B10 (hc0 : ¬isFirst i) (hc1 : ¬isLast i) (y) : (outB c i M hc0 hc1 X S).2.2.2 y = accC X S y := by
  unfold outB
  dsimp only
  frame_out
  exact vA _ _ _ _ _ y

theorem C9 (hc0 : ¬isFirst i) (hc1 : isLast i) (y) : (outC c i M hc0 hc1 X S).2.2.1 y = PG S.2.1 X.x4 X.x5 y := by
  unfold outC
  dsimp only
  frame_out
  exact (two _ _ y).trans (vG _ _ _ y)

theorem C10 (hc0 : ¬isFirst i) (hc1 : isLast i) (y) : (outC c i M hc0 hc1 X S).2.2.2 y = accC X S y := by
  unfold outC
  dsimp only
  frame_out
  exact vA _ _ _ _ _ y

theorem C7 (hc0 : ¬isFirst i) (hc1 : isLast i) (y) : (outC c i M hc0 hc1 X S).1 y = RO X.x2 (accC X S) y := by
  unfold outC
  dsimp only
  frame_out
  exact last_canon c i M hc1 _ _ X.x2 (accC X S) (read_unread _ _) (acc_read X S M.a10 _ _) y

end Cases

end Cert.Ffn1

end
-- ==== Proof.Ffn1Kernel.lean ====
/- The first block's forward kernel read at an index: the blocks it loads, what its points leave, and what its three results
   hold after the run. -/
module

public import proofs.«01_k».proof.Proof.Ffn1Frame
public import proofs.«01_k».proof.Proof.Ffn1Body
public import proofs.«01_k».proof.Proof.HeadKernel

@[expose] public section

set_option maxRecDepth 16384

noncomputable section

namespace Cert.Ffn1

open Cert.Ffn1FwdIdeal Cert.Ffn1FwdIdeal.Gen Cert.Reals Cert.Spec
open Idealize.ShloMosaic Idealize.ShloMosaic.TcCoe Idealize.SL.Sem
open Idealize.ShloMosaic.Pipeline (Dat)
open scoped BigOperators
open Cert.Head (NR pr PG PA xo lo hi)

variable (m : (ℓ : Loc nD τ sig) → Buf (Elt Ideal) ℓ) (c : Dev nD)

/-! ## What the region finds in its operands -/

theorem N44 (t : Fin cfg0.N) : t.val < 44 := by have := t.isLt; have : cfg0.N = 44 := N_0; omega

theorem idx : ∀ t : Fin cfg0.N, win0_0.index t = ![t.val / 11, 0] ∧ win0_1.index t = ![0, 0] ∧ win0_2.index t = ![0, t.val % 11]
    ∧ win0_3.index t = ![0, 11 + t.val % 11] ∧ win0_4.index t = ![t.val % 11, 0] ∧ win0_5.index t = ![t.val / 11, 0] ∧ win0_6.index t = ![t.val / 11, 0]
    ∧ win0_7.index t = ![0, t.val / 11, t.val % 11] :=
  (by decide +kernel : ∀ t : Fin grid0.N, _)

/-- The row of the arrays that grid point `t` holds at row `s` of its block. -/
def row (t : Fin cfg0.N) (s : Fin 512) : Fin 2048 := ⟨512 * (t.val / 11) + s.val, by have := N44 t; omega⟩

/-- The column of the gate's half that grid point `t` holds. -/
def col (t : Fin cfg0.N) (n : Fin 512) : Fin 5632 := ⟨512 * (t.val % 11) + n.val, by omega⟩

/-- The layer's input. -/
def HH (s d : Fin 2048) : EReal := m (c, Proc.tc.devRef main_arg0) (ix3 0 s d)

/-- The norm's scale. -/
def GG (d : Fin 2048) : EReal := m (c, Proc.tc.devRef main_arg1) (ix2 0 d)

/-- The input projection's weight. -/
def WW (d : Fin 2048) (k : Fin 11264) : EReal := m (c, Proc.tc.devRef main_arg2) (ix3 0 d k)

/-- The output projection's weight. -/
def WO (n : Fin 5632) (k : Fin 2048) : EReal := m (c, Proc.tc.devRef main_arg3) (ix3 0 n k)

/-- The normed row. -/
def NN (s d : Fin 2048) : EReal := HH m c s d * rinv (HH m c s) * GG m c d

/-- The projection: the gate's half at 0, the other at 1. -/
def GUv (a : Fin 2) (s : Fin 2048) (n : Fin 5632) : EReal :=
  proj (HH m c) (GG m c) (WW m c) s (if a.val = 1 then hi n else lo n)

/-- The gated product. -/
def HC (s : Fin 2048) (n : Fin 5632) : EReal := GUv m c 0 s n * sgK (GUv m c 0 s n) * GUv m c 1 s n

/-- The product with the output projection. -/
def AC (s d : Fin 2048) : EReal := ∑ n : Fin 5632, HC m c s n * WO m c n d

/-- The block's output. -/
def X3 (s : Fin 2048) : Fin 2048 → EReal := xo (HH m c s) (AC m c s)

theorem e0 (s d : Fin 2048) : V m c main_v0 (ix2 s d) = HH m c s d := by
  entry_read
  pointwise []
  rfl

theorem e1 (d : Fin 2048) : V m c main_arg1 (ix2 0 d) = GG m c d := by
  entry_read
  rfl

theorem e2 (d : Fin 2048) (k : Fin 11264) : V m c main_v2 (ix2 d k) = WW m c d k := by
  entry_read
  pointwise []
  rfl

theorem e4 (n : Fin 5632) (k : Fin 2048) : V m c main_v4 (ix2 n k) = WO m c n k := by
  entry_read
  pointwise []
  rfl

/-! ## The blocks a grid point loads -/

theorem b0 (t : Fin cfg0.N) (s : Fin 512) (d : Fin 2048) : (show FVec Ideal S512x2048 .f32 from iblk m c 0 t) (ix2 s d) = HH m c (row t s) d := by
  refine Eq.trans ?_ (e0 m c (row t s) d)
  blk_ext [iblk, idx t, row]

theorem b1 (t : Fin cfg0.N) (d : Fin 2048) : (show FVec Ideal S1x2048 .f32 from iblk m c 1 t) (ix2 0 d) = GG m c d := by
  refine Eq.trans ?_ (e1 m c d)
  blk_ext [iblk, idx t]

theorem b2 (t : Fin cfg0.N) (d : Fin 2048) (n : Fin 512) : (show FVec Ideal S2048x512 .bf16 from iblk m c 2 t) (ix2 d n) = WW m c d (lo (col t n)) := by
  refine Eq.trans ?_ (e2 m c d _)
  blk_ext [iblk, idx t, lo, hi, col]

theorem b3 (t : Fin cfg0.N) (d : Fin 2048) (n : Fin 512) : (show FVec Ideal S2048x512 .bf16 from iblk m c 3 t) (ix2 d n) = WW m c d (hi (col t n)) := by
  refine Eq.trans ?_ (e2 m c d _)
  blk_ext [iblk, idx t, lo, hi, col]

theorem b4 (t : Fin cfg0.N) (n : Fin 512) (k : Fin 2048) : (show FVec Ideal S512x2048 .bf16 from iblk m c 4 t) (ix2 n k) = WO m c (col t n) k := by
  refine Eq.trans ?_ (e4 m c (col t n) k)
  blk_ext [iblk, idx t, col]

/-! ## The normed rows' buffer -/

theorem nr_at (t : Fin cfg0.N) (s : Fin 512) (d : Fin 2048) : NR (blks m c t).x2 (blks m c t).x3 (ix2 s d) = NN m c (row t s) d := by
  refine congrArg₂ (fun a b : EReal => a * b) (congrArg₂ (fun a b : EReal => a * b) (b0 m c t s d) (congrArg rinv (funext (b0 m c t s)))) (b1 m c t d)

/-- At every point of a row block the normed rows' buffer holds the block's. -/
theorem n_at : ∀ (n : ℕ) (hn : n < cfg0.N) (s : Fin 512) (d : Fin 2048),
    (outsAt m c n hn).2.1 (ix2 s d) = NN m c (row ⟨n, hn⟩ s) d := by
  intro n
  induction n with
  | zero =>
    intro hn s d
    rw [show outsAt m c 0 hn = step m c ⟨0, hn⟩ (prevAt m c ⟨0, hn⟩) from outsAt_eq m c ⟨0, hn⟩, step_A m c _ _ rfl]
    exact (congrFun (A8 c _ _ _ _ _ _) (ix2 s d)).trans (nr_at m c _ s d)
  | succ n ih =>
    intro hn s d
    rw [show outsAt m c (n + 1) hn = step m c ⟨n + 1, hn⟩ (prevAt m c ⟨n + 1, hn⟩) from outsAt_eq m c ⟨n + 1, hn⟩]
    by_cases h0 : (n + 1) % 11 = 0
    · rw [step_A m c _ _ h0]
      exact (congrFun (A8 c _ _ _ _ _ _) (ix2 s d)).trans (nr_at m c _ s d)
    · rw [keep6 m c _ _ h0, prevAt_pos m c _ (Nat.succ_ne_zero n)]
      refine (ih (Nat.lt_of_succ_lt hn) s d).trans (congrArg (NN m c · d) (Fin.ext ?_))
      dsimp only [row]
      omega

theorem n_prev (t : Fin cfg0.N) (h0 : ¬t.val % 11 = 0) (s : Fin 512) (d : Fin 2048) :
    (prevAt m c t).2.1 (ix2 s d) = NN m c (row t s) d := by
  rw [prevAt_pos m c t (by omega)]
  refine (n_at m c _ _ s d).trans (congrArg (NN m c · d) (Fin.ext ?_))
  dsimp only [row]
  omega

/-! ## The blocks' values in the arrays -/

/-- What the third result holds. -/
def O7 (y : S2x2048x5632.Idx) : EReal := GUv m c (y 0) (y 1) (y 2)

section Blocks

variable (t : Fin cfg0.N) (n wo : S512x2048.Idx → EReal) (wg wu : S2048x512.Idx → EReal)
  (hn : ∀ s d, n (ix2 s d) = NN m c (row t s) d) (h4 : ∀ n k, wo (ix2 n k) = WO m c (col t n) k)
  (h2 : ∀ d n, wg (ix2 d n) = WW m c d (lo (col t n))) (h3 : ∀ d n, wu (ix2 d n) = WW m c d (hi (col t n)))

include hn h2 in
theorem prG (s j : Fin 512) : pr n wg s j = GUv m c 0 (row t s) (col t j) :=
  Finset.sum_congr rfl fun k _ => congrArg₂ (fun a b : EReal => a * b) (hn s k) (h2 k j)

include hn h3 in
theorem prU (s j : Fin 512) : pr n wu s j = GUv m c 1 (row t s) (col t j) :=
  Finset.sum_congr rfl fun k _ => congrArg₂ (fun a b : EReal => a * b) (hn s k) (h3 k j)

include hn h2 h3 in
theorem PG_at (y : S2x512x512.Idx) : PG n wg wu y = O7 m c (ix3 (y 0) (row t (y 1)) (col t (y 2))) := by
  idx_vars y
  show (if y0.val = 1 then pr n wu y1 y2 else pr n wg y1 y2) = GUv m c y0 (row t y1) (col t y2)
  by_cases h : y0.val = 1
  · obtain rfl : y0 = 1 := Fin.ext h
    exact (if_pos rfl).trans (prU m c t n wu hn h3 y1 y2)
  · obtain rfl : y0 = 0 := Fin.ext (by show y0.val = 0; omega)
    exact (if_neg h).trans (prG m c t n wg hn h2 y1 y2)

/-- A grid point's part of the product with the output projection. -/
def part (t : Fin cfg0.N) (y : S512x2048.Idx) : EReal := ∑ k : Fin 512, HC m c (row t (y 0)) (col t k) * WO m c (col t k) (y 1)

include hn h2 h3 h4 in
theorem PA_at (y : S512x2048.Idx) : PA n wg wu wo y = part m c t y := by
  idx_vars y
  refine Finset.sum_congr rfl fun k _ => congrArg₂ (fun a b : EReal => a * b) ?_ (h4 k y1)
  show pr n wg y0 k * sgK (pr n wg y0 k) * pr n wu y0 k = _
  rw [prG m c t n wg hn h2, prU m c t n wu hn h3]
  rfl

end Blocks

/-! ## What the points leave -/

set_option maxHeartbeats 1000000 in
theorem out7 (t : Fin cfg0.N) (y : S2x512x512.Idx) :
    (outsAt m c t.val t.isLt).2.2.1 y = O7 m c (ix3 (y 0) (row t (y 1)) (col t (y 2))) := by
  rw [outsAt_eq]
  by_cases h0 : t.val % 11 = 0
  · rw [step_A m c t _ h0]
    exact (A9 c _ _ _ _ _ _ y).trans (PG_at m c t _ _ _ (nr_at m c t) (b2 m c t) (b3 m c t) y)
  · have h := PG_at m c t _ _ _ (n_prev m c t h0) (b2 m c t) (b3 m c t) y
    by_cases h1 : t.val % 11 = 10
    · rw [step_C m c t _ h0 h1]
      exact (C9 c _ _ _ _ _ _ y).trans h
    · rw [step_B m c t _ h0 h1]
      exact (B9 c _ _ _ _ _ _ y).trans h

/-- What a point adds to the accumulator it finds. -/
theorem PA_prev (t : Fin cfg0.N) (h0 : ¬t.val % 11 = 0) (y : S512x2048.Idx) :
    PA (prevAt m c t).2.1 (blks m c t).x4 (blks m c t).x5 (blks m c t).x6 y = part m c t y :=
  PA_at m c t (prevAt m c t).2.1 (blks m c t).x6 (blks m c t).x4 (blks m c t).x5 (n_prev m c t h0) (b4 m c t) (b2 m c t) (b3 m c t) y

/-- What a row block's first point adds. -/
theorem PA_first (t : Fin cfg0.N) (y : S512x2048.Idx) :
    PA (NR (blks m c t).x2 (blks m c t).x3) (blks m c t).x4 (blks m c t).x5 (blks m c t).x6 y = part m c t y :=
  PA_at m c t (NR (blks m c t).x2 (blks m c t).x3) (blks m c t).x6 (blks m c t).x4 (blks m c t).x5 (nr_at m c t) (b4 m c t) (b2 m c t) (b3 m c t) y

theorem accA (t : Fin cfg0.N) (h0 : t.val % 11 = 0) (y : S512x2048.Idx) : (outsAt m c t.val t.isLt).2.2.2 y = (0 + part m c t y : EReal) := by
  rw [outsAt_eq, step_A m c t _ h0]
  rw [A10 c, PA_first]

theorem accP (t : Fin cfg0.N) (h0 : ¬t.val % 11 = 0) (y : S512x2048.Idx) :
    (outsAt m c t.val t.isLt).2.2.2 y = accC (blks m c t) (prevAt m c t) y := by
  rw [outsAt_eq]
  by_cases h1 : t.val % 11 = 10
  · rw [step_C m c t _ h0 h1]
    exact C10 c _ _ _ _ _ _ y
  · rw [step_B m c t _ h0 h1]
    exact B10 c _ _ _ _ _ _ y

theorem accB (t : Fin cfg0.N) (h0 : ¬t.val % 11 = 0) (y : S512x2048.Idx) :
    (outsAt m c t.val t.isLt).2.2.2 y = ((outsAt m c (t.val - 1) (by have := t.isLt; omega)).2.2.2 y + part m c t y : EReal) := by
  refine (accP m c t h0 y).trans (congrArg₂ (fun a b : EReal => a + b) ?_ (PA_prev m c t h0 y))
  rw [prevAt_pos m c t (by omega)]

theorem ac_at (t : Fin cfg0.N) (hr : t.val % 11 = 10) (y : S512x2048.Idx) : (outsAt m c t.val t.isLt).2.2.2 y = AC m c (row t (y 0)) (y 1) := by
  refine (Pipeline.eq_sum_fin_of_reset_step_apply_of_flush (M := EReal) (fun n h => (outsAt m c n h).2.2.2) 11 (fun _ => 0) (part m c)
    (accA m c) (accB m c) t hr y).trans ?_
  rw [zero_add]
  refine Fin.sum_mul_add_congr fun s k hl => ?_
  have hrow : row ⟨11 * (t.val / 11) + s.val, Pipeline.run_point_lt_of_flush t hr s⟩ (y 0) = row t (y 0) :=
    Fin.ext (by dsimp only [row]; omega)
  have hcol : col ⟨11 * (t.val / 11) + s.val, Pipeline.run_point_lt_of_flush t hr s⟩ k = ⟨s.val * 512 + k.val, hl⟩ :=
    Fin.ext (by dsimp only [col]; omega)
  rw [hrow, hcol]

/-- The accumulator as a row block's last step reads it. -/
theorem acc_last (t : Fin cfg0.N) (h1 : t.val % 11 = 10) (y : S512x2048.Idx) :
    accC (blks m c t) (prevAt m c t) y = AC m c (row t (y 0)) (y 1) :=
  (accP m c t (by omega) y).symm.trans (ac_at m c t h1 y)

/-- What the first result holds. -/
def O5 (y : S2048x2048.Idx) : EReal := X3 m c (y 0) (y 1)

theorem out5 (t : Fin cfg0.N) (h1 : t.val % 11 = 10) (y : S512x2048.Idx) :
    (outsAt m c t.val t.isLt).1 y = O5 m c (ix2 (row t (y 0)) (y 1)) := by
  idx_vars y
  rw [outsAt_eq, step_C m c t _ (by omega) h1]
  refine (C7 c _ _ _ _ _ _ (ix2 y0 y1)).trans ?_
  show xo _ _ y1 = xo _ _ y1
  exact congrArg₂ (xo · · y1) (funext (b0 m c t y0)) (funext fun d => acc_last m c t h1 (ix2 y0 d))

/-! ## The results after the run -/

/-- What the second result holds. -/
def O6 (y : S2048x2048.Idx) : EReal := NN m c (y 0) (y 1)

theorem final5 : (dats m 0 c).arrAt 5 cfg0.N = O5 m c := by
  refine (dats m 0 c).arrAt_eq_of_covers 5 _ (by decide +kernel) fun t hf y => ?_
  blk_simp
  rw [after_5, out5 m c t (beq_iff_eq.mp ((fl5 t).symm.trans hf))]
  refine congrArg (O5 m c) ?_
  blk_point [idx t, row, col]

theorem final6 : (dats m 0 c).arrAt 6 cfg0.N = O6 m c := by
  refine (dats m 0 c).arrAt_eq_of_covers 6 _ (by decide +kernel) fun t hf y => ?_
  blk_simp
  rw [after_6]
  idx_vars y
  refine (n_at m c _ _ y0 y1).trans ?_
  refine congrArg (O6 m c) (a₁ := ix2 (row t y0) y1) ?_
  blk_point [idx t, row, col]

theorem final7 : (dats m 0 c).arrAt 7 cfg0.N = O7 m c := by
  refine (dats m 0 c).arrAt_eq_of_covers 7 _ (by decide +kernel) fun t hf y => ?_
  blk_simp
  rw [after_7, out7]
  refine congrArg (O7 m c) ?_
  blk_point [idx t, row, col]

/-- The kernel's run: the results and the arguments at its end. -/
theorem run' (ρ : Dev nD → PrngReg) : θ_run defs (onTc (τ := τ) (main (F := Ideal))) ⟨m, fun _ => 0, ρ⟩ (fun r => ∀ c : Dev nD,
    r.2.mem (((c : Dev nD), Proc.tc.devRef main_v5_0)) = O5 m c
    ∧ r.2.mem (((c : Dev nD), Proc.tc.devRef main_v5_1)) = O6 m c
    ∧ r.2.mem (((c : Dev nD), Proc.tc.devRef main_v5_2)) = O7 m c
    ∧ r.2.mem (((c : Dev nD), Proc.tc.devRef main_arg0)) = m (((c : Dev nD), Proc.tc.devRef main_arg0))
    ∧ r.2.mem (((c : Dev nD), Proc.tc.devRef main_arg1)) = m (((c : Dev nD), Proc.tc.devRef main_arg1))
    ∧ r.2.mem (((c : Dev nD), Proc.tc.devRef main_arg2)) = m (((c : Dev nD), Proc.tc.devRef main_arg2))
    ∧ r.2.mem (((c : Dev nD), Proc.tc.devRef main_arg3)) = m (((c : Dev nD), Proc.tc.devRef main_arg3))) :=
  (θ_run defs _ _).mono (fun _ h c => ⟨((h.1 c).1 5).trans (final5 m c), ((h.1 c).1 6).trans (final6 m c), ((h.1 c).1 7).trans (final7 m c), h.2 c⟩)
    (θ_run_and (run_main m ρ) (frame_of m ρ (dats m) (A_eq m) (run_main m ρ)))

end Cert.Ffn1

end
-- ==== Proof.Ffn1.lean ====
/- The first feed-forward layer: the kernel's results are the reference's on every argument. -/
module

public import proofs.«01_k».proof.Defs
public import proofs.«01_k».proof.Proof.Gen.Ffn1Fwd
public import proofs.«01_k».proof.Proof.Gen.Ffn1FwdRefIdeal.Run
public import proofs.«01_k».proof.Proof.Ffn1Kernel
public import proofs.«01_k».proof.Proof.HeadRef

@[expose] public section

set_option maxRecDepth 16384

noncomputable section

namespace Cert.Ffn1

open Idealize.ShloMosaic Idealize.ShloMosaic.TcCoe Idealize.SL.Sem Cert.Reals Cert.Spec
open scoped BigOperators

/-- The two forms of the logistic function, infinities included. -/
theorem sgK_all (x : EReal) : sgK x = sgR x := by
  have h1 : Ideal.div 1 1 = 1 := (div_pos_coe one_pos 1).trans (by norm_num)
  induction x with
  | coe a => exact sgK_eq ⟨a, rfl⟩
  | top =>
    rw [sgK, sgR, ofBits_half, EReal.coe_mul_top_of_pos (by norm_num), Ideal.tanh_top, mul_one, ← EReal.coe_add, EReal.neg_top, Ideal.exp_bot, add_zero, h1]
    norm_num
  | bot =>
    rw [sgK, sgR, ofBits_half, EReal.coe_mul_bot_of_pos (by norm_num), Ideal.tanh_bot, EReal.neg_bot, Ideal.exp_top, EReal.add_top_of_ne_bot (by decide),
      mul_neg, mul_one, ← EReal.coe_neg, ← EReal.coe_add]
    norm_num [Ideal.div]

section Values

open Cert.Ffn1FwdIdeal
open Cert.Ffn2HeadRefIdeal.Read (H3 H3_at R1 R1_at R2 R2_at)
open Cert.Ffn1GuRefIdeal.Read (GU GU_at)

variable (m : (ℓ : Loc nD τ sig) → Buf (Elt Ideal) ℓ) (c : Dev nD)

/-- An argument's array. -/
abbrev Y0 : FVec Ideal S1x2048x2048 .f32 := m (c, Proc.tc.devRef main_arg0)
abbrev Y1 : FVec Ideal S1x2048 .f32 := m (c, Proc.tc.devRef main_arg1)
abbrev Y2 : FVec Ideal S1x2048x11264 .f32 := m (c, Proc.tc.devRef main_arg2)
abbrev Y3 : FVec Ideal S1x5632x2048 .f32 := m (c, Proc.tc.devRef main_arg3)

/-- The reference's first result. -/
abbrev RX : FVec Ideal S2048x2048 .f32 := shapeCast _ (H3 (Y0 m c) (GU (Y0 m c) (Y1 m c) (Y2 m c)) (Y3 m c)) Cert.Ffn1FwdRefIdeal.Gen.shapeCasts_S1x2048x2048_S2048x2048

variable {m c}

theorem gate_half (s : Fin 2048) (n : Fin 5632) : GU (Y0 m c) (Y1 m c) (Y2 m c) (ix3 0 s ⟨n.val, by omega⟩) = GUv m c 0 s n :=
  GU_at ..

theorem up_half (s : Fin 2048) (n : Fin 5632) : GU (Y0 m c) (Y1 m c) (Y2 m c) (ix3 0 s ⟨5632 + n.val, by omega⟩) = GUv m c 1 s n :=
  GU_at ..

/-- The first result: the layer's output. -/
theorem res0 : O5 m c = RX m c := by
  funext y
  idx_vars y
  pointwise []
  rw [H3_at]
  refine (congrArg (fun z : EReal => Y0 m c (ix3 0 y0 y1) + Ideal.ofBits .f32 0x3F000000#32 * z) (Finset.sum_congr rfl fun n _ => ?_)).symm
  rw [gate_half, up_half, ← sgK_all]
  rfl

/-- The second result: the normed rows. -/
theorem res1 : O6 m c = R1 (Y0 m c) (Y1 m c) := by
  funext y
  idx_vars y
  exact (R1_at _ _ y0 y1).symm

/-- The third result: the two halves of the projection. -/
theorem res2 : O7 m c = R2 (Y0 m c) (Y1 m c) (Y2 m c) := by
  funext y
  idx_vars y
  rw [R2_at, gate_half, up_half]
  by_cases ha : y0.val = 1
  · obtain rfl : y0 = 1 := Fin.ext ha
    rfl
  · obtain rfl : y0 = 0 := Fin.ext (by show y0.val = 0; omega)
    rfl

end Values

/-- The kernel computes the reference. -/
theorem algebraic : Cert.algebraic_Ffn1FwdIdeal_Ffn1FwdRefIdeal := by
  pair_intro
  · run_from run' m g
  · run_from Cert.Ffn1FwdRefIdeal.Value.run m' g'
    · exact res0.symm
    · exact res1.symm
    · exact res2.symm

end Cert.Ffn1

end
-- ==== Proof.DwIn.lean ====
/- The gradient of the second layer's input projection in its weight: the kernel's product is the reference's, on any arguments. -/
module

public import proofs.«01_k».proof.Defs
public import proofs.«01_k».proof.Proof.Gen.DwInIdeal.Value
public import proofs.«01_k».proof.Proof.Gen.DwInRefIdeal.Run
public import Idealize.ShloMosaic.Lib.Pipeline.ValueKit
public import Idealize.ShloMosaic.Lib.Pipeline.ReadBack
public import Idealize.ShloMosaic.Lib.StableHlo.ReadAt
public import Idealize.ShloMosaic.Lib.Claim
public import proofs.«01_k».proof.Proof.GuRef

@[expose] public section

set_option maxRecDepth 16384

noncomputable section

namespace Cert.DwInPair

open Idealize.ShloMosaic Idealize.ShloMosaic.TcCoe Idealize.SL.Sem
open scoped BigOperators

section Reference

open Cert.DwInRefIdeal Cert.DwInRefIdeal.Gen

/-- The reference's result as a function of its arguments. -/
def R (x : FVec Ideal S1x2048x2048 .f32) (g : FVec Ideal S1x2048 .f32) (ct : FVec Ideal S1x2048x11264 .f32) : FVec Ideal S2048x11264 .bf16 :=
  truncf .bf16 (shapeCast _ (broadcastInDim S1x2048x11264 ![1, 2] bcast_S2048x11264_S1x2048x11264_1_2 (transpose S2048x11264 [1, 0]
    (Host.dotGeneral dot_S1x2048x11264_S1x2048x2048_S11264x2048_01_01_2_2_n_n none ct (Cert.Ffn1GuRefIdeal.Read.HN x g))
    transposes_S11264x2048_S2048x11264_1_0)) shapeCasts_S1x2048x11264_S2048x11264) bitsLt_bf16_f32

end Reference

section Values

open Cert.DwInIdeal Cert.DwInIdeal.Gen Cert.DwInIdeal.Value

variable (m : (ℓ : Loc nD τ sig) → Buf (Elt Ideal) ℓ) (c : Dev nD)

open Cert.Spec
open Cert.Ffn1GuRefIdeal.Read (HN HN_at)

/-- The layer's input, the norm's scale and the cotangent of the projection. -/
abbrev X : FVec Ideal S1x2048x2048 .f32 := m (c, Proc.tc.devRef main_arg0)
abbrev G : FVec Ideal S1x2048 .f32 := m (c, Proc.tc.devRef main_arg1)
abbrev CT : FVec Ideal S1x2048x11264 .f32 := m (c, Proc.tc.devRef main_arg2)

theorem idx : ∀ t : Fin cfg0.N, win0_0.index t = ![0, t.val % 4] ∧ win0_1.index t = ![t.val / 16, 0, t.val / 4 % 4]
    ∧ win0_2.index t = ![t.val % 4, t.val / 4] :=
  (by decide +kernel : ∀ t : Fin grid0.N, _)

/-- The row of the weight that grid point `t` holds at row `d` of its block. -/
def row (t : Fin cfg0.N) (d : Fin 512) : Fin 2048 := ⟨512 * (t.val % 4) + d.val, by omega⟩

/-- The column of the weight that grid point `t` holds at column `j` of its block, and where it stands among the halves. -/
def col (t : Fin cfg0.N) (j : Fin 1408) : Fin 11264 := ⟨1408 * (t.val / 4) + j.val, by have := t.isLt; have : cfg0.N = 32 := N_0; omega⟩
def half (t : Fin cfg0.N) : Fin 2 := ⟨t.val / 16, by have := t.isLt; have : cfg0.N = 32 := N_0; omega⟩
def at' (t : Fin cfg0.N) (j : Fin 1408) : Fin 5632 := ⟨1408 * (t.val / 4 % 4) + j.val, by omega⟩

theorem e0 (s d : Fin 2048) : V m c main_v15 (ix2 s d) = HN (X m c) (G m c) (ix3 0 s d) := by
  refine Eq.trans ?_ (HN_at _ _ s d).symm
  entry_read
  pointwise []
  rfl

theorem e1 (a : Fin 2) (s : Fin 2048) (n : Fin 5632) : V m c main_v23 (ix3 a s n) = CT m c (ix3 0 s ⟨5632 * a.val + n.val, by omega⟩) := by
  match a with
  | 0 | 1 =>
    entry_read
    pointwise []

theorem b0 (t : Fin cfg0.N) (s : Fin 2048) (d : Fin 512) : (show FVec Ideal S2048x512 .bf16 from iblk m c 0 t) (ix2 s d) = HN (X m c) (G m c) (ix3 0 s (row t d)) := by
  refine Eq.trans ?_ (e0 m c s (row t d))
  blk_ext [iblk, idx t, row]

theorem b1 (t : Fin cfg0.N) (s : Fin 2048) (j : Fin 1408) : (show FVec Ideal S1x2048x1408 .bf16 from iblk m c 1 t) (ix3 0 s j) = CT m c (ix3 0 s (col t j)) := by
  refine Eq.trans ?_ ((e1 m c (half t) s (at' t j)).trans (congrArg (fun k => CT m c (ix3 0 s k)) (Fin.ext ?_)))
  · blk_ext [iblk, idx t, half, at']
  · show 5632 * (t.val / 16) + (1408 * (t.val / 4 % 4) + j.val) = 1408 * (t.val / 4) + j.val
    omega

theorem pay (a : FVec Ideal S2048x512 .bf16) (w : FVec Ideal S1x2048x1408 .bf16) (d : Fin 512) (j : Fin 1408) :
    k0_pay1 (F := Ideal) a w (ix2 d j) = ∑ s : Fin 2048, a (ix2 s d) * w (ix3 0 s j) := by
  pointwise [k0_pay1]

/-- The gradient of the weight. -/
def O (y : S2048x11264.Idx) : EReal := ∑ s : Fin 2048, HN (X m c) (G m c) (ix3 0 s (y 0)) * CT m c (ix3 0 s (y 1))

theorem out_at (t : Fin cfg0.N) (d : Fin 512) (j : Fin 1408) :
    out0_2 (F := Ideal) (iblk m c 0 t) (iblk m c 1 t) (ix2 d j) = O m c (ix2 (row t d) (col t j)) := by
  frame_out
  refine (pay _ _ d j).trans (Finset.sum_congr rfl fun s _ => ?_)
  exact congrArg₂ (· * · : EReal → EReal → EReal) (b0 m c t s d) (b1 m c t s j)

theorem final : (dats m 0 c).arrAt 2 cfg0.N = O m c := by
  refine (dats m 0 c).arrAt_eq_of_covers 2 _ (by decide +kernel) fun t hf y => ?_
  blk_simp
  idx_vars y
  rw [after0_2, out_at]
  refine congrArg (O m c) ?_
  blk_point [idx t, row, col]

theorem out : O m c = R (X m c) (G m c) (CT m c) := by
  funext y
  idx_vars y
  symm
  pointwise [R]
  exact (Fin.sum_univ_one _).trans (Finset.sum_congr rfl fun s _ => EReal.mul_comm _ _)

end Values

/-- The kernel computes the reference. -/
theorem algebraic : Cert.algebraic_DwInIdeal_DwInRefIdeal := by
  pair_intro
  · run_from Cert.DwInIdeal.Value.run_blocks m g
  · run_from Cert.DwInRefIdeal.Value.run m' g'
    exact ((final m c).trans (out m c)).symm

end Cert.DwInPair

end
-- ==== Proof.MixDy.lean ====
/- The gradient of the mixer's output projection in its rows: the kernel's product is the reference's, on any arguments. -/
module

public import proofs.«01_k».proof.Defs
public import proofs.«01_k».proof.Proof.Gen.MixDyIdeal.Value
public import proofs.«01_k».proof.Proof.Gen.MixDyRefIdeal.Run
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

namespace Cert.MixDyPair

open Idealize.ShloMosaic Idealize.ShloMosaic.TcCoe Idealize.SL.Sem
open scoped BigOperators

section Reference

open Cert.MixDyRefIdeal Cert.MixDyRefIdeal.Gen

/-- The reference's result as a function of its arguments. -/
def R (w ct : FVec Ideal S1x2048x2048 .f32) : FVec Ideal S2048x2048 .f32 :=
  shapeCast _ (Host.dotGeneral dot_S1x2048x2048_S2048x2048_S1x2048x2048_2_1_01_0_n_n none ct (shapeCast _ w shapeCasts_S1x2048x2048_S2048x2048))
    shapeCasts_S1x2048x2048_S2048x2048

end Reference

section Values

open Cert.MixDyIdeal Cert.MixDyIdeal.Gen Cert.MixDyIdeal.Value

variable (m : (ℓ : Loc nD τ sig) → Buf (Elt Ideal) ℓ) (c : Dev nD)

/-- The weight and the cotangent. -/
abbrev W : FVec Ideal S1x2048x2048 .f32 := m (c, Proc.tc.devRef main_arg0)
abbrev CT : FVec Ideal S1x2048x2048 .f32 := m (c, Proc.tc.devRef main_arg1)

theorem idx : ∀ t : Fin cfg0.N, win0_0.index t = ![t.val, 0] ∧ win0_1.index t = ![0, 0] ∧ win0_2.index t = ![t.val, 0] :=
  (by decide +kernel : ∀ t : Fin grid0.N, _)

/-- The row of the arrays that grid point `t` holds at row `s` of its block. -/
def row (t : Fin cfg0.N) (s : Fin 512) : Fin 2048 := ⟨512 * t.val + s.val, by have := t.isLt; have : cfg0.N = 4 := N_0; omega⟩

theorem e0 (s k : Fin 2048) : V m c main_v1 (ix2 s k) = CT m c (ix3 0 s k) := by
  entry_read
  pointwise []

theorem e1 (i k : Fin 2048) : V m c main_v3 (ix2 i k) = W m c (ix3 0 i k) := by
  entry_read
  pointwise []

theorem b0 (t : Fin cfg0.N) (s : Fin 512) (k : Fin 2048) : (show FVec Ideal S512x2048 .bf16 from iblk m c 0 t) (ix2 s k) = CT m c (ix3 0 (row t s) k) := by
  refine Eq.trans ?_ (e0 m c (row t s) k)
  blk_ext [iblk, idx t, row]

theorem b1 (t : Fin cfg0.N) (i k : Fin 2048) : (show FVec Ideal S2048x2048 .bf16 from iblk m c 1 t) (ix2 i k) = W m c (ix3 0 i k) := by
  refine Eq.trans ?_ (e1 m c i k)
  blk_ext [iblk, idx t]

theorem pay (a : FVec Ideal S512x2048 .bf16) (w : FVec Ideal S2048x2048 .bf16) (s : Fin 512) (i : Fin 2048) :
    k0_pay1 (F := Ideal) a w (ix2 s i) = ∑ k : Fin 2048, a (ix2 s k) * w (ix2 i k) := by
  pointwise [k0_pay1]

/-- The cotangent of the projection's rows. -/
def O (y : S2048x2048.Idx) : EReal := ∑ k : Fin 2048, CT m c (ix3 0 (y 0) k) * W m c (ix3 0 (y 1) k)

theorem out_at (t : Fin cfg0.N) (s : Fin 512) (i : Fin 2048) : out0_2 (F := Ideal) (iblk m c 0 t) (iblk m c 1 t) (ix2 s i) = O m c (ix2 (row t s) i) := by
  frame_out
  refine (pay _ _ s i).trans (Finset.sum_congr rfl fun k _ => ?_)
  exact congrArg₂ (· * · : EReal → EReal → EReal) (b0 m c t s k) (b1 m c t i k)

theorem final : (dats m 0 c).arrAt 2 cfg0.N = O m c := by
  refine (dats m 0 c).arrAt_eq_of_covers 2 _ (by decide +kernel) fun t hf y => ?_
  blk_simp
  idx_vars y
  rw [after0_2, out_at]
  refine congrArg (O m c) ?_
  blk_point [idx t, row]

theorem out : O m c = R (W m c) (CT m c) := by
  funext y
  idx_vars y
  symm
  pointwise [R]
  rfl

end Values

/-- The kernel computes the reference. -/
theorem algebraic : Cert.algebraic_MixDyIdeal_MixDyRefIdeal := by
  pair_intro
  · run_from Cert.MixDyIdeal.Value.run_blocks m g
  · run_from Cert.MixDyRefIdeal.Value.run m' g'
    exact ((final m c).trans (out m c)).symm

end Cert.MixDyPair

end
-- ==== Proof.MixOut.lean ====
/- The mixer's output projection and its residual: the kernel's result is the reference's, on any arguments. -/
module

public import proofs.«01_k».proof.Defs
public import proofs.«01_k».proof.Proof.Gen.MixOutIdeal.Value
public import proofs.«01_k».proof.Proof.Gen.MixOutRefIdeal.Run
public import Idealize.ShloMosaic.Lib.Pipeline.ValueKit
public import Idealize.ShloMosaic.Lib.Pipeline.ReadBack
public import Idealize.ShloMosaic.Lib.StableHlo.ReadAt
public import Idealize.ShloMosaic.Lib.Claim

@[expose] public section

set_option maxRecDepth 16384

noncomputable section

namespace Cert.MixOutPair

open Idealize.ShloMosaic Idealize.ShloMosaic.TcCoe Idealize.SL.Sem
open scoped BigOperators

section Reference

open Cert.MixOutRefIdeal Cert.MixOutRefIdeal.Gen

/-- The reference's result as a function of its arguments. -/
def R (h y w : FVec Ideal S1x2048x2048 .f32) : FVec Ideal S2048x2048 .f32 :=
  shapeCast _ (addf h (Host.dotGeneral dot_S1x2048x2048_S2048x2048_S1x2048x2048_2_0_01_1_n_n none y (shapeCast _ w shapeCasts_S1x2048x2048_S2048x2048)))
    shapeCasts_S1x2048x2048_S2048x2048

end Reference

section Values

open Cert.MixOutIdeal Cert.MixOutIdeal.Gen Cert.MixOutIdeal.Value

variable (m : (ℓ : Loc nD τ sig) → Buf (Elt Ideal) ℓ) (c : Dev nD)

/-- The layer's input, the mixer's rows and the weight. -/
abbrev H : FVec Ideal S1x2048x2048 .f32 := m (c, Proc.tc.devRef main_arg0)
abbrev Y : FVec Ideal S1x2048x2048 .f32 := m (c, Proc.tc.devRef main_arg1)
abbrev W : FVec Ideal S1x2048x2048 .f32 := m (c, Proc.tc.devRef main_arg2)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The row of the arrays that grid point `t` holds at row `s` of its block. -/
def row (t : Fin cfg0.N) (s : Fin 512) : Fin 2048 := ⟨512 * t.val + s.val, by have := t.isLt; have : cfg0.N = 4 := N_0; omega⟩

theorem e0 (s k : Fin 2048) : V m c main_v1 (ix2 s k) = Y m c (ix3 0 s k) := by
  entry_read
  pointwise []

theorem e1 (k d : Fin 2048) : V m c main_v3 (ix2 k d) = W m c (ix3 0 k d) := by
  entry_read
  pointwise []

theorem e2 (s d : Fin 2048) : V m c main_v4 (ix2 s d) = H m c (ix3 0 s d) := by
  entry_read
  pointwise []

theorem b0 (t : Fin cfg0.N) (s : Fin 512) (k : Fin 2048) : (show FVec Ideal S512x2048 .bf16 from iblk m c 0 t) (ix2 s k) = Y m c (ix3 0 (row t s) k) := by
  refine Eq.trans ?_ (e0 m c (row t s) k)
  blk_ext [iblk, idx t, row]

theorem b1 (t : Fin cfg0.N) (k d : Fin 2048) : (show FVec Ideal S2048x2048 .bf16 from iblk m c 1 t) (ix2 k d) = W m c (ix3 0 k d) := by
  refine Eq.trans ?_ (e1 m c k d)
  blk_ext [iblk, idx t]

theorem b2 (t : Fin cfg0.N) (s : Fin 512) (d : Fin 2048) : (show FVec Ideal S512x2048 .f32 from iblk m c 2 t) (ix2 s d) = H m c (ix3 0 (row t s) d) := by
  refine Eq.trans ?_ (e2 m c (row t s) d)
  blk_ext [iblk, idx t, row]

theorem pay (r : FVec Ideal S512x2048 .f32) (a : FVec Ideal S512x2048 .bf16) (w : FVec Ideal S2048x2048 .bf16) (s : Fin 512) (d : Fin 2048) :
    k0_pay1 (F := Ideal) r a w (ix2 s d) = r (ix2 s d) + ∑ k : Fin 2048, a (ix2 s k) * w (ix2 k d) := by
  pointwise [k0_pay1]

/-- The layer's output. -/
def O (y : S2048x2048.Idx) : EReal := H m c (ix3 0 (y 0) (y 1)) + ∑ k : Fin 2048, Y m c (ix3 0 (y 0) k) * W m c (ix3 0 k (y 1))

theorem out_at (t : Fin cfg0.N) (s : Fin 512) (d : Fin 2048) :
    out0_3 (F := Ideal) (iblk m c 0 t) (iblk m c 1 t) (iblk m c 2 t) (ix2 s d) = O m c (ix2 (row t s) d) := by
  frame_out
  refine (pay _ _ _ s d).trans (congrArg₂ (· + · : EReal → EReal → EReal) (b2 m c t s d) (Finset.sum_congr rfl fun k _ => ?_))
  exact congrArg₂ (· * · : EReal → EReal → EReal) (b0 m c t s k) (b1 m c t k d)

theorem final : (dats m 0 c).arrAt 3 cfg0.N = O m c := by
  refine (dats m 0 c).arrAt_eq_of_covers 3 _ (by decide +kernel) fun t hf y => ?_
  blk_simp
  idx_vars y
  rw [after0_3, out_at]
  refine congrArg (O m c) ?_
  blk_point [idx t, row]

theorem out : O m c = R (H m c) (Y m c) (W m c) := by
  funext y
  idx_vars y
  symm
  pointwise [R]
  rfl

end Values

/-- The kernel computes the reference. -/
theorem algebraic : Cert.algebraic_MixOutIdeal_MixOutRefIdeal := by
  pair_intro
  · run_from Cert.MixOutIdeal.Value.run_blocks m g
  · run_from Cert.MixOutRefIdeal.Value.run m' g'
    exact ((final m c).trans (out m c)).symm

end Cert.MixOutPair

end
-- ==== Proof.Ffn2BBits.lean ====
/- The frame of the second backward kernel in the machine's values, from the run written over any values. -/
module

public import proofs.«01_k».proof.Defs
public import proofs.«01_k».proof.Proof.Gen.Ffn2Bwd
public import proofs.«01_k».proof.Proof.Ffn2BFrame

@[expose] public section

set_option maxRecDepth 16384

noncomputable section

namespace Cert.Ffn2BBits
open Idealize.ShloMosaic Idealize.ShloMosaic.TcCoe Idealize.SL.Sem

/-- The two prints have the same procedures. -/
theorem defs_eq : (Cert.Ffn2Bwd.defs (F := Bits)) = Cert.Ffn2BwdIdeal.defs (F := Bits) := by sl_kernel_rfl

set_option maxHeartbeats 1000000 in
/-- The two prints have the same text. -/
theorem main_eq : (Cert.Ffn2Bwd.main (F := Bits)) = Cert.Ffn2BwdIdeal.main (F := Bits) := by sl_kernel_rfl

set_option maxHeartbeats 1000000 in
/-- The program changes none of its arguments and leaves no signal behind. -/
theorem frame_bits : Cert.quiescent_Ffn2Bwd := fun m ρ _ => by
  have h := (Cert.Ffn2B.quiescent (F := Bits) m ρ)
  rw [← defs_eq, ← main_eq] at h
  exact h
end Cert.Ffn2BBits
end
-- ==== Proof.HeadBits.lean ====
/- The frame of the forward kernel with the loss in the machine's values, from the run written over any values. -/
module

public import proofs.«01_k».proof.Defs
public import proofs.«01_k».proof.Proof.Gen.Ffn2Head
public import proofs.«01_k».proof.Proof.HeadFrame

@[expose] public section

set_option maxRecDepth 16384

noncomputable section

namespace Cert.HeadBits
open Idealize.ShloMosaic Idealize.ShloMosaic.TcCoe Idealize.SL.Sem

/-- The two prints have the same procedures. -/
theorem defs_eq : (Cert.Ffn2Head.defs (F := Bits)) = Cert.Ffn2HeadIdeal.defs (F := Bits) := by sl_kernel_rfl

set_option maxHeartbeats 1000000 in
/-- The two prints have the same text. -/
theorem main_eq : (Cert.Ffn2Head.main (F := Bits)) = Cert.Ffn2HeadIdeal.main (F := Bits) := by sl_kernel_rfl

set_option maxHeartbeats 1000000 in
/-- The program changes none of its arguments and leaves no signal behind. -/
theorem frame_bits : Cert.quiescent_Ffn2Head := fun m ρ _ => by
  have h := (Cert.Head.quiescent (F := Bits) m ρ)
  rw [← defs_eq, ← main_eq] at h
  exact h
end Cert.HeadBits
end
-- ==== Proof.Ffn1Bits.lean ====
/- The frame of the first forward kernel in the machine's values, from the run written over any values. -/
module

public import proofs.«01_k».proof.Defs
public import proofs.«01_k».proof.Proof.Gen.Ffn1Fwd
public import proofs.«01_k».proof.Proof.Ffn1Frame

@[expose] public section

set_option maxRecDepth 16384

noncomputable section

namespace Cert.Ffn1Bits
open Idealize.ShloMosaic Idealize.ShloMosaic.TcCoe Idealize.SL.Sem

/-- The two prints have the same procedures. -/
theorem defs_eq : (Cert.Ffn1Fwd.defs (F := Bits)) = Cert.Ffn1FwdIdeal.defs (F := Bits) := by sl_kernel_rfl

set_option maxHeartbeats 1000000 in
/-- The two prints have the same text. -/
theorem main_eq : (Cert.Ffn1Fwd.main (F := Bits)) = Cert.Ffn1FwdIdeal.main (F := Bits) := by sl_kernel_rfl

set_option maxHeartbeats 1000000 in
/-- The program changes none of its arguments and leaves no signal behind. -/
theorem frame_bits : Cert.quiescent_Ffn1Fwd := fun m ρ _ => by
  have h := (Cert.Ffn1.quiescent (F := Bits) m ρ)
  rw [← defs_eq, ← main_eq] at h
  exact h
end Cert.Ffn1Bits
end
-- ==== Proof.lean ====
module

public import proofs.«01_k».proof.Proof.Gu
public import proofs.«01_k».proof.Proof.Mix
public import proofs.«01_k».proof.Proof.DxB
public import proofs.«01_k».proof.Proof.DxA
public import proofs.«01_k».proof.Proof.Pool
public import proofs.«01_k».proof.Proof.Ffn2B
public import proofs.«01_k».proof.Proof.Head
public import proofs.«01_k».proof.Proof.MixF
public import proofs.«01_k».proof.Proof.Ffn1
public import proofs.«01_k».proof.Proof.DwIn
public import proofs.«01_k».proof.Proof.MixDy
public import proofs.«01_k».proof.Proof.MixOut
public import proofs.«01_k».proof.Proof.Gen.GlaBwd.Frame
public import proofs.«01_k».proof.Proof.Gen.GlaBwdIdeal.Frame
public import proofs.«01_k».proof.Proof.Gen.GlaFwd.Frame
public import proofs.«01_k».proof.Proof.Gen.GlaFwdIdeal.Frame
public import proofs.«01_k».proof.Proof.Ffn2BBits
public import proofs.«01_k».proof.Proof.HeadBits
public import proofs.«01_k».proof.Proof.Ffn1Bits
public import Idealize.ShloMosaic.Lib.Claim
public import proofs.«01_k».proof.Proof.Gen.Ffn1Gu.Frame
public import proofs.«01_k».proof.Proof.Gen.MixBwd.Frame
public import proofs.«01_k».proof.Proof.Gen.DxB.Frame
public import proofs.«01_k».proof.Proof.Gen.DxA.Frame
public import proofs.«01_k».proof.Proof.Gen.Pool.Frame
public import proofs.«01_k».proof.Proof.Gen.Ffn2Bwd.Loops
public import proofs.«01_k».proof.Proof.Gen.Ffn2Bwd.Frame
public import proofs.«01_k».proof.Proof.Gen.Ffn2Head.Loops
public import proofs.«01_k».proof.Proof.Gen.Ffn2Head.Frame
public import proofs.«01_k».proof.Proof.Gen.MixFwd.Frame
public import proofs.«01_k».proof.Proof.Gen.Ffn1Fwd.Loops
public import proofs.«01_k».proof.Proof.Gen.Ffn1Fwd.Frame
public import proofs.«01_k».proof.Proof.Gen.DwIn.Frame
public import proofs.«01_k».proof.Proof.Gen.MixDy.Frame
public import proofs.«01_k».proof.Proof.Gen.MixOut.Frame
public import Idealize.ShloMosaic.Adequacy
public import Idealize.ShloMosaic.Init

@[expose] public section

noncomputable section

namespace Cert.Proof

open Idealize.ShloMosaic Idealize.SL.Sem Cert.Ffn1Gu

theorem claim : Cert.Claim := ⟨Cert.Ffn1Gu.Gen.facts, Cert.Ffn1GuIdeal.Gen.facts, Cert.Ffn1GuRefIdeal.Gen.facts, Cert.MixBwd.Gen.facts, Cert.MixBwdIdeal.Gen.facts, Cert.MixBwdRefIdeal.Gen.facts, Cert.DxB.Gen.facts, Cert.DxBIdeal.Gen.facts, Cert.DxBRefIdeal.Gen.facts, Cert.DxA.Gen.facts, Cert.DxAIdeal.Gen.facts, Cert.DxARefIdeal.Gen.facts, Cert.Pool.Gen.facts, Cert.PoolIdeal.Gen.facts, Cert.PoolRefIdeal.Gen.facts, Cert.Ffn2Bwd.Gen.facts, Cert.Ffn2BwdIdeal.Gen.facts, Cert.Ffn2BwdRefIdeal.Gen.facts, Cert.Ffn2Head.Gen.facts, Cert.Ffn2HeadIdeal.Gen.facts, Cert.Ffn2HeadRefIdeal.Gen.facts, Cert.MixFwd.Gen.facts, Cert.MixFwdIdeal.Gen.facts, Cert.MixFwdRefIdeal.Gen.facts, Cert.Ffn1Fwd.Gen.facts, Cert.Ffn1FwdIdeal.Gen.facts, Cert.Ffn1FwdRefIdeal.Gen.facts, Cert.DwIn.Gen.facts, Cert.DwInIdeal.Gen.facts, Cert.DwInRefIdeal.Gen.facts, Cert.MixDy.Gen.facts, Cert.MixDyIdeal.Gen.facts, Cert.MixDyRefIdeal.Gen.facts, Cert.MixOut.Gen.facts, Cert.MixOutIdeal.Gen.facts, Cert.MixOutRefIdeal.Gen.facts, Cert.GlaBwd.Gen.facts, Cert.GlaBwdIdeal.Gen.facts, Cert.GlaFwd.Gen.facts, Cert.GlaFwdIdeal.Gen.facts, Cert.Pre_finite_gu.Gen.facts, Cert.Pre_finite_mix.Gen.facts, Cert.Pre_finite_dxb.Gen.facts, Cert.Pre_finite_dxa.Gen.facts, Cert.Pre_finite_pool.Gen.facts, Cert.Pre_finite_ffn2.Gen.facts, Cert.Pre_finite_head.Gen.facts,
  fun m ρ _ => Cert.Ffn1Gu.Gen.frame m ρ,
  fun m ρ _ => Cert.Ffn1GuIdeal.Gen.frame m ρ,
  fun m ρ _ => Cert.Ffn1GuIdeal.Gen.frame m ρ,
  fun m ρ _ => (θ_run _ _ _).mono (fun r h => And.intro (fun c => (h c).2.2) (sem_eq_zero_of_no_sems (by decide) r.2))
    (Cert.Ffn1GuRefIdeal.Value.run m ρ),
  fun m ρ _ => (θ_run _ _ _).mono (fun r h => And.intro (fun c => (h c).2.2) (sem_eq_zero_of_no_sems (by decide) r.2))
    (Cert.Ffn1GuRefIdeal.Value.run m ρ),
  fun m ρ _ => Cert.MixBwd.Gen.frame m ρ,
  fun m ρ _ => Cert.MixBwdIdeal.Gen.frame m ρ,
  fun m ρ _ => Cert.MixBwdIdeal.Gen.frame m ρ,
  fun m ρ _ => (θ_run _ _ _).mono (fun r h => And.intro (fun c => (h c).2.2.2) (sem_eq_zero_of_no_sems (by decide) r.2))
    (Cert.MixBwdRefIdeal.Value.run m ρ),
  fun m ρ _ => (θ_run _ _ _).mono (fun r h => And.intro (fun c => (h c).2.2.2) (sem_eq_zero_of_no_sems (by decide) r.2))
    (Cert.MixBwdRefIdeal.Value.run m ρ),
  fun m ρ _ => Cert.DxB.Gen.frame m ρ,
  fun m ρ _ => Cert.DxBIdeal.Gen.frame m ρ,
  fun m ρ _ => Cert.DxBIdeal.Gen.frame m ρ,
  fun m ρ _ => (θ_run _ _ _).mono (fun r h => And.intro (fun c => (h c).2.2) (sem_eq_zero_of_no_sems (by decide) r.2))
    (Cert.DxBRefIdeal.Value.run m ρ),
  fun m ρ _ => (θ_run _ _ _).mono (fun r h => And.intro (fun c => (h c).2.2) (sem_eq_zero_of_no_sems (by decide) r.2))
    (Cert.DxBRefIdeal.Value.run m ρ),
  fun m ρ _ => Cert.DxA.Gen.frame m ρ,
  fun m ρ _ => Cert.DxAIdeal.Gen.frame m ρ,
  fun m ρ _ => Cert.DxAIdeal.Gen.frame m ρ,
  fun m ρ _ => (θ_run _ _ _).mono (fun r h => And.intro (fun c => (h c).2.2) (sem_eq_zero_of_no_sems (by decide) r.2))
    (Cert.DxARefIdeal.Value.run m ρ),
  fun m ρ _ => (θ_run _ _ _).mono (fun r h => And.intro (fun c => (h c).2.2) (sem_eq_zero_of_no_sems (by decide) r.2))
    (Cert.DxARefIdeal.Value.run m ρ),
  fun m ρ _ => Cert.Pool.Gen.frame m ρ,
  fun m ρ _ => Cert.PoolIdeal.Gen.frame m ρ,
  fun m ρ _ => Cert.PoolIdeal.Gen.frame m ρ,
  fun m ρ _ => (θ_run _ _ _).mono (fun r h => And.intro (fun c => (h c).2.2.2.2) (sem_eq_zero_of_no_sems (by decide) r.2))
    (Cert.PoolRefIdeal.Value.run m ρ),
  fun m ρ _ => (θ_run _ _ _).mono (fun r h => And.intro (fun c => (h c).2.2.2.2) (sem_eq_zero_of_no_sems (by decide) r.2))
    (Cert.PoolRefIdeal.Value.run m ρ),
  fun m ρ h => Cert.Ffn2BBits.frame_bits m ρ h,
  fun m ρ _ => Cert.Ffn2B.quiescent m ρ,
  fun m ρ _ => Cert.Ffn2B.quiescent m ρ,
  fun m ρ _ => (θ_run _ _ _).mono (fun r h => And.intro (fun c => (h c).2.2.2.2.2.2) (sem_eq_zero_of_no_sems (by decide) r.2))
    (Cert.Ffn2BwdRefIdeal.Value.run m ρ),
  fun m ρ _ => (θ_run _ _ _).mono (fun r h => And.intro (fun c => (h c).2.2.2.2.2.2) (sem_eq_zero_of_no_sems (by decide) r.2))
    (Cert.Ffn2BwdRefIdeal.Value.run m ρ),
  fun m ρ h => Cert.HeadBits.frame_bits m ρ h,
  fun m ρ _ => Cert.Head.quiescent m ρ,
  fun m ρ _ => Cert.Head.quiescent m ρ,
  fun m ρ _ => (θ_run _ _ _).mono (fun r h => And.intro (fun c => (h c).2.2.2.2.2) (sem_eq_zero_of_no_sems (by decide) r.2))
    (Cert.Ffn2HeadRefIdeal.Value.run m ρ),
  fun m ρ _ => (θ_run _ _ _).mono (fun r h => And.intro (fun c => (h c).2.2.2.2.2) (sem_eq_zero_of_no_sems (by decide) r.2))
    (Cert.Ffn2HeadRefIdeal.Value.run m ρ),
  fun m ρ _ => Cert.MixFwd.Gen.frame m ρ,
  fun m ρ _ => Cert.MixFwdIdeal.Gen.frame m ρ,
  fun m ρ _ => (θ_run _ _ _).mono (fun r h => And.intro (fun c => (h c).2.2) (sem_eq_zero_of_no_sems (by decide) r.2))
    (Cert.MixFwdRefIdeal.Value.run m ρ),
  fun m ρ h => Cert.Ffn1Bits.frame_bits m ρ h,
  fun m ρ _ => Cert.Ffn1.quiescent m ρ,
  fun m ρ _ => (θ_run _ _ _).mono (fun r h => And.intro (fun c => (h c).2.2.2) (sem_eq_zero_of_no_sems (by decide) r.2))
    (Cert.Ffn1FwdRefIdeal.Value.run m ρ),
  fun m ρ _ => Cert.DwIn.Gen.frame m ρ,
  fun m ρ _ => Cert.DwInIdeal.Gen.frame m ρ,
  fun m ρ _ => (θ_run _ _ _).mono (fun r h => And.intro (fun c => (h c).2) (sem_eq_zero_of_no_sems (by decide) r.2))
    (Cert.DwInRefIdeal.Value.run m ρ),
  fun m ρ _ => Cert.MixDy.Gen.frame m ρ,
  fun m ρ _ => Cert.MixDyIdeal.Gen.frame m ρ,
  fun m ρ _ => (θ_run _ _ _).mono (fun r h => And.intro (fun c => (h c).2) (sem_eq_zero_of_no_sems (by decide) r.2))
    (Cert.MixDyRefIdeal.Value.run m ρ),
  fun m ρ _ => Cert.MixOut.Gen.frame m ρ,
  fun m ρ _ => Cert.MixOutIdeal.Gen.frame m ρ,
  fun m ρ _ => (θ_run _ _ _).mono (fun r h => And.intro (fun c => (h c).2) (sem_eq_zero_of_no_sems (by decide) r.2))
    (Cert.MixOutRefIdeal.Value.run m ρ),
  fun m ρ _ => Cert.GlaBwd.Gen.frame m ρ,
  fun m ρ _ => Cert.GlaBwdIdeal.Gen.frame m ρ,
  fun m ρ _ => Cert.GlaFwd.Gen.frame m ρ,
  fun m ρ _ => Cert.GlaFwdIdeal.Gen.frame m ρ,
  trivial,
  Cert.Gu.algebraic,
  trivial,
  Cert.Mix.algebraic,
  trivial,
  Cert.DxBPair.algebraic,
  trivial,
  Cert.DxAPair.algebraic,
  trivial,
  Cert.PoolPair.algebraic,
  trivial,
  Cert.Ffn2BPair.algebraic,
  trivial,
  Cert.HeadPair.algebraic,
  trivial,
  Cert.MixF.algebraic,
  trivial,
  Cert.Ffn1.algebraic,
  trivial,
  Cert.DwInPair.algebraic,
  trivial,
  Cert.MixDyPair.algebraic,
  trivial,
  Cert.MixOutPair.algebraic,
  trivial,
  trivial⟩

end Cert.Proof

end
